-- ==== Defs.lean ====
def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4))).2.2.2.2 = (fun _ => 1#1)

def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdIdeal_finite_sgu [hPre_finite_sgu : Cert.Pre_finite_sgu.Facts] (m : (ℓ : Loc Cert.SguBwdIdeal.nD Cert.SguBwdIdeal.τ Cert.SguBwdIdeal.sig) → Buf (Elt Ideal) ℓ) : Prop :=
  ∀ c : Dev Cert.SguBwdIdeal.nD,
    (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)) (m ((c.tc : Thread Cert.SguBwdIdeal.nD Cert.SguBwdIdeal.τ).loc Cert.SguBwdIdeal.main_arg8))).1 = (fun _ => 1#1)
    ∧ (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)) (m ((c.tc : Thread Cert.SguBwdIdeal.nD Cert.SguBwdIdeal.τ).loc Cert.SguBwdIdeal.main_arg8))).2.1 = (fun _ => 1#1)
    ∧ (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)) (m ((c.tc : Thread Cert.SguBwdIdeal.nD Cert.SguBwdIdeal.τ).loc Cert.SguBwdIdeal.main_arg8))).2.2.1 = (fun _ => 1#1)
    ∧ (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)) (m ((c.tc : Thread Cert.SguBwdIdeal.nD Cert.SguBwdIdeal.τ).loc Cert.SguBwdIdeal.main_arg8))).2.2.2.1 = (fun _ => 1#1)
    ∧ (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)) (m ((c.tc : Thread Cert.SguBwdIdeal.nD Cert.SguBwdIdeal.τ).loc Cert.SguBwdIdeal.main_arg8))).2.2.2.2.1 = (fun _ => 1#1)
    ∧ (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)) (m ((c.tc : Thread Cert.SguBwdIdeal.nD Cert.SguBwdIdeal.τ).loc Cert.SguBwdIdeal.main_arg8))).2.2.2.2.2.1 = (fun _ => 1#1)
    ∧ (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)) (m ((c.tc : Thread Cert.SguBwdIdeal.nD Cert.SguBwdIdeal.τ).loc Cert.SguBwdIdeal.main_arg8))).2.2.2.2.2.2.1 = (fun _ => 1#1)
    ∧ (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)) (m ((c.tc : Thread Cert.SguBwdIdeal.nD Cert.SguBwdIdeal.τ).loc Cert.SguBwdIdeal.main_arg8))).2.2.2.2.2.2.2.1 = (fun _ => 1#1)
    ∧ (Cert.Pre_finite_sgu.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6)) (m ((c.tc : Thread Cert.SguBwdIdeal.nD Cert.SguBwdIdeal.τ).loc Cert.SguBwdIdeal.main_arg7)) (m ((c.tc : Thread Cert.SguBwdIdeal.nD Cert.SguBwdIdeal.τ).loc Cert.SguBwdIdeal.main_arg8))).2.2.2.2.2.2.2.2 = (fun _ => 1#1)

def Pre_SguBwdRefIdeal (m : (ℓ : Loc Cert.SguBwdRefIdeal.nD Cert.SguBwdRefIdeal.τ Cert.SguBwdRefIdeal.sig) → Buf (Elt Ideal) ℓ) : Prop :=
  True

def Pre_SguBwdRefIdeal_finite_sgu [hPre_finite_sgu : Cert.Pre_finite_sgu.Facts] (m : (ℓ : Loc Cert.SguBwdRefIdeal.nD Cert.SguBwdRefIdeal.τ Cert.SguBwdRefIdeal.sig) → Buf (Elt Ideal) ℓ) : Prop :=
  ∀ c : Dev Cert.SguBwdRefIdeal.nD,
    (Cert.Pre_finite_sgu.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6)) (m ((c.tc : Thread Cert.SguBwdRefIdeal.nD Cert.SguBwdRefIdeal.τ).loc Cert.SguBwdRefIdeal.main_arg7)) (m ((c.tc : Thread Cert.SguBwdRefIdeal.nD Cert.SguBwdRefIdeal.τ).loc Cert.SguBwdRefIdeal.main_arg8))).1 = (fun _ => 1#1)
    ∧ (Cert.Pre_finite_sgu.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6)) (m ((c.tc : Thread Cert.SguBwdRefIdeal.nD Cert.SguBwdRefIdeal.τ).loc Cert.SguBwdRefIdeal.main_arg7)) (m ((c.tc : Thread Cert.SguBwdRefIdeal.nD Cert.SguBwdRefIdeal.τ).loc Cert.SguBwdRefIdeal.main_arg8))).2.1 = (fun _ => 1#1)
    ∧ (Cert.Pre_finite_sgu.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6)) (m ((c.tc : Thread Cert.SguBwdRefIdeal.nD Cert.SguBwdRefIdeal.τ).loc Cert.SguBwdRefIdeal.main_arg7)) (m ((c.tc : Thread Cert.SguBwdRefIdeal.nD Cert.SguBwdRefIdeal.τ).loc Cert.SguBwdRefIdeal.main_arg8))).2.2.1 = (fun _ => 1#1)
    ∧ (Cert.Pre_finite_sgu.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6)) (m ((c.tc : Thread Cert.SguBwdRefIdeal.nD Cert.SguBwdRefIdeal.τ).loc Cert.SguBwdRefIdeal.main_arg7)) (m ((c.tc : Thread Cert.SguBwdRefIdeal.nD Cert.SguBwdRefIdeal.τ).loc Cert.SguBwdRefIdeal.main_arg8))).2.2.2.1 = (fun _ => 1#1)
    ∧ (Cert.Pre_finite_sgu.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6)) (m ((c.tc : Thread Cert.SguBwdRefIdeal.nD Cert.SguBwdRefIdeal.τ).loc Cert.SguBwdRefIdeal.main_arg7)) (m ((c.tc : Thread Cert.SguBwdRefIdeal.nD Cert.SguBwdRefIdeal.τ).loc Cert.SguBwdRefIdeal.main_arg8))).2.2.2.2.1 = (fun _ => 1#1)
    ∧ (Cert.Pre_finite_sgu.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6)) (m ((c.tc : Thread Cert.SguBwdRefIdeal.nD Cert.SguBwdRefIdeal.τ).loc Cert.SguBwdRefIdeal.main_arg7)) (m ((c.tc : Thread Cert.SguBwdRefIdeal.nD Cert.SguBwdRefIdeal.τ).loc Cert.SguBwdRefIdeal.main_arg8))).2.2.2.2.2.1 = (fun _ => 1#1)
    ∧ (Cert.Pre_finite_sgu.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6)) (m ((c.tc : Thread Cert.SguBwdRefIdeal.nD Cert.SguBwdRefIdeal.τ).loc Cert.SguBwdRefIdeal.main_arg7)) (m ((c.tc : Thread Cert.SguBwdRefIdeal.nD Cert.SguBwdRefIdeal.τ).loc Cert.SguBwdRefIdeal.main_arg8))).2.2.2.2.2.2.1 = (fun _ => 1#1)
    ∧ (Cert.Pre_finite_sgu.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6)) (m ((c.tc : Thread Cert.SguBwdRefIdeal.nD Cert.SguBwdRefIdeal.τ).loc Cert.SguBwdRefIdeal.main_arg7)) (m ((c.tc : Thread Cert.SguBwdRefIdeal.nD Cert.SguBwdRefIdeal.τ).loc Cert.SguBwdRefIdeal.main_arg8))).2.2.2.2.2.2.2.1 = (fun _ => 1#1)
    ∧ (Cert.Pre_finite_sgu.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6)) (m ((c.tc : Thread Cert.SguBwdRefIdeal.nD Cert.SguBwdRefIdeal.τ).loc Cert.SguBwdRefIdeal.main_arg7)) (m ((c.tc : Thread Cert.SguBwdRefIdeal.nD Cert.SguBwdRefIdeal.τ).loc Cert.SguBwdRefIdeal.main_arg8))).2.2.2.2.2.2.2.2 = (fun _ => 1#1)

def Pre_MixInBwd (m : (ℓ : Loc Cert.MixInBwd.nD Cert.MixInBwd.τ Cert.MixInBwd.sig) → Buf (Elt Bits) ℓ) : Prop :=
  True

def Pre_MixInBwdIdeal (m : (ℓ : Loc Cert.MixInBwdIdeal.nD Cert.MixInBwdIdeal.τ Cert.MixInBwdIdeal.sig) → Buf (Elt Ideal) ℓ) : Prop :=
  True

def Pre_MixInBwdIdeal_finite_mix_in [hPre_finite_mix_in : Cert.Pre_finite_mix_in.Facts] (m : (ℓ : Loc Cert.MixInBwdIdeal.nD Cert.MixInBwdIdeal.τ Cert.MixInBwdIdeal.sig) → Buf (Elt Ideal) ℓ) : Prop :=
  ∀ c : Dev Cert.MixInBwdIdeal.nD,
    (Cert.Pre_finite_mix_in.fn (F := Ideal) (m ((c.tc : Thread Cert.MixInBwdIdeal.nD Cert.MixInBwdIdeal.τ).loc Cert.MixInBwdIdeal.main_arg0)) (m ((c.tc : Thread Cert.MixInBwdIdeal.nD Cert.MixInBwdIdeal.τ).loc Cert.MixInBwdIdeal.main_arg1)) (m ((c.tc : Thread Cert.MixInBwdIdeal.nD Cert.MixInBwdIdeal.τ).loc Cert.MixInBwdIdeal.main_arg2)) (m ((c.tc : Thread Cert.MixInBwdIdeal.nD Cert.MixInBwdIdeal.τ).loc Cert.MixInBwdIdeal.main_arg3)) (m ((c.tc : Thread Cert.MixInBwdIdeal.nD Cert.MixInBwdIdeal.τ).loc Cert.MixInBwdIdeal.main_arg4)) (m ((c.tc : Thread Cert.MixInBwdIdeal.nD Cert.MixInBwdIdeal.τ).loc Cert.MixInBwdIdeal.main_arg5)) (m ((c.tc : Thread Cert.MixInBwdIdeal.nD Cert.MixInBwdIdeal.τ).loc Cert.MixInBwdIdeal.main_arg6))).1 = (fun _ => 1#1)
    ∧ (Cert.Pre_finite_mix_in.fn (F := Ideal) (m ((c.tc : Thread Cert.MixInBwdIdeal.nD Cert.MixInBwdIdeal.τ).loc Cert.MixInBwdIdeal.main_arg0)) (m ((c.tc : Thread Cert.MixInBwdIdeal.nD Cert.MixInBwdIdeal.τ).loc Cert.MixInBwdIdeal.main_arg1)) (m ((c.tc : Thread Cert.MixInBwdIdeal.nD Cert.MixInBwdIdeal.τ).loc Cert.MixInBwdIdeal.main_arg2)) (m ((c.tc : Thread Cert.MixInBwdIdeal.nD Cert.MixInBwdIdeal.τ).loc Cert.MixInBwdIdeal.main_arg3)) (m ((c.tc : Thread Cert.MixInBwdIdeal.nD Cert.MixInBwdIdeal.τ).loc Cert.MixInBwdIdeal.main_arg4)) (m ((c.tc : Thread Cert.MixInBwdIdeal.nD Cert.MixInBwdIdeal.τ).loc Cert.MixInBwdIdeal.main_arg5)) (m ((c.tc : Thread Cert.MixInBwdIdeal.nD Cert.MixInBwdIdeal.τ).loc Cert.MixInBwdIdeal.main_arg6))).2.1 = (fun _ => 1#1)
    ∧ (Cert.Pre_finite_mix_in.fn (F := Ideal) (m ((c.tc : Thread Cert.MixInBwdIdeal.nD Cert.MixInBwdIdeal.τ).loc Cert.MixInBwdIdeal.main_arg0)) (m ((c.tc : Thread Cert.MixInBwdIdeal.nD Cert.MixInBwdIdeal.τ).loc Cert.MixInBwdIdeal.main_arg1)) (m ((c.tc : Thread Cert.MixInBwdIdeal.nD Cert.MixInBwdIdeal.τ).loc Cert.MixInBwdIdeal.main_arg2)) (m ((c.tc : Thread Cert.MixInBwdIdeal.nD Cert.MixInBwdIdeal.τ).loc Cert.MixInBwdIdeal.main_arg3)) (m ((c.tc : Thread Cert.MixInBwdIdeal.nD Cert.MixInBwdIdeal.τ).loc Cert.MixInBwdIdeal.main_arg4)) (m ((c.tc : Thread Cert.MixInBwdIdeal.nD Cert.MixInBwdIdeal.τ).loc Cert.MixInBwdIdeal.main_arg5)) (m ((c.tc : Thread Cert.MixInBwdIdeal.nD Cert.MixInBwdIdeal.τ).loc Cert.MixInBwdIdeal.main_arg6))).2.2.1 = (fun _ => 1#1)
    ∧ (Cert.Pre_finite_mix_in.fn (F := Ideal) (m ((c.tc : Thread Cert.MixInBwdIdeal.nD Cert.MixInBwdIdeal.τ).loc Cert.MixInBwdIdeal.main_arg0)) (m ((c.tc : Thread Cert.MixInBwdIdeal.nD Cert.MixInBwdIdeal.τ).loc Cert.MixInBwdIdeal.main_arg1)) (m ((c.tc : Thread Cert.MixInBwdIdeal.nD Cert.MixInBwdIdeal.τ).loc Cert.MixInBwdIdeal.main_arg2)) (m ((c.tc : Thread Cert.MixInBwdIdeal.nD Cert.MixInBwdIdeal.τ).loc Cert.MixInBwdIdeal.main_arg3)) (m ((c.tc : Thread Cert.MixInBwdIdeal.nD Cert.MixInBwdIdeal.τ).loc Cert.MixInBwdIdeal.main_arg4)) (m ((c.tc : Thread Cert.MixInBwdIdeal.nD Cert.MixInBwdIdeal.τ).loc Cert.MixInBwdIdeal.main_arg5)) (m ((c.tc : Thread Cert.MixInBwdIdeal.nD Cert.MixInBwdIdeal.τ).loc Cert.MixInBwdIdeal.main_arg6))).2.2.2.1 = (fun _ => 1#1)
    ∧ (Cert.Pre_finite_mix_in.fn (F := Ideal) (m ((c.tc : Thread Cert.MixInBwdIdeal.nD Cert.MixInBwdIdeal.τ).loc Cert.MixInBwdIdeal.main_arg0)) (m ((c.tc : Thread Cert.MixInBwdIdeal.nD Cert.MixInBwdIdeal.τ).loc Cert.MixInBwdIdeal.main_arg1)) (m ((c.tc : Thread Cert.MixInBwdIdeal.nD Cert.MixInBwdIdeal.τ).loc Cert.MixInBwdIdeal.main_arg2)) (m ((c.tc : Thread Cert.MixInBwdIdeal.nD Cert.MixInBwdIdeal.τ).loc Cert.MixInBwdIdeal.main_arg3)) (m ((c.tc : Thread Cert.MixInBwdIdeal.nD Cert.MixInBwdIdeal.τ).loc Cert.MixInBwdIdeal.main_arg4)) (m ((c.tc : Thread Cert.MixInBwdIdeal.nD Cert.MixInBwdIdeal.τ).loc Cert.MixInBwdIdeal.main_arg5)) (m ((c.tc : Thread Cert.MixInBwdIdeal.nD Cert.MixInBwdIdeal.τ).loc Cert.MixInBwdIdeal.main_arg6))).2.2.2.2.1 = (fun _ => 1#1)
    ∧ (Cert.Pre_finite_mix_in.fn (F := Ideal) (m ((c.tc : Thread Cert.MixInBwdIdeal.nD Cert.MixInBwdIdeal.τ).loc Cert.MixInBwdIdeal.main_arg0)) (m ((c.tc : Thread Cert.MixInBwdIdeal.nD Cert.MixInBwdIdeal.τ).loc Cert.MixInBwdIdeal.main_arg1)) (m ((c.tc : Thread Cert.MixInBwdIdeal.nD Cert.MixInBwdIdeal.τ).loc Cert.MixInBwdIdeal.main_arg2)) (m ((c.tc : Thread Cert.MixInBwdIdeal.nD Cert.MixInBwdIdeal.τ).loc Cert.MixInBwdIdeal.main_arg3)) (m ((c.tc : Thread Cert.MixInBwdIdeal.nD Cert.MixInBwdIdeal.τ).loc Cert.MixInBwdIdeal.main_arg4)) (m ((c.tc : Thread Cert.MixInBwdIdeal.nD Cert.MixInBwdIdeal.τ).loc Cert.MixInBwdIdeal.main_arg5)) (m ((c.tc : Thread Cert.MixInBwdIdeal.nD Cert.MixInBwdIdeal.τ).loc Cert.MixInBwdIdeal.main_arg6))).2.2.2.2.2.1 = (fun _ => 1#1)
    ∧ (Cert.Pre_finite_mix_in.fn (F := Ideal) (m ((c.tc : Thread Cert.MixInBwdIdeal.nD Cert.MixInBwdIdeal.τ).loc Cert.MixInBwdIdeal.main_arg0)) (m ((c.tc : Thread Cert.MixInBwdIdeal.nD Cert.MixInBwdIdeal.τ).loc Cert.MixInBwdIdeal.main_arg1)) (m ((c.tc : Thread Cert.MixInBwdIdeal.nD Cert.MixInBwdIdeal.τ).loc Cert.MixInBwdIdeal.main_arg2)) (m ((c.tc : Thread Cert.MixInBwdIdeal.nD Cert.MixInBwdIdeal.τ).loc Cert.MixInBwdIdeal.main_arg3)) (m ((c.tc : Thread Cert.MixInBwdIdeal.nD Cert.MixInBwdIdeal.τ).loc Cert.MixInBwdIdeal.main_arg4)) (m ((c.tc : Thread Cert.MixInBwdIdeal.nD Cert.MixInBwdIdeal.τ).loc Cert.MixInBwdIdeal.main_arg5)) (m ((c.tc : Thread Cert.MixInBwdIdeal.nD Cert.MixInBwdIdeal.τ).loc Cert.MixInBwdIdeal.main_arg6))).2.2.2.2.2.2 = (fun _ => 1#1)

def Pre_MixInBwdRefIdeal (m : (ℓ : Loc Cert.MixInBwdRefIdeal.nD Cert.MixInBwdRefIdeal.τ Cert.MixInBwdRefIdeal.sig) → Buf (Elt Ideal) ℓ) : Prop :=
  True

def Pre_MixInBwdRefIdeal_finite_mix_in [hPre_finite_mix_in : Cert.Pre_finite_mix_in.Facts] (m : (ℓ : Loc Cert.MixInBwdRefIdeal.nD Cert.MixInBwdRefIdeal.τ Cert.MixInBwdRefIdeal.sig) → Buf (Elt Ideal) ℓ) : Prop :=
  ∀ c : Dev Cert.MixInBwdRefIdeal.nD,
    (Cert.Pre_finite_mix_in.fn (F := Ideal) (m ((c.tc : Thread Cert.MixInBwdRefIdeal.nD Cert.MixInBwdRefIdeal.τ).loc Cert.MixInBwdRefIdeal.main_arg0)) (m ((c.tc : Thread Cert.MixInBwdRefIdeal.nD Cert.MixInBwdRefIdeal.τ).loc Cert.MixInBwdRefIdeal.main_arg1)) (m ((c.tc : Thread Cert.MixInBwdRefIdeal.nD Cert.MixInBwdRefIdeal.τ).loc Cert.MixInBwdRefIdeal.main_arg2)) (m ((c.tc : Thread Cert.MixInBwdRefIdeal.nD Cert.MixInBwdRefIdeal.τ).loc Cert.MixInBwdRefIdeal.main_arg3)) (m ((c.tc : Thread Cert.MixInBwdRefIdeal.nD Cert.MixInBwdRefIdeal.τ).loc Cert.MixInBwdRefIdeal.main_arg4)) (m ((c.tc : Thread Cert.MixInBwdRefIdeal.nD Cert.MixInBwdRefIdeal.τ).loc Cert.MixInBwdRefIdeal.main_arg5)) (m ((c.tc : Thread Cert.MixInBwdRefIdeal.nD Cert.MixInBwdRefIdeal.τ).loc Cert.MixInBwdRefIdeal.main_arg6))).1 = (fun _ => 1#1)
    ∧ (Cert.Pre_finite_mix_in.fn (F := Ideal) (m ((c.tc : Thread Cert.MixInBwdRefIdeal.nD Cert.MixInBwdRefIdeal.τ).loc Cert.MixInBwdRefIdeal.main_arg0)) (m ((c.tc : Thread Cert.MixInBwdRefIdeal.nD Cert.MixInBwdRefIdeal.τ).loc Cert.MixInBwdRefIdeal.main_arg1)) (m ((c.tc : Thread Cert.MixInBwdRefIdeal.nD Cert.MixInBwdRefIdeal.τ).loc Cert.MixInBwdRefIdeal.main_arg2)) (m ((c.tc : Thread Cert.MixInBwdRefIdeal.nD Cert.MixInBwdRefIdeal.τ).loc Cert.MixInBwdRefIdeal.main_arg3)) (m ((c.tc : Thread Cert.MixInBwdRefIdeal.nD Cert.MixInBwdRefIdeal.τ).loc Cert.MixInBwdRefIdeal.main_arg4)) (m ((c.tc : Thread Cert.MixInBwdRefIdeal.nD Cert.MixInBwdRefIdeal.τ).loc Cert.MixInBwdRefIdeal.main_arg5)) (m ((c.tc : Thread Cert.MixInBwdRefIdeal.nD Cert.MixInBwdRefIdeal.τ).loc Cert.MixInBwdRefIdeal.main_arg6))).2.1 = (fun _ => 1#1)
    ∧ (Cert.Pre_finite_mix_in.fn (F := Ideal) (m ((c.tc : Thread Cert.MixInBwdRefIdeal.nD Cert.MixInBwdRefIdeal.τ).loc Cert.MixInBwdRefIdeal.main_arg0)) (m ((c.tc : Thread Cert.MixInBwdRefIdeal.nD Cert.MixInBwdRefIdeal.τ).loc Cert.MixInBwdRefIdeal.main_arg1)) (m ((c.tc : Thread Cert.MixInBwdRefIdeal.nD Cert.MixInBwdRefIdeal.τ).loc Cert.MixInBwdRefIdeal.main_arg2)) (m ((c.tc : Thread Cert.MixInBwdRefIdeal.nD Cert.MixInBwdRefIdeal.τ).loc Cert.MixInBwdRefIdeal.main_arg3)) (m ((c.tc : Thread Cert.MixInBwdRefIdeal.nD Cert.MixInBwdRefIdeal.τ).loc Cert.MixInBwdRefIdeal.main_arg4)) (m ((c.tc : Thread Cert.MixInBwdRefIdeal.nD Cert.MixInBwdRefIdeal.τ).loc Cert.MixInBwdRefIdeal.main_arg5)) (m ((c.tc : Thread Cert.MixInBwdRefIdeal.nD Cert.MixInBwdRefIdeal.τ).loc Cert.MixInBwdRefIdeal.main_arg6))).2.2.1 = (fun _ => 1#1)
    ∧ (Cert.Pre_finite_mix_in.fn (F := Ideal) (m ((c.tc : Thread Cert.MixInBwdRefIdeal.nD Cert.MixInBwdRefIdeal.τ).loc Cert.MixInBwdRefIdeal.main_arg0)) (m ((c.tc : Thread Cert.MixInBwdRefIdeal.nD Cert.MixInBwdRefIdeal.τ).loc Cert.MixInBwdRefIdeal.main_arg1)) (m ((c.tc : Thread Cert.MixInBwdRefIdeal.nD Cert.MixInBwdRefIdeal.τ).loc Cert.MixInBwdRefIdeal.main_arg2)) (m ((c.tc : Thread Cert.MixInBwdRefIdeal.nD Cert.MixInBwdRefIdeal.τ).loc Cert.MixInBwdRefIdeal.main_arg3)) (m ((c.tc : Thread Cert.MixInBwdRefIdeal.nD Cert.MixInBwdRefIdeal.τ).loc Cert.MixInBwdRefIdeal.main_arg4)) (m ((c.tc : Thread Cert.MixInBwdRefIdeal.nD Cert.MixInBwdRefIdeal.τ).loc Cert.MixInBwdRefIdeal.main_arg5)) (m ((c.tc : Thread Cert.MixInBwdRefIdeal.nD Cert.MixInBwdRefIdeal.τ).loc Cert.MixInBwdRefIdeal.main_arg6))).2.2.2.1 = (fun _ => 1#1)
    ∧ (Cert.Pre_finite_mix_in.fn (F := Ideal) (m ((c.tc : Thread Cert.MixInBwdRefIdeal.nD Cert.MixInBwdRefIdeal.τ).loc Cert.MixInBwdRefIdeal.main_arg0)) (m ((c.tc : Thread Cert.MixInBwdRefIdeal.nD Cert.MixInBwdRefIdeal.τ).loc Cert.MixInBwdRefIdeal.main_arg1)) (m ((c.tc : Thread Cert.MixInBwdRefIdeal.nD Cert.MixInBwdRefIdeal.τ).loc Cert.MixInBwdRefIdeal.main_arg2)) (m ((c.tc : Thread Cert.MixInBwdRefIdeal.nD Cert.MixInBwdRefIdeal.τ).loc Cert.MixInBwdRefIdeal.main_arg3)) (m ((c.tc : Thread Cert.MixInBwdRefIdeal.nD Cert.MixInBwdRefIdeal.τ).loc Cert.MixInBwdRefIdeal.main_arg4)) (m ((c.tc : Thread Cert.MixInBwdRefIdeal.nD Cert.MixInBwdRefIdeal.τ).loc Cert.MixInBwdRefIdeal.main_arg5)) (m ((c.tc : Thread Cert.MixInBwdRefIdeal.nD Cert.MixInBwdRefIdeal.τ).loc Cert.MixInBwdRefIdeal.main_arg6))).2.2.2.2.1 = (fun _ => 1#1)
    ∧ (Cert.Pre_finite_mix_in.fn (F := Ideal) (m ((c.tc : Thread Cert.MixInBwdRefIdeal.nD Cert.MixInBwdRefIdeal.τ).loc Cert.MixInBwdRefIdeal.main_arg0)) (m ((c.tc : Thread Cert.MixInBwdRefIdeal.nD Cert.MixInBwdRefIdeal.τ).loc Cert.MixInBwdRefIdeal.main_arg1)) (m ((c.tc : Thread Cert.MixInBwdRefIdeal.nD Cert.MixInBwdRefIdeal.τ).loc Cert.MixInBwdRefIdeal.main_arg2)) (m ((c.tc : Thread Cert.MixInBwdRefIdeal.nD Cert.MixInBwdRefIdeal.τ).loc Cert.MixInBwdRefIdeal.main_arg3)) (m ((c.tc : Thread Cert.MixInBwdRefIdeal.nD Cert.MixInBwdRefIdeal.τ).loc Cert.MixInBwdRefIdeal.main_arg4)) (m ((c.tc : Thread Cert.MixInBwdRefIdeal.nD Cert.MixInBwdRefIdeal.τ).loc Cert.MixInBwdRefIdeal.main_arg5)) (m ((c.tc : Thread Cert.MixInBwdRefIdeal.nD Cert.MixInBwdRefIdeal.τ).loc Cert.MixInBwdRefIdeal.main_arg6))).2.2.2.2.2.1 = (fun _ => 1#1)
    ∧ (Cert.Pre_finite_mix_in.fn (F := Ideal) (m ((c.tc : Thread Cert.MixInBwdRefIdeal.nD Cert.MixInBwdRefIdeal.τ).loc Cert.MixInBwdRefIdeal.main_arg0)) (m ((c.tc : Thread Cert.MixInBwdRefIdeal.nD Cert.MixInBwdRefIdeal.τ).loc Cert.MixInBwdRefIdeal.main_arg1)) (m ((c.tc : Thread Cert.MixInBwdRefIdeal.nD Cert.MixInBwdRefIdeal.τ).loc Cert.MixInBwdRefIdeal.main_arg2)) (m ((c.tc : Thread Cert.MixInBwdRefIdeal.nD Cert.MixInBwdRefIdeal.τ).loc Cert.MixInBwdRefIdeal.main_arg3)) (m ((c.tc : Thread Cert.MixInBwdRefIdeal.nD Cert.MixInBwdRefIdeal.τ).loc Cert.MixInBwdRefIdeal.main_arg4)) (m ((c.tc : Thread Cert.MixInBwdRefIdeal.nD Cert.MixInBwdRefIdeal.τ).loc Cert.MixInBwdRefIdeal.main_arg5)) (m ((c.tc : Thread Cert.MixInBwdRefIdeal.nD Cert.MixInBwdRefIdeal.τ).loc Cert.MixInBwdRefIdeal.main_arg6))).2.2.2.2.2.2 = (fun _ => 1#1)

def Pre_MixOutBwd (m : (ℓ : Loc Cert.MixOutBwd.nD Cert.MixOutBwd.τ Cert.MixOutBwd.sig) → Buf (Elt Bits) ℓ) : Prop :=
  True

def Pre_MixOutBwdIdeal (m : (ℓ : Loc Cert.MixOutBwdIdeal.nD Cert.MixOutBwdIdeal.τ Cert.MixOutBwdIdeal.sig) → Buf (Elt Ideal) ℓ) : Prop :=
  True

def Pre_MixOutBwdIdeal_finite_mix_out [hPre_finite_mix_out : Cert.Pre_finite_mix_out.Facts] (m : (ℓ : Loc Cert.MixOutBwdIdeal.nD Cert.MixOutBwdIdeal.τ Cert.MixOutBwdIdeal.sig) → Buf (Elt Ideal) ℓ) : Prop :=
  ∀ c : Dev Cert.MixOutBwdIdeal.nD,
    (Cert.Pre_finite_mix_out.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6)) (m ((c.tc : Thread Cert.MixOutBwdIdeal.nD Cert.MixOutBwdIdeal.τ).loc Cert.MixOutBwdIdeal.main_arg7)) (m ((c.tc : Thread Cert.MixOutBwdIdeal.nD Cert.MixOutBwdIdeal.τ).loc Cert.MixOutBwdIdeal.main_arg8)) (m ((c.tc : Thread Cert.MixOutBwdIdeal.nD Cert.MixOutBwdIdeal.τ).loc Cert.MixOutBwdIdeal.main_arg9)) (m ((c.tc : Thread Cert.MixOutBwdIdeal.nD Cert.MixOutBwdIdeal.τ).loc Cert.MixOutBwdIdeal.main_arg10)) (m ((c.tc : Thread Cert.MixOutBwdIdeal.nD Cert.MixOutBwdIdeal.τ).loc Cert.MixOutBwdIdeal.main_arg11))).1 = (fun _ => 1#1)
    ∧ (Cert.Pre_finite_mix_out.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6)) (m ((c.tc : Thread Cert.MixOutBwdIdeal.nD Cert.MixOutBwdIdeal.τ).loc Cert.MixOutBwdIdeal.main_arg7)) (m ((c.tc : Thread Cert.MixOutBwdIdeal.nD Cert.MixOutBwdIdeal.τ).loc Cert.MixOutBwdIdeal.main_arg8)) (m ((c.tc : Thread Cert.MixOutBwdIdeal.nD Cert.MixOutBwdIdeal.τ).loc Cert.MixOutBwdIdeal.main_arg9)) (m ((c.tc : Thread Cert.MixOutBwdIdeal.nD Cert.MixOutBwdIdeal.τ).loc Cert.MixOutBwdIdeal.main_arg10)) (m ((c.tc : Thread Cert.MixOutBwdIdeal.nD Cert.MixOutBwdIdeal.τ).loc Cert.MixOutBwdIdeal.main_arg11))).2.1 = (fun _ => 1#1)
    ∧ (Cert.Pre_finite_mix_out.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6)) (m ((c.tc : Thread Cert.MixOutBwdIdeal.nD Cert.MixOutBwdIdeal.τ).loc Cert.MixOutBwdIdeal.main_arg7)) (m ((c.tc : Thread Cert.MixOutBwdIdeal.nD Cert.MixOutBwdIdeal.τ).loc Cert.MixOutBwdIdeal.main_arg8)) (m ((c.tc : Thread Cert.MixOutBwdIdeal.nD Cert.MixOutBwdIdeal.τ).loc Cert.MixOutBwdIdeal.main_arg9)) (m ((c.tc : Thread Cert.MixOutBwdIdeal.nD Cert.MixOutBwdIdeal.τ).loc Cert.MixOutBwdIdeal.main_arg10)) (m ((c.tc : Thread Cert.MixOutBwdIdeal.nD Cert.MixOutBwdIdeal.τ).loc Cert.MixOutBwdIdeal.main_arg11))).2.2.1 = (fun _ => 1#1)
    ∧ (Cert.Pre_finite_mix_out.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6)) (m ((c.tc : Thread Cert.MixOutBwdIdeal.nD Cert.MixOutBwdIdeal.τ).loc Cert.MixOutBwdIdeal.main_arg7)) (m ((c.tc : Thread Cert.MixOutBwdIdeal.nD Cert.MixOutBwdIdeal.τ).loc Cert.MixOutBwdIdeal.main_arg8)) (m ((c.tc : Thread Cert.MixOutBwdIdeal.nD Cert.MixOutBwdIdeal.τ).loc Cert.MixOutBwdIdeal.main_arg9)) (m ((c.tc : Thread Cert.MixOutBwdIdeal.nD Cert.MixOutBwdIdeal.τ).loc Cert.MixOutBwdIdeal.main_arg10)) (m ((c.tc : Thread Cert.MixOutBwdIdeal.nD Cert.MixOutBwdIdeal.τ).loc Cert.MixOutBwdIdeal.main_arg11))).2.2.2.1 = (fun _ => 1#1)
    ∧ (Cert.Pre_finite_mix_out.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6)) (m ((c.tc : Thread Cert.MixOutBwdIdeal.nD Cert.MixOutBwdIdeal.τ).loc Cert.MixOutBwdIdeal.main_arg7)) (m ((c.tc : Thread Cert.MixOutBwdIdeal.nD Cert.MixOutBwdIdeal.τ).loc Cert.MixOutBwdIdeal.main_arg8)) (m ((c.tc : Thread Cert.MixOutBwdIdeal.nD Cert.MixOutBwdIdeal.τ).loc Cert.MixOutBwdIdeal.main_arg9)) (m ((c.tc : Thread Cert.MixOutBwdIdeal.nD Cert.MixOutBwdIdeal.τ).loc Cert.MixOutBwdIdeal.main_arg10)) (m ((c.tc : Thread Cert.MixOutBwdIdeal.nD Cert.MixOutBwdIdeal.τ).loc Cert.MixOutBwdIdeal.main_arg11))).2.2.2.2.1 = (fun _ => 1#1)
    ∧ (Cert.Pre_finite_mix_out.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6)) (m ((c.tc : Thread Cert.MixOutBwdIdeal.nD Cert.MixOutBwdIdeal.τ).loc Cert.MixOutBwdIdeal.main_arg7)) (m ((c.tc : Thread Cert.MixOutBwdIdeal.nD Cert.MixOutBwdIdeal.τ).loc Cert.MixOutBwdIdeal.main_arg8)) (m ((c.tc : Thread Cert.MixOutBwdIdeal.nD Cert.MixOutBwdIdeal.τ).loc Cert.MixOutBwdIdeal.main_arg9)) (m ((c.tc : Thread Cert.MixOutBwdIdeal.nD Cert.MixOutBwdIdeal.τ).loc Cert.MixOutBwdIdeal.main_arg10)) (m ((c.tc : Thread Cert.MixOutBwdIdeal.nD Cert.MixOutBwdIdeal.τ).loc Cert.MixOutBwdIdeal.main_arg11))).2.2.2.2.2.1 = (fun _ => 1#1)
    ∧ (Cert.Pre_finite_mix_out.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6)) (m ((c.tc : Thread Cert.MixOutBwdIdeal.nD Cert.MixOutBwdIdeal.τ).loc Cert.MixOutBwdIdeal.main_arg7)) (m ((c.tc : Thread Cert.MixOutBwdIdeal.nD Cert.MixOutBwdIdeal.τ).loc Cert.MixOutBwdIdeal.main_arg8)) (m ((c.tc : Thread Cert.MixOutBwdIdeal.nD Cert.MixOutBwdIdeal.τ).loc Cert.MixOutBwdIdeal.main_arg9)) (m ((c.tc : Thread Cert.MixOutBwdIdeal.nD Cert.MixOutBwdIdeal.τ).loc Cert.MixOutBwdIdeal.main_arg10)) (m ((c.tc : Thread Cert.MixOutBwdIdeal.nD Cert.MixOutBwdIdeal.τ).loc Cert.MixOutBwdIdeal.main_arg11))).2.2.2.2.2.2.1 = (fun _ => 1#1)
    ∧ (Cert.Pre_finite_mix_out.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6)) (m ((c.tc : Thread Cert.MixOutBwdIdeal.nD Cert.MixOutBwdIdeal.τ).loc Cert.MixOutBwdIdeal.main_arg7)) (m ((c.tc : Thread Cert.MixOutBwdIdeal.nD Cert.MixOutBwdIdeal.τ).loc Cert.MixOutBwdIdeal.main_arg8)) (m ((c.tc : Thread Cert.MixOutBwdIdeal.nD Cert.MixOutBwdIdeal.τ).loc Cert.MixOutBwdIdeal.main_arg9)) (m ((c.tc : Thread Cert.MixOutBwdIdeal.nD Cert.MixOutBwdIdeal.τ).loc Cert.MixOutBwdIdeal.main_arg10)) (m ((c.tc : Thread Cert.MixOutBwdIdeal.nD Cert.MixOutBwdIdeal.τ).loc Cert.MixOutBwdIdeal.main_arg11))).2.2.2.2.2.2.2.1 = (fun _ => 1#1)
    ∧ (Cert.Pre_finite_mix_out.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6)) (m ((c.tc : Thread Cert.MixOutBwdIdeal.nD Cert.MixOutBwdIdeal.τ).loc Cert.MixOutBwdIdeal.main_arg7)) (m ((c.tc : Thread Cert.MixOutBwdIdeal.nD Cert.MixOutBwdIdeal.τ).loc Cert.MixOutBwdIdeal.main_arg8)) (m ((c.tc : Thread Cert.MixOutBwdIdeal.nD Cert.MixOutBwdIdeal.τ).loc Cert.MixOutBwdIdeal.main_arg9)) (m ((c.tc : Thread Cert.MixOutBwdIdeal.nD Cert.MixOutBwdIdeal.τ).loc Cert.MixOutBwdIdeal.main_arg10)) (m ((c.tc : Thread Cert.MixOutBwdIdeal.nD Cert.MixOutBwdIdeal.τ).loc Cert.MixOutBwdIdeal.main_arg11))).2.2.2.2.2.2.2.2.1 = (fun _ => 1#1)
    ∧ (Cert.Pre_finite_mix_out.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6)) (m ((c.tc : Thread Cert.MixOutBwdIdeal.nD Cert.MixOutBwdIdeal.τ).loc Cert.MixOutBwdIdeal.main_arg7)) (m ((c.tc : Thread Cert.MixOutBwdIdeal.nD Cert.MixOutBwdIdeal.τ).loc Cert.MixOutBwdIdeal.main_arg8)) (m ((c.tc : Thread Cert.MixOutBwdIdeal.nD Cert.MixOutBwdIdeal.τ).loc Cert.MixOutBwdIdeal.main_arg9)) (m ((c.tc : Thread Cert.MixOutBwdIdeal.nD Cert.MixOutBwdIdeal.τ).loc Cert.MixOutBwdIdeal.main_arg10)) (m ((c.tc : Thread Cert.MixOutBwdIdeal.nD Cert.MixOutBwdIdeal.τ).loc Cert.MixOutBwdIdeal.main_arg11))).2.2.2.2.2.2.2.2.2.1 = (fun _ => 1#1)
    ∧ (Cert.Pre_finite_mix_out.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6)) (m ((c.tc : Thread Cert.MixOutBwdIdeal.nD Cert.MixOutBwdIdeal.τ).loc Cert.MixOutBwdIdeal.main_arg7)) (m ((c.tc : Thread Cert.MixOutBwdIdeal.nD Cert.MixOutBwdIdeal.τ).loc Cert.MixOutBwdIdeal.main_arg8)) (m ((c.tc : Thread Cert.MixOutBwdIdeal.nD Cert.MixOutBwdIdeal.τ).loc Cert.MixOutBwdIdeal.main_arg9)) (m ((c.tc : Thread Cert.MixOutBwdIdeal.nD Cert.MixOutBwdIdeal.τ).loc Cert.MixOutBwdIdeal.main_arg10)) (m ((c.tc : Thread Cert.MixOutBwdIdeal.nD Cert.MixOutBwdIdeal.τ).loc Cert.MixOutBwdIdeal.main_arg11))).2.2.2.2.2.2.2.2.2.2.1 = (fun _ => 1#1)
    ∧ (Cert.Pre_finite_mix_out.fn (F := Ideal) (m ((c.tc : Thread Cert.MixOutBwdIdeal.nD Cert.MixOutBwdIdeal.τ).loc Cert.MixOutBwdIdeal.main_arg0)) (m ((c.tc : Thread Cert.MixOutBwdIdeal.nD Cert.MixOutBwdIdeal.τ).loc Cert.MixOutBwdIdeal.main_arg1)) (m ((c.tc : Thread Cert.MixOutBwdIdeal.nD Cert.MixOutBwdIdeal.τ).loc Cert.MixOutBwdIdeal.main_arg2)) (m ((c.tc : Thread Cert.MixOutBwdIdeal.nD Cert.MixOutBwdIdeal.τ).loc Cert.MixOutBwdIdeal.main_arg3)) (m ((c.tc : Thread Cert.MixOutBwdIdeal.nD Cert.MixOutBwdIdeal.τ).loc Cert.MixOutBwdIdeal.main_arg4)) (m ((c.tc : Thread Cert.MixOutBwdIdeal.nD Cert.MixOutBwdIdeal.τ).loc Cert.MixOutBwdIdeal.main_arg5)) (m ((c.tc : Thread Cert.MixOutBwdIdeal.nD Cert.MixOutBwdIdeal.τ).loc Cert.MixOutBwdIdeal.main_arg6)) (m ((c.tc : Thread Cert.MixOutBwdIdeal.nD Cert.MixOutBwdIdeal.τ).loc Cert.MixOutBwdIdeal.main_arg7)) (m ((c.tc : Thread Cert.MixOutBwdIdeal.nD Cert.MixOutBwdIdeal.τ).loc Cert.MixOutBwdIdeal.main_arg8)) (m ((c.tc : Thread Cert.MixOutBwdIdeal.nD Cert.MixOutBwdIdeal.τ).loc Cert.MixOutBwdIdeal.main_arg9)) (m ((c.tc : Thread Cert.MixOutBwdIdeal.nD Cert.MixOutBwdIdeal.τ).loc Cert.MixOutBwdIdeal.main_arg10)) (m ((c.tc : Thread Cert.MixOutBwdIdeal.nD Cert.MixOutBwdIdeal.τ).loc Cert.MixOutBwdIdeal.main_arg11))).2.2.2.2.2.2.2.2.2.2.2 = (fun _ => 1#1)

def Pre_MixOutBwdRefIdeal (m : (ℓ : Loc Cert.MixOutBwdRefIdeal.nD Cert.MixOutBwdRefIdeal.τ Cert.MixOutBwdRefIdeal.sig) → Buf (Elt Ideal) ℓ) : Prop :=
  True

def Pre_MixOutBwdRefIdeal_finite_mix_out [hPre_finite_mix_out : Cert.Pre_finite_mix_out.Facts] (m : (ℓ : Loc Cert.MixOutBwdRefIdeal.nD Cert.MixOutBwdRefIdeal.τ Cert.MixOutBwdRefIdeal.sig) → Buf (Elt Ideal) ℓ) : Prop :=
  ∀ c : Dev Cert.MixOutBwdRefIdeal.nD,
    (Cert.Pre_finite_mix_out.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6)) (m ((c.tc : Thread Cert.MixOutBwdRefIdeal.nD Cert.MixOutBwdRefIdeal.τ).loc Cert.MixOutBwdRefIdeal.main_arg7)) (m ((c.tc : Thread Cert.MixOutBwdRefIdeal.nD Cert.MixOutBwdRefIdeal.τ).loc Cert.MixOutBwdRefIdeal.main_arg8)) (m ((c.tc : Thread Cert.MixOutBwdRefIdeal.nD Cert.MixOutBwdRefIdeal.τ).loc Cert.MixOutBwdRefIdeal.main_arg9)) (m ((c.tc : Thread Cert.MixOutBwdRefIdeal.nD Cert.MixOutBwdRefIdeal.τ).loc Cert.MixOutBwdRefIdeal.main_arg10)) (m ((c.tc : Thread Cert.MixOutBwdRefIdeal.nD Cert.MixOutBwdRefIdeal.τ).loc Cert.MixOutBwdRefIdeal.main_arg11))).1 = (fun _ => 1#1)
    ∧ (Cert.Pre_finite_mix_out.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6)) (m ((c.tc : Thread Cert.MixOutBwdRefIdeal.nD Cert.MixOutBwdRefIdeal.τ).loc Cert.MixOutBwdRefIdeal.main_arg7)) (m ((c.tc : Thread Cert.MixOutBwdRefIdeal.nD Cert.MixOutBwdRefIdeal.τ).loc Cert.MixOutBwdRefIdeal.main_arg8)) (m ((c.tc : Thread Cert.MixOutBwdRefIdeal.nD Cert.MixOutBwdRefIdeal.τ).loc Cert.MixOutBwdRefIdeal.main_arg9)) (m ((c.tc : Thread Cert.MixOutBwdRefIdeal.nD Cert.MixOutBwdRefIdeal.τ).loc Cert.MixOutBwdRefIdeal.main_arg10)) (m ((c.tc : Thread Cert.MixOutBwdRefIdeal.nD Cert.MixOutBwdRefIdeal.τ).loc Cert.MixOutBwdRefIdeal.main_arg11))).2.1 = (fun _ => 1#1)
    ∧ (Cert.Pre_finite_mix_out.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6)) (m ((c.tc : Thread Cert.MixOutBwdRefIdeal.nD Cert.MixOutBwdRefIdeal.τ).loc Cert.MixOutBwdRefIdeal.main_arg7)) (m ((c.tc : Thread Cert.MixOutBwdRefIdeal.nD Cert.MixOutBwdRefIdeal.τ).loc Cert.MixOutBwdRefIdeal.main_arg8)) (m ((c.tc : Thread Cert.MixOutBwdRefIdeal.nD Cert.MixOutBwdRefIdeal.τ).loc Cert.MixOutBwdRefIdeal.main_arg9)) (m ((c.tc : Thread Cert.MixOutBwdRefIdeal.nD Cert.MixOutBwdRefIdeal.τ).loc Cert.MixOutBwdRefIdeal.main_arg10)) (m ((c.tc : Thread Cert.MixOutBwdRefIdeal.nD Cert.MixOutBwdRefIdeal.τ).loc Cert.MixOutBwdRefIdeal.main_arg11))).2.2.1 = (fun _ => 1#1)
    ∧ (Cert.Pre_finite_mix_out.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6)) (m ((c.tc : Thread Cert.MixOutBwdRefIdeal.nD Cert.MixOutBwdRefIdeal.τ).loc Cert.MixOutBwdRefIdeal.main_arg7)) (m ((c.tc : Thread Cert.MixOutBwdRefIdeal.nD Cert.MixOutBwdRefIdeal.τ).loc Cert.MixOutBwdRefIdeal.main_arg8)) (m ((c.tc : Thread Cert.MixOutBwdRefIdeal.nD Cert.MixOutBwdRefIdeal.τ).loc Cert.MixOutBwdRefIdeal.main_arg9)) (m ((c.tc : Thread Cert.MixOutBwdRefIdeal.nD Cert.MixOutBwdRefIdeal.τ).loc Cert.MixOutBwdRefIdeal.main_arg10)) (m ((c.tc : Thread Cert.MixOutBwdRefIdeal.nD Cert.MixOutBwdRefIdeal.τ).loc Cert.MixOutBwdRefIdeal.main_arg11))).2.2.2.1 = (fun _ => 1#1)
    ∧ (Cert.Pre_finite_mix_out.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6)) (m ((c.tc : Thread Cert.MixOutBwdRefIdeal.nD Cert.MixOutBwdRefIdeal.τ).loc Cert.MixOutBwdRefIdeal.main_arg7)) (m ((c.tc : Thread Cert.MixOutBwdRefIdeal.nD Cert.MixOutBwdRefIdeal.τ).loc Cert.MixOutBwdRefIdeal.main_arg8)) (m ((c.tc : Thread Cert.MixOutBwdRefIdeal.nD Cert.MixOutBwdRefIdeal.τ).loc Cert.MixOutBwdRefIdeal.main_arg9)) (m ((c.tc : Thread Cert.MixOutBwdRefIdeal.nD Cert.MixOutBwdRefIdeal.τ).loc Cert.MixOutBwdRefIdeal.main_arg10)) (m ((c.tc : Thread Cert.MixOutBwdRefIdeal.nD Cert.MixOutBwdRefIdeal.τ).loc Cert.MixOutBwdRefIdeal.main_arg11))).2.2.2.2.1 = (fun _ => 1#1)
    ∧ (Cert.Pre_finite_mix_out.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6)) (m ((c.tc : Thread Cert.MixOutBwdRefIdeal.nD Cert.MixOutBwdRefIdeal.τ).loc Cert.MixOutBwdRefIdeal.main_arg7)) (m ((c.tc : Thread Cert.MixOutBwdRefIdeal.nD Cert.MixOutBwdRefIdeal.τ).loc Cert.MixOutBwdRefIdeal.main_arg8)) (m ((c.tc : Thread Cert.MixOutBwdRefIdeal.nD Cert.MixOutBwdRefIdeal.τ).loc Cert.MixOutBwdRefIdeal.main_arg9)) (m ((c.tc : Thread Cert.MixOutBwdRefIdeal.nD Cert.MixOutBwdRefIdeal.τ).loc Cert.MixOutBwdRefIdeal.main_arg10)) (m ((c.tc : Thread Cert.MixOutBwdRefIdeal.nD Cert.MixOutBwdRefIdeal.τ).loc Cert.MixOutBwdRefIdeal.main_arg11))).2.2.2.2.2.1 = (fun _ => 1#1)
    ∧ (Cert.Pre_finite_mix_out.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6)) (m ((c.tc : Thread Cert.MixOutBwdRefIdeal.nD Cert.MixOutBwdRefIdeal.τ).loc Cert.MixOutBwdRefIdeal.main_arg7)) (m ((c.tc : Thread Cert.MixOutBwdRefIdeal.nD Cert.MixOutBwdRefIdeal.τ).loc Cert.MixOutBwdRefIdeal.main_arg8)) (m ((c.tc : Thread Cert.MixOutBwdRefIdeal.nD Cert.MixOutBwdRefIdeal.τ).loc Cert.MixOutBwdRefIdeal.main_arg9)) (m ((c.tc : Thread Cert.MixOutBwdRefIdeal.nD Cert.MixOutBwdRefIdeal.τ).loc Cert.MixOutBwdRefIdeal.main_arg10)) (m ((c.tc : Thread Cert.MixOutBwdRefIdeal.nD Cert.MixOutBwdRefIdeal.τ).loc Cert.MixOutBwdRefIdeal.main_arg11))).2.2.2.2.2.2.1 = (fun _ => 1#1)
    ∧ (Cert.Pre_finite_mix_out.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6)) (m ((c.tc : Thread Cert.MixOutBwdRefIdeal.nD Cert.MixOutBwdRefIdeal.τ).loc Cert.MixOutBwdRefIdeal.main_arg7)) (m ((c.tc : Thread Cert.MixOutBwdRefIdeal.nD Cert.MixOutBwdRefIdeal.τ).loc Cert.MixOutBwdRefIdeal.main_arg8)) (m ((c.tc : Thread Cert.MixOutBwdRefIdeal.nD Cert.MixOutBwdRefIdeal.τ).loc Cert.MixOutBwdRefIdeal.main_arg9)) (m ((c.tc : Thread Cert.MixOutBwdRefIdeal.nD Cert.MixOutBwdRefIdeal.τ).loc Cert.MixOutBwdRefIdeal.main_arg10)) (m ((c.tc : Thread Cert.MixOutBwdRefIdeal.nD Cert.MixOutBwdRefIdeal.τ).loc Cert.MixOutBwdRefIdeal.main_arg11))).2.2.2.2.2.2.2.1 = (fun _ => 1#1)
    ∧ (Cert.Pre_finite_mix_out.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6)) (m ((c.tc : Thread Cert.MixOutBwdRefIdeal.nD Cert.MixOutBwdRefIdeal.τ).loc Cert.MixOutBwdRefIdeal.main_arg7)) (m ((c.tc : Thread Cert.MixOutBwdRefIdeal.nD Cert.MixOutBwdRefIdeal.τ).loc Cert.MixOutBwdRefIdeal.main_arg8)) (m ((c.tc : Thread Cert.MixOutBwdRefIdeal.nD Cert.MixOutBwdRefIdeal.τ).loc Cert.MixOutBwdRefIdeal.main_arg9)) (m ((c.tc : Thread Cert.MixOutBwdRefIdeal.nD Cert.MixOutBwdRefIdeal.τ).loc Cert.MixOutBwdRefIdeal.main_arg10)) (m ((c.tc : Thread Cert.MixOutBwdRefIdeal.nD Cert.MixOutBwdRefIdeal.τ).loc Cert.MixOutBwdRefIdeal.main_arg11))).2.2.2.2.2.2.2.2.1 = (fun _ => 1#1)
    ∧ (Cert.Pre_finite_mix_out.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6)) (m ((c.tc : Thread Cert.MixOutBwdRefIdeal.nD Cert.MixOutBwdRefIdeal.τ).loc Cert.MixOutBwdRefIdeal.main_arg7)) (m ((c.tc : Thread Cert.MixOutBwdRefIdeal.nD Cert.MixOutBwdRefIdeal.τ).loc Cert.MixOutBwdRefIdeal.main_arg8)) (m ((c.tc : Thread Cert.MixOutBwdRefIdeal.nD Cert.MixOutBwdRefIdeal.τ).loc Cert.MixOutBwdRefIdeal.main_arg9)) (m ((c.tc : Thread Cert.MixOutBwdRefIdeal.nD Cert.MixOutBwdRefIdeal.τ).loc Cert.MixOutBwdRefIdeal.main_arg10)) (m ((c.tc : Thread Cert.MixOutBwdRefIdeal.nD Cert.MixOutBwdRefIdeal.τ).loc Cert.MixOutBwdRefIdeal.main_arg11))).2.2.2.2.2.2.2.2.2.1 = (fun _ => 1#1)
    ∧ (Cert.Pre_finite_mix_out.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6)) (m ((c.tc : Thread Cert.MixOutBwdRefIdeal.nD Cert.MixOutBwdRefIdeal.τ).loc Cert.MixOutBwdRefIdeal.main_arg7)) (m ((c.tc : Thread Cert.MixOutBwdRefIdeal.nD Cert.MixOutBwdRefIdeal.τ).loc Cert.MixOutBwdRefIdeal.main_arg8)) (m ((c.tc : Thread Cert.MixOutBwdRefIdeal.nD Cert.MixOutBwdRefIdeal.τ).loc Cert.MixOutBwdRefIdeal.main_arg9)) (m ((c.tc : Thread Cert.MixOutBwdRefIdeal.nD Cert.MixOutBwdRefIdeal.τ).loc Cert.MixOutBwdRefIdeal.main_arg10)) (m ((c.tc : Thread Cert.MixOutBwdRefIdeal.nD Cert.MixOutBwdRefIdeal.τ).loc Cert.MixOutBwdRefIdeal.main_arg11))).2.2.2.2.2.2.2.2.2.2.1 = (fun _ => 1#1)
    ∧ (Cert.Pre_finite_mix_out.fn (F := Ideal) (m ((c.tc : Thread Cert.MixOutBwdRefIdeal.nD Cert.MixOutBwdRefIdeal.τ).loc Cert.MixOutBwdRefIdeal.main_arg0)) (m ((c.tc : Thread Cert.MixOutBwdRefIdeal.nD Cert.MixOutBwdRefIdeal.τ).loc Cert.MixOutBwdRefIdeal.main_arg1)) (m ((c.tc : Thread Cert.MixOutBwdRefIdeal.nD Cert.MixOutBwdRefIdeal.τ).loc Cert.MixOutBwdRefIdeal.main_arg2)) (m ((c.tc : Thread Cert.MixOutBwdRefIdeal.nD Cert.MixOutBwdRefIdeal.τ).loc Cert.MixOutBwdRefIdeal.main_arg3)) (m ((c.tc : Thread Cert.MixOutBwdRefIdeal.nD Cert.MixOutBwdRefIdeal.τ).loc Cert.MixOutBwdRefIdeal.main_arg4)) (m ((c.tc : Thread Cert.MixOutBwdRefIdeal.nD Cert.MixOutBwdRefIdeal.τ).loc Cert.MixOutBwdRefIdeal.main_arg5)) (m ((c.tc : Thread Cert.MixOutBwdRefIdeal.nD Cert.MixOutBwdRefIdeal.τ).loc Cert.MixOutBwdRefIdeal.main_arg6)) (m ((c.tc : Thread Cert.MixOutBwdRefIdeal.nD Cert.MixOutBwdRefIdeal.τ).loc Cert.MixOutBwdRefIdeal.main_arg7)) (m ((c.tc : Thread Cert.MixOutBwdRefIdeal.nD Cert.MixOutBwdRefIdeal.τ).loc Cert.MixOutBwdRefIdeal.main_arg8)) (m ((c.tc : Thread Cert.MixOutBwdRefIdeal.nD Cert.MixOutBwdRefIdeal.τ).loc Cert.MixOutBwdRefIdeal.main_arg9)) (m ((c.tc : Thread Cert.MixOutBwdRefIdeal.nD Cert.MixOutBwdRefIdeal.τ).loc Cert.MixOutBwdRefIdeal.main_arg10)) (m ((c.tc : Thread Cert.MixOutBwdRefIdeal.nD Cert.MixOutBwdRefIdeal.τ).loc Cert.MixOutBwdRefIdeal.main_arg11))).2.2.2.2.2.2.2.2.2.2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss [hPre_finite_loss : Cert.Pre_finite_loss.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5))).1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5))).2.1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5))).2.2.1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5))).2.2.2.1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5))).2.2.2.2.1 = (fun _ => 1#1)
    ∧ (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5))).2.2.2.2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_finite_loss [hPre_finite_loss : Cert.Pre_finite_loss.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))).1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))).2.1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))).2.2.1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))).2.2.2.1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))).2.2.2.2.1 = (fun _ => 1#1)
    ∧ (Cert.Pre_finite_loss.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4)) (m ((c.tc : Thread Cert.LossHeadRefIdeal.nD Cert.LossHeadRefIdeal.τ).loc Cert.LossHeadRefIdeal.main_arg5))).2.2.2.2.2 = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdIdeal_finite_sgu_fwd [hPre_finite_sgu_fwd : Cert.Pre_finite_sgu_fwd.Facts] (m : (ℓ : Loc Cert.SguFwdIdeal.nD Cert.SguFwdIdeal.τ Cert.SguFwdIdeal.sig) → Buf (Elt Ideal) ℓ) : Prop :=
  ∀ c : Dev Cert.SguFwdIdeal.nD,
    (Cert.Pre_finite_sgu_fwd.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3)) (m ((c.tc : Thread Cert.SguFwdIdeal.nD Cert.SguFwdIdeal.τ).loc Cert.SguFwdIdeal.main_arg4)) (m ((c.tc : Thread Cert.SguFwdIdeal.nD Cert.SguFwdIdeal.τ).loc Cert.SguFwdIdeal.main_arg5)) (m ((c.tc : Thread Cert.SguFwdIdeal.nD Cert.SguFwdIdeal.τ).loc Cert.SguFwdIdeal.main_arg6)) (m ((c.tc : Thread Cert.SguFwdIdeal.nD Cert.SguFwdIdeal.τ).loc Cert.SguFwdIdeal.main_arg7))).1 = (fun _ => 1#1)
    ∧ (Cert.Pre_finite_sgu_fwd.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3)) (m ((c.tc : Thread Cert.SguFwdIdeal.nD Cert.SguFwdIdeal.τ).loc Cert.SguFwdIdeal.main_arg4)) (m ((c.tc : Thread Cert.SguFwdIdeal.nD Cert.SguFwdIdeal.τ).loc Cert.SguFwdIdeal.main_arg5)) (m ((c.tc : Thread Cert.SguFwdIdeal.nD Cert.SguFwdIdeal.τ).loc Cert.SguFwdIdeal.main_arg6)) (m ((c.tc : Thread Cert.SguFwdIdeal.nD Cert.SguFwdIdeal.τ).loc Cert.SguFwdIdeal.main_arg7))).2.1 = (fun _ => 1#1)
    ∧ (Cert.Pre_finite_sgu_fwd.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3)) (m ((c.tc : Thread Cert.SguFwdIdeal.nD Cert.SguFwdIdeal.τ).loc Cert.SguFwdIdeal.main_arg4)) (m ((c.tc : Thread Cert.SguFwdIdeal.nD Cert.SguFwdIdeal.τ).loc Cert.SguFwdIdeal.main_arg5)) (m ((c.tc : Thread Cert.SguFwdIdeal.nD Cert.SguFwdIdeal.τ).loc Cert.SguFwdIdeal.main_arg6)) (m ((c.tc : Thread Cert.SguFwdIdeal.nD Cert.SguFwdIdeal.τ).loc Cert.SguFwdIdeal.main_arg7))).2.2.1 = (fun _ => 1#1)
    ∧ (Cert.Pre_finite_sgu_fwd.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3)) (m ((c.tc : Thread Cert.SguFwdIdeal.nD Cert.SguFwdIdeal.τ).loc Cert.SguFwdIdeal.main_arg4)) (m ((c.tc : Thread Cert.SguFwdIdeal.nD Cert.SguFwdIdeal.τ).loc Cert.SguFwdIdeal.main_arg5)) (m ((c.tc : Thread Cert.SguFwdIdeal.nD Cert.SguFwdIdeal.τ).loc Cert.SguFwdIdeal.main_arg6)) (m ((c.tc : Thread Cert.SguFwdIdeal.nD Cert.SguFwdIdeal.τ).loc Cert.SguFwdIdeal.main_arg7))).2.2.2.1 = (fun _ => 1#1)
    ∧ (Cert.Pre_finite_sgu_fwd.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3)) (m ((c.tc : Thread Cert.SguFwdIdeal.nD Cert.SguFwdIdeal.τ).loc Cert.SguFwdIdeal.main_arg4)) (m ((c.tc : Thread Cert.SguFwdIdeal.nD Cert.SguFwdIdeal.τ).loc Cert.SguFwdIdeal.main_arg5)) (m ((c.tc : Thread Cert.SguFwdIdeal.nD Cert.SguFwdIdeal.τ).loc Cert.SguFwdIdeal.main_arg6)) (m ((c.tc : Thread Cert.SguFwdIdeal.nD Cert.SguFwdIdeal.τ).loc Cert.SguFwdIdeal.main_arg7))).2.2.2.2.1 = (fun _ => 1#1)
    ∧ (Cert.Pre_finite_sgu_fwd.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3)) (m ((c.tc : Thread Cert.SguFwdIdeal.nD Cert.SguFwdIdeal.τ).loc Cert.SguFwdIdeal.main_arg4)) (m ((c.tc : Thread Cert.SguFwdIdeal.nD Cert.SguFwdIdeal.τ).loc Cert.SguFwdIdeal.main_arg5)) (m ((c.tc : Thread Cert.SguFwdIdeal.nD Cert.SguFwdIdeal.τ).loc Cert.SguFwdIdeal.main_arg6)) (m ((c.tc : Thread Cert.SguFwdIdeal.nD Cert.SguFwdIdeal.τ).loc Cert.SguFwdIdeal.main_arg7))).2.2.2.2.2.1 = (fun _ => 1#1)
    ∧ (Cert.Pre_finite_sgu_fwd.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3)) (m ((c.tc : Thread Cert.SguFwdIdeal.nD Cert.SguFwdIdeal.τ).loc Cert.SguFwdIdeal.main_arg4)) (m ((c.tc : Thread Cert.SguFwdIdeal.nD Cert.SguFwdIdeal.τ).loc Cert.SguFwdIdeal.main_arg5)) (m ((c.tc : Thread Cert.SguFwdIdeal.nD Cert.SguFwdIdeal.τ).loc Cert.SguFwdIdeal.main_arg6)) (m ((c.tc : Thread Cert.SguFwdIdeal.nD Cert.SguFwdIdeal.τ).loc Cert.SguFwdIdeal.main_arg7))).2.2.2.2.2.2.1 = (fun _ => 1#1)
    ∧ (Cert.Pre_finite_sgu_fwd.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3)) (m ((c.tc : Thread Cert.SguFwdIdeal.nD Cert.SguFwdIdeal.τ).loc Cert.SguFwdIdeal.main_arg4)) (m ((c.tc : Thread Cert.SguFwdIdeal.nD Cert.SguFwdIdeal.τ).loc Cert.SguFwdIdeal.main_arg5)) (m ((c.tc : Thread Cert.SguFwdIdeal.nD Cert.SguFwdIdeal.τ).loc Cert.SguFwdIdeal.main_arg6)) (m ((c.tc : Thread Cert.SguFwdIdeal.nD Cert.SguFwdIdeal.τ).loc Cert.SguFwdIdeal.main_arg7))).2.2.2.2.2.2.2 = (fun _ => 1#1)

def Pre_SguFwdRefIdeal (m : (ℓ : Loc Cert.SguFwdRefIdeal.nD Cert.SguFwdRefIdeal.τ Cert.SguFwdRefIdeal.sig) → Buf (Elt Ideal) ℓ) : Prop :=
  True

def Pre_SguFwdRefIdeal_finite_sgu_fwd [hPre_finite_sgu_fwd : Cert.Pre_finite_sgu_fwd.Facts] (m : (ℓ : Loc Cert.SguFwdRefIdeal.nD Cert.SguFwdRefIdeal.τ Cert.SguFwdRefIdeal.sig) → Buf (Elt Ideal) ℓ) : Prop :=
  ∀ c : Dev Cert.SguFwdRefIdeal.nD,
    (Cert.Pre_finite_sgu_fwd.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3)) (m ((c.tc : Thread Cert.SguFwdRefIdeal.nD Cert.SguFwdRefIdeal.τ).loc Cert.SguFwdRefIdeal.main_arg4)) (m ((c.tc : Thread Cert.SguFwdRefIdeal.nD Cert.SguFwdRefIdeal.τ).loc Cert.SguFwdRefIdeal.main_arg5)) (m ((c.tc : Thread Cert.SguFwdRefIdeal.nD Cert.SguFwdRefIdeal.τ).loc Cert.SguFwdRefIdeal.main_arg6)) (m ((c.tc : Thread Cert.SguFwdRefIdeal.nD Cert.SguFwdRefIdeal.τ).loc Cert.SguFwdRefIdeal.main_arg7))).1 = (fun _ => 1#1)
    ∧ (Cert.Pre_finite_sgu_fwd.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3)) (m ((c.tc : Thread Cert.SguFwdRefIdeal.nD Cert.SguFwdRefIdeal.τ).loc Cert.SguFwdRefIdeal.main_arg4)) (m ((c.tc : Thread Cert.SguFwdRefIdeal.nD Cert.SguFwdRefIdeal.τ).loc Cert.SguFwdRefIdeal.main_arg5)) (m ((c.tc : Thread Cert.SguFwdRefIdeal.nD Cert.SguFwdRefIdeal.τ).loc Cert.SguFwdRefIdeal.main_arg6)) (m ((c.tc : Thread Cert.SguFwdRefIdeal.nD Cert.SguFwdRefIdeal.τ).loc Cert.SguFwdRefIdeal.main_arg7))).2.1 = (fun _ => 1#1)
    ∧ (Cert.Pre_finite_sgu_fwd.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3)) (m ((c.tc : Thread Cert.SguFwdRefIdeal.nD Cert.SguFwdRefIdeal.τ).loc Cert.SguFwdRefIdeal.main_arg4)) (m ((c.tc : Thread Cert.SguFwdRefIdeal.nD Cert.SguFwdRefIdeal.τ).loc Cert.SguFwdRefIdeal.main_arg5)) (m ((c.tc : Thread Cert.SguFwdRefIdeal.nD Cert.SguFwdRefIdeal.τ).loc Cert.SguFwdRefIdeal.main_arg6)) (m ((c.tc : Thread Cert.SguFwdRefIdeal.nD Cert.SguFwdRefIdeal.τ).loc Cert.SguFwdRefIdeal.main_arg7))).2.2.1 = (fun _ => 1#1)
    ∧ (Cert.Pre_finite_sgu_fwd.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3)) (m ((c.tc : Thread Cert.SguFwdRefIdeal.nD Cert.SguFwdRefIdeal.τ).loc Cert.SguFwdRefIdeal.main_arg4)) (m ((c.tc : Thread Cert.SguFwdRefIdeal.nD Cert.SguFwdRefIdeal.τ).loc Cert.SguFwdRefIdeal.main_arg5)) (m ((c.tc : Thread Cert.SguFwdRefIdeal.nD Cert.SguFwdRefIdeal.τ).loc Cert.SguFwdRefIdeal.main_arg6)) (m ((c.tc : Thread Cert.SguFwdRefIdeal.nD Cert.SguFwdRefIdeal.τ).loc Cert.SguFwdRefIdeal.main_arg7))).2.2.2.1 = (fun _ => 1#1)
    ∧ (Cert.Pre_finite_sgu_fwd.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3)) (m ((c.tc : Thread Cert.SguFwdRefIdeal.nD Cert.SguFwdRefIdeal.τ).loc Cert.SguFwdRefIdeal.main_arg4)) (m ((c.tc : Thread Cert.SguFwdRefIdeal.nD Cert.SguFwdRefIdeal.τ).loc Cert.SguFwdRefIdeal.main_arg5)) (m ((c.tc : Thread Cert.SguFwdRefIdeal.nD Cert.SguFwdRefIdeal.τ).loc Cert.SguFwdRefIdeal.main_arg6)) (m ((c.tc : Thread Cert.SguFwdRefIdeal.nD Cert.SguFwdRefIdeal.τ).loc Cert.SguFwdRefIdeal.main_arg7))).2.2.2.2.1 = (fun _ => 1#1)
    ∧ (Cert.Pre_finite_sgu_fwd.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3)) (m ((c.tc : Thread Cert.SguFwdRefIdeal.nD Cert.SguFwdRefIdeal.τ).loc Cert.SguFwdRefIdeal.main_arg4)) (m ((c.tc : Thread Cert.SguFwdRefIdeal.nD Cert.SguFwdRefIdeal.τ).loc Cert.SguFwdRefIdeal.main_arg5)) (m ((c.tc : Thread Cert.SguFwdRefIdeal.nD Cert.SguFwdRefIdeal.τ).loc Cert.SguFwdRefIdeal.main_arg6)) (m ((c.tc : Thread Cert.SguFwdRefIdeal.nD Cert.SguFwdRefIdeal.τ).loc Cert.SguFwdRefIdeal.main_arg7))).2.2.2.2.2.1 = (fun _ => 1#1)
    ∧ (Cert.Pre_finite_sgu_fwd.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3)) (m ((c.tc : Thread Cert.SguFwdRefIdeal.nD Cert.SguFwdRefIdeal.τ).loc Cert.SguFwdRefIdeal.main_arg4)) (m ((c.tc : Thread Cert.SguFwdRefIdeal.nD Cert.SguFwdRefIdeal.τ).loc Cert.SguFwdRefIdeal.main_arg5)) (m ((c.tc : Thread Cert.SguFwdRefIdeal.nD Cert.SguFwdRefIdeal.τ).loc Cert.SguFwdRefIdeal.main_arg6)) (m ((c.tc : Thread Cert.SguFwdRefIdeal.nD Cert.SguFwdRefIdeal.τ).loc Cert.SguFwdRefIdeal.main_arg7))).2.2.2.2.2.2.1 = (fun _ => 1#1)
    ∧ (Cert.Pre_finite_sgu_fwd.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3)) (m ((c.tc : Thread Cert.SguFwdRefIdeal.nD Cert.SguFwdRefIdeal.τ).loc Cert.SguFwdRefIdeal.main_arg4)) (m ((c.tc : Thread Cert.SguFwdRefIdeal.nD Cert.SguFwdRefIdeal.τ).loc Cert.SguFwdRefIdeal.main_arg5)) (m ((c.tc : Thread Cert.SguFwdRefIdeal.nD Cert.SguFwdRefIdeal.τ).loc Cert.SguFwdRefIdeal.main_arg6)) (m ((c.tc : Thread Cert.SguFwdRefIdeal.nD Cert.SguFwdRefIdeal.τ).loc Cert.SguFwdRefIdeal.main_arg7))).2.2.2.2.2.2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_finite_ffn_fwd [hPre_finite_ffn_fwd : Cert.Pre_finite_ffn_fwd.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_finite_ffn_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3))).1 = (fun _ => 1#1)
    ∧ (Cert.Pre_finite_ffn_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3))).2.1 = (fun _ => 1#1)
    ∧ (Cert.Pre_finite_ffn_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3))).2.2.1 = (fun _ => 1#1)
    ∧ (Cert.Pre_finite_ffn_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3))).2.2.2 = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_finite_ffn_fwd [hPre_finite_ffn_fwd : Cert.Pre_finite_ffn_fwd.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_finite_ffn_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3))).1 = (fun _ => 1#1)
    ∧ (Cert.Pre_finite_ffn_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3))).2.1 = (fun _ => 1#1)
    ∧ (Cert.Pre_finite_ffn_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3))).2.2.1 = (fun _ => 1#1)
    ∧ (Cert.Pre_finite_ffn_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3))).2.2.2 = (fun _ => 1#1)

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_finite_mix_fwd [hPre_finite_mix_fwd : Cert.Pre_finite_mix_fwd.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_finite_mix_fwd.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).1 = (fun _ => 1#1)
    ∧ (Cert.Pre_finite_mix_fwd.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).2.1 = (fun _ => 1#1)
    ∧ (Cert.Pre_finite_mix_fwd.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).2.2.1 = (fun _ => 1#1)
    ∧ (Cert.Pre_finite_mix_fwd.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).2.2.2.1 = (fun _ => 1#1)
    ∧ (Cert.Pre_finite_mix_fwd.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).2.2.2.2.1 = (fun _ => 1#1)
    ∧ (Cert.Pre_finite_mix_fwd.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).2.2.2.2.2.1 = (fun _ => 1#1)
    ∧ (Cert.Pre_finite_mix_fwd.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).2.2.2.2.2.2.1 = (fun _ => 1#1)
    ∧ (Cert.Pre_finite_mix_fwd.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).2.2.2.2.2.2.2.1 = (fun _ => 1#1)
    ∧ (Cert.Pre_finite_mix_fwd.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).2.2.2.2.2.2.2.2.1 = (fun _ => 1#1)
    ∧ (Cert.Pre_finite_mix_fwd.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).2.2.2.2.2.2.2.2.2.1 = (fun _ => 1#1)
    ∧ (Cert.Pre_finite_mix_fwd.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6)) (m ((c.tc : Thread Cert.MixFwdIdeal.nD Cert.MixFwdIdeal.τ).loc Cert.MixFwdIdeal.main_arg7)) (m ((c.tc : Thread Cert.MixFwdIdeal.nD Cert.MixFwdIdeal.τ).loc Cert.MixFwdIdeal.main_arg8)) (m ((c.tc : Thread Cert.MixFwdIdeal.nD Cert.MixFwdIdeal.τ).loc Cert.MixFwdIdeal.main_arg9)) (m ((c.tc : Thread Cert.MixFwdIdeal.nD Cert.MixFwdIdeal.τ).loc Cert.MixFwdIdeal.main_arg10))).2.2.2.2.2.2.2.2.2.2 = (fun _ => 1#1)

def Pre_MixFwdRefIdeal (m : (ℓ : Loc Cert.MixFwdRefIdeal.nD Cert.MixFwdRefIdeal.τ Cert.MixFwdRefIdeal.sig) → Buf (Elt Ideal) ℓ) : Prop :=
  True

def Pre_MixFwdRefIdeal_finite_mix_fwd [hPre_finite_mix_fwd : Cert.Pre_finite_mix_fwd.Facts] (m : (ℓ : Loc Cert.MixFwdRefIdeal.nD Cert.MixFwdRefIdeal.τ Cert.MixFwdRefIdeal.sig) → Buf (Elt Ideal) ℓ) : Prop :=
  ∀ c : Dev Cert.MixFwdRefIdeal.nD,
    (Cert.Pre_finite_mix_fwd.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10))).1 = (fun _ => 1#1)
    ∧ (Cert.Pre_finite_mix_fwd.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10))).2.1 = (fun _ => 1#1)
    ∧ (Cert.Pre_finite_mix_fwd.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10))).2.2.1 = (fun _ => 1#1)
    ∧ (Cert.Pre_finite_mix_fwd.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10))).2.2.2.1 = (fun _ => 1#1)
    ∧ (Cert.Pre_finite_mix_fwd.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10))).2.2.2.2.1 = (fun _ => 1#1)
    ∧ (Cert.Pre_finite_mix_fwd.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10))).2.2.2.2.2.1 = (fun _ => 1#1)
    ∧ (Cert.Pre_finite_mix_fwd.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10))).2.2.2.2.2.2.1 = (fun _ => 1#1)
    ∧ (Cert.Pre_finite_mix_fwd.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10))).2.2.2.2.2.2.2.1 = (fun _ => 1#1)
    ∧ (Cert.Pre_finite_mix_fwd.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10))).2.2.2.2.2.2.2.2.1 = (fun _ => 1#1)
    ∧ (Cert.Pre_finite_mix_fwd.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10))).2.2.2.2.2.2.2.2.2.1 = (fun _ => 1#1)
    ∧ (Cert.Pre_finite_mix_fwd.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6)) (m ((c.tc : Thread Cert.MixFwdRefIdeal.nD Cert.MixFwdRefIdeal.τ).loc Cert.MixFwdRefIdeal.main_arg7)) (m ((c.tc : Thread Cert.MixFwdRefIdeal.nD Cert.MixFwdRefIdeal.τ).loc Cert.MixFwdRefIdeal.main_arg8)) (m ((c.tc : Thread Cert.MixFwdRefIdeal.nD Cert.MixFwdRefIdeal.τ).loc Cert.MixFwdRefIdeal.main_arg9)) (m ((c.tc : Thread Cert.MixFwdRefIdeal.nD Cert.MixFwdRefIdeal.τ).loc Cert.MixFwdRefIdeal.main_arg10))).2.2.2.2.2.2.2.2.2.2 = (fun _ => 1#1)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4))
      ∧ r.2.sem = fun _ => 0)

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5)
      ∧ r.2.mem ((c.tc : Thread Cert.SguBwd.nD Cert.SguBwd.τ).loc Cert.SguBwd.main_arg6) = m ((c.tc : Thread Cert.SguBwd.nD Cert.SguBwd.τ).loc Cert.SguBwd.main_arg6)
      ∧ r.2.mem ((c.tc : Thread Cert.SguBwd.nD Cert.SguBwd.τ).loc Cert.SguBwd.main_arg7) = m ((c.tc : Thread Cert.SguBwd.nD Cert.SguBwd.τ).loc Cert.SguBwd.main_arg7)
      ∧ r.2.mem ((c.tc : Thread Cert.SguBwd.nD Cert.SguBwd.τ).loc Cert.SguBwd.main_arg8) = m ((c.tc : Thread Cert.SguBwd.nD Cert.SguBwd.τ).loc Cert.SguBwd.main_arg8))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
      ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6)
      ∧ r.2.mem ((c.tc : Thread Cert.SguBwdIdeal.nD Cert.SguBwdIdeal.τ).loc Cert.SguBwdIdeal.main_arg7) = m ((c.tc : Thread Cert.SguBwdIdeal.nD Cert.SguBwdIdeal.τ).loc Cert.SguBwdIdeal.main_arg7)
      ∧ r.2.mem ((c.tc : Thread Cert.SguBwdIdeal.nD Cert.SguBwdIdeal.τ).loc Cert.SguBwdIdeal.main_arg8) = m ((c.tc : Thread Cert.SguBwdIdeal.nD Cert.SguBwdIdeal.τ).loc Cert.SguBwdIdeal.main_arg8))
      ∧ r.2.sem = fun _ => 0)

def quiescent_SguBwdIdeal_pre_finite_sgu [hSguBwdIdeal : Cert.SguBwdIdeal.Facts] [hPre_finite_sgu : Cert.Pre_finite_sgu.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal_finite_sgu m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
      ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6)
      ∧ r.2.mem ((c.tc : Thread Cert.SguBwdIdeal.nD Cert.SguBwdIdeal.τ).loc Cert.SguBwdIdeal.main_arg7) = m ((c.tc : Thread Cert.SguBwdIdeal.nD Cert.SguBwdIdeal.τ).loc Cert.SguBwdIdeal.main_arg7)
      ∧ r.2.mem ((c.tc : Thread Cert.SguBwdIdeal.nD Cert.SguBwdIdeal.τ).loc Cert.SguBwdIdeal.main_arg8) = m ((c.tc : Thread Cert.SguBwdIdeal.nD Cert.SguBwdIdeal.τ).loc Cert.SguBwdIdeal.main_arg8))
      ∧ r.2.sem = fun _ => 0)

def quiescent_SguBwdRefIdeal [hSguBwdRefIdeal : Cert.SguBwdRefIdeal.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5)
      ∧ r.2.mem ((c.tc : Thread Cert.SguBwdRefIdeal.nD Cert.SguBwdRefIdeal.τ).loc Cert.SguBwdRefIdeal.main_arg6) = m ((c.tc : Thread Cert.SguBwdRefIdeal.nD Cert.SguBwdRefIdeal.τ).loc Cert.SguBwdRefIdeal.main_arg6)
      ∧ r.2.mem ((c.tc : Thread Cert.SguBwdRefIdeal.nD Cert.SguBwdRefIdeal.τ).loc Cert.SguBwdRefIdeal.main_arg7) = m ((c.tc : Thread Cert.SguBwdRefIdeal.nD Cert.SguBwdRefIdeal.τ).loc Cert.SguBwdRefIdeal.main_arg7)
      ∧ r.2.mem ((c.tc : Thread Cert.SguBwdRefIdeal.nD Cert.SguBwdRefIdeal.τ).loc Cert.SguBwdRefIdeal.main_arg8) = m ((c.tc : Thread Cert.SguBwdRefIdeal.nD Cert.SguBwdRefIdeal.τ).loc Cert.SguBwdRefIdeal.main_arg8))
      ∧ r.2.sem = fun _ => 0)

def quiescent_SguBwdRefIdeal_pre_finite_sgu [hSguBwdRefIdeal : Cert.SguBwdRefIdeal.Facts] [hPre_finite_sgu : Cert.Pre_finite_sgu.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal_finite_sgu m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5)
      ∧ r.2.mem ((c.tc : Thread Cert.SguBwdRefIdeal.nD Cert.SguBwdRefIdeal.τ).loc Cert.SguBwdRefIdeal.main_arg6) = m ((c.tc : Thread Cert.SguBwdRefIdeal.nD Cert.SguBwdRefIdeal.τ).loc Cert.SguBwdRefIdeal.main_arg6)
      ∧ r.2.mem ((c.tc : Thread Cert.SguBwdRefIdeal.nD Cert.SguBwdRefIdeal.τ).loc Cert.SguBwdRefIdeal.main_arg7) = m ((c.tc : Thread Cert.SguBwdRefIdeal.nD Cert.SguBwdRefIdeal.τ).loc Cert.SguBwdRefIdeal.main_arg7)
      ∧ r.2.mem ((c.tc : Thread Cert.SguBwdRefIdeal.nD Cert.SguBwdRefIdeal.τ).loc Cert.SguBwdRefIdeal.main_arg8) = m ((c.tc : Thread Cert.SguBwdRefIdeal.nD Cert.SguBwdRefIdeal.τ).loc Cert.SguBwdRefIdeal.main_arg8))
      ∧ r.2.sem = fun _ => 0)

def quiescent_MixInBwd [hMixInBwd : Cert.MixInBwd.Facts] : Prop :=
  ∀ (m : (ℓ : Loc Cert.MixInBwd.nD Cert.MixInBwd.τ Cert.MixInBwd.sig) → Buf (Elt Bits) ℓ) (g : Dev Cert.MixInBwd.nD → PrngReg), Pre_MixInBwd m →
    θ_run (Cert.MixInBwd.defs (F := Bits)) (onTc (τ := Cert.MixInBwd.τ) (Cert.MixInBwd.main (F := Bits))) ⟨m, fun _ => 0, g⟩ (fun r => (∀ c : Dev Cert.MixInBwd.nD,
      r.2.mem ((c.tc : Thread Cert.MixInBwd.nD Cert.MixInBwd.τ).loc Cert.MixInBwd.main_arg0) = m ((c.tc : Thread Cert.MixInBwd.nD Cert.MixInBwd.τ).loc Cert.MixInBwd.main_arg0)
      ∧ r.2.mem ((c.tc : Thread Cert.MixInBwd.nD Cert.MixInBwd.τ).loc Cert.MixInBwd.main_arg1) = m ((c.tc : Thread Cert.MixInBwd.nD Cert.MixInBwd.τ).loc Cert.MixInBwd.main_arg1)
      ∧ r.2.mem ((c.tc : Thread Cert.MixInBwd.nD Cert.MixInBwd.τ).loc Cert.MixInBwd.main_arg2) = m ((c.tc : Thread Cert.MixInBwd.nD Cert.MixInBwd.τ).loc Cert.MixInBwd.main_arg2)
      ∧ r.2.mem ((c.tc : Thread Cert.MixInBwd.nD Cert.MixInBwd.τ).loc Cert.MixInBwd.main_arg3) = m ((c.tc : Thread Cert.MixInBwd.nD Cert.MixInBwd.τ).loc Cert.MixInBwd.main_arg3)
      ∧ r.2.mem ((c.tc : Thread Cert.MixInBwd.nD Cert.MixInBwd.τ).loc Cert.MixInBwd.main_arg4) = m ((c.tc : Thread Cert.MixInBwd.nD Cert.MixInBwd.τ).loc Cert.MixInBwd.main_arg4)
      ∧ r.2.mem ((c.tc : Thread Cert.MixInBwd.nD Cert.MixInBwd.τ).loc Cert.MixInBwd.main_arg5) = m ((c.tc : Thread Cert.MixInBwd.nD Cert.MixInBwd.τ).loc Cert.MixInBwd.main_arg5)
      ∧ r.2.mem ((c.tc : Thread Cert.MixInBwd.nD Cert.MixInBwd.τ).loc Cert.MixInBwd.main_arg6) = m ((c.tc : Thread Cert.MixInBwd.nD Cert.MixInBwd.τ).loc Cert.MixInBwd.main_arg6))
      ∧ r.2.sem = fun _ => 0)

def quiescent_MixInBwdIdeal [hMixInBwdIdeal : Cert.MixInBwdIdeal.Facts] : Prop :=
  ∀ (m : (ℓ : Loc Cert.MixInBwdIdeal.nD Cert.MixInBwdIdeal.τ Cert.MixInBwdIdeal.sig) → Buf (Elt Ideal) ℓ) (g : Dev Cert.MixInBwdIdeal.nD → PrngReg), Pre_MixInBwdIdeal m →
    θ_run (Cert.MixInBwdIdeal.defs (F := Ideal)) (onTc (τ := Cert.MixInBwdIdeal.τ) (Cert.MixInBwdIdeal.main (F := Ideal))) ⟨m, fun _ => 0, g⟩ (fun r => (∀ c : Dev Cert.MixInBwdIdeal.nD,
      r.2.mem ((c.tc : Thread Cert.MixInBwdIdeal.nD Cert.MixInBwdIdeal.τ).loc Cert.MixInBwdIdeal.main_arg0) = m ((c.tc : Thread Cert.MixInBwdIdeal.nD Cert.MixInBwdIdeal.τ).loc Cert.MixInBwdIdeal.main_arg0)
      ∧ r.2.mem ((c.tc : Thread Cert.MixInBwdIdeal.nD Cert.MixInBwdIdeal.τ).loc Cert.MixInBwdIdeal.main_arg1) = m ((c.tc : Thread Cert.MixInBwdIdeal.nD Cert.MixInBwdIdeal.τ).loc Cert.MixInBwdIdeal.main_arg1)
      ∧ r.2.mem ((c.tc : Thread Cert.MixInBwdIdeal.nD Cert.MixInBwdIdeal.τ).loc Cert.MixInBwdIdeal.main_arg2) = m ((c.tc : Thread Cert.MixInBwdIdeal.nD Cert.MixInBwdIdeal.τ).loc Cert.MixInBwdIdeal.main_arg2)
      ∧ r.2.mem ((c.tc : Thread Cert.MixInBwdIdeal.nD Cert.MixInBwdIdeal.τ).loc Cert.MixInBwdIdeal.main_arg3) = m ((c.tc : Thread Cert.MixInBwdIdeal.nD Cert.MixInBwdIdeal.τ).loc Cert.MixInBwdIdeal.main_arg3)
      ∧ r.2.mem ((c.tc : Thread Cert.MixInBwdIdeal.nD Cert.MixInBwdIdeal.τ).loc Cert.MixInBwdIdeal.main_arg4) = m ((c.tc : Thread Cert.MixInBwdIdeal.nD Cert.MixInBwdIdeal.τ).loc Cert.MixInBwdIdeal.main_arg4)
      ∧ r.2.mem ((c.tc : Thread Cert.MixInBwdIdeal.nD Cert.MixInBwdIdeal.τ).loc Cert.MixInBwdIdeal.main_arg5) = m ((c.tc : Thread Cert.MixInBwdIdeal.nD Cert.MixInBwdIdeal.τ).loc Cert.MixInBwdIdeal.main_arg5)
      ∧ r.2.mem ((c.tc : Thread Cert.MixInBwdIdeal.nD Cert.MixInBwdIdeal.τ).loc Cert.MixInBwdIdeal.main_arg6) = m ((c.tc : Thread Cert.MixInBwdIdeal.nD Cert.MixInBwdIdeal.τ).loc Cert.MixInBwdIdeal.main_arg6))
      ∧ r.2.sem = fun _ => 0)

def quiescent_MixInBwdIdeal_pre_finite_mix_in [hMixInBwdIdeal : Cert.MixInBwdIdeal.Facts] [hPre_finite_mix_in : Cert.Pre_finite_mix_in.Facts] : Prop :=
  ∀ (m : (ℓ : Loc Cert.MixInBwdIdeal.nD Cert.MixInBwdIdeal.τ Cert.MixInBwdIdeal.sig) → Buf (Elt Ideal) ℓ) (g : Dev Cert.MixInBwdIdeal.nD → PrngReg), Pre_MixInBwdIdeal_finite_mix_in m →
    θ_run (Cert.MixInBwdIdeal.defs (F := Ideal)) (onTc (τ := Cert.MixInBwdIdeal.τ) (Cert.MixInBwdIdeal.main (F := Ideal))) ⟨m, fun _ => 0, g⟩ (fun r => (∀ c : Dev Cert.MixInBwdIdeal.nD,
      r.2.mem ((c.tc : Thread Cert.MixInBwdIdeal.nD Cert.MixInBwdIdeal.τ).loc Cert.MixInBwdIdeal.main_arg0) = m ((c.tc : Thread Cert.MixInBwdIdeal.nD Cert.MixInBwdIdeal.τ).loc Cert.MixInBwdIdeal.main_arg0)
      ∧ r.2.mem ((c.tc : Thread Cert.MixInBwdIdeal.nD Cert.MixInBwdIdeal.τ).loc Cert.MixInBwdIdeal.main_arg1) = m ((c.tc : Thread Cert.MixInBwdIdeal.nD Cert.MixInBwdIdeal.τ).loc Cert.MixInBwdIdeal.main_arg1)
      ∧ r.2.mem ((c.tc : Thread Cert.MixInBwdIdeal.nD Cert.MixInBwdIdeal.τ).loc Cert.MixInBwdIdeal.main_arg2) = m ((c.tc : Thread Cert.MixInBwdIdeal.nD Cert.MixInBwdIdeal.τ).loc Cert.MixInBwdIdeal.main_arg2)
      ∧ r.2.mem ((c.tc : Thread Cert.MixInBwdIdeal.nD Cert.MixInBwdIdeal.τ).loc Cert.MixInBwdIdeal.main_arg3) = m ((c.tc : Thread Cert.MixInBwdIdeal.nD Cert.MixInBwdIdeal.τ).loc Cert.MixInBwdIdeal.main_arg3)
      ∧ r.2.mem ((c.tc : Thread Cert.MixInBwdIdeal.nD Cert.MixInBwdIdeal.τ).loc Cert.MixInBwdIdeal.main_arg4) = m ((c.tc : Thread Cert.MixInBwdIdeal.nD Cert.MixInBwdIdeal.τ).loc Cert.MixInBwdIdeal.main_arg4)
      ∧ r.2.mem ((c.tc : Thread Cert.MixInBwdIdeal.nD Cert.MixInBwdIdeal.τ).loc Cert.MixInBwdIdeal.main_arg5) = m ((c.tc : Thread Cert.MixInBwdIdeal.nD Cert.MixInBwdIdeal.τ).loc Cert.MixInBwdIdeal.main_arg5)
      ∧ r.2.mem ((c.tc : Thread Cert.MixInBwdIdeal.nD Cert.MixInBwdIdeal.τ).loc Cert.MixInBwdIdeal.main_arg6) = m ((c.tc : Thread Cert.MixInBwdIdeal.nD Cert.MixInBwdIdeal.τ).loc Cert.MixInBwdIdeal.main_arg6))
      ∧ r.2.sem = fun _ => 0)

def quiescent_MixInBwdRefIdeal [hMixInBwdRefIdeal : Cert.MixInBwdRefIdeal.Facts] : Prop :=
  ∀ (m : (ℓ : Loc Cert.MixInBwdRefIdeal.nD Cert.MixInBwdRefIdeal.τ Cert.MixInBwdRefIdeal.sig) → Buf (Elt Ideal) ℓ) (g : Dev Cert.MixInBwdRefIdeal.nD → PrngReg), Pre_MixInBwdRefIdeal m →
    θ_run (Cert.MixInBwdRefIdeal.defs (F := Ideal)) (onTc (τ := Cert.MixInBwdRefIdeal.τ) (Cert.MixInBwdRefIdeal.main (F := Ideal))) ⟨m, fun _ => 0, g⟩ (fun r => (∀ c : Dev Cert.MixInBwdRefIdeal.nD,
      r.2.mem ((c.tc : Thread Cert.MixInBwdRefIdeal.nD Cert.MixInBwdRefIdeal.τ).loc Cert.MixInBwdRefIdeal.main_arg0) = m ((c.tc : Thread Cert.MixInBwdRefIdeal.nD Cert.MixInBwdRefIdeal.τ).loc Cert.MixInBwdRefIdeal.main_arg0)
      ∧ r.2.mem ((c.tc : Thread Cert.MixInBwdRefIdeal.nD Cert.MixInBwdRefIdeal.τ).loc Cert.MixInBwdRefIdeal.main_arg1) = m ((c.tc : Thread Cert.MixInBwdRefIdeal.nD Cert.MixInBwdRefIdeal.τ).loc Cert.MixInBwdRefIdeal.main_arg1)
      ∧ r.2.mem ((c.tc : Thread Cert.MixInBwdRefIdeal.nD Cert.MixInBwdRefIdeal.τ).loc Cert.MixInBwdRefIdeal.main_arg2) = m ((c.tc : Thread Cert.MixInBwdRefIdeal.nD Cert.MixInBwdRefIdeal.τ).loc Cert.MixInBwdRefIdeal.main_arg2)
      ∧ r.2.mem ((c.tc : Thread Cert.MixInBwdRefIdeal.nD Cert.MixInBwdRefIdeal.τ).loc Cert.MixInBwdRefIdeal.main_arg3) = m ((c.tc : Thread Cert.MixInBwdRefIdeal.nD Cert.MixInBwdRefIdeal.τ).loc Cert.MixInBwdRefIdeal.main_arg3)
      ∧ r.2.mem ((c.tc : Thread Cert.MixInBwdRefIdeal.nD Cert.MixInBwdRefIdeal.τ).loc Cert.MixInBwdRefIdeal.main_arg4) = m ((c.tc : Thread Cert.MixInBwdRefIdeal.nD Cert.MixInBwdRefIdeal.τ).loc Cert.MixInBwdRefIdeal.main_arg4)
      ∧ r.2.mem ((c.tc : Thread Cert.MixInBwdRefIdeal.nD Cert.MixInBwdRefIdeal.τ).loc Cert.MixInBwdRefIdeal.main_arg5) = m ((c.tc : Thread Cert.MixInBwdRefIdeal.nD Cert.MixInBwdRefIdeal.τ).loc Cert.MixInBwdRefIdeal.main_arg5)
      ∧ r.2.mem ((c.tc : Thread Cert.MixInBwdRefIdeal.nD Cert.MixInBwdRefIdeal.τ).loc Cert.MixInBwdRefIdeal.main_arg6) = m ((c.tc : Thread Cert.MixInBwdRefIdeal.nD Cert.MixInBwdRefIdeal.τ).loc Cert.MixInBwdRefIdeal.main_arg6))
      ∧ r.2.sem = fun _ => 0)

def quiescent_MixInBwdRefIdeal_pre_finite_mix_in [hMixInBwdRefIdeal : Cert.MixInBwdRefIdeal.Facts] [hPre_finite_mix_in : Cert.Pre_finite_mix_in.Facts] : Prop :=
  ∀ (m : (ℓ : Loc Cert.MixInBwdRefIdeal.nD Cert.MixInBwdRefIdeal.τ Cert.MixInBwdRefIdeal.sig) → Buf (Elt Ideal) ℓ) (g : Dev Cert.MixInBwdRefIdeal.nD → PrngReg), Pre_MixInBwdRefIdeal_finite_mix_in m →
    θ_run (Cert.MixInBwdRefIdeal.defs (F := Ideal)) (onTc (τ := Cert.MixInBwdRefIdeal.τ) (Cert.MixInBwdRefIdeal.main (F := Ideal))) ⟨m, fun _ => 0, g⟩ (fun r => (∀ c : Dev Cert.MixInBwdRefIdeal.nD,
      r.2.mem ((c.tc : Thread Cert.MixInBwdRefIdeal.nD Cert.MixInBwdRefIdeal.τ).loc Cert.MixInBwdRefIdeal.main_arg0) = m ((c.tc : Thread Cert.MixInBwdRefIdeal.nD Cert.MixInBwdRefIdeal.τ).loc Cert.MixInBwdRefIdeal.main_arg0)
      ∧ r.2.mem ((c.tc : Thread Cert.MixInBwdRefIdeal.nD Cert.MixInBwdRefIdeal.τ).loc Cert.MixInBwdRefIdeal.main_arg1) = m ((c.tc : Thread Cert.MixInBwdRefIdeal.nD Cert.MixInBwdRefIdeal.τ).loc Cert.MixInBwdRefIdeal.main_arg1)
      ∧ r.2.mem ((c.tc : Thread Cert.MixInBwdRefIdeal.nD Cert.MixInBwdRefIdeal.τ).loc Cert.MixInBwdRefIdeal.main_arg2) = m ((c.tc : Thread Cert.MixInBwdRefIdeal.nD Cert.MixInBwdRefIdeal.τ).loc Cert.MixInBwdRefIdeal.main_arg2)
      ∧ r.2.mem ((c.tc : Thread Cert.MixInBwdRefIdeal.nD Cert.MixInBwdRefIdeal.τ).loc Cert.MixInBwdRefIdeal.main_arg3) = m ((c.tc : Thread Cert.MixInBwdRefIdeal.nD Cert.MixInBwdRefIdeal.τ).loc Cert.MixInBwdRefIdeal.main_arg3)
      ∧ r.2.mem ((c.tc : Thread Cert.MixInBwdRefIdeal.nD Cert.MixInBwdRefIdeal.τ).loc Cert.MixInBwdRefIdeal.main_arg4) = m ((c.tc : Thread Cert.MixInBwdRefIdeal.nD Cert.MixInBwdRefIdeal.τ).loc Cert.MixInBwdRefIdeal.main_arg4)
      ∧ r.2.mem ((c.tc : Thread Cert.MixInBwdRefIdeal.nD Cert.MixInBwdRefIdeal.τ).loc Cert.MixInBwdRefIdeal.main_arg5) = m ((c.tc : Thread Cert.MixInBwdRefIdeal.nD Cert.MixInBwdRefIdeal.τ).loc Cert.MixInBwdRefIdeal.main_arg5)
      ∧ r.2.mem ((c.tc : Thread Cert.MixInBwdRefIdeal.nD Cert.MixInBwdRefIdeal.τ).loc Cert.MixInBwdRefIdeal.main_arg6) = m ((c.tc : Thread Cert.MixInBwdRefIdeal.nD Cert.MixInBwdRefIdeal.τ).loc Cert.MixInBwdRefIdeal.main_arg6))
      ∧ r.2.sem = fun _ => 0)

def quiescent_MixOutBwd [hMixOutBwd : Cert.MixOutBwd.Facts] : Prop :=
  ∀ (m : (ℓ : Loc Cert.MixOutBwd.nD Cert.MixOutBwd.τ Cert.MixOutBwd.sig) → Buf (Elt Bits) ℓ) (g : Dev Cert.MixOutBwd.nD → PrngReg), Pre_MixOutBwd m →
    θ_run (Cert.MixOutBwd.defs (F := Bits)) (onTc (τ := Cert.MixOutBwd.τ) (Cert.MixOutBwd.main (F := Bits))) ⟨m, fun _ => 0, g⟩ (fun r => (∀ c : Dev Cert.MixOutBwd.nD,
      r.2.mem ((c.tc : Thread Cert.MixOutBwd.nD Cert.MixOutBwd.τ).loc Cert.MixOutBwd.main_arg0) = m ((c.tc : Thread Cert.MixOutBwd.nD Cert.MixOutBwd.τ).loc Cert.MixOutBwd.main_arg0)
      ∧ r.2.mem ((c.tc : Thread Cert.MixOutBwd.nD Cert.MixOutBwd.τ).loc Cert.MixOutBwd.main_arg1) = m ((c.tc : Thread Cert.MixOutBwd.nD Cert.MixOutBwd.τ).loc Cert.MixOutBwd.main_arg1)
      ∧ r.2.mem ((c.tc : Thread Cert.MixOutBwd.nD Cert.MixOutBwd.τ).loc Cert.MixOutBwd.main_arg2) = m ((c.tc : Thread Cert.MixOutBwd.nD Cert.MixOutBwd.τ).loc Cert.MixOutBwd.main_arg2)
      ∧ r.2.mem ((c.tc : Thread Cert.MixOutBwd.nD Cert.MixOutBwd.τ).loc Cert.MixOutBwd.main_arg3) = m ((c.tc : Thread Cert.MixOutBwd.nD Cert.MixOutBwd.τ).loc Cert.MixOutBwd.main_arg3)
      ∧ r.2.mem ((c.tc : Thread Cert.MixOutBwd.nD Cert.MixOutBwd.τ).loc Cert.MixOutBwd.main_arg4) = m ((c.tc : Thread Cert.MixOutBwd.nD Cert.MixOutBwd.τ).loc Cert.MixOutBwd.main_arg4)
      ∧ r.2.mem ((c.tc : Thread Cert.MixOutBwd.nD Cert.MixOutBwd.τ).loc Cert.MixOutBwd.main_arg5) = m ((c.tc : Thread Cert.MixOutBwd.nD Cert.MixOutBwd.τ).loc Cert.MixOutBwd.main_arg5)
      ∧ r.2.mem ((c.tc : Thread Cert.MixOutBwd.nD Cert.MixOutBwd.τ).loc Cert.MixOutBwd.main_arg6) = m ((c.tc : Thread Cert.MixOutBwd.nD Cert.MixOutBwd.τ).loc Cert.MixOutBwd.main_arg6)
      ∧ r.2.mem ((c.tc : Thread Cert.MixOutBwd.nD Cert.MixOutBwd.τ).loc Cert.MixOutBwd.main_arg7) = m ((c.tc : Thread Cert.MixOutBwd.nD Cert.MixOutBwd.τ).loc Cert.MixOutBwd.main_arg7)
      ∧ r.2.mem ((c.tc : Thread Cert.MixOutBwd.nD Cert.MixOutBwd.τ).loc Cert.MixOutBwd.main_arg8) = m ((c.tc : Thread Cert.MixOutBwd.nD Cert.MixOutBwd.τ).loc Cert.MixOutBwd.main_arg8)
      ∧ r.2.mem ((c.tc : Thread Cert.MixOutBwd.nD Cert.MixOutBwd.τ).loc Cert.MixOutBwd.main_arg9) = m ((c.tc : Thread Cert.MixOutBwd.nD Cert.MixOutBwd.τ).loc Cert.MixOutBwd.main_arg9)
      ∧ r.2.mem ((c.tc : Thread Cert.MixOutBwd.nD Cert.MixOutBwd.τ).loc Cert.MixOutBwd.main_arg10) = m ((c.tc : Thread Cert.MixOutBwd.nD Cert.MixOutBwd.τ).loc Cert.MixOutBwd.main_arg10)
      ∧ r.2.mem ((c.tc : Thread Cert.MixOutBwd.nD Cert.MixOutBwd.τ).loc Cert.MixOutBwd.main_arg11) = m ((c.tc : Thread Cert.MixOutBwd.nD Cert.MixOutBwd.τ).loc Cert.MixOutBwd.main_arg11))
      ∧ r.2.sem = fun _ => 0)

def quiescent_MixOutBwdIdeal [hMixOutBwdIdeal : Cert.MixOutBwdIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
      ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
      ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
      ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
      ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
      ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6)
      ∧ r.2.mem ((c.tc : Thread Cert.MixOutBwdIdeal.nD Cert.MixOutBwdIdeal.τ).loc Cert.MixOutBwdIdeal.main_arg7) = m ((c.tc : Thread Cert.MixOutBwdIdeal.nD Cert.MixOutBwdIdeal.τ).loc Cert.MixOutBwdIdeal.main_arg7)
      ∧ r.2.mem ((c.tc : Thread Cert.MixOutBwdIdeal.nD Cert.MixOutBwdIdeal.τ).loc Cert.MixOutBwdIdeal.main_arg8) = m ((c.tc : Thread Cert.MixOutBwdIdeal.nD Cert.MixOutBwdIdeal.τ).loc Cert.MixOutBwdIdeal.main_arg8)
      ∧ r.2.mem ((c.tc : Thread Cert.MixOutBwdIdeal.nD Cert.MixOutBwdIdeal.τ).loc Cert.MixOutBwdIdeal.main_arg9) = m ((c.tc : Thread Cert.MixOutBwdIdeal.nD Cert.MixOutBwdIdeal.τ).loc Cert.MixOutBwdIdeal.main_arg9)
      ∧ r.2.mem ((c.tc : Thread Cert.MixOutBwdIdeal.nD Cert.MixOutBwdIdeal.τ).loc Cert.MixOutBwdIdeal.main_arg10) = m ((c.tc : Thread Cert.MixOutBwdIdeal.nD Cert.MixOutBwdIdeal.τ).loc Cert.MixOutBwdIdeal.main_arg10)
      ∧ r.2.mem ((c.tc : Thread Cert.MixOutBwdIdeal.nD Cert.MixOutBwdIdeal.τ).loc Cert.MixOutBwdIdeal.main_arg11) = m ((c.tc : Thread Cert.MixOutBwdIdeal.nD Cert.MixOutBwdIdeal.τ).loc Cert.MixOutBwdIdeal.main_arg11))
      ∧ r.2.sem = fun _ => 0)

def quiescent_MixOutBwdIdeal_pre_finite_mix_out [hMixOutBwdIdeal : Cert.MixOutBwdIdeal.Facts] [hPre_finite_mix_out : Cert.Pre_finite_mix_out.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal_finite_mix_out m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
      ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
      ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
      ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
      ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
      ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6)
      ∧ r.2.mem ((c.tc : Thread Cert.MixOutBwdIdeal.nD Cert.MixOutBwdIdeal.τ).loc Cert.MixOutBwdIdeal.main_arg7) = m ((c.tc : Thread Cert.MixOutBwdIdeal.nD Cert.MixOutBwdIdeal.τ).loc Cert.MixOutBwdIdeal.main_arg7)
      ∧ r.2.mem ((c.tc : Thread Cert.MixOutBwdIdeal.nD Cert.MixOutBwdIdeal.τ).loc Cert.MixOutBwdIdeal.main_arg8) = m ((c.tc : Thread Cert.MixOutBwdIdeal.nD Cert.MixOutBwdIdeal.τ).loc Cert.MixOutBwdIdeal.main_arg8)
      ∧ r.2.mem ((c.tc : Thread Cert.MixOutBwdIdeal.nD Cert.MixOutBwdIdeal.τ).loc Cert.MixOutBwdIdeal.main_arg9) = m ((c.tc : Thread Cert.MixOutBwdIdeal.nD Cert.MixOutBwdIdeal.τ).loc Cert.MixOutBwdIdeal.main_arg9)
      ∧ r.2.mem ((c.tc : Thread Cert.MixOutBwdIdeal.nD Cert.MixOutBwdIdeal.τ).loc Cert.MixOutBwdIdeal.main_arg10) = m ((c.tc : Thread Cert.MixOutBwdIdeal.nD Cert.MixOutBwdIdeal.τ).loc Cert.MixOutBwdIdeal.main_arg10)
      ∧ r.2.mem ((c.tc : Thread Cert.MixOutBwdIdeal.nD Cert.MixOutBwdIdeal.τ).loc Cert.MixOutBwdIdeal.main_arg11) = m ((c.tc : Thread Cert.MixOutBwdIdeal.nD Cert.MixOutBwdIdeal.τ).loc Cert.MixOutBwdIdeal.main_arg11))
      ∧ r.2.sem = fun _ => 0)

def quiescent_MixOutBwdRefIdeal [hMixOutBwdRefIdeal : Cert.MixOutBwdRefIdeal.Facts] : Prop :=
  ∀ (m : (ℓ : Loc Cert.MixOutBwdRefIdeal.nD Cert.MixOutBwdRefIdeal.τ Cert.MixOutBwdRefIdeal.sig) → Buf (Elt Ideal) ℓ) (g : Dev Cert.MixOutBwdRefIdeal.nD → PrngReg), Pre_MixOutBwdRefIdeal m →
    θ_run (Cert.MixOutBwdRefIdeal.defs (F := Ideal)) (onTc (τ := Cert.MixOutBwdRefIdeal.τ) (Cert.MixOutBwdRefIdeal.main (F := Ideal))) ⟨m, fun _ => 0, g⟩ (fun r => (∀ c : Dev Cert.MixOutBwdRefIdeal.nD,
      r.2.mem ((c.tc : Thread Cert.MixOutBwdRefIdeal.nD Cert.MixOutBwdRefIdeal.τ).loc Cert.MixOutBwdRefIdeal.main_arg0) = m ((c.tc : Thread Cert.MixOutBwdRefIdeal.nD Cert.MixOutBwdRefIdeal.τ).loc Cert.MixOutBwdRefIdeal.main_arg0)
      ∧ r.2.mem ((c.tc : Thread Cert.MixOutBwdRefIdeal.nD Cert.MixOutBwdRefIdeal.τ).loc Cert.MixOutBwdRefIdeal.main_arg1) = m ((c.tc : Thread Cert.MixOutBwdRefIdeal.nD Cert.MixOutBwdRefIdeal.τ).loc Cert.MixOutBwdRefIdeal.main_arg1)
      ∧ r.2.mem ((c.tc : Thread Cert.MixOutBwdRefIdeal.nD Cert.MixOutBwdRefIdeal.τ).loc Cert.MixOutBwdRefIdeal.main_arg2) = m ((c.tc : Thread Cert.MixOutBwdRefIdeal.nD Cert.MixOutBwdRefIdeal.τ).loc Cert.MixOutBwdRefIdeal.main_arg2)
      ∧ r.2.mem ((c.tc : Thread Cert.MixOutBwdRefIdeal.nD Cert.MixOutBwdRefIdeal.τ).loc Cert.MixOutBwdRefIdeal.main_arg3) = m ((c.tc : Thread Cert.MixOutBwdRefIdeal.nD Cert.MixOutBwdRefIdeal.τ).loc Cert.MixOutBwdRefIdeal.main_arg3)
      ∧ r.2.mem ((c.tc : Thread Cert.MixOutBwdRefIdeal.nD Cert.MixOutBwdRefIdeal.τ).loc Cert.MixOutBwdRefIdeal.main_arg4) = m ((c.tc : Thread Cert.MixOutBwdRefIdeal.nD Cert.MixOutBwdRefIdeal.τ).loc Cert.MixOutBwdRefIdeal.main_arg4)
      ∧ r.2.mem ((c.tc : Thread Cert.MixOutBwdRefIdeal.nD Cert.MixOutBwdRefIdeal.τ).loc Cert.MixOutBwdRefIdeal.main_arg5) = m ((c.tc : Thread Cert.MixOutBwdRefIdeal.nD Cert.MixOutBwdRefIdeal.τ).loc Cert.MixOutBwdRefIdeal.main_arg5)
      ∧ r.2.mem ((c.tc : Thread Cert.MixOutBwdRefIdeal.nD Cert.MixOutBwdRefIdeal.τ).loc Cert.MixOutBwdRefIdeal.main_arg6) = m ((c.tc : Thread Cert.MixOutBwdRefIdeal.nD Cert.MixOutBwdRefIdeal.τ).loc Cert.MixOutBwdRefIdeal.main_arg6)
      ∧ r.2.mem ((c.tc : Thread Cert.MixOutBwdRefIdeal.nD Cert.MixOutBwdRefIdeal.τ).loc Cert.MixOutBwdRefIdeal.main_arg7) = m ((c.tc : Thread Cert.MixOutBwdRefIdeal.nD Cert.MixOutBwdRefIdeal.τ).loc Cert.MixOutBwdRefIdeal.main_arg7)
      ∧ r.2.mem ((c.tc : Thread Cert.MixOutBwdRefIdeal.nD Cert.MixOutBwdRefIdeal.τ).loc Cert.MixOutBwdRefIdeal.main_arg8) = m ((c.tc : Thread Cert.MixOutBwdRefIdeal.nD Cert.MixOutBwdRefIdeal.τ).loc Cert.MixOutBwdRefIdeal.main_arg8)
      ∧ r.2.mem ((c.tc : Thread Cert.MixOutBwdRefIdeal.nD Cert.MixOutBwdRefIdeal.τ).loc Cert.MixOutBwdRefIdeal.main_arg9) = m ((c.tc : Thread Cert.MixOutBwdRefIdeal.nD Cert.MixOutBwdRefIdeal.τ).loc Cert.MixOutBwdRefIdeal.main_arg9)
      ∧ r.2.mem ((c.tc : Thread Cert.MixOutBwdRefIdeal.nD Cert.MixOutBwdRefIdeal.τ).loc Cert.MixOutBwdRefIdeal.main_arg10) = m ((c.tc : Thread Cert.MixOutBwdRefIdeal.nD Cert.MixOutBwdRefIdeal.τ).loc Cert.MixOutBwdRefIdeal.main_arg10)
      ∧ r.2.mem ((c.tc : Thread Cert.MixOutBwdRefIdeal.nD Cert.MixOutBwdRefIdeal.τ).loc Cert.MixOutBwdRefIdeal.main_arg11) = m ((c.tc : Thread Cert.MixOutBwdRefIdeal.nD Cert.MixOutBwdRefIdeal.τ).loc Cert.MixOutBwdRefIdeal.main_arg11))
      ∧ r.2.sem = fun _ => 0)

def quiescent_MixOutBwdRefIdeal_pre_finite_mix_out [hMixOutBwdRefIdeal : Cert.MixOutBwdRefIdeal.Facts] [hPre_finite_mix_out : Cert.Pre_finite_mix_out.Facts] : Prop :=
  ∀ (m : (ℓ : Loc Cert.MixOutBwdRefIdeal.nD Cert.MixOutBwdRefIdeal.τ Cert.MixOutBwdRefIdeal.sig) → Buf (Elt Ideal) ℓ) (g : Dev Cert.MixOutBwdRefIdeal.nD → PrngReg), Pre_MixOutBwdRefIdeal_finite_mix_out m →
    θ_run (Cert.MixOutBwdRefIdeal.defs (F := Ideal)) (onTc (τ := Cert.MixOutBwdRefIdeal.τ) (Cert.MixOutBwdRefIdeal.main (F := Ideal))) ⟨m, fun _ => 0, g⟩ (fun r => (∀ c : Dev Cert.MixOutBwdRefIdeal.nD,
      r.2.mem ((c.tc : Thread Cert.MixOutBwdRefIdeal.nD Cert.MixOutBwdRefIdeal.τ).loc Cert.MixOutBwdRefIdeal.main_arg0) = m ((c.tc : Thread Cert.MixOutBwdRefIdeal.nD Cert.MixOutBwdRefIdeal.τ).loc Cert.MixOutBwdRefIdeal.main_arg0)
      ∧ r.2.mem ((c.tc : Thread Cert.MixOutBwdRefIdeal.nD Cert.MixOutBwdRefIdeal.τ).loc Cert.MixOutBwdRefIdeal.main_arg1) = m ((c.tc : Thread Cert.MixOutBwdRefIdeal.nD Cert.MixOutBwdRefIdeal.τ).loc Cert.MixOutBwdRefIdeal.main_arg1)
      ∧ r.2.mem ((c.tc : Thread Cert.MixOutBwdRefIdeal.nD Cert.MixOutBwdRefIdeal.τ).loc Cert.MixOutBwdRefIdeal.main_arg2) = m ((c.tc : Thread Cert.MixOutBwdRefIdeal.nD Cert.MixOutBwdRefIdeal.τ).loc Cert.MixOutBwdRefIdeal.main_arg2)
      ∧ r.2.mem ((c.tc : Thread Cert.MixOutBwdRefIdeal.nD Cert.MixOutBwdRefIdeal.τ).loc Cert.MixOutBwdRefIdeal.main_arg3) = m ((c.tc : Thread Cert.MixOutBwdRefIdeal.nD Cert.MixOutBwdRefIdeal.τ).loc Cert.MixOutBwdRefIdeal.main_arg3)
      ∧ r.2.mem ((c.tc : Thread Cert.MixOutBwdRefIdeal.nD Cert.MixOutBwdRefIdeal.τ).loc Cert.MixOutBwdRefIdeal.main_arg4) = m ((c.tc : Thread Cert.MixOutBwdRefIdeal.nD Cert.MixOutBwdRefIdeal.τ).loc Cert.MixOutBwdRefIdeal.main_arg4)
      ∧ r.2.mem ((c.tc : Thread Cert.MixOutBwdRefIdeal.nD Cert.MixOutBwdRefIdeal.τ).loc Cert.MixOutBwdRefIdeal.main_arg5) = m ((c.tc : Thread Cert.MixOutBwdRefIdeal.nD Cert.MixOutBwdRefIdeal.τ).loc Cert.MixOutBwdRefIdeal.main_arg5)
      ∧ r.2.mem ((c.tc : Thread Cert.MixOutBwdRefIdeal.nD Cert.MixOutBwdRefIdeal.τ).loc Cert.MixOutBwdRefIdeal.main_arg6) = m ((c.tc : Thread Cert.MixOutBwdRefIdeal.nD Cert.MixOutBwdRefIdeal.τ).loc Cert.MixOutBwdRefIdeal.main_arg6)
      ∧ r.2.mem ((c.tc : Thread Cert.MixOutBwdRefIdeal.nD Cert.MixOutBwdRefIdeal.τ).loc Cert.MixOutBwdRefIdeal.main_arg7) = m ((c.tc : Thread Cert.MixOutBwdRefIdeal.nD Cert.MixOutBwdRefIdeal.τ).loc Cert.MixOutBwdRefIdeal.main_arg7)
      ∧ r.2.mem ((c.tc : Thread Cert.MixOutBwdRefIdeal.nD Cert.MixOutBwdRefIdeal.τ).loc Cert.MixOutBwdRefIdeal.main_arg8) = m ((c.tc : Thread Cert.MixOutBwdRefIdeal.nD Cert.MixOutBwdRefIdeal.τ).loc Cert.MixOutBwdRefIdeal.main_arg8)
      ∧ r.2.mem ((c.tc : Thread Cert.MixOutBwdRefIdeal.nD Cert.MixOutBwdRefIdeal.τ).loc Cert.MixOutBwdRefIdeal.main_arg9) = m ((c.tc : Thread Cert.MixOutBwdRefIdeal.nD Cert.MixOutBwdRefIdeal.τ).loc Cert.MixOutBwdRefIdeal.main_arg9)
      ∧ r.2.mem ((c.tc : Thread Cert.MixOutBwdRefIdeal.nD Cert.MixOutBwdRefIdeal.τ).loc Cert.MixOutBwdRefIdeal.main_arg10) = m ((c.tc : Thread Cert.MixOutBwdRefIdeal.nD Cert.MixOutBwdRefIdeal.τ).loc Cert.MixOutBwdRefIdeal.main_arg10)
      ∧ r.2.mem ((c.tc : Thread Cert.MixOutBwdRefIdeal.nD Cert.MixOutBwdRefIdeal.τ).loc Cert.MixOutBwdRefIdeal.main_arg11) = m ((c.tc : Thread Cert.MixOutBwdRefIdeal.nD Cert.MixOutBwdRefIdeal.τ).loc Cert.MixOutBwdRefIdeal.main_arg11))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4)
      ∧ r.2.mem ((c.tc : Thread Cert.LossHead.nD Cert.LossHead.τ).loc Cert.LossHead.main_arg5) = m ((c.tc : Thread Cert.LossHead.nD Cert.LossHead.τ).loc Cert.LossHead.main_arg5))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
      ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5))
      ∧ r.2.sem = fun _ => 0)

def quiescent_LossHeadIdeal_pre_finite_loss [hLossHeadIdeal : Cert.LossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
      ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4)
      ∧ r.2.mem ((c.tc : Thread Cert.LossHeadRefIdeal.nD Cert.LossHeadRefIdeal.τ).loc Cert.LossHeadRefIdeal.main_arg5) = m ((c.tc : Thread Cert.LossHeadRefIdeal.nD Cert.LossHeadRefIdeal.τ).loc Cert.LossHeadRefIdeal.main_arg5))
      ∧ r.2.sem = fun _ => 0)

def quiescent_LossHeadRefIdeal_pre_finite_loss [hLossHeadRefIdeal : Cert.LossHeadRefIdeal.Facts] [hPre_finite_loss : Cert.Pre_finite_loss.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_finite_loss m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4)
      ∧ r.2.mem ((c.tc : Thread Cert.LossHeadRefIdeal.nD Cert.LossHeadRefIdeal.τ).loc Cert.LossHeadRefIdeal.main_arg5) = m ((c.tc : Thread Cert.LossHeadRefIdeal.nD Cert.LossHeadRefIdeal.τ).loc Cert.LossHeadRefIdeal.main_arg5))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4)
      ∧ r.2.mem ((c.tc : Thread Cert.SguFwd.nD Cert.SguFwd.τ).loc Cert.SguFwd.main_arg5) = m ((c.tc : Thread Cert.SguFwd.nD Cert.SguFwd.τ).loc Cert.SguFwd.main_arg5)
      ∧ r.2.mem ((c.tc : Thread Cert.SguFwd.nD Cert.SguFwd.τ).loc Cert.SguFwd.main_arg6) = m ((c.tc : Thread Cert.SguFwd.nD Cert.SguFwd.τ).loc Cert.SguFwd.main_arg6)
      ∧ r.2.mem ((c.tc : Thread Cert.SguFwd.nD Cert.SguFwd.τ).loc Cert.SguFwd.main_arg7) = m ((c.tc : Thread Cert.SguFwd.nD Cert.SguFwd.τ).loc Cert.SguFwd.main_arg7))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
      ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5)
      ∧ r.2.mem ((c.tc : Thread Cert.SguFwdIdeal.nD Cert.SguFwdIdeal.τ).loc Cert.SguFwdIdeal.main_arg6) = m ((c.tc : Thread Cert.SguFwdIdeal.nD Cert.SguFwdIdeal.τ).loc Cert.SguFwdIdeal.main_arg6)
      ∧ r.2.mem ((c.tc : Thread Cert.SguFwdIdeal.nD Cert.SguFwdIdeal.τ).loc Cert.SguFwdIdeal.main_arg7) = m ((c.tc : Thread Cert.SguFwdIdeal.nD Cert.SguFwdIdeal.τ).loc Cert.SguFwdIdeal.main_arg7))
      ∧ r.2.sem = fun _ => 0)

def quiescent_SguFwdIdeal_pre_finite_sgu_fwd [hSguFwdIdeal : Cert.SguFwdIdeal.Facts] [hPre_finite_sgu_fwd : Cert.Pre_finite_sgu_fwd.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal_finite_sgu_fwd m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
      ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5)
      ∧ r.2.mem ((c.tc : Thread Cert.SguFwdIdeal.nD Cert.SguFwdIdeal.τ).loc Cert.SguFwdIdeal.main_arg6) = m ((c.tc : Thread Cert.SguFwdIdeal.nD Cert.SguFwdIdeal.τ).loc Cert.SguFwdIdeal.main_arg6)
      ∧ r.2.mem ((c.tc : Thread Cert.SguFwdIdeal.nD Cert.SguFwdIdeal.τ).loc Cert.SguFwdIdeal.main_arg7) = m ((c.tc : Thread Cert.SguFwdIdeal.nD Cert.SguFwdIdeal.τ).loc Cert.SguFwdIdeal.main_arg7))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4)
      ∧ r.2.mem ((c.tc : Thread Cert.SguFwdRefIdeal.nD Cert.SguFwdRefIdeal.τ).loc Cert.SguFwdRefIdeal.main_arg5) = m ((c.tc : Thread Cert.SguFwdRefIdeal.nD Cert.SguFwdRefIdeal.τ).loc Cert.SguFwdRefIdeal.main_arg5)
      ∧ r.2.mem ((c.tc : Thread Cert.SguFwdRefIdeal.nD Cert.SguFwdRefIdeal.τ).loc Cert.SguFwdRefIdeal.main_arg6) = m ((c.tc : Thread Cert.SguFwdRefIdeal.nD Cert.SguFwdRefIdeal.τ).loc Cert.SguFwdRefIdeal.main_arg6)
      ∧ r.2.mem ((c.tc : Thread Cert.SguFwdRefIdeal.nD Cert.SguFwdRefIdeal.τ).loc Cert.SguFwdRefIdeal.main_arg7) = m ((c.tc : Thread Cert.SguFwdRefIdeal.nD Cert.SguFwdRefIdeal.τ).loc Cert.SguFwdRefIdeal.main_arg7))
      ∧ r.2.sem = fun _ => 0)

def quiescent_SguFwdRefIdeal_pre_finite_sgu_fwd [hSguFwdRefIdeal : Cert.SguFwdRefIdeal.Facts] [hPre_finite_sgu_fwd : Cert.Pre_finite_sgu_fwd.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal_finite_sgu_fwd m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4)
      ∧ r.2.mem ((c.tc : Thread Cert.SguFwdRefIdeal.nD Cert.SguFwdRefIdeal.τ).loc Cert.SguFwdRefIdeal.main_arg5) = m ((c.tc : Thread Cert.SguFwdRefIdeal.nD Cert.SguFwdRefIdeal.τ).loc Cert.SguFwdRefIdeal.main_arg5)
      ∧ r.2.mem ((c.tc : Thread Cert.SguFwdRefIdeal.nD Cert.SguFwdRefIdeal.τ).loc Cert.SguFwdRefIdeal.main_arg6) = m ((c.tc : Thread Cert.SguFwdRefIdeal.nD Cert.SguFwdRefIdeal.τ).loc Cert.SguFwdRefIdeal.main_arg6)
      ∧ r.2.mem ((c.tc : Thread Cert.SguFwdRefIdeal.nD Cert.SguFwdRefIdeal.τ).loc Cert.SguFwdRefIdeal.main_arg7) = m ((c.tc : Thread Cert.SguFwdRefIdeal.nD Cert.SguFwdRefIdeal.τ).loc Cert.SguFwdRefIdeal.main_arg7))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdIdeal_pre_finite_ffn_fwd [hFfnFwdIdeal : Cert.FfnFwdIdeal.Facts] [hPre_finite_ffn_fwd : Cert.Pre_finite_ffn_fwd.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_finite_ffn_fwd m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_FfnFwdRefIdeal_pre_finite_ffn_fwd [hFfnFwdRefIdeal : Cert.FfnFwdRefIdeal.Facts] [hPre_finite_ffn_fwd : Cert.Pre_finite_ffn_fwd.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_finite_ffn_fwd m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6)
      ∧ r.2.mem ((c.tc : Thread Cert.MixFwd.nD Cert.MixFwd.τ).loc Cert.MixFwd.main_arg7) = m ((c.tc : Thread Cert.MixFwd.nD Cert.MixFwd.τ).loc Cert.MixFwd.main_arg7)
      ∧ r.2.mem ((c.tc : Thread Cert.MixFwd.nD Cert.MixFwd.τ).loc Cert.MixFwd.main_arg8) = m ((c.tc : Thread Cert.MixFwd.nD Cert.MixFwd.τ).loc Cert.MixFwd.main_arg8)
      ∧ r.2.mem ((c.tc : Thread Cert.MixFwd.nD Cert.MixFwd.τ).loc Cert.MixFwd.main_arg9) = m ((c.tc : Thread Cert.MixFwd.nD Cert.MixFwd.τ).loc Cert.MixFwd.main_arg9)
      ∧ r.2.mem ((c.tc : Thread Cert.MixFwd.nD Cert.MixFwd.τ).loc Cert.MixFwd.main_arg10) = m ((c.tc : Thread Cert.MixFwd.nD Cert.MixFwd.τ).loc Cert.MixFwd.main_arg10))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ r.2.sem = fun _ => 0)

def quiescent_MixFwdIdeal_pre_finite_mix_fwd [hMixFwdIdeal : Cert.MixFwdIdeal.Facts] [hPre_finite_mix_fwd : Cert.Pre_finite_mix_fwd.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_finite_mix_fwd m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
      ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
      ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
      ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
      ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10))
      ∧ r.2.sem = fun _ => 0)

def quiescent_MixFwdRefIdeal_pre_finite_mix_fwd [hMixFwdRefIdeal : Cert.MixFwdRefIdeal.Facts] [hPre_finite_mix_fwd : Cert.Pre_finite_mix_fwd.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal_finite_mix_fwd m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6)
      ∧ r.2.mem ((c.tc : Thread Cert.MixFwdRefIdeal.nD Cert.MixFwdRefIdeal.τ).loc Cert.MixFwdRefIdeal.main_arg7) = m ((c.tc : Thread Cert.MixFwdRefIdeal.nD Cert.MixFwdRefIdeal.τ).loc Cert.MixFwdRefIdeal.main_arg7)
      ∧ r.2.mem ((c.tc : Thread Cert.MixFwdRefIdeal.nD Cert.MixFwdRefIdeal.τ).loc Cert.MixFwdRefIdeal.main_arg8) = m ((c.tc : Thread Cert.MixFwdRefIdeal.nD Cert.MixFwdRefIdeal.τ).loc Cert.MixFwdRefIdeal.main_arg8)
      ∧ r.2.mem ((c.tc : Thread Cert.MixFwdRefIdeal.nD Cert.MixFwdRefIdeal.τ).loc Cert.MixFwdRefIdeal.main_arg9) = m ((c.tc : Thread Cert.MixFwdRefIdeal.nD Cert.MixFwdRefIdeal.τ).loc Cert.MixFwdRefIdeal.main_arg9)
      ∧ r.2.mem ((c.tc : Thread Cert.MixFwdRefIdeal.nD Cert.MixFwdRefIdeal.τ).loc Cert.MixFwdRefIdeal.main_arg10) = m ((c.tc : Thread Cert.MixFwdRefIdeal.nD Cert.MixFwdRefIdeal.τ).loc Cert.MixFwdRefIdeal.main_arg10))
      ∧ r.2.sem = fun _ => 0)

def preserves_FfnBwd_FfnBwdIdeal : Prop :=
  True

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v22_0)) (v1 : (c : Dev Cert.FfnBwdIdeal.nD) → Buf (Elt Ideal) ((c.tc : Thread Cert.FfnBwdIdeal.nD Cert.FfnBwdIdeal.τ).loc Cert.FfnBwdIdeal.main_v22_1)) (v2 : (c : Dev Cert.FfnBwdIdeal.nD) → Buf (Elt Ideal) ((c.tc : Thread Cert.FfnBwdIdeal.nD Cert.FfnBwdIdeal.τ).loc Cert.FfnBwdIdeal.main_v22_2)) (v3 : (c : Dev Cert.FfnBwdIdeal.nD) → Buf (Elt Ideal) ((c.tc : Thread Cert.FfnBwdIdeal.nD Cert.FfnBwdIdeal.τ).loc Cert.FfnBwdIdeal.main_v22_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v22_0) = v0 c
          ∧ r.2.mem ((c.tc : Thread Cert.FfnBwdIdeal.nD Cert.FfnBwdIdeal.τ).loc Cert.FfnBwdIdeal.main_v22_1) = v1 c
          ∧ r.2.mem ((c.tc : Thread Cert.FfnBwdIdeal.nD Cert.FfnBwdIdeal.τ).loc Cert.FfnBwdIdeal.main_v22_2) = v2 c
          ∧ r.2.mem ((c.tc : Thread Cert.FfnBwdIdeal.nD Cert.FfnBwdIdeal.τ).loc Cert.FfnBwdIdeal.main_v22_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v56) = v0 c
          ∧ r.2.mem ((c.tc : Thread Cert.FfnBwdRefIdeal.nD Cert.FfnBwdRefIdeal.τ).loc Cert.FfnBwdRefIdeal.main_v57) = v1 c
          ∧ r.2.mem ((c.tc : Thread Cert.FfnBwdRefIdeal.nD Cert.FfnBwdRefIdeal.τ).loc Cert.FfnBwdRefIdeal.main_v58) = v2 c
          ∧ r.2.mem ((c.tc : Thread Cert.FfnBwdRefIdeal.nD Cert.FfnBwdRefIdeal.τ).loc Cert.FfnBwdRefIdeal.main_v59) = v3 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4))

def preserves_SguBwd_SguBwdIdeal : Prop :=
  IdealRules.named_const.Statement Cert.SguBwdIdeal.κ "sqrt_half" .f32 0x3F3504F3#32 (((Real.sqrt 2)⁻¹ : ℝ) : EReal)
  ∧ IdealRules.named_const.Statement Cert.SguBwdIdeal.κ "inv_sqrt_2pi" .f32 0x3ECC422A#32 (((9465531 / 16777216) * (Real.sqrt 2)⁻¹ : ℝ) : EReal)

def algebraic_SguBwdIdeal_SguBwdRefIdeal_pre_finite_sgu [hSguBwdIdeal : Cert.SguBwdIdeal.Facts] [hSguBwdRefIdeal : Cert.SguBwdRefIdeal.Facts] [hPre_finite_sgu : Cert.Pre_finite_sgu.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguBwdRefIdeal.nD Cert.SguBwdRefIdeal.τ Cert.SguBwdRefIdeal.sig) → Buf (Elt Ideal) ℓ) (g' : Dev Cert.SguBwdRefIdeal.nD → PrngReg), Pre_SguBwdIdeal_finite_sgu m →
    (∀ c : Dev Cert.SguBwdIdeal.nD,
      m' ((c.tc : Thread Cert.SguBwdRefIdeal.nD Cert.SguBwdRefIdeal.τ).loc Cert.SguBwdRefIdeal.main_arg0) = m ((c.tc : Thread Cert.SguBwdIdeal.nD Cert.SguBwdIdeal.τ).loc Cert.SguBwdIdeal.main_arg0)
      ∧ m' ((c.tc : Thread Cert.SguBwdRefIdeal.nD Cert.SguBwdRefIdeal.τ).loc Cert.SguBwdRefIdeal.main_arg1) = m ((c.tc : Thread Cert.SguBwdIdeal.nD Cert.SguBwdIdeal.τ).loc Cert.SguBwdIdeal.main_arg1)
      ∧ m' ((c.tc : Thread Cert.SguBwdRefIdeal.nD Cert.SguBwdRefIdeal.τ).loc Cert.SguBwdRefIdeal.main_arg2) = m ((c.tc : Thread Cert.SguBwdIdeal.nD Cert.SguBwdIdeal.τ).loc Cert.SguBwdIdeal.main_arg2)
      ∧ m' ((c.tc : Thread Cert.SguBwdRefIdeal.nD Cert.SguBwdRefIdeal.τ).loc Cert.SguBwdRefIdeal.main_arg3) = m ((c.tc : Thread Cert.SguBwdIdeal.nD Cert.SguBwdIdeal.τ).loc Cert.SguBwdIdeal.main_arg3)
      ∧ m' ((c.tc : Thread Cert.SguBwdRefIdeal.nD Cert.SguBwdRefIdeal.τ).loc Cert.SguBwdRefIdeal.main_arg4) = m ((c.tc : Thread Cert.SguBwdIdeal.nD Cert.SguBwdIdeal.τ).loc Cert.SguBwdIdeal.main_arg4)
      ∧ m' ((c.tc : Thread Cert.SguBwdRefIdeal.nD Cert.SguBwdRefIdeal.τ).loc Cert.SguBwdRefIdeal.main_arg5) = m ((c.tc : Thread Cert.SguBwdIdeal.nD Cert.SguBwdIdeal.τ).loc Cert.SguBwdIdeal.main_arg5)
      ∧ m' ((c.tc : Thread Cert.SguBwdRefIdeal.nD Cert.SguBwdRefIdeal.τ).loc Cert.SguBwdRefIdeal.main_arg6) = m ((c.tc : Thread Cert.SguBwdIdeal.nD Cert.SguBwdIdeal.τ).loc Cert.SguBwdIdeal.main_arg6)
      ∧ m' ((c.tc : Thread Cert.SguBwdRefIdeal.nD Cert.SguBwdRefIdeal.τ).loc Cert.SguBwdRefIdeal.main_arg7) = m ((c.tc : Thread Cert.SguBwdIdeal.nD Cert.SguBwdIdeal.τ).loc Cert.SguBwdIdeal.main_arg7)
      ∧ m' ((c.tc : Thread Cert.SguBwdRefIdeal.nD Cert.SguBwdRefIdeal.τ).loc Cert.SguBwdRefIdeal.main_arg8) = m ((c.tc : Thread Cert.SguBwdIdeal.nD Cert.SguBwdIdeal.τ).loc Cert.SguBwdIdeal.main_arg8)) →
    ∃ (v0 : (c : Dev Cert.SguBwdIdeal.nD) → Buf (Elt Ideal) ((c.tc : Thread Cert.SguBwdIdeal.nD Cert.SguBwdIdeal.τ).loc Cert.SguBwdIdeal.main_v24_0)) (v1 : (c : Dev Cert.SguBwdIdeal.nD) → Buf (Elt Ideal) ((c.tc : Thread Cert.SguBwdIdeal.nD Cert.SguBwdIdeal.τ).loc Cert.SguBwdIdeal.main_v24_1)) (v2 : (c : Dev Cert.SguBwdIdeal.nD) → Buf (Elt Ideal) ((c.tc : Thread Cert.SguBwdIdeal.nD Cert.SguBwdIdeal.τ).loc Cert.SguBwdIdeal.main_v24_2)) (v3 : (c : Dev Cert.SguBwdIdeal.nD) → Buf (Elt Ideal) ((c.tc : Thread Cert.SguBwdIdeal.nD Cert.SguBwdIdeal.τ).loc Cert.SguBwdIdeal.main_v24_3)) (v4 : (c : Dev Cert.SguBwdIdeal.nD) → Buf (Elt Ideal) ((c.tc : Thread Cert.SguBwdIdeal.nD Cert.SguBwdIdeal.τ).loc Cert.SguBwdIdeal.main_v24_4)) (v5 : (c : Dev Cert.SguBwdIdeal.nD) → Buf (Elt Ideal) ((c.tc : Thread Cert.SguBwdIdeal.nD Cert.SguBwdIdeal.τ).loc Cert.SguBwdIdeal.main_v24_5)) (v6 : (c : Dev Cert.SguBwdIdeal.nD) → Buf (Elt Ideal) ((c.tc : Thread Cert.SguBwdIdeal.nD Cert.SguBwdIdeal.τ).loc Cert.SguBwdIdeal.main_v24_6)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v24_0) = v0 c
          ∧ r.2.mem ((c.tc : Thread Cert.SguBwdIdeal.nD Cert.SguBwdIdeal.τ).loc Cert.SguBwdIdeal.main_v24_1) = v1 c
          ∧ r.2.mem ((c.tc : Thread Cert.SguBwdIdeal.nD Cert.SguBwdIdeal.τ).loc Cert.SguBwdIdeal.main_v24_2) = v2 c
          ∧ r.2.mem ((c.tc : Thread Cert.SguBwdIdeal.nD Cert.SguBwdIdeal.τ).loc Cert.SguBwdIdeal.main_v24_3) = v3 c
          ∧ r.2.mem ((c.tc : Thread Cert.SguBwdIdeal.nD Cert.SguBwdIdeal.τ).loc Cert.SguBwdIdeal.main_v24_4) = v4 c
          ∧ r.2.mem ((c.tc : Thread Cert.SguBwdIdeal.nD Cert.SguBwdIdeal.τ).loc Cert.SguBwdIdeal.main_v24_5) = v5 c
          ∧ r.2.mem ((c.tc : Thread Cert.SguBwdIdeal.nD Cert.SguBwdIdeal.τ).loc Cert.SguBwdIdeal.main_v24_6) = v6 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
          ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6)
          ∧ r.2.mem ((c.tc : Thread Cert.SguBwdIdeal.nD Cert.SguBwdIdeal.τ).loc Cert.SguBwdIdeal.main_arg7) = m ((c.tc : Thread Cert.SguBwdIdeal.nD Cert.SguBwdIdeal.τ).loc Cert.SguBwdIdeal.main_arg7)
          ∧ r.2.mem ((c.tc : Thread Cert.SguBwdIdeal.nD Cert.SguBwdIdeal.τ).loc Cert.SguBwdIdeal.main_arg8) = m ((c.tc : Thread Cert.SguBwdIdeal.nD Cert.SguBwdIdeal.τ).loc Cert.SguBwdIdeal.main_arg8))
      ∧ θ_run (Cert.SguBwdRefIdeal.defs (F := Ideal)) (onTc (τ := Cert.SguBwdRefIdeal.τ) (Cert.SguBwdRefIdeal.main (F := Ideal))) ⟨m', fun _ => 0, g'⟩ (fun r => ∀ c : Dev Cert.SguBwdRefIdeal.nD,
          r.2.mem ((c.tc : Thread Cert.SguBwdRefIdeal.nD Cert.SguBwdRefIdeal.τ).loc Cert.SguBwdRefIdeal.main_v159) = v0 c
          ∧ r.2.mem ((c.tc : Thread Cert.SguBwdRefIdeal.nD Cert.SguBwdRefIdeal.τ).loc Cert.SguBwdRefIdeal.main_v160) = v1 c
          ∧ r.2.mem ((c.tc : Thread Cert.SguBwdRefIdeal.nD Cert.SguBwdRefIdeal.τ).loc Cert.SguBwdRefIdeal.main_v161) = v2 c
          ∧ r.2.mem ((c.tc : Thread Cert.SguBwdRefIdeal.nD Cert.SguBwdRefIdeal.τ).loc Cert.SguBwdRefIdeal.main_v162) = v3 c
          ∧ r.2.mem ((c.tc : Thread Cert.SguBwdRefIdeal.nD Cert.SguBwdRefIdeal.τ).loc Cert.SguBwdRefIdeal.main_v163) = v4 c
          ∧ r.2.mem ((c.tc : Thread Cert.SguBwdRefIdeal.nD Cert.SguBwdRefIdeal.τ).loc Cert.SguBwdRefIdeal.main_v91) = v5 c
          ∧ r.2.mem ((c.tc : Thread Cert.SguBwdRefIdeal.nD Cert.SguBwdRefIdeal.τ).loc Cert.SguBwdRefIdeal.main_v164) = v6 c
          ∧ r.2.mem ((c.tc : Thread Cert.SguBwdRefIdeal.nD Cert.SguBwdRefIdeal.τ).loc Cert.SguBwdRefIdeal.main_arg0) = m' ((c.tc : Thread Cert.SguBwdRefIdeal.nD Cert.SguBwdRefIdeal.τ).loc Cert.SguBwdRefIdeal.main_arg0)
          ∧ r.2.mem ((c.tc : Thread Cert.SguBwdRefIdeal.nD Cert.SguBwdRefIdeal.τ).loc Cert.SguBwdRefIdeal.main_arg1) = m' ((c.tc : Thread Cert.SguBwdRefIdeal.nD Cert.SguBwdRefIdeal.τ).loc Cert.SguBwdRefIdeal.main_arg1)
          ∧ r.2.mem ((c.tc : Thread Cert.SguBwdRefIdeal.nD Cert.SguBwdRefIdeal.τ).loc Cert.SguBwdRefIdeal.main_arg2) = m' ((c.tc : Thread Cert.SguBwdRefIdeal.nD Cert.SguBwdRefIdeal.τ).loc Cert.SguBwdRefIdeal.main_arg2)
          ∧ r.2.mem ((c.tc : Thread Cert.SguBwdRefIdeal.nD Cert.SguBwdRefIdeal.τ).loc Cert.SguBwdRefIdeal.main_arg3) = m' ((c.tc : Thread Cert.SguBwdRefIdeal.nD Cert.SguBwdRefIdeal.τ).loc Cert.SguBwdRefIdeal.main_arg3)
          ∧ r.2.mem ((c.tc : Thread Cert.SguBwdRefIdeal.nD Cert.SguBwdRefIdeal.τ).loc Cert.SguBwdRefIdeal.main_arg4) = m' ((c.tc : Thread Cert.SguBwdRefIdeal.nD Cert.SguBwdRefIdeal.τ).loc Cert.SguBwdRefIdeal.main_arg4)
          ∧ r.2.mem ((c.tc : Thread Cert.SguBwdRefIdeal.nD Cert.SguBwdRefIdeal.τ).loc Cert.SguBwdRefIdeal.main_arg5) = m' ((c.tc : Thread Cert.SguBwdRefIdeal.nD Cert.SguBwdRefIdeal.τ).loc Cert.SguBwdRefIdeal.main_arg5)
          ∧ r.2.mem ((c.tc : Thread Cert.SguBwdRefIdeal.nD Cert.SguBwdRefIdeal.τ).loc Cert.SguBwdRefIdeal.main_arg6) = m' ((c.tc : Thread Cert.SguBwdRefIdeal.nD Cert.SguBwdRefIdeal.τ).loc Cert.SguBwdRefIdeal.main_arg6)
          ∧ r.2.mem ((c.tc : Thread Cert.SguBwdRefIdeal.nD Cert.SguBwdRefIdeal.τ).loc Cert.SguBwdRefIdeal.main_arg7) = m' ((c.tc : Thread Cert.SguBwdRefIdeal.nD Cert.SguBwdRefIdeal.τ).loc Cert.SguBwdRefIdeal.main_arg7)
          ∧ r.2.mem ((c.tc : Thread Cert.SguBwdRefIdeal.nD Cert.SguBwdRefIdeal.τ).loc Cert.SguBwdRefIdeal.main_arg8) = m' ((c.tc : Thread Cert.SguBwdRefIdeal.nD Cert.SguBwdRefIdeal.τ).loc Cert.SguBwdRefIdeal.main_arg8))

def preserves_MixInBwd_MixInBwdIdeal : Prop :=
  True

def algebraic_MixInBwdIdeal_MixInBwdRefIdeal_pre_finite_mix_in [hMixInBwdIdeal : Cert.MixInBwdIdeal.Facts] [hMixInBwdRefIdeal : Cert.MixInBwdRefIdeal.Facts] [hPre_finite_mix_in : Cert.Pre_finite_mix_in.Facts] : Prop :=
  ∀ (m : (ℓ : Loc Cert.MixInBwdIdeal.nD Cert.MixInBwdIdeal.τ Cert.MixInBwdIdeal.sig) → Buf (Elt Ideal) ℓ) (g : Dev Cert.MixInBwdIdeal.nD → PrngReg)
    (m' : (ℓ : Loc Cert.MixInBwdRefIdeal.nD Cert.MixInBwdRefIdeal.τ Cert.MixInBwdRefIdeal.sig) → Buf (Elt Ideal) ℓ) (g' : Dev Cert.MixInBwdRefIdeal.nD → PrngReg), Pre_MixInBwdIdeal_finite_mix_in m →
    (∀ c : Dev Cert.MixInBwdIdeal.nD,
      m' ((c.tc : Thread Cert.MixInBwdRefIdeal.nD Cert.MixInBwdRefIdeal.τ).loc Cert.MixInBwdRefIdeal.main_arg0) = m ((c.tc : Thread Cert.MixInBwdIdeal.nD Cert.MixInBwdIdeal.τ).loc Cert.MixInBwdIdeal.main_arg0)
      ∧ m' ((c.tc : Thread Cert.MixInBwdRefIdeal.nD Cert.MixInBwdRefIdeal.τ).loc Cert.MixInBwdRefIdeal.main_arg1) = m ((c.tc : Thread Cert.MixInBwdIdeal.nD Cert.MixInBwdIdeal.τ).loc Cert.MixInBwdIdeal.main_arg1)
      ∧ m' ((c.tc : Thread Cert.MixInBwdRefIdeal.nD Cert.MixInBwdRefIdeal.τ).loc Cert.MixInBwdRefIdeal.main_arg2) = m ((c.tc : Thread Cert.MixInBwdIdeal.nD Cert.MixInBwdIdeal.τ).loc Cert.MixInBwdIdeal.main_arg2)
      ∧ m' ((c.tc : Thread Cert.MixInBwdRefIdeal.nD Cert.MixInBwdRefIdeal.τ).loc Cert.MixInBwdRefIdeal.main_arg3) = m ((c.tc : Thread Cert.MixInBwdIdeal.nD Cert.MixInBwdIdeal.τ).loc Cert.MixInBwdIdeal.main_arg3)
      ∧ m' ((c.tc : Thread Cert.MixInBwdRefIdeal.nD Cert.MixInBwdRefIdeal.τ).loc Cert.MixInBwdRefIdeal.main_arg4) = m ((c.tc : Thread Cert.MixInBwdIdeal.nD Cert.MixInBwdIdeal.τ).loc Cert.MixInBwdIdeal.main_arg4)
      ∧ m' ((c.tc : Thread Cert.MixInBwdRefIdeal.nD Cert.MixInBwdRefIdeal.τ).loc Cert.MixInBwdRefIdeal.main_arg5) = m ((c.tc : Thread Cert.MixInBwdIdeal.nD Cert.MixInBwdIdeal.τ).loc Cert.MixInBwdIdeal.main_arg5)
      ∧ m' ((c.tc : Thread Cert.MixInBwdRefIdeal.nD Cert.MixInBwdRefIdeal.τ).loc Cert.MixInBwdRefIdeal.main_arg6) = m ((c.tc : Thread Cert.MixInBwdIdeal.nD Cert.MixInBwdIdeal.τ).loc Cert.MixInBwdIdeal.main_arg6)) →
    ∃ (v0 : (c : Dev Cert.MixInBwdIdeal.nD) → Buf (Elt Ideal) ((c.tc : Thread Cert.MixInBwdIdeal.nD Cert.MixInBwdIdeal.τ).loc Cert.MixInBwdIdeal.main_v31_0)) (v1 : (c : Dev Cert.MixInBwdIdeal.nD) → Buf (Elt Ideal) ((c.tc : Thread Cert.MixInBwdIdeal.nD Cert.MixInBwdIdeal.τ).loc Cert.MixInBwdIdeal.main_v31_1)) (v2 : (c : Dev Cert.MixInBwdIdeal.nD) → Buf (Elt Ideal) ((c.tc : Thread Cert.MixInBwdIdeal.nD Cert.MixInBwdIdeal.τ).loc Cert.MixInBwdIdeal.main_v31_2)),
      θ_run (Cert.MixInBwdIdeal.defs (F := Ideal)) (onTc (τ := Cert.MixInBwdIdeal.τ) (Cert.MixInBwdIdeal.main (F := Ideal))) ⟨m, fun _ => 0, g⟩ (fun r => ∀ c : Dev Cert.MixInBwdIdeal.nD,
          r.2.mem ((c.tc : Thread Cert.MixInBwdIdeal.nD Cert.MixInBwdIdeal.τ).loc Cert.MixInBwdIdeal.main_v31_0) = v0 c
          ∧ r.2.mem ((c.tc : Thread Cert.MixInBwdIdeal.nD Cert.MixInBwdIdeal.τ).loc Cert.MixInBwdIdeal.main_v31_1) = v1 c
          ∧ r.2.mem ((c.tc : Thread Cert.MixInBwdIdeal.nD Cert.MixInBwdIdeal.τ).loc Cert.MixInBwdIdeal.main_v31_2) = v2 c
          ∧ r.2.mem ((c.tc : Thread Cert.MixInBwdIdeal.nD Cert.MixInBwdIdeal.τ).loc Cert.MixInBwdIdeal.main_arg0) = m ((c.tc : Thread Cert.MixInBwdIdeal.nD Cert.MixInBwdIdeal.τ).loc Cert.MixInBwdIdeal.main_arg0)
          ∧ r.2.mem ((c.tc : Thread Cert.MixInBwdIdeal.nD Cert.MixInBwdIdeal.τ).loc Cert.MixInBwdIdeal.main_arg1) = m ((c.tc : Thread Cert.MixInBwdIdeal.nD Cert.MixInBwdIdeal.τ).loc Cert.MixInBwdIdeal.main_arg1)
          ∧ r.2.mem ((c.tc : Thread Cert.MixInBwdIdeal.nD Cert.MixInBwdIdeal.τ).loc Cert.MixInBwdIdeal.main_arg2) = m ((c.tc : Thread Cert.MixInBwdIdeal.nD Cert.MixInBwdIdeal.τ).loc Cert.MixInBwdIdeal.main_arg2)
          ∧ r.2.mem ((c.tc : Thread Cert.MixInBwdIdeal.nD Cert.MixInBwdIdeal.τ).loc Cert.MixInBwdIdeal.main_arg3) = m ((c.tc : Thread Cert.MixInBwdIdeal.nD Cert.MixInBwdIdeal.τ).loc Cert.MixInBwdIdeal.main_arg3)
          ∧ r.2.mem ((c.tc : Thread Cert.MixInBwdIdeal.nD Cert.MixInBwdIdeal.τ).loc Cert.MixInBwdIdeal.main_arg4) = m ((c.tc : Thread Cert.MixInBwdIdeal.nD Cert.MixInBwdIdeal.τ).loc Cert.MixInBwdIdeal.main_arg4)
          ∧ r.2.mem ((c.tc : Thread Cert.MixInBwdIdeal.nD Cert.MixInBwdIdeal.τ).loc Cert.MixInBwdIdeal.main_arg5) = m ((c.tc : Thread Cert.MixInBwdIdeal.nD Cert.MixInBwdIdeal.τ).loc Cert.MixInBwdIdeal.main_arg5)
          ∧ r.2.mem ((c.tc : Thread Cert.MixInBwdIdeal.nD Cert.MixInBwdIdeal.τ).loc Cert.MixInBwdIdeal.main_arg6) = m ((c.tc : Thread Cert.MixInBwdIdeal.nD Cert.MixInBwdIdeal.τ).loc Cert.MixInBwdIdeal.main_arg6))
      ∧ θ_run (Cert.MixInBwdRefIdeal.defs (F := Ideal)) (onTc (τ := Cert.MixInBwdRefIdeal.τ) (Cert.MixInBwdRefIdeal.main (F := Ideal))) ⟨m', fun _ => 0, g'⟩ (fun r => ∀ c : Dev Cert.MixInBwdRefIdeal.nD,
          r.2.mem ((c.tc : Thread Cert.MixInBwdRefIdeal.nD Cert.MixInBwdRefIdeal.τ).loc Cert.MixInBwdRefIdeal.main_v512) = v0 c
          ∧ r.2.mem ((c.tc : Thread Cert.MixInBwdRefIdeal.nD Cert.MixInBwdRefIdeal.τ).loc Cert.MixInBwdRefIdeal.main_v513) = v1 c
          ∧ r.2.mem ((c.tc : Thread Cert.MixInBwdRefIdeal.nD Cert.MixInBwdRefIdeal.τ).loc Cert.MixInBwdRefIdeal.main_v514) = v2 c
          ∧ r.2.mem ((c.tc : Thread Cert.MixInBwdRefIdeal.nD Cert.MixInBwdRefIdeal.τ).loc Cert.MixInBwdRefIdeal.main_arg0) = m' ((c.tc : Thread Cert.MixInBwdRefIdeal.nD Cert.MixInBwdRefIdeal.τ).loc Cert.MixInBwdRefIdeal.main_arg0)
          ∧ r.2.mem ((c.tc : Thread Cert.MixInBwdRefIdeal.nD Cert.MixInBwdRefIdeal.τ).loc Cert.MixInBwdRefIdeal.main_arg1) = m' ((c.tc : Thread Cert.MixInBwdRefIdeal.nD Cert.MixInBwdRefIdeal.τ).loc Cert.MixInBwdRefIdeal.main_arg1)
          ∧ r.2.mem ((c.tc : Thread Cert.MixInBwdRefIdeal.nD Cert.MixInBwdRefIdeal.τ).loc Cert.MixInBwdRefIdeal.main_arg2) = m' ((c.tc : Thread Cert.MixInBwdRefIdeal.nD Cert.MixInBwdRefIdeal.τ).loc Cert.MixInBwdRefIdeal.main_arg2)
          ∧ r.2.mem ((c.tc : Thread Cert.MixInBwdRefIdeal.nD Cert.MixInBwdRefIdeal.τ).loc Cert.MixInBwdRefIdeal.main_arg3) = m' ((c.tc : Thread Cert.MixInBwdRefIdeal.nD Cert.MixInBwdRefIdeal.τ).loc Cert.MixInBwdRefIdeal.main_arg3)
          ∧ r.2.mem ((c.tc : Thread Cert.MixInBwdRefIdeal.nD Cert.MixInBwdRefIdeal.τ).loc Cert.MixInBwdRefIdeal.main_arg4) = m' ((c.tc : Thread Cert.MixInBwdRefIdeal.nD Cert.MixInBwdRefIdeal.τ).loc Cert.MixInBwdRefIdeal.main_arg4)
          ∧ r.2.mem ((c.tc : Thread Cert.MixInBwdRefIdeal.nD Cert.MixInBwdRefIdeal.τ).loc Cert.MixInBwdRefIdeal.main_arg5) = m' ((c.tc : Thread Cert.MixInBwdRefIdeal.nD Cert.MixInBwdRefIdeal.τ).loc Cert.MixInBwdRefIdeal.main_arg5)
          ∧ r.2.mem ((c.tc : Thread Cert.MixInBwdRefIdeal.nD Cert.MixInBwdRefIdeal.τ).loc Cert.MixInBwdRefIdeal.main_arg6) = m' ((c.tc : Thread Cert.MixInBwdRefIdeal.nD Cert.MixInBwdRefIdeal.τ).loc Cert.MixInBwdRefIdeal.main_arg6))

def preserves_MixOutBwd_MixOutBwdIdeal : Prop :=
  True

def algebraic_MixOutBwdIdeal_MixOutBwdRefIdeal_pre_finite_mix_out [hMixOutBwdIdeal : Cert.MixOutBwdIdeal.Facts] [hMixOutBwdRefIdeal : Cert.MixOutBwdRefIdeal.Facts] [hPre_finite_mix_out : Cert.Pre_finite_mix_out.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg)
    (m' : (ℓ : Loc Cert.MixOutBwdRefIdeal.nD Cert.MixOutBwdRefIdeal.τ Cert.MixOutBwdRefIdeal.sig) → Buf (Elt Ideal) ℓ) (g' : Dev Cert.MixOutBwdRefIdeal.nD → PrngReg), Pre_MixOutBwdIdeal_finite_mix_out m →
    (∀ c : Dev Cert.MixOutBwdIdeal.nD,
      m' ((c.tc : Thread Cert.MixOutBwdRefIdeal.nD Cert.MixOutBwdRefIdeal.τ).loc Cert.MixOutBwdRefIdeal.main_arg0) = m ((c.tc : Thread Cert.MixOutBwdIdeal.nD Cert.MixOutBwdIdeal.τ).loc Cert.MixOutBwdIdeal.main_arg0)
      ∧ m' ((c.tc : Thread Cert.MixOutBwdRefIdeal.nD Cert.MixOutBwdRefIdeal.τ).loc Cert.MixOutBwdRefIdeal.main_arg1) = m ((c.tc : Thread Cert.MixOutBwdIdeal.nD Cert.MixOutBwdIdeal.τ).loc Cert.MixOutBwdIdeal.main_arg1)
      ∧ m' ((c.tc : Thread Cert.MixOutBwdRefIdeal.nD Cert.MixOutBwdRefIdeal.τ).loc Cert.MixOutBwdRefIdeal.main_arg2) = m ((c.tc : Thread Cert.MixOutBwdIdeal.nD Cert.MixOutBwdIdeal.τ).loc Cert.MixOutBwdIdeal.main_arg2)
      ∧ m' ((c.tc : Thread Cert.MixOutBwdRefIdeal.nD Cert.MixOutBwdRefIdeal.τ).loc Cert.MixOutBwdRefIdeal.main_arg3) = m ((c.tc : Thread Cert.MixOutBwdIdeal.nD Cert.MixOutBwdIdeal.τ).loc Cert.MixOutBwdIdeal.main_arg3)
      ∧ m' ((c.tc : Thread Cert.MixOutBwdRefIdeal.nD Cert.MixOutBwdRefIdeal.τ).loc Cert.MixOutBwdRefIdeal.main_arg4) = m ((c.tc : Thread Cert.MixOutBwdIdeal.nD Cert.MixOutBwdIdeal.τ).loc Cert.MixOutBwdIdeal.main_arg4)
      ∧ m' ((c.tc : Thread Cert.MixOutBwdRefIdeal.nD Cert.MixOutBwdRefIdeal.τ).loc Cert.MixOutBwdRefIdeal.main_arg5) = m ((c.tc : Thread Cert.MixOutBwdIdeal.nD Cert.MixOutBwdIdeal.τ).loc Cert.MixOutBwdIdeal.main_arg5)
      ∧ m' ((c.tc : Thread Cert.MixOutBwdRefIdeal.nD Cert.MixOutBwdRefIdeal.τ).loc Cert.MixOutBwdRefIdeal.main_arg6) = m ((c.tc : Thread Cert.MixOutBwdIdeal.nD Cert.MixOutBwdIdeal.τ).loc Cert.MixOutBwdIdeal.main_arg6)
      ∧ m' ((c.tc : Thread Cert.MixOutBwdRefIdeal.nD Cert.MixOutBwdRefIdeal.τ).loc Cert.MixOutBwdRefIdeal.main_arg7) = m ((c.tc : Thread Cert.MixOutBwdIdeal.nD Cert.MixOutBwdIdeal.τ).loc Cert.MixOutBwdIdeal.main_arg7)
      ∧ m' ((c.tc : Thread Cert.MixOutBwdRefIdeal.nD Cert.MixOutBwdRefIdeal.τ).loc Cert.MixOutBwdRefIdeal.main_arg8) = m ((c.tc : Thread Cert.MixOutBwdIdeal.nD Cert.MixOutBwdIdeal.τ).loc Cert.MixOutBwdIdeal.main_arg8)
      ∧ m' ((c.tc : Thread Cert.MixOutBwdRefIdeal.nD Cert.MixOutBwdRefIdeal.τ).loc Cert.MixOutBwdRefIdeal.main_arg9) = m ((c.tc : Thread Cert.MixOutBwdIdeal.nD Cert.MixOutBwdIdeal.τ).loc Cert.MixOutBwdIdeal.main_arg9)
      ∧ m' ((c.tc : Thread Cert.MixOutBwdRefIdeal.nD Cert.MixOutBwdRefIdeal.τ).loc Cert.MixOutBwdRefIdeal.main_arg10) = m ((c.tc : Thread Cert.MixOutBwdIdeal.nD Cert.MixOutBwdIdeal.τ).loc Cert.MixOutBwdIdeal.main_arg10)
      ∧ m' ((c.tc : Thread Cert.MixOutBwdRefIdeal.nD Cert.MixOutBwdRefIdeal.τ).loc Cert.MixOutBwdRefIdeal.main_arg11) = m ((c.tc : Thread Cert.MixOutBwdIdeal.nD Cert.MixOutBwdIdeal.τ).loc Cert.MixOutBwdIdeal.main_arg11)) →
    ∃ (v0 : (c : Dev Cert.MixOutBwdIdeal.nD) → Buf (Elt Ideal) ((c.tc : Thread Cert.MixOutBwdIdeal.nD Cert.MixOutBwdIdeal.τ).loc Cert.MixOutBwdIdeal.main_v256_0)) (v1 : (c : Dev Cert.MixOutBwdIdeal.nD) → Buf (Elt Ideal) ((c.tc : Thread Cert.MixOutBwdIdeal.nD Cert.MixOutBwdIdeal.τ).loc Cert.MixOutBwdIdeal.main_v256_1)) (v2 : (c : Dev Cert.MixOutBwdIdeal.nD) → Buf (Elt Ideal) ((c.tc : Thread Cert.MixOutBwdIdeal.nD Cert.MixOutBwdIdeal.τ).loc Cert.MixOutBwdIdeal.main_v256_2)) (v3 : (c : Dev Cert.MixOutBwdIdeal.nD) → Buf (Elt Ideal) ((c.tc : Thread Cert.MixOutBwdIdeal.nD Cert.MixOutBwdIdeal.τ).loc Cert.MixOutBwdIdeal.main_v256_3)),
      θ_run (Cert.MixOutBwdIdeal.defs (F := Ideal)) (onTc (τ := Cert.MixOutBwdIdeal.τ) (Cert.MixOutBwdIdeal.main (F := Ideal))) ⟨m, fun _ => 0, g⟩ (fun r => ∀ c : Dev Cert.MixOutBwdIdeal.nD,
          r.2.mem ((c.tc : Thread Cert.MixOutBwdIdeal.nD Cert.MixOutBwdIdeal.τ).loc Cert.MixOutBwdIdeal.main_v256_0) = v0 c
          ∧ r.2.mem ((c.tc : Thread Cert.MixOutBwdIdeal.nD Cert.MixOutBwdIdeal.τ).loc Cert.MixOutBwdIdeal.main_v256_1) = v1 c
          ∧ r.2.mem ((c.tc : Thread Cert.MixOutBwdIdeal.nD Cert.MixOutBwdIdeal.τ).loc Cert.MixOutBwdIdeal.main_v256_2) = v2 c
          ∧ r.2.mem ((c.tc : Thread Cert.MixOutBwdIdeal.nD Cert.MixOutBwdIdeal.τ).loc Cert.MixOutBwdIdeal.main_v256_3) = v3 c
          ∧ r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
          ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
          ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
          ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3)
          ∧ r.2.mem ((c.tc : Thread Cert.MixOutBwdIdeal.nD Cert.MixOutBwdIdeal.τ).loc Cert.MixOutBwdIdeal.main_arg4) = m ((c.tc : Thread Cert.MixOutBwdIdeal.nD Cert.MixOutBwdIdeal.τ).loc Cert.MixOutBwdIdeal.main_arg4)
          ∧ r.2.mem ((c.tc : Thread Cert.MixOutBwdIdeal.nD Cert.MixOutBwdIdeal.τ).loc Cert.MixOutBwdIdeal.main_arg5) = m ((c.tc : Thread Cert.MixOutBwdIdeal.nD Cert.MixOutBwdIdeal.τ).loc Cert.MixOutBwdIdeal.main_arg5)
          ∧ r.2.mem ((c.tc : Thread Cert.MixOutBwdIdeal.nD Cert.MixOutBwdIdeal.τ).loc Cert.MixOutBwdIdeal.main_arg6) = m ((c.tc : Thread Cert.MixOutBwdIdeal.nD Cert.MixOutBwdIdeal.τ).loc Cert.MixOutBwdIdeal.main_arg6)
          ∧ r.2.mem ((c.tc : Thread Cert.MixOutBwdIdeal.nD Cert.MixOutBwdIdeal.τ).loc Cert.MixOutBwdIdeal.main_arg7) = m ((c.tc : Thread Cert.MixOutBwdIdeal.nD Cert.MixOutBwdIdeal.τ).loc Cert.MixOutBwdIdeal.main_arg7)
          ∧ r.2.mem ((c.tc : Thread Cert.MixOutBwdIdeal.nD Cert.MixOutBwdIdeal.τ).loc Cert.MixOutBwdIdeal.main_arg8) = m ((c.tc : Thread Cert.MixOutBwdIdeal.nD Cert.MixOutBwdIdeal.τ).loc Cert.MixOutBwdIdeal.main_arg8)
          ∧ r.2.mem ((c.tc : Thread Cert.MixOutBwdIdeal.nD Cert.MixOutBwdIdeal.τ).loc Cert.MixOutBwdIdeal.main_arg9) = m ((c.tc : Thread Cert.MixOutBwdIdeal.nD Cert.MixOutBwdIdeal.τ).loc Cert.MixOutBwdIdeal.main_arg9)
          ∧ r.2.mem ((c.tc : Thread Cert.MixOutBwdIdeal.nD Cert.MixOutBwdIdeal.τ).loc Cert.MixOutBwdIdeal.main_arg10) = m ((c.tc : Thread Cert.MixOutBwdIdeal.nD Cert.MixOutBwdIdeal.τ).loc Cert.MixOutBwdIdeal.main_arg10)
          ∧ r.2.mem ((c.tc : Thread Cert.MixOutBwdIdeal.nD Cert.MixOutBwdIdeal.τ).loc Cert.MixOutBwdIdeal.main_arg11) = m ((c.tc : Thread Cert.MixOutBwdIdeal.nD Cert.MixOutBwdIdeal.τ).loc Cert.MixOutBwdIdeal.main_arg11))
      ∧ θ_run (Cert.MixOutBwdRefIdeal.defs (F := Ideal)) (onTc (τ := Cert.MixOutBwdRefIdeal.τ) (Cert.MixOutBwdRefIdeal.main (F := Ideal))) ⟨m', fun _ => 0, g'⟩ (fun r => ∀ c : Dev Cert.MixOutBwdRefIdeal.nD,
          r.2.mem ((c.tc : Thread Cert.MixOutBwdRefIdeal.nD Cert.MixOutBwdRefIdeal.τ).loc Cert.MixOutBwdRefIdeal.main_v392) = v0 c
          ∧ r.2.mem ((c.tc : Thread Cert.MixOutBwdRefIdeal.nD Cert.MixOutBwdRefIdeal.τ).loc Cert.MixOutBwdRefIdeal.main_v646) = v1 c
          ∧ r.2.mem ((c.tc : Thread Cert.MixOutBwdRefIdeal.nD Cert.MixOutBwdRefIdeal.τ).loc Cert.MixOutBwdRefIdeal.main_v626) = v2 c
          ∧ r.2.mem ((c.tc : Thread Cert.MixOutBwdRefIdeal.nD Cert.MixOutBwdRefIdeal.τ).loc Cert.MixOutBwdRefIdeal.main_v653) = v3 c
          ∧ r.2.mem ((c.tc : Thread Cert.MixOutBwdRefIdeal.nD Cert.MixOutBwdRefIdeal.τ).loc Cert.MixOutBwdRefIdeal.main_arg0) = m' ((c.tc : Thread Cert.MixOutBwdRefIdeal.nD Cert.MixOutBwdRefIdeal.τ).loc Cert.MixOutBwdRefIdeal.main_arg0)
          ∧ r.2.mem ((c.tc : Thread Cert.MixOutBwdRefIdeal.nD Cert.MixOutBwdRefIdeal.τ).loc Cert.MixOutBwdRefIdeal.main_arg1) = m' ((c.tc : Thread Cert.MixOutBwdRefIdeal.nD Cert.MixOutBwdRefIdeal.τ).loc Cert.MixOutBwdRefIdeal.main_arg1)
          ∧ r.2.mem ((c.tc : Thread Cert.MixOutBwdRefIdeal.nD Cert.MixOutBwdRefIdeal.τ).loc Cert.MixOutBwdRefIdeal.main_arg2) = m' ((c.tc : Thread Cert.MixOutBwdRefIdeal.nD Cert.MixOutBwdRefIdeal.τ).loc Cert.MixOutBwdRefIdeal.main_arg2)
          ∧ r.2.mem ((c.tc : Thread Cert.MixOutBwdRefIdeal.nD Cert.MixOutBwdRefIdeal.τ).loc Cert.MixOutBwdRefIdeal.main_arg3) = m' ((c.tc : Thread Cert.MixOutBwdRefIdeal.nD Cert.MixOutBwdRefIdeal.τ).loc Cert.MixOutBwdRefIdeal.main_arg3)
          ∧ r.2.mem ((c.tc : Thread Cert.MixOutBwdRefIdeal.nD Cert.MixOutBwdRefIdeal.τ).loc Cert.MixOutBwdRefIdeal.main_arg4) = m' ((c.tc : Thread Cert.MixOutBwdRefIdeal.nD Cert.MixOutBwdRefIdeal.τ).loc Cert.MixOutBwdRefIdeal.main_arg4)
          ∧ r.2.mem ((c.tc : Thread Cert.MixOutBwdRefIdeal.nD Cert.MixOutBwdRefIdeal.τ).loc Cert.MixOutBwdRefIdeal.main_arg5) = m' ((c.tc : Thread Cert.MixOutBwdRefIdeal.nD Cert.MixOutBwdRefIdeal.τ).loc Cert.MixOutBwdRefIdeal.main_arg5)
          ∧ r.2.mem ((c.tc : Thread Cert.MixOutBwdRefIdeal.nD Cert.MixOutBwdRefIdeal.τ).loc Cert.MixOutBwdRefIdeal.main_arg6) = m' ((c.tc : Thread Cert.MixOutBwdRefIdeal.nD Cert.MixOutBwdRefIdeal.τ).loc Cert.MixOutBwdRefIdeal.main_arg6)
          ∧ r.2.mem ((c.tc : Thread Cert.MixOutBwdRefIdeal.nD Cert.MixOutBwdRefIdeal.τ).loc Cert.MixOutBwdRefIdeal.main_arg7) = m' ((c.tc : Thread Cert.MixOutBwdRefIdeal.nD Cert.MixOutBwdRefIdeal.τ).loc Cert.MixOutBwdRefIdeal.main_arg7)
          ∧ r.2.mem ((c.tc : Thread Cert.MixOutBwdRefIdeal.nD Cert.MixOutBwdRefIdeal.τ).loc Cert.MixOutBwdRefIdeal.main_arg8) = m' ((c.tc : Thread Cert.MixOutBwdRefIdeal.nD Cert.MixOutBwdRefIdeal.τ).loc Cert.MixOutBwdRefIdeal.main_arg8)
          ∧ r.2.mem ((c.tc : Thread Cert.MixOutBwdRefIdeal.nD Cert.MixOutBwdRefIdeal.τ).loc Cert.MixOutBwdRefIdeal.main_arg9) = m' ((c.tc : Thread Cert.MixOutBwdRefIdeal.nD Cert.MixOutBwdRefIdeal.τ).loc Cert.MixOutBwdRefIdeal.main_arg9)
          ∧ r.2.mem ((c.tc : Thread Cert.MixOutBwdRefIdeal.nD Cert.MixOutBwdRefIdeal.τ).loc Cert.MixOutBwdRefIdeal.main_arg10) = m' ((c.tc : Thread Cert.MixOutBwdRefIdeal.nD Cert.MixOutBwdRefIdeal.τ).loc Cert.MixOutBwdRefIdeal.main_arg10)
          ∧ r.2.mem ((c.tc : Thread Cert.MixOutBwdRefIdeal.nD Cert.MixOutBwdRefIdeal.τ).loc Cert.MixOutBwdRefIdeal.main_arg11) = m' ((c.tc : Thread Cert.MixOutBwdRefIdeal.nD Cert.MixOutBwdRefIdeal.τ).loc Cert.MixOutBwdRefIdeal.main_arg11))

def preserves_LossHead_LossHeadIdeal : Prop :=
  True

def algebraic_LossHeadIdeal_LossHeadRefIdeal_pre_finite_loss [hLossHeadIdeal : Cert.LossHeadIdeal.Facts] [hLossHeadRefIdeal : Cert.LossHeadRefIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_finite_loss m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)
      ∧ m' ((c.tc : Thread Cert.LossHeadRefIdeal.nD Cert.LossHeadRefIdeal.τ).loc Cert.LossHeadRefIdeal.main_arg5) = m ((c.tc : Thread Cert.LossHeadIdeal.nD Cert.LossHeadIdeal.τ).loc Cert.LossHeadIdeal.main_arg5)) →
    ∃ (v0 : (c : Dev Cert.LossHeadIdeal.nD) → Buf (Elt Ideal) ((c.tc : Thread Cert.LossHeadIdeal.nD Cert.LossHeadIdeal.τ).loc Cert.LossHeadIdeal.main_v7_0)) (v1 : (c : Dev Cert.LossHeadIdeal.nD) → Buf (Elt Ideal) ((c.tc : Thread Cert.LossHeadIdeal.nD Cert.LossHeadIdeal.τ).loc Cert.LossHeadIdeal.main_v7_1)) (v2 : (c : Dev Cert.LossHeadIdeal.nD) → Buf (Elt Ideal) ((c.tc : Thread Cert.LossHeadIdeal.nD Cert.LossHeadIdeal.τ).loc Cert.LossHeadIdeal.main_v7_2)) (v3 : (c : Dev Cert.LossHeadIdeal.nD) → Buf (Elt Ideal) ((c.tc : Thread Cert.LossHeadIdeal.nD Cert.LossHeadIdeal.τ).loc Cert.LossHeadIdeal.main_v7_3)) (v4 : (c : Dev Cert.LossHeadIdeal.nD) → Buf (Elt Ideal) ((c.tc : Thread Cert.LossHeadIdeal.nD Cert.LossHeadIdeal.τ).loc Cert.LossHeadIdeal.main_v7_4)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v7_0) = v0 c
          ∧ r.2.mem ((c.tc : Thread Cert.LossHeadIdeal.nD Cert.LossHeadIdeal.τ).loc Cert.LossHeadIdeal.main_v7_1) = v1 c
          ∧ r.2.mem ((c.tc : Thread Cert.LossHeadIdeal.nD Cert.LossHeadIdeal.τ).loc Cert.LossHeadIdeal.main_v7_2) = v2 c
          ∧ r.2.mem ((c.tc : Thread Cert.LossHeadIdeal.nD Cert.LossHeadIdeal.τ).loc Cert.LossHeadIdeal.main_v7_3) = v3 c
          ∧ r.2.mem ((c.tc : Thread Cert.LossHeadIdeal.nD Cert.LossHeadIdeal.τ).loc Cert.LossHeadIdeal.main_v7_4) = v4 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
          ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v72) = v0 c
          ∧ r.2.mem ((c.tc : Thread Cert.LossHeadRefIdeal.nD Cert.LossHeadRefIdeal.τ).loc Cert.LossHeadRefIdeal.main_v73) = v1 c
          ∧ r.2.mem ((c.tc : Thread Cert.LossHeadRefIdeal.nD Cert.LossHeadRefIdeal.τ).loc Cert.LossHeadRefIdeal.main_v74) = v2 c
          ∧ r.2.mem ((c.tc : Thread Cert.LossHeadRefIdeal.nD Cert.LossHeadRefIdeal.τ).loc Cert.LossHeadRefIdeal.main_v75) = v3 c
          ∧ r.2.mem ((c.tc : Thread Cert.LossHeadRefIdeal.nD Cert.LossHeadRefIdeal.τ).loc Cert.LossHeadRefIdeal.main_v76) = v4 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4)
          ∧ r.2.mem ((c.tc : Thread Cert.LossHeadRefIdeal.nD Cert.LossHeadRefIdeal.τ).loc Cert.LossHeadRefIdeal.main_arg5) = m' ((c.tc : Thread Cert.LossHeadRefIdeal.nD Cert.LossHeadRefIdeal.τ).loc Cert.LossHeadRefIdeal.main_arg5))

def preserves_SguFwd_SguFwdIdeal : Prop :=
  IdealRules.named_const.Statement Cert.SguFwdIdeal.κ "sqrt_half" .f32 0x3F3504F3#32 (((Real.sqrt 2)⁻¹ : ℝ) : EReal)

def algebraic_SguFwdIdeal_SguFwdRefIdeal_pre_finite_sgu_fwd [hSguFwdIdeal : Cert.SguFwdIdeal.Facts] [hSguFwdRefIdeal : Cert.SguFwdRefIdeal.Facts] [hPre_finite_sgu_fwd : Cert.Pre_finite_sgu_fwd.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal_finite_sgu_fwd m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)
      ∧ m' ((c.tc : Thread Cert.SguFwdRefIdeal.nD Cert.SguFwdRefIdeal.τ).loc Cert.SguFwdRefIdeal.main_arg5) = m ((c.tc : Thread Cert.SguFwdIdeal.nD Cert.SguFwdIdeal.τ).loc Cert.SguFwdIdeal.main_arg5)
      ∧ m' ((c.tc : Thread Cert.SguFwdRefIdeal.nD Cert.SguFwdRefIdeal.τ).loc Cert.SguFwdRefIdeal.main_arg6) = m ((c.tc : Thread Cert.SguFwdIdeal.nD Cert.SguFwdIdeal.τ).loc Cert.SguFwdIdeal.main_arg6)
      ∧ m' ((c.tc : Thread Cert.SguFwdRefIdeal.nD Cert.SguFwdRefIdeal.τ).loc Cert.SguFwdRefIdeal.main_arg7) = m ((c.tc : Thread Cert.SguFwdIdeal.nD Cert.SguFwdIdeal.τ).loc Cert.SguFwdIdeal.main_arg7)) →
    ∃ (v0 : (c : Dev Cert.SguFwdIdeal.nD) → Buf (Elt Ideal) ((c.tc : Thread Cert.SguFwdIdeal.nD Cert.SguFwdIdeal.τ).loc Cert.SguFwdIdeal.main_v21_0)) (v1 : (c : Dev Cert.SguFwdIdeal.nD) → Buf (Elt Ideal) ((c.tc : Thread Cert.SguFwdIdeal.nD Cert.SguFwdIdeal.τ).loc Cert.SguFwdIdeal.main_v21_1)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v21_0) = v0 c
          ∧ r.2.mem ((c.tc : Thread Cert.SguFwdIdeal.nD Cert.SguFwdIdeal.τ).loc Cert.SguFwdIdeal.main_v21_1) = v1 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4)
          ∧ r.2.mem ((c.tc : Thread Cert.SguFwdIdeal.nD Cert.SguFwdIdeal.τ).loc Cert.SguFwdIdeal.main_arg5) = m ((c.tc : Thread Cert.SguFwdIdeal.nD Cert.SguFwdIdeal.τ).loc Cert.SguFwdIdeal.main_arg5)
          ∧ r.2.mem ((c.tc : Thread Cert.SguFwdIdeal.nD Cert.SguFwdIdeal.τ).loc Cert.SguFwdIdeal.main_arg6) = m ((c.tc : Thread Cert.SguFwdIdeal.nD Cert.SguFwdIdeal.τ).loc Cert.SguFwdIdeal.main_arg6)
          ∧ r.2.mem ((c.tc : Thread Cert.SguFwdIdeal.nD Cert.SguFwdIdeal.τ).loc Cert.SguFwdIdeal.main_arg7) = m ((c.tc : Thread Cert.SguFwdIdeal.nD Cert.SguFwdIdeal.τ).loc Cert.SguFwdIdeal.main_arg7))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v63) = v0 c
          ∧ r.2.mem ((c.tc : Thread Cert.SguFwdRefIdeal.nD Cert.SguFwdRefIdeal.τ).loc Cert.SguFwdRefIdeal.main_v64) = v1 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4)
          ∧ r.2.mem ((c.tc : Thread Cert.SguFwdRefIdeal.nD Cert.SguFwdRefIdeal.τ).loc Cert.SguFwdRefIdeal.main_arg5) = m' ((c.tc : Thread Cert.SguFwdRefIdeal.nD Cert.SguFwdRefIdeal.τ).loc Cert.SguFwdRefIdeal.main_arg5)
          ∧ r.2.mem ((c.tc : Thread Cert.SguFwdRefIdeal.nD Cert.SguFwdRefIdeal.τ).loc Cert.SguFwdRefIdeal.main_arg6) = m' ((c.tc : Thread Cert.SguFwdRefIdeal.nD Cert.SguFwdRefIdeal.τ).loc Cert.SguFwdRefIdeal.main_arg6)
          ∧ r.2.mem ((c.tc : Thread Cert.SguFwdRefIdeal.nD Cert.SguFwdRefIdeal.τ).loc Cert.SguFwdRefIdeal.main_arg7) = m' ((c.tc : Thread Cert.SguFwdRefIdeal.nD Cert.SguFwdRefIdeal.τ).loc Cert.SguFwdRefIdeal.main_arg7))

def preserves_FfnFwd_FfnFwdIdeal : Prop :=
  True

def algebraic_FfnFwdIdeal_FfnFwdRefIdeal_pre_finite_ffn_fwd [hFfnFwdIdeal : Cert.FfnFwdIdeal.Facts] [hFfnFwdRefIdeal : Cert.FfnFwdRefIdeal.Facts] [hPre_finite_ffn_fwd : Cert.Pre_finite_ffn_fwd.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_finite_ffn_fwd m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v6_0)) (v1 : (c : Dev Cert.FfnFwdIdeal.nD) → Buf (Elt Ideal) ((c.tc : Thread Cert.FfnFwdIdeal.nD Cert.FfnFwdIdeal.τ).loc Cert.FfnFwdIdeal.main_v6_1)) (v2 : (c : Dev Cert.FfnFwdIdeal.nD) → Buf (Elt Ideal) ((c.tc : Thread Cert.FfnFwdIdeal.nD Cert.FfnFwdIdeal.τ).loc Cert.FfnFwdIdeal.main_v6_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6_0) = v0 c
          ∧ r.2.mem ((c.tc : Thread Cert.FfnFwdIdeal.nD Cert.FfnFwdIdeal.τ).loc Cert.FfnFwdIdeal.main_v6_1) = v1 c
          ∧ r.2.mem ((c.tc : Thread Cert.FfnFwdIdeal.nD Cert.FfnFwdIdeal.τ).loc Cert.FfnFwdIdeal.main_v6_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v21) = v0 c
          ∧ r.2.mem ((c.tc : Thread Cert.FfnFwdRefIdeal.nD Cert.FfnFwdRefIdeal.τ).loc Cert.FfnFwdRefIdeal.main_v22) = v1 c
          ∧ r.2.mem ((c.tc : Thread Cert.FfnFwdRefIdeal.nD Cert.FfnFwdRefIdeal.τ).loc Cert.FfnFwdRefIdeal.main_v23) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_MixFwd_MixFwdIdeal : Prop :=
  True

def algebraic_MixFwdIdeal_MixFwdRefIdeal_pre_finite_mix_fwd [hMixFwdIdeal : Cert.MixFwdIdeal.Facts] [hMixFwdRefIdeal : Cert.MixFwdRefIdeal.Facts] [hPre_finite_mix_fwd : Cert.Pre_finite_mix_fwd.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal_finite_mix_fwd m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)
      ∧ m' ((c.tc : Thread Cert.MixFwdRefIdeal.nD Cert.MixFwdRefIdeal.τ).loc Cert.MixFwdRefIdeal.main_arg7) = m ((c.tc : Thread Cert.MixFwdIdeal.nD Cert.MixFwdIdeal.τ).loc Cert.MixFwdIdeal.main_arg7)
      ∧ m' ((c.tc : Thread Cert.MixFwdRefIdeal.nD Cert.MixFwdRefIdeal.τ).loc Cert.MixFwdRefIdeal.main_arg8) = m ((c.tc : Thread Cert.MixFwdIdeal.nD Cert.MixFwdIdeal.τ).loc Cert.MixFwdIdeal.main_arg8)
      ∧ m' ((c.tc : Thread Cert.MixFwdRefIdeal.nD Cert.MixFwdRefIdeal.τ).loc Cert.MixFwdRefIdeal.main_arg9) = m ((c.tc : Thread Cert.MixFwdIdeal.nD Cert.MixFwdIdeal.τ).loc Cert.MixFwdIdeal.main_arg9)
      ∧ m' ((c.tc : Thread Cert.MixFwdRefIdeal.nD Cert.MixFwdRefIdeal.τ).loc Cert.MixFwdRefIdeal.main_arg10) = m ((c.tc : Thread Cert.MixFwdIdeal.nD Cert.MixFwdIdeal.τ).loc Cert.MixFwdIdeal.main_arg10)) →
    ∃ (v0 : (c : Dev Cert.MixFwdIdeal.nD) → Buf (Elt Ideal) ((c.tc : Thread Cert.MixFwdIdeal.nD Cert.MixFwdIdeal.τ).loc Cert.MixFwdIdeal.main_v23_0)) (v1 : (c : Dev Cert.MixFwdIdeal.nD) → Buf (Elt Ideal) ((c.tc : Thread Cert.MixFwdIdeal.nD Cert.MixFwdIdeal.τ).loc Cert.MixFwdIdeal.main_v23_1)) (v2 : (c : Dev Cert.MixFwdIdeal.nD) → Buf (Elt Ideal) ((c.tc : Thread Cert.MixFwdIdeal.nD Cert.MixFwdIdeal.τ).loc Cert.MixFwdIdeal.main_v23_2)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v23_0) = v0 c
          ∧ r.2.mem ((c.tc : Thread Cert.MixFwdIdeal.nD Cert.MixFwdIdeal.τ).loc Cert.MixFwdIdeal.main_v23_1) = v1 c
          ∧ r.2.mem ((c.tc : Thread Cert.MixFwdIdeal.nD Cert.MixFwdIdeal.τ).loc Cert.MixFwdIdeal.main_v23_2) = v2 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6)
          ∧ r.2.mem ((c.tc : Thread Cert.MixFwdIdeal.nD Cert.MixFwdIdeal.τ).loc Cert.MixFwdIdeal.main_arg7) = m ((c.tc : Thread Cert.MixFwdIdeal.nD Cert.MixFwdIdeal.τ).loc Cert.MixFwdIdeal.main_arg7)
          ∧ r.2.mem ((c.tc : Thread Cert.MixFwdIdeal.nD Cert.MixFwdIdeal.τ).loc Cert.MixFwdIdeal.main_arg8) = m ((c.tc : Thread Cert.MixFwdIdeal.nD Cert.MixFwdIdeal.τ).loc Cert.MixFwdIdeal.main_arg8)
          ∧ r.2.mem ((c.tc : Thread Cert.MixFwdIdeal.nD Cert.MixFwdIdeal.τ).loc Cert.MixFwdIdeal.main_arg9) = m ((c.tc : Thread Cert.MixFwdIdeal.nD Cert.MixFwdIdeal.τ).loc Cert.MixFwdIdeal.main_arg9)
          ∧ r.2.mem ((c.tc : Thread Cert.MixFwdIdeal.nD Cert.MixFwdIdeal.τ).loc Cert.MixFwdIdeal.main_arg10) = m ((c.tc : Thread Cert.MixFwdIdeal.nD Cert.MixFwdIdeal.τ).loc Cert.MixFwdIdeal.main_arg10))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v341) = v0 c
          ∧ r.2.mem ((c.tc : Thread Cert.MixFwdRefIdeal.nD Cert.MixFwdRefIdeal.τ).loc Cert.MixFwdRefIdeal.main_v342) = v1 c
          ∧ r.2.mem ((c.tc : Thread Cert.MixFwdRefIdeal.nD Cert.MixFwdRefIdeal.τ).loc Cert.MixFwdRefIdeal.main_v313) = v2 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6)
          ∧ r.2.mem ((c.tc : Thread Cert.MixFwdRefIdeal.nD Cert.MixFwdRefIdeal.τ).loc Cert.MixFwdRefIdeal.main_arg7) = m' ((c.tc : Thread Cert.MixFwdRefIdeal.nD Cert.MixFwdRefIdeal.τ).loc Cert.MixFwdRefIdeal.main_arg7)
          ∧ r.2.mem ((c.tc : Thread Cert.MixFwdRefIdeal.nD Cert.MixFwdRefIdeal.τ).loc Cert.MixFwdRefIdeal.main_arg8) = m' ((c.tc : Thread Cert.MixFwdRefIdeal.nD Cert.MixFwdRefIdeal.τ).loc Cert.MixFwdRefIdeal.main_arg8)
          ∧ r.2.mem ((c.tc : Thread Cert.MixFwdRefIdeal.nD Cert.MixFwdRefIdeal.τ).loc Cert.MixFwdRefIdeal.main_arg9) = m' ((c.tc : Thread Cert.MixFwdRefIdeal.nD Cert.MixFwdRefIdeal.τ).loc Cert.MixFwdRefIdeal.main_arg9)
          ∧ r.2.mem ((c.tc : Thread Cert.MixFwdRefIdeal.nD Cert.MixFwdRefIdeal.τ).loc Cert.MixFwdRefIdeal.main_arg10) = m' ((c.tc : Thread Cert.MixFwdRefIdeal.nD Cert.MixFwdRefIdeal.τ).loc Cert.MixFwdRefIdeal.main_arg10))

def Claim : Prop :=
  ∃ (hFfnBwd : Cert.FfnBwd.Facts) (hFfnBwdIdeal : Cert.FfnBwdIdeal.Facts) (hFfnBwdRefIdeal : Cert.FfnBwdRefIdeal.Facts) (hSguBwd : Cert.SguBwd.Facts) (hSguBwdIdeal : Cert.SguBwdIdeal.Facts) (hSguBwdRefIdeal : Cert.SguBwdRefIdeal.Facts) (hMixInBwd : Cert.MixInBwd.Facts) (hMixInBwdIdeal : Cert.MixInBwdIdeal.Facts) (hMixInBwdRefIdeal : Cert.MixInBwdRefIdeal.Facts) (hMixOutBwd : Cert.MixOutBwd.Facts) (hMixOutBwdIdeal : Cert.MixOutBwdIdeal.Facts) (hMixOutBwdRefIdeal : Cert.MixOutBwdRefIdeal.Facts) (hLossHead : Cert.LossHead.Facts) (hLossHeadIdeal : Cert.LossHeadIdeal.Facts) (hLossHeadRefIdeal : Cert.LossHeadRefIdeal.Facts) (hSguFwd : Cert.SguFwd.Facts) (hSguFwdIdeal : Cert.SguFwdIdeal.Facts) (hSguFwdRefIdeal : Cert.SguFwdRefIdeal.Facts) (hFfnFwd : Cert.FfnFwd.Facts) (hFfnFwdIdeal : Cert.FfnFwdIdeal.Facts) (hFfnFwdRefIdeal : Cert.FfnFwdRefIdeal.Facts) (hMixFwd : Cert.MixFwd.Facts) (hMixFwdIdeal : Cert.MixFwdIdeal.Facts) (hMixFwdRefIdeal : Cert.MixFwdRefIdeal.Facts) (hPre_finite_ffn : Cert.Pre_finite_ffn.Facts) (hPre_finite_sgu : Cert.Pre_finite_sgu.Facts) (hPre_finite_mix_in : Cert.Pre_finite_mix_in.Facts) (hPre_finite_mix_out : Cert.Pre_finite_mix_out.Facts) (hPre_finite_loss : Cert.Pre_finite_loss.Facts) (hPre_finite_sgu_fwd : Cert.Pre_finite_sgu_fwd.Facts) (hPre_finite_ffn_fwd : Cert.Pre_finite_ffn_fwd.Facts) (hPre_finite_mix_fwd : Cert.Pre_finite_mix_fwd.Facts),
    quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ quiescent_SguBwd (hSguBwd := hSguBwd)
    ∧ quiescent_SguBwdIdeal (hSguBwdIdeal := hSguBwdIdeal)
    ∧ quiescent_SguBwdIdeal_pre_finite_sgu (hSguBwdIdeal := hSguBwdIdeal) (hPre_finite_sgu := hPre_finite_sgu)
    ∧ quiescent_SguBwdRefIdeal (hSguBwdRefIdeal := hSguBwdRefIdeal)
    ∧ quiescent_SguBwdRefIdeal_pre_finite_sgu (hSguBwdRefIdeal := hSguBwdRefIdeal) (hPre_finite_sgu := hPre_finite_sgu)
    ∧ quiescent_MixInBwd (hMixInBwd := hMixInBwd)
    ∧ quiescent_MixInBwdIdeal (hMixInBwdIdeal := hMixInBwdIdeal)
    ∧ quiescent_MixInBwdIdeal_pre_finite_mix_in (hMixInBwdIdeal := hMixInBwdIdeal) (hPre_finite_mix_in := hPre_finite_mix_in)
    ∧ quiescent_MixInBwdRefIdeal (hMixInBwdRefIdeal := hMixInBwdRefIdeal)
    ∧ quiescent_MixInBwdRefIdeal_pre_finite_mix_in (hMixInBwdRefIdeal := hMixInBwdRefIdeal) (hPre_finite_mix_in := hPre_finite_mix_in)
    ∧ quiescent_MixOutBwd (hMixOutBwd := hMixOutBwd)
    ∧ quiescent_MixOutBwdIdeal (hMixOutBwdIdeal := hMixOutBwdIdeal)
    ∧ quiescent_MixOutBwdIdeal_pre_finite_mix_out (hMixOutBwdIdeal := hMixOutBwdIdeal) (hPre_finite_mix_out := hPre_finite_mix_out)
    ∧ quiescent_MixOutBwdRefIdeal (hMixOutBwdRefIdeal := hMixOutBwdRefIdeal)
    ∧ quiescent_MixOutBwdRefIdeal_pre_finite_mix_out (hMixOutBwdRefIdeal := hMixOutBwdRefIdeal) (hPre_finite_mix_out := hPre_finite_mix_out)
    ∧ quiescent_LossHead (hLossHead := hLossHead)
    ∧ quiescent_LossHeadIdeal (hLossHeadIdeal := hLossHeadIdeal)
    ∧ quiescent_LossHeadIdeal_pre_finite_loss (hLossHeadIdeal := hLossHeadIdeal) (hPre_finite_loss := hPre_finite_loss)
    ∧ quiescent_LossHeadRefIdeal (hLossHeadRefIdeal := hLossHeadRefIdeal)
    ∧ quiescent_LossHeadRefIdeal_pre_finite_loss (hLossHeadRefIdeal := hLossHeadRefIdeal) (hPre_finite_loss := hPre_finite_loss)
    ∧ quiescent_SguFwd (hSguFwd := hSguFwd)
    ∧ quiescent_SguFwdIdeal (hSguFwdIdeal := hSguFwdIdeal)
    ∧ quiescent_SguFwdIdeal_pre_finite_sgu_fwd (hSguFwdIdeal := hSguFwdIdeal) (hPre_finite_sgu_fwd := hPre_finite_sgu_fwd)
    ∧ quiescent_SguFwdRefIdeal (hSguFwdRefIdeal := hSguFwdRefIdeal)
    ∧ quiescent_SguFwdRefIdeal_pre_finite_sgu_fwd (hSguFwdRefIdeal := hSguFwdRefIdeal) (hPre_finite_sgu_fwd := hPre_finite_sgu_fwd)
    ∧ quiescent_FfnFwd (hFfnFwd := hFfnFwd)
    ∧ quiescent_FfnFwdIdeal (hFfnFwdIdeal := hFfnFwdIdeal)
    ∧ quiescent_FfnFwdIdeal_pre_finite_ffn_fwd (hFfnFwdIdeal := hFfnFwdIdeal) (hPre_finite_ffn_fwd := hPre_finite_ffn_fwd)
    ∧ quiescent_FfnFwdRefIdeal (hFfnFwdRefIdeal := hFfnFwdRefIdeal)
    ∧ quiescent_FfnFwdRefIdeal_pre_finite_ffn_fwd (hFfnFwdRefIdeal := hFfnFwdRefIdeal) (hPre_finite_ffn_fwd := hPre_finite_ffn_fwd)
    ∧ quiescent_MixFwd (hMixFwd := hMixFwd)
    ∧ quiescent_MixFwdIdeal (hMixFwdIdeal := hMixFwdIdeal)
    ∧ quiescent_MixFwdIdeal_pre_finite_mix_fwd (hMixFwdIdeal := hMixFwdIdeal) (hPre_finite_mix_fwd := hPre_finite_mix_fwd)
    ∧ quiescent_MixFwdRefIdeal (hMixFwdRefIdeal := hMixFwdRefIdeal)
    ∧ quiescent_MixFwdRefIdeal_pre_finite_mix_fwd (hMixFwdRefIdeal := hMixFwdRefIdeal) (hPre_finite_mix_fwd := hPre_finite_mix_fwd)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
    ∧ preserves_SguBwd_SguBwdIdeal
    ∧ algebraic_SguBwdIdeal_SguBwdRefIdeal_pre_finite_sgu (hSguBwdIdeal := hSguBwdIdeal) (hSguBwdRefIdeal := hSguBwdRefIdeal) (hPre_finite_sgu := hPre_finite_sgu)
    ∧ preserves_MixInBwd_MixInBwdIdeal
    ∧ algebraic_MixInBwdIdeal_MixInBwdRefIdeal_pre_finite_mix_in (hMixInBwdIdeal := hMixInBwdIdeal) (hMixInBwdRefIdeal := hMixInBwdRefIdeal) (hPre_finite_mix_in := hPre_finite_mix_in)
    ∧ preserves_MixOutBwd_MixOutBwdIdeal
    ∧ algebraic_MixOutBwdIdeal_MixOutBwdRefIdeal_pre_finite_mix_out (hMixOutBwdIdeal := hMixOutBwdIdeal) (hMixOutBwdRefIdeal := hMixOutBwdRefIdeal) (hPre_finite_mix_out := hPre_finite_mix_out)
    ∧ preserves_LossHead_LossHeadIdeal
    ∧ algebraic_LossHeadIdeal_LossHeadRefIdeal_pre_finite_loss (hLossHeadIdeal := hLossHeadIdeal) (hLossHeadRefIdeal := hLossHeadRefIdeal) (hPre_finite_loss := hPre_finite_loss)
    ∧ preserves_SguFwd_SguFwdIdeal
    ∧ algebraic_SguFwdIdeal_SguFwdRefIdeal_pre_finite_sgu_fwd (hSguFwdIdeal := hSguFwdIdeal) (hSguFwdRefIdeal := hSguFwdRefIdeal) (hPre_finite_sgu_fwd := hPre_finite_sgu_fwd)
    ∧ preserves_FfnFwd_FfnFwdIdeal
    ∧ algebraic_FfnFwdIdeal_FfnFwdRefIdeal_pre_finite_ffn_fwd (hFfnFwdIdeal := hFfnFwdIdeal) (hFfnFwdRefIdeal := hFfnFwdRefIdeal) (hPre_finite_ffn_fwd := hPre_finite_ffn_fwd)
    ∧ preserves_MixFwd_MixFwdIdeal
    ∧ algebraic_MixFwdIdeal_MixFwdRefIdeal_pre_finite_mix_fwd (hMixFwdIdeal := hMixFwdIdeal) (hMixFwdRefIdeal := hMixFwdRefIdeal) (hPre_finite_mix_fwd := hPre_finite_mix_fwd)
-- ==== Pre_finite_ffn.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S1024x5632 .f32) (main_arg3 : FVec F S2816x1024 .f32) (main_arg4 : FVec F S8192x1024 .f32) : IVec S8192x1024 1 × IVec S1024 1 × IVec S1024x5632 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite_ffn_fwd.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S1024x5632 .f32) (main_arg3 : FVec F S2816x1024 .f32) : IVec S8192x1024 1 × IVec S1024 1 × IVec S1024x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  (main_v2, main_v5, main_v8, main_v11)
-- ==== Pre_finite_loss.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S1024x5632 .f32) (main_arg3 : FVec F S2816x1024 .f32) (main_arg4 : FVec F S8192x1024 .f32) (main_arg5 : FVec F S1024 .f32) : IVec S8192x1024 1 × IVec S1024 1 × IVec S1024x5632 1 × IVec S2816x1024 1 × IVec S8192x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite_mix_fwd.lean ====
abbrev S8192x1024 : Shape := ⟨2, ![8192, 1024]⟩
abbrev S1024 : Shape := ⟨1, ![1024]⟩
abbrev S1024x1536 : Shape := ⟨2, ![1024, 1536]⟩
abbrev S4x128x128 : Shape := ⟨3, ![4, 128, 128]⟩
abbrev S4x128 : Shape := ⟨2, ![4, 128]⟩
abbrev S512 : Shape := ⟨1, ![512]⟩
abbrev S31x512 : Shape := ⟨2, ![31, 512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1536 : S_.BroadcastsInDim S1024x1536 (![] : Fin 0 → Fin S1024x1536.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S512 : S_.BroadcastsInDim S512 (![] : Fin 0 → Fin S512.rank)
  bcast_S_S31x512 : S_.BroadcastsInDim S31x512 (![] : Fin 0 → Fin S31x512.rank)
  bcast_S_S1024x1024 : S_.BroadcastsInDim S1024x1024 (![] : Fin 0 → Fin S1024x1024.rank)

variable [Facts]

def fn_part1 {F : FTy → Type} [FloatOps F] (main_arg6 : FVec F S31x512 .f32) (main_arg7 : FVec F S512 .f32) (main_arg8 : FVec F S512 .f32) (main_arg9 : FVec F S512 .f32) (main_arg10 : FVec F S1024x1024 .f32) (main_v2 : IVec S8192x1024 1) (main_v5 : IVec S1024 1) (main_v8 : IVec S1024x1536 1) (main_v11 : IVec S4x128x128 1) (main_v14 : IVec S4x128 1) (main_v17 : IVec S512 1) : IVec S8192x1024 1 × IVec S1024 1 × IVec S1024x1536 1 × IVec S4x128x128 1 × IVec S4x128 1 × IVec S512 1 × IVec S31x512 1 × IVec S512 1 × IVec S512 1 × IVec S512 1 × IVec S1024x1024 1 :=
  let main_v18 : FVec F S31x512 .f32 := Host.absf main_arg6
  let main_cst_5 : FVec F S_ .f32 := constant S_ .f32 0x7F800000#32
  let main_v19 : FVec F S31x512 .f32 := broadcastInDim S31x512 ![] bcast_S_S31x512 main_cst_5
  let main_v20 : IVec S31x512 1 := cmpf .olt main_v18 main_v19
  let main_v21 : FVec F S512 .f32 := Host.absf main_arg7
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  let main_v24 : FVec F S512 .f32 := Host.absf main_arg8
  let main_cst_7 : FVec F S_ .f32 := constant S_ .f32 0x7F800000#32
  let main_v25 : FVec F S512 .f32 := broadcastInDim S512 ![] bcast_S_S512 main_cst_7
  let main_v26 : IVec S512 1 := cmpf .olt main_v24 main_v25
  let main_v27 : FVec F S512 .f32 := Host.absf main_arg9
  let main_cst_8 : FVec F S_ .f32 := constant S_ .f32 0x7F800000#32
  let main_v28 : FVec F S512 .f32 := broadcastInDim S512 ![] bcast_S_S512 main_cst_8
  let main_v29 : IVec S512 1 := cmpf .olt main_v27 main_v28
  let main_v30 : FVec F S1024x1024 .f32 := Host.absf main_arg10
  let main_cst_9 : FVec F S_ .f32 := constant S_ .f32 0x7F800000#32
  let main_v31 : FVec F S1024x1024 .f32 := broadcastInDim S1024x1024 ![] bcast_S_S1024x1024 main_cst_9
  let main_v32 : IVec S1024x1024 1 := cmpf .olt main_v30 main_v31
  (main_v2, main_v5, main_v8, main_v11, main_v14, main_v17, main_v20, main_v23, main_v26, main_v29, main_v32)

def fn {F : FTy → Type} [FloatOps F] (main_arg0 : FVec F S8192x1024 .f32) (main_arg1 : FVec F S1024 .f32) (main_arg2 : FVec F S1024x1536 .f32) (main_arg3 : FVec F S4x128x128 .f32) (main_arg4 : FVec F S4x128 .f32) (main_arg5 : FVec F S512 .f32) (main_arg6 : FVec F S31x512 .f32) (main_arg7 : FVec F S512 .f32) (main_arg8 : FVec F S512 .f32) (main_arg9 : FVec F S512 .f32) (main_arg10 : FVec F S1024x1024 .f32) : IVec S8192x1024 1 × IVec S1024 1 × IVec S1024x1536 1 × IVec S4x128x128 1 × IVec S4x128 1 × IVec S512 1 × IVec S31x512 1 × IVec S512 1 × IVec S512 1 × IVec S512 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1536 .f32 := Host.absf main_arg2
  let main_cst_1 : FVec F S_ .f32 := constant S_ .f32 0x7F800000#32
  let main_v7 : FVec F S1024x1536 .f32 := broadcastInDim S1024x1536 ![] bcast_S_S1024x1536 main_cst_1
  let main_v8 : IVec S1024x1536 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S4x128 .f32 := Host.absf main_arg4
  let main_cst_3 : FVec F S_ .f32 := constant S_ .f32 0x7F800000#32
  let main_v13 : FVec F S4x128 .f32 := broadcastInDim S4x128 ![] bcast_S_S4x128 main_cst_3
  let main_v14 : IVec S4x128 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_arg7 main_arg8 main_arg9 main_arg10 main_v2 main_v5 main_v8 main_v11 main_v14 main_v17
-- ==== Pre_finite_mix_in.lean ====
abbrev S8192x1024 : Shape := ⟨2, ![8192, 1024]⟩
abbrev S1024 : Shape := ⟨1, ![1024]⟩
abbrev S1024x1536 : Shape := ⟨2, ![1024, 1536]⟩
abbrev S31x512 : Shape := ⟨2, ![31, 512]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1536 : S_.BroadcastsInDim S1024x1536 (![] : Fin 0 → Fin S1024x1536.rank)
  bcast_S_S31x512 : S_.BroadcastsInDim S31x512 (![] : Fin 0 → Fin S31x512.rank)
  bcast_S_S8192x512 : S_.BroadcastsInDim S8192x512 (![] : Fin 0 → Fin S8192x512.rank)

variable [Facts]

def fn_part1 {F : FTy → Type} [FloatOps F] (main_arg6 : FVec F S8192x1024 .f32) (main_v2 : IVec S8192x1024 1) (main_v5 : IVec S1024 1) (main_v8 : IVec S1024x1536 1) (main_v11 : IVec S31x512 1) (main_v14 : IVec S8192x512 1) (main_v17 : IVec S8192x512 1) : IVec S8192x1024 1 × IVec S1024 1 × IVec S1024x1536 1 × IVec S31x512 1 × IVec S8192x512 1 × IVec S8192x512 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S1024 .f32) (main_arg2 : FVec F S1024x1536 .f32) (main_arg3 : FVec F S31x512 .f32) (main_arg4 : FVec F S8192x512 .f32) (main_arg5 : FVec F S8192x512 .f32) (main_arg6 : FVec F S8192x1024 .f32) : IVec S8192x1024 1 × IVec S1024 1 × IVec S1024x1536 1 × IVec S31x512 1 × IVec S8192x512 1 × IVec S8192x512 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1536 .f32 := Host.absf main_arg2
  let main_cst_1 : FVec F S_ .f32 := constant S_ .f32 0x7F800000#32
  let main_v7 : FVec F S1024x1536 .f32 := broadcastInDim S1024x1536 ![] bcast_S_S1024x1536 main_cst_1
  let main_v8 : IVec S1024x1536 1 := cmpf .olt main_v6 main_v7
  let main_v9 : FVec F S31x512 .f32 := Host.absf main_arg3
  let main_cst_2 : FVec F S_ .f32 := constant S_ .f32 0x7F800000#32
  let main_v10 : FVec F S31x512 .f32 := broadcastInDim S31x512 ![] bcast_S_S31x512 main_cst_2
  let main_v11 : IVec S31x512 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_v2 main_v5 main_v8 main_v11 main_v14 main_v17
-- ==== Pre_finite_mix_out.lean ====
abbrev S8192x1024 : Shape := ⟨2, ![8192, 1024]⟩
abbrev S1024 : Shape := ⟨1, ![1024]⟩
abbrev S1024x1536 : Shape := ⟨2, ![1024, 1536]⟩
abbrev S4x128x128 : Shape := ⟨3, ![4, 128, 128]⟩
abbrev S4x128 : Shape := ⟨2, ![4, 128]⟩
abbrev S512 : Shape := ⟨1, ![512]⟩
abbrev S31x512 : Shape := ⟨2, ![31, 512]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x1536 : S_.BroadcastsInDim S1024x1536 (![] : Fin 0 → Fin S1024x1536.rank)
  bcast_S_S4x128x128 : S_.BroadcastsInDim S4x128x128 (![] : Fin 0 → Fin S4x128x128.rank)
  bcast_S_S4x128 : S_.BroadcastsInDim S4x128 (![] : Fin 0 → Fin S4x128.rank)
  bcast_S_S512 : S_.BroadcastsInDim S512 (![] : Fin 0 → Fin S512.rank)
  bcast_S_S31x512 : S_.BroadcastsInDim S31x512 (![] : Fin 0 → Fin S31x512.rank)
  bcast_S_S1024x1024 : S_.BroadcastsInDim S1024x1024 (![] : Fin 0 → Fin S1024x1024.rank)

variable [Facts]

def fn_part1 {F : FTy → Type} [FloatOps F] (main_arg6 : FVec F S31x512 .f32) (main_arg7 : FVec F S512 .f32) (main_arg8 : FVec F S512 .f32) (main_arg9 : FVec F S512 .f32) (main_arg10 : FVec F S1024x1024 .f32) (main_arg11 : FVec F S8192x1024 .f32) (main_v2 : IVec S8192x1024 1) (main_v5 : IVec S1024 1) (main_v8 : IVec S1024x1536 1) (main_v11 : IVec S4x128x128 1) (main_v14 : IVec S4x128 1) (main_v17 : IVec S512 1) : IVec S8192x1024 1 × IVec S1024 1 × IVec S1024x1536 1 × IVec S4x128x128 1 × IVec S4x128 1 × IVec S512 1 × IVec S31x512 1 × IVec S512 1 × IVec S512 1 × IVec S512 1 × IVec S1024x1024 1 × IVec S8192x1024 1 :=
  let main_v18 : FVec F S31x512 .f32 := Host.absf main_arg6
  let main_cst_5 : FVec F S_ .f32 := constant S_ .f32 0x7F800000#32
  let main_v19 : FVec F S31x512 .f32 := broadcastInDim S31x512 ![] bcast_S_S31x512 main_cst_5
  let main_v20 : IVec S31x512 1 := cmpf .olt main_v18 main_v19
  let main_v21 : FVec F S512 .f32 := Host.absf main_arg7
  let main_cst_6 : FVec F S_ .f32 := constant S_ .f32 0x7F800000#32
  let main_v22 : FVec F S512 .f32 := broadcastInDim S512 ![] bcast_S_S512 main_cst_6
  let main_v23 : IVec S512 1 := cmpf .olt main_v21 main_v22
  let main_v24 : FVec F S512 .f32 := Host.absf main_arg8
  let main_cst_7 : FVec F S_ .f32 := constant S_ .f32 0x7F800000#32
  let main_v25 : FVec F S512 .f32 := broadcastInDim S512 ![] bcast_S_S512 main_cst_7
  let main_v26 : IVec S512 1 := cmpf .olt main_v24 main_v25
  let main_v27 : FVec F S512 .f32 := Host.absf main_arg9
  let main_cst_8 : FVec F S_ .f32 := constant S_ .f32 0x7F800000#32
  let main_v28 : FVec F S512 .f32 := broadcastInDim S512 ![] bcast_S_S512 main_cst_8
  let main_v29 : IVec S512 1 := cmpf .olt main_v27 main_v28
  let main_v30 : FVec F S1024x1024 .f32 := Host.absf main_arg10
  let main_cst_9 : FVec F S_ .f32 := constant S_ .f32 0x7F800000#32
  let main_v31 : FVec F S1024x1024 .f32 := broadcastInDim S1024x1024 ![] bcast_S_S1024x1024 main_cst_9
  let main_v32 : IVec S1024x1024 1 := cmpf .olt main_v30 main_v31
  let main_v33 : FVec F S8192x1024 .f32 := Host.absf main_arg11
  let main_cst_10 : FVec F S_ .f32 := constant S_ .f32 0x7F800000#32
  let main_v34 : FVec F S8192x1024 .f32 := broadcastInDim S8192x1024 ![] bcast_S_S8192x1024 main_cst_10
  let main_v35 : IVec S8192x1024 1 := cmpf .olt main_v33 main_v34
  (main_v2, main_v5, main_v8, main_v11, main_v14, main_v17, main_v20, main_v23, main_v26, main_v29, main_v32, main_v35)

def fn {F : FTy → Type} [FloatOps F] (main_arg0 : FVec F S8192x1024 .f32) (main_arg1 : FVec F S1024 .f32) (main_arg2 : FVec F S1024x1536 .f32) (main_arg3 : FVec F S4x128x128 .f32) (main_arg4 : FVec F S4x128 .f32) (main_arg5 : FVec F S512 .f32) (main_arg6 : FVec F S31x512 .f32) (main_arg7 : FVec F S512 .f32) (main_arg8 : FVec F S512 .f32) (main_arg9 : FVec F S512 .f32) (main_arg10 : FVec F S1024x1024 .f32) (main_arg11 : FVec F S8192x1024 .f32) : IVec S8192x1024 1 × IVec S1024 1 × IVec S1024x1536 1 × IVec S4x128x128 1 × IVec S4x128 1 × IVec S512 1 × IVec S31x512 1 × IVec S512 1 × IVec S512 1 × IVec S512 1 × IVec S1024x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x1536 .f32 := Host.absf main_arg2
  let main_cst_1 : FVec F S_ .f32 := constant S_ .f32 0x7F800000#32
  let main_v7 : FVec F S1024x1536 .f32 := broadcastInDim S1024x1536 ![] bcast_S_S1024x1536 main_cst_1
  let main_v8 : IVec S1024x1536 1 := cmpf .olt main_v6 main_v7
  let main_v9 : FVec F S4x128x128 .f32 := Host.absf main_arg3
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_v12 : FVec F S4x128 .f32 := Host.absf main_arg4
  let main_cst_3 : FVec F S_ .f32 := constant S_ .f32 0x7F800000#32
  let main_v13 : FVec F S4x128 .f32 := broadcastInDim S4x128 ![] bcast_S_S4x128 main_cst_3
  let main_v14 : IVec S4x128 1 := cmpf .olt main_v12 main_v13
  let main_v15 : FVec F S512 .f32 := Host.absf main_arg5
  let main_cst_4 : FVec F S_ .f32 := constant S_ .f32 0x7F800000#32
  let main_v16 : FVec F S512 .f32 := broadcastInDim S512 ![] bcast_S_S512 main_cst_4
  let main_v17 : IVec S512 1 := cmpf .olt main_v15 main_v16
  fn_part1 (F := F) main_arg6 main_arg7 main_arg8 main_arg9 main_arg10 main_arg11 main_v2 main_v5 main_v8 main_v11 main_v14 main_v17
-- ==== Pre_finite_sgu.lean ====
abbrev S8192x1024 : Shape := ⟨2, ![8192, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2048 : S_.BroadcastsInDim S1024x2048 (![] : Fin 0 → Fin S1024x2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1024x1024 : S_.BroadcastsInDim S1024x1024 (![] : Fin 0 → Fin S1024x1024.rank)

variable [Facts]

def fn_part1 {F : FTy → Type} [FloatOps F] (main_arg6 : FVec F S8x128 .f32) (main_arg7 : FVec F S1024x1024 .f32) (main_arg8 : FVec F S8192x1024 .f32) (main_v2 : IVec S8192x1024 1) (main_v5 : IVec S1024 1) (main_v8 : IVec S1024x2048 1) (main_v11 : IVec S1024 1) (main_v14 : IVec S1024 1) (main_v17 : IVec S8x128x128 1) : IVec S8192x1024 1 × IVec S1024 1 × IVec S1024x2048 1 × IVec S1024 1 × IVec S1024 1 × IVec S8x128x128 1 × IVec S8x128 1 × IVec S1024x1024 1 × IVec S8192x1024 1 :=
  let main_v18 : FVec F S8x128 .f32 := Host.absf main_arg6
  let main_cst_5 : FVec F S_ .f32 := constant S_ .f32 0x7F800000#32
  let main_v19 : FVec F S8x128 .f32 := broadcastInDim S8x128 ![] bcast_S_S8x128 main_cst_5
  let main_v20 : IVec S8x128 1 := cmpf .olt main_v18 main_v19
  let main_v21 : FVec F S1024x1024 .f32 := Host.absf main_arg7
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_v24 : FVec F S8192x1024 .f32 := Host.absf main_arg8
  let main_cst_7 : FVec F S_ .f32 := constant S_ .f32 0x7F800000#32
  let main_v25 : FVec F S8192x1024 .f32 := broadcastInDim S8192x1024 ![] bcast_S_S8192x1024 main_cst_7
  let main_v26 : IVec S8192x1024 1 := cmpf .olt main_v24 main_v25
  (main_v2, main_v5, main_v8, main_v11, main_v14, main_v17, main_v20, main_v23, main_v26)

def fn {F : FTy → Type} [FloatOps F] (main_arg0 : FVec F S8192x1024 .f32) (main_arg1 : FVec F S1024 .f32) (main_arg2 : FVec F S1024x2048 .f32) (main_arg3 : FVec F S1024 .f32) (main_arg4 : FVec F S1024 .f32) (main_arg5 : FVec F S8x128x128 .f32) (main_arg6 : FVec F S8x128 .f32) (main_arg7 : FVec F S1024x1024 .f32) (main_arg8 : FVec F S8192x1024 .f32) : IVec S8192x1024 1 × IVec S1024 1 × IVec S1024x2048 1 × IVec S1024 1 × IVec S1024 1 × IVec S8x128x128 1 × IVec S8x128 1 × IVec S1024x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2048 .f32 := Host.absf main_arg2
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S8x128x128 .f32 := Host.absf main_arg5
  let main_cst_4 : FVec F S_ .f32 := constant S_ .f32 0x7F800000#32
  let main_v16 : FVec F S8x128x128 .f32 := broadcastInDim S8x128x128 ![] bcast_S_S8x128x128 main_cst_4
  let main_v17 : IVec S8x128x128 1 := cmpf .olt main_v15 main_v16
  fn_part1 (F := F) main_arg6 main_arg7 main_arg8 main_v2 main_v5 main_v8 main_v11 main_v14 main_v17
-- ==== Pre_finite_sgu_fwd.lean ====
abbrev S8192x1024 : Shape := ⟨2, ![8192, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2048 : S_.BroadcastsInDim S1024x2048 (![] : Fin 0 → Fin S1024x2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1024x1024 : S_.BroadcastsInDim S1024x1024 (![] : Fin 0 → Fin S1024x1024.rank)

variable [Facts]

def fn_part1 {F : FTy → Type} [FloatOps F] (main_arg6 : FVec F S8x128 .f32) (main_arg7 : FVec F S1024x1024 .f32) (main_v2 : IVec S8192x1024 1) (main_v5 : IVec S1024 1) (main_v8 : IVec S1024x2048 1) (main_v11 : IVec S1024 1) (main_v14 : IVec S1024 1) (main_v17 : IVec S8x128x128 1) : IVec S8192x1024 1 × IVec S1024 1 × IVec S1024x2048 1 × IVec S1024 1 × IVec S1024 1 × IVec S8x128x128 1 × IVec S8x128 1 × IVec S1024x1024 1 :=
  let main_v18 : FVec F S8x128 .f32 := Host.absf main_arg6
  let main_cst_5 : FVec F S_ .f32 := constant S_ .f32 0x7F800000#32
  let main_v19 : FVec F S8x128 .f32 := broadcastInDim S8x128 ![] bcast_S_S8x128 main_cst_5
  let main_v20 : IVec S8x128 1 := cmpf .olt main_v18 main_v19
  let main_v21 : FVec F S1024x1024 .f32 := Host.absf main_arg7
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  (main_v2, main_v5, main_v8, main_v11, main_v14, main_v17, main_v20, main_v23)

def fn {F : FTy → Type} [FloatOps F] (main_arg0 : FVec F S8192x1024 .f32) (main_arg1 : FVec F S1024 .f32) (main_arg2 : FVec F S1024x2048 .f32) (main_arg3 : FVec F S1024 .f32) (main_arg4 : FVec F S1024 .f32) (main_arg5 : FVec F S8x128x128 .f32) (main_arg6 : FVec F S8x128 .f32) (main_arg7 : FVec F S1024x1024 .f32) : IVec S8192x1024 1 × IVec S1024 1 × IVec S1024x2048 1 × IVec S1024 1 × IVec S1024 1 × IVec S8x128x128 1 × IVec S8x128 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2048 .f32 := Host.absf main_arg2
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S8x128x128 .f32 := Host.absf main_arg5
  let main_cst_4 : FVec F S_ .f32 := constant S_ .f32 0x7F800000#32
  let main_v16 : FVec F S8x128x128 .f32 := broadcastInDim S8x128x128 ![] bcast_S_S8x128x128 main_cst_4
  let main_v17 : IVec S8x128x128 1 := cmpf .olt main_v15 main_v16
  fn_part1 (F := F) main_arg6 main_arg7 main_v2 main_v5 main_v8 main_v11 main_v14 main_v17
-- ==== FfnBwd.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4x704x1024 : Shape := ⟨3, ![4, 704, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩
abbrev S8 : Shape := ⟨1, ![8]⟩
abbrev S1 : Shape := ⟨1, ![1]⟩
abbrev S1x1024x1408 : Shape := ⟨3, ![1, 1024, 1408]⟩
abbrev S704x1024 : Shape := ⟨2, ![704, 1024]⟩
abbrev S1x704x1024 : Shape := ⟨3, ![1, 704, 1024]⟩
abbrev S256 : Shape := ⟨1, ![256]⟩
abbrev S256x1 : Shape := ⟨2, ![256, 1]⟩
abbrev S256x1408 : Shape := ⟨2, ![256, 1408]⟩
abbrev S1408x1024 : Shape := ⟨2, ![1408, 1024]⟩
abbrev S1024x1408 : Shape := ⟨2, ![1024, 1408]⟩

abbrev nBuf : Space → Nat
  | .hbm => 34
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S4x704x1024, .f32⟩
  | .hbm, ⟨9, _⟩ => ⟨S4x704x1024, .bf16⟩
  | .hbm, ⟨10, _⟩ => ⟨S1x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S1024x5632, .bf16⟩
  | .hbm, ⟨28, _⟩ => ⟨S8192x5632, .f32⟩
  | .hbm, ⟨29, _⟩ => ⟨S8192x5632, .bf16⟩
  | .hbm, ⟨30, _⟩ => ⟨S8192x1024, .f32⟩
  | .hbm, ⟨31, _⟩ => ⟨S8192x5632, .bf16⟩
  | .hbm, ⟨32, _⟩ => ⟨S8192x2816, .bf16⟩
  | .hbm, ⟨33, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .bf16⟩
  | .local _ .vmem, ⟨5, _⟩ => ⟨S256x5632, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x5632, .bf16⟩
  | .local _ .vmem, ⟨10, _⟩ => ⟨S256x5632, .bf16⟩
  | .local _ .vmem, ⟨11, _⟩ => ⟨S256x2816, .bf16⟩
  | .local _ .vmem, ⟨12, _⟩ => ⟨S256x2816, .bf16⟩
  | .local _ .vmem, ⟨13, _⟩ => ⟨S1x1024, .f32⟩
  | .local _ .vmem, ⟨14, _⟩ => ⟨S4x1024x1408, .bf16⟩
  | .local _ .vmem, ⟨15, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== FfnBwdRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192x5632 : Shape := ⟨2, ![8192, 5632]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192x5632, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x5632, .f32⟩
  | .hbm, ⟨28, _⟩ => ⟨S8192x5632, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x5632, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S8192x1024, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x5632, .bf16⟩
  | .hbm, ⟨90, _⟩ => ⟨S8192x2816, .bf16⟩
  | .hbm, ⟨91, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_cst_8 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_cst_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩

abbrev nD : Nat := 1
abbrev τ : Topo := Topo.v7x

variable {F : FTy → Type} [FloatOps F]
-- ==== SguBwd.lean ====
abbrev S8192x1024 : Shape := ⟨2, ![8192, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S1024x4x512 : Shape := ⟨3, ![1024, 4, 512]⟩
abbrev S4x1024x512 : Shape := ⟨3, ![4, 1024, 512]⟩
abbrev S4x256x1024 : Shape := ⟨3, ![4, 256, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S128x8 : Shape := ⟨2, ![128, 8]⟩
abbrev S512x1024 : Shape := ⟨2, ![512, 1024]⟩
abbrev S512x2048 : Shape := ⟨2, ![512, 2048]⟩
abbrev S8 : Shape := ⟨1, ![8]⟩
abbrev S1 : Shape := ⟨1, ![1]⟩
abbrev S1x1024x512 : Shape := ⟨3, ![1, 1024, 512]⟩
abbrev S256x1024 : Shape := ⟨2, ![256, 1024]⟩
abbrev S1x256x1024 : Shape := ⟨3, ![1, 256, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128x1024 : Shape := ⟨2, ![128, 1024]⟩
abbrev S128 : Shape := ⟨1, ![128]⟩
abbrev S512x512 : Shape := ⟨2, ![512, 512]⟩
abbrev S1024x512 : Shape := ⟨2, ![1024, 512]⟩

abbrev nBuf : Space → Nat
  | .hbm => 43
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S8192x1024, .f32⟩
  | .hbm, ⟨9, _⟩ => ⟨S1024x4x512, .f32⟩
  | .hbm, ⟨10, _⟩ => ⟨S4x1024x512, .f32⟩
  | .hbm, ⟨11, _⟩ => ⟨S4x1024x512, .bf16⟩
  | .hbm, ⟨12, _⟩ => ⟨S4x256x1024, .f32⟩
  | .hbm, ⟨13, _⟩ => ⟨S4x256x1024, .bf16⟩
  | .hbm, ⟨14, _⟩ => ⟨S1x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S1024x2048, .bf16⟩
  | .hbm, ⟨32, _⟩ => ⟨S8192x2048, .f32⟩
  | .hbm, ⟨33, _⟩ => ⟨S1x1024, .f32⟩
  | .hbm, ⟨34, _⟩ => ⟨S1x1024, .f32⟩
  | .hbm, ⟨35, _⟩ => ⟨S128x8, .f32⟩
  | .hbm, ⟨36, _⟩ => ⟨S8192x1024, .f32⟩
  | .hbm, ⟨37, _⟩ => ⟨S8192x2048, .bf16⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S8x128x128, .f32⟩
  | .hbm, ⟨42, _⟩ => ⟨S128x8, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S8x128x128, .f32⟩
  | .local _ .vmem, ⟨10, _⟩ => ⟨S128x8, .f32⟩
  | .local _ .vmem, ⟨11, _⟩ => ⟨S512x1024, .f32⟩
  | .local _ .vmem, ⟨12, _⟩ => ⟨S512x1024, .f32⟩
  | .local _ .vmem, ⟨13, _⟩ => ⟨S512x2048, .bf16⟩
  | .local _ .vmem, ⟨14, _⟩ => ⟨S512x2048, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S8x128x128, .f32⟩
  | .local _ .vmem, ⟨19, _⟩ => ⟨S128x8, .f32⟩
  | .local _ .vmem, ⟨20, _⟩ => ⟨S4x1024x512, .bf16⟩
  | .local _ .vmem, ⟨21, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev main_v24_4 : Ref sig .tc := ⟨.hbm, 40, rfl⟩
abbrev main_v24_5 : Ref sig .tc := ⟨.hbm, 41, rfl⟩
abbrev main_v24_6 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== SguBwdIdeal.lean ====
variable {F : FTy → Type} [FloatOps F] [Named F]
def κ : String → Option EReal := fun
  | "inv_sqrt_2pi" => some (((9465531 / 16777216) * (Real.sqrt 2)⁻¹ : ℝ) : EReal)
  | "sqrt_half" => some (((Real.sqrt 2)⁻¹ : ℝ) : EReal)
  | _ => none
-- ==== SguBwdRefIdeal.lean ====
abbrev S8192x1024 : Shape := ⟨2, ![8192, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1x1024 : Shape := ⟨2, ![1, 1024]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩

abbrev nBuf : Space → Nat
  | .hbm => 217
  | .vmem => 0
  | .smem => 0
  | _ => 0

abbrev hbmTy0_0 (i : Nat) : BufTy := match i % 128 with
  | 0 => ⟨S8192x1024, .f32⟩
  | 1 => ⟨S1024, .f32⟩
  | 2 => ⟨S1024x2048, .f32⟩
  | 3 => ⟨S1024, .f32⟩
  | 4 => ⟨S1024, .f32⟩
  | 5 => ⟨S8x128x128, .f32⟩
  | 6 => ⟨S8x128, .f32⟩
  | 7 => ⟨S1024x1024, .f32⟩
  | 8 => ⟨S8192x1024, .f32⟩
  | 9 => ⟨S_, .f32⟩
  | 10 => ⟨S8192x2048, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S8192x2048, .f32⟩
  | 32 => ⟨S8192x2048, .f32⟩
  | 33 => ⟨S_, .f32⟩
  | 34 => ⟨S8192x2048, .f32⟩
  | 35 => ⟨S8192x2048, .f32⟩
  | 36 => ⟨S8192x2048, .f32⟩
  | 37 => ⟨S_, .f32⟩
  | 38 => ⟨S_, .f32⟩
  | 39 => ⟨S8192x2048, .f32⟩
  | 40 => ⟨S8192x2048, .f32⟩
  | 41 => ⟨S8192x2048, .f32⟩
  | 42 => ⟨S8192x2048, .f32⟩
  | 43 => ⟨S8192x2048, .f32⟩
  | 44 => ⟨S8192x2048, .f32⟩
  | 45 => ⟨S8192x2048, .f32⟩
  | 46 => ⟨S8192x1024, .f32⟩
  | 47 => ⟨S8192x1024, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S8192x1024, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S8192x1024, .f32⟩
  | 67 => ⟨S8192x1024, .f32⟩
  | 68 => ⟨S_, .f32⟩
  | 69 => ⟨S8192x1, .f32⟩
  | 70 => ⟨S8192x1, .f32⟩
  | 71 => ⟨S8192x1, .f32⟩
  | 72 => ⟨S8192x1, .f32⟩
  | 73 => ⟨S_, .f32⟩
  | 74 => ⟨S8192x1, .f32⟩
  | 75 => ⟨S8192x1, .f32⟩
  | 76 => ⟨S8192x1024, .f32⟩
  | 77 => ⟨S8192x1024, .f32⟩
  | 78 => ⟨S1x1024, .f32⟩
  | 79 => ⟨S8192x1024, .f32⟩
  | 80 => ⟨S8192x1024, .f32⟩
  | 81 => ⟨S1x1024, .f32⟩
  | 82 => ⟨S8192x1024, .f32⟩
  | 83 => ⟨S8192x1024, .f32⟩
  | 84 => ⟨S64x128x8x128, .f32⟩
  | 85 => ⟨S_, .f32⟩
  | 86 => ⟨S128x128, .f32⟩
  | 87 => ⟨S128x128, .i32⟩
  | 88 => ⟨S_, .i32⟩
  | 89 => ⟨S128x128, .i32⟩
  | 90 => ⟨S128x128, .i32⟩
  | 91 => ⟨S128x128, .i32⟩
  | 92 => ⟨S128x128, .i1⟩
  | 93 => ⟨S_, .f32⟩
  | 94 => ⟨S128x128, .f32⟩
  | 95 => ⟨S128x128, .f32⟩
  | 96 => ⟨S1x128x128, .f32⟩
  | 97 => ⟨S8x128x128, .f32⟩
  | 98 => ⟨S8x128x128, .f32⟩
  | 99 => ⟨S8x64x128x128, .f32⟩
  | 100 => ⟨S64x128x8x128, .f32⟩
  | 101 => ⟨S128x8, .f32⟩
  | 102 => ⟨S1x128x8x1, .f32⟩
  | 103 => ⟨S64x128x8x128, .f32⟩
  | 104 => ⟨S64x128x8x128, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S64x128x8x128, .f32⟩
  | 114 => ⟨S_, .f32⟩
  | 115 => ⟨S128x8, .f32⟩
  | 116 => ⟨S1x128x8x1, .f32⟩
  | 117 => ⟨S_, .f32⟩
  | 118 => ⟨S128x8, .f32⟩
  | 119 => ⟨S8x128, .f32⟩
  | 120 => ⟨S8x64x128x128, .f32⟩
  | 121 => ⟨S8x128x128, .f32⟩
  | 122 => ⟨S8x64x128x128, .f32⟩
  | 123 => ⟨S64x128x8x128, .f32⟩
  | 124 => ⟨S8x128x128, .f32⟩
  | 125 => ⟨S8x128x128, .f32⟩
  | 126 => ⟨S8192x1024, .f32⟩
  | 127 => ⟨S_, .f32⟩
  | _ => ⟨S8192x1024, .f32⟩

abbrev hbmTy0_1 (i : Nat) : BufTy := match i % 128 with
  | 0 => ⟨S1024, .f32⟩
  | 1 => ⟨S1x1024, .f32⟩
  | 2 => ⟨S_, .f32⟩
  | 3 => ⟨S1024, .f32⟩
  | 4 => ⟨S8192x1024, .f32⟩
  | 5 => ⟨S_, .f32⟩
  | 6 => ⟨S1024, .f32⟩
  | 7 => ⟨S1x1024, .f32⟩
  | 8 => ⟨S8192x1024, .f32⟩
  | 9 => ⟨S8192x1024, .f32⟩
  | 10 => ⟨S_, .f32⟩
  | 11 => ⟨S1024, .f32⟩
  | 12 => ⟨S8192x1024, .f32⟩
  | 13 => ⟨S_, .f32⟩
  | 14 => ⟨S8192, .f32⟩
  | 15 => ⟨S8192x1, .f32⟩
  | 16 => ⟨S8192x1024, .f32⟩
  | 17 => ⟨S8192x1024, .f32⟩
  | 18 => ⟨S8192x1, .f32⟩
  | 19 => ⟨S8192x1024, .f32⟩
  | 20 => ⟨S_, .f32⟩
  | 21 => ⟨S8192, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192, .f32⟩
  | 28 => ⟨S8192x1024, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S8192x1024, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192, .f32⟩
  | 41 => ⟨S8192x1024, .f32⟩
  | 42 => ⟨S8192x1024, .f32⟩
  | 43 => ⟨S8192x2048, .f32⟩
  | 44 => ⟨S8192x2048, .f32⟩
  | 45 => ⟨S8192x2048, .f32⟩
  | 46 => ⟨S_, .f32⟩
  | 47 => ⟨S8192x2048, .f32⟩
  | 48 => ⟨S8192x2048, .f32⟩
  | 49 => ⟨S8192x2048, .f32⟩
  | 50 => ⟨S8192x2048, .f32⟩
  | 51 => ⟨S8192x2048, .f32⟩
  | 52 => ⟨S8192x2048, .f32⟩
  | 53 => ⟨S_, .f32⟩
  | 54 => ⟨S8192x2048, .f32⟩
  | 55 => ⟨S8192x2048, .f32⟩
  | 56 => ⟨S8192x2048, .f32⟩
  | 57 => ⟨S8192x1024, .f32⟩
  | 58 => ⟨S8192x1024, .f32⟩
  | 59 => ⟨S_, .f32⟩
  | 60 => ⟨S1024, .f32⟩
  | 61 => ⟨S1x1024, .f32⟩
  | 62 => ⟨S8192x1024, .f32⟩
  | 63 => ⟨S8192x1024, .f32⟩
  | 64 => ⟨S_, .f32⟩
  | 65 => ⟨S1024, .f32⟩
  | 66 => ⟨S8192x1024, .f32⟩
  | 67 => ⟨S_, .f32⟩
  | 68 => ⟨S8192, .f32⟩
  | 69 => ⟨S8192x1, .f32⟩
  | 70 => ⟨S8192x1024, .f32⟩
  | 71 => ⟨S8192x1024, .f32⟩
  | 72 => ⟨S8192x1024, .f32⟩
  | 73 => ⟨S8192x1, .f32⟩
  | 74 => ⟨S_, .f32⟩
  | 75 => ⟨S8192x1, .f32⟩
  | 76 => ⟨S8192x1, .f32⟩
  | 77 => ⟨S_, .f32⟩
  | 78 => ⟨S8192, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S8192x2048, .bf16⟩
  | 85 => ⟨S1x1024, .f32⟩
  | 86 => ⟨S1x1024, .f32⟩
  | 87 => ⟨S1x1024, .f32⟩
  | 88 => ⟨S128x8, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_call0_v0 : Ref sig .tc := ⟨.hbm, 87, rfl⟩
abbrev main_call0_c : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_cst : Ref sig .tc := ⟨.hbm, 93, rfl⟩
abbrev main_call0_v5 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_14 : Ref sig .tc := ⟨.hbm, 114, rfl⟩
abbrev main_v82 : Ref sig .tc := ⟨.hbm, 115, rfl⟩
abbrev main_v83 : Ref sig .tc := ⟨.hbm, 116, rfl⟩
abbrev main_cst_15 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_16 : Ref sig .tc := ⟨.hbm, 127, rfl⟩
abbrev main_v93 : Ref sig .tc := ⟨.hbm, 128, rfl⟩
abbrev main_v94 : Ref sig .tc := ⟨.hbm, 129, rfl⟩
abbrev main_cst_17 : Ref sig .tc := ⟨.hbm, 130, rfl⟩
abbrev main_v95 : Ref sig .tc := ⟨.hbm, 131, rfl⟩
abbrev main_v96 : Ref sig .tc := ⟨.hbm, 132, rfl⟩
abbrev main_cst_18 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_19 : Ref sig .tc := ⟨.hbm, 138, rfl⟩
abbrev main_v101 : Ref sig .tc := ⟨.hbm, 139, rfl⟩
abbrev main_v102 : Ref sig .tc := ⟨.hbm, 140, rfl⟩
abbrev main_cst_20 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_21 : Ref sig .tc := ⟨.hbm, 148, rfl⟩
abbrev main_v109 : Ref sig .tc := ⟨.hbm, 149, rfl⟩
abbrev main_v110 : Ref sig .tc := ⟨.hbm, 150, rfl⟩
abbrev main_cst_22 : Ref sig .tc := ⟨.hbm, 151, rfl⟩
abbrev main_v111 : Ref sig .tc := ⟨.hbm, 152, rfl⟩
abbrev main_v112 : Ref sig .tc := ⟨.hbm, 153, rfl⟩
abbrev main_cst_23 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_24 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_cst_25 : Ref sig .tc := ⟨.hbm, 164, rfl⟩
abbrev main_v121 : Ref sig .tc := ⟨.hbm, 165, rfl⟩
abbrev main_v122 : Ref sig .tc := ⟨.hbm, 166, rfl⟩
abbrev main_cst_26 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_27 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_28 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_cst_29 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_30 : Ref sig .tc := ⟨.hbm, 192, rfl⟩
abbrev main_v144 : Ref sig .tc := ⟨.hbm, 193, rfl⟩
abbrev main_v145 : Ref sig .tc := ⟨.hbm, 194, rfl⟩
abbrev main_cst_31 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_32 : Ref sig .tc := ⟨.hbm, 202, rfl⟩
abbrev main_v152 : Ref sig .tc := ⟨.hbm, 203, rfl⟩
abbrev main_v153 : Ref sig .tc := ⟨.hbm, 204, rfl⟩
abbrev main_cst_33 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩

abbrev nD : Nat := 1
abbrev τ : Topo := Topo.v7x

variable {F : FTy → Type} [FloatOps F]
-- ==== MixInBwd.lean ====
abbrev S8192x1024 : Shape := ⟨2, ![8192, 1024]⟩
abbrev S1024 : Shape := ⟨1, ![1024]⟩
abbrev S1024x1536 : Shape := ⟨2, ![1024, 1536]⟩
abbrev S31x512 : Shape := ⟨2, ![31, 512]⟩
abbrev S8192x512 : Shape := ⟨2, ![8192, 512]⟩
abbrev S4 : Shape := ⟨1, ![4]⟩
abbrev S1024x4x384 : Shape := ⟨3, ![1024, 4, 384]⟩
abbrev S4x1024x384 : Shape := ⟨3, ![4, 1024, 384]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S4x128 : Shape := ⟨2, ![4, 128]⟩
abbrev S512 : Shape := ⟨1, ![512]⟩
abbrev S1x512 : Shape := ⟨2, ![1, 512]⟩
abbrev S512x1024 : Shape := ⟨2, ![512, 1024]⟩
abbrev S512x1536 : Shape := ⟨2, ![512, 1536]⟩
abbrev S512x512 : Shape := ⟨2, ![512, 512]⟩
abbrev S32x512 : Shape := ⟨2, ![32, 512]⟩
abbrev S1 : Shape := ⟨1, ![1]⟩
abbrev S1024x384 : Shape := ⟨2, ![1024, 384]⟩
abbrev S1x1024x384 : Shape := ⟨3, ![1, 1024, 384]⟩
abbrev S544x512 : Shape := ⟨2, ![544, 512]⟩
abbrev S160x128 : Shape := ⟨2, ![160, 128]⟩
abbrev S31x128 : Shape := ⟨2, ![31, 128]⟩
abbrev S128x128 : Shape := ⟨2, ![128, 128]⟩
abbrev S1x128 : Shape := ⟨2, ![1, 128]⟩
abbrev S512x128 : Shape := ⟨2, ![512, 128]⟩
abbrev S512x1 : Shape := ⟨2, ![512, 1]⟩

abbrev nBuf : Space → Nat
  | .hbm => 46
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S31x512, .f32⟩
  | .hbm, ⟨4, _⟩ => ⟨S8192x512, .f32⟩
  | .hbm, ⟨5, _⟩ => ⟨S8192x512, .f32⟩
  | .hbm, ⟨6, _⟩ => ⟨S8192x1024, .f32⟩
  | .hbm, ⟨7, _⟩ => ⟨S4, .i32⟩
  | .hbm, ⟨8, _⟩ => ⟨S1024x4x384, .f32⟩
  | .hbm, ⟨9, _⟩ => ⟨S4x1024x384, .f32⟩
  | .hbm, ⟨10, _⟩ => ⟨S4x1024x384, .bf16⟩
  | .hbm, ⟨11, _⟩ => ⟨S1x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1024x1536, .bf16⟩
  | .hbm, ⟨29, _⟩ => ⟨S8192x1536, .f32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S4x128, .i32⟩
  | .hbm, ⟨36, _⟩ => ⟨S512, .i32⟩
  | .hbm, ⟨37, _⟩ => ⟨S1x512, .i32⟩
  | .hbm, ⟨38, _⟩ => ⟨S8192x512, .i32⟩
  | .hbm, ⟨39, _⟩ => ⟨S8192x512, .i32⟩
  | .hbm, ⟨40, _⟩ => ⟨S8192x512, .i32⟩
  | .hbm, ⟨41, _⟩ => ⟨S8192x512, .f32⟩
  | .hbm, ⟨42, _⟩ => ⟨S8192x512, .f32⟩
  | .hbm, ⟨43, _⟩ => ⟨S8192x1024, .f32⟩
  | .hbm, ⟨44, _⟩ => ⟨S8192x1536, .bf16⟩
  | .hbm, ⟨45, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1536, .f32⟩
  | .local _ .vmem, ⟨5, _⟩ => ⟨S512x1536, .f32⟩
  | .local _ .vmem, ⟨6, _⟩ => ⟨S512x512, .f32⟩
  | .local _ .vmem, ⟨7, _⟩ => ⟨S512x512, .f32⟩
  | .local _ .vmem, ⟨8, _⟩ => ⟨S32x512, .f32⟩
  | .local _ .vmem, ⟨9, _⟩ => ⟨S32x512, .f32⟩
  | .local _ .vmem, ⟨10, _⟩ => ⟨S512x512, .f32⟩
  | .local _ .vmem, ⟨11, _⟩ => ⟨S512x512, .f32⟩
  | .local _ .vmem, ⟨12, _⟩ => ⟨S32x512, .f32⟩
  | .local _ .vmem, ⟨13, _⟩ => ⟨S32x512, .f32⟩
  | .local _ .vmem, ⟨14, _⟩ => ⟨S1x1024, .f32⟩
  | .local _ .vmem, ⟨15, _⟩ => ⟨S31x512, .f32⟩
  | .local _ .vmem, ⟨16, _⟩ => ⟨S512x1024, .f32⟩
  | .local _ .vmem, ⟨17, _⟩ => ⟨S512x1024, .f32⟩
  | .local _ .vmem, ⟨18, _⟩ => ⟨S512x1536, .bf16⟩
  | .local _ .vmem, ⟨19, _⟩ => ⟨S512x1536, .bf16⟩
  | .local _ .vmem, ⟨20, _⟩ => ⟨S1x1024, .f32⟩
  | .local _ .vmem, ⟨21, _⟩ => ⟨S1024x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S31x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixInBwdRefIdeal.lean ====
abbrev S8192x1024 : Shape := ⟨2, ![8192, 1024]⟩
abbrev S1024 : Shape := ⟨1, ![1024]⟩
abbrev S1024x1536 : Shape := ⟨2, ![1024, 1536]⟩
abbrev S31x512 : Shape := ⟨2, ![31, 512]⟩
abbrev S8192x512 : Shape := ⟨2, ![8192, 512]⟩
abbrev S_ : Shape := ⟨0, ![]⟩
abbrev S8192x1536 : Shape := ⟨2, ![8192, 1536]⟩
abbrev S8192 : Shape := ⟨1, ![8192]⟩
abbrev S8192x1 : Shape := ⟨2, ![8192, 1]⟩
abbrev S1x1024 : Shape := ⟨2, ![1, 1024]⟩
abbrev S8192x128 : Shape := ⟨2, ![8192, 128]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S30x512 : Shape := ⟨2, ![30, 512]⟩
abbrev S8222x512 : Shape := ⟨2, ![8222, 512]⟩
abbrev S1x512 : Shape := ⟨2, ![1, 512]⟩
abbrev S512 : Shape := ⟨1, ![512]⟩

abbrev nBuf : Space → Nat
  | .hbm => 599
  | .vmem => 0
  | .smem => 0
  | _ => 0

abbrev hbmTy0_0 (i : Nat) : BufTy := match i % 128 with
  | 0 => ⟨S8192x1024, .f32⟩
  | 1 => ⟨S1024, .f32⟩
  | 2 => ⟨S1024x1536, .f32⟩
  | 3 => ⟨S31x512, .f32⟩
  | 4 => ⟨S8192x512, .f32⟩
  | 5 => ⟨S8192x512, .f32⟩
  | 6 => ⟨S8192x1024, .f32⟩
  | 7 => ⟨S_, .f32⟩
  | 8 => ⟨S8192x1536, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S8192x1536, .f32⟩
  | 30 => ⟨S8192x1536, .f32⟩
  | 31 => ⟨S8192x512, .f32⟩
  | 32 => ⟨S_, .f32⟩
  | 33 => ⟨S_, .f32⟩
  | 34 => ⟨S8192x512, .f32⟩
  | 35 => ⟨S8192, .i32⟩
  | 36 => ⟨S8192x128, .f32⟩
  | 37 => ⟨S_, .f32⟩
  | 38 => ⟨S2x128, .f32⟩
  | 39 => ⟨S8190x128, .f32⟩
  | 40 => ⟨S8192x128, .f32⟩
  | 41 => ⟨S_, .f32⟩
  | 42 => ⟨S2x128, .f32⟩
  | 43 => ⟨S_, .i32⟩
  | 44 => ⟨S8192, .i32⟩
  | 45 => ⟨S8192, .i32⟩
  | 46 => ⟨S_, .i32⟩
  | 47 => ⟨S8192, .i32⟩
  | 48 => ⟨S8192, .i32⟩
  | 49 => ⟨S8192, .f32⟩
  | 50 => ⟨S8192x1, .f32⟩
  | 51 => ⟨S8192x128, .f32⟩
  | 52 => ⟨S8192x128, .f32⟩
  | 53 => ⟨S8192x128, .f32⟩
  | 54 => ⟨S8192x128, .f32⟩
  | 55 => ⟨S_, .f32⟩
  | 56 => ⟨S4x128, .f32⟩
  | 57 => ⟨S8188x128, .f32⟩
  | 58 => ⟨S8192x128, .f32⟩
  | 59 => ⟨S_, .f32⟩
  | 60 => ⟨S4x128, .f32⟩
  | 61 => ⟨S_, .i32⟩
  | 62 => ⟨S8192, .i32⟩
  | 63 => ⟨S8192, .i32⟩
  | 64 => ⟨S_, .i32⟩
  | 65 => ⟨S8192, .i32⟩
  | 66 => ⟨S8192, .i32⟩
  | 67 => ⟨S8192, .f32⟩
  | 68 => ⟨S8192x1, .f32⟩
  | 69 => ⟨S8192x128, .f32⟩
  | 70 => ⟨S8192x128, .f32⟩
  | 71 => ⟨S8192x128, .f32⟩
  | 72 => ⟨S8192x128, .f32⟩
  | 73 => ⟨S_, .f32⟩
  | 74 => ⟨S8x128, .f32⟩
  | 75 => ⟨S8184x128, .f32⟩
  | 76 => ⟨S8192x128, .f32⟩
  | 77 => ⟨S_, .f32⟩
  | 78 => ⟨S8x128, .f32⟩
  | 79 => ⟨S_, .i32⟩
  | 80 => ⟨S8192, .i32⟩
  | 81 => ⟨S8192, .i32⟩
  | 82 => ⟨S_, .i32⟩
  | 83 => ⟨S8192, .i32⟩
  | 84 => ⟨S8192, .i32⟩
  | 85 => ⟨S8192, .f32⟩
  | 86 => ⟨S8192x1, .f32⟩
  | 87 => ⟨S8192x128, .f32⟩
  | 88 => ⟨S8192x128, .f32⟩
  | 89 => ⟨S8192x128, .f32⟩
  | 90 => ⟨S8192x128, .f32⟩
  | 91 => ⟨S_, .f32⟩
  | 92 => ⟨S16x128, .f32⟩
  | 93 => ⟨S8176x128, .f32⟩
  | 94 => ⟨S8192x128, .f32⟩
  | 95 => ⟨S_, .f32⟩
  | 96 => ⟨S16x128, .f32⟩
  | 97 => ⟨S_, .i32⟩
  | 98 => ⟨S8192, .i32⟩
  | 99 => ⟨S8192, .i32⟩
  | 100 => ⟨S_, .i32⟩
  | 101 => ⟨S8192, .i32⟩
  | 102 => ⟨S8192, .i32⟩
  | 103 => ⟨S8192, .f32⟩
  | 104 => ⟨S8192x1, .f32⟩
  | 105 => ⟨S8192x128, .f32⟩
  | 106 => ⟨S8192x128, .f32⟩
  | 107 => ⟨S8192x128, .f32⟩
  | 108 => ⟨S8192x512, .f32⟩
  | 109 => ⟨S8192x512, .f32⟩
  | 110 => ⟨S8192x1024, .f32⟩
  | 111 => ⟨S8192x512, .f32⟩
  | 112 => ⟨S8192x512, .f32⟩
  | 113 => ⟨S_, .f32⟩
  | 114 => ⟨S30x512, .f32⟩
  | 115 => ⟨S8192x512, .f32⟩
  | 116 => ⟨S8192x512, .f32⟩
  | 117 => ⟨S_, .f32⟩
  | 118 => ⟨S8192x512, .f32⟩
  | 119 => ⟨S8192x512, .f32⟩
  | 120 => ⟨S_, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S8192x512, .f32⟩
  | 127 => ⟨S8192x512, .f32⟩
  | _ => ⟨S8192x1024, .f32⟩

abbrev hbmTy0_1 (i : Nat) : BufTy := match i % 128 with
  | 0 => ⟨S8222x512, .f32⟩
  | 1 => ⟨S_, .f32⟩
  | 2 => ⟨S30x512, .f32⟩
  | 3 => ⟨S8192x512, .f32⟩
  | 4 => ⟨S1x512, .f32⟩
  | 5 => ⟨S512, .f32⟩
  | 6 => ⟨S1x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S8192x512, .f32⟩
  | 13 => ⟨S1x512, .f32⟩
  | 14 => ⟨S512, .f32⟩
  | 15 => ⟨S1x512, .f32⟩
  | 16 => ⟨S8192x512, .f32⟩
  | 17 => ⟨S8192x512, .f32⟩
  | 18 => ⟨S8192x512, .f32⟩
  | 19 => ⟨S8192x512, .f32⟩
  | 20 => ⟨S1x512, .f32⟩
  | 21 => ⟨S512, .f32⟩
  | 22 => ⟨S1x512, .f32⟩
  | 23 => ⟨S8192x512, .f32⟩
  | 24 => ⟨S8192x512, .f32⟩
  | 25 => ⟨S8192x512, .f32⟩
  | 26 => ⟨S8192x512, .f32⟩
  | 27 => ⟨S1x512, .f32⟩
  | 28 => ⟨S512, .f32⟩
  | 29 => ⟨S1x512, .f32⟩
  | 30 => ⟨S8192x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S1x512, .f32⟩
  | 37 => ⟨S8192x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S1x512, .f32⟩
  | 44 => ⟨S8192x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S1x512, .f32⟩
  | 51 => ⟨S8192x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S1x512, .f32⟩
  | 58 => ⟨S8192x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S1x512, .f32⟩
  | 65 => ⟨S8192x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S1x512, .f32⟩
  | 72 => ⟨S8192x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S1x512, .f32⟩
  | 79 => ⟨S8192x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S1x512, .f32⟩
  | 86 => ⟨S8192x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S1x512, .f32⟩
  | 93 => ⟨S8192x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S1x512, .f32⟩
  | 100 => ⟨S8192x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S1x512, .f32⟩
  | 107 => ⟨S8192x512, .f32⟩
  | 108 => ⟨S8192x512, .f32⟩
  | 109 => ⟨S8192x512, .f32⟩
  | 110 => ⟨S8192x512, .f32⟩
  | 111 => ⟨S1x512, .f32⟩
  | 112 => ⟨S512, .f32⟩
  | 113 => ⟨S1x512, .f32⟩
  | 114 => ⟨S8192x512, .f32⟩
  | 115 => ⟨S8192x512, .f32⟩
  | 116 => ⟨S8192x512, .f32⟩
  | 117 => ⟨S8192x512, .f32⟩
  | 118 => ⟨S1x512, .f32⟩
  | 119 => ⟨S512, .f32⟩
  | 120 => ⟨S1x512, .f32⟩
  | 121 => ⟨S8192x512, .f32⟩
  | 122 => ⟨S8192x512, .f32⟩
  | 123 => ⟨S8192x512, .f32⟩
  | 124 => ⟨S8192x512, .f32⟩
  | 125 => ⟨S1x512, .f32⟩
  | 126 => ⟨S512, .f32⟩
  | 127 => ⟨S1x512, .f32⟩
  | _ => ⟨S8192x1024, .f32⟩

abbrev hbmTy0_2 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S1x512, .f32⟩
  | 5 => ⟨S512, .f32⟩
  | 6 => ⟨S1x512, .f32⟩
  | 7 => ⟨S8192x512, .f32⟩
  | 8 => ⟨S8192x512, .f32⟩
  | 9 => ⟨S8192x512, .f32⟩
  | 10 => ⟨S8192x512, .f32⟩
  | 11 => ⟨S1x512, .f32⟩
  | 12 => ⟨S512, .f32⟩
  | 13 => ⟨S1x512, .f32⟩
  | 14 => ⟨S8192x512, .f32⟩
  | 15 => ⟨S8192x512, .f32⟩
  | 16 => ⟨S8192x512, .f32⟩
  | 17 => ⟨S8192x512, .f32⟩
  | 18 => ⟨S1x512, .f32⟩
  | 19 => ⟨S512, .f32⟩
  | 20 => ⟨S1x512, .f32⟩
  | 21 => ⟨S8192x512, .f32⟩
  | 22 => ⟨S8192x512, .f32⟩
  | 23 => ⟨S8192x512, .f32⟩
  | 24 => ⟨S8192x512, .f32⟩
  | 25 => ⟨S1x512, .f32⟩
  | 26 => ⟨S512, .f32⟩
  | 27 => ⟨S1x512, .f32⟩
  | 28 => ⟨S8192x512, .f32⟩
  | 29 => ⟨S8192x512, .f32⟩
  | 30 => ⟨S8192x512, .f32⟩
  | 31 => ⟨S8192x512, .f32⟩
  | 32 => ⟨S1x512, .f32⟩
  | 33 => ⟨S512, .f32⟩
  | 34 => ⟨S1x512, .f32⟩
  | 35 => ⟨S8192x512, .f32⟩
  | 36 => ⟨S8192x512, .f32⟩
  | 37 => ⟨S8192x512, .f32⟩
  | 38 => ⟨S8192x512, .f32⟩
  | 39 => ⟨S1x512, .f32⟩
  | 40 => ⟨S512, .f32⟩
  | 41 => ⟨S1x512, .f32⟩
  | 42 => ⟨S8192x512, .f32⟩
  | 43 => ⟨S8192x512, .f32⟩
  | 44 => ⟨S8192x512, .f32⟩
  | 45 => ⟨S8192x512, .f32⟩
  | 46 => ⟨S1x512, .f32⟩
  | 47 => ⟨S512, .f32⟩
  | 48 => ⟨S1x512, .f32⟩
  | 49 => ⟨S8192x512, .f32⟩
  | 50 => ⟨S8192x512, .f32⟩
  | 51 => ⟨S8192x512, .f32⟩
  | 52 => ⟨S8192x512, .f32⟩
  | 53 => ⟨S1x512, .f32⟩
  | 54 => ⟨S512, .f32⟩
  | 55 => ⟨S1x512, .f32⟩
  | 56 => ⟨S8192x512, .f32⟩
  | 57 => ⟨S8192x512, .f32⟩
  | 58 => ⟨S8192x512, .f32⟩
  | 59 => ⟨S8192x512, .f32⟩
  | 60 => ⟨S1x512, .f32⟩
  | 61 => ⟨S512, .f32⟩
  | 62 => ⟨S1x512, .f32⟩
  | 63 => ⟨S8192x512, .f32⟩
  | 64 => ⟨S8192x512, .f32⟩
  | 65 => ⟨S8192x512, .f32⟩
  | 66 => ⟨S8192x512, .f32⟩
  | 67 => ⟨S1x512, .f32⟩
  | 68 => ⟨S512, .f32⟩
  | 69 => ⟨S1x512, .f32⟩
  | 70 => ⟨S8192x512, .f32⟩
  | 71 => ⟨S8192x512, .f32⟩
  | 72 => ⟨S8192x512, .f32⟩
  | 73 => ⟨S8192x512, .f32⟩
  | 74 => ⟨S1x512, .f32⟩
  | 75 => ⟨S512, .f32⟩
  | 76 => ⟨S1x512, .f32⟩
  | 77 => ⟨S8192x512, .f32⟩
  | 78 => ⟨S8192x512, .f32⟩
  | 79 => ⟨S8192x512, .f32⟩
  | 80 => ⟨S8192x512, .f32⟩
  | 81 => ⟨S1x512, .f32⟩
  | 82 => ⟨S512, .f32⟩
  | 83 => ⟨S1x512, .f32⟩
  | 84 => ⟨S8192x512, .f32⟩
  | 85 => ⟨S8192x512, .f32⟩
  | 86 => ⟨S8192x512, .f32⟩
  | 87 => ⟨S8192x512, .f32⟩
  | 88 => ⟨S1x512, .f32⟩
  | 89 => ⟨S512, .f32⟩
  | 90 => ⟨S1x512, .f32⟩
  | 91 => ⟨S8192x512, .f32⟩
  | 92 => ⟨S8192x512, .f32⟩
  | 93 => ⟨S8192x512, .f32⟩
  | 94 => ⟨S8192x512, .f32⟩
  | 95 => ⟨S8192x512, .f32⟩
  | 96 => ⟨S8192x512, .f32⟩
  | 97 => ⟨S8192x512, .f32⟩
  | 98 => ⟨S_, .f32⟩
  | 99 => ⟨S8222x512, .f32⟩
  | 100 => ⟨S8192x512, .f32⟩
  | 101 => ⟨S8192x512, .f32⟩
  | 102 => ⟨S_, .f32⟩
  | 103 => ⟨S8222x512, .f32⟩
  | 104 => ⟨S8222x512, .f32⟩
  | 105 => ⟨S8192x512, .f32⟩
  | 106 => ⟨S8192x512, .f32⟩
  | 107 => ⟨S_, .f32⟩
  | 108 => ⟨S8222x512, .f32⟩
  | 109 => ⟨S8222x512, .f32⟩
  | 110 => ⟨S8192x512, .f32⟩
  | 111 => ⟨S8192x512, .f32⟩
  | 112 => ⟨S_, .f32⟩
  | 113 => ⟨S8222x512, .f32⟩
  | 114 => ⟨S8222x512, .f32⟩
  | 115 => ⟨S8192x512, .f32⟩
  | 116 => ⟨S8192x512, .f32⟩
  | 117 => ⟨S_, .f32⟩
  | 118 => ⟨S8222x512, .f32⟩
  | 119 => ⟨S8222x512, .f32⟩
  | 120 => ⟨S8192x512, .f32⟩
  | 121 => ⟨S8192x512, .f32⟩
  | 122 => ⟨S_, .f32⟩
  | 123 => ⟨S8222x512, .f32⟩
  | 124 => ⟨S8222x512, .f32⟩
  | 125 => ⟨S8192x512, .f32⟩
  | 126 => ⟨S8192x512, .f32⟩
  | 127 => ⟨S_, .f32⟩
  | _ => ⟨S8192x1024, .f32⟩

abbrev hbmTy0_3 (i : Nat) : BufTy := match i % 128 with
  | 0 => ⟨S8222x512, .f32⟩
  | 1 => ⟨S8222x512, .f32⟩
  | 2 => ⟨S8192x512, .f32⟩
  | 3 => ⟨S8192x512, .f32⟩
  | 4 => ⟨S_, .f32⟩
  | 5 => ⟨S8222x512, .f32⟩
  | 6 => ⟨S8222x512, .f32⟩
  | 7 => ⟨S8192x512, .f32⟩
  | 8 => ⟨S8192x512, .f32⟩
  | 9 => ⟨S_, .f32⟩
  | 10 => ⟨S8222x512, .f32⟩
  | 11 => ⟨S8222x512, .f32⟩
  | 12 => ⟨S8192x512, .f32⟩
  | 13 => ⟨S8192x512, .f32⟩
  | 14 => ⟨S_, .f32⟩
  | 15 => ⟨S8222x512, .f32⟩
  | 16 => ⟨S8222x512, .f32⟩
  | 17 => ⟨S8192x512, .f32⟩
  | 18 => ⟨S8192x512, .f32⟩
  | 19 => ⟨S_, .f32⟩
  | 20 => ⟨S8222x512, .f32⟩
  | 21 => ⟨S8222x512, .f32⟩
  | 22 => ⟨S8192x512, .f32⟩
  | 23 => ⟨S8192x512, .f32⟩
  | 24 => ⟨S_, .f32⟩
  | 25 => ⟨S8222x512, .f32⟩
  | 26 => ⟨S8222x512, .f32⟩
  | 27 => ⟨S8192x512, .f32⟩
  | 28 => ⟨S8192x512, .f32⟩
  | 29 => ⟨S_, .f32⟩
  | 30 => ⟨S8222x512, .f32⟩
  | 31 => ⟨S8222x512, .f32⟩
  | 32 => ⟨S8192x512, .f32⟩
  | 33 => ⟨S8192x512, .f32⟩
  | 34 => ⟨S_, .f32⟩
  | 35 => ⟨S8222x512, .f32⟩
  | 36 => ⟨S8222x512, .f32⟩
  | 37 => ⟨S8192x512, .f32⟩
  | 38 => ⟨S8192x512, .f32⟩
  | 39 => ⟨S_, .f32⟩
  | 40 => ⟨S8222x512, .f32⟩
  | 41 => ⟨S8222x512, .f32⟩
  | 42 => ⟨S8192x512, .f32⟩
  | 43 => ⟨S8192x512, .f32⟩
  | 44 => ⟨S_, .f32⟩
  | 45 => ⟨S8222x512, .f32⟩
  | 46 => ⟨S8222x512, .f32⟩
  | 47 => ⟨S8192x512, .f32⟩
  | 48 => ⟨S8192x512, .f32⟩
  | 49 => ⟨S_, .f32⟩
  | 50 => ⟨S8222x512, .f32⟩
  | 51 => ⟨S8222x512, .f32⟩
  | 52 => ⟨S8192x512, .f32⟩
  | 53 => ⟨S8192x512, .f32⟩
  | 54 => ⟨S_, .f32⟩
  | 55 => ⟨S8222x512, .f32⟩
  | 56 => ⟨S8222x512, .f32⟩
  | 57 => ⟨S8192x512, .f32⟩
  | 58 => ⟨S8192x512, .f32⟩
  | 59 => ⟨S_, .f32⟩
  | 60 => ⟨S8222x512, .f32⟩
  | 61 => ⟨S8222x512, .f32⟩
  | 62 => ⟨S8192x512, .f32⟩
  | 63 => ⟨S8192x512, .f32⟩
  | 64 => ⟨S_, .f32⟩
  | 65 => ⟨S8222x512, .f32⟩
  | 66 => ⟨S8222x512, .f32⟩
  | 67 => ⟨S8192x512, .f32⟩
  | 68 => ⟨S8192x512, .f32⟩
  | 69 => ⟨S_, .f32⟩
  | 70 => ⟨S8222x512, .f32⟩
  | 71 => ⟨S8222x512, .f32⟩
  | 72 => ⟨S8192x512, .f32⟩
  | 73 => ⟨S8192x512, .f32⟩
  | 74 => ⟨S_, .f32⟩
  | 75 => ⟨S8222x512, .f32⟩
  | 76 => ⟨S8222x512, .f32⟩
  | 77 => ⟨S8192x512, .f32⟩
  | 78 => ⟨S8192x512, .f32⟩
  | 79 => ⟨S_, .f32⟩
  | 80 => ⟨S8222x512, .f32⟩
  | 81 => ⟨S8222x512, .f32⟩
  | 82 => ⟨S8192x512, .f32⟩
  | 83 => ⟨S8192x512, .f32⟩
  | 84 => ⟨S_, .f32⟩
  | 85 => ⟨S8222x512, .f32⟩
  | 86 => ⟨S8222x512, .f32⟩
  | 87 => ⟨S8192x512, .f32⟩
  | 88 => ⟨S8192x512, .f32⟩
  | 89 => ⟨S_, .f32⟩
  | 90 => ⟨S8222x512, .f32⟩
  | 91 => ⟨S8222x512, .f32⟩
  | 92 => ⟨S8192x512, .f32⟩
  | 93 => ⟨S8192x512, .f32⟩
  | 94 => ⟨S_, .f32⟩
  | 95 => ⟨S8222x512, .f32⟩
  | 96 => ⟨S8222x512, .f32⟩
  | 97 => ⟨S8192x512, .f32⟩
  | 98 => ⟨S8192x512, .f32⟩
  | 99 => ⟨S_, .f32⟩
  | 100 => ⟨S8222x512, .f32⟩
  | 101 => ⟨S8222x512, .f32⟩
  | 102 => ⟨S8192x512, .f32⟩
  | 103 => ⟨S8192x512, .f32⟩
  | 104 => ⟨S_, .f32⟩
  | 105 => ⟨S8222x512, .f32⟩
  | 106 => ⟨S8222x512, .f32⟩
  | 107 => ⟨S8192x512, .f32⟩
  | 108 => ⟨S8192x512, .f32⟩
  | 109 => ⟨S_, .f32⟩
  | 110 => ⟨S8222x512, .f32⟩
  | 111 => ⟨S8222x512, .f32⟩
  | 112 => ⟨S8192x512, .f32⟩
  | 113 => ⟨S8192x512, .f32⟩
  | 114 => ⟨S_, .f32⟩
  | 115 => ⟨S8222x512, .f32⟩
  | 116 => ⟨S8222x512, .f32⟩
  | 117 => ⟨S8192x512, .f32⟩
  | 118 => ⟨S8192x512, .f32⟩
  | 119 => ⟨S_, .f32⟩
  | 120 => ⟨S8222x512, .f32⟩
  | 121 => ⟨S8222x512, .f32⟩
  | 122 => ⟨S30x512, .f32⟩
  | 123 => ⟨S8192x512, .f32⟩
  | 124 => ⟨S8192x512, .f32⟩
  | 125 => ⟨S8192x512, .f32⟩
  | 126 => ⟨S8192x512, .f32⟩
  | 127 => ⟨S8192x1024, .f32⟩
  | _ => ⟨S8192x1024, .f32⟩

abbrev hbmTy0_4 (i : Nat) : BufTy := match i % 128 with
  | 0 => ⟨S_, .f32⟩
  | 1 => ⟨S8192x1536, .f32⟩
  | 2 => ⟨S8192x512, .f32⟩
  | 3 => ⟨S8192x512, .f32⟩
  | 4 => ⟨S8192x128, .f32⟩
  | 5 => ⟨S8192x128, .f32⟩
  | 6 => ⟨S8192x128, .f32⟩
  | 7 => ⟨S8192x128, .f32⟩
  | 8 => ⟨S8192x128, .f32⟩
  | 9 => ⟨S8192x128, .f32⟩
  | 10 => ⟨S8192x128, .f32⟩
  | 11 => ⟨S16x128, .f32⟩
  | 12 => ⟨S8176x128, .f32⟩
  | 13 => ⟨S_, .f32⟩
  | 14 => ⟨S8192x128, .f32⟩
  | 15 => ⟨S8192x128, .f32⟩
  | 16 => ⟨S_, .f32⟩
  | 17 => ⟨S8192x512, .f32⟩
  | 18 => ⟨S8192x128, .f32⟩
  | 19 => ⟨S8192x128, .f32⟩
  | 20 => ⟨S8192x128, .f32⟩
  | 21 => ⟨S8x128, .f32⟩
  | 22 => ⟨S8184x128, .f32⟩
  | 23 => ⟨S_, .f32⟩
  | 24 => ⟨S8192x128, .f32⟩
  | 25 => ⟨S8192x128, .f32⟩
  | 26 => ⟨S_, .f32⟩
  | 27 => ⟨S8192x512, .f32⟩
  | 28 => ⟨S8192x512, .f32⟩
  | 29 => ⟨S8192x128, .f32⟩
  | 30 => ⟨S8192x128, .f32⟩
  | 31 => ⟨S8192x128, .f32⟩
  | 32 => ⟨S4x128, .f32⟩
  | 33 => ⟨S8188x128, .f32⟩
  | 34 => ⟨S_, .f32⟩
  | 35 => ⟨S8192x128, .f32⟩
  | 36 => ⟨S8192x128, .f32⟩
  | 37 => ⟨S_, .f32⟩
  | 38 => ⟨S8192x512, .f32⟩
  | 39 => ⟨S8192x512, .f32⟩
  | 40 => ⟨S8192x128, .f32⟩
  | 41 => ⟨S8192x128, .f32⟩
  | 42 => ⟨S8192x128, .f32⟩
  | 43 => ⟨S2x128, .f32⟩
  | 44 => ⟨S8190x128, .f32⟩
  | 45 => ⟨S_, .f32⟩
  | 46 => ⟨S8192x128, .f32⟩
  | 47 => ⟨S8192x128, .f32⟩
  | 48 => ⟨S_, .f32⟩
  | 49 => ⟨S8192x512, .f32⟩
  | 50 => ⟨S8192x512, .f32⟩
  | 51 => ⟨S_, .f32⟩
  | 52 => ⟨S_, .f32⟩
  | 53 => ⟨S8192x512, .f32⟩
  | 54 => ⟨S8192x512, .f32⟩
  | 55 => ⟨S_, .f32⟩
  | 56 => ⟨S8192x1536, .f32⟩
  | 57 => ⟨S8192x1536, .f32⟩
  | 58 => ⟨S8192x1024, .f32⟩
  | 59 => ⟨S8192x1024, .f32⟩
  | 60 => ⟨S_, .f32⟩
  | 61 => ⟨S1024, .f32⟩
  | 62 => ⟨S1x1024, .f32⟩
  | 63 => ⟨S8192x1024, .f32⟩
  | 64 => ⟨S8192x1024, .f32⟩
  | 65 => ⟨S_, .f32⟩
  | 66 => ⟨S1024, .f32⟩
  | 67 => ⟨S8192x1024, .f32⟩
  | 68 => ⟨S_, .f32⟩
  | 69 => ⟨S8192, .f32⟩
  | 70 => ⟨S8192x1, .f32⟩
  | 71 => ⟨S8192x1024, .f32⟩
  | 72 => ⟨S8192x1024, .f32⟩
  | 73 => ⟨S8192x1024, .f32⟩
  | 74 => ⟨S8192x1, .f32⟩
  | 75 => ⟨S_, .f32⟩
  | 76 => ⟨S8192x1, .f32⟩
  | 77 => ⟨S8192x1, .f32⟩
  | 78 => ⟨S_, .f32⟩
  | 79 => ⟨S8192, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S8192x1536, .bf16⟩
  | 86 => ⟨S1x1024, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_call0_cst : Ref sig .tc := ⟨.hbm, 32, rfl⟩
abbrev main_call0_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_12 : Ref sig .tc := ⟨.hbm, 77, rfl⟩
abbrev main_v54 : Ref sig .tc := ⟨.hbm, 78, rfl⟩
abbrev main_c_13 : Ref sig .tc := ⟨.hbm, 79, rfl⟩
abbrev main_v55 : Ref sig .tc := ⟨.hbm, 80, rfl⟩
abbrev main_v56 : Ref sig .tc := ⟨.hbm, 81, rfl⟩
abbrev main_c_14 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_15 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_16 : Ref sig .tc := ⟨.hbm, 95, rfl⟩
abbrev main_v68 : Ref sig .tc := ⟨.hbm, 96, rfl⟩
abbrev main_c_17 : Ref sig .tc := ⟨.hbm, 97, rfl⟩
abbrev main_v69 : Ref sig .tc := ⟨.hbm, 98, rfl⟩
abbrev main_v70 : Ref sig .tc := ⟨.hbm, 99, rfl⟩
abbrev main_c_18 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_19 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_20 : Ref sig .tc := ⟨.hbm, 117, rfl⟩
abbrev main_v86 : Ref sig .tc := ⟨.hbm, 118, rfl⟩
abbrev main_v87 : Ref sig .tc := ⟨.hbm, 119, rfl⟩
abbrev main_cst_21 : Ref sig .tc := ⟨.hbm, 120, rfl⟩
abbrev main_v88 : Ref sig .tc := ⟨.hbm, 121, rfl⟩
abbrev main_v89 : Ref sig .tc := ⟨.hbm, 122, rfl⟩
abbrev main_cst_22 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_23 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_24 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_v247 : Ref sig .tc := ⟨.hbm, 283, rfl⟩
abbrev main_v248 : Ref sig .tc := ⟨.hbm, 284, rfl⟩
abbrev main_v249 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_v255 : Ref sig .tc := ⟨.hbm, 291, rfl⟩
abbrev main_v256 : Ref sig .tc := ⟨.hbm, 292, rfl⟩
abbrev main_v257 : Ref sig .tc := ⟨.hbm, 293, rfl⟩
abbrev main_v258 : Ref sig .tc := ⟨.hbm, 294, rfl⟩
abbrev main_v259 : Ref sig .tc := ⟨.hbm, 295, rfl⟩
abbrev main_v260 : Ref sig .tc := ⟨.hbm, 296, rfl⟩
abbrev main_v261 : Ref sig .tc := ⟨.hbm, 297, rfl⟩
abbrev main_v262 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_v266 : Ref sig .tc := ⟨.hbm, 302, rfl⟩
abbrev main_v267 : Ref sig .tc := ⟨.hbm, 303, rfl⟩
abbrev main_v268 : Ref sig .tc := ⟨.hbm, 304, rfl⟩
abbrev main_v269 : Ref sig .tc := ⟨.hbm, 305, rfl⟩
abbrev main_v270 : Ref sig .tc := ⟨.hbm, 306, rfl⟩
abbrev main_v271 : Ref sig .tc := ⟨.hbm, 307, rfl⟩
abbrev main_v272 : Ref sig .tc := ⟨.hbm, 308, rfl⟩
abbrev main_v273 : Ref sig .tc := ⟨.hbm, 309, rfl⟩
abbrev main_v274 : Ref sig .tc := ⟨.hbm, 310, rfl⟩
abbrev main_v275 : Ref sig .tc := ⟨.hbm, 311, rfl⟩
abbrev main_v276 : Ref sig .tc := ⟨.hbm, 312, rfl⟩
abbrev main_v277 : Ref sig .tc := ⟨.hbm, 313, rfl⟩
abbrev main_v278 : Ref sig .tc := ⟨.hbm, 314, rfl⟩
abbrev main_v279 : Ref sig .tc := ⟨.hbm, 315, rfl⟩
abbrev main_v280 : Ref sig .tc := ⟨.hbm, 316, rfl⟩
abbrev main_v281 : Ref sig .tc := ⟨.hbm, 317, rfl⟩
abbrev main_v282 : Ref sig .tc := ⟨.hbm, 318, rfl⟩
abbrev main_v283 : Ref sig .tc := ⟨.hbm, 319, rfl⟩
abbrev main_v284 : Ref sig .tc := ⟨.hbm, 320, rfl⟩
abbrev main_v285 : Ref sig .tc := ⟨.hbm, 321, rfl⟩
abbrev main_v286 : Ref sig .tc := ⟨.hbm, 322, rfl⟩
abbrev main_v287 : Ref sig .tc := ⟨.hbm, 323, rfl⟩
abbrev main_v288 : Ref sig .tc := ⟨.hbm, 324, rfl⟩
abbrev main_v289 : Ref sig .tc := ⟨.hbm, 325, rfl⟩
abbrev main_v290 : Ref sig .tc := ⟨.hbm, 326, rfl⟩
abbrev main_v291 : Ref sig .tc := ⟨.hbm, 327, rfl⟩
abbrev main_v292 : Ref sig .tc := ⟨.hbm, 328, rfl⟩
abbrev main_v293 : Ref sig .tc := ⟨.hbm, 329, rfl⟩
abbrev main_v294 : Ref sig .tc := ⟨.hbm, 330, rfl⟩
abbrev main_v295 : Ref sig .tc := ⟨.hbm, 331, rfl⟩
abbrev main_v296 : Ref sig .tc := ⟨.hbm, 332, rfl⟩
abbrev main_v297 : Ref sig .tc := ⟨.hbm, 333, rfl⟩
abbrev main_v298 : Ref sig .tc := ⟨.hbm, 334, rfl⟩
abbrev main_v299 : Ref sig .tc := ⟨.hbm, 335, rfl⟩
abbrev main_v300 : Ref sig .tc := ⟨.hbm, 336, rfl⟩
abbrev main_v301 : Ref sig .tc := ⟨.hbm, 337, rfl⟩
abbrev main_v302 : Ref sig .tc := ⟨.hbm, 338, rfl⟩
abbrev main_v303 : Ref sig .tc := ⟨.hbm, 339, rfl⟩
abbrev main_v304 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_v309 : Ref sig .tc := ⟨.hbm, 345, rfl⟩
abbrev main_v310 : Ref sig .tc := ⟨.hbm, 346, rfl⟩
abbrev main_v311 : Ref sig .tc := ⟨.hbm, 347, rfl⟩
abbrev main_v312 : Ref sig .tc := ⟨.hbm, 348, rfl⟩
abbrev main_v313 : Ref sig .tc := ⟨.hbm, 349, rfl⟩
abbrev main_v314 : Ref sig .tc := ⟨.hbm, 350, rfl⟩
abbrev main_v315 : Ref sig .tc := ⟨.hbm, 351, rfl⟩
abbrev main_v316 : Ref sig .tc := ⟨.hbm, 352, rfl⟩
abbrev main_v317 : Ref sig .tc := ⟨.hbm, 353, rfl⟩
abbrev main_cst_25 : Ref sig .tc := ⟨.hbm, 354, rfl⟩
abbrev main_v318 : Ref sig .tc := ⟨.hbm, 355, rfl⟩
abbrev main_v319 : Ref sig .tc := ⟨.hbm, 356, rfl⟩
abbrev main_v320 : Ref sig .tc := ⟨.hbm, 357, rfl⟩
abbrev main_cst_26 : Ref sig .tc := ⟨.hbm, 358, rfl⟩
abbrev main_v321 : Ref sig .tc := ⟨.hbm, 359, rfl⟩
abbrev main_v322 : Ref sig .tc := ⟨.hbm, 360, rfl⟩
abbrev main_v323 : Ref sig .tc := ⟨.hbm, 361, rfl⟩
abbrev main_v324 : Ref sig .tc := ⟨.hbm, 362, rfl⟩
abbrev main_cst_27 : Ref sig .tc := ⟨.hbm, 363, rfl⟩
abbrev main_v325 : Ref sig .tc := ⟨.hbm, 364, rfl⟩
abbrev main_v326 : Ref sig .tc := ⟨.hbm, 365, rfl⟩
abbrev main_v327 : Ref sig .tc := ⟨.hbm, 366, rfl⟩
abbrev main_v328 : Ref sig .tc := ⟨.hbm, 367, rfl⟩
abbrev main_cst_28 : Ref sig .tc := ⟨.hbm, 368, rfl⟩
abbrev main_v329 : Ref sig .tc := ⟨.hbm, 369, rfl⟩
abbrev main_v330 : Ref sig .tc := ⟨.hbm, 370, rfl⟩
abbrev main_v331 : Ref sig .tc := ⟨.hbm, 371, rfl⟩
abbrev main_v332 : Ref sig .tc := ⟨.hbm, 372, rfl⟩
abbrev main_cst_29 : Ref sig .tc := ⟨.hbm, 373, rfl⟩
abbrev main_v333 : Ref sig .tc := ⟨.hbm, 374, rfl⟩
abbrev main_v334 : Ref sig .tc := ⟨.hbm, 375, rfl⟩
abbrev main_v335 : Ref sig .tc := ⟨.hbm, 376, rfl⟩
abbrev main_v336 : Ref sig .tc := ⟨.hbm, 377, rfl⟩
abbrev main_cst_30 : Ref sig .tc := ⟨.hbm, 378, rfl⟩
abbrev main_v337 : Ref sig .tc := ⟨.hbm, 379, rfl⟩
abbrev main_v338 : Ref sig .tc := ⟨.hbm, 380, rfl⟩
abbrev main_v339 : Ref sig .tc := ⟨.hbm, 381, rfl⟩
abbrev main_v340 : Ref sig .tc := ⟨.hbm, 382, rfl⟩
abbrev main_cst_31 : Ref sig .tc := ⟨.hbm, 383, rfl⟩
abbrev main_v341 : Ref sig .tc := ⟨.hbm, 384, rfl⟩
abbrev main_v342 : Ref sig .tc := ⟨.hbm, 385, rfl⟩
abbrev main_v343 : Ref sig .tc := ⟨.hbm, 386, rfl⟩
abbrev main_v344 : Ref sig .tc := ⟨.hbm, 387, rfl⟩
abbrev main_cst_32 : Ref sig .tc := ⟨.hbm, 388, rfl⟩
abbrev main_v345 : Ref sig .tc := ⟨.hbm, 389, rfl⟩
abbrev main_v346 : Ref sig .tc := ⟨.hbm, 390, rfl⟩
abbrev main_v347 : Ref sig .tc := ⟨.hbm, 391, rfl⟩
abbrev main_v348 : Ref sig .tc := ⟨.hbm, 392, rfl⟩
abbrev main_cst_33 : Ref sig .tc := ⟨.hbm, 393, rfl⟩
abbrev main_v349 : Ref sig .tc := ⟨.hbm, 394, rfl⟩
abbrev main_v350 : Ref sig .tc := ⟨.hbm, 395, rfl⟩
abbrev main_v351 : Ref sig .tc := ⟨.hbm, 396, rfl⟩
abbrev main_v352 : Ref sig .tc := ⟨.hbm, 397, rfl⟩
abbrev main_cst_34 : Ref sig .tc := ⟨.hbm, 398, rfl⟩
abbrev main_v353 : Ref sig .tc := ⟨.hbm, 399, rfl⟩
abbrev main_v354 : Ref sig .tc := ⟨.hbm, 400, rfl⟩
abbrev main_v355 : Ref sig .tc := ⟨.hbm, 401, rfl⟩
abbrev main_v356 : Ref sig .tc := ⟨.hbm, 402, rfl⟩
abbrev main_cst_35 : Ref sig .tc := ⟨.hbm, 403, rfl⟩
abbrev main_v357 : Ref sig .tc := ⟨.hbm, 404, rfl⟩
abbrev main_v358 : Ref sig .tc := ⟨.hbm, 405, rfl⟩
abbrev main_v359 : Ref sig .tc := ⟨.hbm, 406, rfl⟩
abbrev main_v360 : Ref sig .tc := ⟨.hbm, 407, rfl⟩
abbrev main_cst_36 : Ref sig .tc := ⟨.hbm, 408, rfl⟩
abbrev main_v361 : Ref sig .tc := ⟨.hbm, 409, rfl⟩
abbrev main_v362 : Ref sig .tc := ⟨.hbm, 410, rfl⟩
abbrev main_v363 : Ref sig .tc := ⟨.hbm, 411, rfl⟩
abbrev main_v364 : Ref sig .tc := ⟨.hbm, 412, rfl⟩
abbrev main_cst_37 : Ref sig .tc := ⟨.hbm, 413, rfl⟩
abbrev main_v365 : Ref sig .tc := ⟨.hbm, 414, rfl⟩
abbrev main_v366 : Ref sig .tc := ⟨.hbm, 415, rfl⟩
abbrev main_v367 : Ref sig .tc := ⟨.hbm, 416, rfl⟩
abbrev main_v368 : Ref sig .tc := ⟨.hbm, 417, rfl⟩
abbrev main_cst_38 : Ref sig .tc := ⟨.hbm, 418, rfl⟩
abbrev main_v369 : Ref sig .tc := ⟨.hbm, 419, rfl⟩
abbrev main_v370 : Ref sig .tc := ⟨.hbm, 420, rfl⟩
abbrev main_v371 : Ref sig .tc := ⟨.hbm, 421, rfl⟩
abbrev main_v372 : Ref sig .tc := ⟨.hbm, 422, rfl⟩
abbrev main_cst_39 : Ref sig .tc := ⟨.hbm, 423, rfl⟩
abbrev main_v373 : Ref sig .tc := ⟨.hbm, 424, rfl⟩
abbrev main_v374 : Ref sig .tc := ⟨.hbm, 425, rfl⟩
abbrev main_v375 : Ref sig .tc := ⟨.hbm, 426, rfl⟩
abbrev main_v376 : Ref sig .tc := ⟨.hbm, 427, rfl⟩
abbrev main_cst_40 : Ref sig .tc := ⟨.hbm, 428, rfl⟩
abbrev main_v377 : Ref sig .tc := ⟨.hbm, 429, rfl⟩
abbrev main_v378 : Ref sig .tc := ⟨.hbm, 430, rfl⟩
abbrev main_v379 : Ref sig .tc := ⟨.hbm, 431, rfl⟩
abbrev main_v380 : Ref sig .tc := ⟨.hbm, 432, rfl⟩
abbrev main_cst_41 : Ref sig .tc := ⟨.hbm, 433, rfl⟩
abbrev main_v381 : Ref sig .tc := ⟨.hbm, 434, rfl⟩
abbrev main_v382 : Ref sig .tc := ⟨.hbm, 435, rfl⟩
abbrev main_v383 : Ref sig .tc := ⟨.hbm, 436, rfl⟩
abbrev main_v384 : Ref sig .tc := ⟨.hbm, 437, rfl⟩
abbrev main_cst_42 : Ref sig .tc := ⟨.hbm, 438, rfl⟩
abbrev main_v385 : Ref sig .tc := ⟨.hbm, 439, rfl⟩
abbrev main_v386 : Ref sig .tc := ⟨.hbm, 440, rfl⟩
abbrev main_v387 : Ref sig .tc := ⟨.hbm, 441, rfl⟩
abbrev main_v388 : Ref sig .tc := ⟨.hbm, 442, rfl⟩
abbrev main_cst_43 : Ref sig .tc := ⟨.hbm, 443, rfl⟩
abbrev main_v389 : Ref sig .tc := ⟨.hbm, 444, rfl⟩
abbrev main_v390 : Ref sig .tc := ⟨.hbm, 445, rfl⟩
abbrev main_v391 : Ref sig .tc := ⟨.hbm, 446, rfl⟩
abbrev main_v392 : Ref sig .tc := ⟨.hbm, 447, rfl⟩
abbrev main_cst_44 : Ref sig .tc := ⟨.hbm, 448, rfl⟩
abbrev main_v393 : Ref sig .tc := ⟨.hbm, 449, rfl⟩
abbrev main_v394 : Ref sig .tc := ⟨.hbm, 450, rfl⟩
abbrev main_v395 : Ref sig .tc := ⟨.hbm, 451, rfl⟩
abbrev main_v396 : Ref sig .tc := ⟨.hbm, 452, rfl⟩
abbrev main_cst_45 : Ref sig .tc := ⟨.hbm, 453, rfl⟩
abbrev main_v397 : Ref sig .tc := ⟨.hbm, 454, rfl⟩
abbrev main_v398 : Ref sig .tc := ⟨.hbm, 455, rfl⟩
abbrev main_v399 : Ref sig .tc := ⟨.hbm, 456, rfl⟩
abbrev main_v400 : Ref sig .tc := ⟨.hbm, 457, rfl⟩
abbrev main_cst_46 : Ref sig .tc := ⟨.hbm, 458, rfl⟩
abbrev main_v401 : Ref sig .tc := ⟨.hbm, 459, rfl⟩
abbrev main_v402 : Ref sig .tc := ⟨.hbm, 460, rfl⟩
abbrev main_v403 : Ref sig .tc := ⟨.hbm, 461, rfl⟩
abbrev main_v404 : Ref sig .tc := ⟨.hbm, 462, rfl⟩
abbrev main_cst_47 : Ref sig .tc := ⟨.hbm, 463, rfl⟩
abbrev main_v405 : Ref sig .tc := ⟨.hbm, 464, rfl⟩
abbrev main_v406 : Ref sig .tc := ⟨.hbm, 465, rfl⟩
abbrev main_v407 : Ref sig .tc := ⟨.hbm, 466, rfl⟩
abbrev main_v408 : Ref sig .tc := ⟨.hbm, 467, rfl⟩
abbrev main_cst_48 : Ref sig .tc := ⟨.hbm, 468, rfl⟩
abbrev main_v409 : Ref sig .tc := ⟨.hbm, 469, rfl⟩
abbrev main_v410 : Ref sig .tc := ⟨.hbm, 470, rfl⟩
abbrev main_v411 : Ref sig .tc := ⟨.hbm, 471, rfl⟩
abbrev main_v412 : Ref sig .tc := ⟨.hbm, 472, rfl⟩
abbrev main_cst_49 : Ref sig .tc := ⟨.hbm, 473, rfl⟩
abbrev main_v413 : Ref sig .tc := ⟨.hbm, 474, rfl⟩
abbrev main_v414 : Ref sig .tc := ⟨.hbm, 475, rfl⟩
abbrev main_v415 : Ref sig .tc := ⟨.hbm, 476, rfl⟩
abbrev main_v416 : Ref sig .tc := ⟨.hbm, 477, rfl⟩
abbrev main_cst_50 : Ref sig .tc := ⟨.hbm, 478, rfl⟩
abbrev main_v417 : Ref sig .tc := ⟨.hbm, 479, rfl⟩
abbrev main_v418 : Ref sig .tc := ⟨.hbm, 480, rfl⟩
abbrev main_v419 : Ref sig .tc := ⟨.hbm, 481, rfl⟩
abbrev main_v420 : Ref sig .tc := ⟨.hbm, 482, rfl⟩
abbrev main_cst_51 : Ref sig .tc := ⟨.hbm, 483, rfl⟩
abbrev main_v421 : Ref sig .tc := ⟨.hbm, 484, rfl⟩
abbrev main_v422 : Ref sig .tc := ⟨.hbm, 485, rfl⟩
abbrev main_v423 : Ref sig .tc := ⟨.hbm, 486, rfl⟩
abbrev main_v424 : Ref sig .tc := ⟨.hbm, 487, rfl⟩
abbrev main_cst_52 : Ref sig .tc := ⟨.hbm, 488, rfl⟩
abbrev main_v425 : Ref sig .tc := ⟨.hbm, 489, rfl⟩
abbrev main_v426 : Ref sig .tc := ⟨.hbm, 490, rfl⟩
abbrev main_v427 : Ref sig .tc := ⟨.hbm, 491, rfl⟩
abbrev main_v428 : Ref sig .tc := ⟨.hbm, 492, rfl⟩
abbrev main_cst_53 : Ref sig .tc := ⟨.hbm, 493, rfl⟩
abbrev main_v429 : Ref sig .tc := ⟨.hbm, 494, rfl⟩
abbrev main_v430 : Ref sig .tc := ⟨.hbm, 495, rfl⟩
abbrev main_v431 : Ref sig .tc := ⟨.hbm, 496, rfl⟩
abbrev main_v432 : Ref sig .tc := ⟨.hbm, 497, rfl⟩
abbrev main_cst_54 : Ref sig .tc := ⟨.hbm, 498, rfl⟩
abbrev main_v433 : Ref sig .tc := ⟨.hbm, 499, rfl⟩
abbrev main_v434 : Ref sig .tc := ⟨.hbm, 500, rfl⟩
abbrev main_v435 : Ref sig .tc := ⟨.hbm, 501, rfl⟩
abbrev main_v436 : Ref sig .tc := ⟨.hbm, 502, rfl⟩
abbrev main_cst_55 : Ref sig .tc := ⟨.hbm, 503, rfl⟩
abbrev main_v437 : Ref sig .tc := ⟨.hbm, 504, rfl⟩
abbrev main_v438 : Ref sig .tc := ⟨.hbm, 505, rfl⟩
abbrev main_v439 : Ref sig .tc := ⟨.hbm, 506, rfl⟩
abbrev main_v440 : Ref sig .tc := ⟨.hbm, 507, rfl⟩
abbrev main_v441 : Ref sig .tc := ⟨.hbm, 508, rfl⟩
abbrev main_v442 : Ref sig .tc := ⟨.hbm, 509, rfl⟩
abbrev main_v443 : Ref sig .tc := ⟨.hbm, 510, rfl⟩
abbrev main_v444 : Ref sig .tc := ⟨.hbm, 511, rfl⟩
abbrev main_cst_56 : Ref sig .tc := ⟨.hbm, 512, rfl⟩
abbrev main_v445 : Ref sig .tc := ⟨.hbm, 513, rfl⟩
abbrev main_v446 : Ref sig .tc := ⟨.hbm, 514, rfl⟩
abbrev main_v447 : Ref sig .tc := ⟨.hbm, 515, rfl⟩
abbrev main_v448 : Ref sig .tc := ⟨.hbm, 516, rfl⟩
abbrev main_v449 : Ref sig .tc := ⟨.hbm, 517, rfl⟩
abbrev main_v450 : Ref sig .tc := ⟨.hbm, 518, rfl⟩
abbrev main_v451 : Ref sig .tc := ⟨.hbm, 519, rfl⟩
abbrev main_v452 : Ref sig .tc := ⟨.hbm, 520, rfl⟩
abbrev main_v453 : Ref sig .tc := ⟨.hbm, 521, rfl⟩
abbrev main_v454 : Ref sig .tc := ⟨.hbm, 522, rfl⟩
abbrev main_v455 : Ref sig .tc := ⟨.hbm, 523, rfl⟩
abbrev main_v456 : Ref sig .tc := ⟨.hbm, 524, rfl⟩
abbrev main_cst_57 : Ref sig .tc := ⟨.hbm, 525, rfl⟩
abbrev main_v457 : Ref sig .tc := ⟨.hbm, 526, rfl⟩
abbrev main_v458 : Ref sig .tc := ⟨.hbm, 527, rfl⟩
abbrev main_cst_58 : Ref sig .tc := ⟨.hbm, 528, rfl⟩
abbrev main_v459 : Ref sig .tc := ⟨.hbm, 529, rfl⟩
abbrev main_v460 : Ref sig .tc := ⟨.hbm, 530, rfl⟩
abbrev main_v461 : Ref sig .tc := ⟨.hbm, 531, rfl⟩
abbrev main_v462 : Ref sig .tc := ⟨.hbm, 532, rfl⟩
abbrev main_v463 : Ref sig .tc := ⟨.hbm, 533, rfl⟩
abbrev main_v464 : Ref sig .tc := ⟨.hbm, 534, rfl⟩
abbrev main_cst_59 : Ref sig .tc := ⟨.hbm, 535, rfl⟩
abbrev main_v465 : Ref sig .tc := ⟨.hbm, 536, rfl⟩
abbrev main_v466 : Ref sig .tc := ⟨.hbm, 537, rfl⟩
abbrev main_cst_60 : Ref sig .tc := ⟨.hbm, 538, rfl⟩
abbrev main_v467 : Ref sig .tc := ⟨.hbm, 539, rfl⟩
abbrev main_v468 : Ref sig .tc := ⟨.hbm, 540, rfl⟩
abbrev main_v469 : Ref sig .tc := ⟨.hbm, 541, rfl⟩
abbrev main_v470 : Ref sig .tc := ⟨.hbm, 542, rfl⟩
abbrev main_v471 : Ref sig .tc := ⟨.hbm, 543, rfl⟩
abbrev main_v472 : Ref sig .tc := ⟨.hbm, 544, rfl⟩
abbrev main_v473 : Ref sig .tc := ⟨.hbm, 545, rfl⟩
abbrev main_cst_61 : Ref sig .tc := ⟨.hbm, 546, rfl⟩
abbrev main_v474 : Ref sig .tc := ⟨.hbm, 547, rfl⟩
abbrev main_v475 : Ref sig .tc := ⟨.hbm, 548, rfl⟩
abbrev main_cst_62 : Ref sig .tc := ⟨.hbm, 549, rfl⟩
abbrev main_v476 : Ref sig .tc := ⟨.hbm, 550, rfl⟩
abbrev main_v477 : Ref sig .tc := ⟨.hbm, 551, rfl⟩
abbrev main_v478 : Ref sig .tc := ⟨.hbm, 552, rfl⟩
abbrev main_v479 : Ref sig .tc := ⟨.hbm, 553, rfl⟩
abbrev main_v480 : Ref sig .tc := ⟨.hbm, 554, rfl⟩
abbrev main_v481 : Ref sig .tc := ⟨.hbm, 555, rfl⟩
abbrev main_v482 : Ref sig .tc := ⟨.hbm, 556, rfl⟩
abbrev main_cst_63 : Ref sig .tc := ⟨.hbm, 557, rfl⟩
abbrev main_v483 : Ref sig .tc := ⟨.hbm, 558, rfl⟩
abbrev main_v484 : Ref sig .tc := ⟨.hbm, 559, rfl⟩
abbrev main_cst_64 : Ref sig .tc := ⟨.hbm, 560, rfl⟩
abbrev main_v485 : Ref sig .tc := ⟨.hbm, 561, rfl⟩
abbrev main_v486 : Ref sig .tc := ⟨.hbm, 562, rfl⟩
abbrev main_call1_call0_cst : Ref sig .tc := ⟨.hbm, 563, rfl⟩
abbrev main_call1_call0_v0 : Ref sig .tc := ⟨.hbm, 564, rfl⟩
abbrev main_v487 : Ref sig .tc := ⟨.hbm, 565, rfl⟩
abbrev main_v488 : Ref sig .tc := ⟨.hbm, 566, rfl⟩
abbrev main_cst_65 : Ref sig .tc := ⟨.hbm, 567, rfl⟩
abbrev main_v489 : Ref sig .tc := ⟨.hbm, 568, rfl⟩
abbrev main_v490 : Ref sig .tc := ⟨.hbm, 569, rfl⟩
abbrev main_v491 : Ref sig .tc := ⟨.hbm, 570, rfl⟩
abbrev main_v492 : Ref sig .tc := ⟨.hbm, 571, rfl⟩
abbrev main_cst_66 : Ref sig .tc := ⟨.hbm, 572, rfl⟩
abbrev main_v493 : Ref sig .tc := ⟨.hbm, 573, rfl⟩
abbrev main_v494 : Ref sig .tc := ⟨.hbm, 574, rfl⟩
abbrev main_v495 : Ref sig .tc := ⟨.hbm, 575, rfl⟩
abbrev main_v496 : Ref sig .tc := ⟨.hbm, 576, rfl⟩
abbrev main_cst_67 : Ref sig .tc := ⟨.hbm, 577, rfl⟩
abbrev main_v497 : Ref sig .tc := ⟨.hbm, 578, rfl⟩
abbrev main_v498 : Ref sig .tc := ⟨.hbm, 579, rfl⟩
abbrev main_cst_68 : Ref sig .tc := ⟨.hbm, 580, rfl⟩
abbrev main_v499 : Ref sig .tc := ⟨.hbm, 581, rfl⟩
abbrev main_v500 : Ref sig .tc := ⟨.hbm, 582, rfl⟩
abbrev main_v501 : Ref sig .tc := ⟨.hbm, 583, rfl⟩
abbrev main_v502 : Ref sig .tc := ⟨.hbm, 584, rfl⟩
abbrev main_v503 : Ref sig .tc := ⟨.hbm, 585, rfl⟩
abbrev main_v504 : Ref sig .tc := ⟨.hbm, 586, rfl⟩
abbrev main_cst_69 : Ref sig .tc := ⟨.hbm, 587, rfl⟩
abbrev main_v505 : Ref sig .tc := ⟨.hbm, 588, rfl⟩
abbrev main_v506 : Ref sig .tc := ⟨.hbm, 589, rfl⟩
abbrev main_cst_70 : Ref sig .tc := ⟨.hbm, 590, rfl⟩
abbrev main_v507 : Ref sig .tc := ⟨.hbm, 591, rfl⟩
abbrev main_v508 : Ref sig .tc := ⟨.hbm, 592, rfl⟩
abbrev main_v509 : Ref sig .tc := ⟨.hbm, 593, rfl⟩
abbrev main_v510 : Ref sig .tc := ⟨.hbm, 594, rfl⟩
abbrev main_v511 : Ref sig .tc := ⟨.hbm, 595, rfl⟩
abbrev main_v512 : Ref sig .tc := ⟨.hbm, 596, rfl⟩
abbrev main_v513 : Ref sig .tc := ⟨.hbm, 597, rfl⟩
abbrev main_v514 : Ref sig .tc := ⟨.hbm, 598, rfl⟩

abbrev nD : Nat := 1
abbrev τ : Topo := Topo.v7x

variable {F : FTy → Type} [FloatOps F]
-- ==== MixOutBwd.lean ====
abbrev S8192x1024 : Shape := ⟨2, ![8192, 1024]⟩
abbrev S1024 : Shape := ⟨1, ![1024]⟩
abbrev S1024x1536 : Shape := ⟨2, ![1024, 1536]⟩
abbrev S4x128x128 : Shape := ⟨3, ![4, 128, 128]⟩
abbrev S4x128 : Shape := ⟨2, ![4, 128]⟩
abbrev S512 : Shape := ⟨1, ![512]⟩
abbrev S31x512 : Shape := ⟨2, ![31, 512]⟩
abbrev S1024x1024 : Shape := ⟨2, ![1024, 1024]⟩
abbrev S4x256x1024 : Shape := ⟨3, ![4, 256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩
abbrev S8192x512 : Shape := ⟨2, ![8192, 512]⟩
abbrev S30x512 : Shape := ⟨2, ![30, 512]⟩
abbrev S8222x512 : Shape := ⟨2, ![8222, 512]⟩
abbrev S1x512 : Shape := ⟨2, ![1, 512]⟩
abbrev S40x512 : Shape := ⟨2, ![40, 512]⟩
abbrev S512x1024 : Shape := ⟨2, ![512, 1024]⟩
abbrev S512x1536 : Shape := ⟨2, ![512, 1536]⟩
abbrev S32x1536 : Shape := ⟨2, ![32, 1536]⟩
abbrev S512x512 : Shape := ⟨2, ![512, 512]⟩
abbrev S4 : Shape := ⟨1, ![4]⟩
abbrev S1 : Shape := ⟨1, ![1]⟩
abbrev S256x1024 : Shape := ⟨2, ![256, 1024]⟩
abbrev S1x256x1024 : Shape := ⟨3, ![1, 256, 1024]⟩
abbrev S544x1536 : Shape := ⟨2, ![544, 1536]⟩
abbrev S544x512 : Shape := ⟨2, ![544, 512]⟩
abbrev S512x128 : Shape := ⟨2, ![512, 128]⟩
abbrev S512x1 : Shape := ⟨2, ![512, 1]⟩
abbrev S1x128x128 : Shape := ⟨3, ![1, 128, 128]⟩
abbrev S128x128 : Shape := ⟨2, ![128, 128]⟩
abbrev S1x128 : Shape := ⟨2, ![1, 128]⟩
abbrev S160x128 : Shape := ⟨2, ![160, 128]⟩
abbrev S128 : Shape := ⟨1, ![128]⟩

abbrev nBuf : Space → Nat
  | .hbm => 279
  | .vmem => 22
  | .smem => 0
  | _ => 0

abbrev hbmTy0_0 (i : Nat) : BufTy := match i % 128 with
  | 0 => ⟨S8192x1024, .f32⟩
  | 1 => ⟨S1024, .f32⟩
  | 2 => ⟨S1024x1536, .f32⟩
  | 3 => ⟨S4x128x128, .f32⟩
  | 4 => ⟨S4x128, .f32⟩
  | 5 => ⟨S512, .f32⟩
  | 6 => ⟨S31x512, .f32⟩
  | 7 => ⟨S512, .f32⟩
  | 8 => ⟨S512, .f32⟩
  | 9 => ⟨S512, .f32⟩
  | 10 => ⟨S1024x1024, .f32⟩
  | 11 => ⟨S8192x1024, .f32⟩
  | 12 => ⟨S4x256x1024, .f32⟩
  | 13 => ⟨S4x256x1024, .bf16⟩
  | 14 => ⟨S8192x1024, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1, .f32⟩
  | 25 => ⟨S8192x1024, .f32⟩
  | 26 => ⟨S8192x1024, .f32⟩
  | 27 => ⟨S1x1024, .f32⟩
  | 28 => ⟨S8192x1024, .f32⟩
  | 29 => ⟨S8192x1024, .f32⟩
  | 30 => ⟨S8192x1024, .bf16⟩
  | 31 => ⟨S1024x1536, .bf16⟩
  | 32 => ⟨S8192x1536, .f32⟩
  | 33 => ⟨S8192x1024, .f32⟩
  | 34 => ⟨S8192x512, .f32⟩
  | 35 => ⟨S8192x512, .f32⟩
  | 36 => ⟨S_, .f32⟩
  | 37 => ⟨S30x512, .f32⟩
  | 38 => ⟨S8192x512, .f32⟩
  | 39 => ⟨S8192x512, .f32⟩
  | 40 => ⟨S_, .f32⟩
  | 41 => ⟨S8192x512, .f32⟩
  | 42 => ⟨S8192x512, .f32⟩
  | 43 => ⟨S_, .f32⟩
  | 44 => ⟨S8192x512, .f32⟩
  | 45 => ⟨S8192x512, .f32⟩
  | 46 => ⟨S8192x512, .f32⟩
  | 47 => ⟨S8222x512, .f32⟩
  | 48 => ⟨S8192x512, .f32⟩
  | 49 => ⟨S1x512, .f32⟩
  | 50 => ⟨S512, .f32⟩
  | 51 => ⟨S1x512, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S8192x512, .f32⟩
  | 58 => ⟨S1x512, .f32⟩
  | 59 => ⟨S512, .f32⟩
  | 60 => ⟨S1x512, .f32⟩
  | 61 => ⟨S8192x512, .f32⟩
  | 62 => ⟨S8192x512, .f32⟩
  | 63 => ⟨S8192x512, .f32⟩
  | 64 => ⟨S8192x512, .f32⟩
  | 65 => ⟨S1x512, .f32⟩
  | 66 => ⟨S512, .f32⟩
  | 67 => ⟨S1x512, .f32⟩
  | 68 => ⟨S8192x512, .f32⟩
  | 69 => ⟨S8192x512, .f32⟩
  | 70 => ⟨S8192x512, .f32⟩
  | 71 => ⟨S8192x512, .f32⟩
  | 72 => ⟨S1x512, .f32⟩
  | 73 => ⟨S512, .f32⟩
  | 74 => ⟨S1x512, .f32⟩
  | 75 => ⟨S8192x512, .f32⟩
  | 76 => ⟨S8192x512, .f32⟩
  | 77 => ⟨S8192x512, .f32⟩
  | 78 => ⟨S8192x512, .f32⟩
  | 79 => ⟨S1x512, .f32⟩
  | 80 => ⟨S512, .f32⟩
  | 81 => ⟨S1x512, .f32⟩
  | 82 => ⟨S8192x512, .f32⟩
  | 83 => ⟨S8192x512, .f32⟩
  | 84 => ⟨S8192x512, .f32⟩
  | 85 => ⟨S8192x512, .f32⟩
  | 86 => ⟨S1x512, .f32⟩
  | 87 => ⟨S512, .f32⟩
  | 88 => ⟨S1x512, .f32⟩
  | 89 => ⟨S8192x512, .f32⟩
  | 90 => ⟨S8192x512, .f32⟩
  | 91 => ⟨S8192x512, .f32⟩
  | 92 => ⟨S8192x512, .f32⟩
  | 93 => ⟨S1x512, .f32⟩
  | 94 => ⟨S512, .f32⟩
  | 95 => ⟨S1x512, .f32⟩
  | 96 => ⟨S8192x512, .f32⟩
  | 97 => ⟨S8192x512, .f32⟩
  | 98 => ⟨S8192x512, .f32⟩
  | 99 => ⟨S8192x512, .f32⟩
  | 100 => ⟨S1x512, .f32⟩
  | 101 => ⟨S512, .f32⟩
  | 102 => ⟨S1x512, .f32⟩
  | 103 => ⟨S8192x512, .f32⟩
  | 104 => ⟨S8192x512, .f32⟩
  | 105 => ⟨S8192x512, .f32⟩
  | 106 => ⟨S8192x512, .f32⟩
  | 107 => ⟨S1x512, .f32⟩
  | 108 => ⟨S512, .f32⟩
  | 109 => ⟨S1x512, .f32⟩
  | 110 => ⟨S8192x512, .f32⟩
  | 111 => ⟨S8192x512, .f32⟩
  | 112 => ⟨S8192x512, .f32⟩
  | 113 => ⟨S8192x512, .f32⟩
  | 114 => ⟨S1x512, .f32⟩
  | 115 => ⟨S512, .f32⟩
  | 116 => ⟨S1x512, .f32⟩
  | 117 => ⟨S8192x512, .f32⟩
  | 118 => ⟨S8192x512, .f32⟩
  | 119 => ⟨S8192x512, .f32⟩
  | 120 => ⟨S8192x512, .f32⟩
  | 121 => ⟨S1x512, .f32⟩
  | 122 => ⟨S512, .f32⟩
  | 123 => ⟨S1x512, .f32⟩
  | 124 => ⟨S8192x512, .f32⟩
  | 125 => ⟨S8192x512, .f32⟩
  | 126 => ⟨S8192x512, .f32⟩
  | 127 => ⟨S8192x512, .f32⟩
  | _ => ⟨S8192x1024, .f32⟩

abbrev hbmTy0_1 (i : Nat) : BufTy := match i % 128 with
  | 0 => ⟨S1x512, .f32⟩
  | 1 => ⟨S512, .f32⟩
  | 2 => ⟨S1x512, .f32⟩
  | 3 => ⟨S8192x512, .f32⟩
  | 4 => ⟨S8192x512, .f32⟩
  | 5 => ⟨S8192x512, .f32⟩
  | 6 => ⟨S8192x512, .f32⟩
  | 7 => ⟨S1x512, .f32⟩
  | 8 => ⟨S512, .f32⟩
  | 9 => ⟨S1x512, .f32⟩
  | 10 => ⟨S8192x512, .f32⟩
  | 11 => ⟨S8192x512, .f32⟩
  | 12 => ⟨S8192x512, .f32⟩
  | 13 => ⟨S8192x512, .f32⟩
  | 14 => ⟨S1x512, .f32⟩
  | 15 => ⟨S512, .f32⟩
  | 16 => ⟨S1x512, .f32⟩
  | 17 => ⟨S8192x512, .f32⟩
  | 18 => ⟨S8192x512, .f32⟩
  | 19 => ⟨S8192x512, .f32⟩
  | 20 => ⟨S8192x512, .f32⟩
  | 21 => ⟨S1x512, .f32⟩
  | 22 => ⟨S512, .f32⟩
  | 23 => ⟨S1x512, .f32⟩
  | 24 => ⟨S8192x512, .f32⟩
  | 25 => ⟨S8192x512, .f32⟩
  | 26 => ⟨S8192x512, .f32⟩
  | 27 => ⟨S8192x512, .f32⟩
  | 28 => ⟨S1x512, .f32⟩
  | 29 => ⟨S512, .f32⟩
  | 30 => ⟨S1x512, .f32⟩
  | 31 => ⟨S8192x512, .f32⟩
  | 32 => ⟨S8192x512, .f32⟩
  | 33 => ⟨S8192x512, .f32⟩
  | 34 => ⟨S8192x512, .f32⟩
  | 35 => ⟨S1x512, .f32⟩
  | 36 => ⟨S512, .f32⟩
  | 37 => ⟨S1x512, .f32⟩
  | 38 => ⟨S8192x512, .f32⟩
  | 39 => ⟨S8192x512, .f32⟩
  | 40 => ⟨S8192x512, .f32⟩
  | 41 => ⟨S8192x512, .f32⟩
  | 42 => ⟨S1x512, .f32⟩
  | 43 => ⟨S512, .f32⟩
  | 44 => ⟨S1x512, .f32⟩
  | 45 => ⟨S8192x512, .f32⟩
  | 46 => ⟨S8192x512, .f32⟩
  | 47 => ⟨S8192x512, .f32⟩
  | 48 => ⟨S8192x512, .f32⟩
  | 49 => ⟨S1x512, .f32⟩
  | 50 => ⟨S512, .f32⟩
  | 51 => ⟨S1x512, .f32⟩
  | 52 => ⟨S8192x512, .f32⟩
  | 53 => ⟨S8192x512, .f32⟩
  | 54 => ⟨S8192x512, .f32⟩
  | 55 => ⟨S8192x512, .f32⟩
  | 56 => ⟨S1x512, .f32⟩
  | 57 => ⟨S512, .f32⟩
  | 58 => ⟨S1x512, .f32⟩
  | 59 => ⟨S8192x512, .f32⟩
  | 60 => ⟨S8192x512, .f32⟩
  | 61 => ⟨S8192x512, .f32⟩
  | 62 => ⟨S8192x512, .f32⟩
  | 63 => ⟨S1x512, .f32⟩
  | 64 => ⟨S512, .f32⟩
  | 65 => ⟨S1x512, .f32⟩
  | 66 => ⟨S8192x512, .f32⟩
  | 67 => ⟨S8192x512, .f32⟩
  | 68 => ⟨S8192x512, .f32⟩
  | 69 => ⟨S8192x512, .f32⟩
  | 70 => ⟨S1x512, .f32⟩
  | 71 => ⟨S512, .f32⟩
  | 72 => ⟨S1x512, .f32⟩
  | 73 => ⟨S8192x512, .f32⟩
  | 74 => ⟨S8192x512, .f32⟩
  | 75 => ⟨S8192x512, .f32⟩
  | 76 => ⟨S8192x512, .f32⟩
  | 77 => ⟨S1x512, .f32⟩
  | 78 => ⟨S512, .f32⟩
  | 79 => ⟨S1x512, .f32⟩
  | 80 => ⟨S8192x512, .f32⟩
  | 81 => ⟨S8192x512, .f32⟩
  | 82 => ⟨S8192x512, .f32⟩
  | 83 => ⟨S8192x512, .f32⟩
  | 84 => ⟨S1x512, .f32⟩
  | 85 => ⟨S512, .f32⟩
  | 86 => ⟨S1x512, .f32⟩
  | 87 => ⟨S8192x512, .f32⟩
  | 88 => ⟨S8192x512, .f32⟩
  | 89 => ⟨S8192x512, .f32⟩
  | 90 => ⟨S8192x512, .f32⟩
  | 91 => ⟨S1x512, .f32⟩
  | 92 => ⟨S512, .f32⟩
  | 93 => ⟨S1x512, .f32⟩
  | 94 => ⟨S8192x512, .f32⟩
  | 95 => ⟨S8192x512, .f32⟩
  | 96 => ⟨S8192x512, .f32⟩
  | 97 => ⟨S8192x512, .f32⟩
  | 98 => ⟨S1x512, .f32⟩
  | 99 => ⟨S512, .f32⟩
  | 100 => ⟨S1x512, .f32⟩
  | 101 => ⟨S8192x512, .f32⟩
  | 102 => ⟨S8192x512, .f32⟩
  | 103 => ⟨S8192x512, .f32⟩
  | 104 => ⟨S8192x512, .f32⟩
  | 105 => ⟨S1x512, .f32⟩
  | 106 => ⟨S512, .f32⟩
  | 107 => ⟨S1x512, .f32⟩
  | 108 => ⟨S8192x512, .f32⟩
  | 109 => ⟨S8192x512, .f32⟩
  | 110 => ⟨S8192x512, .f32⟩
  | 111 => ⟨S8192x512, .f32⟩
  | 112 => ⟨S1x512, .f32⟩
  | 113 => ⟨S512, .f32⟩
  | 114 => ⟨S1x512, .f32⟩
  | 115 => ⟨S8192x512, .f32⟩
  | 116 => ⟨S8192x512, .f32⟩
  | 117 => ⟨S8192x512, .f32⟩
  | 118 => ⟨S8192x512, .f32⟩
  | 119 => ⟨S1x512, .f32⟩
  | 120 => ⟨S512, .f32⟩
  | 121 => ⟨S1x512, .f32⟩
  | 122 => ⟨S8192x512, .f32⟩
  | 123 => ⟨S8192x512, .f32⟩
  | 124 => ⟨S8192x512, .f32⟩
  | 125 => ⟨S8192x512, .f32⟩
  | 126 => ⟨S1x512, .f32⟩
  | 127 => ⟨S512, .f32⟩
  | _ => ⟨S8192x1024, .f32⟩

abbrev hbmTy0_2 (i : Nat) : BufTy := match i % 128 with
  | 0 => ⟨S1x512, .f32⟩
  | 1 => ⟨S8192x512, .f32⟩
  | 2 => ⟨S8192x512, .f32⟩
  | 3 => ⟨S8192x512, .f32⟩
  | 4 => ⟨S8192x512, .f32⟩
  | 5 => ⟨S1x512, .f32⟩
  | 6 => ⟨S512, .f32⟩
  | 7 => ⟨S1x512, .f32⟩
  | 8 => ⟨S8192x512, .f32⟩
  | 9 => ⟨S8192x512, .f32⟩
  | 10 => ⟨S8192x512, .f32⟩
  | 11 => ⟨S1x512, .f32⟩
  | 12 => ⟨S8192x512, .f32⟩
  | 13 => ⟨S8192x512, .f32⟩
  | 14 => ⟨S1x512, .f32⟩
  | 15 => ⟨S1x512, .f32⟩
  | 16 => ⟨S1x512, .f32⟩
  | 17 => ⟨S1x512, .f32⟩
  | 18 => ⟨S1x512, .f32⟩
  | 19 => ⟨S8192x512, .f32⟩
  | 20 => ⟨S8192x512, .f32⟩
  | 21 => ⟨S4x128x128, .f32⟩
  | 22 => ⟨S40x512, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1536, .f32⟩
  | .local _ .vmem, ⟨3, _⟩ => ⟨S512x1536, .f32⟩
  | .local _ .vmem, ⟨4, _⟩ => ⟨S32x1536, .f32⟩
  | .local _ .vmem, ⟨5, _⟩ => ⟨S32x1536, .f32⟩
  | .local _ .vmem, ⟨6, _⟩ => ⟨S512x512, .f32⟩
  | .local _ .vmem, ⟨7, _⟩ => ⟨S512x512, .f32⟩
  | .local _ .vmem, ⟨8, _⟩ => ⟨S4x128x128, .f32⟩
  | .local _ .vmem, ⟨9, _⟩ => ⟨S1x512, .f32⟩
  | .local _ .vmem, ⟨10, _⟩ => ⟨S1x512, .f32⟩
  | .local _ .vmem, ⟨11, _⟩ => ⟨S31x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S4x128x128, .f32⟩
  | .local _ .vmem, ⟨20, _⟩ => ⟨S40x512, .f32⟩
  | .local _ .vmem, ⟨21, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256_0 : Ref sig .tc := ⟨.hbm, 275, rfl⟩
abbrev main_v256_1 : Ref sig .tc := ⟨.hbm, 276, rfl⟩
abbrev main_v256_2 : Ref sig .tc := ⟨.hbm, 277, rfl⟩
abbrev main_v256_3 : Ref sig .tc := ⟨.hbm, 278, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S40x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixOutBwdRefIdeal.lean ====
abbrev S8192x1024 : Shape := ⟨2, ![8192, 1024]⟩
abbrev S1024 : Shape := ⟨1, ![1024]⟩
abbrev S1024x1536 : Shape := ⟨2, ![1024, 1536]⟩
abbrev S4x128x128 : Shape := ⟨3, ![4, 128, 128]⟩
abbrev S4x128 : Shape := ⟨2, ![4, 128]⟩
abbrev S512 : Shape := ⟨1, ![512]⟩
abbrev S31x512 : Shape := ⟨2, ![31, 512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩
abbrev S8192x512 : Shape := ⟨2, ![8192, 512]⟩
abbrev S8192x128 : Shape := ⟨2, ![8192, 128]⟩
abbrev S2x128 : Shape := ⟨2, ![2, 128]⟩
abbrev S8190x128 : Shape := ⟨2, ![8190, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S8192x4x128 : Shape := ⟨3, ![8192, 4, 128]⟩
abbrev S4x128x8192 : Shape := ⟨3, ![4, 128, 8192]⟩
abbrev S1x4x128 : Shape := ⟨3, ![1, 4, 128]⟩
abbrev S1x512 : Shape := ⟨2, ![1, 512]⟩
abbrev S30x512 : Shape := ⟨2, ![30, 512]⟩
abbrev S8222x512 : Shape := ⟨2, ![8222, 512]⟩
abbrev S4x8192x128 : Shape := ⟨3, ![4, 8192, 128]⟩
abbrev S40x512 : Shape := ⟨2, ![40, 512]⟩

abbrev nBuf : Space → Nat
  | .hbm => 825
  | .vmem => 0
  | .smem => 0
  | _ => 0

abbrev hbmTy0_0 (i : Nat) : BufTy := match i % 128 with
  | 0 => ⟨S8192x1024, .f32⟩
  | 1 => ⟨S1024, .f32⟩
  | 2 => ⟨S1024x1536, .f32⟩
  | 3 => ⟨S4x128x128, .f32⟩
  | 4 => ⟨S4x128, .f32⟩
  | 5 => ⟨S512, .f32⟩
  | 6 => ⟨S31x512, .f32⟩
  | 7 => ⟨S512, .f32⟩
  | 8 => ⟨S512, .f32⟩
  | 9 => ⟨S512, .f32⟩
  | 10 => ⟨S1024x1024, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x1536, .f32⟩
  | 29 => ⟨S_, .f32⟩
  | 30 => ⟨S8192x512, .f32⟩
  | 31 => ⟨S8192x512, .f32⟩
  | 32 => ⟨S_, .f32⟩
  | 33 => ⟨S_, .f32⟩
  | 34 => ⟨S8192x512, .f32⟩
  | 35 => ⟨S8192, .i32⟩
  | 36 => ⟨S8192x128, .f32⟩
  | 37 => ⟨S_, .f32⟩
  | 38 => ⟨S2x128, .f32⟩
  | 39 => ⟨S8190x128, .f32⟩
  | 40 => ⟨S8192x128, .f32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S8192, .f32⟩
  | 48 => ⟨S8192x1, .f32⟩
  | 49 => ⟨S8192x128, .f32⟩
  | 50 => ⟨S8192x128, .f32⟩
  | 51 => ⟨S8192x128, .f32⟩
  | 52 => ⟨S8192x128, .f32⟩
  | 53 => ⟨S8192x128, .f32⟩
  | 54 => ⟨S8192x128, .f32⟩
  | 55 => ⟨S_, .f32⟩
  | 56 => ⟨S4x128, .f32⟩
  | 57 => ⟨S8188x128, .f32⟩
  | 58 => ⟨S8192x128, .f32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S8192, .f32⟩
  | 66 => ⟨S8192x1, .f32⟩
  | 67 => ⟨S8192x128, .f32⟩
  | 68 => ⟨S8192x128, .f32⟩
  | 69 => ⟨S8192x128, .f32⟩
  | 70 => ⟨S8192x128, .f32⟩
  | 71 => ⟨S8192x128, .f32⟩
  | 72 => ⟨S8192x128, .f32⟩
  | 73 => ⟨S_, .f32⟩
  | 74 => ⟨S8x128, .f32⟩
  | 75 => ⟨S8184x128, .f32⟩
  | 76 => ⟨S8192x128, .f32⟩
  | 77 => ⟨S_, .i32⟩
  | 78 => ⟨S8192, .i32⟩
  | 79 => ⟨S8192, .i32⟩
  | 80 => ⟨S_, .i32⟩
  | 81 => ⟨S8192, .i32⟩
  | 82 => ⟨S8192, .i32⟩
  | 83 => ⟨S8192, .f32⟩
  | 84 => ⟨S8192x1, .f32⟩
  | 85 => ⟨S8192x128, .f32⟩
  | 86 => ⟨S8192x128, .f32⟩
  | 87 => ⟨S8192x128, .f32⟩
  | 88 => ⟨S8192x128, .f32⟩
  | 89 => ⟨S8192x128, .f32⟩
  | 90 => ⟨S8192x128, .f32⟩
  | 91 => ⟨S_, .f32⟩
  | 92 => ⟨S16x128, .f32⟩
  | 93 => ⟨S8176x128, .f32⟩
  | 94 => ⟨S8192x128, .f32⟩
  | 95 => ⟨S_, .i32⟩
  | 96 => ⟨S8192, .i32⟩
  | 97 => ⟨S8192, .i32⟩
  | 98 => ⟨S_, .i32⟩
  | 99 => ⟨S8192, .i32⟩
  | 100 => ⟨S8192, .i32⟩
  | 101 => ⟨S8192, .f32⟩
  | 102 => ⟨S8192x1, .f32⟩
  | 103 => ⟨S8192x128, .f32⟩
  | 104 => ⟨S8192x128, .f32⟩
  | 105 => ⟨S8192x128, .f32⟩
  | 106 => ⟨S8192x128, .f32⟩
  | 107 => ⟨S8192x128, .f32⟩
  | 108 => ⟨S8192x512, .f32⟩
  | 109 => ⟨S8192x512, .f32⟩
  | 110 => ⟨S8192x4x128, .f32⟩
  | 111 => ⟨S4x128x8192, .f32⟩
  | 112 => ⟨S8192x4x128, .f32⟩
  | 113 => ⟨S1x4x128, .f32⟩
  | 114 => ⟨S8192x4x128, .f32⟩
  | 115 => ⟨S8192x4x128, .f32⟩
  | 116 => ⟨S8192x512, .f32⟩
  | 117 => ⟨S1x512, .f32⟩
  | 118 => ⟨S8192x512, .f32⟩
  | 119 => ⟨S8192x512, .f32⟩
  | 120 => ⟨S8192x1024, .f32⟩
  | 121 => ⟨S8192x512, .f32⟩
  | 122 => ⟨S8192x512, .f32⟩
  | 123 => ⟨S_, .f32⟩
  | 124 => ⟨S30x512, .f32⟩
  | 125 => ⟨S8192x512, .f32⟩
  | 126 => ⟨S8192x512, .f32⟩
  | 127 => ⟨S_, .f32⟩
  | _ => ⟨S8192x1024, .f32⟩

abbrev hbmTy0_1 (i : Nat) : BufTy := match i % 128 with
  | 0 => ⟨S8192x512, .f32⟩
  | 1 => ⟨S8192x512, .f32⟩
  | 2 => ⟨S_, .f32⟩
  | 3 => ⟨S8192x512, .f32⟩
  | 4 => ⟨S8192x512, .f32⟩
  | 5 => ⟨S8192x512, .f32⟩
  | 6 => ⟨S8222x512, .f32⟩
  | 7 => ⟨S8192x512, .f32⟩
  | 8 => ⟨S1x512, .f32⟩
  | 9 => ⟨S512, .f32⟩
  | 10 => ⟨S1x512, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S1x512, .f32⟩
  | 18 => ⟨S512, .f32⟩
  | 19 => ⟨S1x512, .f32⟩
  | 20 => ⟨S8192x512, .f32⟩
  | 21 => ⟨S8192x512, .f32⟩
  | 22 => ⟨S8192x512, .f32⟩
  | 23 => ⟨S8192x512, .f32⟩
  | 24 => ⟨S1x512, .f32⟩
  | 25 => ⟨S512, .f32⟩
  | 26 => ⟨S1x512, .f32⟩
  | 27 => ⟨S8192x512, .f32⟩
  | 28 => ⟨S8192x512, .f32⟩
  | 29 => ⟨S8192x512, .f32⟩
  | 30 => ⟨S8192x512, .f32⟩
  | 31 => ⟨S1x512, .f32⟩
  | 32 => ⟨S512, .f32⟩
  | 33 => ⟨S1x512, .f32⟩
  | 34 => ⟨S8192x512, .f32⟩
  | 35 => ⟨S8192x512, .f32⟩
  | 36 => ⟨S8192x512, .f32⟩
  | 37 => ⟨S8192x512, .f32⟩
  | 38 => ⟨S1x512, .f32⟩
  | 39 => ⟨S512, .f32⟩
  | 40 => ⟨S1x512, .f32⟩
  | 41 => ⟨S8192x512, .f32⟩
  | 42 => ⟨S8192x512, .f32⟩
  | 43 => ⟨S8192x512, .f32⟩
  | 44 => ⟨S8192x512, .f32⟩
  | 45 => ⟨S1x512, .f32⟩
  | 46 => ⟨S512, .f32⟩
  | 47 => ⟨S1x512, .f32⟩
  | 48 => ⟨S8192x512, .f32⟩
  | 49 => ⟨S8192x512, .f32⟩
  | 50 => ⟨S8192x512, .f32⟩
  | 51 => ⟨S8192x512, .f32⟩
  | 52 => ⟨S1x512, .f32⟩
  | 53 => ⟨S512, .f32⟩
  | 54 => ⟨S1x512, .f32⟩
  | 55 => ⟨S8192x512, .f32⟩
  | 56 => ⟨S8192x512, .f32⟩
  | 57 => ⟨S8192x512, .f32⟩
  | 58 => ⟨S8192x512, .f32⟩
  | 59 => ⟨S1x512, .f32⟩
  | 60 => ⟨S512, .f32⟩
  | 61 => ⟨S1x512, .f32⟩
  | 62 => ⟨S8192x512, .f32⟩
  | 63 => ⟨S8192x512, .f32⟩
  | 64 => ⟨S8192x512, .f32⟩
  | 65 => ⟨S8192x512, .f32⟩
  | 66 => ⟨S1x512, .f32⟩
  | 67 => ⟨S512, .f32⟩
  | 68 => ⟨S1x512, .f32⟩
  | 69 => ⟨S8192x512, .f32⟩
  | 70 => ⟨S8192x512, .f32⟩
  | 71 => ⟨S8192x512, .f32⟩
  | 72 => ⟨S8192x512, .f32⟩
  | 73 => ⟨S1x512, .f32⟩
  | 74 => ⟨S512, .f32⟩
  | 75 => ⟨S1x512, .f32⟩
  | 76 => ⟨S8192x512, .f32⟩
  | 77 => ⟨S8192x512, .f32⟩
  | 78 => ⟨S8192x512, .f32⟩
  | 79 => ⟨S8192x512, .f32⟩
  | 80 => ⟨S1x512, .f32⟩
  | 81 => ⟨S512, .f32⟩
  | 82 => ⟨S1x512, .f32⟩
  | 83 => ⟨S8192x512, .f32⟩
  | 84 => ⟨S8192x512, .f32⟩
  | 85 => ⟨S8192x512, .f32⟩
  | 86 => ⟨S8192x512, .f32⟩
  | 87 => ⟨S1x512, .f32⟩
  | 88 => ⟨S512, .f32⟩
  | 89 => ⟨S1x512, .f32⟩
  | 90 => ⟨S8192x512, .f32⟩
  | 91 => ⟨S8192x512, .f32⟩
  | 92 => ⟨S8192x512, .f32⟩
  | 93 => ⟨S8192x512, .f32⟩
  | 94 => ⟨S1x512, .f32⟩
  | 95 => ⟨S512, .f32⟩
  | 96 => ⟨S1x512, .f32⟩
  | 97 => ⟨S8192x512, .f32⟩
  | 98 => ⟨S8192x512, .f32⟩
  | 99 => ⟨S8192x512, .f32⟩
  | 100 => ⟨S8192x512, .f32⟩
  | 101 => ⟨S1x512, .f32⟩
  | 102 => ⟨S512, .f32⟩
  | 103 => ⟨S1x512, .f32⟩
  | 104 => ⟨S8192x512, .f32⟩
  | 105 => ⟨S8192x512, .f32⟩
  | 106 => ⟨S8192x512, .f32⟩
  | 107 => ⟨S8192x512, .f32⟩
  | 108 => ⟨S1x512, .f32⟩
  | 109 => ⟨S512, .f32⟩
  | 110 => ⟨S1x512, .f32⟩
  | 111 => ⟨S8192x512, .f32⟩
  | 112 => ⟨S8192x512, .f32⟩
  | 113 => ⟨S8192x512, .f32⟩
  | 114 => ⟨S8192x512, .f32⟩
  | 115 => ⟨S1x512, .f32⟩
  | 116 => ⟨S512, .f32⟩
  | 117 => ⟨S1x512, .f32⟩
  | 118 => ⟨S8192x512, .f32⟩
  | 119 => ⟨S8192x512, .f32⟩
  | 120 => ⟨S8192x512, .f32⟩
  | 121 => ⟨S8192x512, .f32⟩
  | 122 => ⟨S1x512, .f32⟩
  | 123 => ⟨S512, .f32⟩
  | 124 => ⟨S1x512, .f32⟩
  | 125 => ⟨S8192x512, .f32⟩
  | 126 => ⟨S8192x512, .f32⟩
  | 127 => ⟨S8192x512, .f32⟩
  | _ => ⟨S8192x1024, .f32⟩

abbrev hbmTy0_2 (i : Nat) : BufTy := match i % 128 with
  | 0 => ⟨S8192x512, .f32⟩
  | 1 => ⟨S1x512, .f32⟩
  | 2 => ⟨S512, .f32⟩
  | 3 => ⟨S1x512, .f32⟩
  | 4 => ⟨S8192x512, .f32⟩
  | 5 => ⟨S8192x512, .f32⟩
  | 6 => ⟨S8192x512, .f32⟩
  | 7 => ⟨S8192x512, .f32⟩
  | 8 => ⟨S1x512, .f32⟩
  | 9 => ⟨S512, .f32⟩
  | 10 => ⟨S1x512, .f32⟩
  | 11 => ⟨S8192x512, .f32⟩
  | 12 => ⟨S8192x512, .f32⟩
  | 13 => ⟨S8192x512, .f32⟩
  | 14 => ⟨S8192x512, .f32⟩
  | 15 => ⟨S1x512, .f32⟩
  | 16 => ⟨S512, .f32⟩
  | 17 => ⟨S1x512, .f32⟩
  | 18 => ⟨S8192x512, .f32⟩
  | 19 => ⟨S8192x512, .f32⟩
  | 20 => ⟨S8192x512, .f32⟩
  | 21 => ⟨S8192x512, .f32⟩
  | 22 => ⟨S1x512, .f32⟩
  | 23 => ⟨S512, .f32⟩
  | 24 => ⟨S1x512, .f32⟩
  | 25 => ⟨S8192x512, .f32⟩
  | 26 => ⟨S8192x512, .f32⟩
  | 27 => ⟨S8192x512, .f32⟩
  | 28 => ⟨S8192x512, .f32⟩
  | 29 => ⟨S1x512, .f32⟩
  | 30 => ⟨S512, .f32⟩
  | 31 => ⟨S1x512, .f32⟩
  | 32 => ⟨S8192x512, .f32⟩
  | 33 => ⟨S8192x512, .f32⟩
  | 34 => ⟨S8192x512, .f32⟩
  | 35 => ⟨S8192x512, .f32⟩
  | 36 => ⟨S1x512, .f32⟩
  | 37 => ⟨S512, .f32⟩
  | 38 => ⟨S1x512, .f32⟩
  | 39 => ⟨S8192x512, .f32⟩
  | 40 => ⟨S8192x512, .f32⟩
  | 41 => ⟨S8192x512, .f32⟩
  | 42 => ⟨S8192x512, .f32⟩
  | 43 => ⟨S1x512, .f32⟩
  | 44 => ⟨S512, .f32⟩
  | 45 => ⟨S1x512, .f32⟩
  | 46 => ⟨S8192x512, .f32⟩
  | 47 => ⟨S8192x512, .f32⟩
  | 48 => ⟨S8192x512, .f32⟩
  | 49 => ⟨S8192x512, .f32⟩
  | 50 => ⟨S1x512, .f32⟩
  | 51 => ⟨S512, .f32⟩
  | 52 => ⟨S1x512, .f32⟩
  | 53 => ⟨S8192x512, .f32⟩
  | 54 => ⟨S8192x512, .f32⟩
  | 55 => ⟨S8192x512, .f32⟩
  | 56 => ⟨S8192x512, .f32⟩
  | 57 => ⟨S1x512, .f32⟩
  | 58 => ⟨S512, .f32⟩
  | 59 => ⟨S1x512, .f32⟩
  | 60 => ⟨S8192x512, .f32⟩
  | 61 => ⟨S8192x512, .f32⟩
  | 62 => ⟨S8192x512, .f32⟩
  | 63 => ⟨S8192x512, .f32⟩
  | 64 => ⟨S1x512, .f32⟩
  | 65 => ⟨S512, .f32⟩
  | 66 => ⟨S1x512, .f32⟩
  | 67 => ⟨S8192x512, .f32⟩
  | 68 => ⟨S8192x512, .f32⟩
  | 69 => ⟨S8192x512, .f32⟩
  | 70 => ⟨S8192x512, .f32⟩
  | 71 => ⟨S1x512, .f32⟩
  | 72 => ⟨S512, .f32⟩
  | 73 => ⟨S1x512, .f32⟩
  | 74 => ⟨S8192x512, .f32⟩
  | 75 => ⟨S8192x512, .f32⟩
  | 76 => ⟨S8192x512, .f32⟩
  | 77 => ⟨S8192x512, .f32⟩
  | 78 => ⟨S1x512, .f32⟩
  | 79 => ⟨S512, .f32⟩
  | 80 => ⟨S1x512, .f32⟩
  | 81 => ⟨S8192x512, .f32⟩
  | 82 => ⟨S8192x512, .f32⟩
  | 83 => ⟨S8192x512, .f32⟩
  | 84 => ⟨S8192x512, .f32⟩
  | 85 => ⟨S1x512, .f32⟩
  | 86 => ⟨S512, .f32⟩
  | 87 => ⟨S1x512, .f32⟩
  | 88 => ⟨S8192x512, .f32⟩
  | 89 => ⟨S8192x512, .f32⟩
  | 90 => ⟨S8192x512, .f32⟩
  | 91 => ⟨S8192x512, .f32⟩
  | 92 => ⟨S1x512, .f32⟩
  | 93 => ⟨S512, .f32⟩
  | 94 => ⟨S1x512, .f32⟩
  | 95 => ⟨S8192x512, .f32⟩
  | 96 => ⟨S8192x512, .f32⟩
  | 97 => ⟨S8192x512, .f32⟩
  | 98 => ⟨S1x512, .f32⟩
  | 99 => ⟨S8192x512, .f32⟩
  | 100 => ⟨S8192x512, .f32⟩
  | 101 => ⟨S8192x512, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S8192x512, .f32⟩
  | 109 => ⟨S8192x512, .f32⟩
  | 110 => ⟨S8192x512, .f32⟩
  | 111 => ⟨S_, .f32⟩
  | 112 => ⟨S8192x512, .f32⟩
  | 113 => ⟨S8192x512, .f32⟩
  | 114 => ⟨S_, .f32⟩
  | 115 => ⟨S8192, .f32⟩
  | 116 => ⟨S8192x1, .f32⟩
  | 117 => ⟨S_, .f32⟩
  | 118 => ⟨S8192x1, .f32⟩
  | 119 => ⟨S8192x1, .f32⟩
  | 120 => ⟨S8192x512, .f32⟩
  | 121 => ⟨S8192x512, .f32⟩
  | 122 => ⟨S_, .f32⟩
  | 123 => ⟨S8192x1, .f32⟩
  | 124 => ⟨S8192x1, .f32⟩
  | 125 => ⟨S8192x1, .f32⟩
  | 126 => ⟨S8192x1, .f32⟩
  | 127 => ⟨S_, .f32⟩
  | _ => ⟨S8192x1024, .f32⟩

abbrev hbmTy0_3 (i : Nat) : BufTy := match i % 128 with
  | 0 => ⟨S8192x1, .f32⟩
  | 1 => ⟨S8192x1, .f32⟩
  | 2 => ⟨S8192x512, .f32⟩
  | 3 => ⟨S8192x512, .f32⟩
  | 4 => ⟨S1x512, .f32⟩
  | 5 => ⟨S8192x512, .f32⟩
  | 6 => ⟨S8192x512, .f32⟩
  | 7 => ⟨S1x512, .f32⟩
  | 8 => ⟨S8192x512, .f32⟩
  | 9 => ⟨S8192x512, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S8192x512, .f32⟩
  | 22 => ⟨S8192x512, .f32⟩
  | 23 => ⟨S8192x1024, .f32⟩
  | 24 => ⟨S8192x1024, .f32⟩
  | 25 => ⟨S8192x1024, .f32⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S8192x512, .f32⟩
  | 32 => ⟨S_, .f32⟩
  | 33 => ⟨S512, .f32⟩
  | 34 => ⟨S1x512, .f32⟩
  | 35 => ⟨S_, .f32⟩
  | 36 => ⟨S512, .f32⟩
  | 37 => ⟨S8192x512, .f32⟩
  | 38 => ⟨S_, .f32⟩
  | 39 => ⟨S512, .f32⟩
  | 40 => ⟨S1x512, .f32⟩
  | 41 => ⟨S8192x512, .f32⟩
  | 42 => ⟨S8192x512, .f32⟩
  | 43 => ⟨S_, .f32⟩
  | 44 => ⟨S512, .f32⟩
  | 45 => ⟨S8192x512, .f32⟩
  | 46 => ⟨S_, .f32⟩
  | 47 => ⟨S8192, .f32⟩
  | 48 => ⟨S8192x1, .f32⟩
  | 49 => ⟨S8192x512, .f32⟩
  | 50 => ⟨S8192x512, .f32⟩
  | 51 => ⟨S8192x1, .f32⟩
  | 52 => ⟨S8192x512, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192, .f32⟩
  | 61 => ⟨S8192x512, .f32⟩
  | 62 => ⟨S8192x512, .f32⟩
  | 63 => ⟨S8192x512, .f32⟩
  | 64 => ⟨S_, .f32⟩
  | 65 => ⟨S8192, .f32⟩
  | 66 => ⟨S8192x1, .f32⟩
  | 67 => ⟨S8192x512, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192, .f32⟩
  | 74 => ⟨S8192x512, .f32⟩
  | 75 => ⟨S8192x512, .f32⟩
  | 76 => ⟨S_, .f32⟩
  | 77 => ⟨S512, .f32⟩
  | 78 => ⟨S1x512, .f32⟩
  | 79 => ⟨S_, .f32⟩
  | 80 => ⟨S512, .f32⟩
  | 81 => ⟨S8192x512, .f32⟩
  | 82 => ⟨S_, .f32⟩
  | 83 => ⟨S512, .f32⟩
  | 84 => ⟨S1x512, .f32⟩
  | 85 => ⟨S_, .f32⟩
  | 86 => ⟨S512, .f32⟩
  | 87 => ⟨S1x512, .f32⟩
  | 88 => ⟨S_, .f32⟩
  | 89 => ⟨S31x512, .f32⟩
  | 90 => ⟨S8192x512, .f32⟩
  | 91 => ⟨S_, .f32⟩
  | 92 => ⟨S512, .f32⟩
  | 93 => ⟨S1x512, .f32⟩
  | 94 => ⟨S_, .f32⟩
  | 95 => ⟨S512, .f32⟩
  | 96 => ⟨S1x512, .f32⟩
  | 97 => ⟨S_, .f32⟩
  | 98 => ⟨S31x512, .f32⟩
  | 99 => ⟨S31x512, .f32⟩
  | 100 => ⟨S8192x512, .f32⟩
  | 101 => ⟨S_, .f32⟩
  | 102 => ⟨S512, .f32⟩
  | 103 => ⟨S1x512, .f32⟩
  | 104 => ⟨S_, .f32⟩
  | 105 => ⟨S512, .f32⟩
  | 106 => ⟨S1x512, .f32⟩
  | 107 => ⟨S_, .f32⟩
  | 108 => ⟨S31x512, .f32⟩
  | 109 => ⟨S31x512, .f32⟩
  | 110 => ⟨S8192x512, .f32⟩
  | 111 => ⟨S_, .f32⟩
  | 112 => ⟨S512, .f32⟩
  | 113 => ⟨S1x512, .f32⟩
  | 114 => ⟨S_, .f32⟩
  | 115 => ⟨S512, .f32⟩
  | 116 => ⟨S1x512, .f32⟩
  | 117 => ⟨S_, .f32⟩
  | 118 => ⟨S31x512, .f32⟩
  | 119 => ⟨S31x512, .f32⟩
  | 120 => ⟨S8192x512, .f32⟩
  | 121 => ⟨S_, .f32⟩
  | 122 => ⟨S512, .f32⟩
  | 123 => ⟨S1x512, .f32⟩
  | 124 => ⟨S_, .f32⟩
  | 125 => ⟨S512, .f32⟩
  | 126 => ⟨S1x512, .f32⟩
  | 127 => ⟨S_, .f32⟩
  | _ => ⟨S8192x1024, .f32⟩

abbrev hbmTy0_4 (i : Nat) : BufTy := match i % 128 with
  | 0 => ⟨S31x512, .f32⟩
  | 1 => ⟨S31x512, .f32⟩
  | 2 => ⟨S8192x512, .f32⟩
  | 3 => ⟨S_, .f32⟩
  | 4 => ⟨S512, .f32⟩
  | 5 => ⟨S1x512, .f32⟩
  | 6 => ⟨S_, .f32⟩
  | 7 => ⟨S512, .f32⟩
  | 8 => ⟨S1x512, .f32⟩
  | 9 => ⟨S_, .f32⟩
  | 10 => ⟨S31x512, .f32⟩
  | 11 => ⟨S31x512, .f32⟩
  | 12 => ⟨S8192x512, .f32⟩
  | 13 => ⟨S_, .f32⟩
  | 14 => ⟨S512, .f32⟩
  | 15 => ⟨S1x512, .f32⟩
  | 16 => ⟨S_, .f32⟩
  | 17 => ⟨S512, .f32⟩
  | 18 => ⟨S1x512, .f32⟩
  | 19 => ⟨S_, .f32⟩
  | 20 => ⟨S31x512, .f32⟩
  | 21 => ⟨S31x512, .f32⟩
  | 22 => ⟨S8192x512, .f32⟩
  | 23 => ⟨S_, .f32⟩
  | 24 => ⟨S512, .f32⟩
  | 25 => ⟨S1x512, .f32⟩
  | 26 => ⟨S_, .f32⟩
  | 27 => ⟨S512, .f32⟩
  | 28 => ⟨S1x512, .f32⟩
  | 29 => ⟨S_, .f32⟩
  | 30 => ⟨S31x512, .f32⟩
  | 31 => ⟨S31x512, .f32⟩
  | 32 => ⟨S8192x512, .f32⟩
  | 33 => ⟨S_, .f32⟩
  | 34 => ⟨S512, .f32⟩
  | 35 => ⟨S1x512, .f32⟩
  | 36 => ⟨S_, .f32⟩
  | 37 => ⟨S512, .f32⟩
  | 38 => ⟨S1x512, .f32⟩
  | 39 => ⟨S_, .f32⟩
  | 40 => ⟨S31x512, .f32⟩
  | 41 => ⟨S31x512, .f32⟩
  | 42 => ⟨S8192x512, .f32⟩
  | 43 => ⟨S_, .f32⟩
  | 44 => ⟨S512, .f32⟩
  | 45 => ⟨S1x512, .f32⟩
  | 46 => ⟨S_, .f32⟩
  | 47 => ⟨S512, .f32⟩
  | 48 => ⟨S1x512, .f32⟩
  | 49 => ⟨S_, .f32⟩
  | 50 => ⟨S31x512, .f32⟩
  | 51 => ⟨S31x512, .f32⟩
  | 52 => ⟨S8192x512, .f32⟩
  | 53 => ⟨S_, .f32⟩
  | 54 => ⟨S512, .f32⟩
  | 55 => ⟨S1x512, .f32⟩
  | 56 => ⟨S_, .f32⟩
  | 57 => ⟨S512, .f32⟩
  | 58 => ⟨S1x512, .f32⟩
  | 59 => ⟨S_, .f32⟩
  | 60 => ⟨S31x512, .f32⟩
  | 61 => ⟨S31x512, .f32⟩
  | 62 => ⟨S8192x512, .f32⟩
  | 63 => ⟨S_, .f32⟩
  | 64 => ⟨S512, .f32⟩
  | 65 => ⟨S1x512, .f32⟩
  | 66 => ⟨S_, .f32⟩
  | 67 => ⟨S512, .f32⟩
  | 68 => ⟨S1x512, .f32⟩
  | 69 => ⟨S_, .f32⟩
  | 70 => ⟨S31x512, .f32⟩
  | 71 => ⟨S31x512, .f32⟩
  | 72 => ⟨S8192x512, .f32⟩
  | 73 => ⟨S_, .f32⟩
  | 74 => ⟨S512, .f32⟩
  | 75 => ⟨S1x512, .f32⟩
  | 76 => ⟨S_, .f32⟩
  | 77 => ⟨S512, .f32⟩
  | 78 => ⟨S1x512, .f32⟩
  | 79 => ⟨S_, .f32⟩
  | 80 => ⟨S31x512, .f32⟩
  | 81 => ⟨S31x512, .f32⟩
  | 82 => ⟨S8192x512, .f32⟩
  | 83 => ⟨S_, .f32⟩
  | 84 => ⟨S512, .f32⟩
  | 85 => ⟨S1x512, .f32⟩
  | 86 => ⟨S_, .f32⟩
  | 87 => ⟨S512, .f32⟩
  | 88 => ⟨S1x512, .f32⟩
  | 89 => ⟨S_, .f32⟩
  | 90 => ⟨S31x512, .f32⟩
  | 91 => ⟨S31x512, .f32⟩
  | 92 => ⟨S8192x512, .f32⟩
  | 93 => ⟨S_, .f32⟩
  | 94 => ⟨S512, .f32⟩
  | 95 => ⟨S1x512, .f32⟩
  | 96 => ⟨S_, .f32⟩
  | 97 => ⟨S512, .f32⟩
  | 98 => ⟨S1x512, .f32⟩
  | 99 => ⟨S_, .f32⟩
  | 100 => ⟨S31x512, .f32⟩
  | 101 => ⟨S31x512, .f32⟩
  | 102 => ⟨S8192x512, .f32⟩
  | 103 => ⟨S_, .f32⟩
  | 104 => ⟨S512, .f32⟩
  | 105 => ⟨S1x512, .f32⟩
  | 106 => ⟨S_, .f32⟩
  | 107 => ⟨S512, .f32⟩
  | 108 => ⟨S1x512, .f32⟩
  | 109 => ⟨S_, .f32⟩
  | 110 => ⟨S31x512, .f32⟩
  | 111 => ⟨S31x512, .f32⟩
  | 112 => ⟨S8192x512, .f32⟩
  | 113 => ⟨S_, .f32⟩
  | 114 => ⟨S512, .f32⟩
  | 115 => ⟨S1x512, .f32⟩
  | 116 => ⟨S_, .f32⟩
  | 117 => ⟨S512, .f32⟩
  | 118 => ⟨S1x512, .f32⟩
  | 119 => ⟨S_, .f32⟩
  | 120 => ⟨S31x512, .f32⟩
  | 121 => ⟨S31x512, .f32⟩
  | 122 => ⟨S8192x512, .f32⟩
  | 123 => ⟨S_, .f32⟩
  | 124 => ⟨S512, .f32⟩
  | 125 => ⟨S1x512, .f32⟩
  | 126 => ⟨S_, .f32⟩
  | 127 => ⟨S512, .f32⟩
  | _ => ⟨S8192x1024, .f32⟩

abbrev hbmTy0_5 (i : Nat) : BufTy := match i % 128 with
  | 0 => ⟨S1x512, .f32⟩
  | 1 => ⟨S_, .f32⟩
  | 2 => ⟨S31x512, .f32⟩
  | 3 => ⟨S31x512, .f32⟩
  | 4 => ⟨S8192x512, .f32⟩
  | 5 => ⟨S_, .f32⟩
  | 6 => ⟨S512, .f32⟩
  | 7 => ⟨S1x512, .f32⟩
  | 8 => ⟨S_, .f32⟩
  | 9 => ⟨S512, .f32⟩
  | 10 => ⟨S1x512, .f32⟩
  | 11 => ⟨S_, .f32⟩
  | 12 => ⟨S31x512, .f32⟩
  | 13 => ⟨S31x512, .f32⟩
  | 14 => ⟨S8192x512, .f32⟩
  | 15 => ⟨S_, .f32⟩
  | 16 => ⟨S512, .f32⟩
  | 17 => ⟨S1x512, .f32⟩
  | 18 => ⟨S_, .f32⟩
  | 19 => ⟨S512, .f32⟩
  | 20 => ⟨S1x512, .f32⟩
  | 21 => ⟨S_, .f32⟩
  | 22 => ⟨S31x512, .f32⟩
  | 23 => ⟨S31x512, .f32⟩
  | 24 => ⟨S8192x512, .f32⟩
  | 25 => ⟨S_, .f32⟩
  | 26 => ⟨S512, .f32⟩
  | 27 => ⟨S1x512, .f32⟩
  | 28 => ⟨S_, .f32⟩
  | 29 => ⟨S512, .f32⟩
  | 30 => ⟨S1x512, .f32⟩
  | 31 => ⟨S_, .f32⟩
  | 32 => ⟨S31x512, .f32⟩
  | 33 => ⟨S31x512, .f32⟩
  | 34 => ⟨S8192x512, .f32⟩
  | 35 => ⟨S_, .f32⟩
  | 36 => ⟨S512, .f32⟩
  | 37 => ⟨S1x512, .f32⟩
  | 38 => ⟨S_, .f32⟩
  | 39 => ⟨S512, .f32⟩
  | 40 => ⟨S1x512, .f32⟩
  | 41 => ⟨S_, .f32⟩
  | 42 => ⟨S31x512, .f32⟩
  | 43 => ⟨S31x512, .f32⟩
  | 44 => ⟨S8192x512, .f32⟩
  | 45 => ⟨S_, .f32⟩
  | 46 => ⟨S512, .f32⟩
  | 47 => ⟨S1x512, .f32⟩
  | 48 => ⟨S_, .f32⟩
  | 49 => ⟨S512, .f32⟩
  | 50 => ⟨S1x512, .f32⟩
  | 51 => ⟨S_, .f32⟩
  | 52 => ⟨S31x512, .f32⟩
  | 53 => ⟨S31x512, .f32⟩
  | 54 => ⟨S8192x512, .f32⟩
  | 55 => ⟨S_, .f32⟩
  | 56 => ⟨S512, .f32⟩
  | 57 => ⟨S1x512, .f32⟩
  | 58 => ⟨S_, .f32⟩
  | 59 => ⟨S512, .f32⟩
  | 60 => ⟨S1x512, .f32⟩
  | 61 => ⟨S_, .f32⟩
  | 62 => ⟨S31x512, .f32⟩
  | 63 => ⟨S31x512, .f32⟩
  | 64 => ⟨S8192x512, .f32⟩
  | 65 => ⟨S_, .f32⟩
  | 66 => ⟨S512, .f32⟩
  | 67 => ⟨S1x512, .f32⟩
  | 68 => ⟨S_, .f32⟩
  | 69 => ⟨S512, .f32⟩
  | 70 => ⟨S1x512, .f32⟩
  | 71 => ⟨S_, .f32⟩
  | 72 => ⟨S31x512, .f32⟩
  | 73 => ⟨S31x512, .f32⟩
  | 74 => ⟨S8192x512, .f32⟩
  | 75 => ⟨S_, .f32⟩
  | 76 => ⟨S512, .f32⟩
  | 77 => ⟨S1x512, .f32⟩
  | 78 => ⟨S_, .f32⟩
  | 79 => ⟨S512, .f32⟩
  | 80 => ⟨S1x512, .f32⟩
  | 81 => ⟨S_, .f32⟩
  | 82 => ⟨S31x512, .f32⟩
  | 83 => ⟨S31x512, .f32⟩
  | 84 => ⟨S8192x512, .f32⟩
  | 85 => ⟨S_, .f32⟩
  | 86 => ⟨S512, .f32⟩
  | 87 => ⟨S1x512, .f32⟩
  | 88 => ⟨S_, .f32⟩
  | 89 => ⟨S512, .f32⟩
  | 90 => ⟨S1x512, .f32⟩
  | 91 => ⟨S_, .f32⟩
  | 92 => ⟨S31x512, .f32⟩
  | 93 => ⟨S31x512, .f32⟩
  | 94 => ⟨S8192x512, .f32⟩
  | 95 => ⟨S_, .f32⟩
  | 96 => ⟨S512, .f32⟩
  | 97 => ⟨S1x512, .f32⟩
  | 98 => ⟨S_, .f32⟩
  | 99 => ⟨S512, .f32⟩
  | 100 => ⟨S1x512, .f32⟩
  | 101 => ⟨S_, .f32⟩
  | 102 => ⟨S31x512, .f32⟩
  | 103 => ⟨S31x512, .f32⟩
  | 104 => ⟨S8192x512, .f32⟩
  | 105 => ⟨S_, .f32⟩
  | 106 => ⟨S512, .f32⟩
  | 107 => ⟨S1x512, .f32⟩
  | 108 => ⟨S_, .f32⟩
  | 109 => ⟨S512, .f32⟩
  | 110 => ⟨S1x512, .f32⟩
  | 111 => ⟨S_, .f32⟩
  | 112 => ⟨S31x512, .f32⟩
  | 113 => ⟨S31x512, .f32⟩
  | 114 => ⟨S8192x512, .f32⟩
  | 115 => ⟨S_, .f32⟩
  | 116 => ⟨S512, .f32⟩
  | 117 => ⟨S1x512, .f32⟩
  | 118 => ⟨S_, .f32⟩
  | 119 => ⟨S512, .f32⟩
  | 120 => ⟨S1x512, .f32⟩
  | 121 => ⟨S_, .f32⟩
  | 122 => ⟨S31x512, .f32⟩
  | 123 => ⟨S31x512, .f32⟩
  | 124 => ⟨S8192x512, .f32⟩
  | 125 => ⟨S_, .f32⟩
  | 126 => ⟨S512, .f32⟩
  | 127 => ⟨S1x512, .f32⟩
  | _ => ⟨S8192x1024, .f32⟩

abbrev hbmTy0_6 (i : Nat) : BufTy := match i % 128 with
  | 0 => ⟨S_, .f32⟩
  | 1 => ⟨S512, .f32⟩
  | 2 => ⟨S1x512, .f32⟩
  | 3 => ⟨S_, .f32⟩
  | 4 => ⟨S31x512, .f32⟩
  | 5 => ⟨S31x512, .f32⟩
  | 6 => ⟨S8192x512, .f32⟩
  | 7 => ⟨S_, .f32⟩
  | 8 => ⟨S512, .f32⟩
  | 9 => ⟨S1x512, .f32⟩
  | 10 => ⟨S8192x512, .f32⟩
  | 11 => ⟨S8192x512, .f32⟩
  | 12 => ⟨S_, .f32⟩
  | 13 => ⟨S512, .f32⟩
  | 14 => ⟨S8192x4x128, .f32⟩
  | 15 => ⟨S_, .f32⟩
  | 16 => ⟨S4x128, .f32⟩
  | 17 => ⟨S1x4x128, .f32⟩
  | 18 => ⟨S_, .f32⟩
  | 19 => ⟨S4x128, .f32⟩
  | 20 => ⟨S4x128x8192, .f32⟩
  | 21 => ⟨S4x8192x128, .f32⟩
  | 22 => ⟨S8192x4x128, .f32⟩
  | 23 => ⟨S4x128x128, .f32⟩
  | 24 => ⟨S4x128x128, .f32⟩
  | 25 => ⟨S8192x512, .f32⟩
  | 26 => ⟨S8192x128, .f32⟩
  | 27 => ⟨S8192x128, .f32⟩
  | 28 => ⟨S8192x128, .f32⟩
  | 29 => ⟨S8192x128, .f32⟩
  | 30 => ⟨S8192x128, .f32⟩
  | 31 => ⟨S8192x128, .f32⟩
  | 32 => ⟨S_, .f32⟩
  | 33 => ⟨S8192x512, .f32⟩
  | 34 => ⟨S8192x128, .f32⟩
  | 35 => ⟨S8192x128, .f32⟩
  | 36 => ⟨S_, .f32⟩
  | 37 => ⟨S8192x512, .f32⟩
  | 38 => ⟨S8192x512, .f32⟩
  | 39 => ⟨S8192x128, .f32⟩
  | 40 => ⟨S8192x128, .f32⟩
  | 41 => ⟨S_, .f32⟩
  | 42 => ⟨S8192x512, .f32⟩
  | 43 => ⟨S8192x512, .f32⟩
  | 44 => ⟨S8192x128, .f32⟩
  | 45 => ⟨S8192x128, .f32⟩
  | 46 => ⟨S_, .f32⟩
  | 47 => ⟨S8192x512, .f32⟩
  | 48 => ⟨S8192x512, .f32⟩
  | 49 => ⟨S_, .f32⟩
  | 50 => ⟨S1x512, .f32⟩
  | 51 => ⟨S1x512, .f32⟩
  | 52 => ⟨S1x512, .f32⟩
  | 53 => ⟨S1x512, .f32⟩
  | 54 => ⟨S1x512, .f32⟩
  | 55 => ⟨S1x512, .f32⟩
  | 56 => ⟨S40x512, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_call0_call0_cst : Ref sig .tc := ⟨.hbm, 32, rfl⟩
abbrev main_call0_call0_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_11 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_14 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_15 : Ref sig .tc := ⟨.hbm, 127, rfl⟩
abbrev main_v96 : Ref sig .tc := ⟨.hbm, 128, rfl⟩
abbrev main_v97 : Ref sig .tc := ⟨.hbm, 129, rfl⟩
abbrev main_cst_16 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_17 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_v303 : Ref sig .tc := ⟨.hbm, 337, rfl⟩
abbrev main_v304 : Ref sig .tc := ⟨.hbm, 338, rfl⟩
abbrev main_v305 : Ref sig .tc := ⟨.hbm, 339, rfl⟩
abbrev main_v306 : Ref sig .tc := ⟨.hbm, 340, rfl⟩
abbrev main_v307 : Ref sig .tc := ⟨.hbm, 341, rfl⟩
abbrev main_v308 : Ref sig .tc := ⟨.hbm, 342, rfl⟩
abbrev main_v309 : Ref sig .tc := ⟨.hbm, 343, rfl⟩
abbrev main_v310 : Ref sig .tc := ⟨.hbm, 344, rfl⟩
abbrev main_v311 : Ref sig .tc := ⟨.hbm, 345, rfl⟩
abbrev main_v312 : Ref sig .tc := ⟨.hbm, 346, rfl⟩
abbrev main_v313 : Ref sig .tc := ⟨.hbm, 347, rfl⟩
abbrev main_v314 : Ref sig .tc := ⟨.hbm, 348, rfl⟩
abbrev main_v315 : Ref sig .tc := ⟨.hbm, 349, rfl⟩
abbrev main_v316 : Ref sig .tc := ⟨.hbm, 350, rfl⟩
abbrev main_v317 : Ref sig .tc := ⟨.hbm, 351, rfl⟩
abbrev main_v318 : Ref sig .tc := ⟨.hbm, 352, rfl⟩
abbrev main_v319 : Ref sig .tc := ⟨.hbm, 353, rfl⟩
abbrev main_v320 : Ref sig .tc := ⟨.hbm, 354, rfl⟩
abbrev main_v321 : Ref sig .tc := ⟨.hbm, 355, rfl⟩
abbrev main_v322 : Ref sig .tc := ⟨.hbm, 356, rfl⟩
abbrev main_v323 : Ref sig .tc := ⟨.hbm, 357, rfl⟩
abbrev main_cst_18 : Ref sig .tc := ⟨.hbm, 358, rfl⟩
abbrev main_v324 : Ref sig .tc := ⟨.hbm, 359, rfl⟩
abbrev main_v325 : Ref sig .tc := ⟨.hbm, 360, rfl⟩
abbrev main_cst_19 : Ref sig .tc := ⟨.hbm, 361, rfl⟩
abbrev main_v326 : Ref sig .tc := ⟨.hbm, 362, rfl⟩
abbrev main_v327 : Ref sig .tc := ⟨.hbm, 363, rfl⟩
abbrev main_v328 : Ref sig .tc := ⟨.hbm, 364, rfl⟩
abbrev main_v329 : Ref sig .tc := ⟨.hbm, 365, rfl⟩
abbrev main_v330 : Ref sig .tc := ⟨.hbm, 366, rfl⟩
abbrev main_cst_20 : Ref sig .tc := ⟨.hbm, 367, rfl⟩
abbrev main_v331 : Ref sig .tc := ⟨.hbm, 368, rfl⟩
abbrev main_v332 : Ref sig .tc := ⟨.hbm, 369, rfl⟩
abbrev main_cst_21 : Ref sig .tc := ⟨.hbm, 370, rfl⟩
abbrev main_v333 : Ref sig .tc := ⟨.hbm, 371, rfl⟩
abbrev main_v334 : Ref sig .tc := ⟨.hbm, 372, rfl⟩
abbrev main_cst_22 : Ref sig .tc := ⟨.hbm, 373, rfl⟩
abbrev main_v335 : Ref sig .tc := ⟨.hbm, 374, rfl⟩
abbrev main_v336 : Ref sig .tc := ⟨.hbm, 375, rfl⟩
abbrev main_v337 : Ref sig .tc := ⟨.hbm, 376, rfl⟩
abbrev main_v338 : Ref sig .tc := ⟨.hbm, 377, rfl⟩
abbrev main_cst_23 : Ref sig .tc := ⟨.hbm, 378, rfl⟩
abbrev main_v339 : Ref sig .tc := ⟨.hbm, 379, rfl⟩
abbrev main_v340 : Ref sig .tc := ⟨.hbm, 380, rfl⟩
abbrev main_v341 : Ref sig .tc := ⟨.hbm, 381, rfl⟩
abbrev main_v342 : Ref sig .tc := ⟨.hbm, 382, rfl⟩
abbrev main_cst_24 : Ref sig .tc := ⟨.hbm, 383, rfl⟩
abbrev main_v343 : Ref sig .tc := ⟨.hbm, 384, rfl⟩
abbrev main_v344 : Ref sig .tc := ⟨.hbm, 385, rfl⟩
abbrev main_v345 : Ref sig .tc := ⟨.hbm, 386, rfl⟩
abbrev main_v346 : Ref sig .tc := ⟨.hbm, 387, rfl⟩
abbrev main_v347 : Ref sig .tc := ⟨.hbm, 388, rfl⟩
abbrev main_v348 : Ref sig .tc := ⟨.hbm, 389, rfl⟩
abbrev main_v349 : Ref sig .tc := ⟨.hbm, 390, rfl⟩
abbrev main_v350 : Ref sig .tc := ⟨.hbm, 391, rfl⟩
abbrev main_v351 : Ref sig .tc := ⟨.hbm, 392, rfl⟩
abbrev main_v352 : Ref sig .tc := ⟨.hbm, 393, rfl⟩
abbrev main_call1_v0 : Ref sig .tc := ⟨.hbm, 394, rfl⟩
abbrev main_call1_v1 : Ref sig .tc := ⟨.hbm, 395, rfl⟩
abbrev main_call1_cst : Ref sig .tc := ⟨.hbm, 396, rfl⟩
abbrev main_call1_v2 : Ref sig .tc := ⟨.hbm, 397, rfl⟩
abbrev main_call1_v3 : Ref sig .tc := ⟨.hbm, 398, rfl⟩
abbrev main_call1_cst_0 : Ref sig .tc := ⟨.hbm, 399, rfl⟩
abbrev main_call1_v4 : Ref sig .tc := ⟨.hbm, 400, rfl⟩
abbrev main_v353_2 : Ref sig .tc := ⟨.hbm, 401, rfl⟩
abbrev main_call1_cst_1 : Ref sig .tc := ⟨.hbm, 402, rfl⟩
abbrev main_call1_v6 : Ref sig .tc := ⟨.hbm, 403, rfl⟩
abbrev main_call1_v7 : Ref sig .tc := ⟨.hbm, 404, rfl⟩
abbrev main_v353_1 : Ref sig .tc := ⟨.hbm, 405, rfl⟩
abbrev main_v353_0 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_v357 : Ref sig .tc := ⟨.hbm, 410, rfl⟩
abbrev main_v358 : Ref sig .tc := ⟨.hbm, 411, rfl⟩
abbrev main_call2_v0 : Ref sig .tc := ⟨.hbm, 412, rfl⟩
abbrev main_call2_v1 : Ref sig .tc := ⟨.hbm, 413, rfl⟩
abbrev main_call2_v2 : Ref sig .tc := ⟨.hbm, 414, rfl⟩
abbrev main_v359 : Ref sig .tc := ⟨.hbm, 415, rfl⟩
abbrev main_cst_25 : Ref sig .tc := ⟨.hbm, 416, rfl⟩
abbrev main_v360 : Ref sig .tc := ⟨.hbm, 417, rfl⟩
abbrev main_v361 : Ref sig .tc := ⟨.hbm, 418, rfl⟩
abbrev main_cst_26 : Ref sig .tc := ⟨.hbm, 419, rfl⟩
abbrev main_v362 : Ref sig .tc := ⟨.hbm, 420, rfl⟩
abbrev main_v363 : Ref sig .tc := ⟨.hbm, 421, rfl⟩
abbrev main_cst_27 : Ref sig .tc := ⟨.hbm, 422, rfl⟩
abbrev main_v364 : Ref sig .tc := ⟨.hbm, 423, rfl⟩
abbrev main_v365 : Ref sig .tc := ⟨.hbm, 424, rfl⟩
abbrev main_v366 : Ref sig .tc := ⟨.hbm, 425, rfl⟩
abbrev main_v367 : Ref sig .tc := ⟨.hbm, 426, rfl⟩
abbrev main_cst_28 : Ref sig .tc := ⟨.hbm, 427, rfl⟩
abbrev main_v368 : Ref sig .tc := ⟨.hbm, 428, rfl⟩
abbrev main_v369 : Ref sig .tc := ⟨.hbm, 429, rfl⟩
abbrev main_cst_29 : Ref sig .tc := ⟨.hbm, 430, rfl⟩
abbrev main_v370 : Ref sig .tc := ⟨.hbm, 431, rfl⟩
abbrev main_v371 : Ref sig .tc := ⟨.hbm, 432, rfl⟩
abbrev main_v372 : Ref sig .tc := ⟨.hbm, 433, rfl⟩
abbrev main_v373 : Ref sig .tc := ⟨.hbm, 434, rfl⟩
abbrev main_v374 : Ref sig .tc := ⟨.hbm, 435, rfl⟩
abbrev main_v375 : Ref sig .tc := ⟨.hbm, 436, rfl⟩
abbrev main_cst_30 : Ref sig .tc := ⟨.hbm, 437, rfl⟩
abbrev main_v376 : Ref sig .tc := ⟨.hbm, 438, rfl⟩
abbrev main_v377 : Ref sig .tc := ⟨.hbm, 439, rfl⟩
abbrev main_cst_31 : Ref sig .tc := ⟨.hbm, 440, rfl⟩
abbrev main_v378 : Ref sig .tc := ⟨.hbm, 441, rfl⟩
abbrev main_v379 : Ref sig .tc := ⟨.hbm, 442, rfl⟩
abbrev main_cst_32 : Ref sig .tc := ⟨.hbm, 443, rfl⟩
abbrev main_v380 : Ref sig .tc := ⟨.hbm, 444, rfl⟩
abbrev main_v381 : Ref sig .tc := ⟨.hbm, 445, rfl⟩
abbrev main_v382 : Ref sig .tc := ⟨.hbm, 446, rfl⟩
abbrev main_v383 : Ref sig .tc := ⟨.hbm, 447, rfl⟩
abbrev main_cst_33 : Ref sig .tc := ⟨.hbm, 448, rfl⟩
abbrev main_v384 : Ref sig .tc := ⟨.hbm, 449, rfl⟩
abbrev main_v385 : Ref sig .tc := ⟨.hbm, 450, rfl⟩
abbrev main_v386 : Ref sig .tc := ⟨.hbm, 451, rfl⟩
abbrev main_v387 : Ref sig .tc := ⟨.hbm, 452, rfl⟩
abbrev main_cst_34 : Ref sig .tc := ⟨.hbm, 453, rfl⟩
abbrev main_v388 : Ref sig .tc := ⟨.hbm, 454, rfl⟩
abbrev main_v389 : Ref sig .tc := ⟨.hbm, 455, rfl⟩
abbrev main_cst_35 : Ref sig .tc := ⟨.hbm, 456, rfl⟩
abbrev main_v390 : Ref sig .tc := ⟨.hbm, 457, rfl⟩
abbrev main_v391 : Ref sig .tc := ⟨.hbm, 458, rfl⟩
abbrev main_v392 : Ref sig .tc := ⟨.hbm, 459, rfl⟩
abbrev main_cst_36 : Ref sig .tc := ⟨.hbm, 460, rfl⟩
abbrev main_v393 : Ref sig .tc := ⟨.hbm, 461, rfl⟩
abbrev main_v394 : Ref sig .tc := ⟨.hbm, 462, rfl⟩
abbrev main_cst_37 : Ref sig .tc := ⟨.hbm, 463, rfl⟩
abbrev main_v395 : Ref sig .tc := ⟨.hbm, 464, rfl⟩
abbrev main_v396 : Ref sig .tc := ⟨.hbm, 465, rfl⟩
abbrev main_cst_38 : Ref sig .tc := ⟨.hbm, 466, rfl⟩
abbrev main_v397 : Ref sig .tc := ⟨.hbm, 467, rfl⟩
abbrev main_v398 : Ref sig .tc := ⟨.hbm, 468, rfl⟩
abbrev main_cst_39 : Ref sig .tc := ⟨.hbm, 469, rfl⟩
abbrev main_v399 : Ref sig .tc := ⟨.hbm, 470, rfl⟩
abbrev main_v400 : Ref sig .tc := ⟨.hbm, 471, rfl⟩
abbrev main_cst_40 : Ref sig .tc := ⟨.hbm, 472, rfl⟩
abbrev main_v401 : Ref sig .tc := ⟨.hbm, 473, rfl⟩
abbrev main_v402 : Ref sig .tc := ⟨.hbm, 474, rfl⟩
abbrev main_cst_41 : Ref sig .tc := ⟨.hbm, 475, rfl⟩
abbrev main_v403 : Ref sig .tc := ⟨.hbm, 476, rfl⟩
abbrev main_v404 : Ref sig .tc := ⟨.hbm, 477, rfl⟩
abbrev main_cst_42 : Ref sig .tc := ⟨.hbm, 478, rfl⟩
abbrev main_v405 : Ref sig .tc := ⟨.hbm, 479, rfl⟩
abbrev main_v406 : Ref sig .tc := ⟨.hbm, 480, rfl⟩
abbrev main_cst_43 : Ref sig .tc := ⟨.hbm, 481, rfl⟩
abbrev main_v407 : Ref sig .tc := ⟨.hbm, 482, rfl⟩
abbrev main_v408 : Ref sig .tc := ⟨.hbm, 483, rfl⟩
abbrev main_v409 : Ref sig .tc := ⟨.hbm, 484, rfl⟩
abbrev main_cst_44 : Ref sig .tc := ⟨.hbm, 485, rfl⟩
abbrev main_v410 : Ref sig .tc := ⟨.hbm, 486, rfl⟩
abbrev main_v411 : Ref sig .tc := ⟨.hbm, 487, rfl⟩
abbrev main_cst_45 : Ref sig .tc := ⟨.hbm, 488, rfl⟩
abbrev main_v412 : Ref sig .tc := ⟨.hbm, 489, rfl⟩
abbrev main_v413 : Ref sig .tc := ⟨.hbm, 490, rfl⟩
abbrev main_cst_46 : Ref sig .tc := ⟨.hbm, 491, rfl⟩
abbrev main_v414 : Ref sig .tc := ⟨.hbm, 492, rfl⟩
abbrev main_v415 : Ref sig .tc := ⟨.hbm, 493, rfl⟩
abbrev main_v416 : Ref sig .tc := ⟨.hbm, 494, rfl⟩
abbrev main_cst_47 : Ref sig .tc := ⟨.hbm, 495, rfl⟩
abbrev main_v417 : Ref sig .tc := ⟨.hbm, 496, rfl⟩
abbrev main_v418 : Ref sig .tc := ⟨.hbm, 497, rfl⟩
abbrev main_cst_48 : Ref sig .tc := ⟨.hbm, 498, rfl⟩
abbrev main_v419 : Ref sig .tc := ⟨.hbm, 499, rfl⟩
abbrev main_v420 : Ref sig .tc := ⟨.hbm, 500, rfl⟩
abbrev main_cst_49 : Ref sig .tc := ⟨.hbm, 501, rfl⟩
abbrev main_v421 : Ref sig .tc := ⟨.hbm, 502, rfl⟩
abbrev main_v422 : Ref sig .tc := ⟨.hbm, 503, rfl⟩
abbrev main_v423 : Ref sig .tc := ⟨.hbm, 504, rfl⟩
abbrev main_cst_50 : Ref sig .tc := ⟨.hbm, 505, rfl⟩
abbrev main_v424 : Ref sig .tc := ⟨.hbm, 506, rfl⟩
abbrev main_v425 : Ref sig .tc := ⟨.hbm, 507, rfl⟩
abbrev main_cst_51 : Ref sig .tc := ⟨.hbm, 508, rfl⟩
abbrev main_v426 : Ref sig .tc := ⟨.hbm, 509, rfl⟩
abbrev main_v427 : Ref sig .tc := ⟨.hbm, 510, rfl⟩
abbrev main_cst_52 : Ref sig .tc := ⟨.hbm, 511, rfl⟩
abbrev main_v428 : Ref sig .tc := ⟨.hbm, 512, rfl⟩
abbrev main_v429 : Ref sig .tc := ⟨.hbm, 513, rfl⟩
abbrev main_v430 : Ref sig .tc := ⟨.hbm, 514, rfl⟩
abbrev main_cst_53 : Ref sig .tc := ⟨.hbm, 515, rfl⟩
abbrev main_v431 : Ref sig .tc := ⟨.hbm, 516, rfl⟩
abbrev main_v432 : Ref sig .tc := ⟨.hbm, 517, rfl⟩
abbrev main_cst_54 : Ref sig .tc := ⟨.hbm, 518, rfl⟩
abbrev main_v433 : Ref sig .tc := ⟨.hbm, 519, rfl⟩
abbrev main_v434 : Ref sig .tc := ⟨.hbm, 520, rfl⟩
abbrev main_cst_55 : Ref sig .tc := ⟨.hbm, 521, rfl⟩
abbrev main_v435 : Ref sig .tc := ⟨.hbm, 522, rfl⟩
abbrev main_v436 : Ref sig .tc := ⟨.hbm, 523, rfl⟩
abbrev main_v437 : Ref sig .tc := ⟨.hbm, 524, rfl⟩
abbrev main_cst_56 : Ref sig .tc := ⟨.hbm, 525, rfl⟩
abbrev main_v438 : Ref sig .tc := ⟨.hbm, 526, rfl⟩
abbrev main_v439 : Ref sig .tc := ⟨.hbm, 527, rfl⟩
abbrev main_cst_57 : Ref sig .tc := ⟨.hbm, 528, rfl⟩
abbrev main_v440 : Ref sig .tc := ⟨.hbm, 529, rfl⟩
abbrev main_v441 : Ref sig .tc := ⟨.hbm, 530, rfl⟩
abbrev main_cst_58 : Ref sig .tc := ⟨.hbm, 531, rfl⟩
abbrev main_v442 : Ref sig .tc := ⟨.hbm, 532, rfl⟩
abbrev main_v443 : Ref sig .tc := ⟨.hbm, 533, rfl⟩
abbrev main_v444 : Ref sig .tc := ⟨.hbm, 534, rfl⟩
abbrev main_cst_59 : Ref sig .tc := ⟨.hbm, 535, rfl⟩
abbrev main_v445 : Ref sig .tc := ⟨.hbm, 536, rfl⟩
abbrev main_v446 : Ref sig .tc := ⟨.hbm, 537, rfl⟩
abbrev main_cst_60 : Ref sig .tc := ⟨.hbm, 538, rfl⟩
abbrev main_v447 : Ref sig .tc := ⟨.hbm, 539, rfl⟩
abbrev main_v448 : Ref sig .tc := ⟨.hbm, 540, rfl⟩
abbrev main_cst_61 : Ref sig .tc := ⟨.hbm, 541, rfl⟩
abbrev main_v449 : Ref sig .tc := ⟨.hbm, 542, rfl⟩
abbrev main_v450 : Ref sig .tc := ⟨.hbm, 543, rfl⟩
abbrev main_v451 : Ref sig .tc := ⟨.hbm, 544, rfl⟩
abbrev main_cst_62 : Ref sig .tc := ⟨.hbm, 545, rfl⟩
abbrev main_v452 : Ref sig .tc := ⟨.hbm, 546, rfl⟩
abbrev main_v453 : Ref sig .tc := ⟨.hbm, 547, rfl⟩
abbrev main_cst_63 : Ref sig .tc := ⟨.hbm, 548, rfl⟩
abbrev main_v454 : Ref sig .tc := ⟨.hbm, 549, rfl⟩
abbrev main_v455 : Ref sig .tc := ⟨.hbm, 550, rfl⟩
abbrev main_cst_64 : Ref sig .tc := ⟨.hbm, 551, rfl⟩
abbrev main_v456 : Ref sig .tc := ⟨.hbm, 552, rfl⟩
abbrev main_v457 : Ref sig .tc := ⟨.hbm, 553, rfl⟩
abbrev main_v458 : Ref sig .tc := ⟨.hbm, 554, rfl⟩
abbrev main_cst_65 : Ref sig .tc := ⟨.hbm, 555, rfl⟩
abbrev main_v459 : Ref sig .tc := ⟨.hbm, 556, rfl⟩
abbrev main_v460 : Ref sig .tc := ⟨.hbm, 557, rfl⟩
abbrev main_cst_66 : Ref sig .tc := ⟨.hbm, 558, rfl⟩
abbrev main_v461 : Ref sig .tc := ⟨.hbm, 559, rfl⟩
abbrev main_v462 : Ref sig .tc := ⟨.hbm, 560, rfl⟩
abbrev main_cst_67 : Ref sig .tc := ⟨.hbm, 561, rfl⟩
abbrev main_v463 : Ref sig .tc := ⟨.hbm, 562, rfl⟩
abbrev main_v464 : Ref sig .tc := ⟨.hbm, 563, rfl⟩
abbrev main_v465 : Ref sig .tc := ⟨.hbm, 564, rfl⟩
abbrev main_cst_68 : Ref sig .tc := ⟨.hbm, 565, rfl⟩
abbrev main_v466 : Ref sig .tc := ⟨.hbm, 566, rfl⟩
abbrev main_v467 : Ref sig .tc := ⟨.hbm, 567, rfl⟩
abbrev main_cst_69 : Ref sig .tc := ⟨.hbm, 568, rfl⟩
abbrev main_v468 : Ref sig .tc := ⟨.hbm, 569, rfl⟩
abbrev main_v469 : Ref sig .tc := ⟨.hbm, 570, rfl⟩
abbrev main_cst_70 : Ref sig .tc := ⟨.hbm, 571, rfl⟩
abbrev main_v470 : Ref sig .tc := ⟨.hbm, 572, rfl⟩
abbrev main_v471 : Ref sig .tc := ⟨.hbm, 573, rfl⟩
abbrev main_v472 : Ref sig .tc := ⟨.hbm, 574, rfl⟩
abbrev main_cst_71 : Ref sig .tc := ⟨.hbm, 575, rfl⟩
abbrev main_v473 : Ref sig .tc := ⟨.hbm, 576, rfl⟩
abbrev main_v474 : Ref sig .tc := ⟨.hbm, 577, rfl⟩
abbrev main_cst_72 : Ref sig .tc := ⟨.hbm, 578, rfl⟩
abbrev main_v475 : Ref sig .tc := ⟨.hbm, 579, rfl⟩
abbrev main_v476 : Ref sig .tc := ⟨.hbm, 580, rfl⟩
abbrev main_cst_73 : Ref sig .tc := ⟨.hbm, 581, rfl⟩
abbrev main_v477 : Ref sig .tc := ⟨.hbm, 582, rfl⟩
abbrev main_v478 : Ref sig .tc := ⟨.hbm, 583, rfl⟩
abbrev main_v479 : Ref sig .tc := ⟨.hbm, 584, rfl⟩
abbrev main_cst_74 : Ref sig .tc := ⟨.hbm, 585, rfl⟩
abbrev main_v480 : Ref sig .tc := ⟨.hbm, 586, rfl⟩
abbrev main_v481 : Ref sig .tc := ⟨.hbm, 587, rfl⟩
abbrev main_cst_75 : Ref sig .tc := ⟨.hbm, 588, rfl⟩
abbrev main_v482 : Ref sig .tc := ⟨.hbm, 589, rfl⟩
abbrev main_v483 : Ref sig .tc := ⟨.hbm, 590, rfl⟩
abbrev main_cst_76 : Ref sig .tc := ⟨.hbm, 591, rfl⟩
abbrev main_v484 : Ref sig .tc := ⟨.hbm, 592, rfl⟩
abbrev main_v485 : Ref sig .tc := ⟨.hbm, 593, rfl⟩
abbrev main_v486 : Ref sig .tc := ⟨.hbm, 594, rfl⟩
abbrev main_cst_77 : Ref sig .tc := ⟨.hbm, 595, rfl⟩
abbrev main_v487 : Ref sig .tc := ⟨.hbm, 596, rfl⟩
abbrev main_v488 : Ref sig .tc := ⟨.hbm, 597, rfl⟩
abbrev main_cst_78 : Ref sig .tc := ⟨.hbm, 598, rfl⟩
abbrev main_v489 : Ref sig .tc := ⟨.hbm, 599, rfl⟩
abbrev main_v490 : Ref sig .tc := ⟨.hbm, 600, rfl⟩
abbrev main_cst_79 : Ref sig .tc := ⟨.hbm, 601, rfl⟩
abbrev main_v491 : Ref sig .tc := ⟨.hbm, 602, rfl⟩
abbrev main_v492 : Ref sig .tc := ⟨.hbm, 603, rfl⟩
abbrev main_v493 : Ref sig .tc := ⟨.hbm, 604, rfl⟩
abbrev main_cst_80 : Ref sig .tc := ⟨.hbm, 605, rfl⟩
abbrev main_v494 : Ref sig .tc := ⟨.hbm, 606, rfl⟩
abbrev main_v495 : Ref sig .tc := ⟨.hbm, 607, rfl⟩
abbrev main_cst_81 : Ref sig .tc := ⟨.hbm, 608, rfl⟩
abbrev main_v496 : Ref sig .tc := ⟨.hbm, 609, rfl⟩
abbrev main_v497 : Ref sig .tc := ⟨.hbm, 610, rfl⟩
abbrev main_cst_82 : Ref sig .tc := ⟨.hbm, 611, rfl⟩
abbrev main_v498 : Ref sig .tc := ⟨.hbm, 612, rfl⟩
abbrev main_v499 : Ref sig .tc := ⟨.hbm, 613, rfl⟩
abbrev main_v500 : Ref sig .tc := ⟨.hbm, 614, rfl⟩
abbrev main_cst_83 : Ref sig .tc := ⟨.hbm, 615, rfl⟩
abbrev main_v501 : Ref sig .tc := ⟨.hbm, 616, rfl⟩
abbrev main_v502 : Ref sig .tc := ⟨.hbm, 617, rfl⟩
abbrev main_cst_84 : Ref sig .tc := ⟨.hbm, 618, rfl⟩
abbrev main_v503 : Ref sig .tc := ⟨.hbm, 619, rfl⟩
abbrev main_v504 : Ref sig .tc := ⟨.hbm, 620, rfl⟩
abbrev main_cst_85 : Ref sig .tc := ⟨.hbm, 621, rfl⟩
abbrev main_v505 : Ref sig .tc := ⟨.hbm, 622, rfl⟩
abbrev main_v506 : Ref sig .tc := ⟨.hbm, 623, rfl⟩
abbrev main_v507 : Ref sig .tc := ⟨.hbm, 624, rfl⟩
abbrev main_cst_86 : Ref sig .tc := ⟨.hbm, 625, rfl⟩
abbrev main_v508 : Ref sig .tc := ⟨.hbm, 626, rfl⟩
abbrev main_v509 : Ref sig .tc := ⟨.hbm, 627, rfl⟩
abbrev main_cst_87 : Ref sig .tc := ⟨.hbm, 628, rfl⟩
abbrev main_v510 : Ref sig .tc := ⟨.hbm, 629, rfl⟩
abbrev main_v511 : Ref sig .tc := ⟨.hbm, 630, rfl⟩
abbrev main_cst_88 : Ref sig .tc := ⟨.hbm, 631, rfl⟩
abbrev main_v512 : Ref sig .tc := ⟨.hbm, 632, rfl⟩
abbrev main_v513 : Ref sig .tc := ⟨.hbm, 633, rfl⟩
abbrev main_v514 : Ref sig .tc := ⟨.hbm, 634, rfl⟩
abbrev main_cst_89 : Ref sig .tc := ⟨.hbm, 635, rfl⟩
abbrev main_v515 : Ref sig .tc := ⟨.hbm, 636, rfl⟩
abbrev main_v516 : Ref sig .tc := ⟨.hbm, 637, rfl⟩
abbrev main_cst_90 : Ref sig .tc := ⟨.hbm, 638, rfl⟩
abbrev main_v517 : Ref sig .tc := ⟨.hbm, 639, rfl⟩
abbrev main_v518 : Ref sig .tc := ⟨.hbm, 640, rfl⟩
abbrev main_cst_91 : Ref sig .tc := ⟨.hbm, 641, rfl⟩
abbrev main_v519 : Ref sig .tc := ⟨.hbm, 642, rfl⟩
abbrev main_v520 : Ref sig .tc := ⟨.hbm, 643, rfl⟩
abbrev main_v521 : Ref sig .tc := ⟨.hbm, 644, rfl⟩
abbrev main_cst_92 : Ref sig .tc := ⟨.hbm, 645, rfl⟩
abbrev main_v522 : Ref sig .tc := ⟨.hbm, 646, rfl⟩
abbrev main_v523 : Ref sig .tc := ⟨.hbm, 647, rfl⟩
abbrev main_cst_93 : Ref sig .tc := ⟨.hbm, 648, rfl⟩
abbrev main_v524 : Ref sig .tc := ⟨.hbm, 649, rfl⟩
abbrev main_v525 : Ref sig .tc := ⟨.hbm, 650, rfl⟩
abbrev main_cst_94 : Ref sig .tc := ⟨.hbm, 651, rfl⟩
abbrev main_v526 : Ref sig .tc := ⟨.hbm, 652, rfl⟩
abbrev main_v527 : Ref sig .tc := ⟨.hbm, 653, rfl⟩
abbrev main_v528 : Ref sig .tc := ⟨.hbm, 654, rfl⟩
abbrev main_cst_95 : Ref sig .tc := ⟨.hbm, 655, rfl⟩
abbrev main_v529 : Ref sig .tc := ⟨.hbm, 656, rfl⟩
abbrev main_v530 : Ref sig .tc := ⟨.hbm, 657, rfl⟩
abbrev main_cst_96 : Ref sig .tc := ⟨.hbm, 658, rfl⟩
abbrev main_v531 : Ref sig .tc := ⟨.hbm, 659, rfl⟩
abbrev main_v532 : Ref sig .tc := ⟨.hbm, 660, rfl⟩
abbrev main_cst_97 : Ref sig .tc := ⟨.hbm, 661, rfl⟩
abbrev main_v533 : Ref sig .tc := ⟨.hbm, 662, rfl⟩
abbrev main_v534 : Ref sig .tc := ⟨.hbm, 663, rfl⟩
abbrev main_v535 : Ref sig .tc := ⟨.hbm, 664, rfl⟩
abbrev main_cst_98 : Ref sig .tc := ⟨.hbm, 665, rfl⟩
abbrev main_v536 : Ref sig .tc := ⟨.hbm, 666, rfl⟩
abbrev main_v537 : Ref sig .tc := ⟨.hbm, 667, rfl⟩
abbrev main_cst_99 : Ref sig .tc := ⟨.hbm, 668, rfl⟩
abbrev main_v538 : Ref sig .tc := ⟨.hbm, 669, rfl⟩
abbrev main_v539 : Ref sig .tc := ⟨.hbm, 670, rfl⟩
abbrev main_cst_100 : Ref sig .tc := ⟨.hbm, 671, rfl⟩
abbrev main_v540 : Ref sig .tc := ⟨.hbm, 672, rfl⟩
abbrev main_v541 : Ref sig .tc := ⟨.hbm, 673, rfl⟩
abbrev main_v542 : Ref sig .tc := ⟨.hbm, 674, rfl⟩
abbrev main_cst_101 : Ref sig .tc := ⟨.hbm, 675, rfl⟩
abbrev main_v543 : Ref sig .tc := ⟨.hbm, 676, rfl⟩
abbrev main_v544 : Ref sig .tc := ⟨.hbm, 677, rfl⟩
abbrev main_cst_102 : Ref sig .tc := ⟨.hbm, 678, rfl⟩
abbrev main_v545 : Ref sig .tc := ⟨.hbm, 679, rfl⟩
abbrev main_v546 : Ref sig .tc := ⟨.hbm, 680, rfl⟩
abbrev main_cst_103 : Ref sig .tc := ⟨.hbm, 681, rfl⟩
abbrev main_v547 : Ref sig .tc := ⟨.hbm, 682, rfl⟩
abbrev main_v548 : Ref sig .tc := ⟨.hbm, 683, rfl⟩
abbrev main_v549 : Ref sig .tc := ⟨.hbm, 684, rfl⟩
abbrev main_cst_104 : Ref sig .tc := ⟨.hbm, 685, rfl⟩
abbrev main_v550 : Ref sig .tc := ⟨.hbm, 686, rfl⟩
abbrev main_v551 : Ref sig .tc := ⟨.hbm, 687, rfl⟩
abbrev main_cst_105 : Ref sig .tc := ⟨.hbm, 688, rfl⟩
abbrev main_v552 : Ref sig .tc := ⟨.hbm, 689, rfl⟩
abbrev main_v553 : Ref sig .tc := ⟨.hbm, 690, rfl⟩
abbrev main_cst_106 : Ref sig .tc := ⟨.hbm, 691, rfl⟩
abbrev main_v554 : Ref sig .tc := ⟨.hbm, 692, rfl⟩
abbrev main_v555 : Ref sig .tc := ⟨.hbm, 693, rfl⟩
abbrev main_v556 : Ref sig .tc := ⟨.hbm, 694, rfl⟩
abbrev main_cst_107 : Ref sig .tc := ⟨.hbm, 695, rfl⟩
abbrev main_v557 : Ref sig .tc := ⟨.hbm, 696, rfl⟩
abbrev main_v558 : Ref sig .tc := ⟨.hbm, 697, rfl⟩
abbrev main_cst_108 : Ref sig .tc := ⟨.hbm, 698, rfl⟩
abbrev main_v559 : Ref sig .tc := ⟨.hbm, 699, rfl⟩
abbrev main_v560 : Ref sig .tc := ⟨.hbm, 700, rfl⟩
abbrev main_cst_109 : Ref sig .tc := ⟨.hbm, 701, rfl⟩
abbrev main_v561 : Ref sig .tc := ⟨.hbm, 702, rfl⟩
abbrev main_v562 : Ref sig .tc := ⟨.hbm, 703, rfl⟩
abbrev main_v563 : Ref sig .tc := ⟨.hbm, 704, rfl⟩
abbrev main_cst_110 : Ref sig .tc := ⟨.hbm, 705, rfl⟩
abbrev main_v564 : Ref sig .tc := ⟨.hbm, 706, rfl⟩
abbrev main_v565 : Ref sig .tc := ⟨.hbm, 707, rfl⟩
abbrev main_cst_111 : Ref sig .tc := ⟨.hbm, 708, rfl⟩
abbrev main_v566 : Ref sig .tc := ⟨.hbm, 709, rfl⟩
abbrev main_v567 : Ref sig .tc := ⟨.hbm, 710, rfl⟩
abbrev main_cst_112 : Ref sig .tc := ⟨.hbm, 711, rfl⟩
abbrev main_v568 : Ref sig .tc := ⟨.hbm, 712, rfl⟩
abbrev main_v569 : Ref sig .tc := ⟨.hbm, 713, rfl⟩
abbrev main_v570 : Ref sig .tc := ⟨.hbm, 714, rfl⟩
abbrev main_cst_113 : Ref sig .tc := ⟨.hbm, 715, rfl⟩
abbrev main_v571 : Ref sig .tc := ⟨.hbm, 716, rfl⟩
abbrev main_v572 : Ref sig .tc := ⟨.hbm, 717, rfl⟩
abbrev main_cst_114 : Ref sig .tc := ⟨.hbm, 718, rfl⟩
abbrev main_v573 : Ref sig .tc := ⟨.hbm, 719, rfl⟩
abbrev main_v574 : Ref sig .tc := ⟨.hbm, 720, rfl⟩
abbrev main_cst_115 : Ref sig .tc := ⟨.hbm, 721, rfl⟩
abbrev main_v575 : Ref sig .tc := ⟨.hbm, 722, rfl⟩
abbrev main_v576 : Ref sig .tc := ⟨.hbm, 723, rfl⟩
abbrev main_v577 : Ref sig .tc := ⟨.hbm, 724, rfl⟩
abbrev main_cst_116 : Ref sig .tc := ⟨.hbm, 725, rfl⟩
abbrev main_v578 : Ref sig .tc := ⟨.hbm, 726, rfl⟩
abbrev main_v579 : Ref sig .tc := ⟨.hbm, 727, rfl⟩
abbrev main_cst_117 : Ref sig .tc := ⟨.hbm, 728, rfl⟩
abbrev main_v580 : Ref sig .tc := ⟨.hbm, 729, rfl⟩
abbrev main_v581 : Ref sig .tc := ⟨.hbm, 730, rfl⟩
abbrev main_cst_118 : Ref sig .tc := ⟨.hbm, 731, rfl⟩
abbrev main_v582 : Ref sig .tc := ⟨.hbm, 732, rfl⟩
abbrev main_v583 : Ref sig .tc := ⟨.hbm, 733, rfl⟩
abbrev main_v584 : Ref sig .tc := ⟨.hbm, 734, rfl⟩
abbrev main_cst_119 : Ref sig .tc := ⟨.hbm, 735, rfl⟩
abbrev main_v585 : Ref sig .tc := ⟨.hbm, 736, rfl⟩
abbrev main_v586 : Ref sig .tc := ⟨.hbm, 737, rfl⟩
abbrev main_cst_120 : Ref sig .tc := ⟨.hbm, 738, rfl⟩
abbrev main_v587 : Ref sig .tc := ⟨.hbm, 739, rfl⟩
abbrev main_v588 : Ref sig .tc := ⟨.hbm, 740, rfl⟩
abbrev main_cst_121 : Ref sig .tc := ⟨.hbm, 741, rfl⟩
abbrev main_v589 : Ref sig .tc := ⟨.hbm, 742, rfl⟩
abbrev main_v590 : Ref sig .tc := ⟨.hbm, 743, rfl⟩
abbrev main_v591 : Ref sig .tc := ⟨.hbm, 744, rfl⟩
abbrev main_cst_122 : Ref sig .tc := ⟨.hbm, 745, rfl⟩
abbrev main_v592 : Ref sig .tc := ⟨.hbm, 746, rfl⟩
abbrev main_v593 : Ref sig .tc := ⟨.hbm, 747, rfl⟩
abbrev main_cst_123 : Ref sig .tc := ⟨.hbm, 748, rfl⟩
abbrev main_v594 : Ref sig .tc := ⟨.hbm, 749, rfl⟩
abbrev main_v595 : Ref sig .tc := ⟨.hbm, 750, rfl⟩
abbrev main_cst_124 : Ref sig .tc := ⟨.hbm, 751, rfl⟩
abbrev main_v596 : Ref sig .tc := ⟨.hbm, 752, rfl⟩
abbrev main_v597 : Ref sig .tc := ⟨.hbm, 753, rfl⟩
abbrev main_v598 : Ref sig .tc := ⟨.hbm, 754, rfl⟩
abbrev main_cst_125 : Ref sig .tc := ⟨.hbm, 755, rfl⟩
abbrev main_v599 : Ref sig .tc := ⟨.hbm, 756, rfl⟩
abbrev main_v600 : Ref sig .tc := ⟨.hbm, 757, rfl⟩
abbrev main_cst_126 : Ref sig .tc := ⟨.hbm, 758, rfl⟩
abbrev main_v601 : Ref sig .tc := ⟨.hbm, 759, rfl⟩
abbrev main_v602 : Ref sig .tc := ⟨.hbm, 760, rfl⟩
abbrev main_cst_127 : Ref sig .tc := ⟨.hbm, 761, rfl⟩
abbrev main_v603 : Ref sig .tc := ⟨.hbm, 762, rfl⟩
abbrev main_v604 : Ref sig .tc := ⟨.hbm, 763, rfl⟩
abbrev main_v605 : Ref sig .tc := ⟨.hbm, 764, rfl⟩
abbrev main_cst_128 : Ref sig .tc := ⟨.hbm, 765, rfl⟩
abbrev main_v606 : Ref sig .tc := ⟨.hbm, 766, rfl⟩
abbrev main_v607 : Ref sig .tc := ⟨.hbm, 767, rfl⟩
abbrev main_cst_129 : Ref sig .tc := ⟨.hbm, 768, rfl⟩
abbrev main_v608 : Ref sig .tc := ⟨.hbm, 769, rfl⟩
abbrev main_v609 : Ref sig .tc := ⟨.hbm, 770, rfl⟩
abbrev main_cst_130 : Ref sig .tc := ⟨.hbm, 771, rfl⟩
abbrev main_v610 : Ref sig .tc := ⟨.hbm, 772, rfl⟩
abbrev main_v611 : Ref sig .tc := ⟨.hbm, 773, rfl⟩
abbrev main_v612 : Ref sig .tc := ⟨.hbm, 774, rfl⟩
abbrev main_cst_131 : Ref sig .tc := ⟨.hbm, 775, rfl⟩
abbrev main_v613 : Ref sig .tc := ⟨.hbm, 776, rfl⟩
abbrev main_v614 : Ref sig .tc := ⟨.hbm, 777, rfl⟩
abbrev main_v615 : Ref sig .tc := ⟨.hbm, 778, rfl⟩
abbrev main_v616 : Ref sig .tc := ⟨.hbm, 779, rfl⟩
abbrev main_cst_132 : Ref sig .tc := ⟨.hbm, 780, rfl⟩
abbrev main_v617 : Ref sig .tc := ⟨.hbm, 781, rfl⟩
abbrev main_v618 : Ref sig .tc := ⟨.hbm, 782, rfl⟩
abbrev main_cst_133 : Ref sig .tc := ⟨.hbm, 783, rfl⟩
abbrev main_v619 : Ref sig .tc := ⟨.hbm, 784, rfl⟩
abbrev main_v620 : Ref sig .tc := ⟨.hbm, 785, rfl⟩
abbrev main_cst_134 : Ref sig .tc := ⟨.hbm, 786, rfl⟩
abbrev main_v621 : Ref sig .tc := ⟨.hbm, 787, rfl⟩
abbrev main_v622 : Ref sig .tc := ⟨.hbm, 788, rfl⟩
abbrev main_v623 : Ref sig .tc := ⟨.hbm, 789, rfl⟩
abbrev main_v624 : Ref sig .tc := ⟨.hbm, 790, rfl⟩
abbrev main_v625 : Ref sig .tc := ⟨.hbm, 791, rfl⟩
abbrev main_v626 : Ref sig .tc := ⟨.hbm, 792, rfl⟩
abbrev main_v627 : Ref sig .tc := ⟨.hbm, 793, rfl⟩
abbrev main_v628 : Ref sig .tc := ⟨.hbm, 794, rfl⟩
abbrev main_v629 : Ref sig .tc := ⟨.hbm, 795, rfl⟩
abbrev main_v630 : Ref sig .tc := ⟨.hbm, 796, rfl⟩
abbrev main_v631 : Ref sig .tc := ⟨.hbm, 797, rfl⟩
abbrev main_v632 : Ref sig .tc := ⟨.hbm, 798, rfl⟩
abbrev main_v633 : Ref sig .tc := ⟨.hbm, 799, rfl⟩
abbrev main_cst_135 : Ref sig .tc := ⟨.hbm, 800, rfl⟩
abbrev main_v634 : Ref sig .tc := ⟨.hbm, 801, rfl⟩
abbrev main_v635 : Ref sig .tc := ⟨.hbm, 802, rfl⟩
abbrev main_v636 : Ref sig .tc := ⟨.hbm, 803, rfl⟩
abbrev main_cst_136 : Ref sig .tc := ⟨.hbm, 804, rfl⟩
abbrev main_v637 : Ref sig .tc := ⟨.hbm, 805, rfl⟩
abbrev main_v638 : Ref sig .tc := ⟨.hbm, 806, rfl⟩
abbrev main_v639 : Ref sig .tc := ⟨.hbm, 807, rfl⟩
abbrev main_v640 : Ref sig .tc := ⟨.hbm, 808, rfl⟩
abbrev main_cst_137 : Ref sig .tc := ⟨.hbm, 809, rfl⟩
abbrev main_v641 : Ref sig .tc := ⟨.hbm, 810, rfl⟩
abbrev main_v642 : Ref sig .tc := ⟨.hbm, 811, rfl⟩
abbrev main_v643 : Ref sig .tc := ⟨.hbm, 812, rfl⟩
abbrev main_v644 : Ref sig .tc := ⟨.hbm, 813, rfl⟩
abbrev main_cst_138 : Ref sig .tc := ⟨.hbm, 814, rfl⟩
abbrev main_v645 : Ref sig .tc := ⟨.hbm, 815, rfl⟩
abbrev main_v646 : Ref sig .tc := ⟨.hbm, 816, rfl⟩
abbrev main_cst_139 : Ref sig .tc := ⟨.hbm, 817, rfl⟩
abbrev main_v647 : Ref sig .tc := ⟨.hbm, 818, rfl⟩
abbrev main_v648 : Ref sig .tc := ⟨.hbm, 819, rfl⟩
abbrev main_v649 : Ref sig .tc := ⟨.hbm, 820, rfl⟩
abbrev main_v650 : Ref sig .tc := ⟨.hbm, 821, rfl⟩
abbrev main_v651 : Ref sig .tc := ⟨.hbm, 822, rfl⟩
abbrev main_v652 : Ref sig .tc := ⟨.hbm, 823, rfl⟩
abbrev main_v653 : Ref sig .tc := ⟨.hbm, 824, rfl⟩

abbrev nD : Nat := 1
abbrev τ : Topo := Topo.v7x

variable {F : FTy → Type} [FloatOps F]
-- ==== LossHead.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4x704x1024 : Shape := ⟨3, ![4, 704, 1024]⟩
abbrev S1x1024 : Shape := ⟨2, ![1, 1024]⟩
abbrev S8192x5632 : Shape := ⟨2, ![8192, 5632]⟩
abbrev S1x1 : Shape := ⟨2, ![1, 1]⟩
abbrev S512x1024 : Shape := ⟨2, ![512, 1024]⟩
abbrev S512x5632 : Shape := ⟨2, ![512, 5632]⟩
abbrev S8 : Shape := ⟨1, ![8]⟩
abbrev S1 : Shape := ⟨1, ![1]⟩
abbrev S_ : Shape := ⟨0, ![]⟩
abbrev S1x1024x1408 : Shape := ⟨3, ![1, 1024, 1408]⟩
abbrev S704x1024 : Shape := ⟨2, ![704, 1024]⟩
abbrev S1x704x1024 : Shape := ⟨3, ![1, 704, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 18
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S1024, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S4x704x1024, .f32⟩
  | .hbm, ⟨10, _⟩ => ⟨S4x704x1024, .bf16⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x5632, .bf16⟩
  | .hbm, ⟨15, _⟩ => ⟨S8192x1024, .bf16⟩
  | .hbm, ⟨16, _⟩ => ⟨S1x1, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x5632, .bf16⟩
  | .local _ .vmem, ⟨9, _⟩ => ⟨S512x5632, .bf16⟩
  | .local _ .vmem, ⟨10, _⟩ => ⟨S512x1024, .bf16⟩
  | .local _ .vmem, ⟨11, _⟩ => ⟨S512x1024, .bf16⟩
  | .local _ .vmem, ⟨12, _⟩ => ⟨S1x1, .f32⟩
  | .local _ .vmem, ⟨13, _⟩ => ⟨S1x1024, .f32⟩
  | .local _ .vmem, ⟨14, _⟩ => ⟨S4x1024x1408, .bf16⟩
  | .local _ .vmem, ⟨15, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossHeadRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x1 : Shape := ⟨2, ![1, 1]⟩

abbrev nBuf : Space → Nat
  | .hbm => 112
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x5632, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S_, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S1024, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1024, .f32⟩
  | .hbm, ⟨96, _⟩ => ⟨S8192x1024, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x5632, .bf16⟩
  | .hbm, ⟨109, _⟩ => ⟨S8192x1024, .bf16⟩
  | .hbm, ⟨110, _⟩ => ⟨S1x1, .f32⟩
  | .hbm, ⟨111, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_cst_11 : Ref sig .tc := ⟨.hbm, 72, rfl⟩
abbrev main_v46 : Ref sig .tc := ⟨.hbm, 73, rfl⟩
abbrev main_cst_12 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_cst_14 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_15 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_16 : Ref sig .tc := ⟨.hbm, 89, rfl⟩
abbrev main_v58 : Ref sig .tc := ⟨.hbm, 90, rfl⟩
abbrev main_v59 : Ref sig .tc := ⟨.hbm, 91, rfl⟩
abbrev main_cst_17 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_18 : Ref sig .tc := ⟨.hbm, 98, rfl⟩
abbrev main_v65 : Ref sig .tc := ⟨.hbm, 99, rfl⟩
abbrev main_v66 : Ref sig .tc := ⟨.hbm, 100, rfl⟩
abbrev main_cst_19 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩

abbrev nD : Nat := 1
abbrev τ : Topo := Topo.v7x

variable {F : FTy → Type} [FloatOps F]
-- ==== SguFwd.lean ====
abbrev S8192x1024 : Shape := ⟨2, ![8192, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S4x256x1024 : Shape := ⟨3, ![4, 256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S128x8 : Shape := ⟨2, ![128, 8]⟩
abbrev S512x1024 : Shape := ⟨2, ![512, 1024]⟩
abbrev S512x2048 : Shape := ⟨2, ![512, 2048]⟩
abbrev S4 : Shape := ⟨1, ![4]⟩
abbrev S1 : Shape := ⟨1, ![1]⟩
abbrev S256x1024 : Shape := ⟨2, ![256, 1024]⟩
abbrev S1x256x1024 : Shape := ⟨3, ![1, 256, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128x1024 : Shape := ⟨2, ![128, 1024]⟩

abbrev nBuf : Space → Nat
  | .hbm => 34
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S4x256x1024, .f32⟩
  | .hbm, ⟨9, _⟩ => ⟨S4x256x1024, .bf16⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S1024x2048, .bf16⟩
  | .hbm, ⟨28, _⟩ => ⟨S8192x2048, .f32⟩
  | .hbm, ⟨29, _⟩ => ⟨S1x1024, .f32⟩
  | .hbm, ⟨30, _⟩ => ⟨S1x1024, .f32⟩
  | .hbm, ⟨31, _⟩ => ⟨S128x8, .f32⟩
  | .hbm, ⟨32, _⟩ => ⟨S8192x1024, .f32⟩
  | .hbm, ⟨33, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SguFwdIdeal.lean ====
variable {F : FTy → Type} [FloatOps F] [Named F]
def κ : String → Option EReal := fun
  | "sqrt_half" => some (((Real.sqrt 2)⁻¹ : ℝ) : EReal)
  | _ => none
-- ==== SguFwdRefIdeal.lean ====
abbrev S8192x1024 : Shape := ⟨2, ![8192, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S64x128x8x128, .f32⟩
  | .hbm, ⟨67, _⟩ => ⟨S_, .f32⟩
  | .hbm, ⟨68, _⟩ => ⟨S128x128, .f32⟩
  | .hbm, ⟨69, _⟩ => ⟨S128x128, .i32⟩
  | .hbm, ⟨70, _⟩ => ⟨S_, .i32⟩
  | .hbm, ⟨71, _⟩ => ⟨S128x128, .i32⟩
  | .hbm, ⟨72, _⟩ => ⟨S128x128, .i32⟩
  | .hbm, ⟨73, _⟩ => ⟨S128x128, .i32⟩
  | .hbm, ⟨74, _⟩ => ⟨S128x128, .i1⟩
  | .hbm, ⟨75, _⟩ => ⟨S_, .f32⟩
  | .hbm, ⟨76, _⟩ => ⟨S128x128, .f32⟩
  | .hbm, ⟨77, _⟩ => ⟨S128x128, .f32⟩
  | .hbm, ⟨78, _⟩ => ⟨S1x128x128, .f32⟩
  | .hbm, ⟨79, _⟩ => ⟨S8x128x128, .f32⟩
  | .hbm, ⟨80, _⟩ => ⟨S8x128x128, .f32⟩
  | .hbm, ⟨81, _⟩ => ⟨S8x64x128x128, .f32⟩
  | .hbm, ⟨82, _⟩ => ⟨S64x128x8x128, .f32⟩
  | .hbm, ⟨83, _⟩ => ⟨S128x8, .f32⟩
  | .hbm, ⟨84, _⟩ => ⟨S1x128x8x1, .f32⟩
  | .hbm, ⟨85, _⟩ => ⟨S64x128x8x128, .f32⟩
  | .hbm, ⟨86, _⟩ => ⟨S64x128x8x128, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_call0_v0 : Ref sig .tc := ⟨.hbm, 69, rfl⟩
abbrev main_call0_c : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_cst : Ref sig .tc := ⟨.hbm, 75, rfl⟩
abbrev main_call0_v5 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4x704x1024 : Shape := ⟨3, ![4, 704, 1024]⟩
abbrev S1x1024 : Shape := ⟨2, ![1, 1024]⟩
abbrev S8192x5632 : Shape := ⟨2, ![8192, 5632]⟩
abbrev S512x1024 : Shape := ⟨2, ![512, 1024]⟩
abbrev S512x5632 : Shape := ⟨2, ![512, 5632]⟩
abbrev S8 : Shape := ⟨1, ![8]⟩
abbrev S1 : Shape := ⟨1, ![1]⟩
abbrev S_ : Shape := ⟨0, ![]⟩
abbrev S1x1024x1408 : Shape := ⟨3, ![1, 1024, 1408]⟩
abbrev S704x1024 : Shape := ⟨2, ![704, 1024]⟩
abbrev S1x704x1024 : Shape := ⟨3, ![1, 704, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 13
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x4x1408, .f32⟩
  | .hbm, ⟨5, _⟩ => ⟨S4x1024x1408, .f32⟩
  | .hbm, ⟨6, _⟩ => ⟨S4x1024x1408, .bf16⟩
  | .hbm, ⟨7, _⟩ => ⟨S4x704x1024, .f32⟩
  | .hbm, ⟨8, _⟩ => ⟨S4x704x1024, .bf16⟩
  | .hbm, ⟨9, _⟩ => ⟨S1x1024, .f32⟩
  | .hbm, ⟨10, _⟩ => ⟨S8192x1024, .f32⟩
  | .hbm, ⟨11, _⟩ => ⟨S8192x5632, .bf16⟩
  | .hbm, ⟨12, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x5632, .bf16⟩
  | .local _ .vmem, ⟨6, _⟩ => ⟨S512x5632, .bf16⟩
  | .local _ .vmem, ⟨7, _⟩ => ⟨S512x1024, .bf16⟩
  | .local _ .vmem, ⟨8, _⟩ => ⟨S512x1024, .bf16⟩
  | .local _ .vmem, ⟨9, _⟩ => ⟨S4x1024x1408, .bf16⟩
  | .local _ .vmem, ⟨10, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnFwdRefIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x5632, .bf16⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== MixFwd.lean ====
abbrev S8192x1024 : Shape := ⟨2, ![8192, 1024]⟩
abbrev S1024 : Shape := ⟨1, ![1024]⟩
abbrev S1024x1536 : Shape := ⟨2, ![1024, 1536]⟩
abbrev S4x128x128 : Shape := ⟨3, ![4, 128, 128]⟩
abbrev S4x128 : Shape := ⟨2, ![4, 128]⟩
abbrev S512 : Shape := ⟨1, ![512]⟩
abbrev S31x512 : Shape := ⟨2, ![31, 512]⟩
abbrev S1024x1024 : Shape := ⟨2, ![1024, 1024]⟩
abbrev S4x256x1024 : Shape := ⟨3, ![4, 256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩
abbrev S1x512 : Shape := ⟨2, ![1, 512]⟩
abbrev S8192x512 : Shape := ⟨2, ![8192, 512]⟩
abbrev S512x1024 : Shape := ⟨2, ![512, 1024]⟩
abbrev S512x1536 : Shape := ⟨2, ![512, 1536]⟩
abbrev S32x1536 : Shape := ⟨2, ![32, 1536]⟩
abbrev S512x512 : Shape := ⟨2, ![512, 512]⟩
abbrev S4 : Shape := ⟨1, ![4]⟩
abbrev S1 : Shape := ⟨1, ![1]⟩
abbrev S256x1024 : Shape := ⟨2, ![256, 1024]⟩
abbrev S1x256x1024 : Shape := ⟨3, ![1, 256, 1024]⟩
abbrev S544x1536 : Shape := ⟨2, ![544, 1536]⟩
abbrev S544x512 : Shape := ⟨2, ![544, 512]⟩
abbrev S160x128 : Shape := ⟨2, ![160, 128]⟩
abbrev S31x128 : Shape := ⟨2, ![31, 128]⟩
abbrev S128x128 : Shape := ⟨2, ![128, 128]⟩
abbrev S1x128 : Shape := ⟨2, ![1, 128]⟩
abbrev S512x128 : Shape := ⟨2, ![512, 128]⟩
abbrev S512x1 : Shape := ⟨2, ![512, 1]⟩
abbrev S1x128x128 : Shape := ⟨3, ![1, 128, 128]⟩

abbrev nBuf : Space → Nat
  | .hbm => 40
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1536, .f32⟩
  | .hbm, ⟨3, _⟩ => ⟨S4x128x128, .f32⟩
  | .hbm, ⟨4, _⟩ => ⟨S4x128, .f32⟩
  | .hbm, ⟨5, _⟩ => ⟨S512, .f32⟩
  | .hbm, ⟨6, _⟩ => ⟨S31x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1024x1024, .f32⟩
  | .hbm, ⟨11, _⟩ => ⟨S4x256x1024, .f32⟩
  | .hbm, ⟨12, _⟩ => ⟨S4x256x1024, .bf16⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S1024x1536, .bf16⟩
  | .hbm, ⟨31, _⟩ => ⟨S8192x1536, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S8192x1024, .f32⟩
  | .hbm, ⟨38, _⟩ => ⟨S8192x1024, .bf16⟩
  | .hbm, ⟨39, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S512x1536, .f32⟩
  | .local _ .vmem, ⟨3, _⟩ => ⟨S512x1536, .f32⟩
  | .local _ .vmem, ⟨4, _⟩ => ⟨S32x1536, .f32⟩
  | .local _ .vmem, ⟨5, _⟩ => ⟨S32x1536, .f32⟩
  | .local _ .vmem, ⟨6, _⟩ => ⟨S4x128x128, .f32⟩
  | .local _ .vmem, ⟨7, _⟩ => ⟨S1x512, .f32⟩
  | .local _ .vmem, ⟨8, _⟩ => ⟨S1x512, .f32⟩
  | .local _ .vmem, ⟨9, _⟩ => ⟨S31x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x512, .f32⟩
  | .local _ .vmem, ⟨18, _⟩ => ⟨S512x512, .f32⟩
  | .local _ .vmem, ⟨19, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v23_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixFwdRefIdeal.lean ====
abbrev S8192x1024 : Shape := ⟨2, ![8192, 1024]⟩
abbrev S1024 : Shape := ⟨1, ![1024]⟩
abbrev S1024x1536 : Shape := ⟨2, ![1024, 1536]⟩
abbrev S4x128x128 : Shape := ⟨3, ![4, 128, 128]⟩
abbrev S4x128 : Shape := ⟨2, ![4, 128]⟩
abbrev S512 : Shape := ⟨1, ![512]⟩
abbrev S31x512 : Shape := ⟨2, ![31, 512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1536 : Shape := ⟨2, ![8192, 1536]⟩
abbrev S8192x512 : Shape := ⟨2, ![8192, 512]⟩
abbrev S8192x128 : Shape := ⟨2, ![8192, 128]⟩
abbrev S2x128 : Shape := ⟨2, ![2, 128]⟩
abbrev S8190x128 : Shape := ⟨2, ![8190, 128]⟩
abbrev S8188x128 : Shape := ⟨2, ![8188, 128]⟩
abbrev S8x128 : Shape := ⟨2, ![8, 128]⟩
abbrev S8184x128 : Shape := ⟨2, ![8184, 128]⟩
abbrev S16x128 : Shape := ⟨2, ![16, 128]⟩
abbrev S8176x128 : Shape := ⟨2, ![8176, 128]⟩
abbrev S8192x4x128 : Shape := ⟨3, ![8192, 4, 128]⟩
abbrev S4x128x8192 : Shape := ⟨3, ![4, 128, 8192]⟩
abbrev S1x4x128 : Shape := ⟨3, ![1, 4, 128]⟩
abbrev S1x512 : Shape := ⟨2, ![1, 512]⟩
abbrev S30x512 : Shape := ⟨2, ![30, 512]⟩
abbrev S8222x512 : Shape := ⟨2, ![8222, 512]⟩

abbrev nBuf : Space → Nat
  | .hbm => 388
  | .vmem => 0
  | .smem => 0
  | _ => 0

abbrev hbmTy0_0 (i : Nat) : BufTy := match i % 128 with
  | 0 => ⟨S8192x1024, .f32⟩
  | 1 => ⟨S1024, .f32⟩
  | 2 => ⟨S1024x1536, .f32⟩
  | 3 => ⟨S4x128x128, .f32⟩
  | 4 => ⟨S4x128, .f32⟩
  | 5 => ⟨S512, .f32⟩
  | 6 => ⟨S31x512, .f32⟩
  | 7 => ⟨S512, .f32⟩
  | 8 => ⟨S512, .f32⟩
  | 9 => ⟨S512, .f32⟩
  | 10 => ⟨S1024x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x1536, .f32⟩
  | 28 => ⟨S8192x512, .f32⟩
  | 29 => ⟨S_, .f32⟩
  | 30 => ⟨S_, .f32⟩
  | 31 => ⟨S8192x512, .f32⟩
  | 32 => ⟨S8192, .i32⟩
  | 33 => ⟨S8192x128, .f32⟩
  | 34 => ⟨S_, .f32⟩
  | 35 => ⟨S2x128, .f32⟩
  | 36 => ⟨S8190x128, .f32⟩
  | 37 => ⟨S8192x128, .f32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S8192, .f32⟩
  | 45 => ⟨S8192x1, .f32⟩
  | 46 => ⟨S8192x128, .f32⟩
  | 47 => ⟨S8192x128, .f32⟩
  | 48 => ⟨S8192x128, .f32⟩
  | 49 => ⟨S8192x128, .f32⟩
  | 50 => ⟨S_, .f32⟩
  | 51 => ⟨S4x128, .f32⟩
  | 52 => ⟨S8188x128, .f32⟩
  | 53 => ⟨S8192x128, .f32⟩
  | 54 => ⟨S_, .i32⟩
  | 55 => ⟨S8192, .i32⟩
  | 56 => ⟨S8192, .i32⟩
  | 57 => ⟨S_, .i32⟩
  | 58 => ⟨S8192, .i32⟩
  | 59 => ⟨S8192, .i32⟩
  | 60 => ⟨S8192, .f32⟩
  | 61 => ⟨S8192x1, .f32⟩
  | 62 => ⟨S8192x128, .f32⟩
  | 63 => ⟨S8192x128, .f32⟩
  | 64 => ⟨S8192x128, .f32⟩
  | 65 => ⟨S8192x128, .f32⟩
  | 66 => ⟨S_, .f32⟩
  | 67 => ⟨S8x128, .f32⟩
  | 68 => ⟨S8184x128, .f32⟩
  | 69 => ⟨S8192x128, .f32⟩
  | 70 => ⟨S_, .i32⟩
  | 71 => ⟨S8192, .i32⟩
  | 72 => ⟨S8192, .i32⟩
  | 73 => ⟨S_, .i32⟩
  | 74 => ⟨S8192, .i32⟩
  | 75 => ⟨S8192, .i32⟩
  | 76 => ⟨S8192, .f32⟩
  | 77 => ⟨S8192x1, .f32⟩
  | 78 => ⟨S8192x128, .f32⟩
  | 79 => ⟨S8192x128, .f32⟩
  | 80 => ⟨S8192x128, .f32⟩
  | 81 => ⟨S8192x128, .f32⟩
  | 82 => ⟨S_, .f32⟩
  | 83 => ⟨S16x128, .f32⟩
  | 84 => ⟨S8176x128, .f32⟩
  | 85 => ⟨S8192x128, .f32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S8192, .f32⟩
  | 93 => ⟨S8192x1, .f32⟩
  | 94 => ⟨S8192x128, .f32⟩
  | 95 => ⟨S8192x128, .f32⟩
  | 96 => ⟨S8192x128, .f32⟩
  | 97 => ⟨S8192x512, .f32⟩
  | 98 => ⟨S8192x512, .f32⟩
  | 99 => ⟨S8192x4x128, .f32⟩
  | 100 => ⟨S4x128x8192, .f32⟩
  | 101 => ⟨S8192x4x128, .f32⟩
  | 102 => ⟨S1x4x128, .f32⟩
  | 103 => ⟨S8192x4x128, .f32⟩
  | 104 => ⟨S8192x4x128, .f32⟩
  | 105 => ⟨S8192x512, .f32⟩
  | 106 => ⟨S1x512, .f32⟩
  | 107 => ⟨S8192x512, .f32⟩
  | 108 => ⟨S8192x512, .f32⟩
  | 109 => ⟨S8192x1024, .f32⟩
  | 110 => ⟨S8192x512, .f32⟩
  | 111 => ⟨S8192x512, .f32⟩
  | 112 => ⟨S_, .f32⟩
  | 113 => ⟨S30x512, .f32⟩
  | 114 => ⟨S8192x512, .f32⟩
  | 115 => ⟨S8192x512, .f32⟩
  | 116 => ⟨S_, .f32⟩
  | 117 => ⟨S8192x512, .f32⟩
  | 118 => ⟨S8192x512, .f32⟩
  | 119 => ⟨S_, .f32⟩
  | 120 => ⟨S8192x512, .f32⟩
  | 121 => ⟨S8192x512, .f32⟩
  | 122 => ⟨S8192x512, .f32⟩
  | 123 => ⟨S8222x512, .f32⟩
  | 124 => ⟨S8192x512, .f32⟩
  | 125 => ⟨S1x512, .f32⟩
  | 126 => ⟨S512, .f32⟩
  | 127 => ⟨S1x512, .f32⟩
  | _ => ⟨S8192x1024, .f32⟩

abbrev hbmTy0_1 (i : Nat) : BufTy := match i % 128 with
  | 0 => ⟨S8192x512, .f32⟩
  | 1 => ⟨S8192x512, .f32⟩
  | 2 => ⟨S_, .f32⟩
  | 3 => ⟨S8192x512, .f32⟩
  | 4 => ⟨S8192x512, .f32⟩
  | 5 => ⟨S8192x512, .f32⟩
  | 6 => ⟨S1x512, .f32⟩
  | 7 => ⟨S512, .f32⟩
  | 8 => ⟨S1x512, .f32⟩
  | 9 => ⟨S8192x512, .f32⟩
  | 10 => ⟨S8192x512, .f32⟩
  | 11 => ⟨S8192x512, .f32⟩
  | 12 => ⟨S8192x512, .f32⟩
  | 13 => ⟨S1x512, .f32⟩
  | 14 => ⟨S512, .f32⟩
  | 15 => ⟨S1x512, .f32⟩
  | 16 => ⟨S8192x512, .f32⟩
  | 17 => ⟨S8192x512, .f32⟩
  | 18 => ⟨S8192x512, .f32⟩
  | 19 => ⟨S8192x512, .f32⟩
  | 20 => ⟨S1x512, .f32⟩
  | 21 => ⟨S512, .f32⟩
  | 22 => ⟨S1x512, .f32⟩
  | 23 => ⟨S8192x512, .f32⟩
  | 24 => ⟨S8192x512, .f32⟩
  | 25 => ⟨S8192x512, .f32⟩
  | 26 => ⟨S8192x512, .f32⟩
  | 27 => ⟨S1x512, .f32⟩
  | 28 => ⟨S512, .f32⟩
  | 29 => ⟨S1x512, .f32⟩
  | 30 => ⟨S8192x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S1x512, .f32⟩
  | 37 => ⟨S8192x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S1x512, .f32⟩
  | 44 => ⟨S8192x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S1x512, .f32⟩
  | 51 => ⟨S8192x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S1x512, .f32⟩
  | 58 => ⟨S8192x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S1x512, .f32⟩
  | 65 => ⟨S8192x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S1x512, .f32⟩
  | 72 => ⟨S8192x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S1x512, .f32⟩
  | 79 => ⟨S8192x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S1x512, .f32⟩
  | 86 => ⟨S8192x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S1x512, .f32⟩
  | 93 => ⟨S8192x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S1x512, .f32⟩
  | 100 => ⟨S8192x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S1x512, .f32⟩
  | 107 => ⟨S8192x512, .f32⟩
  | 108 => ⟨S8192x512, .f32⟩
  | 109 => ⟨S8192x512, .f32⟩
  | 110 => ⟨S8192x512, .f32⟩
  | 111 => ⟨S1x512, .f32⟩
  | 112 => ⟨S512, .f32⟩
  | 113 => ⟨S1x512, .f32⟩
  | 114 => ⟨S8192x512, .f32⟩
  | 115 => ⟨S8192x512, .f32⟩
  | 116 => ⟨S8192x512, .f32⟩
  | 117 => ⟨S8192x512, .f32⟩
  | 118 => ⟨S1x512, .f32⟩
  | 119 => ⟨S512, .f32⟩
  | 120 => ⟨S1x512, .f32⟩
  | 121 => ⟨S8192x512, .f32⟩
  | 122 => ⟨S8192x512, .f32⟩
  | 123 => ⟨S8192x512, .f32⟩
  | 124 => ⟨S8192x512, .f32⟩
  | 125 => ⟨S1x512, .f32⟩
  | 126 => ⟨S512, .f32⟩
  | 127 => ⟨S1x512, .f32⟩
  | _ => ⟨S8192x1024, .f32⟩

abbrev hbmTy0_2 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S1x512, .f32⟩
  | 5 => ⟨S512, .f32⟩
  | 6 => ⟨S1x512, .f32⟩
  | 7 => ⟨S8192x512, .f32⟩
  | 8 => ⟨S8192x512, .f32⟩
  | 9 => ⟨S8192x512, .f32⟩
  | 10 => ⟨S8192x512, .f32⟩
  | 11 => ⟨S1x512, .f32⟩
  | 12 => ⟨S512, .f32⟩
  | 13 => ⟨S1x512, .f32⟩
  | 14 => ⟨S8192x512, .f32⟩
  | 15 => ⟨S8192x512, .f32⟩
  | 16 => ⟨S8192x512, .f32⟩
  | 17 => ⟨S8192x512, .f32⟩
  | 18 => ⟨S1x512, .f32⟩
  | 19 => ⟨S512, .f32⟩
  | 20 => ⟨S1x512, .f32⟩
  | 21 => ⟨S8192x512, .f32⟩
  | 22 => ⟨S8192x512, .f32⟩
  | 23 => ⟨S8192x512, .f32⟩
  | 24 => ⟨S8192x512, .f32⟩
  | 25 => ⟨S1x512, .f32⟩
  | 26 => ⟨S512, .f32⟩
  | 27 => ⟨S1x512, .f32⟩
  | 28 => ⟨S8192x512, .f32⟩
  | 29 => ⟨S8192x512, .f32⟩
  | 30 => ⟨S8192x512, .f32⟩
  | 31 => ⟨S8192x512, .f32⟩
  | 32 => ⟨S1x512, .f32⟩
  | 33 => ⟨S512, .f32⟩
  | 34 => ⟨S1x512, .f32⟩
  | 35 => ⟨S8192x512, .f32⟩
  | 36 => ⟨S8192x512, .f32⟩
  | 37 => ⟨S8192x512, .f32⟩
  | 38 => ⟨S8192x512, .f32⟩
  | 39 => ⟨S1x512, .f32⟩
  | 40 => ⟨S512, .f32⟩
  | 41 => ⟨S1x512, .f32⟩
  | 42 => ⟨S8192x512, .f32⟩
  | 43 => ⟨S8192x512, .f32⟩
  | 44 => ⟨S8192x512, .f32⟩
  | 45 => ⟨S8192x512, .f32⟩
  | 46 => ⟨S1x512, .f32⟩
  | 47 => ⟨S512, .f32⟩
  | 48 => ⟨S1x512, .f32⟩
  | 49 => ⟨S8192x512, .f32⟩
  | 50 => ⟨S8192x512, .f32⟩
  | 51 => ⟨S8192x512, .f32⟩
  | 52 => ⟨S8192x512, .f32⟩
  | 53 => ⟨S1x512, .f32⟩
  | 54 => ⟨S512, .f32⟩
  | 55 => ⟨S1x512, .f32⟩
  | 56 => ⟨S8192x512, .f32⟩
  | 57 => ⟨S8192x512, .f32⟩
  | 58 => ⟨S8192x512, .f32⟩
  | 59 => ⟨S8192x512, .f32⟩
  | 60 => ⟨S1x512, .f32⟩
  | 61 => ⟨S512, .f32⟩
  | 62 => ⟨S1x512, .f32⟩
  | 63 => ⟨S8192x512, .f32⟩
  | 64 => ⟨S8192x512, .f32⟩
  | 65 => ⟨S8192x512, .f32⟩
  | 66 => ⟨S8192x512, .f32⟩
  | 67 => ⟨S1x512, .f32⟩
  | 68 => ⟨S512, .f32⟩
  | 69 => ⟨S1x512, .f32⟩
  | 70 => ⟨S8192x512, .f32⟩
  | 71 => ⟨S8192x512, .f32⟩
  | 72 => ⟨S8192x512, .f32⟩
  | 73 => ⟨S8192x512, .f32⟩
  | 74 => ⟨S1x512, .f32⟩
  | 75 => ⟨S512, .f32⟩
  | 76 => ⟨S1x512, .f32⟩
  | 77 => ⟨S8192x512, .f32⟩
  | 78 => ⟨S8192x512, .f32⟩
  | 79 => ⟨S8192x512, .f32⟩
  | 80 => ⟨S8192x512, .f32⟩
  | 81 => ⟨S1x512, .f32⟩
  | 82 => ⟨S512, .f32⟩
  | 83 => ⟨S1x512, .f32⟩
  | 84 => ⟨S8192x512, .f32⟩
  | 85 => ⟨S8192x512, .f32⟩
  | 86 => ⟨S8192x512, .f32⟩
  | 87 => ⟨S1x512, .f32⟩
  | 88 => ⟨S8192x512, .f32⟩
  | 89 => ⟨S8192x512, .f32⟩
  | 90 => ⟨S_, .f32⟩
  | 91 => ⟨S8192, .f32⟩
  | 92 => ⟨S8192x1, .f32⟩
  | 93 => ⟨S_, .f32⟩
  | 94 => ⟨S8192x1, .f32⟩
  | 95 => ⟨S8192x1, .f32⟩
  | 96 => ⟨S8192x512, .f32⟩
  | 97 => ⟨S8192x512, .f32⟩
  | 98 => ⟨S8192x512, .f32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S8192x512, .f32⟩
  | 106 => ⟨S8192x512, .f32⟩
  | 107 => ⟨S_, .f32⟩
  | 108 => ⟨S8192x1, .f32⟩
  | 109 => ⟨S8192x1, .f32⟩
  | 110 => ⟨S8192x1, .f32⟩
  | 111 => ⟨S8192x512, .f32⟩
  | 112 => ⟨S8192x512, .f32⟩
  | 113 => ⟨S1x512, .f32⟩
  | 114 => ⟨S8192x512, .f32⟩
  | 115 => ⟨S8192x512, .f32⟩
  | 116 => ⟨S1x512, .f32⟩
  | 117 => ⟨S8192x512, .f32⟩
  | 118 => ⟨S8192x512, .f32⟩
  | 119 => ⟨S8192x512, .f32⟩
  | 120 => ⟨S8192x512, .f32⟩
  | 121 => ⟨S_, .f32⟩
  | 122 => ⟨S8192x512, .f32⟩
  | 123 => ⟨S8192x512, .f32⟩
  | 124 => ⟨S_, .f32⟩
  | 125 => ⟨S8192x512, .f32⟩
  | 126 => ⟨S8192x512, .f32⟩
  | 127 => ⟨S8192x512, .f32⟩
  | _ => ⟨S8192x1024, .f32⟩

abbrev hbmTy0_3 (i : Nat) : BufTy := match i % 128 with
  | 0 => ⟨S8192x1024, .f32⟩
  | 1 => ⟨S8192x1024, .f32⟩
  | 2 => ⟨S8192x1024, .f32⟩
  | 3 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_call0_cst : Ref sig .tc := ⟨.hbm, 29, rfl⟩
abbrev main_call0_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_8 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_13 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_14 : Ref sig .tc := ⟨.hbm, 116, rfl⟩
abbrev main_v87 : Ref sig .tc := ⟨.hbm, 117, rfl⟩
abbrev main_v88 : Ref sig .tc := ⟨.hbm, 118, rfl⟩
abbrev main_cst_15 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_16 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_v227 : Ref sig .tc := ⟨.hbm, 259, rfl⟩
abbrev main_v228 : Ref sig .tc := ⟨.hbm, 260, rfl⟩
abbrev main_v229 : Ref sig .tc := ⟨.hbm, 261, rfl⟩
abbrev main_v230 : Ref sig .tc := ⟨.hbm, 262, rfl⟩
abbrev main_v231 : Ref sig .tc := ⟨.hbm, 263, rfl⟩
abbrev main_v232 : Ref sig .tc := ⟨.hbm, 264, rfl⟩
abbrev main_v233 : Ref sig .tc := ⟨.hbm, 265, rfl⟩
abbrev main_v234 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_v254 : Ref sig .tc := ⟨.hbm, 286, rfl⟩
abbrev main_v255 : Ref sig .tc := ⟨.hbm, 287, rfl⟩
abbrev main_v256 : Ref sig .tc := ⟨.hbm, 288, rfl⟩
abbrev main_v257 : Ref sig .tc := ⟨.hbm, 289, rfl⟩
abbrev main_v258 : Ref sig .tc := ⟨.hbm, 290, rfl⟩
abbrev main_v259 : Ref sig .tc := ⟨.hbm, 291, rfl⟩
abbrev main_v260 : Ref sig .tc := ⟨.hbm, 292, rfl⟩
abbrev main_v261 : Ref sig .tc := ⟨.hbm, 293, rfl⟩
abbrev main_v262 : Ref sig .tc := ⟨.hbm, 294, rfl⟩
abbrev main_v263 : Ref sig .tc := ⟨.hbm, 295, rfl⟩
abbrev main_v264 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_v272 : Ref sig .tc := ⟨.hbm, 304, rfl⟩
abbrev main_v273 : Ref sig .tc := ⟨.hbm, 305, rfl⟩
abbrev main_v274 : Ref sig .tc := ⟨.hbm, 306, rfl⟩
abbrev main_v275 : Ref sig .tc := ⟨.hbm, 307, rfl⟩
abbrev main_v276 : Ref sig .tc := ⟨.hbm, 308, rfl⟩
abbrev main_v277 : Ref sig .tc := ⟨.hbm, 309, rfl⟩
abbrev main_v278 : Ref sig .tc := ⟨.hbm, 310, rfl⟩
abbrev main_v279 : Ref sig .tc := ⟨.hbm, 311, rfl⟩
abbrev main_v280 : Ref sig .tc := ⟨.hbm, 312, rfl⟩
abbrev main_v281 : Ref sig .tc := ⟨.hbm, 313, rfl⟩
abbrev main_v282 : Ref sig .tc := ⟨.hbm, 314, rfl⟩
abbrev main_v283 : Ref sig .tc := ⟨.hbm, 315, rfl⟩
abbrev main_v284 : Ref sig .tc := ⟨.hbm, 316, rfl⟩
abbrev main_v285 : Ref sig .tc := ⟨.hbm, 317, rfl⟩
abbrev main_v286 : Ref sig .tc := ⟨.hbm, 318, rfl⟩
abbrev main_v287 : Ref sig .tc := ⟨.hbm, 319, rfl⟩
abbrev main_v288 : Ref sig .tc := ⟨.hbm, 320, rfl⟩
abbrev main_v289 : Ref sig .tc := ⟨.hbm, 321, rfl⟩
abbrev main_v290 : Ref sig .tc := ⟨.hbm, 322, rfl⟩
abbrev main_v291 : Ref sig .tc := ⟨.hbm, 323, rfl⟩
abbrev main_v292 : Ref sig .tc := ⟨.hbm, 324, rfl⟩
abbrev main_v293 : Ref sig .tc := ⟨.hbm, 325, rfl⟩
abbrev main_v294 : Ref sig .tc := ⟨.hbm, 326, rfl⟩
abbrev main_v295 : Ref sig .tc := ⟨.hbm, 327, rfl⟩
abbrev main_v296 : Ref sig .tc := ⟨.hbm, 328, rfl⟩
abbrev main_v297 : Ref sig .tc := ⟨.hbm, 329, rfl⟩
abbrev main_v298 : Ref sig .tc := ⟨.hbm, 330, rfl⟩
abbrev main_v299 : Ref sig .tc := ⟨.hbm, 331, rfl⟩
abbrev main_v300 : Ref sig .tc := ⟨.hbm, 332, rfl⟩
abbrev main_v301 : Ref sig .tc := ⟨.hbm, 333, rfl⟩
abbrev main_v302 : Ref sig .tc := ⟨.hbm, 334, rfl⟩
abbrev main_v303 : Ref sig .tc := ⟨.hbm, 335, rfl⟩
abbrev main_v304 : Ref sig .tc := ⟨.hbm, 336, rfl⟩
abbrev main_v305 : Ref sig .tc := ⟨.hbm, 337, rfl⟩
abbrev main_v306 : Ref sig .tc := ⟨.hbm, 338, rfl⟩
abbrev main_v307 : Ref sig .tc := ⟨.hbm, 339, rfl⟩
abbrev main_v308 : Ref sig .tc := ⟨.hbm, 340, rfl⟩
abbrev main_v309 : Ref sig .tc := ⟨.hbm, 341, rfl⟩
abbrev main_v310 : Ref sig .tc := ⟨.hbm, 342, rfl⟩
abbrev main_v311 : Ref sig .tc := ⟨.hbm, 343, rfl⟩
abbrev main_v312 : Ref sig .tc := ⟨.hbm, 344, rfl⟩
abbrev main_v313 : Ref sig .tc := ⟨.hbm, 345, rfl⟩
abbrev main_cst_17 : Ref sig .tc := ⟨.hbm, 346, rfl⟩
abbrev main_v314 : Ref sig .tc := ⟨.hbm, 347, rfl⟩
abbrev main_v315 : Ref sig .tc := ⟨.hbm, 348, rfl⟩
abbrev main_cst_18 : Ref sig .tc := ⟨.hbm, 349, rfl⟩
abbrev main_v316 : Ref sig .tc := ⟨.hbm, 350, rfl⟩
abbrev main_v317 : Ref sig .tc := ⟨.hbm, 351, rfl⟩
abbrev main_v318 : Ref sig .tc := ⟨.hbm, 352, rfl⟩
abbrev main_v319 : Ref sig .tc := ⟨.hbm, 353, rfl⟩
abbrev main_v320 : Ref sig .tc := ⟨.hbm, 354, rfl⟩
abbrev main_cst_19 : Ref sig .tc := ⟨.hbm, 355, rfl⟩
abbrev main_v321 : Ref sig .tc := ⟨.hbm, 356, rfl⟩
abbrev main_v322 : Ref sig .tc := ⟨.hbm, 357, rfl⟩
abbrev main_cst_20 : Ref sig .tc := ⟨.hbm, 358, rfl⟩
abbrev main_v323 : Ref sig .tc := ⟨.hbm, 359, rfl⟩
abbrev main_v324 : Ref sig .tc := ⟨.hbm, 360, rfl⟩
abbrev main_v325 : Ref sig .tc := ⟨.hbm, 361, rfl⟩
abbrev main_v326 : Ref sig .tc := ⟨.hbm, 362, rfl⟩
abbrev main_cst_21 : Ref sig .tc := ⟨.hbm, 363, rfl⟩
abbrev main_v327 : Ref sig .tc := ⟨.hbm, 364, rfl⟩
abbrev main_v328 : Ref sig .tc := ⟨.hbm, 365, rfl⟩
abbrev main_v329 : Ref sig .tc := ⟨.hbm, 366, rfl⟩
abbrev main_v330 : Ref sig .tc := ⟨.hbm, 367, rfl⟩
abbrev main_v331 : Ref sig .tc := ⟨.hbm, 368, rfl⟩
abbrev main_v332 : Ref sig .tc := ⟨.hbm, 369, rfl⟩
abbrev main_v333 : Ref sig .tc := ⟨.hbm, 370, rfl⟩
abbrev main_v334 : Ref sig .tc := ⟨.hbm, 371, rfl⟩
abbrev main_v335 : Ref sig .tc := ⟨.hbm, 372, rfl⟩
abbrev main_v336 : Ref sig .tc := ⟨.hbm, 373, rfl⟩
abbrev main_v337 : Ref sig .tc := ⟨.hbm, 374, rfl⟩
abbrev main_call1_v0 : Ref sig .tc := ⟨.hbm, 375, rfl⟩
abbrev main_call1_v1 : Ref sig .tc := ⟨.hbm, 376, rfl⟩
abbrev main_call1_cst : Ref sig .tc := ⟨.hbm, 377, rfl⟩
abbrev main_call1_v2 : Ref sig .tc := ⟨.hbm, 378, rfl⟩
abbrev main_call1_v3 : Ref sig .tc := ⟨.hbm, 379, rfl⟩
abbrev main_call1_cst_0 : Ref sig .tc := ⟨.hbm, 380, rfl⟩
abbrev main_call1_v4 : Ref sig .tc := ⟨.hbm, 381, rfl⟩
abbrev main_call1_v5 : Ref sig .tc := ⟨.hbm, 382, rfl⟩
abbrev main_v338 : Ref sig .tc := ⟨.hbm, 383, rfl⟩
abbrev main_v339 : Ref sig .tc := ⟨.hbm, 384, rfl⟩
abbrev main_v340 : Ref sig .tc := ⟨.hbm, 385, rfl⟩
abbrev main_v341 : Ref sig .tc := ⟨.hbm, 386, rfl⟩
abbrev main_v342 : Ref sig .tc := ⟨.hbm, 387, rfl⟩

abbrev nD : Nat := 1
abbrev τ : Topo := Topo.v7x

variable {F : FTy → Type} [FloatOps F]
-- ==== Proof.Coe.lean ====
/-
  Real numbers inside the extended reals. The programs are read at the extended reals; where every argument is finite,
  every operation of them maps real numbers to a real number. Each lemma here says so of one operation, in the direction
  that gathers the casts at the outside, so that a chain of operations becomes the cast of one real expression.
-/
module

public import Idealize.ShloMosaic.PureOps.Ideal.Laws
public import Idealize.ShloMosaic.Lib.IdealHost

@[expose] public section

noncomputable section

namespace Step

open Idealize.ShloMosaic

theorem add_coe (a b : ℝ) : (a : EReal) + (b : EReal) = ((a + b : ℝ) : EReal) := (EReal.coe_add a b).symm
theorem sub_coe (a b : ℝ) : (a : EReal) - (b : EReal) = ((a - b : ℝ) : EReal) := (EReal.coe_sub a b).symm
theorem mul_coe (a b : ℝ) : (a : EReal) * (b : EReal) = ((a * b : ℝ) : EReal) := (EReal.coe_mul a b).symm
theorem neg_coe (a : ℝ) : -(a : EReal) = ((-a : ℝ) : EReal) := (EReal.coe_neg a).symm
theorem zero_coe : (0 : EReal) = ((0 : ℝ) : EReal) := EReal.coe_zero.symm
theorem one_coe : (1 : EReal) = ((1 : ℝ) : EReal) := EReal.coe_one.symm

/-- A finite sum of real numbers is a real number. -/
theorem sum_coe {ι : Type*} (s : Finset ι) (f : ι → ℝ) : ∑ k ∈ s, (f k : EReal) = ((∑ k ∈ s, f k : ℝ) : EReal) := by
  classical
  induction s using Finset.induction_on with
  | empty => simp
  | insert a s h ih => rw [Finset.sum_insert h, Finset.sum_insert h, ih, EReal.coe_add]

/-- A sum over `m · n` indices, block by block. -/
theorem sum_blocks (m n : ℕ) (f : Fin (m * n) → ℝ) :
    ∑ j, f j = ∑ q : Fin m, ∑ c : Fin n, f ⟨q.val * n + c.val, by
      have h := Nat.mul_le_mul_right n (Nat.succ_le_of_lt q.isLt)
      have := c.isLt
      rw [Nat.succ_mul] at h
      omega⟩ := by
  rw [← Equiv.sum_comp finProdFinEquiv f, Fintype.sum_prod_type]
  refine Finset.sum_congr rfl fun q _ => Finset.sum_congr rfl fun c _ => congrArg f (Fin.ext ?_)
  show c.val + n * q.val = q.val * n + c.val
  rw [Nat.mul_comm, Nat.add_comm]

/-- A quotient by a nonzero real number. -/
theorem div_coe (a b : ℝ) (h : b ≠ 0) : Ideal.div (a : EReal) (b : EReal) = ((a / b : ℝ) : EReal) := by
  rw [Ideal.div_coe h, ← EReal.coe_mul, mul_one_div]

/-- The inverse square root of a positive real number. -/
theorem rsqrt_coe (a : ℝ) (h : 0 < a) : Ideal.rsqrt (a : EReal) = (((Real.sqrt a)⁻¹ : ℝ) : EReal) := by
  rw [Ideal.rsqrt_coe, if_neg (not_lt.mpr h.le), if_neg h.ne']

/-! ## Arrays of real numbers -/

/-- The array of one axis with the real entries `f`. -/
def c1 {a : ℕ} (f : Fin a → ℝ) : Shape.Idx ⟨1, ![a]⟩ → EReal := fun i => ((f (i 0) : ℝ) : EReal)
/-- The array of two axes with the real entries `f`. -/
def c2 {a b : ℕ} (f : Fin a → Fin b → ℝ) : Shape.Idx ⟨2, ![a, b]⟩ → EReal := fun i => ((f (i 0) (i 1) : ℝ) : EReal)
/-- The array of three axes with the real entries `f`. -/
def c3 {a b c : ℕ} (f : Fin a → Fin b → Fin c → ℝ) : Shape.Idx ⟨3, ![a, b, c]⟩ → EReal :=
  fun i => ((f (i 0) (i 1) (i 2) : ℝ) : EReal)

theorem c1_apply {a : ℕ} (f : Fin a → ℝ) (i : Shape.Idx ⟨1, ![a]⟩) : c1 f i = ((f (i 0) : ℝ) : EReal) := rfl
theorem c2_apply {a b : ℕ} (f : Fin a → Fin b → ℝ) (i : Shape.Idx ⟨2, ![a, b]⟩) :
    c2 f i = ((f (i 0) (i 1) : ℝ) : EReal) := rfl
theorem c3_apply {a b c : ℕ} (f : Fin a → Fin b → Fin c → ℝ) (i : Shape.Idx ⟨3, ![a, b, c]⟩) :
    c3 f i = ((f (i 0) (i 1) (i 2) : ℝ) : EReal) := rfl

/-! ## The literals of the programs -/

theorem lit_zero : Ideal.ofBits .f32 0x00000000#32 = ((0 : ℝ) : EReal) := by rw [Ideal.ofBits_zero_f32, EReal.coe_zero]
theorem lit_one : Ideal.ofBits .f32 0x3F800000#32 = ((1 : ℝ) : EReal) := by rw [Ideal.ofBits_one_f32, EReal.coe_one]
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul, -EReal.coe_neg]; norm_num
theorem lit_two : Ideal.ofBits .f32 0x40000000#32 = ((2 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_512 : Ideal.ofBits .f32 0x44000000#32 = ((512 : ℝ) : EReal) := by
  simp [Ideal.ofBits, Ideal.ieee, -EReal.coe_mul]; norm_num

/-- The small constant under the square roots, as its word reads. -/
def eps : ℝ := 8796093 / 2 ^ 43

theorem eps_pos : 0 < eps := by unfold eps; positivity

theorem lit_eps : Ideal.ofBits .f32 0x358637BD#32 = ((eps : ℝ) : EReal) := by
  simp [Ideal.ofBits, Ideal.ieee, -EReal.coe_mul, eps]; norm_num

/-! ## Root mean square and the logistic function -/

/-- The mean square of a row of 1024 entries, plus the small constant. -/
def msq (x : Fin 1024 → ℝ) : ℝ := (∑ k, x k * x k) / 1024 + eps

theorem msq_pos (x : Fin 1024 → ℝ) : 0 < msq x :=
  add_pos_of_nonneg_of_pos (div_nonneg (Finset.sum_nonneg fun k _ => mul_self_nonneg (x k)) (by norm_num)) eps_pos

/-- The inverse root mean square of a row. -/
def inv (x : Fin 1024 → ℝ) : ℝ := (Real.sqrt (msq x))⁻¹

theorem rsqrt_msq (x : Fin 1024 → ℝ) : Ideal.rsqrt ((msq x : ℝ) : EReal) = ((inv x : ℝ) : EReal) :=
  rsqrt_coe _ (msq_pos x)

/-- The same with the mean square spelled out. -/
theorem rsqrt_ms (x : Fin 1024 → ℝ) : Ideal.rsqrt (((∑ k, x k * x k) / 1024 + eps : ℝ) : EReal) = ((inv x : ℝ) : EReal) :=
  rsqrt_msq x

/-- The quotient of the inverse root by the mean square is its cube. -/
theorem inv_div_msq (x : Fin 1024 → ℝ) : inv x / msq x = inv x * inv x * inv x := by
  have h : inv x * inv x = (msq x)⁻¹ := by
    unfold inv
    rw [← mul_inv, Real.mul_self_sqrt (msq_pos x).le]
  rw [mul_assoc, h, div_eq_mul_inv]

/-- The gradient of a row's normalisation `x · inv x · g` with respect to the row, at the cotangent `d`. -/
def rmsBwd (x g d : Fin 1024 → ℝ) (k : Fin 1024) : ℝ :=
  inv x * (d k * g k - x k * inv x * ((∑ j, d j * g j * (x j * inv x)) / 1024))

/-- The logistic function. -/
def logi (a : ℝ) : ℝ := (1 + Real.exp (-a))⁻¹

theorem one_add_exp_ne (a : ℝ) : 1 + Real.exp a ≠ 0 := by positivity

/-- The logistic function by the hyperbolic tangent of half the argument. -/
theorem logi_tanh (a : ℝ) : 1 / 2 * Real.tanh (1 / 2 * a) + 1 / 2 = logi a := by
  have e1 : Real.exp (-a) = Real.exp (-(1 / 2 * a)) * Real.exp (-(1 / 2 * a)) := by rw [← Real.exp_add]; congr 1; ring
  have e2 : Real.exp (1 / 2 * a) * Real.exp (-(1 / 2 * a)) = 1 := by rw [← Real.exp_add]; simp
  rw [Real.tanh_eq_sinh_div_cosh, Real.sinh_eq, Real.cosh_eq, logi, e1]
  have p := Real.exp_pos (1 / 2 * a)
  have q := Real.exp_pos (-(1 / 2 * a))
  generalize Real.exp (1 / 2 * a) = u at *
  generalize Real.exp (-(1 / 2 * a)) = v at *
  have : u + v ≠ 0 := by positivity
  have : 1 + v * v ≠ 0 := by positivity
  field_simp
  nlinarith [e2]

/-- The logistic function by the exponential of the negated argument. -/
theorem logi_exp (a : ℝ) : Ideal.div 1 (1 + Ideal.exp (-(a : EReal))) = ((logi a : ℝ) : EReal) := by
  rw [← EReal.coe_neg, Ideal.exp_coe, ← EReal.coe_one, ← EReal.coe_add, div_coe _ _ (one_add_exp_ne _), logi, one_div]

/-! ## Finite arguments -/

theorem lit_inf : Ideal.ofBits .f32 0x7F800000#32 = ⊤ := by
  simp [Ideal.ofBits, Ideal.ieee]

/-- An extended real whose absolute value is below infinity is a real number. -/
theorem real_of_lt (x : EReal) (h : Ideal.cmp .olt (max x (-x)) (Ideal.ofBits .f32 0x7F800000#32) = 1#1) : x = ((x.toReal : ℝ) : EReal) := by
  rw [lit_inf] at h
  induction x with
  | bot => simp [Ideal.cmp] at h
  | top => simp [Ideal.cmp] at h
  | coe r => rfl

end Step
-- ==== Proof.Finite.lean ====
/-
  The precondition of each claim says of an array that the absolute value of each of its entries is below infinity. Such
  an array is the array of the casts of real numbers.
-/
module

public import Idealize.ShloMosaic.Lib.Pointwise
public import proofs.«01_k».proof.Proof.Coe

@[expose] public section

noncomputable section

namespace Step

open Idealize.ShloMosaic

theorem c1_of {a : ℕ} (x : Shape.Idx (⟨1, ![a]⟩ : Shape) → EReal) (h : ∀ i, Ideal.cmp .olt (max (x i) (-(x i))) (Ideal.ofBits .f32 0x7F800000#32) = 1#1) :
    x = c1 fun p => (x (ix1 p)).toReal := by
  funext i
  refine (real_of_lt _ (h i)).trans ?_
  rw [c1_apply, ix1_eta i]

theorem c2_of {a b : ℕ} (x : Shape.Idx (⟨2, ![a, b]⟩ : Shape) → EReal) (h : ∀ i, Ideal.cmp .olt (max (x i) (-(x i))) (Ideal.ofBits .f32 0x7F800000#32) = 1#1) :
    x = c2 fun p q => (x (ix2 p q)).toReal := by
  funext i
  refine (real_of_lt _ (h i)).trans ?_
  rw [c2_apply, ← eq_ix2 i]

theorem c3_of {a b d : ℕ} (x : Shape.Idx (⟨3, ![a, b, d]⟩ : Shape) → EReal) (h : ∀ i, Ideal.cmp .olt (max (x i) (-(x i))) (Ideal.ofBits .f32 0x7F800000#32) = 1#1) :
    x = c3 fun p q r => (x (ix3 p q r)).toReal := by
  funext i
  refine (real_of_lt _ (h i)).trans ?_
  rw [c3_apply, ← eq_ix3 i]

end Step
-- ==== Proof.FfnBody.lean ====
/-
  The body of the feed-forward layer's backward call on one block of 256 rows: each intermediate value of the body, on real
  inputs, as an array of real numbers.
-/
module

public import proofs.«01_k».proof.Proof.Gen.FfnBwdIdeal.Skeleton
public import proofs.«01_k».proof.Proof.Coe
public import Idealize.ShloMosaic.Lib.Pointwise

@[expose] public section

set_option maxRecDepth 16384

noncomputable section

namespace Cert.FfnBwdIdeal.Body

open Cert.FfnBwdIdeal Cert.FfnBwdIdeal.Gen Idealize.ShloMosaic Step

/-- The inverse root mean square of each row. -/
theorem inv_block (X : Fin 256 → Fin 1024 → ℝ) : k0_pay6 (F := Ideal) (c2 X) = c2 fun t _ => inv (X t) := by
  funext i
  pointwise [k0_pay6]
  simp only [c2_apply, lit_1024, lit_eps, mul_coe, sum_coe, add_coe, div_coe _ _ (show (1024 : ℝ) ≠ 0 by norm_num)]
  exact rsqrt_msq _

theorem xh_block (X : Fin 256 → Fin 1024 → ℝ) : k0_pay7 (F := Ideal) (c2 X) = c2 fun t k => X t k * inv (X t) := by
  funext i
  pointwise [k0_pay7, inv_block]
  simp only [c2_apply, mul_coe]
  rfl

theorem half_block (D : Fin 256 → Fin 1024 → ℝ) : k0_pay8 (F := Ideal) (c2 D) = c2 fun t k => 1 / 2 * D t k := by
  funext i
  pointwise [k0_pay8]
  simp only [c2_apply, lit_half, mul_coe]

theorem dact_block (A : Fin 256 → Fin 1024 → ℝ) (B : Fin 1408 → Fin 1024 → ℝ) :
    k0_pay12 (F := Ideal) (c2 A) (c2 B) = c2 fun t j => ∑ k, A t k * B j k := by
  funext i
  pointwise [k0_pay12]
  simp only [c2_apply, mul_coe, sum_coe]
  rfl

theorem sig_block (g : Fin 256 → Fin 1408 → ℝ) : k0_pay13 (F := Ideal) (c2 g) = c2 fun t j => logi (g t j) := by
  funext i
  pointwise [k0_pay13]
  simp only [c2_apply, lit_half, mul_coe, Ideal.tanh_coe, add_coe, logi_tanh]

theorem sl_block (g : Fin 256 → Fin 1408 → ℝ) : k0_pay14 (F := Ideal) (c2 g) = c2 fun t j => g t j * logi (g t j) := by
  funext i
  pointwise [k0_pay14, sig_block]
  simp only [c2_apply, mul_coe]

/-- The gate's gradient on a tile, from half the cotangent's rows `A`, the gates `g`, the factors `u` and the tile `B` of the outer weights. -/
def tgate (A : Fin 256 → Fin 1024 → ℝ) (g u : Fin 256 → Fin 1408 → ℝ) (B : Fin 1408 → Fin 1024 → ℝ) (t : Fin 256) (j : Fin 1408) : ℝ :=
  (∑ k, A t k * B j k) * u t j * (logi (g t j) + g t j * logi (g t j) * (1 - logi (g t j)))

/-- The factor's gradient on a tile. -/
def tup (A : Fin 256 → Fin 1024 → ℝ) (g : Fin 256 → Fin 1408 → ℝ) (B : Fin 1408 → Fin 1024 → ℝ) (t : Fin 256) (j : Fin 1408) : ℝ :=
  (∑ k, A t k * B j k) * (g t j * logi (g t j))

theorem gate_load (g : Fin 256 → Fin 1408 → ℝ) : k0_pay10 (F := Ideal) (c2 g) = c2 g := by
  funext i
  pointwise [k0_pay10]

/-! ## The first half of the hidden units -/

theorem act_block₀ (g u : Fin 256 → Fin 1408 → ℝ) : k0_pay15 (F := Ideal) (c2 g) (c2 u) = c2 fun t j => g t j * logi (g t j) * u t j := by
  funext i
  pointwise [k0_pay15, sl_block, k0_pay11]
  simp only [c2_apply, mul_coe]

theorem dgate_block₀ (A : Fin 256 → Fin 1024 → ℝ) (g u : Fin 256 → Fin 1408 → ℝ) (B : Fin 1408 → Fin 1024 → ℝ) :
    k0_pay16 (F := Ideal) (c2 A) (c2 g) (c2 u) (c2 B) = c2 (tgate A g u B) := by
  funext i
  pointwise [k0_pay16, sig_block, sl_block, dact_block, k0_pay11]
  simp only [c2_apply, mul_coe, one_coe, sub_coe, add_coe, tgate]

theorem dup_block₀ (A : Fin 256 → Fin 1024 → ℝ) (g : Fin 256 → Fin 1408 → ℝ) (B : Fin 1408 → Fin 1024 → ℝ) :
    k0_pay17 (F := Ideal) (c2 A) (c2 g) (c2 B) = c2 (tup A g B) := by
  funext i
  pointwise [k0_pay17, sl_block, dact_block]
  simp only [c2_apply, mul_coe, tup]

/-! ## The second half -/

theorem sig_block₁ (g : Fin 256 → Fin 1408 → ℝ) : k0_pay22 (F := Ideal) (c2 g) = c2 fun t j => logi (g t j) := by
  funext i
  pointwise [k0_pay22, k0_pay19]
  simp only [c2_apply, lit_half, mul_coe, Ideal.tanh_coe, add_coe, logi_tanh]

theorem sl_block₁ (g : Fin 256 → Fin 1408 → ℝ) : k0_pay23 (F := Ideal) (c2 g) = c2 fun t j => g t j * logi (g t j) := by
  funext i
  pointwise [k0_pay23, k0_pay19, sig_block₁]
  simp only [c2_apply, mul_coe]

theorem dact_block₁ (A : Fin 256 → Fin 1024 → ℝ) (B : Fin 1408 → Fin 1024 → ℝ) :
    k0_pay21 (F := Ideal) (c2 A) (c2 B) = c2 fun t j => ∑ k, A t k * B j k := by
  funext i
  pointwise [k0_pay21]
  simp only [c2_apply, mul_coe, sum_coe]
  rfl

theorem act_block₁ (g u : Fin 256 → Fin 1408 → ℝ) : k0_pay24 (F := Ideal) (c2 g) (c2 u) = c2 fun t j => g t j * logi (g t j) * u t j := by
  funext i
  pointwise [k0_pay24, sl_block₁, k0_pay20]
  simp only [c2_apply, mul_coe]

theorem dgate_block₁ (A : Fin 256 → Fin 1024 → ℝ) (g u : Fin 256 → Fin 1408 → ℝ) (B : Fin 1408 → Fin 1024 → ℝ) :
    k0_pay25 (F := Ideal) (c2 A) (c2 g) (c2 u) (c2 B) = c2 (tgate A g u B) := by
  funext i
  pointwise [k0_pay25, sig_block₁, sl_block₁, dact_block₁, k0_pay20]
  simp only [c2_apply, mul_coe, one_coe, sub_coe, add_coe, tgate]

theorem dup_block₁ (A : Fin 256 → Fin 1024 → ℝ) (g : Fin 256 → Fin 1408 → ℝ) (B : Fin 1408 → Fin 1024 → ℝ) :
    k0_pay26 (F := Ideal) (c2 A) (c2 g) (c2 B) = c2 (tup A g B) := by
  funext i
  pointwise [k0_pay26, sl_block₁, dact_block₁]
  simp only [c2_apply, mul_coe, tup]

/-! ## The gradient of the normalised rows, in four products -/

/-- The product of a tile of gradients with a quarter of the inner weights, transposed. -/
def prod (P : Fin 256 → Fin 1408 → ℝ) (W : Fin 1024 → Fin 1408 → ℝ) (t : Fin 256) (k : Fin 1024) : ℝ := ∑ c, P t c * W k c

theorem dxn_block₀ (A Z : Fin 256 → Fin 1024 → ℝ) (g u : Fin 256 → Fin 1408 → ℝ) (B : Fin 1408 → Fin 1024 → ℝ) (V W : Fin 1024 → Fin 1408 → ℝ) :
    k0_pay18 (F := Ideal) (c2 A) (c2 Z) (c2 g) (c2 u) (c2 B) (c3 fun _ : Fin 1 => V) (c3 fun _ : Fin 1 => W)
      = c2 fun t k => Z t k + prod (tgate A g u B) V t k + prod (tup A g B) W t k := by
  funext i
  pointwise [k0_pay18, dgate_block₀, dup_block₀]
  simp only [c2_apply, c3_apply, mul_coe, sum_coe, add_coe]
  rfl

theorem dxn_block₁ (A Z : Fin 256 → Fin 1024 → ℝ) (g u : Fin 256 → Fin 1408 → ℝ) (B : Fin 1408 → Fin 1024 → ℝ) (V : Fin 1024 → Fin 1408 → ℝ) :
    k0_pay27 (F := Ideal) (c2 A) (c2 Z) (c2 g) (c2 u) (c2 B) (c3 fun _ : Fin 1 => V)
      = c2 fun t k => Z t k + prod (tgate A g u B) V t k := by
  funext i
  pointwise [k0_pay27, dgate_block₁]
  simp only [c2_apply, c3_apply, mul_coe, sum_coe, add_coe]
  rfl

theorem dxn_block (P : Fin 256 → Fin 1408 → ℝ) (Z : Fin 256 → Fin 1024 → ℝ) (W : Fin 1024 → Fin 1408 → ℝ) :
    k0_pay1 (F := Ideal) (c2 P) (c2 Z) (c3 fun _ : Fin 1 => W) = c2 fun t k => Z t k + prod P W t k := by
  funext i
  pointwise [k0_pay1]
  simp only [c2_apply, c3_apply, mul_coe, sum_coe, add_coe]
  rfl

theorem zero_block : k0_pay9 (F := Ideal) = c2 fun _ _ => 0 := by
  funext i
  pointwise [k0_pay9]
  simp only [c2_apply, zero_coe]

/-! ## What the block stores -/

/-- The input's gradient of a block. -/
theorem dx_block (X D Z : Fin 256 → Fin 1024 → ℝ) (G : Fin 1024 → ℝ) (P : Fin 256 → Fin 1408 → ℝ) (W : Fin 1024 → Fin 1408 → ℝ) :
    k0_pay3 (F := Ideal) (c2 D) (k0_pay5 (c2 fun _ : Fin 1 => G)) (c2 fun t (_ : Fin 1) => inv (X t)) (c2 fun t k => X t k * inv (X t)) (c2 P) (c2 Z)
        (c3 fun _ : Fin 1 => W)
      = c2 fun t k => D t k + rmsBwd (X t) G (fun k => Z t k + prod P W t k) k := by
  funext i
  pointwise [k0_pay3, dxn_block, k0_pay5]
  simp only [c2_apply, lit_1024, mul_coe, sum_coe, add_coe, sub_coe, div_coe _ _ (show (1024 : ℝ) ≠ 0 by norm_num)]
  rfl

/-- The gain's gradient after a block, over what it was before. -/
theorem dg_block (X Z : Fin 256 → Fin 1024 → ℝ) (a : Fin 1024 → ℝ) (P : Fin 256 → Fin 1408 → ℝ) (W : Fin 1024 → Fin 1408 → ℝ) :
    k0_pay2 (F := Ideal) (c2 fun t k => X t k * inv (X t)) (c2 P) (c2 Z) (c3 fun _ : Fin 1 => W) (c2 fun _ : Fin 1 => a)
      = c2 fun _ k => a k + ∑ t, (Z t k + prod P W t k) * (X t k * inv (X t)) := by
  funext i
  pointwise [k0_pay2, dxn_block]
  simp only [c2_apply, mul_coe, sum_coe, add_coe]
  rfl

theorem dg_zero : k0_pay4 (F := Ideal) = c2 fun _ _ => 0 := by
  funext i
  pointwise [k0_pay4]
  simp only [c2_apply, zero_coe]

end Cert.FfnBwdIdeal.Body
-- ==== Proof.FfnSpec.lean ====
/-
  The backward call of the gated feed-forward layer over the real numbers, row by row: `x` is a row of the layer's input, `g` the
  gain of its norm, `W` the inner weights (gate columns first, then the columns it multiplies), `O` the outer weights, `d` the row
  of the cotangent.
-/
module

public import proofs.«01_k».proof.Proof.Coe

@[expose] public section

noncomputable section

namespace Step.Ffn

/-- The gate column of hidden unit `j`, and the column its gate multiplies. -/
def lo (j : Fin 2816) : Fin 5632 := ⟨j.val, by omega⟩
def hi (j : Fin 2816) : Fin 5632 := ⟨2816 + j.val, by omega⟩

/-- The inner product of the layer: the normalised row times the inner weights. -/
def pre (x g : Fin 1024 → ℝ) (W : Fin 1024 → Fin 5632 → ℝ) (j : Fin 5632) : ℝ := ∑ k, x k * inv x * g k * W k j

/-- The cotangent of the gated units: half the cotangent's row times the outer weights, transposed. -/
def dact (d : Fin 1024 → ℝ) (O : Fin 2816 → Fin 1024 → ℝ) (j : Fin 2816) : ℝ := ∑ k, 1 / 2 * d k * O j k

/-- The gated units, `a · σ(a) · u`. -/
def act (h : Fin 5632 → ℝ) (j : Fin 2816) : ℝ := h (lo j) * logi (h (lo j)) * h (hi j)

/-- The gate's gradient: the derivative of `a · σ(a)` is `σ(a) + a σ(a) (1 - σ(a))`. -/
def dgate (d : Fin 1024 → ℝ) (h : Fin 5632 → ℝ) (O : Fin 2816 → Fin 1024 → ℝ) (j : Fin 2816) : ℝ :=
  dact d O j * h (hi j) * (logi (h (lo j)) + h (lo j) * logi (h (lo j)) * (1 - logi (h (lo j))))

/-- The gradient of the factor beside the gate. -/
def dup (d : Fin 1024 → ℝ) (h : Fin 5632 → ℝ) (O : Fin 2816 → Fin 1024 → ℝ) (j : Fin 2816) : ℝ :=
  dact d O j * (h (lo j) * logi (h (lo j)))

/-- The gradient of the inner product's columns: the gates', then the factors'. -/
def dh (d : Fin 1024 → ℝ) (h : Fin 5632 → ℝ) (O : Fin 2816 → Fin 1024 → ℝ) (j : Fin 5632) : ℝ :=
  if hj : j.val < 2816 then dgate d h O ⟨j.val, hj⟩ else dup d h O ⟨j.val - 2816, by omega⟩

/-- The gradient of the normalised row. -/
def dxn (d : Fin 1024 → ℝ) (h : Fin 5632 → ℝ) (W : Fin 1024 → Fin 5632 → ℝ) (O : Fin 2816 → Fin 1024 → ℝ) (k : Fin 1024) : ℝ :=
  ∑ j, dh d h O j * W k j

/-- Column `c` of the `q`-th quarter of the inner weights' columns. -/
def quarter (q : ℕ) (hq : q < 4) (c : Fin 1408) : Fin 5632 := ⟨q * 1408 + c.val, by omega⟩

/-- A sum over the inner columns is the sum of the sums over their four quarters. -/
theorem sum_quarters (f : Fin 5632 → ℝ) :
    ∑ j, f j = (∑ c, f (quarter 0 (by decide) c)) + (∑ c, f (quarter 1 (by decide) c))
      + (∑ c, f (quarter 2 (by decide) c)) + (∑ c, f (quarter 3 (by decide) c)) := by
  exact (sum_blocks 4 1408 f).trans (Fin.sum_univ_four _)

end Step.Ffn
-- ==== Proof.FfnEntry.lean ====
/-
  What the feed-forward backward call finds when its region starts, over real arguments: the packed weights, the forward's inner
  product, and the blocks the pipeline stages at a grid point.
-/
module

public import proofs.«01_k».proof.Proof.Gen.FfnBwdIdeal.Value
public import proofs.«01_k».proof.Proof.FfnSpec
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.FfnBwdIdeal.Entry

open Cert.FfnBwdIdeal Cert.FfnBwdIdeal.Gen Idealize.ShloMosaic Idealize.ShloMosaic.TcCoe Idealize.SL.Sem Step

variable (m : (ℓ : Loc nD τ sig) → Buf (Elt Ideal) ℓ)

/-- The call's arguments on device `c` are arrays of real numbers. -/
structure Real (c : Dev nD) where
  X : Fin 8192 → Fin 1024 → ℝ
  G : Fin 1024 → ℝ
  W : Fin 1024 → Fin 5632 → ℝ
  O : Fin 2816 → Fin 1024 → ℝ
  D : Fin 8192 → Fin 1024 → ℝ
  hX : m ((c : Thread nD τ).loc main_arg0) = c2 X
  hG : m ((c : Thread nD τ).loc main_arg1) = c1 G
  hW : m ((c : Thread nD τ).loc main_arg2) = c2 W
  hO : m ((c : Thread nD τ).loc main_arg3) = c2 O
  hD : m ((c : Thread nD τ).loc main_arg4) = c2 D

variable {m} {c : Dev nD} (a : Real m c)

/-- The inner weights, packed by quarters of their columns. -/
theorem win_entry : (V m c main_v2 : S4x1024x1408.Idx → EReal) = c3 fun q k j => a.W k (Ffn.quarter q.val q.isLt j) := by
  entry_read
  rw [a.hW]
  funext i
  pointwise
  simp only [c2_apply, c3_apply]
  rfl

/-- The outer weights, packed by quarters of their rows. -/
theorem wout_entry : (V m c main_v4 : S4x704x1024.Idx → EReal) = c3 fun q j k => a.O ⟨q.val * 704 + j.val, by omega⟩ k := by
  entry_read
  rw [a.hO]
  funext i
  pointwise
  simp only [c2_apply, c3_apply]
  rfl

/-- The forward's inner product. -/
theorem h_entry : (V m c main_v21 : S8192x5632.Idx → EReal) = c2 fun t j => Ffn.pre (a.X t) a.G a.W j := by
  entry_read
  rw [a.hX, a.hG, a.hW]
  funext i
  pointwise
  simp only [c1_apply, c2_apply, lit_1024, lit_eps, mul_coe, sum_coe, add_coe, div_coe _ _ (show (1024 : ℝ) ≠ 0 by norm_num)]
  simp only [ix2_0, ix2_1, rsqrt_ms, mul_coe, sum_coe]
  rfl

/-- Row `r` of the block staged at grid point `t`. -/
def row (t : Fin cfg0.N) (r : Fin 256) : Fin 8192 := ⟨t.val * 256 + r.val, by have := t.isLt; have : cfg0.N = 32 := N_0; omega⟩

theorem x_block (t : Fin cfg0.N) : iblk m c 0 t = c2 fun r k => a.X (row t r) k := by
  have idx : ∀ t : Fin cfg0.N, win0_0.index t = ![t.val, 0] := (by decide +kernel : ∀ t : Fin grid0.N, _)
  funext i
  have e : iblk m c 0 t i = (c2 a.X : S8192x1024.Idx → EReal) (ix2 (row t (i 0)) (i 1)) := by
    rw [← a.hX]
    blk_ext [iblk, V, row, idx t]
  exact e

theorem d_block (t : Fin cfg0.N) : iblk m c 1 t = c2 fun r k => a.D (row t r) k := by
  have idx : ∀ t : Fin cfg0.N, win0_1.index t = ![t.val, 0] := (by decide +kernel : ∀ t : Fin grid0.N, _)
  funext i
  have e : iblk m c 1 t i = (c2 a.D : S8192x1024.Idx → EReal) (ix2 (row t (i 0)) (i 1)) := by
    rw [← a.hD]
    blk_ext [iblk, V, row, idx t]
  exact e

theorem h_block (t : Fin cfg0.N) : iblk m c 2 t = c2 fun r j => Ffn.pre (a.X (row t r)) a.G a.W j := by
  have idx : ∀ t : Fin cfg0.N, win0_2.index t = ![t.val, 0] := (by decide +kernel : ∀ t : Fin grid0.N, _)
  funext i
  have e : iblk m c 2 t i = (V m c main_v21 : S8192x5632.Idx → EReal) (ix2 (row t (i 0)) (i 1)) := by
    blk_ext [iblk, row, idx t]
  rw [e, h_entry a]
  rfl

theorem g_block (t : Fin cfg0.N) : iblk m c 3 t = c2 fun (_ : Fin 1) k => a.G k := by
  have idx : ∀ t : Fin cfg0.N, win0_3.index t = ![0, 0] := (by decide +kernel : ∀ t : Fin grid0.N, _)
  funext i
  have e : iblk m c 3 t i = (V m c main_v5 : S1x1024.Idx → EReal) (ix2 (i 0) (i 1)) := by
    blk_ext [iblk, idx t]
  rw [e]
  entry_read
  rw [a.hG]
  pointwise
  rfl

end Cert.FfnBwdIdeal.Entry
-- ==== Proof.FfnHeld.lean ====
/-
  The weights the feed-forward backward call copies into its scratch at the first grid point and keeps: what the scratch holds at
  every point.
-/
module

public import proofs.«01_k».proof.Proof.FfnEntry
public import Idealize.ShloMosaic.Lib.Pipeline.ValueKit.Held

@[expose] public section

set_option maxRecDepth 16384

noncomputable section

namespace Cert.FfnBwdIdeal.Entry

open Cert.FfnBwdIdeal Cert.FfnBwdIdeal.Gen Idealize.ShloMosaic Idealize.ShloMosaic.TcCoe Idealize.SL.Sem Step

variable {m : (ℓ : Loc nD τ sig) → Buf (Elt Ideal) ℓ} {c : Dev nD} (a : Real m c)

/-- The inner weights' scratch. -/
def win : S4x1024x1408.Idx → EReal := c3 fun q k j => a.W k (Ffn.quarter q.val q.isLt j)
/-- The outer weights' scratch. -/
def wout : S2816x1024.Idx → EReal := c2 a.O

/-- The slices copied into the inner weights' scratch fill it. -/
theorem win_pieces (h3 h2 h1 h0) (i : S4x1024x1408.Idx) :
    View.canon (Val := Elt Ideal) (s := S4x1024x1408) (e := .bf16)
      [⟨Rect.unit ![3, 0, 0] ![1, 1024, 1408] h3, ReadAs.same.apply (View.read (Elt Ideal) ((View.whole main_v2).slice (Rect.unit ![3, 0, 0] ![1, 1024, 1408] h3)) (V m c main_v2))⟩,
       ⟨Rect.unit ![2, 0, 0] ![1, 1024, 1408] h2, ReadAs.same.apply (View.read (Elt Ideal) ((View.whole main_v2).slice (Rect.unit ![2, 0, 0] ![1, 1024, 1408] h2)) (V m c main_v2))⟩,
       ⟨Rect.unit ![1, 0, 0] ![1, 1024, 1408] h1, ReadAs.same.apply (View.read (Elt Ideal) ((View.whole main_v2).slice (Rect.unit ![1, 0, 0] ![1, 1024, 1408] h1)) (V m c main_v2))⟩,
       ⟨Rect.unit ![0, 0, 0] ![1, 1024, 1408] h0, ReadAs.same.apply (View.read (Elt Ideal) ((View.whole main_v2).slice (Rect.unit ![0, 0, 0] ![1, 1024, 1408] h0)) (V m c main_v2))⟩] i
      = win a i := by
  rw [← List.append_nil (_ :: _)]
  refine (View.canon_append_of_piecesOf (win a) [] _ ?_ _ (View.cover_of_tiledL _ ![1, 1024, 1408] (by sl_kernel_rfl) _)).trans rfl
  rw [win, ← win_entry a]
  exact ⟨fun x => rfl, fun x => rfl, fun x => rfl, fun x => rfl, trivial⟩

/-- Read back, the inner weights' scratch so filled is the inner weights. -/
theorem win_fill (v : View sig .tc .vmem S4x1024x1408 .bf16) (h3 h2 h1 h0) (B : Rect S4x1024x1408) :
    v.readCov (Val := Elt Ideal)
      [⟨Rect.unit ![3, 0, 0] ![1, 1024, 1408] h3, ReadAs.same.apply (View.read (Elt Ideal) ((View.whole main_v2).slice (Rect.unit ![3, 0, 0] ![1, 1024, 1408] h3)) (V m c main_v2))⟩,
       ⟨Rect.unit ![2, 0, 0] ![1, 1024, 1408] h2, ReadAs.same.apply (View.read (Elt Ideal) ((View.whole main_v2).slice (Rect.unit ![2, 0, 0] ![1, 1024, 1408] h2)) (V m c main_v2))⟩,
       ⟨Rect.unit ![1, 0, 0] ![1, 1024, 1408] h1, ReadAs.same.apply (View.read (Elt Ideal) ((View.whole main_v2).slice (Rect.unit ![1, 0, 0] ![1, 1024, 1408] h1)) (V m c main_v2))⟩,
       ⟨Rect.unit ![0, 0, 0] ![1, 1024, 1408] h0, ReadAs.same.apply (View.read (Elt Ideal) ((View.whole main_v2).slice (Rect.unit ![0, 0, 0] ![1, 1024, 1408] h0)) (V m c main_v2))⟩] B.toLoadRect
      = View.ld (win a) B := by
  rw [View.readCov_eq_canon']
  funext j
  exact win_pieces a h3 h2 h1 h0 _

/-- A slab of 704 rows, its leading axis of size one dropped. -/
theorem slab (Y : FVec Ideal S1x704x1024 .bf16) (f : S1x704x1024.ShapeCasts S704x1024) (x : S704x1024.Idx) :
    shapeCast S704x1024 Y f x = Y (ix3 0 (x 0) (x 1)) := by
  pointwise

/-- The slab copied into a quarter of the outer weights' rows is that quarter. -/
theorem wout_slice (q r : ℕ) (hq : q < 4) (hr : r = q * 704) (e : ∀ b, ![q, 0, 0] b + ![1, 704, 1024] b ≤ S4x704x1024.size b) (f : S1x704x1024.ShapeCasts S704x1024)
    (h : ∀ b, ![r, 0] b + ![704, 1024] b ≤ S2816x1024.size b) (x : (Rect.unit (s := S2816x1024) ![r, 0] ![704, 1024] h).shape.Idx) :
    ReadAs.same.apply (View.read (Elt Ideal) (((View.whole main_v4).slice (Rect.unit ![q, 0, 0] ![1, 704, 1024] e)).reshape S704x1024 f) (V m c main_v4)) x
      = wout a ((Rect.unit ![r, 0] ![704, 1024] h).emb x) := by
  refine (slab (View.ld (V m c main_v4 : S4x704x1024.Idx → EReal) (Rect.unit ![q, 0, 0] ![1, 704, 1024] e)) f x).trans ?_
  rw [wout_entry a]
  unfold wout
  show ((a.O _ _ : ℝ) : EReal) = ((a.O _ _ : ℝ) : EReal)
  congr 2
  · apply Fin.ext
    show (q + 1 * 0) * 704 + (0 + 1 * (x 0).val) = r + 1 * (x 0).val
    omega
/-- The slabs copied into the outer weights' scratch fill it. -/
theorem wout_pieces (h3 h2 h1 h0 e3 e2 e1 e0 f3 f2 f1 f0) (i : S2816x1024.Idx) :
    View.canon (Val := Elt Ideal) (s := S2816x1024) (e := .bf16)
      [⟨Rect.unit ![2112, 0] ![704, 1024] h3, ReadAs.same.apply (View.read (Elt Ideal) (((View.whole main_v4).slice (Rect.unit ![3, 0, 0] ![1, 704, 1024] e3)).reshape S704x1024 f3) (V m c main_v4))⟩,
       ⟨Rect.unit ![1408, 0] ![704, 1024] h2, ReadAs.same.apply (View.read (Elt Ideal) (((View.whole main_v4).slice (Rect.unit ![2, 0, 0] ![1, 704, 1024] e2)).reshape S704x1024 f2) (V m c main_v4))⟩,
       ⟨Rect.unit ![704, 0] ![704, 1024] h1, ReadAs.same.apply (View.read (Elt Ideal) (((View.whole main_v4).slice (Rect.unit ![1, 0, 0] ![1, 704, 1024] e1)).reshape S704x1024 f1) (V m c main_v4))⟩,
       ⟨Rect.unit ![0, 0] ![704, 1024] h0, ReadAs.same.apply (View.read (Elt Ideal) (((View.whole main_v4).slice (Rect.unit ![0, 0, 0] ![1, 704, 1024] e0)).reshape S704x1024 f0) (V m c main_v4))⟩] i
      = wout a i := by
  rw [← List.append_nil (_ :: _)]
  refine (View.canon_append_of_piecesOf (wout a) [] _ ?_ _ (View.cover_of_tiledL _ ![704, 1024] (by sl_kernel_rfl) _)).trans rfl
  refine ⟨fun x => ?_, fun x => ?_, fun x => ?_, fun x => ?_, trivial⟩
  · exact wout_slice a 3 2112 (by decide) (by decide) e3 f3 h3 x
  · exact wout_slice a 2 1408 (by decide) (by decide) e2 f2 h2 x
  · exact wout_slice a 1 704 (by decide) (by decide) e1 f1 h1 x
  · exact wout_slice a 0 0 (by decide) (by decide) e0 f0 h0 x

/-- Read back, the outer weights' scratch so filled is the outer weights. -/
theorem wout_fill (v : View sig .tc .vmem S2816x1024 .bf16) (h3 h2 h1 h0 e3 e2 e1 e0 f3 f2 f1 f0) (B : Rect S2816x1024) :
    v.readCov (Val := Elt Ideal)
      [⟨Rect.unit ![2112, 0] ![704, 1024] h3, ReadAs.same.apply (View.read (Elt Ideal) (((View.whole main_v4).slice (Rect.unit ![3, 0, 0] ![1, 704, 1024] e3)).reshape S704x1024 f3) (V m c main_v4))⟩,
       ⟨Rect.unit ![1408, 0] ![704, 1024] h2, ReadAs.same.apply (View.read (Elt Ideal) (((View.whole main_v4).slice (Rect.unit ![2, 0, 0] ![1, 704, 1024] e2)).reshape S704x1024 f2) (V m c main_v4))⟩,
       ⟨Rect.unit ![704, 0] ![704, 1024] h1, ReadAs.same.apply (View.read (Elt Ideal) (((View.whole main_v4).slice (Rect.unit ![1, 0, 0] ![1, 704, 1024] e1)).reshape S704x1024 f1) (V m c main_v4))⟩,
       ⟨Rect.unit ![0, 0] ![704, 1024] h0, ReadAs.same.apply (View.read (Elt Ideal) (((View.whole main_v4).slice (Rect.unit ![0, 0, 0] ![1, 704, 1024] e0)).reshape S704x1024 f0) (V m c main_v4))⟩] B.toLoadRect
      = View.ld (wout a) B := by
  rw [View.readCov_eq_canon']
  funext j
  exact wout_pieces a h3 h2 h1 h0 e3 e2 e1 e0 f3 f2 f1 f0 _

/-- At every grid point the scratch holds the inner weights … -/
theorem win_held (t : Fin cfg0.N) : (outsAt0 m c t.val t.isLt).2.2.2.2.1 = win a := by
  funext i
  refine Pipeline.eq_of_write_hold_apply (fun n h => (outsAt0 m c n h).2.2.2.2.1) 32 (fun _ => win a) (fun t h i => ?_) (fun t h i => ?_) t i
  · rw [outsAt0_A m c t h h]
    frame_out
    exact win_pieces a _ _ _ _ i
  · rw [outsAt0_B m c t h h]
    rfl

/-- … and the outer weights. -/
theorem wout_held (t : Fin cfg0.N) : (outsAt0 m c t.val t.isLt).2.2.2.2.2 = wout a := by
  funext i
  refine Pipeline.eq_of_write_hold_apply (fun n h => (outsAt0 m c n h).2.2.2.2.2) 32 (fun _ => wout a) (fun t h i => ?_) (fun t h i => ?_) t i
  · rw [outsAt0_A m c t h h]
    frame_out
    exact wout_pieces a _ _ _ _ _ _ _ _ _ _ _ _ i
  · rw [outsAt0_B m c t h h]
    rfl

end Cert.FfnBwdIdeal.Entry
-- ==== Proof.FfnOuts.lean ====
/-
  What the feed-forward backward call's body leaves at a grid point: the block of each result, in real numbers.
-/
module

public import proofs.«01_k».proof.Proof.FfnBody
public import proofs.«01_k».proof.Proof.FfnHeld
public import Idealize.ShloMosaic.Lib.Pipeline.ReadBack

@[expose] public section

set_option maxRecDepth 16384

noncomputable section

namespace Cert.FfnBwdIdeal.Entry

open Cert.FfnBwdIdeal Cert.FfnBwdIdeal.Gen Idealize.ShloMosaic Idealize.ShloMosaic.TcCoe Idealize.SL.Sem Step Body

variable {m : (ℓ : Loc nD τ sig) → Buf (Elt Ideal) ℓ} {c : Dev nD} (a : Real m c)

/-! ## Reading a tile -/

/-- Hidden unit `j` of the `p`-th half. -/
def half (p : ℕ) (hp : p < 2) (j : Fin 1408) : Fin 2816 := ⟨p * 1408 + j.val, by omega⟩

theorem ld_h (H : Fin 256 → Fin 5632 → ℝ) (q o : ℕ) (hq : q < 4) (ho : o = q * 1408) (h) :
    View.ld (Val := Elt Ideal) (e' := .bf16) (c2 H : S256x5632.Idx → EReal) (Rect.unit (s := S256x5632) ![0, o] ![256, 1408] h)
      = c2 fun t j => H t (Ffn.quarter q hq j) := by
  funext i
  show ((H _ _ : ℝ) : EReal) = ((H _ _ : ℝ) : EReal)
  congr 2
  · apply Fin.ext
    show 0 + 1 * (i 0).val = (i 0).val
    omega
  · apply Fin.ext
    show o + 1 * (i 1).val = q * 1408 + (i 1).val
    omega

theorem ld_o (p o : ℕ) (hp : p < 2) (ho : o = p * 1408) (h) :
    View.ld (Val := Elt Ideal) (e' := .bf16) (wout a) (Rect.unit (s := S2816x1024) ![o, 0] ![1408, 1024] h) = c2 fun j k => a.O (half p hp j) k := by
  funext i
  show ((a.O _ _ : ℝ) : EReal) = ((a.O _ _ : ℝ) : EReal)
  congr 2
  · apply Fin.ext
    show o + 1 * (i 0).val = p * 1408 + (i 0).val
    omega
  · apply Fin.ext
    show 0 + 1 * (i 1).val = (i 1).val
    omega

theorem ld_w (q : ℕ) (hq : q < 4) (h) :
    View.ld (Val := Elt Ideal) (e' := .bf16) (win a) (Rect.unit (s := S4x1024x1408) ![q, 0, 0] ![1, 1024, 1408] h)
      = c3 fun (_ : Fin 1) k j => a.W k (Ffn.quarter q hq j) := by
  funext i
  show ((a.W _ _ : ℝ) : EReal) = ((a.W _ _ : ℝ) : EReal)
  have h0 : (i 0).val < 1 := (i 0).isLt
  congr 2
  · apply Fin.ext
    show 0 + 1 * (i 1).val = (i 1).val
    omega
  · apply Fin.ext
    show (q + 1 * (i 0).val) * 1408 + (0 + 1 * (i 2).val) = q * 1408 + (i 2).val
    have : (i 0).val = 0 := by omega
    rw [this]; omega

/-! ## The tiles' gradients are the whole row's -/

theorem tgate_eq (D : Fin 256 → Fin 1024 → ℝ) (H : Fin 256 → Fin 5632 → ℝ) (p q r : ℕ) (hp : p < 2) (hq : q < 4) (hr : r < 4) (eq : q = p) (er : r = p + 2) :
    tgate (fun t k => 1 / 2 * D t k) (fun t j => H t (Ffn.quarter q hq j)) (fun t j => H t (Ffn.quarter r hr j)) (fun j k => a.O (half p hp j) k)
      = fun t j => Ffn.dh (D t) (H t) a.O (Ffn.quarter q hq j) := by
  subst eq er
  funext t j
  have hj : (Ffn.quarter q hq j).val < 2816 := by show q * 1408 + j.val < 2816; omega
  have e1 : Ffn.hi ⟨(Ffn.quarter q hq j).val, hj⟩ = Ffn.quarter (q + 2) hr j := by
    apply Fin.ext
    show 2816 + (q * 1408 + j.val) = (q + 2) * 1408 + j.val
    omega
  rw [Ffn.dh, dif_pos hj, Ffn.dgate, e1]
  rfl

theorem tup_eq (D : Fin 256 → Fin 1024 → ℝ) (H : Fin 256 → Fin 5632 → ℝ) (p q r : ℕ) (hp : p < 2) (hq : q < 4) (hr : r < 4) (eq : q = p) (er : r = p + 2) :
    tup (fun t k => 1 / 2 * D t k) (fun t j => H t (Ffn.quarter q hq j)) (fun j k => a.O (half p hp j) k)
      = fun t j => Ffn.dh (D t) (H t) a.O (Ffn.quarter r hr j) := by
  subst eq er
  funext t j
  have hj : ¬ (Ffn.quarter (q + 2) hr j).val < 2816 := by show ¬ (q + 2) * 1408 + j.val < 2816; omega
  have e1 : (⟨(Ffn.quarter (q + 2) hr j).val - 2816, by omega⟩ : Fin 2816) = half q hp j := by
    apply Fin.ext
    show (q + 2) * 1408 + j.val - 2816 = q * 1408 + j.val
    omega
  rw [Ffn.dh, dif_neg hj, e1, Ffn.dup]
  rfl

/-- The four products, added from the second pair of quarters on, are the whole sum. -/
theorem four (P : Fin 256 → Fin 5632 → ℝ) (t : Fin 256) (k : Fin 1024) :
    0 + prod (fun t j => P t (Ffn.quarter 0 (by decide) j)) (fun k j => a.W k (Ffn.quarter 0 (by decide) j)) t k
      + prod (fun t j => P t (Ffn.quarter 2 (by decide) j)) (fun k j => a.W k (Ffn.quarter 2 (by decide) j)) t k
      + prod (fun t j => P t (Ffn.quarter 1 (by decide) j)) (fun k j => a.W k (Ffn.quarter 1 (by decide) j)) t k
      + prod (fun t j => P t (Ffn.quarter 3 (by decide) j)) (fun k j => a.W k (Ffn.quarter 3 (by decide) j)) t k
      = ∑ j, P t j * a.W k j := by
  rw [Ffn.sum_quarters]
  unfold prod
  ring

/-- The inner product's row of the block's row `r`. -/
abbrev hrow (t : Fin cfg0.N) (r : Fin 256) : Fin 5632 → ℝ := Ffn.pre (a.X (row t r)) a.G a.W

/-- Half a tile of activations is the row's. -/
theorem act_eq (H : Fin 256 → Fin 5632 → ℝ) (p q r : ℕ) (hp : p < 2) (hq : q < 4) (hr : r < 4) (eq : q = p) (er : r = p + 2) :
    (fun t j => H t (Ffn.quarter q hq j) * logi (H t (Ffn.quarter q hq j)) * H t (Ffn.quarter r hr j)) = fun t j => Ffn.act (H t) (half p hp j) := by
  subst eq er
  funext t j
  have e1 : Ffn.hi (half q hp j) = Ffn.quarter (q + 2) hr j := by
    apply Fin.ext
    show 2816 + (q * 1408 + j.val) = (q + 2) * 1408 + j.val
    omega
  rw [Ffn.act, e1]
  rfl

theorem ld_act (P : Fin 256 → Fin 2816 → ℝ) (p o : ℕ) (hp : p < 2) (ho : o = p * 1408) (h) :
    View.ld (Val := Elt Ideal) (e' := .bf16) (c2 P : S256x2816.Idx → EReal) (Rect.unit (s := S256x2816) ![0, o] ![256, 1408] h)
      = c2 fun t j => P t (half p hp j) := by
  funext i
  show ((P _ _ : ℝ) : EReal) = ((P _ _ : ℝ) : EReal)
  congr 2
  · apply Fin.ext
    show 0 + 1 * (i 0).val = (i 0).val
    omega
  · apply Fin.ext
    show o + 1 * (i 1).val = p * 1408 + (i 1).val
    omega

/-! ## The body's four results -/

theorem win_before (t : Fin cfg0.N) (h) : (outsAt0 m c (t.val - 1) h).2.2.2.2.1 = win a := win_held a ⟨t.val - 1, h⟩
theorem wout_before (t : Fin cfg0.N) (h) : (outsAt0 m c (t.val - 1) h).2.2.2.2.2 = wout a := wout_held a ⟨t.val - 1, h⟩

theorem dx_out (t : Fin cfg0.N) : (outsAt0 m c t.val t.isLt).1
    = c2 fun r k => a.D (row t r) k + rmsBwd (a.X (row t r)) a.G (Ffn.dxn (a.D (row t r)) (hrow a t r) a.W a.O) k := by
  by_cases h : t.val % 32 = 0
  on_goal 1 => rw [outsAt0_A m c t h h]; frame_out; simp only [win_fill a, wout_fill a]
  on_goal 2 => rw [outsAt0_B m c t h h]; frame_out; simp only [read_unread_whole, win_before a, wout_before a]
  all_goals
    simp only [x_block a, d_block a, h_block a, g_block a, ld_w a 0 (by decide), ld_w a 1 (by decide), ld_w a 2 (by decide), ld_w a 3 (by decide), ld_o a 0 0 (by decide) rfl, ld_o a 1 1408 (by decide) rfl,
      ld_h _ 0 0 (by decide) rfl, ld_h _ 1 1408 (by decide) rfl, ld_h _ 2 2816 (by decide) rfl, ld_h _ 3 4224 (by decide) rfl]
    simp only [half_block, inv_block, xh_block, gate_load, zero_block, dxn_block₀, dup_block₁, dxn_block₁, dx_block]
    simp only [tgate_eq a (fun r => a.D (row t r)) (hrow a t) 0 0 2 (by decide) (by decide) (by decide) rfl rfl, tgate_eq a (fun r => a.D (row t r)) (hrow a t) 1 1 3 (by decide) (by decide) (by decide) rfl rfl,
      tup_eq a (fun r => a.D (row t r)) (hrow a t) 0 0 2 (by decide) (by decide) (by decide) rfl rfl, tup_eq a (fun r => a.D (row t r)) (hrow a t) 1 1 3 (by decide) (by decide) (by decide) rfl rfl, four a (fun r => Ffn.dh (a.D (row t r)) (hrow a t r) a.O)]
    rfl

/-- The inner product's gradient. -/
theorem dh_out (t : Fin cfg0.N) : (outsAt0 m c t.val t.isLt).2.1 = c2 fun r j => Ffn.dh (a.D (row t r)) (hrow a t r) a.O j := by
  by_cases h : t.val % 32 = 0
  on_goal 1 => rw [outsAt0_A m c t h h]; frame_out; simp only [win_fill a, wout_fill a]
  on_goal 2 => rw [outsAt0_B m c t h h]; frame_out; simp only [read_unread_whole, win_before a, wout_before a]
  all_goals
    simp only [x_block a, d_block a, h_block a, g_block a, ld_w a 0 (by decide), ld_w a 1 (by decide), ld_w a 2 (by decide), ld_w a 3 (by decide), ld_o a 0 0 (by decide) rfl, ld_o a 1 1408 (by decide) rfl,
      ld_h _ 0 0 (by decide) rfl, ld_h _ 1 1408 (by decide) rfl, ld_h _ 2 2816 (by decide) rfl, ld_h _ 3 4224 (by decide) rfl]
    simp only [half_block, gate_load, dup_block₁, dgate_block₁, dup_block₀, dgate_block₀]
    simp only [tgate_eq a (fun r => a.D (row t r)) (hrow a t) 0 0 2 (by decide) (by decide) (by decide) rfl rfl, tgate_eq a (fun r => a.D (row t r)) (hrow a t) 1 1 3 (by decide) (by decide) (by decide) rfl rfl,
      tup_eq a (fun r => a.D (row t r)) (hrow a t) 0 0 2 (by decide) (by decide) (by decide) rfl rfl, tup_eq a (fun r => a.D (row t r)) (hrow a t) 1 1 3 (by decide) (by decide) (by decide) rfl rfl]
    funext i
    rw [← List.append_nil (_ :: _)]
    refine (View.canon_append_of_piecesOf (c2 fun r j => Ffn.dh (a.D (row t r)) (hrow a t r) a.O j : S256x5632.Idx → EReal) [] _ ?_ _
      (View.cover_of_tiledL _ ![256, 1408] (by sl_kernel_rfl) _)).trans rfl
    exact ⟨fun x => (congrFun (ld_h (fun r => Ffn.dh (a.D (row t r)) (hrow a t r) a.O) 3 4224 (by decide) rfl inb_S256x5632_S256x1408_0_4224) x).symm, fun x => (congrFun (ld_h (fun r => Ffn.dh (a.D (row t r)) (hrow a t r) a.O) 1 1408 (by decide) rfl inb_S256x5632_S256x1408_0_1408) x).symm,
      fun x => (congrFun (ld_h (fun r => Ffn.dh (a.D (row t r)) (hrow a t r) a.O) 2 2816 (by decide) rfl inb_S256x5632_S256x1408_0_2816) x).symm, fun x => (congrFun (ld_h (fun r => Ffn.dh (a.D (row t r)) (hrow a t r) a.O) 0 0 (by decide) rfl inb_S256x5632_S256x1408_0_0) x).symm, trivial⟩

/-- The gated units. -/
theorem act_out (t : Fin cfg0.N) : (outsAt0 m c t.val t.isLt).2.2.1 = c2 fun r j => Ffn.act (hrow a t r) j := by
  by_cases h : t.val % 32 = 0
  on_goal 1 => rw [outsAt0_A m c t h h]; frame_out
  on_goal 2 => rw [outsAt0_B m c t h h]; frame_out
  all_goals
    simp only [h_block a, ld_w a 0 (by decide), ld_w a 1 (by decide), ld_w a 2 (by decide), ld_w a 3 (by decide), ld_o a 0 0 (by decide) rfl, ld_o a 1 1408 (by decide) rfl,
      ld_h _ 0 0 (by decide) rfl, ld_h _ 1 1408 (by decide) rfl, ld_h _ 2 2816 (by decide) rfl, ld_h _ 3 4224 (by decide) rfl]
    simp only [gate_load, act_block₀, act_block₁, act_eq _ 0 0 2 (by decide) (by decide) (by decide) rfl rfl, act_eq _ 1 1 3 (by decide) (by decide) (by decide) rfl rfl]
    funext i
    rw [← List.append_nil (_ :: _)]
    refine (View.canon_append_of_piecesOf (c2 fun r j => Ffn.act (hrow a t r) j : S256x2816.Idx → EReal) [] _ ?_ _
      (View.cover_of_tiledL _ ![256, 1408] (by sl_kernel_rfl) _)).trans rfl
    exact ⟨fun x => (congrFun (ld_act (fun r => Ffn.act (hrow a t r)) 1 1408 (by decide) rfl inb_S256x2816_S256x1408_0_1408) x).symm, fun x => (congrFun (ld_act (fun r => Ffn.act (hrow a t r)) 0 0 (by decide) rfl inb_S256x2816_S256x1408_0_0) x).symm, trivial⟩

/-- A block's share of the gain's gradient. -/
def share (t : Fin cfg0.N) (k : Fin 1024) : ℝ :=
  ∑ r : Fin 256, Ffn.dxn (a.D (row t r)) (hrow a t r) a.W a.O k * (a.X (row t r) k * inv (a.X (row t r)))

theorem dg_first (t : Fin cfg0.N) (h : t.val % 32 = 0) : (outsAt0 m c t.val t.isLt).2.2.2.1 = c2 fun (_ : Fin 1) k => share a t k := by
  rw [outsAt0_A m c t h h]; frame_out; simp only [win_fill a, wout_fill a]
  simp only [x_block a, d_block a, h_block a, ld_w a 0 (by decide), ld_w a 1 (by decide), ld_w a 2 (by decide), ld_w a 3 (by decide), ld_o a 0 0 (by decide) rfl, ld_o a 1 1408 (by decide) rfl,
      ld_h _ 0 0 (by decide) rfl, ld_h _ 1 1408 (by decide) rfl, ld_h _ 2 2816 (by decide) rfl, ld_h _ 3 4224 (by decide) rfl]
  simp only [half_block, xh_block, gate_load, zero_block, dxn_block₀, dup_block₁, dxn_block₁, dg_zero, dg_block]
  simp only [tgate_eq a (fun r => a.D (row t r)) (hrow a t) 0 0 2 (by decide) (by decide) (by decide) rfl rfl, tgate_eq a (fun r => a.D (row t r)) (hrow a t) 1 1 3 (by decide) (by decide) (by decide) rfl rfl,
      tup_eq a (fun r => a.D (row t r)) (hrow a t) 0 0 2 (by decide) (by decide) (by decide) rfl rfl, tup_eq a (fun r => a.D (row t r)) (hrow a t) 1 1 3 (by decide) (by decide) (by decide) rfl rfl, four a (fun r => Ffn.dh (a.D (row t r)) (hrow a t r) a.O)]
  simp only [zero_add]
  rfl

theorem dg_next (t : Fin cfg0.N) (h : ¬ t.val % 32 = 0) (y : Fin 1024 → ℝ) (hy : (outsAt0 m c (t.val - 1) (Nat.lt_of_le_of_lt (Nat.sub_le _ _) t.isLt)).2.2.2.1 = c2 fun (_ : Fin 1) => y) :
    (outsAt0 m c t.val t.isLt).2.2.2.1 = c2 fun (_ : Fin 1) k => y k + share a t k := by
  rw [outsAt0_B m c t h h]; frame_out; simp only [read_unread_whole, win_before a, wout_before a]
  simp only [x_block a, d_block a, h_block a, ld_w a 0 (by decide), ld_w a 1 (by decide), ld_w a 2 (by decide), ld_w a 3 (by decide), ld_o a 0 0 (by decide) rfl, ld_o a 1 1408 (by decide) rfl,
      ld_h _ 0 0 (by decide) rfl, ld_h _ 1 1408 (by decide) rfl, ld_h _ 2 2816 (by decide) rfl, ld_h _ 3 4224 (by decide) rfl]
  simp only [half_block, xh_block, gate_load, zero_block, dxn_block₀, dup_block₁, dxn_block₁, hy, dg_block]
  simp only [tgate_eq a (fun r => a.D (row t r)) (hrow a t) 0 0 2 (by decide) (by decide) (by decide) rfl rfl, tgate_eq a (fun r => a.D (row t r)) (hrow a t) 1 1 3 (by decide) (by decide) (by decide) rfl rfl,
      tup_eq a (fun r => a.D (row t r)) (hrow a t) 0 0 2 (by decide) (by decide) (by decide) rfl rfl, tup_eq a (fun r => a.D (row t r)) (hrow a t) 1 1 3 (by decide) (by decide) (by decide) rfl rfl, four a (fun r => Ffn.dh (a.D (row t r)) (hrow a t r) a.O)]
  rfl

end Cert.FfnBwdIdeal.Entry
-- ==== Proof.FfnArr.lean ====
/-
  What the feed-forward backward call's result arrays hold when it has run.
-/
module

public import proofs.«01_k».proof.Proof.FfnOuts
public import proofs.«01_k».proof.Proof.Gen.FfnBwdIdeal.Value

@[expose] public section

set_option maxRecDepth 16384

noncomputable section

namespace Cert.FfnBwdIdeal.Entry

open Cert.FfnBwdIdeal Cert.FfnBwdIdeal.Gen Idealize.ShloMosaic Idealize.ShloMosaic.TcCoe Idealize.SL.Sem Step Body

variable {m : (ℓ : Loc nD τ sig) → Buf (Elt Ideal) ℓ} {c : Dev nD} (a : Real m c)

/-- The whole result arrays, in real numbers. -/
def DX (t : Fin 8192) (k : Fin 1024) : ℝ := a.D t k + rmsBwd (a.X t) a.G (Ffn.dxn (a.D t) (Ffn.pre (a.X t) a.G a.W) a.W a.O) k
def DH (t : Fin 8192) (j : Fin 5632) : ℝ := Ffn.dh (a.D t) (Ffn.pre (a.X t) a.G a.W) a.O j
def ACT (t : Fin 8192) (j : Fin 2816) : ℝ := Ffn.act (Ffn.pre (a.X t) a.G a.W) j
def DG (k : Fin 1024) : ℝ := ∑ t, Ffn.dxn (a.D t) (Ffn.pre (a.X t) a.G a.W) a.W a.O k * (a.X t k * inv (a.X t))

theorem dx_arr : (dats m 0 c).arrAt 4 cfg0.N = (c2 (DX a) : S8192x1024.Idx → EReal) := by
  have idx : ∀ t : Fin cfg0.N, win0_4.index t = ![t.val, 0] := (by decide +kernel : ∀ t : Fin grid0.N, _)
  refine (dats m 0 c).arrAt_eq_of_covers 4 (c2 (DX a) : S8192x1024.Idx → EReal) (by decide +kernel) fun t hf y => ?_
  blk_simp
  rw [after0_4, dx_out a t]
  have e : (win0_4.blk t).view.emb y = (ix2 (row t (y 0)) (y 1) : S8192x1024.Idx) := by blk_ext [row, idx t]
  rw [e]
  rfl

theorem dh_arr : (dats m 0 c).arrAt 5 cfg0.N = (c2 (DH a) : S8192x5632.Idx → EReal) := by
  have idx : ∀ t : Fin cfg0.N, win0_5.index t = ![t.val, 0] := (by decide +kernel : ∀ t : Fin grid0.N, _)
  refine (dats m 0 c).arrAt_eq_of_covers 5 (c2 (DH a) : S8192x5632.Idx → EReal) (by decide +kernel) fun t hf y => ?_
  blk_simp
  rw [after0_5, dh_out a t]
  have e : (win0_5.blk t).view.emb y = (ix2 (row t (y 0)) (y 1) : S8192x5632.Idx) := by blk_ext [row, idx t]
  rw [e]
  rfl

theorem act_arr : (dats m 0 c).arrAt 6 cfg0.N = (c2 (ACT a) : S8192x2816.Idx → EReal) := by
  have idx : ∀ t : Fin cfg0.N, win0_6.index t = ![t.val, 0] := (by decide +kernel : ∀ t : Fin grid0.N, _)
  refine (dats m 0 c).arrAt_eq_of_covers 6 (c2 (ACT a) : S8192x2816.Idx → EReal) (by decide +kernel) fun t hf y => ?_
  blk_simp
  rw [after0_6, act_out a t]
  have e : (win0_6.blk t).view.emb y = (ix2 (row t (y 0)) (y 1) : S8192x2816.Idx) := by blk_ext [row, idx t]
  rw [e]
  rfl

/-- After a grid point the gain's gradient holds the shares of the blocks so far. -/
theorem dg_upto (n : ℕ) (h : n < cfg0.N) :
    (outsAt0 m c n h).2.2.2.1 = c2 fun (_ : Fin 1) k => ∑ s : Fin (n + 1), share a ⟨s.val, by omega⟩ k := by
  have hN : cfg0.N = 32 := N_0
  induction n with
  | zero =>
    refine (dg_first a ⟨0, h⟩ rfl).trans ?_
    simp only [Nat.reduceAdd, Finset.univ_unique, Finset.sum_singleton]
    rfl
  | succ n ih =>
    refine (dg_next a ⟨n + 1, h⟩ (by show ¬ (n + 1) % 32 = 0; omega) _ (ih (by omega))).trans ?_
    simp only [Fin.sum_univ_castSucc (n := n + 1)]
    rfl

/-- The blocks' shares are the whole gradient. -/
theorem shares (k : Fin 1024) : ∑ s : Fin (31 + 1), share a ⟨s.val, by have : cfg0.N = 32 := N_0; omega⟩ k = DG a k := by
  unfold share DG
  exact (sum_blocks 32 256 fun t : Fin 8192 => Ffn.dxn (a.D t) (Ffn.pre (a.X t) a.G a.W) a.W a.O k * (a.X t k * inv (a.X t))).symm

/-- The last grid point. -/
def last : Fin cfg0.N := ⟨31, by have : cfg0.N = 32 := N_0; omega⟩

theorem dg_last : (dats m 0 c).after 7 last = (c2 fun (_ : Fin 1) => DG a : S1x1024.Idx → EReal) := by
  rw [after0_7]
  refine (dg_upto a 31 last.isLt).trans ?_
  simp only [shares a]

theorem dg_arr : (dats m 0 c).arrAt 7 cfg0.N = (c2 fun (_ : Fin 1) => DG a : S1x1024.Idx → EReal) := by
  refine (dats m 0 c).arrAt_eq_of_after_last 7 last (by decide +kernel) _ fun j => ?_
  blk_simp
  rw [dg_last a]

end Cert.FfnBwdIdeal.Entry
-- ==== Proof.FfnRef.lean ====
/-
  What the feed-forward layer's derivative, taken by reverse differentiation, computes on arrays of real numbers.
-/
module

public import proofs.«01_k».proof.Proof.Coe
public import proofs.«01_k».proof.Proof.FfnSpec
public import proofs.«01_k».proof.Proof.Gen.FfnBwdRefIdeal.Read
public import Idealize.ShloMosaic.Lib.Pointwise

@[expose] public section

set_option maxRecDepth 16384

noncomputable section

namespace Cert.FfnBwdRefIdeal.Stage

open Cert.FfnBwdRefIdeal Cert.FfnBwdRefIdeal.Gen Cert.FfnBwdRefIdeal.Read Idealize.ShloMosaic Step

variable (X : Fin 8192 → Fin 1024 → ℝ) (G : Fin 1024 → ℝ) (W : Fin 1024 → Fin 5632 → ℝ) (O : Fin 2816 → Fin 1024 → ℝ) (D : Fin 8192 → Fin 1024 → ℝ)

/-- The inner product's row. -/
abbrev pre (t : Fin 8192) : Fin 5632 → ℝ := Ffn.pre (X t) G W

theorem ms : val_main_v7 (F := Ideal) (c2 X) = c2 fun t (_ : Fin 1) => msq (X t) := by
  funext i
  pointwise [val_main_v7, val_main_v6, val_main_cst_2, val_main_v5, val_main_v4, val_main_cst_1, val_main_v3, val_main_v2, val_main_cst_0, val_main_v1]
  simp only [c2_apply, lit_1024, lit_eps, mul_coe, sum_coe, add_coe, div_coe _ _ (show (1024 : ℝ) ≠ 0 by norm_num)]
  rfl

theorem root : val_main_v8 (F := Ideal) (c2 X) = c2 fun t (_ : Fin 1) => inv (X t) := by
  funext i
  pointwise [val_main_v8, ms]
  exact rsqrt_msq _

theorem cube : val_main_v11 (F := Ideal) (c2 X) = c2 fun t (_ : Fin 1) => -(1 / 2) * (inv (X t) / msq (X t)) := by
  funext i
  pointwise [val_main_v11, val_main_v10, val_main_cst_3, val_main_v9, root, ms]
  simp only [c2_apply, lit_neg_half, mul_coe, div_coe _ _ (msq_pos _).ne']

theorem xhat : val_main_v13 (F := Ideal) (c2 X) = c2 fun t k => X t k * inv (X t) := by
  funext i
  pointwise [val_main_v13, val_main_v12, root]
  simp only [c2_apply, mul_coe]
  rfl

theorem hid : val_main_v18 (F := Ideal) (c2 X) (c1 G) (c2 W) = c2 (pre X G W) := by
  funext i
  pointwise [val_main_v18, val_main_v0, val_main_cst, val_main_v17, val_main_v16, val_main_v15, val_main_v14, xhat]
  simp only [c1_apply, c2_apply, mul_coe, sum_coe, add_coe]
  rfl

theorem gate : val_main_v19 (F := Ideal) (c2 X) (c1 G) (c2 W) = c2 fun t j => pre X G W t (Ffn.lo j) := by
  funext i
  pointwise [val_main_v19, hid]
  rfl

theorem up : val_main_v20 (F := Ideal) (c2 X) (c1 G) (c2 W) = c2 fun t j => pre X G W t (Ffn.hi j) := by
  funext i
  pointwise [val_main_v20, hid]
  rfl

theorem sig : val_main_v21_2 (F := Ideal) (c2 X) (c1 G) (c2 W) = c2 fun t j => logi (pre X G W t (Ffn.lo j)) := by
  funext i
  pointwise [val_main_v21_2, val_main_call0_v4, val_main_call0_cst_0, val_main_call0_v3, val_main_call0_v2, val_main_call0_cst, val_main_call0_v1, val_main_call0_v0, gate]
  simp only [c2_apply]
  exact logi_exp _

theorem silu : val_main_v21_0 (F := Ideal) (c2 X) (c1 G) (c2 W) = c2 fun t j => pre X G W t (Ffn.lo j) * logi (pre X G W t (Ffn.lo j)) := by
  funext i
  pointwise [val_main_v21_0, gate, sig]
  simp only [c2_apply, mul_coe]

theorem acts : val_main_v22 (F := Ideal) (c2 X) (c1 G) (c2 W) = c2 fun t j => Ffn.act (pre X G W t) j := by
  funext i
  pointwise [val_main_v22, up, silu]
  simp only [c2_apply, mul_coe]
  rfl

theorem dacts : val_main_v30 (F := Ideal) (c2 O) (c2 D) = c2 fun t j => Ffn.dact (D t) O j := by
  funext i
  pointwise [val_main_v30, val_main_v29, val_main_v28, val_main_cst_5, val_main_v27]
  simp only [c2_apply, lit_half, mul_coe, sum_coe]
  rfl

theorem dups : val_main_v31 (F := Ideal) (c2 X) (c1 G) (c2 W) (c2 O) (c2 D) = c2 fun t j => Ffn.dup (D t) (pre X G W t) O j := by
  funext i
  pointwise [val_main_v31, silu, dacts]
  simp only [c2_apply, mul_coe]
  congr 1
  unfold Ffn.dup
  ring

theorem dgates : val_main_v33 (F := Ideal) (c2 X) (c1 G) (c2 W) (c2 O) (c2 D) = c2 fun t j => Ffn.dgate (D t) (pre X G W t) O j := by
  funext i
  pointwise [val_main_v33, val_main_call1_v2, val_main_call1_v1, val_main_call1_v0, val_main_v32, val_main_v21_1, val_main_call0_v7, val_main_call0_v6, val_main_call0_cst_1, up, sig, gate, dacts]
  simp only [c2_apply, one_coe, sub_coe, add_coe, mul_coe]
  congr 1
  unfold Ffn.dgate
  ring

theorem dhs : val_main_v34 (F := Ideal) (c2 X) (c1 G) (c2 W) (c2 O) (c2 D) = c2 fun t j => Ffn.dh (D t) (pre X G W t) O j := by
  funext i
  pointwise [val_main_v34, dgates, dups]
  simp only [c2_apply]
  unfold Ffn.dh
  split <;> rfl

/-- The gradient of the normalised row. -/
abbrev dxn (t : Fin 8192) : Fin 1024 → ℝ := Ffn.dxn (D t) (pre X G W t) W O

theorem dxns : val_main_v35 (F := Ideal) (c2 X) (c1 G) (c2 W) (c2 O) (c2 D) = c2 (dxn X G W O D) := by
  funext i
  pointwise [val_main_v35, dhs]
  simp only [c2_apply, mul_coe, sum_coe]
  rfl

theorem dgs : val_main_v59 (F := Ideal) (c2 X) (c1 G) (c2 W) (c2 O) (c2 D) = c2 fun (_ : Fin 1) k => ∑ t, dxn X G W O D t k * (X t k * inv (X t)) := by
  funext i
  pointwise [val_main_v59, val_main_v41, val_main_cst_7, val_main_v38, val_main_v37, val_main_cst_6, val_main_v36, xhat, dxns]
  simp only [c2_apply, mul_coe, sum_coe, add_coe]
  simp only [Finset.univ_unique, Finset.sum_singleton]
  congr 1
  refine Finset.sum_congr rfl fun t _ => ?_
  exact mul_comm _ _

/-- The derivative of a row's normalisation as reverse differentiation writes it, and in closed form. -/
theorem rms_vjp (x g d y : Fin 1024 → ℝ) (k : Fin 1024) :
    y k + d k * g k * Step.inv x + x k * ((∑ j, x j * (d j * g j)) * (-(1 / 2) * (Step.inv x / msq x)) / 1024)
        + (∑ j, x j * (d j * g j)) * (-(1 / 2) * (Step.inv x / msq x)) / 1024 * x k
      = y k + rmsBwd x g d k := by
  have e : ∑ j, d j * g j * (x j * Step.inv x) = (∑ j, x j * (d j * g j)) * Step.inv x := by
    rw [Finset.sum_mul]
    exact Finset.sum_congr rfl fun j _ => by ring
  rw [rmsBwd, e, inv_div_msq]
  ring

theorem dxs : val_main_v56 (F := Ideal) (c2 X) (c1 G) (c2 W) (c2 O) (c2 D) = c2 fun t k => D t k + rmsBwd (X t) G (dxn X G W O D t) k := by
  funext i
  pointwise [val_main_v56, val_main_v55, val_main_v54, val_main_v53, val_main_v52, val_main_v51, val_main_cst_10, val_main_v50, val_main_v49, val_main_cst_9, val_main_v48, val_main_v47, val_main_v46,
    val_main_v45, val_main_v44, val_main_v43, val_main_cst_8, val_main_v42, val_main_v40, val_main_v39, val_main_v14, root, cube, dxns]
  simp only [c1_apply, c2_apply, lit_1024, mul_coe, sum_coe, add_coe, div_coe _ _ (show (1024 : ℝ) ≠ 0 by norm_num)]
  simp only [Finset.univ_unique, Finset.sum_singleton]
  congr 1
  exact rms_vjp (X (i 0)) G (dxn X G W O D (i 0)) (D (i 0)) (i 1)

/-- The rounded gradient of the inner product is that gradient, and the rounded gate that gate. -/
theorem dhs_out : val_main_v57 (F := Ideal) (c2 X) (c1 G) (c2 W) (c2 O) (c2 D) = c2 fun t j => Ffn.dh (D t) (pre X G W t) O j := by
  funext i
  pointwise [val_main_v57, dhs]

theorem acts_out : val_main_v58 (F := Ideal) (c2 X) (c1 G) (c2 W) = c2 fun t j => Ffn.act (pre X G W t) j := by
  funext i
  pointwise [val_main_v58, acts]

end Cert.FfnBwdRefIdeal.Stage
-- ==== Proof.FfnPair.lean ====
/-
  The feed-forward layer's backward call and the derivative of that layer leave the same four arrays.
-/
module

public import proofs.«01_k».proof.Defs
public import proofs.«01_k».proof.Proof.Finite
public import proofs.«01_k».proof.Proof.FfnArr
public import proofs.«01_k».proof.Proof.FfnRef
public import proofs.«01_k».proof.Proof.Gen.Pre_finite_ffn
public import Idealize.ShloMosaic.Lib.Claim

@[expose] public section

set_option maxRecDepth 16384

noncomputable section

namespace Cert.FfnPair

open Idealize.ShloMosaic Idealize.ShloMosaic.TcCoe Idealize.SL.Sem Step Cert.FfnBwdIdeal.Entry

/-- Under the precondition the call's arguments are arrays of real numbers. -/
def real {m : (ℓ : Loc Cert.FfnBwdIdeal.nD Cert.FfnBwdIdeal.τ Cert.FfnBwdIdeal.sig) → Buf (Elt Ideal) ℓ}
    (h : Cert.Pre_FfnBwdIdeal_finite_ffn m) (c : Dev Cert.FfnBwdIdeal.nD) : Real m c where
  X := _
  G := _
  W := _
  O := _
  D := _
  hX := c2_of _ fun i => congrFun (h c).1 i
  hG := c1_of _ fun i => congrFun (h c).2.1 i
  hW := c2_of _ fun i => congrFun (h c).2.2.1 i
  hO := c2_of _ fun i => congrFun (h c).2.2.2.1 i
  hD := c2_of _ fun i => congrFun (h c).2.2.2.2 i

/-- The reference runs, keeps its arguments and leaves its counters at zero: it has none. -/
theorem reference_frame : Cert.quiescent_FfnBwdRefIdeal := fun m ρ _ =>
  (θ_run _ _ _).mono (fun r h => ⟨fun c => (h c).2.2.2.2, by
    funext x
    rcases x with ⟨c, s⟩
    cases s with
    | reg i => exact i.elim0
    | dma i => exact i.elim0⟩) (Cert.FfnBwdRefIdeal.Value.run m ρ)

theorem algebraic : Cert.algebraic_FfnBwdIdeal_FfnBwdRefIdeal_pre_finite_ffn := by
  intro m g m' g' hpre hagree
  have a : ∀ c, Real m c := real hpre
  refine ⟨fun c => c2 (DX (a c)), fun c => c2 (DH (a c)), fun c => c2 (ACT (a c)), fun c => c2 fun _ => DG (a c),
    (θ_run _ _ _).mono (fun r h c => ?_) (Cert.FfnBwdIdeal.Value.run_blocks m g),
    (θ_run _ _ _).mono (fun r h c => ?_) (Cert.FfnBwdRefIdeal.Value.run m' g')⟩
  · obtain ⟨h0, h1, h2, h3, hk⟩ := h c
    exact ⟨h0.trans (dx_arr (a c)), h1.trans (dh_arr (a c)), h2.trans (act_arr (a c)), h3.trans (dg_arr (a c)), hk⟩
  · obtain ⟨h0, h1, h2, h3, hk⟩ := h c
    obtain ⟨e0, e1, e2, e3, e4⟩ := hagree c
    have e0 := e0.trans (a c).hX
    have e1 := e1.trans (a c).hG
    have e2 := e2.trans (a c).hW
    have e3 := e3.trans (a c).hO
    have e4 := e4.trans (a c).hD
    refine ⟨h0.trans ?_, h1.trans ?_, h2.trans ?_, h3.trans ?_, hk⟩
    · rw [Cert.FfnBwdRefIdeal.Read.val_main_v56_eq, e0, e1, e2, e3, e4]
      exact Cert.FfnBwdRefIdeal.Stage.dxs _ _ _ _ _
    · rw [Cert.FfnBwdRefIdeal.Read.val_main_v57_eq, e0, e1, e2, e3, e4]
      exact Cert.FfnBwdRefIdeal.Stage.dhs_out _ _ _ _ _
    · rw [Cert.FfnBwdRefIdeal.Read.val_main_v58_eq, e0, e1, e2]
      exact Cert.FfnBwdRefIdeal.Stage.acts_out _ _ _
    · rw [Cert.FfnBwdRefIdeal.Read.val_main_v59_eq, e0, e1, e2, e3, e4]
      exact Cert.FfnBwdRefIdeal.Stage.dgs _ _ _ _ _

end Cert.FfnPair
-- ==== Proof.SguTile.lean ====
/-
  The array operations of the spatial gating unit's backward body on arrays of real numbers: tiles, products of tiles, tiles
  set side by side, and the columns that a head adds to or is added up into.
-/
module

public import proofs.«01_k».proof.Proof.Gen.SguBwdIdeal.Skeleton
public import proofs.«01_k».proof.Proof.Coe
public import Idealize.ShloMosaic.Lib.Pointwise

@[expose] public section

set_option maxRecDepth 16384

noncomputable section

namespace Cert.SguBwdIdeal.Tile

open Cert.SguBwdIdeal Cert.SguBwdIdeal.Gen Idealize.ShloMosaic Step

/-- The tile of a matrix whose first entry is the one at row `o` and column `o'`. -/
def tile {n m p q : ℕ} (A : Fin n → Fin m → ℝ) (o o' : ℕ) (h : Shape.Slices (s := ⟨2, ![n, m]⟩) ![o, o'] ⟨2, ![p, q]⟩) :
    Fin p → Fin q → ℝ :=
  fun i j => A ⟨o + i.val, Nat.lt_of_lt_of_le (Nat.add_lt_add_left i.isLt _) (h.2 0)⟩ ⟨o' + j.val, Nat.lt_of_lt_of_le (Nat.add_lt_add_left j.isLt _) (h.2 1)⟩

theorem tile_c2 {n m p q : ℕ} (A : Fin n → Fin m → ℝ) (o o' : ℕ) (h : Shape.Slices (s := ⟨2, ![n, m]⟩) ![o, o'] ⟨2, ![p, q]⟩) :
    extractStridedSlice ⟨2, ![p, q]⟩ ![o, o'] (c2 A) h = c2 (tile A o o' h) := rfl

/-- The product of two tiles. -/
def mul (A B : Fin 128 → Fin 128 → ℝ) : Fin 128 → Fin 128 → ℝ := fun i k => ∑ j, A i j * B j k
/-- The product of a tile with the transpose of another. -/
def mulT (A B : Fin 128 → Fin 128 → ℝ) : Fin 128 → Fin 128 → ℝ := fun i k => ∑ j, A i j * B k j
/-- The product of a tile's transpose with another tile. -/
def tmul (A B : Fin 128 → Fin 128 → ℝ) : Fin 128 → Fin 128 → ℝ := fun i k => ∑ j, A j i * B j k

theorem mul_c2 (A B : Fin 128 → Fin 128 → ℝ) :
    matmul (F := Ideal) (φ₁ := .bf16) (φ₂ := .bf16) dot_S128x128_S128x128_S128x128_1_0_0_1_n_n none (c2 A) (c2 B) (constant S128x128 .f32 0x00000000#32) = c2 (mul A B) := by
  funext i
  pointwise []
  simp only [c2_apply, mul_coe, sum_coe]
  rfl

theorem mulT_c2 (A B : Fin 128 → Fin 128 → ℝ) :
    matmul (F := Ideal) (φ₁ := .bf16) (φ₂ := .bf16) dot_S128x128_S128x128_S128x128_1_1_0_0_n_n none (c2 A) (c2 B) (constant S128x128 .f32 0x00000000#32) = c2 (mulT A B) := by
  funext i
  pointwise []
  simp only [c2_apply, mul_coe, sum_coe]
  rfl

theorem tmul_c2 (A B : Fin 128 → Fin 128 → ℝ) :
    matmul (F := Ideal) (φ₁ := .bf16) (φ₂ := .bf16) dot_S128x128_S128x128_S128x128_0_0_1_1_n_n none (c2 A) (c2 B) (constant S128x128 .f32 0x00000000#32) = c2 (tmul A B) := by
  funext i
  pointwise []
  simp only [c2_apply, mul_coe, sum_coe]
  rfl

/-- The sum of two matrices. -/
def plus {n m : ℕ} (A B : Fin n → Fin m → ℝ) : Fin n → Fin m → ℝ := fun i k => A i k + B i k
/-- The entrywise product of two matrices. -/
def times {n m : ℕ} (A B : Fin n → Fin m → ℝ) : Fin n → Fin m → ℝ := fun i k => A i k * B i k

theorem plus_c2 {n m : ℕ} (A B : Fin n → Fin m → ℝ) : addf (F := Ideal) (s := ⟨2, ![n, m]⟩) (φ := .f32) (c2 A) (c2 B) = c2 (plus A B) := by
  funext i
  exact (EReal.coe_add _ _).symm

theorem times_c2 {n m : ℕ} (A B : Fin n → Fin m → ℝ) : mulf (F := Ideal) (s := ⟨2, ![n, m]⟩) (φ := .f32) (c2 A) (c2 B) = c2 (times A B) := by
  funext i
  exact (EReal.coe_mul _ _).symm

theorem trunc_c2 {n m : ℕ} (A : Fin n → Fin m → ℝ) :
    truncf (F := Ideal) (s := ⟨2, ![n, m]⟩) (φ := .f32) .bf16 (c2 A) bitsLt_bf16_f32 = c2 A := rfl

/-- One column spread over a tile's columns. -/
def col (B : Fin 128 → Fin 1 → ℝ) : Fin 128 → Fin 128 → ℝ := fun i _ => B i 0

theorem col_c2 (B : Fin 128 → Fin 1 → ℝ) :
    broadcastTo S128x128 (c2 B : S128x1.Idx → EReal) broadcasts_S128x1_S128x128 = c2 (col B) := by
  funext i
  pointwise []
  rfl

/-- Eight tiles side by side. -/
def beside (T : Fin 8 → Fin 128 → Fin 128 → ℝ) : Fin 128 → Fin 1024 → ℝ :=
  fun i k => T ⟨k.val / 128, by omega⟩ i ⟨k.val % 128, Nat.mod_lt _ (by norm_num)⟩

theorem beside_at (T : Fin 8 → Fin 128 → Fin 128 → ℝ) (i : Fin 128) (k : Fin 1024) (q : Fin 8) (r : ℕ) (hr : r < 128) (h : k.val = 128 * q.val + r) :
    T q i ⟨r, hr⟩ = beside T i k := by
  have e : q = ⟨k.val / 128, by omega⟩ := Fin.ext (by show q.val = k.val / 128; omega)
  have f : (⟨r, hr⟩ : Fin 128) = ⟨k.val % 128, Nat.mod_lt _ (by norm_num)⟩ := Fin.ext (by show r = k.val % 128; omega)
  rw [e, f]
  rfl

/-- Eight arrays side by side, and four below each other, as functions of the arrays. -/
def cat8 (a b c d e f g h : S128x128.Idx → EReal) : S128x1024.Idx → EReal :=
  concatenate S128x1024 1 [⟨S128x128, a⟩, ⟨S128x128, b⟩, ⟨S128x128, c⟩, ⟨S128x128, d⟩, ⟨S128x128, e⟩, ⟨S128x128, f⟩, ⟨S128x128, g⟩, ⟨S128x128, h⟩]
    concatenates_S128x128_S128x128_S128x128_S128x128_S128x128_S128x128_S128x128_S128x128_S128x1024_d1
def cat4 (a b c d : S128x1024.Idx → EReal) : S512x1024.Idx → EReal :=
  concatenate S512x1024 0 [⟨S128x1024, a⟩, ⟨S128x1024, b⟩, ⟨S128x1024, c⟩, ⟨S128x1024, d⟩]
    concatenates_S128x1024_S128x1024_S128x1024_S128x1024_S512x1024_d0

theorem cat8_eq (a b c d e f g h : S128x128.Idx → EReal) :
    concatenate S128x1024 1 [⟨S128x128, a⟩, ⟨S128x128, b⟩, ⟨S128x128, c⟩, ⟨S128x128, d⟩, ⟨S128x128, e⟩, ⟨S128x128, f⟩, ⟨S128x128, g⟩, ⟨S128x128, h⟩]
      concatenates_S128x128_S128x128_S128x128_S128x128_S128x128_S128x128_S128x128_S128x128_S128x1024_d1 = cat8 a b c d e f g h := rfl
theorem cat4_eq (a b c d : S128x1024.Idx → EReal) :
    concatenate S512x1024 0 [⟨S128x1024, a⟩, ⟨S128x1024, b⟩, ⟨S128x1024, c⟩, ⟨S128x1024, d⟩]
      concatenates_S128x1024_S128x1024_S128x1024_S128x1024_S512x1024_d0 = cat4 a b c d := rfl

theorem beside_c2 (a b c d e f g h : Fin 128 → Fin 128 → ℝ) :
    concatenate S128x1024 1 [⟨S128x128, (c2 a : S128x128.Idx → EReal)⟩, ⟨S128x128, c2 b⟩, ⟨S128x128, c2 c⟩, ⟨S128x128, c2 d⟩, ⟨S128x128, c2 e⟩,
      ⟨S128x128, c2 f⟩, ⟨S128x128, c2 g⟩, ⟨S128x128, c2 h⟩] concatenates_S128x128_S128x128_S128x128_S128x128_S128x128_S128x128_S128x128_S128x128_S128x1024_d1
      = c2 (beside ![a, b, c, d, e, f, g, h]) := by
  funext i
  pointwise []
  have ext (q : Fin 8) (r : ℕ) (hr : r < 128) (hk : _ = 128 * q.val + r) := congrArg Real.toEReal (beside_at ![a, b, c, d, e, f, g, h] (i 0) (i 1) q r hr hk)
  by_cases h0 : (i 1).val < 128
  · rw [dif_pos h0]
    exact ext 0 _ h0 (by simp <;> omega)
  rw [dif_neg h0]
  by_cases h1 : (i 1).val - 128 < 128
  · rw [dif_pos h1]
    exact ext 1 _ h1 (by simp <;> omega)
  rw [dif_neg h1]
  by_cases h2 : (i 1).val - 128 - 128 < 128
  · rw [dif_pos h2]
    exact ext 2 _ h2 (by simp <;> omega)
  rw [dif_neg h2]
  by_cases h3 : (i 1).val - 128 - 128 - 128 < 128
  · rw [dif_pos h3]
    exact ext 3 _ h3 (by simp <;> omega)
  rw [dif_neg h3]
  by_cases h4 : (i 1).val - 128 - 128 - 128 - 128 < 128
  · rw [dif_pos h4]
    exact ext 4 _ h4 (by simp <;> omega)
  rw [dif_neg h4]
  by_cases h5 : (i 1).val - 128 - 128 - 128 - 128 - 128 < 128
  · rw [dif_pos h5]
    exact ext 5 _ h5 (by simp <;> omega)
  rw [dif_neg h5]
  by_cases h6 : (i 1).val - 128 - 128 - 128 - 128 - 128 - 128 < 128
  · rw [dif_pos h6]
    exact ext 6 _ h6 (by simp <;> omega)
  rw [dif_neg h6]
  have lt : (i 1).val < 1024 := (i 1).isLt
  exact ext 7 _ (by omega) (by simp <;> omega)

/-- Four blocks of rows below each other. -/
def below (T : Fin 4 → Fin 128 → Fin 1024 → ℝ) : Fin 512 → Fin 1024 → ℝ :=
  fun t k => T ⟨t.val / 128, by omega⟩ ⟨t.val % 128, Nat.mod_lt _ (by norm_num)⟩ k

theorem below_at (T : Fin 4 → Fin 128 → Fin 1024 → ℝ) (t : Fin 512) (k : Fin 1024) (q : Fin 4) (r : ℕ) (hr : r < 128) (h : t.val = 128 * q.val + r) :
    T q ⟨r, hr⟩ k = below T t k := by
  have e : q = ⟨t.val / 128, by omega⟩ := Fin.ext (by show q.val = t.val / 128; omega)
  have f : (⟨r, hr⟩ : Fin 128) = ⟨t.val % 128, Nat.mod_lt _ (by norm_num)⟩ := Fin.ext (by show r = t.val % 128; omega)
  rw [e, f]
  rfl

theorem below_c2 (a b c d : Fin 128 → Fin 1024 → ℝ) :
    concatenate S512x1024 0 [⟨S128x1024, (c2 a : S128x1024.Idx → EReal)⟩, ⟨S128x1024, c2 b⟩, ⟨S128x1024, c2 c⟩, ⟨S128x1024, c2 d⟩]
      concatenates_S128x1024_S128x1024_S128x1024_S128x1024_S512x1024_d0 = c2 (below ![a, b, c, d]) := by
  funext i
  pointwise []
  have ext (q : Fin 4) (r : ℕ) (hr : r < 128) (hk : _ = 128 * q.val + r) := congrArg Real.toEReal (below_at ![a, b, c, d] (i 0) (i 1) q r hr hk)
  by_cases h0 : (i 0).val < 128
  · rw [dif_pos h0]
    exact ext 0 _ h0 (by simp <;> omega)
  rw [dif_neg h0]
  by_cases h1 : (i 0).val - 128 < 128
  · rw [dif_pos h1]
    exact ext 1 _ h1 (by simp <;> omega)
  rw [dif_neg h1]
  by_cases h2 : (i 0).val - 128 - 128 < 128
  · rw [dif_pos h2]
    exact ext 2 _ h2 (by simp <;> omega)
  rw [dif_neg h2]
  have lt : (i 0).val < 512 := (i 0).isLt
  exact ext 3 _ (by omega) (by simp <;> omega)

theorem zero_shift : broadcast S128x8 (Scalar.ofBits (F := Ideal) .f32 0x00000000#32) = c2 fun _ _ => 0 := by
  funext i
  exact lit_zero

/-- The sums of a tile's rows, in the column of head `n`. -/
def inHead (n : ℕ) (A : Fin 128 → Fin 128 → ℝ) : Fin 128 → Fin 8 → ℝ := fun s h => if h.val = n then ∑ c, A s c else 0

theorem inHead_c2 (A : Fin 128 → Fin 128 → ℝ) (n : BitVec 32) (hn : n.toNat < 8) :
    select (cmpi .eq (iota .tc S128x8 32 [1] iota_S128x8_d1_w32) (broadcast S128x8 n))
      (broadcastTo S128x8 (shapeCast S128x1 (shapeCast S128x1 (multiReduction (F := Ideal) (φ := .f32) .add [1] S128 (c2 A : S128x128.Idx → EReal) 0x00000000#32
        reduces_S128x128_S128 (.inl rfl) rfl) shapeCasts_S128_S128x1) shapeCasts_S128x1_S128x1) broadcasts_S128x1_S128x8)
      (c2 fun _ _ => 0) = (c2 (inHead n.toNat A) : S128x8.Idx → EReal) := by
  rw [← zero_shift]
  funext i
  pointwise []
  have lt : (i 1).val < 8 := (i 1).isLt
  have e : (BitVec.ofNat 32 (i 1).val).toNat = (i 1).val := by
    rw [BitVec.toNat_ofNat]
    exact Nat.mod_eq_of_lt (by omega)
  simp only [c2_apply, sum_coe, zero_coe, inHead]
  by_cases h : (i 1).val = n.toNat
  · have hb : BitVec.ofNat 32 (i 1).val = n := BitVec.eq_of_toNat_eq (e.trans h)
    rw [if_pos h, hb]
    simp [Scalar.select, IntOp.cmpi]
  · have hb : BitVec.ofNat 32 (i 1).val ≠ n := fun k => h (by rw [← e, k])
    rw [if_neg h]
    simp [Scalar.select, IntOp.cmpi, beq_eq_false_iff_ne.mpr hb]

theorem cat8_c2 (a b c d e f g h : Fin 128 → Fin 128 → ℝ) :
    cat8 (c2 a) (c2 b) (c2 c) (c2 d) (c2 e) (c2 f) (c2 g) (c2 h) = c2 (beside ![a, b, c, d, e, f, g, h]) := beside_c2 a b c d e f g h
theorem cat4_c2 (a b c d : Fin 128 → Fin 1024 → ℝ) : cat4 (c2 a) (c2 b) (c2 c) (c2 d) = c2 (below ![a, b, c, d]) := below_c2 a b c d

end Cert.SguBwdIdeal.Tile
-- ==== Proof.SguSpec.lean ====
/-
  The backward call of the spatial gating unit over the real numbers. Row by row: `p` is a row of the layer's inner product, whose
  first 1024 entries give the gate's factor `u` and whose last 1024 the mixed values `v`. Chunk by chunk of 128 rows: the mixing
  along the rows, one causal matrix for each head of 128 columns.
-/
module

public import proofs.«01_k».proof.Proof.Coe

@[expose] public section

noncomputable section

namespace Step.Sgu

/-- The error function. -/
def er (a : ℝ) : ℝ := 2 / Real.sqrt Real.pi * ∫ t in (0 : ℝ)..a, Real.exp (-(t ^ 2))

/-- The root of one half. -/
def hr : ℝ := (Real.sqrt 2)⁻¹

/-- The normal distribution function, by which the Gaussian error unit scales its argument. -/
def phi (a : ℝ) : ℝ := 1 / 2 * (1 + er (a * hr))

/-- The derivative of `a ↦ a · phi a`, its constant as the error function's derivative has it. -/
def slope (a : ℝ) : ℝ := phi a + a * Real.exp (-(1 / 2) * a * a) * (9465531 / 16777216 * hr)

def lo (k : Fin 1024) : Fin 2048 := ⟨k.val, by omega⟩
def hi (k : Fin 1024) : Fin 2048 := ⟨1024 + k.val, by omega⟩

def u (p : Fin 2048 → ℝ) (k : Fin 1024) : ℝ := p (lo k) * phi (p (lo k))
def v (p : Fin 2048 → ℝ) (k : Fin 1024) : ℝ := p (hi k) * phi (p (hi k))

/-! The layer norm of the mixed values: centred, scaled by the inverse root of the variance, with gain and shift. -/
def vc (p : Fin 2048 → ℝ) (k : Fin 1024) : ℝ := v p k - (∑ j, v p j) / 1024
def rs (p : Fin 2048 → ℝ) : ℝ := inv (vc p)
def vhat (p : Fin 2048 → ℝ) (k : Fin 1024) : ℝ := vc p k * rs p
def vln (p : Fin 2048 → ℝ) (lg lb : Fin 1024 → ℝ) (k : Fin 1024) : ℝ := vhat p k * lg k + lb k

/-- The gradient of the layer norm with respect to the mixed values, `a` the cotangent times the gain. -/
def lnBwd (p : Fin 2048 → ℝ) (a : Fin 1024 → ℝ) (k : Fin 1024) : ℝ :=
  rs p * (a k - (∑ j, a j) / 1024 - vhat p k * ((∑ j, a j * vhat p j) / 1024))

/-- The gradient of the inner product: `du` of the factor, `a` of the normalised values times the gain. -/
def dpre (p : Fin 2048 → ℝ) (du a : Fin 1024 → ℝ) (j : Fin 2048) : ℝ :=
  (if h : j.val < 1024 then du ⟨j.val, h⟩ else lnBwd p a ⟨j.val - 1024, by omega⟩) * slope (p j)

/-! ## Chunks of 128 rows -/

/-- The head of a column. -/
def hd (k : Fin 1024) : Fin 8 := ⟨k.val / 128, by omega⟩
/-- Column `c` of head `h`. -/
def at' (h : Fin 8) (c : Fin 128) : Fin 1024 := ⟨128 * h.val + c.val, by omega⟩

/-- The causal matrix of a head: row `s` reads the rows up to `s`. -/
def causal (W : Fin 8 → Fin 128 → Fin 128 → ℝ) (h : Fin 8) (s j : Fin 128) : ℝ := W h s j * (if j.val ≤ s.val then 1 else 0)

/-- The mixed chunk: each head's matrix `M`, with the shift `b` of each row. -/
def mix (M : Fin 8 → Fin 128 → Fin 128 → ℝ) (b : Fin 128 → Fin 8 → ℝ) (C : Fin 128 → Fin 1024 → ℝ) (s : Fin 128) (k : Fin 1024) : ℝ :=
  (∑ j, M (hd k) s j * C j k) + b s (hd k)

/-- The mixing's gradient with respect to its chunk. -/
def mixT (M : Fin 8 → Fin 128 → Fin 128 → ℝ) (D : Fin 128 → Fin 1024 → ℝ) (s : Fin 128) (k : Fin 1024) : ℝ :=
  ∑ j, M (hd k) j s * D j k

/-- The mixing's gradient with respect to a head's full matrix, from one chunk. -/
def dmat (D C : Fin 128 → Fin 1024 → ℝ) (h : Fin 8) (s j : Fin 128) : ℝ := ∑ c, D s (at' h c) * C j (at' h c)

/-- The mixing's gradient with respect to the shifts, from one chunk. -/
def dshift (D : Fin 128 → Fin 1024 → ℝ) (s : Fin 128) (h : Fin 8) : ℝ := ∑ c, D s (at' h c)

/-- Chunk `q` of a matrix of `128 · n` rows. -/
def chunk {N : ℕ} (n : ℕ) (hN : N = 128 * n) (A : Fin N → Fin 1024 → ℝ) (q : Fin n) (s : Fin 128) (k : Fin 1024) : ℝ :=
  A ⟨128 * q.val + s.val, by omega⟩ k

end Step.Sgu
-- ==== Proof.SguRow.lean ====
/-
  The row by row part of the spatial gating unit's backward body: the gate, the layer norm and their gradients.
-/
module

public import proofs.«01_k».proof.Proof.SguTile
public import proofs.«01_k».proof.Proof.SguSpec

@[expose] public section

set_option maxRecDepth 16384

noncomputable section

namespace Cert.SguBwdIdeal.Body

open Cert.SguBwdIdeal Cert.SguBwdIdeal.Gen Idealize.ShloMosaic Step

theorem n1024 : (1024 : ℝ) ≠ 0 := by norm_num

theorem pre_block (P : Fin 512 → Fin 2048 → ℝ) : k0_pay7 (F := Ideal) (c2 P) = c2 P := by
  funext i
  pointwise [k0_pay7]

theorem lg_block (G : Fin 1024 → ℝ) : k0_pay8 (F := Ideal) (c2 fun _ : Fin 1 => G) = c2 fun _ : Fin 1 => G := by
  funext i
  pointwise [k0_pay8]

theorem lb_block (G : Fin 1024 → ℝ) : k0_pay9 (F := Ideal) (c2 fun _ : Fin 1 => G) = c2 fun _ : Fin 1 => G := by
  funext i
  pointwise [k0_pay9]

theorem phi_block (P : Fin 512 → Fin 2048 → ℝ) : k0_pay10 (F := Ideal) (c2 P) = c2 fun t k => Sgu.phi (P t k) := by
  funext i
  pointwise [k0_pay10, pre_block]
  simp only [c2_apply, lit_half, lit_one, mul_coe, add_coe, Ideal.erf_coe]
  rfl

theorem z_block (P : Fin 512 → Fin 2048 → ℝ) : k0_pay11 (F := Ideal) (c2 P) = c2 fun t k => P t k * Sgu.phi (P t k) := by
  funext i
  pointwise [k0_pay11, pre_block, phi_block]
  simp only [c2_apply, mul_coe]

theorem u_block (P : Fin 512 → Fin 2048 → ℝ) : k0_pay12 (F := Ideal) (c2 P) = c2 fun t k => Sgu.u (P t) k := by
  funext i
  pointwise [k0_pay12, z_block]
  rfl

theorem vc_block (P : Fin 512 → Fin 2048 → ℝ) : k0_pay13 (F := Ideal) (c2 P) = c2 fun t k => Sgu.vc (P t) k := by
  funext i
  pointwise [k0_pay13, z_block]
  simp only [c2_apply, lit_1024, sum_coe, sub_coe, div_coe _ _ n1024]
  rfl

theorem sq_block (P : Fin 512 → Fin 2048 → ℝ) : k0_pay14 (F := Ideal) (c2 P) = c2 fun t k => Sgu.vc (P t) k * Sgu.vc (P t) k := by
  funext i
  pointwise [k0_pay14, vc_block]
  simp only [c2_apply, mul_coe]

theorem rs_block (P : Fin 512 → Fin 2048 → ℝ) :
    k0_pay15 (F := Ideal) (c2 fun t k => Sgu.vc (P t) k * Sgu.vc (P t) k) = c2 fun t _ => Sgu.rs (P t) := by
  funext i
  pointwise [k0_pay15]
  simp only [c2_apply, lit_1024, lit_eps, sum_coe, add_coe, div_coe _ _ n1024]
  exact rsqrt_msq _

theorem vhat_block (P : Fin 512 → Fin 2048 → ℝ) :
    k0_pay16 (F := Ideal) (c2 fun t k => Sgu.vc (P t) k) (c2 fun t k => Sgu.vc (P t) k * Sgu.vc (P t) k) = c2 fun t k => Sgu.vhat (P t) k := by
  funext i
  pointwise [k0_pay16, rs_block]
  simp only [c2_apply, mul_coe]
  rfl

theorem vln_block (P : Fin 512 → Fin 2048 → ℝ) (G B : Fin 1024 → ℝ) :
    k0_pay17 (F := Ideal) (c2 fun _ : Fin 1 => G) (c2 fun _ : Fin 1 => B) (c2 fun t k => Sgu.vc (P t) k) (c2 fun t k => Sgu.vc (P t) k * Sgu.vc (P t) k)
      = c2 fun t k => Sgu.vln (P t) G B k := by
  funext i
  pointwise [k0_pay17, vhat_block]
  simp only [c2_apply, mul_coe, add_coe]
  rfl

theorem shift_block (B : Fin 128 → Fin 8 → ℝ) : k0_pay18 (F := Ideal) (c2 B) = c2 B := by
  funext i
  pointwise [k0_pay18]

theorem vb_block (V : Fin 512 → Fin 1024 → ℝ) : k0_pay28 (F := Ideal) (c2 V) = c2 V := rfl
theorem vb_block' (V : Fin 512 → Fin 1024 → ℝ) : k0_pay46 (F := Ideal) (c2 V) = c2 V := rfl

/-! ## The causal mask -/

/-- The causal mask. -/
def msk (s j : Fin 128) : ℝ := if j.val ≤ s.val then 1 else 0

theorem cmp_le (a b : ℕ) (ha : a < 128) (hb : b < 128) :
    (FloatOps.sitofp .f32 ((IntOp.cmpi .sle (BitVec.ofNat 32 a) (BitVec.ofNat 32 b)).setWidth 32) : Ideal .f32) = ((if a ≤ b then 1 else 0 : ℝ) : EReal) := by
  have e (n : ℕ) (h : n < 128) : (BitVec.ofNat 32 n).toInt = n := by
    rw [BitVec.toInt_eq_toNat_of_lt (by rw [BitVec.toNat_ofNat]; omega), BitVec.toNat_ofNat, Nat.mod_eq_of_lt (by omega)]
  have c : (BitVec.ofNat 32 a).sle (BitVec.ofNat 32 b) = decide (a ≤ b) := by
    rw [BitVec.sle, e a ha, e b hb]
    exact decide_eq_decide.mpr Int.ofNat_le
  show ((((BitVec.ofBool ((BitVec.ofNat 32 a).sle (BitVec.ofNat 32 b))).setWidth 32).toInt : ℝ) : EReal) = _
  rw [c]
  by_cases h : a ≤ b <;> simp [h]

theorem mask_block : k0_pay19 (F := Ideal) = c2 msk := by
  funext i
  pointwise [k0_pay19]
  exact cmp_le _ _ (i 1).isLt (i 0).isLt

theorem mask_block' : k0_pay141 (F := Ideal) = c2 msk := mask_block

/-- A head's matrix with the mask. -/
def masked (A : Fin 128 → Fin 128 → ℝ) (s j : Fin 128) : ℝ := A s j * msk s j

theorem w0_block (A : Fin 128 → Fin 128 → ℝ) : k0_pay20 (F := Ideal) (c3 fun _ : Fin 1 => A) = c2 (masked A) := by
  funext i
  pointwise [k0_pay20, mask_block]
  exact mul_coe _ _

theorem w1_block (A : Fin 128 → Fin 128 → ℝ) : k0_pay21 (F := Ideal) (c3 fun _ : Fin 1 => A) = c2 (masked A) := w0_block A
theorem w2_block (A : Fin 128 → Fin 128 → ℝ) : k0_pay22 (F := Ideal) (c3 fun _ : Fin 1 => A) = c2 (masked A) := w0_block A
theorem w3_block (A : Fin 128 → Fin 128 → ℝ) : k0_pay23 (F := Ideal) (c3 fun _ : Fin 1 => A) = c2 (masked A) := w0_block A
theorem w4_block (A : Fin 128 → Fin 128 → ℝ) : k0_pay24 (F := Ideal) (c3 fun _ : Fin 1 => A) = c2 (masked A) := w0_block A

theorem w5_block (A : Fin 128 → Fin 128 → ℝ) : k0_pay25 (F := Ideal) (c2 msk) (c3 fun _ : Fin 1 => A) = c2 (masked A) := by
  funext i
  pointwise [k0_pay25]
  exact mul_coe _ _

theorem w6_block (A : Fin 128 → Fin 128 → ℝ) : k0_pay26 (F := Ideal) (c2 msk) (c3 fun _ : Fin 1 => A) = c2 (masked A) := w5_block A
theorem w7_block (A : Fin 128 → Fin 128 → ℝ) : k0_pay27 (F := Ideal) (c2 msk) (c3 fun _ : Fin 1 => A) = c2 (masked A) := w5_block A

theorem dw_block (A : Fin 128 → Fin 128 → ℝ) (B : Fin 128 → Fin 128 → ℝ) :
    k0_pay142 (F := Ideal) (c2 A) (c3 fun _ : Fin 1 => B) = c3 fun _ s j => B s j + A s j * msk s j := by
  funext i
  pointwise [k0_pay142, mask_block']
  simp only [c2_apply, c3_apply, mul_coe, add_coe]
  rfl

theorem dw_block' (A : Fin 128 → Fin 128 → ℝ) (B : Fin 128 → Fin 128 → ℝ) :
    k0_pay144 (F := Ideal) (c2 A) (c2 msk) (c3 fun _ : Fin 1 => B) = c3 fun _ s j => B s j + A s j * msk s j := by
  funext i
  pointwise [k0_pay144]
  simp only [c2_apply, c3_apply, mul_coe, add_coe]
  rfl

/-! ## The outer product's gradient -/

/-- The gradient of the product of factor and mixed values. -/
def dprod (D : Fin 512 → Fin 1024 → ℝ) (O : Fin 1024 → Fin 1024 → ℝ) (t : Fin 512) (k : Fin 1024) : ℝ := ∑ j, D t j * O k j

theorem dprod_block (D : Fin 512 → Fin 1024 → ℝ) (O : Fin 1024 → Fin 1024 → ℝ) : k0_pay42 (F := Ideal) (c2 D) (c2 O) = c2 (dprod D O) := by
  funext i
  pointwise [k0_pay42]
  simp only [c2_apply, mul_coe, sum_coe]
  rfl

theorem dvo_block (U D : Fin 512 → Fin 1024 → ℝ) (O : Fin 1024 → Fin 1024 → ℝ) :
    k0_pay44 (F := Ideal) (c2 U) (c2 D) (c2 O) = c2 fun t k => dprod D O t k * U t k := by
  funext i
  pointwise [k0_pay44, dprod_block]
  exact mul_coe _ _

theorem dvo_block' (U D : Fin 512 → Fin 1024 → ℝ) (O : Fin 1024 → Fin 1024 → ℝ) :
    k0_pay45 (F := Ideal) (c2 U) (c2 D) (c2 O) = c2 fun t k => dprod D O t k * U t k := dvo_block U D O

/-! ## Sums over the rows -/

theorem dshift_block (A B : Fin 128 → Fin 8 → ℝ) : k0_pay150 (F := Ideal) (c2 A) (c2 B) = c2 fun s h => B s h + A s h := by
  funext i
  pointwise [k0_pay150]
  exact add_coe _ _

theorem dlg_block (H L : Fin 512 → Fin 1024 → ℝ) (B : Fin 1024 → ℝ) :
    k0_pay151 (F := Ideal) (c2 H) (c2 L) (c2 fun _ : Fin 1 => B) = c2 fun _ k => B k + ∑ t, L t k * H t k := by
  funext i
  pointwise [k0_pay151]
  simp only [c2_apply, mul_coe, sum_coe, add_coe]
  rfl

theorem dlb_block (L : Fin 512 → Fin 1024 → ℝ) (B : Fin 1024 → ℝ) :
    k0_pay152 (F := Ideal) (c2 L) (c2 fun _ : Fin 1 => B) = c2 fun _ k => B k + ∑ t, L t k := by
  funext i
  pointwise [k0_pay152]
  simp only [c2_apply, sum_coe, add_coe]
  rfl

theorem a_block (G : Fin 1024 → ℝ) (L : Fin 512 → Fin 1024 → ℝ) :
    k0_pay153 (F := Ideal) (c2 fun _ : Fin 1 => G) (c2 L) = c2 fun t k => L t k * G k := by
  funext i
  pointwise [k0_pay153]
  simp only [c2_apply, mul_coe]
  rfl

/-! ## The gradient of the inner product -/

theorem dpre_block (P : Fin 512 → Fin 2048 → ℝ) (U A : Fin 512 → Fin 1024 → ℝ) :
    k0_pay154 (F := Ideal) (c2 P) (c2 fun t k => Sgu.phi (P t k)) (c2 fun t _ => Sgu.rs (P t)) (c2 fun t k => Sgu.vhat (P t) k) (c2 U) (c2 A)
      = c2 fun t j => Sgu.dpre (P t) (U t) (A t) j := by
  funext i
  pointwise [k0_pay154]
  have n : (Named.named κ "inv_sqrt_2pi" 1053573674#32 : Ideal .f32) = ((9465531 / 16777216 * Sgu.hr : ℝ) : EReal) := rfl
  rw [n]
  simp only [c2_apply, lit_1024, lit_neg_half, mul_coe, sum_coe, sub_coe, add_coe, div_coe _ _ n1024, Ideal.exp_coe]
  by_cases h : (i 1).val < 1024
  · rw [dif_pos h, mul_coe]
    simp only [Sgu.dpre, dif_pos h, Sgu.slope]
    rfl
  · rw [dif_neg h, mul_coe]
    simp only [Sgu.dpre, dif_neg h, Sgu.slope]
    rfl

theorem dxn_block (P : Fin 512 → Fin 2048 → ℝ) (U A : Fin 512 → Fin 1024 → ℝ) (W X : Fin 1024 → Fin 512 → ℝ) :
    k0_pay155 (F := Ideal) (c2 P) (c2 fun t k => Sgu.phi (P t k)) (c2 fun t _ => Sgu.rs (P t)) (c2 fun t k => Sgu.vhat (P t) k) (c2 U) (c2 A) (c3 fun _ : Fin 1 => W) (c3 fun _ : Fin 1 => X)
      = c2 fun t k => (∑ c : Fin 512, Sgu.dpre (P t) (U t) (A t) ⟨c.val, by omega⟩ * W k c)
        + ∑ c : Fin 512, Sgu.dpre (P t) (U t) (A t) ⟨512 + c.val, by omega⟩ * X k c := by
  funext i
  pointwise [k0_pay155, dpre_block]
  simp only [c2_apply, c3_apply, mul_coe, sum_coe, add_coe]
  rfl

theorem third_block (P : Fin 512 → Fin 2048 → ℝ) (U A : Fin 512 → Fin 1024 → ℝ) :
    k0_pay156 (F := Ideal) (c2 P) (c2 fun t k => Sgu.phi (P t k)) (c2 fun t _ => Sgu.rs (P t)) (c2 fun t k => Sgu.vhat (P t) k) (c2 U) (c2 A)
      = c2 fun t c => Sgu.dpre (P t) (U t) (A t) ⟨1024 + c.val, by omega⟩ := by
  funext i
  pointwise [k0_pay156, dpre_block]
  rfl

theorem win_block (W : Fin 1024 → Fin 512 → ℝ) : k0_pay157 (F := Ideal) (c3 fun _ : Fin 1 => W) = c2 W := by
  funext i
  pointwise [k0_pay157]
  rfl

theorem sum_block (E : Fin 512 → Fin 2048 → ℝ) (Q : Fin 512 → Fin 1024 → ℝ) (T : Fin 512 → Fin 512 → ℝ) (W : Fin 1024 → Fin 512 → ℝ)
    (X : Fin 1024 → Fin 512 → ℝ) :
    k0_pay158 (F := Ideal) (c2 E) (c2 Q) (c2 T) (c2 W) (c3 fun _ : Fin 1 => X)
      = c2 fun t k => Q t k + (∑ c, T t c * W k c) + ∑ c : Fin 512, E t ⟨1536 + c.val, by omega⟩ * X k c := by
  funext i
  pointwise [k0_pay158]
  simp only [c2_apply, c3_apply, mul_coe, sum_coe, add_coe]
  rfl

/-! ## The norm of the layer's input -/

theorem inv_block (X : Fin 512 → Fin 1024 → ℝ) : k0_pay159 (F := Ideal) (c2 X) = c2 fun t _ => inv (X t) := by
  funext i
  pointwise [k0_pay159]
  simp only [c2_apply, lit_1024, lit_eps, mul_coe, sum_coe, add_coe, div_coe _ _ n1024]
  exact rsqrt_msq _

theorem xh_block (X : Fin 512 → Fin 1024 → ℝ) : k0_pay160 (F := Ideal) (c2 X) = c2 fun t k => X t k * inv (X t) := by
  funext i
  pointwise [k0_pay160, inv_block]
  simp only [c2_apply, mul_coe]
  rfl

/-- The gradient of the normalised rows, quarter by quarter of the inner product's columns. -/
def quarters (E : Fin 512 → Fin 2048 → ℝ) (Q : Fin 512 → Fin 1024 → ℝ) (T : Fin 512 → Fin 512 → ℝ) (W : Fin 1024 → Fin 512 → ℝ)
    (X : Fin 1024 → Fin 512 → ℝ) (t : Fin 512) (k : Fin 1024) : ℝ :=
  Q t k + (∑ c, T t c * W k c) + ∑ c : Fin 512, E t ⟨1536 + c.val, by omega⟩ * X k c

theorem dg_block (E : Fin 512 → Fin 2048 → ℝ) (Q : Fin 512 → Fin 1024 → ℝ) (T : Fin 512 → Fin 512 → ℝ) (W : Fin 1024 → Fin 512 → ℝ)
    (X : Fin 1024 → Fin 512 → ℝ) (R : Fin 512 → Fin 1024 → ℝ) (B : Fin 1024 → ℝ) :
    k0_pay161 (F := Ideal) (c2 E) (c2 Q) (c2 T) (c2 W) (c3 fun _ : Fin 1 => X) (c2 R) (c2 fun _ : Fin 1 => B)
      = c2 fun _ k => B k + ∑ t, quarters E Q T W X t k * (R t k * inv (R t)) := by
  funext i
  pointwise [k0_pay161, sum_block, xh_block]
  simp only [c2_apply, mul_coe, sum_coe, add_coe]
  rfl

theorem inner_block (E : Fin 512 → Fin 2048 → ℝ) (Q : Fin 512 → Fin 1024 → ℝ) (T : Fin 512 → Fin 512 → ℝ) (W : Fin 1024 → Fin 512 → ℝ)
    (X : Fin 1024 → Fin 512 → ℝ) (R : Fin 512 → Fin 1024 → ℝ) (G : Fin 1024 → ℝ) :
    k0_pay162 (F := Ideal) (c2 E) (c2 Q) (c2 T) (c2 W) (c3 fun _ : Fin 1 => X) (c2 R) (c2 fun _ : Fin 1 => G)
      = c2 fun t k => quarters E Q T W X t k * G k
        - R t k * inv (R t) * ((∑ j, quarters E Q T W X t j * G j * (R t j * inv (R t))) / 1024) := by
  funext i
  pointwise [k0_pay162, sum_block, xh_block]
  simp only [c2_apply, lit_1024, mul_coe, sum_coe, sub_coe, div_coe _ _ n1024]
  rfl

theorem dx_block (R : Fin 512 → Fin 1024 → ℝ) (D J : Fin 512 → Fin 1024 → ℝ) :
    k0_pay1 (F := Ideal) (c2 fun t _ => inv (R t)) (c2 D) (c2 J) = c2 fun t k => D t k + inv (R t) * J t k := by
  funext i
  pointwise [k0_pay1]
  simp only [c2_apply, mul_coe, add_coe]
  rfl

end Cert.SguBwdIdeal.Body
-- ==== Proof.SguMix.lean ====
/-
  The mixing along the rows in the spatial gating unit's backward body, one chunk of 128 rows and one head of 128 columns at a
  time, and its gradients.
-/
module

public import proofs.«01_k».proof.Proof.SguRow

@[expose] public section

set_option maxRecDepth 16384

noncomputable section

namespace Cert.SguBwdIdeal.Body

open Cert.SguBwdIdeal Cert.SguBwdIdeal.Gen Cert.SguBwdIdeal.Tile Idealize.ShloMosaic Step Step.Sgu

/-- Chunk `q` of a block of 512 rows. -/
def part (V : Fin 512 → Fin 1024 → ℝ) (q : Fin 4) : Fin 128 → Fin 1024 → ℝ := chunk 4 rfl V q

/-- A column of a head is found by head and place. -/
theorem at_hd (k : Fin 1024) : at' (hd k) ⟨k.val % 128, Nat.mod_lt _ (by norm_num)⟩ = k :=
  Fin.ext (Nat.div_add_mod k.val 128)

/-- Every head's product with its part of a chunk, plus its shift, side by side: the mixed chunk. -/
theorem beside_mix (M : Fin 8 → Fin 128 → Fin 128 → ℝ) (b : Fin 128 → Fin 8 → ℝ) (C : Fin 128 → Fin 1024 → ℝ)
    (T : Fin 8 → Fin 128 → Fin 128 → ℝ) (h : ∀ n, T n = fun s c => (∑ j, M n s j * C j (at' n c)) + b s n) : beside T = mix M b C := by
  funext s k
  show T (hd k) s _ = _
  rw [h, mix]
  simp only [at_hd]

/-- Every head's transposed product with its part of a chunk, side by side: the gradient of the mixing. -/
theorem beside_mixT (M : Fin 8 → Fin 128 → Fin 128 → ℝ) (C : Fin 128 → Fin 1024 → ℝ)
    (T : Fin 8 → Fin 128 → Fin 128 → ℝ) (h : ∀ n, T n = fun s c => ∑ j, M n j s * C j (at' n c)) : beside T = mixT M C := by
  funext s k
  show T (hd k) s _ = _
  rw [h, mixT]
  simp only [at_hd]

/-- Four chunks below each other, and eight tiles beside each other, each known. -/
theorem below_congr (a b c d : Fin 128 → Fin 1024 → ℝ) (T : Fin 4 → Fin 128 → Fin 1024 → ℝ)
    (h : a = T 0 ∧ b = T 1 ∧ c = T 2 ∧ d = T 3) : below ![a, b, c, d] = below T := by
  obtain ⟨rfl, rfl, rfl, rfl⟩ := h
  refine congrArg below (funext fun q => ?_)
  fin_cases q <;> rfl

theorem beside_known (a b c d e f g h : Fin 128 → Fin 128 → ℝ) (T : Fin 8 → Fin 128 → Fin 128 → ℝ)
    (k : a = T 0 ∧ b = T 1 ∧ c = T 2 ∧ d = T 3 ∧ e = T 4 ∧ f = T 5 ∧ g = T 6 ∧ h = T 7) : ∀ n, ![a, b, c, d, e, f, g, h] n = T n := by
  obtain ⟨rfl, rfl, rfl, rfl, rfl, rfl, rfl, rfl⟩ := k
  intro n
  fin_cases n <;> rfl

theorem zero_tile : broadcast S128x128 (Scalar.ofBits (F := Ideal) .f32 0x00000000#32) = c2 fun _ _ => 0 := by
  funext i
  exact lit_zero

theorem vo_block (A : Fin 8 → Fin 128 → Fin 128 → ℝ) (b : Fin 128 → Fin 8 → ℝ) (V D : Fin 512 → Fin 1024 → ℝ) (O : Fin 1024 → Fin 1024 → ℝ) :
    k0_pay43 (F := Ideal) (c2 b) (c2 (masked (A 2))) (c2 (masked (A 3))) (c2 (masked (A 4))) (c2 (masked (A 5))) (c2 (masked (A 6))) (c2 (masked (A
      7))) (c2 V) (k0_pay36 (c2 b) (c2 (masked (A 7))) (c2 V) (k0_pay29 (c2 V) (c2 b) (c2 (masked (A 0)))) (k0_pay30 (c2 V) (c2 b) (c2 (masked (A
      1)))) (k0_pay31 (c2 V) (c2 b) (c2 (masked (A 2)))) (k0_pay32 (c2 V) (c2 b) (c2 (masked (A 3)))) (k0_pay33 (c2 V) (c2 b) (c2 (masked (A 4))))
      (k0_pay34 (c2 V) (c2 b) (c2 msk) (c3 fun _ : Fin 1 => A 5)) (k0_pay35 (c2 V) (c2 msk) (c3 fun _ : Fin 1 => A 6))) (k0_pay37 (c2 b) (c2 (masked
      (A 0))) (c2 (masked (A 1))) (c2 (masked (A 2))) (c2 (masked (A 3))) (c2 (masked (A 4))) (c2 (masked (A 5))) (c2 (masked (A 6))) (c2 (masked (A
      7))) (c2 V)) (k0_pay39 (c2 b) (c2 (masked (A 0))) (c2 (masked (A 1))) (c2 (masked (A 2))) (c2 (masked (A 3))) (c2 (masked (A 4))) (c2 (masked (A
      5))) (c2 (masked (A 6))) (c2 (masked (A 7))) (c2 V) (k0_pay38 (c2 V))) (k0_pay40 (c2 b) (c2 (masked (A 0))) (c2 V)) (k0_pay41 (c2 b) (c2 (masked
      (A 1))) (c2 V)) (c2 D) (c2 O)
    = c2 fun t k => dprod D O t k * below (fun q => mix (fun h => masked (A h)) b (part V q)) t k := by
  simp only [k0_pay29, k0_pay30, k0_pay31, k0_pay32, k0_pay33, k0_pay34, k0_pay35, k0_pay36, k0_pay37, k0_pay38, k0_pay39, k0_pay40, k0_pay41, k0_pay43,
    vb_block, w5_block, w6_block, dprod_block, tile_c2, mul_c2, mulT_c2, tmul_c2, col_c2, plus_c2, times_c2, cat8_eq, cat4_eq, cat8_c2, cat4_c2]
  refine congrArg c2 (congrArg (times (dprod D O)) ?_)
  exact below_congr _ _ _ _ _ (by refine ⟨?_, ?_, ?_, ?_⟩ <;> exact beside_mix _ _ _ _ (beside_known _ _ _ _ _ _ _ _ _
    (by refine ⟨?_, ?_, ?_, ?_, ?_, ?_, ?_, ?_⟩ <;> exact funext fun s => funext fun c => by simp only [plus, col, tile, Nat.zero_add]; rfl)))

theorem dvln_block (A : Fin 8 → Fin 128 → Fin 128 → ℝ) (E : Fin 512 → Fin 1024 → ℝ) :
    k0_pay140 (F := Ideal) (c2 (masked (A 6))) (c2 (masked (A 7))) (c2 E) (k0_pay76 (c2 (masked (A 5))) (c2 (masked (A 6))) (c2 (masked (A 7))) (c2 E)
      (k0_pay57 (c2 (masked (A 0))) (c2 E)) (k0_pay60 (c2 (masked (A 1))) (c2 E)) (k0_pay64 (c2 (masked (A 2))) (c2 E)) (k0_pay66 (c2 (masked (A 3)))
      (c2 E)) (k0_pay69 (c2 (masked (A 4))) (c2 E))) (k0_pay96 (c2 (masked (A 5))) (c2 (masked (A 6))) (c2 (masked (A 7))) (c2 E) (k0_pay78 (c2
      (masked (A 0))) (c2 E)) (k0_pay80 (c2 (masked (A 1))) (c2 E)) (k0_pay84 (c2 (masked (A 2))) (k0_pay83 (c2 E))) (k0_pay86 (c2 (masked (A 3))) (c2
      E)) (k0_pay88 (c2 (masked (A 4))) (c2 E))) (k0_pay118 (c2 (masked (A 6))) (c2 (masked (A 7))) (c2 E) (k0_pay99 (c2 (masked (A 0))) (c2 E))
      (k0_pay101 (c2 (masked (A 1))) (c2 E)) (k0_pay104 (c2 (masked (A 2))) (c2 E)) (k0_pay108 (c2 (masked (A 3))) (c2 E)) (k0_pay110 (c2 (masked (A
      4))) (c2 E)) (k0_pay113 (c2 (masked (A 5))) (c2 E))) (k0_pay121 (c2 (masked (A 0))) (c2 E)) (k0_pay124 (c2 (masked (A 1))) (c2 E)) (k0_pay126
      (c2 (masked (A 2))) (c2 E)) (k0_pay130 (c2 (masked (A 3))) (k0_pay129 (c2 E)) (constant S128x128 .f32 0x00000000#32)) (k0_pay132 (c2 (masked (A
      4))) (c2 E)) (k0_pay134 (c2 (masked (A 5))) (c2 E))
    = c2 (below fun q => mixT (fun h => masked (A h)) (part E q)) := by
  simp only [k0_pay57, k0_pay60, k0_pay64, k0_pay66, k0_pay69, k0_pay76, k0_pay78, k0_pay80, k0_pay83, k0_pay84, k0_pay86, k0_pay88, k0_pay96, k0_pay99, k0_pay101,
    k0_pay104, k0_pay108, k0_pay110, k0_pay113, k0_pay118, k0_pay121, k0_pay124, k0_pay126, k0_pay129, k0_pay130, k0_pay132, k0_pay134, k0_pay140,
    tile_c2, mul_c2, mulT_c2, tmul_c2, col_c2, plus_c2, times_c2, cat8_eq, cat4_eq, cat8_c2, cat4_c2]
  exact congrArg c2 (below_congr _ _ _ _ _ (by refine ⟨?_, ?_, ?_, ?_⟩ <;> exact beside_mixT _ _ _ (beside_known _ _ _ _ _ _ _ _ _ (by refine ⟨?_, ?_, ?_, ?_, ?_, ?_, ?_, ?_⟩ <;> rfl))))

/-- The shifts' gradient of a block: each head's row sums, chunk by chunk. -/
theorem shifts_block (E : Fin 512 → Fin 1024 → ℝ) :
    k0_pay138 (F := Ideal) (c2 E) (iota .tc S128x8 32 [1] iota_S128x8_d1_w32) (k0_pay135 (c2 E) (iota .tc S128x8 32 [1] iota_S128x8_d1_w32) (k0_pay127
      (c2 E) (iota .tc S128x8 32 [1] iota_S128x8_d1_w32) (k0_pay119 (c2 E) (iota .tc S128x8 32 [1] iota_S128x8_d1_w32) (k0_pay111 (c2 E) (iota .tc
      S128x8 32 [1] iota_S128x8_d1_w32) (k0_pay102 (c2 E) (iota .tc S128x8 32 [1] iota_S128x8_d1_w32) (k0_pay94 (c2 E) (iota .tc S128x8 32 [1]
      iota_S128x8_d1_w32) (k0_pay89 (c2 E) (iota .tc S128x8 32 [1] iota_S128x8_d1_w32) (k0_pay81 (c2 E) (iota .tc S128x8 32 [1] iota_S128x8_d1_w32)
      (k0_pay74 (c2 E) (iota .tc S128x8 32 [1] iota_S128x8_d1_w32) (k0_pay67 (c2 E) (iota .tc S128x8 32 [1] iota_S128x8_d1_w32) (k0_pay58 (c2 E) (iota
      .tc S128x8 32 [1] iota_S128x8_d1_w32) k0_pay47) (k0_pay61 (iota .tc S128x8 32 [1] iota_S128x8_d1_w32)) (k0_pay62 (c2 E)) (FloatOps.ofBits .f32
      0x00000000#32)) (k0_pay70 (iota .tc S128x8 32 [1] iota_S128x8_d1_w32)) (k0_pay71 (c2 E))) 0#32))) (k0_pay97 (c2 E) (iota .tc S128x8 32 [1]
      iota_S128x8_d1_w32))) (k0_pay105 (iota .tc S128x8 32 [1] iota_S128x8_d1_w32)) (FloatOps.ofBits .f32 0x00000000#32) (k0_pay106 (c2 E))) (k0_pay114
      (iota .tc S128x8 32 [1] iota_S128x8_d1_w32)) (k0_pay115 (c2 E))) k0_pay122))
    = c2 fun s h => ∑ q, dshift (part E q) s h := by
  have e (n : BitVec 32) (h : n.toNat < 8) := fun X => inHead_c2 X n h
  simp only [k0_pay47, k0_pay58, k0_pay61, k0_pay62, k0_pay67, k0_pay70, k0_pay71, k0_pay74, k0_pay81, k0_pay89, k0_pay94, k0_pay97, k0_pay102, k0_pay105,
    k0_pay106, k0_pay111, k0_pay114, k0_pay115, k0_pay119, k0_pay122, k0_pay127, k0_pay135, k0_pay138,
    zero_shift, e 0#32 (by decide), e 1#32 (by decide), e 2#32 (by decide), e 3#32 (by decide), e 4#32 (by decide), e 5#32 (by decide),
    e 6#32 (by decide), e 7#32 (by decide), tile_c2, plus_c2]
  refine congrArg c2 ?_
  funext s h
  rw [Fin.sum_univ_four]
  fin_cases h <;> simp [plus, inHead, dshift, part, chunk, at', tile]

/-- The gradient of a head's full matrix from a block, chunk by chunk. -/
def dmats (E V : Fin 512 → Fin 1024 → ℝ) (h : Fin 8) (s j : Fin 128) : ℝ :=
  0 + dmat (part E 0) (part V 0) h s j + dmat (part E 1) (part V 1) h s j + dmat (part E 2) (part V 2) h s j + dmat (part E 3) (part V 3) h s j

/-- The gradients of the eight heads' matrices from a block. -/
theorem mats_block (E V : Fin 512 → Fin 1024 → ℝ) :
    k0_pay120 (F := Ideal) (c2 E) (c2 V) (k0_pay98 (c2 E) (c2 V) (k0_pay77 (c2 E) (c2 V) (k0_pay56 (c2 E) (c2 V) k0_pay48))) = c2 (dmats E V 0) ∧
    k0_pay123 (F := Ideal) (c2 E) (c2 V) (k0_pay100 (c2 E) (c2 V) (k0_pay79 (c2 E) (c2 V) (k0_pay59 (c2 E) (c2 V) k0_pay49))) = c2 (dmats E V 1) ∧
    k0_pay125 (F := Ideal) (c2 E) (c2 V) (k0_pay103 (c2 E) (c2 V) (k0_pay82 (c2 E) (c2 V) (k0_pay63 (c2 E) (c2 V) k0_pay50))) = c2 (dmats E V 2) ∧
    k0_pay128 (F := Ideal) (c2 E) (c2 V) (k0_pay107 (c2 E) (c2 V) (k0_pay85 (c2 E) (c2 V) (k0_pay65 (c2 E) (c2 V) k0_pay51))) = c2 (dmats E V 3) ∧
    k0_pay131 (F := Ideal) (c2 E) (c2 V) (k0_pay109 (c2 E) (c2 V) (k0_pay87 (c2 E) (c2 V) (k0_pay68 (c2 E) (c2 V) k0_pay52))) = c2 (dmats E V 4) ∧
    k0_pay133 (F := Ideal) (c2 E) (c2 V) (k0_pay112 (c2 E) (c2 V) (k0_pay92 (k0_pay72 (c2 E) (c2 V) k0_pay53) (k0_pay90 (c2 E)) (k0_pay91 (c2 V))
      (constant S128x128 .f32 0x00000000#32))) = c2 (dmats E V 5) ∧
    k0_pay137 (F := Ideal) (k0_pay116 (c2 E) (c2 V) (k0_pay93 (c2 E) (c2 V) (k0_pay73 (c2 E) (c2 V) k0_pay54))) (k0_pay136 (c2 E) (c2 V)) = c2 (dmats E V 6) ∧
    k0_pay139 (F := Ideal) (c2 E) (c2 V) (k0_pay117 (c2 E) (c2 V) (k0_pay95 (c2 E) (c2 V) (k0_pay75 (c2 E) (c2 V) k0_pay55))) = c2 (dmats E V 7) := by
  simp only [k0_pay48, k0_pay49, k0_pay50, k0_pay51, k0_pay52, k0_pay53, k0_pay54, k0_pay55, k0_pay56, k0_pay59, k0_pay63, k0_pay65, k0_pay68, k0_pay72, k0_pay73,
    k0_pay75, k0_pay77, k0_pay79, k0_pay82, k0_pay85, k0_pay87, k0_pay90, k0_pay91, k0_pay92, k0_pay93, k0_pay95, k0_pay98, k0_pay100, k0_pay103,
    k0_pay107, k0_pay109, k0_pay112, k0_pay116, k0_pay117, k0_pay120, k0_pay123, k0_pay125, k0_pay128, k0_pay131, k0_pay133, k0_pay136, k0_pay137,
    k0_pay139,
    zero_tile, tile_c2, mulT_c2, plus_c2]
  refine ⟨?_, ?_, ?_, ?_, ?_, ?_, ?_, ?_⟩ <;> rfl

end Cert.SguBwdIdeal.Body
-- ==== Proof.SguEntry.lean ====
/-
  What the spatial gating unit's backward call finds when its region starts, over real arguments: the packed weights, the
  forward's inner product, and the blocks the pipeline stages at a grid point.
-/
module

public import proofs.«01_k».proof.Proof.Gen.SguBwdIdeal.Value
public import proofs.«01_k».proof.Proof.SguSpec
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.SguBwdIdeal.Entry

open Cert.SguBwdIdeal Cert.SguBwdIdeal.Gen Idealize.ShloMosaic Idealize.ShloMosaic.TcCoe Idealize.SL.Sem Step

variable (m : (ℓ : Loc nD τ sig) → Buf (Elt Ideal) ℓ)

/-- The call's arguments on device `c` are arrays of real numbers. -/
structure Real (c : Dev nD) where
  X : Fin 8192 → Fin 1024 → ℝ
  G : Fin 1024 → ℝ
  W : Fin 1024 → Fin 2048 → ℝ
  LG : Fin 1024 → ℝ
  LB : Fin 1024 → ℝ
  S : Fin 8 → Fin 128 → Fin 128 → ℝ
  B : Fin 8 → Fin 128 → ℝ
  O : Fin 1024 → Fin 1024 → ℝ
  D : Fin 8192 → Fin 1024 → ℝ
  hX : m ((c : Thread nD τ).loc main_arg0) = c2 X
  hG : m ((c : Thread nD τ).loc main_arg1) = c1 G
  hW : m ((c : Thread nD τ).loc main_arg2) = c2 W
  hLG : m ((c : Thread nD τ).loc main_arg3) = c1 LG
  hLB : m ((c : Thread nD τ).loc main_arg4) = c1 LB
  hS : m ((c : Thread nD τ).loc main_arg5) = c3 S
  hB : m ((c : Thread nD τ).loc main_arg6) = c2 B
  hO : m ((c : Thread nD τ).loc main_arg7) = c2 O
  hD : m ((c : Thread nD τ).loc main_arg8) = c2 D

variable {m} {c : Dev nD} (a : Real m c)

/-- Column `j` of the `q`-th quarter of the inner weights' columns. -/
def quarter (q : ℕ) (hq : q < 4) (j : Fin 512) : Fin 2048 := ⟨q * 512 + j.val, by omega⟩

/-- The inner product's row. -/
def pre (x g : Fin 1024 → ℝ) (W : Fin 1024 → Fin 2048 → ℝ) (j : Fin 2048) : ℝ := ∑ k, x k * inv x * g k * W k j

/-- The inner weights, packed by quarters of their columns. -/
theorem win_entry : (V m c main_v2 : S4x1024x512.Idx → EReal) = c3 fun q k j => a.W k (quarter q.val q.isLt j) := by
  entry_read
  rw [a.hW]
  funext i
  pointwise
  simp only [c2_apply, c3_apply]
  rfl

/-- The outer weights, packed by quarters of their rows. -/
theorem wout_entry : (V m c main_v4 : S4x256x1024.Idx → EReal) = c3 fun q j k => a.O ⟨q.val * 256 + j.val, by omega⟩ k := by
  entry_read
  rw [a.hO]
  funext i
  pointwise
  simp only [c2_apply, c3_apply]
  rfl

/-- The forward's inner product. -/
theorem h_entry : (V m c main_v20 : S8192x2048.Idx → EReal) = c2 fun t j => pre (a.X t) a.G a.W j := by
  entry_read
  rw [a.hX, a.hG, a.hW]
  funext i
  pointwise
  simp only [c1_apply, c2_apply, lit_1024, lit_eps, mul_coe, sum_coe, add_coe, div_coe _ _ (show (1024 : ℝ) ≠ 0 by norm_num)]
  simp only [ix2_0, ix2_1, rsqrt_ms, mul_coe, sum_coe]
  rfl

/-- Row `r` of the block staged at grid point `t`. -/
def row (t : Fin cfg0.N) (r : Fin 512) : Fin 8192 := ⟨t.val * 512 + r.val, by have := t.isLt; have : cfg0.N = 16 := N_0; omega⟩

theorem x_block (t : Fin cfg0.N) : iblk m c 0 t = c2 fun r k => a.X (row t r) k := by
  have idx : ∀ t : Fin cfg0.N, win0_0.index t = ![t.val, 0] := (by decide +kernel : ∀ t : Fin grid0.N, _)
  funext i
  have e : iblk m c 0 t i = (c2 a.X : S8192x1024.Idx → EReal) (ix2 (row t (i 0)) (i 1)) := by
    rw [← a.hX]
    blk_ext [iblk, V, row, idx t]
  exact e

theorem d_block (t : Fin cfg0.N) : iblk m c 1 t = c2 fun r k => a.D (row t r) k := by
  have idx : ∀ t : Fin cfg0.N, win0_1.index t = ![t.val, 0] := (by decide +kernel : ∀ t : Fin grid0.N, _)
  funext i
  have e : iblk m c 1 t i = (c2 a.D : S8192x1024.Idx → EReal) (ix2 (row t (i 0)) (i 1)) := by
    rw [← a.hD]
    blk_ext [iblk, V, row, idx t]
  exact e

theorem h_block (t : Fin cfg0.N) : iblk m c 2 t = c2 fun r j => pre (a.X (row t r)) a.G a.W j := by
  have idx : ∀ t : Fin cfg0.N, win0_2.index t = ![t.val, 0] := (by decide +kernel : ∀ t : Fin grid0.N, _)
  funext i
  have e : iblk m c 2 t i = (V m c main_v20 : S8192x2048.Idx → EReal) (ix2 (row t (i 0)) (i 1)) := by
    blk_ext [iblk, row, idx t]
  rw [e, h_entry a]
  rfl

theorem g_block (t : Fin cfg0.N) : iblk m c 3 t = c2 fun (_ : Fin 1) k => a.G k := by
  have idx : ∀ t : Fin cfg0.N, win0_3.index t = ![0, 0] := (by decide +kernel : ∀ t : Fin grid0.N, _)
  funext i
  have e : iblk m c 3 t i = (V m c main_v5 : S1x1024.Idx → EReal) (ix2 (i 0) (i 1)) := by
    blk_ext [iblk, idx t]
  rw [e]
  entry_read
  rw [a.hG]
  pointwise
  rfl

theorem lg_stage (t : Fin cfg0.N) : iblk m c 4 t = c2 fun (_ : Fin 1) k => a.LG k := by
  have idx : ∀ t : Fin cfg0.N, win0_4.index t = ![0, 0] := (by decide +kernel : ∀ t : Fin grid0.N, _)
  funext i
  have e : iblk m c 4 t i = (V m c main_v21 : S1x1024.Idx → EReal) (ix2 (i 0) (i 1)) := by
    blk_ext [iblk, idx t]
  rw [e]
  entry_read
  rw [a.hLG]
  pointwise
  rfl

theorem lb_stage (t : Fin cfg0.N) : iblk m c 5 t = c2 fun (_ : Fin 1) k => a.LB k := by
  have idx : ∀ t : Fin cfg0.N, win0_5.index t = ![0, 0] := (by decide +kernel : ∀ t : Fin grid0.N, _)
  funext i
  have e : iblk m c 5 t i = (V m c main_v22 : S1x1024.Idx → EReal) (ix2 (i 0) (i 1)) := by
    blk_ext [iblk, idx t]
  rw [e]
  entry_read
  rw [a.hLB]
  pointwise
  rfl

theorem s_block (t : Fin cfg0.N) : iblk m c 6 t = c3 a.S := by
  have idx : ∀ t : Fin cfg0.N, win0_6.index t = ![0, 0, 0] := (by decide +kernel : ∀ t : Fin grid0.N, _)
  funext i
  have e : iblk m c 6 t i = (c3 a.S : S8x128x128.Idx → EReal) (ix3 (i 0) (i 1) (i 2)) := by
    rw [← a.hS]
    blk_ext [iblk, V, idx t]
  exact e

theorem b_block (t : Fin cfg0.N) : iblk m c 7 t = c2 fun s h => a.B h s := by
  have idx : ∀ t : Fin cfg0.N, win0_7.index t = ![0, 0] := (by decide +kernel : ∀ t : Fin grid0.N, _)
  funext i
  have e : iblk m c 7 t i = (V m c main_v23 : S128x8.Idx → EReal) (ix2 (i 0) (i 1)) := by
    blk_ext [iblk, idx t]
  rw [e]
  entry_read
  rw [a.hB]
  pointwise
  rfl

end Cert.SguBwdIdeal.Entry
-- ==== Proof.SguHeld.lean ====
/-
  The weights the spatial gating unit's backward call copies into its scratch at the first grid point and keeps: what the scratch holds at
  every point.
-/
module

public import proofs.«01_k».proof.Proof.SguEntry
public import Idealize.ShloMosaic.Lib.Pipeline.ValueKit.Held

@[expose] public section

set_option maxRecDepth 16384

noncomputable section

namespace Cert.SguBwdIdeal.Entry

open Cert.SguBwdIdeal Cert.SguBwdIdeal.Gen Idealize.ShloMosaic Idealize.ShloMosaic.TcCoe Idealize.SL.Sem Step

variable {m : (ℓ : Loc nD τ sig) → Buf (Elt Ideal) ℓ} {c : Dev nD} (a : Real m c)

/-- The inner weights' scratch. -/
def win : S4x1024x512.Idx → EReal := c3 fun q k j => a.W k (quarter q.val q.isLt j)
/-- The outer weights' scratch. -/
def wout : S1024x1024.Idx → EReal := c2 a.O

/-- The slices copied into the inner weights' scratch fill it. -/
theorem win_pieces (h3 h2 h1 h0) (i : S4x1024x512.Idx) :
    View.canon (Val := Elt Ideal) (s := S4x1024x512) (e := .bf16)
      [⟨Rect.unit ![3, 0, 0] ![1, 1024, 512] h3, ReadAs.same.apply (View.read (Elt Ideal) ((View.whole main_v2).slice (Rect.unit ![3, 0, 0] ![1, 1024, 512] h3)) (V m c main_v2))⟩,
       ⟨Rect.unit ![2, 0, 0] ![1, 1024, 512] h2, ReadAs.same.apply (View.read (Elt Ideal) ((View.whole main_v2).slice (Rect.unit ![2, 0, 0] ![1, 1024, 512] h2)) (V m c main_v2))⟩,
       ⟨Rect.unit ![1, 0, 0] ![1, 1024, 512] h1, ReadAs.same.apply (View.read (Elt Ideal) ((View.whole main_v2).slice (Rect.unit ![1, 0, 0] ![1, 1024, 512] h1)) (V m c main_v2))⟩,
       ⟨Rect.unit ![0, 0, 0] ![1, 1024, 512] h0, ReadAs.same.apply (View.read (Elt Ideal) ((View.whole main_v2).slice (Rect.unit ![0, 0, 0] ![1, 1024, 512] h0)) (V m c main_v2))⟩] i
      = win a i := by
  rw [← List.append_nil (_ :: _)]
  refine (View.canon_append_of_piecesOf (win a) [] _ ?_ _ (View.cover_of_tiledL _ ![1, 1024, 512] (by sl_kernel_rfl) _)).trans rfl
  rw [win, ← win_entry a]
  exact ⟨fun x => rfl, fun x => rfl, fun x => rfl, fun x => rfl, trivial⟩

/-- Read back, the inner weights' scratch so filled is the inner weights. -/
theorem win_fill (v : View sig .tc .vmem S4x1024x512 .bf16) (h3 h2 h1 h0) (B : Rect S4x1024x512) :
    v.readCov (Val := Elt Ideal)
      [⟨Rect.unit ![3, 0, 0] ![1, 1024, 512] h3, ReadAs.same.apply (View.read (Elt Ideal) ((View.whole main_v2).slice (Rect.unit ![3, 0, 0] ![1, 1024, 512] h3)) (V m c main_v2))⟩,
       ⟨Rect.unit ![2, 0, 0] ![1, 1024, 512] h2, ReadAs.same.apply (View.read (Elt Ideal) ((View.whole main_v2).slice (Rect.unit ![2, 0, 0] ![1, 1024, 512] h2)) (V m c main_v2))⟩,
       ⟨Rect.unit ![1, 0, 0] ![1, 1024, 512] h1, ReadAs.same.apply (View.read (Elt Ideal) ((View.whole main_v2).slice (Rect.unit ![1, 0, 0] ![1, 1024, 512] h1)) (V m c main_v2))⟩,
       ⟨Rect.unit ![0, 0, 0] ![1, 1024, 512] h0, ReadAs.same.apply (View.read (Elt Ideal) ((View.whole main_v2).slice (Rect.unit ![0, 0, 0] ![1, 1024, 512] h0)) (V m c main_v2))⟩] B.toLoadRect
      = View.ld (win a) B := by
  rw [View.readCov_eq_canon']
  funext j
  exact win_pieces a h3 h2 h1 h0 _

/-- A slab of 256 rows, its leading axis of size one dropped. -/
theorem slab (Y : FVec Ideal S1x256x1024 .bf16) (f : S1x256x1024.ShapeCasts S256x1024) (x : S256x1024.Idx) :
    shapeCast S256x1024 Y f x = Y (ix3 0 (x 0) (x 1)) := by
  pointwise

/-- The slab copied into a quarter of the outer weights' rows is that quarter. -/
theorem wout_slice (q r : ℕ) (hq : q < 4) (hr : r = q * 256) (e : ∀ b, ![q, 0, 0] b + ![1, 256, 1024] b ≤ S4x256x1024.size b) (f : S1x256x1024.ShapeCasts S256x1024)
    (h : ∀ b, ![r, 0] b + ![256, 1024] b ≤ S1024x1024.size b) (x : (Rect.unit (s := S1024x1024) ![r, 0] ![256, 1024] h).shape.Idx) :
    ReadAs.same.apply (View.read (Elt Ideal) (((View.whole main_v4).slice (Rect.unit ![q, 0, 0] ![1, 256, 1024] e)).reshape S256x1024 f) (V m c main_v4)) x
      = wout a ((Rect.unit ![r, 0] ![256, 1024] h).emb x) := by
  refine (slab (View.ld (V m c main_v4 : S4x256x1024.Idx → EReal) (Rect.unit ![q, 0, 0] ![1, 256, 1024] e)) f x).trans ?_
  rw [wout_entry a]
  unfold wout
  show ((a.O _ _ : ℝ) : EReal) = ((a.O _ _ : ℝ) : EReal)
  congr 2
  · apply Fin.ext
    show (q + 1 * 0) * 256 + (0 + 1 * (x 0).val) = r + 1 * (x 0).val
    omega
/-- The slabs copied into the outer weights' scratch fill it. -/
theorem wout_pieces (h3 h2 h1 h0 e3 e2 e1 e0 f3 f2 f1 f0) (i : S1024x1024.Idx) :
    View.canon (Val := Elt Ideal) (s := S1024x1024) (e := .bf16)
      [⟨Rect.unit ![768, 0] ![256, 1024] h3, ReadAs.same.apply (View.read (Elt Ideal) (((View.whole main_v4).slice (Rect.unit ![3, 0, 0] ![1, 256, 1024] e3)).reshape S256x1024 f3) (V m c main_v4))⟩,
       ⟨Rect.unit ![512, 0] ![256, 1024] h2, ReadAs.same.apply (View.read (Elt Ideal) (((View.whole main_v4).slice (Rect.unit ![2, 0, 0] ![1, 256, 1024] e2)).reshape S256x1024 f2) (V m c main_v4))⟩,
       ⟨Rect.unit ![256, 0] ![256, 1024] h1, ReadAs.same.apply (View.read (Elt Ideal) (((View.whole main_v4).slice (Rect.unit ![1, 0, 0] ![1, 256, 1024] e1)).reshape S256x1024 f1) (V m c main_v4))⟩,
       ⟨Rect.unit ![0, 0] ![256, 1024] h0, ReadAs.same.apply (View.read (Elt Ideal) (((View.whole main_v4).slice (Rect.unit ![0, 0, 0] ![1, 256, 1024] e0)).reshape S256x1024 f0) (V m c main_v4))⟩] i
      = wout a i := by
  rw [← List.append_nil (_ :: _)]
  refine (View.canon_append_of_piecesOf (wout a) [] _ ?_ _ (View.cover_of_tiledL _ ![256, 1024] (by sl_kernel_rfl) _)).trans rfl
  refine ⟨fun x => ?_, fun x => ?_, fun x => ?_, fun x => ?_, trivial⟩
  · exact wout_slice a 3 768 (by decide) (by decide) e3 f3 h3 x
  · exact wout_slice a 2 512 (by decide) (by decide) e2 f2 h2 x
  · exact wout_slice a 1 256 (by decide) (by decide) e1 f1 h1 x
  · exact wout_slice a 0 0 (by decide) (by decide) e0 f0 h0 x

/-- Read back, the outer weights' scratch so filled is the outer weights. -/
theorem wout_fill (v : View sig .tc .vmem S1024x1024 .bf16) (h3 h2 h1 h0 e3 e2 e1 e0 f3 f2 f1 f0) (B : Rect S1024x1024) :
    v.readCov (Val := Elt Ideal)
      [⟨Rect.unit ![768, 0] ![256, 1024] h3, ReadAs.same.apply (View.read (Elt Ideal) (((View.whole main_v4).slice (Rect.unit ![3, 0, 0] ![1, 256, 1024] e3)).reshape S256x1024 f3) (V m c main_v4))⟩,
       ⟨Rect.unit ![512, 0] ![256, 1024] h2, ReadAs.same.apply (View.read (Elt Ideal) (((View.whole main_v4).slice (Rect.unit ![2, 0, 0] ![1, 256, 1024] e2)).reshape S256x1024 f2) (V m c main_v4))⟩,
       ⟨Rect.unit ![256, 0] ![256, 1024] h1, ReadAs.same.apply (View.read (Elt Ideal) (((View.whole main_v4).slice (Rect.unit ![1, 0, 0] ![1, 256, 1024] e1)).reshape S256x1024 f1) (V m c main_v4))⟩,
       ⟨Rect.unit ![0, 0] ![256, 1024] h0, ReadAs.same.apply (View.read (Elt Ideal) (((View.whole main_v4).slice (Rect.unit ![0, 0, 0] ![1, 256, 1024] e0)).reshape S256x1024 f0) (V m c main_v4))⟩] B.toLoadRect
      = View.ld (wout a) B := by
  rw [View.readCov_eq_canon']
  funext j
  exact wout_pieces a h3 h2 h1 h0 e3 e2 e1 e0 f3 f2 f1 f0 _

/-- At every grid point the scratch holds the inner weights … -/
theorem win_held (t : Fin cfg0.N) : (outsAt0 m c t.val t.isLt).2.2.2.2.2.2.2.1 = win a := by
  funext i
  refine Pipeline.eq_of_write_hold_apply (fun n h => (outsAt0 m c n h).2.2.2.2.2.2.2.1) 16 (fun _ => win a) (fun t h i => ?_) (fun t h i => ?_) t i
  · rw [outsAt0_A m c t h h]
    frame_out
    exact win_pieces a _ _ _ _ i
  · rw [outsAt0_B m c t h h]
    rfl

/-- … and the outer weights. -/
theorem wout_held (t : Fin cfg0.N) : (outsAt0 m c t.val t.isLt).2.2.2.2.2.2.2.2 = wout a := by
  funext i
  refine Pipeline.eq_of_write_hold_apply (fun n h => (outsAt0 m c n h).2.2.2.2.2.2.2.2) 16 (fun _ => wout a) (fun t h i => ?_) (fun t h i => ?_) t i
  · rw [outsAt0_A m c t h h]
    frame_out
    exact wout_pieces a _ _ _ _ _ _ _ _ _ _ _ _ i
  · rw [outsAt0_B m c t h h]
    rfl

end Cert.SguBwdIdeal.Entry
-- ==== Proof.SguOuts.lean ====
/-
  What the spatial gating unit's backward body leaves at a grid point: the block of each result, in real numbers.
-/
module

public import proofs.«01_k».proof.Proof.SguMix
public import proofs.«01_k».proof.Proof.SguHeld
public import Idealize.ShloMosaic.Lib.Pipeline.ReadBack

@[expose] public section

set_option maxRecDepth 16384

noncomputable section

namespace Cert.SguBwdIdeal.Entry

open Cert.SguBwdIdeal Cert.SguBwdIdeal.Gen Cert.SguBwdIdeal.Tile Idealize.ShloMosaic Idealize.ShloMosaic.TcCoe Idealize.SL.Sem Step Step.Sgu Body

variable {m : (ℓ : Loc nD τ sig) → Buf (Elt Ideal) ℓ} {c : Dev nD} (a : Real m c)

/-! ## Reading a tile -/

theorem ld_w (q : ℕ) (hq : q < 4) (h) :
    View.ld (Val := Elt Ideal) (e' := .bf16) (win a) (Rect.unit (s := S4x1024x512) ![q, 0, 0] ![1, 1024, 512] h)
      = c3 fun (_ : Fin 1) k j => a.W k (quarter q hq j) := by
  funext i
  show ((a.W _ _ : ℝ) : EReal) = ((a.W _ _ : ℝ) : EReal)
  have h0 : (i 0).val < 1 := (i 0).isLt
  congr 2
  · apply Fin.ext
    show 0 + 1 * (i 1).val = (i 1).val
    omega
  · apply Fin.ext
    show (q + 1 * (i 0).val) * 512 + (0 + 1 * (i 2).val) = q * 512 + (i 2).val
    have : (i 0).val = 0 := by omega
    rw [this]; omega

theorem ld_o (h) : View.ld (Val := Elt Ideal) (e' := .bf16) (wout a) (Rect.unit (s := S1024x1024) ![0, 0] ![1024, 1024] h) = c2 a.O := by
  funext i
  show ((a.O _ _ : ℝ) : EReal) = ((a.O _ _ : ℝ) : EReal)
  congr 2
  · apply Fin.ext
    show 0 + 1 * (i 0).val = (i 0).val
    omega
  · apply Fin.ext
    show 0 + 1 * (i 1).val = (i 1).val
    omega

/-- Slab `n` of eight square matrices. -/
theorem ld_s (S : Fin 8 → Fin 128 → Fin 128 → ℝ) (n : ℕ) (k : Fin 8) (hk : k.val = n) (h) :
    View.ld (Val := Elt Ideal) (e' := .f32) (c3 S : S8x128x128.Idx → EReal) (Rect.unit (s := S8x128x128) ![n, 0, 0] ![1, 128, 128] h)
      = c3 fun (_ : Fin 1) => S k := by
  funext i
  show ((S _ _ _ : ℝ) : EReal) = ((S _ _ _ : ℝ) : EReal)
  have h0 : (i 0).val < 1 := (i 0).isLt
  have e0 : (⟨n + 1 * (i 0).val, by have := k.isLt; omega⟩ : Fin 8) = k := Fin.ext (by show n + 1 * (i 0).val = k.val; omega)
  have e1 : (⟨0 + 1 * (i 1).val, by have : (i 1).val < 128 := (i 1).isLt; omega⟩ : Fin 128) = i 1 := Fin.ext (by show 0 + 1 * (i 1).val = (i 1).val; omega)
  have e2 : (⟨0 + 1 * (i 2).val, by have : (i 2).val < 128 := (i 2).isLt; omega⟩ : Fin 128) = i 2 := Fin.ext (by show 0 + 1 * (i 2).val = (i 2).val; omega)
  exact congrArg (fun x : ℝ => (x : EReal)) (congr (congrArg₂ S e0 e1) e2)

/-! ## A block's gradients -/

/-- The inner product's row of the block's row `r`. -/
abbrev hrow (t : Fin cfg0.N) (r : Fin 512) : Fin 2048 → ℝ := pre (a.X (row t r)) a.G a.W
abbrev drow (t : Fin cfg0.N) (r : Fin 512) : Fin 1024 → ℝ := a.D (row t r)
/-- The block's normalised values. -/
def vln' (t : Fin cfg0.N) (r : Fin 512) (k : Fin 1024) : ℝ := vln (hrow a t r) a.LG a.LB k
/-- The factor's gradient. -/
def du (t : Fin cfg0.N) (r : Fin 512) (k : Fin 1024) : ℝ :=
  dprod (drow a t) a.O r k * below (fun q => mix (fun h => masked (a.S h)) (fun s h => a.B h s) (part (vln' a t) q)) r k
/-- The mixed values' gradient. -/
def dvo (t : Fin cfg0.N) (r : Fin 512) (k : Fin 1024) : ℝ := dprod (drow a t) a.O r k * u (hrow a t r) k
/-- The normalised values' gradient. -/
def dvln (t : Fin cfg0.N) : Fin 512 → Fin 1024 → ℝ := below fun q => mixT (fun h => masked (a.S h)) (part (dvo a t) q)
/-- The inner product's gradient. -/
def dpre' (t : Fin cfg0.N) (r : Fin 512) : Fin 2048 → ℝ := Sgu.dpre (hrow a t r) (du a t r) (fun k => dvln a t r k * a.LG k)

theorem win_before (t : Fin cfg0.N) (h) : (outsAt0 m c (t.val - 1) h).2.2.2.2.2.2.2.1 = win a := win_held a ⟨t.val - 1, h⟩
theorem wout_before (t : Fin cfg0.N) (h) : (outsAt0 m c (t.val - 1) h).2.2.2.2.2.2.2.2 = wout a := wout_held a ⟨t.val - 1, h⟩

theorem dpre_out (t : Fin cfg0.N) : (outsAt0 m c t.val t.isLt).2.1 = c2 fun r j => dpre' a t r j := by
  by_cases h : t.val % 16 = 0
  on_goal 1 => rw [outsAt0_A m c t h h]; frame_out; simp only [win_fill a, wout_fill a]
  on_goal 2 => rw [outsAt0_B m c t h h]; frame_out; simp only [read_unread_whole, win_before a, wout_before a]
  all_goals
    simp only [x_block a, d_block a, h_block a, g_block a, lg_stage a, lb_stage a, s_block a, b_block a, ld_o a, ld_w a 0 (by decide), ld_w a 1 (by decide), ld_w a 2 (by decide), ld_w a 3 (by decide),
      ld_s _ 0 0 rfl, ld_s _ 1 1 rfl, ld_s _ 2 2 rfl, ld_s _ 3 3 rfl, ld_s _ 4 4 rfl, ld_s _ 5 5 rfl, ld_s _ 6 6 rfl, ld_s _ 7 7 rfl]
    simp only [pre_block, lg_block, lb_block, phi_block, u_block, vc_block, sq_block, rs_block, vhat_block, vln_block, shift_block, mask_block, w0_block, w1_block, w2_block,
      w3_block, w4_block, w5_block, w6_block, w7_block, dvo_block, dvo_block', vb_block, vb_block', wout]
    simp only [vo_block a.S, dvln_block a.S, a_block, dpre_block]
    rfl

/-- The normalised row's gradient, quarter of the inner weights by quarter. -/
def dxn (t : Fin cfg0.N) (r : Fin 512) (k : Fin 1024) : ℝ := ∑ j, dpre' a t r j * a.W k j

theorem sum_four (f : Fin 2048 → ℝ) : (((∑ j : Fin 512, f ⟨j.val, by omega⟩) + ∑ j : Fin 512, f ⟨512 + j.val, by omega⟩)
    + ∑ j : Fin 512, f ⟨1024 + j.val, by omega⟩) + ∑ j : Fin 512, f ⟨1536 + j.val, by omega⟩ = ∑ j, f j := by
  refine Eq.symm ((sum_blocks 4 512 f).trans ?_)
  rw [Fin.sum_univ_four]
  refine congrArg₂ _ (congrArg₂ _ (congrArg₂ _ ?_ ?_) ?_) ?_ <;> exact Finset.sum_congr rfl fun j _ => congrArg f (Fin.ext (by simp))

theorem quarters_eq (t : Fin cfg0.N) :
    quarters (dpre' a t)
      (fun t' k => (∑ c : Fin 512, dpre' a t t' ⟨c.val, by omega⟩ * a.W k (quarter 0 (by decide) c))
        + ∑ c : Fin 512, dpre' a t t' ⟨512 + c.val, by omega⟩ * a.W k (quarter 1 (by decide) c))
      (fun t' c => dpre' a t t' ⟨1024 + c.val, by omega⟩) (fun k j => a.W k (quarter 2 (by decide) j)) (fun k j => a.W k (quarter 3 (by decide) j))
      = dxn a t := by
  funext r k
  rw [dxn, ← sum_four, quarters]
  refine congrArg₂ _ (congrArg₂ _ (congrArg₂ _ ?_ ?_) ?_) ?_ <;>
    exact Finset.sum_congr rfl fun j _ => congrArg (fun q => dpre' a t r _ * a.W k q) (Fin.ext (by simp [quarter]))

theorem dx_out (t : Fin cfg0.N) : (outsAt0 m c t.val t.isLt).1 = c2 fun r k => a.D (row t r) k + inv (a.X (row t r)) * (dxn a t r k * a.G k - a.X (row t r) k * inv (a.X (row t r)) * ((∑ j, dxn a t r j * a.G j * (a.X (row t r) j * inv (a.X (row t r)))) / 1024)) := by
  by_cases h : t.val % 16 = 0
  on_goal 1 => rw [outsAt0_A m c t h h]; frame_out; simp only [win_fill a, wout_fill a]
  on_goal 2 => rw [outsAt0_B m c t h h]; frame_out; simp only [read_unread_whole, win_before a, wout_before a]
  all_goals
    simp only [x_block a, d_block a, h_block a, g_block a, lg_stage a, lb_stage a, s_block a, b_block a, ld_o a, ld_w a 0 (by decide), ld_w a 1 (by decide), ld_w a 2 (by decide), ld_w a 3 (by decide),
      ld_s _ 0 0 rfl, ld_s _ 1 1 rfl, ld_s _ 2 2 rfl, ld_s _ 3 3 rfl, ld_s _ 4 4 rfl, ld_s _ 5 5 rfl, ld_s _ 6 6 rfl, ld_s _ 7 7 rfl]
    simp only [pre_block, lg_block, lb_block, phi_block, u_block, vc_block, sq_block, rs_block, vhat_block, vln_block, shift_block, mask_block, w0_block, w1_block, w2_block,
      w3_block, w4_block, w5_block, w6_block, w7_block, dvo_block, dvo_block', vb_block, vb_block', wout]
    simp only [vo_block a.S, dvln_block a.S, a_block, dpre_block, dxn_block, third_block, win_block, sum_block, inv_block, xh_block, dg_block, inner_block, dx_block, dlg_block, dlb_block]
    exact congrArg (fun Q : Fin 512 → Fin 1024 → ℝ => c2 fun r k => a.D (row t r) k + inv (a.X (row t r)) * (Q r k * a.G k - a.X (row t r) k * inv (a.X (row t r)) *
      ((∑ j, Q r j * a.G j * (a.X (row t r) j * inv (a.X (row t r)))) / 1024))) (quarters_eq a t)

/-! ## What a block adds to the parameters' gradients -/

theorem dg_zero : k0_pay2 (F := Ideal) = c2 fun _ _ => 0 := by
  funext i
  exact lit_zero
theorem dlg_zero : k0_pay3 (F := Ideal) = c2 fun _ _ => 0 := dg_zero
theorem dlb_zero : k0_pay4 (F := Ideal) = c2 fun _ _ => 0 := dg_zero

/-- A block's share of the gain's gradient. -/
def gshare (t : Fin cfg0.N) (k : Fin 1024) : ℝ := ∑ r, dxn a t r k * (a.X (row t r) k * inv (a.X (row t r)))

theorem dg_first (t : Fin cfg0.N) (h : t.val % 16 = 0) : (outsAt0 m c t.val t.isLt).2.2.1 = c2 fun _ : Fin 1 => (gshare a t) := by
  rw [outsAt0_A m c t h h]; frame_out; simp only [win_fill a, wout_fill a]
  simp only [x_block a, d_block a, h_block a, g_block a, lg_stage a, lb_stage a, s_block a, b_block a, ld_o a, ld_w a 0 (by decide), ld_w a 1 (by decide), ld_w a 2 (by decide), ld_w a 3 (by decide),
      ld_s _ 0 0 rfl, ld_s _ 1 1 rfl, ld_s _ 2 2 rfl, ld_s _ 3 3 rfl, ld_s _ 4 4 rfl, ld_s _ 5 5 rfl, ld_s _ 6 6 rfl, ld_s _ 7 7 rfl, dg_zero]
  simp only [pre_block, lg_block, lb_block, phi_block, u_block, vc_block, sq_block, rs_block, vhat_block, vln_block, shift_block, mask_block, w0_block, w1_block, w2_block,
      w3_block, w4_block, w5_block, w6_block, w7_block, dvo_block, dvo_block', vb_block, vb_block', wout]
  simp only [vo_block a.S, dvln_block a.S, a_block, dpre_block, dxn_block, third_block, win_block, sum_block, inv_block, xh_block, dg_block, inner_block, dx_block, dlg_block, dlb_block]
  refine (congrArg (fun Q : Fin 512 → Fin 1024 → ℝ => c2 fun (_ : Fin 1) k => 0 + ∑ r, Q r k * (a.X (row t r) k * inv (a.X (row t r)))) (quarters_eq a t)).trans ?_
  simp only [zero_add]
  rfl

theorem dg_next (t : Fin cfg0.N) (h : ¬ t.val % 16 = 0) (y : Fin 1024 → ℝ)
    (hy : (outsAt0 m c (t.val - 1) (Nat.lt_of_le_of_lt (Nat.sub_le _ _) t.isLt)).2.2.1 = c2 fun _ : Fin 1 => y) :
    (outsAt0 m c t.val t.isLt).2.2.1 = c2 fun _ : Fin 1 => (y + gshare a t) := by
  rw [outsAt0_B m c t h h]; frame_out; simp only [read_unread_whole, win_before a, wout_before a, hy]
  simp only [x_block a, d_block a, h_block a, g_block a, lg_stage a, lb_stage a, s_block a, b_block a, ld_o a, ld_w a 0 (by decide), ld_w a 1 (by decide), ld_w a 2 (by decide), ld_w a 3 (by decide),
      ld_s _ 0 0 rfl, ld_s _ 1 1 rfl, ld_s _ 2 2 rfl, ld_s _ 3 3 rfl, ld_s _ 4 4 rfl, ld_s _ 5 5 rfl, ld_s _ 6 6 rfl, ld_s _ 7 7 rfl]
  simp only [pre_block, lg_block, lb_block, phi_block, u_block, vc_block, sq_block, rs_block, vhat_block, vln_block, shift_block, mask_block, w0_block, w1_block, w2_block,
      w3_block, w4_block, w5_block, w6_block, w7_block, dvo_block, dvo_block', vb_block, vb_block', wout]
  simp only [vo_block a.S, dvln_block a.S, a_block, dpre_block, dxn_block, third_block, win_block, sum_block, inv_block, xh_block, dg_block, inner_block, dx_block, dlg_block, dlb_block]
  exact congrArg (fun Q : Fin 512 → Fin 1024 → ℝ => c2 fun (_ : Fin 1) k => y k + ∑ r, Q r k * (a.X (row t r) k * inv (a.X (row t r)))) (quarters_eq a t)

/-- A block's share of the layer norm's gain's gradient. -/
def lgshare (t : Fin cfg0.N) (k : Fin 1024) : ℝ := ∑ r, dvln a t r k * vhat (hrow a t r) k

theorem dlg_first (t : Fin cfg0.N) (h : t.val % 16 = 0) : (outsAt0 m c t.val t.isLt).2.2.2.1 = c2 fun _ : Fin 1 => (lgshare a t) := by
  rw [outsAt0_A m c t h h]; frame_out; simp only [win_fill a, wout_fill a]
  simp only [x_block a, d_block a, h_block a, g_block a, lg_stage a, lb_stage a, s_block a, b_block a, ld_o a, ld_w a 0 (by decide), ld_w a 1 (by decide), ld_w a 2 (by decide), ld_w a 3 (by decide),
      ld_s _ 0 0 rfl, ld_s _ 1 1 rfl, ld_s _ 2 2 rfl, ld_s _ 3 3 rfl, ld_s _ 4 4 rfl, ld_s _ 5 5 rfl, ld_s _ 6 6 rfl, ld_s _ 7 7 rfl, dlg_zero]
  simp only [pre_block, lg_block, lb_block, phi_block, u_block, vc_block, sq_block, rs_block, vhat_block, vln_block, shift_block, mask_block, w0_block, w1_block, w2_block,
      w3_block, w4_block, w5_block, w6_block, w7_block, dvo_block, dvo_block', vb_block, vb_block', wout]
  simp only [vo_block a.S, dvln_block a.S, a_block, dpre_block, dxn_block, third_block, win_block, sum_block, inv_block, xh_block, dg_block, inner_block, dx_block, dlg_block, dlb_block, zero_add]
  rfl

theorem dlg_next (t : Fin cfg0.N) (h : ¬ t.val % 16 = 0) (y : Fin 1024 → ℝ)
    (hy : (outsAt0 m c (t.val - 1) (Nat.lt_of_le_of_lt (Nat.sub_le _ _) t.isLt)).2.2.2.1 = c2 fun _ : Fin 1 => y) :
    (outsAt0 m c t.val t.isLt).2.2.2.1 = c2 fun _ : Fin 1 => (y + lgshare a t) := by
  rw [outsAt0_B m c t h h]; frame_out; simp only [read_unread_whole, win_before a, wout_before a, hy]
  simp only [x_block a, d_block a, h_block a, g_block a, lg_stage a, lb_stage a, s_block a, b_block a, ld_o a, ld_w a 0 (by decide), ld_w a 1 (by decide), ld_w a 2 (by decide), ld_w a 3 (by decide),
      ld_s _ 0 0 rfl, ld_s _ 1 1 rfl, ld_s _ 2 2 rfl, ld_s _ 3 3 rfl, ld_s _ 4 4 rfl, ld_s _ 5 5 rfl, ld_s _ 6 6 rfl, ld_s _ 7 7 rfl]
  simp only [pre_block, lg_block, lb_block, phi_block, u_block, vc_block, sq_block, rs_block, vhat_block, vln_block, shift_block, mask_block, w0_block, w1_block, w2_block,
      w3_block, w4_block, w5_block, w6_block, w7_block, dvo_block, dvo_block', vb_block, vb_block', wout]
  simp only [vo_block a.S, dvln_block a.S, a_block, dpre_block, dxn_block, third_block, win_block, sum_block, inv_block, xh_block, dg_block, inner_block, dx_block, dlg_block, dlb_block]
  rfl

/-- A block's share of the layer norm's shift's gradient. -/
def lbshare (t : Fin cfg0.N) (k : Fin 1024) : ℝ := ∑ r, dvln a t r k

theorem dlb_first (t : Fin cfg0.N) (h : t.val % 16 = 0) : (outsAt0 m c t.val t.isLt).2.2.2.2.1 = c2 fun _ : Fin 1 => (lbshare a t) := by
  rw [outsAt0_A m c t h h]; frame_out; simp only [win_fill a, wout_fill a]
  simp only [x_block a, d_block a, h_block a, g_block a, lg_stage a, lb_stage a, s_block a, b_block a, ld_o a, ld_w a 0 (by decide), ld_w a 1 (by decide), ld_w a 2 (by decide), ld_w a 3 (by decide),
      ld_s _ 0 0 rfl, ld_s _ 1 1 rfl, ld_s _ 2 2 rfl, ld_s _ 3 3 rfl, ld_s _ 4 4 rfl, ld_s _ 5 5 rfl, ld_s _ 6 6 rfl, ld_s _ 7 7 rfl, dlb_zero]
  simp only [pre_block, lg_block, lb_block, phi_block, u_block, vc_block, sq_block, rs_block, vhat_block, vln_block, shift_block, mask_block, w0_block, w1_block, w2_block,
      w3_block, w4_block, w5_block, w6_block, w7_block, dvo_block, dvo_block', vb_block, vb_block', wout]
  simp only [vo_block a.S, dvln_block a.S, a_block, dpre_block, dxn_block, third_block, win_block, sum_block, inv_block, xh_block, dg_block, inner_block, dx_block, dlg_block, dlb_block, zero_add]
  rfl

theorem dlb_next (t : Fin cfg0.N) (h : ¬ t.val % 16 = 0) (y : Fin 1024 → ℝ)
    (hy : (outsAt0 m c (t.val - 1) (Nat.lt_of_le_of_lt (Nat.sub_le _ _) t.isLt)).2.2.2.2.1 = c2 fun _ : Fin 1 => y) :
    (outsAt0 m c t.val t.isLt).2.2.2.2.1 = c2 fun _ : Fin 1 => (y + lbshare a t) := by
  rw [outsAt0_B m c t h h]; frame_out; simp only [read_unread_whole, win_before a, wout_before a, hy]
  simp only [x_block a, d_block a, h_block a, g_block a, lg_stage a, lb_stage a, s_block a, b_block a, ld_o a, ld_w a 0 (by decide), ld_w a 1 (by decide), ld_w a 2 (by decide), ld_w a 3 (by decide),
      ld_s _ 0 0 rfl, ld_s _ 1 1 rfl, ld_s _ 2 2 rfl, ld_s _ 3 3 rfl, ld_s _ 4 4 rfl, ld_s _ 5 5 rfl, ld_s _ 6 6 rfl, ld_s _ 7 7 rfl]
  simp only [pre_block, lg_block, lb_block, phi_block, u_block, vc_block, sq_block, rs_block, vhat_block, vln_block, shift_block, mask_block, w0_block, w1_block, w2_block,
      w3_block, w4_block, w5_block, w6_block, w7_block, dvo_block, dvo_block', vb_block, vb_block', wout]
  simp only [vo_block a.S, dvln_block a.S, a_block, dpre_block, dxn_block, third_block, win_block, sum_block, inv_block, xh_block, dg_block, inner_block, dx_block, dlg_block, dlb_block]
  rfl

theorem dbt_zero : k0_pay6 (F := Ideal) = c2 fun _ _ => 0 := by
  funext i
  exact lit_zero

/-- A block's share of the mixing shifts' gradient. -/
def bshare (t : Fin cfg0.N) (s : Fin 128) (h : Fin 8) : ℝ := ∑ q, dshift (part (dvo a t) q) s h

theorem dbt_first (t : Fin cfg0.N) (h : t.val % 16 = 0) : (outsAt0 m c t.val t.isLt).2.2.2.2.2.2.1 = c2 (bshare a t) := by
  rw [outsAt0_A m c t h h]; frame_out; simp only [win_fill a, wout_fill a]
  simp only [x_block a, d_block a, h_block a, g_block a, lg_stage a, lb_stage a, s_block a, b_block a, ld_o a, ld_w a 0 (by decide), ld_w a 1 (by decide), ld_w a 2 (by decide), ld_w a 3 (by decide),
      ld_s _ 0 0 rfl, ld_s _ 1 1 rfl, ld_s _ 2 2 rfl, ld_s _ 3 3 rfl, ld_s _ 4 4 rfl, ld_s _ 5 5 rfl, ld_s _ 6 6 rfl, ld_s _ 7 7 rfl, dbt_zero]
  simp only [pre_block, lg_block, lb_block, phi_block, u_block, vc_block, sq_block, rs_block, vhat_block, vln_block, shift_block, mask_block, w0_block, w1_block, w2_block,
      w3_block, w4_block, w5_block, w6_block, w7_block, dvo_block, dvo_block', vb_block, vb_block', wout]
  refine (congrArg (fun A => k0_pay150 (F := Ideal) A (c2 fun _ _ => 0)) (shifts_block (dvo a t))).trans ?_
  simp only [dshift_block, zero_add]
  rfl

theorem dbt_next (t : Fin cfg0.N) (h : ¬ t.val % 16 = 0) (y : Fin 128 → Fin 8 → ℝ)
    (hy : (outsAt0 m c (t.val - 1) (Nat.lt_of_le_of_lt (Nat.sub_le _ _) t.isLt)).2.2.2.2.2.2.1 = c2 y) :
    (outsAt0 m c t.val t.isLt).2.2.2.2.2.2.1 = c2 (y + bshare a t) := by
  rw [outsAt0_B m c t h h]; frame_out; simp only [read_unread_whole, win_before a, wout_before a, hy]
  simp only [x_block a, d_block a, h_block a, g_block a, lg_stage a, lb_stage a, s_block a, b_block a, ld_o a, ld_w a 0 (by decide), ld_w a 1 (by decide), ld_w a 2 (by decide), ld_w a 3 (by decide),
      ld_s _ 0 0 rfl, ld_s _ 1 1 rfl, ld_s _ 2 2 rfl, ld_s _ 3 3 rfl, ld_s _ 4 4 rfl, ld_s _ 5 5 rfl, ld_s _ 6 6 rfl, ld_s _ 7 7 rfl]
  simp only [pre_block, lg_block, lb_block, phi_block, u_block, vc_block, sq_block, rs_block, vhat_block, vln_block, shift_block, mask_block, w0_block, w1_block, w2_block,
      w3_block, w4_block, w5_block, w6_block, w7_block, dvo_block, dvo_block', vb_block, vb_block', wout]
  exact (congrArg (fun A => k0_pay150 (F := Ideal) A (c2 y)) (shifts_block (dvo a t))).trans (dshift_block _ _)

/-! ## The mixing matrices' gradients, slab by slab -/

theorem dw_zero : k0_pay5 (F := Ideal) = c3 fun _ _ _ => 0 := by
  funext i
  exact lit_zero

theorem dw_block143 (A : Fin 128 → Fin 128 → ℝ) (B : Fin 128 → Fin 128 → ℝ) :
    k0_pay143 (F := Ideal) (c2 A) (c3 fun _ : Fin 1 => B) = c3 fun _ s j => B s j + A s j * msk s j := dw_block A B
theorem dw_block145 (A : Fin 128 → Fin 128 → ℝ) (B : Fin 128 → Fin 128 → ℝ) :
    k0_pay145 (F := Ideal) (c2 A) (c2 msk) (c3 fun _ : Fin 1 => B) = c3 fun _ s j => B s j + A s j * msk s j := dw_block' A B
theorem dw_block146 (A : Fin 128 → Fin 128 → ℝ) (B : Fin 128 → Fin 128 → ℝ) :
    k0_pay146 (F := Ideal) (c2 A) (c2 msk) (c3 fun _ : Fin 1 => B) = c3 fun _ s j => B s j + A s j * msk s j := dw_block' A B
theorem dw_block147 (A : Fin 128 → Fin 128 → ℝ) (B : Fin 128 → Fin 128 → ℝ) :
    k0_pay147 (F := Ideal) (c2 A) (c2 msk) (c3 fun _ : Fin 1 => B) = c3 fun _ s j => B s j + A s j * msk s j := dw_block' A B
theorem dw_block148 (A : Fin 128 → Fin 128 → ℝ) (B : Fin 128 → Fin 128 → ℝ) :
    k0_pay148 (F := Ideal) (c2 A) (c2 msk) (c3 fun _ : Fin 1 => B) = c3 fun _ s j => B s j + A s j * msk s j := dw_block' A B
theorem dw_block149 (A : Fin 128 → Fin 128 → ℝ) (B : Fin 128 → Fin 128 → ℝ) :
    k0_pay149 (F := Ideal) (c2 A) (c2 msk) (c3 fun _ : Fin 1 => B) = c3 fun _ s j => B s j + A s j * msk s j := dw_block' A B

/-- A block's share of the mixing matrices' gradient. -/
def wshare (t : Fin cfg0.N) (h : Fin 8) (s j : Fin 128) : ℝ := dmats (dvo a t) (vln' a t) h s j * msk s j

theorem dw_first (t : Fin cfg0.N) (h : t.val % 16 = 0) : (outsAt0 m c t.val t.isLt).2.2.2.2.2.1 = c3 (wshare a t) := by
  rw [outsAt0_A m c t h h]; frame_out; simp only [win_fill a, wout_fill a]
  simp (disch := first | decide | exact rfl | (intro x; fin_cases x <;> rfl)) only [↓View.readCov_skip, ↓View.readCov_fill]
  simp only [x_block a, d_block a, h_block a, g_block a, lg_stage a, lb_stage a, s_block a, b_block a, ld_o a, ld_w a 0 (by decide), ld_w a 1 (by decide), ld_w a 2 (by decide), ld_w a 3 (by decide),
      ld_s _ 0 0 rfl, ld_s _ 1 1 rfl, ld_s _ 2 2 rfl, ld_s _ 3 3 rfl, ld_s _ 4 4 rfl, ld_s _ 5 5 rfl, ld_s _ 6 6 rfl, ld_s _ 7 7 rfl, dw_zero]
  simp only [pre_block, lg_block, lb_block, phi_block, u_block, vc_block, sq_block, rs_block, vhat_block, vln_block, shift_block, mask_block, w0_block, w1_block, w2_block,
      w3_block, w4_block, w5_block, w6_block, w7_block, dvo_block, dvo_block', vb_block, vb_block', wout]
  obtain ⟨e0, e1, e2, e3, e4, e5, e6, e7⟩ := mats_block (dvo a t) (vln' a t)
  unfold dvo vln' at e0 e1 e2 e3 e4 e5 e6 e7
  simp only [dw_block, dw_block143, dw_block', dw_block145, dw_block146, dw_block147, dw_block148, dw_block149, mask_block', e0, e1, e2, e3, e4, e5, e6, e7, zero_add]
  funext i
  refine (View.canon_append_of_piecesOf (c3 (wshare a t) : S8x128x128.Idx → EReal) [_] [_, _, _, _, _, _, _, _] ?_ _ (View.cover_of_tiledL _ ![1, 128, 128] (by sl_kernel_rfl) _)).trans rfl
  exact ⟨fun x => (congrFun (ld_s (wshare a t) 7 7 rfl inb_S8x128x128_S1x128x128_7_0_0) x).symm, fun x => (congrFun (ld_s (wshare a t) 6 6 rfl inb_S8x128x128_S1x128x128_6_0_0) x).symm, fun x => (congrFun (ld_s (wshare a t) 5 5 rfl inb_S8x128x128_S1x128x128_5_0_0) x).symm, fun x => (congrFun (ld_s (wshare a t) 4 4 rfl inb_S8x128x128_S1x128x128_4_0_0) x).symm, fun x => (congrFun (ld_s (wshare a t) 3 3 rfl inb_S8x128x128_S1x128x128_3_0_0) x).symm, fun x => (congrFun (ld_s (wshare a t) 2 2 rfl inb_S8x128x128_S1x128x128_2_0_0) x).symm, fun x => (congrFun (ld_s (wshare a t) 1 1 rfl inb_S8x128x128_S1x128x128_1_0_0) x).symm, fun x => (congrFun (ld_s (wshare a t) 0 0 rfl inb_S8x128x128_S1x128x128_0_0_0) x).symm, trivial⟩

theorem dw_next (t : Fin cfg0.N) (h : ¬ t.val % 16 = 0) (y : Fin 8 → Fin 128 → Fin 128 → ℝ)
    (hy : (outsAt0 m c (t.val - 1) (Nat.lt_of_le_of_lt (Nat.sub_le _ _) t.isLt)).2.2.2.2.2.1 = c3 y) :
    (outsAt0 m c t.val t.isLt).2.2.2.2.2.1 = c3 (y + wshare a t) := by
  rw [outsAt0_B m c t h h]; frame_out; simp only [read_unread_whole, win_before a, wout_before a, hy]
  simp only [x_block a, d_block a, h_block a, g_block a, lg_stage a, lb_stage a, s_block a, b_block a, ld_o a, ld_w a 0 (by decide), ld_w a 1 (by decide), ld_w a 2 (by decide), ld_w a 3 (by decide),
      ld_s _ 0 0 rfl, ld_s _ 1 1 rfl, ld_s _ 2 2 rfl, ld_s _ 3 3 rfl, ld_s _ 4 4 rfl, ld_s _ 5 5 rfl, ld_s _ 6 6 rfl, ld_s _ 7 7 rfl]
  simp only [pre_block, lg_block, lb_block, phi_block, u_block, vc_block, sq_block, rs_block, vhat_block, vln_block, shift_block, mask_block, w0_block, w1_block, w2_block,
      w3_block, w4_block, w5_block, w6_block, w7_block, dvo_block, dvo_block', vb_block, vb_block', wout]
  obtain ⟨e0, e1, e2, e3, e4, e5, e6, e7⟩ := mats_block (dvo a t) (vln' a t)
  unfold dvo vln' at e0 e1 e2 e3 e4 e5 e6 e7
  simp only [dw_block, dw_block143, dw_block', dw_block145, dw_block146, dw_block147, dw_block148, dw_block149, mask_block', e0, e1, e2, e3, e4, e5, e6, e7]
  funext i
  rw [← List.append_nil (_ :: _)]
  refine (View.canon_append_of_piecesOf (c3 (y + wshare a t) : S8x128x128.Idx → EReal) [] _ ?_ _ (View.cover_of_tiledL _ ![1, 128, 128] (by sl_kernel_rfl) _)).trans rfl
  exact ⟨fun x => (congrFun (ld_s (y + wshare a t) 7 7 rfl inb_S8x128x128_S1x128x128_7_0_0) x).symm, fun x => (congrFun (ld_s (y + wshare a t) 6 6 rfl inb_S8x128x128_S1x128x128_6_0_0) x).symm, fun x => (congrFun (ld_s (y + wshare a t) 5 5 rfl inb_S8x128x128_S1x128x128_5_0_0) x).symm, fun x => (congrFun (ld_s (y + wshare a t) 4 4 rfl inb_S8x128x128_S1x128x128_4_0_0) x).symm, fun x => (congrFun (ld_s (y + wshare a t) 3 3 rfl inb_S8x128x128_S1x128x128_3_0_0) x).symm, fun x => (congrFun (ld_s (y + wshare a t) 2 2 rfl inb_S8x128x128_S1x128x128_2_0_0) x).symm, fun x => (congrFun (ld_s (y + wshare a t) 1 1 rfl inb_S8x128x128_S1x128x128_1_0_0) x).symm, fun x => (congrFun (ld_s (y + wshare a t) 0 0 rfl inb_S8x128x128_S1x128x128_0_0_0) x).symm, trivial⟩

end Cert.SguBwdIdeal.Entry
-- ==== Proof.SguArr.lean ====
/-
  The seven arrays the spatial gating unit's backward call leaves, in real numbers.
-/
module

public import proofs.«01_k».proof.Proof.SguOuts

@[expose] public section

set_option maxRecDepth 16384

noncomputable section

namespace Step.Sgu

open Cert.SguBwdIdeal.Body

/-! ## The whole arrays -/

/-- Sixty-four chunks of 128 rows below each other. -/
def rows (F : Fin 64 → Fin 128 → Fin 1024 → ℝ) (t : Fin 8192) : Fin 1024 → ℝ :=
  F ⟨t.val / 128, by omega⟩ ⟨t.val % 128, Nat.mod_lt _ (by norm_num)⟩

/-- The chunks of an array of 8192 rows. -/
def parts (A : Fin 8192 → Fin 1024 → ℝ) : Fin 64 → Fin 128 → Fin 1024 → ℝ := chunk 64 rfl A

variable (P : Fin 8192 → Fin 2048 → ℝ) (LG LB : Fin 1024 → ℝ) (S : Fin 8 → Fin 128 → Fin 128 → ℝ) (B : Fin 8 → Fin 128 → ℝ)
  (O : Fin 1024 → Fin 1024 → ℝ) (D : Fin 8192 → Fin 1024 → ℝ)

/-- The gradient of the gated values. -/
def DO (t : Fin 8192) (k : Fin 1024) : ℝ := ∑ j, D t j * O k j
/-- The normalised values. -/
def VL (t : Fin 8192) : Fin 1024 → ℝ := vln (P t) LG LB
/-- The mixed values. -/
def VO : Fin 8192 → Fin 1024 → ℝ := rows fun q => mix (fun h => masked (S h)) (fun s h => B h s) (parts (VL P LG LB) q)
/-- The factor's gradient. -/
def DU (t : Fin 8192) (k : Fin 1024) : ℝ := DO O D t k * VO P LG LB S B t k
/-- The mixed values' gradient. -/
def DV (t : Fin 8192) (k : Fin 1024) : ℝ := DO O D t k * u (P t) k
/-- The normalised values' gradient. -/
def DL : Fin 8192 → Fin 1024 → ℝ := rows fun q => mixT (fun h => masked (S h)) (parts (DV P O D) q)
/-- The inner product's gradient. -/
def DP (t : Fin 8192) : Fin 2048 → ℝ := dpre (P t) (DU P LG LB S B O D t) (fun k => DL P S O D t k * LG k)
/-- The mixing matrices' gradient. -/
def DS (h : Fin 8) (s j : Fin 128) : ℝ := (∑ q, dmat (parts (DV P O D) q) (parts (VL P LG LB) q) h s j) * msk s j
/-- The mixing shifts' gradient. -/
def DB (s : Fin 128) (h : Fin 8) : ℝ := ∑ q, dshift (parts (DV P O D) q) s h

end Step.Sgu

namespace Cert.SguBwdIdeal.Entry

open Cert.SguBwdIdeal Cert.SguBwdIdeal.Gen Cert.SguBwdIdeal.Tile Idealize.ShloMosaic Idealize.ShloMosaic.TcCoe Idealize.SL.Sem Step Step.Sgu Body

variable {m : (ℓ : Loc nD τ sig) → Buf (Elt Ideal) ℓ} {c : Dev nD} (a : Real m c)

/-- The inner product. -/
def P (t : Fin 8192) : Fin 2048 → ℝ := pre (a.X t) a.G a.W
/-- The inner product's gradient, and the normalised row's. -/
def GP : Fin 8192 → Fin 2048 → ℝ := DP (P a) a.LG a.LB a.S a.B a.O a.D
def GN (t : Fin 8192) (k : Fin 1024) : ℝ := ∑ j, GP a t j * a.W k j
def GX (t : Fin 8192) (k : Fin 1024) : ℝ :=
  a.D t k + inv (a.X t) * (GN a t k * a.G k - a.X t k * inv (a.X t) * ((∑ j, GN a t j * a.G j * (a.X t j * inv (a.X t))) / 1024))
def GG (k : Fin 1024) : ℝ := ∑ t, GN a t k * (a.X t k * inv (a.X t))
def GLG (k : Fin 1024) : ℝ := ∑ t, DL (P a) a.S a.O a.D t k * vhat (P a t) k
def GLB (k : Fin 1024) : ℝ := ∑ t, DL (P a) a.S a.O a.D t k

/-! ## A block's chunks are the array's -/

/-- Chunk `q` of block `t`, counted over the whole array. -/
def whole (t : Fin cfg0.N) (q : Fin 4) : Fin 64 := ⟨t.val * 4 + q.val, by have := t.isLt; have : cfg0.N = 16 := N_0; omega⟩

theorem part_eq (A : Fin 8192 → Fin 1024 → ℝ) (t : Fin cfg0.N) (q : Fin 4) : part (fun r => A (row t r)) q = parts A (whole t q) := by
  funext s k
  refine congrFun (congrArg A (Fin.ext ?_)) k
  show t.val * 512 + (128 * q.val + s.val) = 128 * (t.val * 4 + q.val) + s.val
  omega

theorem below_eq (F : Fin 64 → Fin 128 → Fin 1024 → ℝ) (t : Fin cfg0.N) (r : Fin 512) (k : Fin 1024) :
    below (fun q => F (whole t q)) r k = rows F (row t r) k := by
  refine congrFun (congrArg₂ F (Fin.ext ?_) (Fin.ext ?_)) k
  · show t.val * 4 + r.val / 128 = (t.val * 512 + r.val) / 128
    omega
  · show r.val % 128 = (t.val * 512 + r.val) % 128
    omega

theorem du_eq (t : Fin cfg0.N) (r : Fin 512) (k : Fin 1024) : du a t r k = DU (P a) a.LG a.LB a.S a.B a.O a.D (row t r) k := by
  have e : ∀ q, part (vln' a t) q = parts (VL (P a) a.LG a.LB) (whole t q) := part_eq (VL (P a) a.LG a.LB) t
  rw [du]
  simp only [e]
  exact congrArg (dprod (drow a t) a.O r k * ·)
    (below_eq (fun q => mix (fun h => masked (a.S h)) (fun s h => a.B h s) (parts (VL (P a) a.LG a.LB) q)) t r k)

theorem dvln_eq (t : Fin cfg0.N) (r : Fin 512) (k : Fin 1024) : dvln a t r k = DL (P a) a.S a.O a.D (row t r) k := by
  have e : ∀ q, part (dvo a t) q = parts (DV (P a) a.O a.D) (whole t q) := part_eq (DV (P a) a.O a.D) t
  rw [dvln]
  simp only [e]
  exact below_eq (fun q => mixT (fun h => masked (a.S h)) (parts (DV (P a) a.O a.D) q)) t r k

theorem dpre_eq (t : Fin cfg0.N) (r : Fin 512) : dpre' a t r = GP a (row t r) := by
  have e : du a t r = DU (P a) a.LG a.LB a.S a.B a.O a.D (row t r) := funext (du_eq a t r)
  rw [dpre', e]
  simp only [dvln_eq a]
  rfl

theorem dxn_eq (t : Fin cfg0.N) (r : Fin 512) (k : Fin 1024) : dxn a t r k = GN a (row t r) k := by
  rw [dxn, dpre_eq]
  rfl

/-! ## The arrays written block by block -/

theorem dx_arr : (dats m 0 c).arrAt 8 cfg0.N = (c2 (GX a) : S8192x1024.Idx → EReal) := by
  have idx : ∀ t : Fin cfg0.N, win0_8.index t = ![t.val, 0] := (by decide +kernel : ∀ t : Fin grid0.N, _)
  refine (dats m 0 c).arrAt_eq_of_covers 8 (c2 (GX a) : S8192x1024.Idx → EReal) (by decide +kernel) fun t hf y => ?_
  blk_simp
  rw [after0_8, dx_out a t]
  have e : (win0_8.blk t).view.emb y = (ix2 (row t (y 0)) (y 1) : S8192x1024.Idx) := by blk_ext [row, idx t]
  rw [e]
  simp only [dxn_eq a]
  rfl

theorem dpre_arr : (dats m 0 c).arrAt 9 cfg0.N = (c2 (GP a) : S8192x2048.Idx → EReal) := by
  have idx : ∀ t : Fin cfg0.N, win0_9.index t = ![t.val, 0] := (by decide +kernel : ∀ t : Fin grid0.N, _)
  refine (dats m 0 c).arrAt_eq_of_covers 9 (c2 (GP a) : S8192x2048.Idx → EReal) (by decide +kernel) fun t hf y => ?_
  blk_simp
  rw [after0_9, dpre_out a t]
  have e : (win0_9.blk t).view.emb y = (ix2 (row t (y 0)) (y 1) : S8192x2048.Idx) := by blk_ext [row, idx t]
  rw [e]
  simp only [dpre_eq a]
  rfl

/-! ## The arrays accumulated over the blocks -/

/-- The last grid point. -/
def last : Fin cfg0.N := ⟨15, by have : cfg0.N = 16 := N_0; omega⟩

/-- A quantity that starts from its first share and adds a share at every later point is the sum of the shares so far. -/
theorem upto {α M : Type} [AddCommMonoid M] (f : (n : ℕ) → n < cfg0.N → α) (g : M → α) (sh : Fin cfg0.N → M)
    (h0 : ∀ h, f 0 h = g (sh ⟨0, h⟩)) (hs : ∀ n (h : n + 1 < cfg0.N) y, f n (by omega) = g y → f (n + 1) h = g (y + sh ⟨n + 1, h⟩)) :
    ∀ n (h : n < cfg0.N), f n h = g (∑ s : Fin (n + 1), sh ⟨s.val, by omega⟩) := by
  intro n
  induction n with
  | zero => intro h; simpa using h0 h
  | succ n ih =>
    intro h
    rw [Fin.sum_univ_castSucc (n := n + 1)]
    exact hs n h _ (ih (by omega))

/-- A point after the first is not at the start. -/
theorem later (n : ℕ) (h : n + 1 < cfg0.N) : ¬ (n + 1) % 16 = 0 := by
  have : cfg0.N = 16 := N_0
  omega

/-- A sum over the rows, block by block; and over the chunks. -/
theorem sum_rows (f : Fin 8192 → ℝ) : ∑ s : Fin (15 + 1), ∑ r : Fin 512, f (row ⟨s.val, by have : cfg0.N = 16 := N_0; omega⟩ r) = ∑ t, f t :=
  (sum_blocks 16 512 f).symm
theorem sum_chunks (f : Fin 64 → ℝ) : ∑ s : Fin (15 + 1), ∑ q : Fin 4, f (whole ⟨s.val, by have : cfg0.N = 16 := N_0; omega⟩ q) = ∑ t, f t :=
  (sum_blocks 16 4 f).symm

theorem dg_sum : ∑ s : Fin (15 + 1), gshare a ⟨s.val, by have : cfg0.N = 16 := N_0; omega⟩ = GG a := by
  funext k
  simp only [Finset.sum_apply, gshare, dxn_eq a]
  exact sum_rows fun t => GN a t k * (a.X t k * inv (a.X t))

theorem dg_last : (dats m 0 c).after 10 last = (c2 fun _ : Fin 1 => GG a : S1x1024.Idx → EReal) := by
  rw [after0_10]
  refine (upto (fun n h => (outsAt0 m c n h).2.2.1) (fun y : Fin 1024 → ℝ => c2 fun _ : Fin 1 => y) (gshare a) (fun h => dg_first a ⟨0, h⟩ rfl)
    (fun n h y => dg_next a ⟨n + 1, h⟩ (later n h) y) 15 last.isLt).trans ?_
  rw [dg_sum a]

theorem dg_arr : (dats m 0 c).arrAt 10 cfg0.N = (c2 fun _ : Fin 1 => GG a : S1x1024.Idx → EReal) := by
  refine (dats m 0 c).arrAt_eq_of_after_last 10 last (by decide +kernel) _ fun j => ?_
  blk_simp
  rw [dg_last a]

theorem dlg_sum : ∑ s : Fin (15 + 1), lgshare a ⟨s.val, by have : cfg0.N = 16 := N_0; omega⟩ = GLG a := by
  funext k
  simp only [Finset.sum_apply, lgshare, dvln_eq a]
  exact sum_rows fun t => DL (P a) a.S a.O a.D t k * vhat (P a t) k

theorem dlg_last : (dats m 0 c).after 11 last = (c2 fun _ : Fin 1 => GLG a : S1x1024.Idx → EReal) := by
  rw [after0_11]
  refine (upto (fun n h => (outsAt0 m c n h).2.2.2.1) (fun y : Fin 1024 → ℝ => c2 fun _ : Fin 1 => y) (lgshare a) (fun h => dlg_first a ⟨0, h⟩ rfl)
    (fun n h y => dlg_next a ⟨n + 1, h⟩ (later n h) y) 15 last.isLt).trans ?_
  rw [dlg_sum a]

theorem dlg_arr : (dats m 0 c).arrAt 11 cfg0.N = (c2 fun _ : Fin 1 => GLG a : S1x1024.Idx → EReal) := by
  refine (dats m 0 c).arrAt_eq_of_after_last 11 last (by decide +kernel) _ fun j => ?_
  blk_simp
  rw [dlg_last a]

theorem dlb_sum : ∑ s : Fin (15 + 1), lbshare a ⟨s.val, by have : cfg0.N = 16 := N_0; omega⟩ = GLB a := by
  funext k
  simp only [Finset.sum_apply, lbshare, dvln_eq a]
  exact sum_rows fun t => DL (P a) a.S a.O a.D t k

theorem dlb_last : (dats m 0 c).after 12 last = (c2 fun _ : Fin 1 => GLB a : S1x1024.Idx → EReal) := by
  rw [after0_12]
  refine (upto (fun n h => (outsAt0 m c n h).2.2.2.2.1) (fun y : Fin 1024 → ℝ => c2 fun _ : Fin 1 => y) (lbshare a) (fun h => dlb_first a ⟨0, h⟩ rfl)
    (fun n h y => dlb_next a ⟨n + 1, h⟩ (later n h) y) 15 last.isLt).trans ?_
  rw [dlb_sum a]

theorem dlb_arr : (dats m 0 c).arrAt 12 cfg0.N = (c2 fun _ : Fin 1 => GLB a : S1x1024.Idx → EReal) := by
  refine (dats m 0 c).arrAt_eq_of_after_last 12 last (by decide +kernel) _ fun j => ?_
  blk_simp
  rw [dlb_last a]

theorem dw_sum : ∑ s : Fin (15 + 1), wshare a ⟨s.val, by have : cfg0.N = 16 := N_0; omega⟩ = (DS (P a) a.LG a.LB a.O a.D) := by
  funext h s j
  have e : ∀ t q, part (vln' a t) q = parts (VL (P a) a.LG a.LB) (whole t q) := part_eq (VL (P a) a.LG a.LB)
  have f : ∀ t q, part (dvo a t) q = parts (DV (P a) a.O a.D) (whole t q) := part_eq (DV (P a) a.O a.D)
  simp only [Finset.sum_apply, wshare, dmats, e, f, DS, ← Finset.sum_mul]
  rw [← sum_chunks]
  simp only [Fin.sum_univ_four, zero_add]

theorem dw_last : (dats m 0 c).after 13 last = (c3 (DS (P a) a.LG a.LB a.O a.D) : S8x128x128.Idx → EReal) := by
  rw [after0_13]
  refine (upto (fun n h => (outsAt0 m c n h).2.2.2.2.2.1) (fun y : Fin 8 → Fin 128 → Fin 128 → ℝ => c3 y) (wshare a) (fun h => dw_first a ⟨0, h⟩ rfl)
    (fun n h y => dw_next a ⟨n + 1, h⟩ (later n h) y) 15 last.isLt).trans ?_
  rw [dw_sum a]

theorem dw_arr : (dats m 0 c).arrAt 13 cfg0.N = (c3 (DS (P a) a.LG a.LB a.O a.D) : S8x128x128.Idx → EReal) := by
  refine (dats m 0 c).arrAt_eq_of_after_last 13 last (by decide +kernel) _ fun j => ?_
  blk_simp
  rw [dw_last a]

theorem dbt_sum : ∑ s : Fin (15 + 1), bshare a ⟨s.val, by have : cfg0.N = 16 := N_0; omega⟩ = (DB (P a) a.O a.D) := by
  funext h j
  have f : ∀ t q, part (dvo a t) q = parts (DV (P a) a.O a.D) (whole t q) := part_eq (DV (P a) a.O a.D)
  simp only [Finset.sum_apply, bshare, f, DB]
  exact sum_chunks fun q => dshift (parts (DV (P a) a.O a.D) q) h j

theorem dbt_last : (dats m 0 c).after 14 last = (c2 (DB (P a) a.O a.D) : S128x8.Idx → EReal) := by
  rw [after0_14]
  refine (upto (fun n h => (outsAt0 m c n h).2.2.2.2.2.2.1) (fun y : Fin 128 → Fin 8 → ℝ => c2 y) (bshare a) (fun h => dbt_first a ⟨0, h⟩ rfl)
    (fun n h y => dbt_next a ⟨n + 1, h⟩ (later n h) y) 15 last.isLt).trans ?_
  rw [dbt_sum a]

theorem dbt_arr : (dats m 0 c).arrAt 14 cfg0.N = (c2 (DB (P a) a.O a.D) : S128x8.Idx → EReal) := by
  refine (dats m 0 c).arrAt_eq_of_after_last 14 last (by decide +kernel) _ fun j => ?_
  blk_simp
  rw [dbt_last a]

end Cert.SguBwdIdeal.Entry
-- ==== Proof.SguRef.lean ====
/-
  What the spatial gating unit's derivative, taken by reverse differentiation, computes on arrays of real numbers.
-/
module

public import proofs.«01_k».proof.Proof.SguArr
public import proofs.«01_k».proof.Proof.Gen.SguBwdRefIdeal.Read
public import Idealize.ShloMosaic.Lib.Pointwise

@[expose] public section

set_option maxRecDepth 16384

noncomputable section

namespace Cert.SguBwdRefIdeal.Stage

open Cert.SguBwdRefIdeal Cert.SguBwdRefIdeal.Gen Cert.SguBwdRefIdeal.Read Idealize.ShloMosaic Step Step.Sgu Cert.SguBwdIdeal.Body

/-- An array of real numbers, with four axes. -/
def c4 {a b c d : ℕ} (f : Fin a → Fin b → Fin c → Fin d → ℝ) : Shape.Idx ⟨4, ![a, b, c, d]⟩ → EReal :=
  fun i => ((f (i 0) (i 1) (i 2) (i 3) : ℝ) : EReal)

theorem c4_apply {a b c d : ℕ} (f : Fin a → Fin b → Fin c → Fin d → ℝ) (i : Shape.Idx ⟨4, ![a, b, c, d]⟩) :
    c4 f i = ((f (i 0) (i 1) (i 2) (i 3) : ℝ) : EReal) := rfl

variable (X : Fin 8192 → Fin 1024 → ℝ) (G : Fin 1024 → ℝ) (W : Fin 1024 → Fin 2048 → ℝ) (LG LB : Fin 1024 → ℝ) (S : Fin 8 → Fin 128 → Fin 128 → ℝ)
  (B : Fin 8 → Fin 128 → ℝ) (O : Fin 1024 → Fin 1024 → ℝ) (D : Fin 8192 → Fin 1024 → ℝ)

/-- The inner product's row. -/
def P (t : Fin 8192) : Fin 2048 → ℝ := Cert.SguBwdIdeal.Entry.pre (X t) G W

/-! ## The Gaussian error unit -/

/-- The error function is odd. -/
theorem er_neg (a : ℝ) : er (-a) = -er a := by
  unfold er
  have h := intervalIntegral.integral_comp_neg (a := 0) (b := a) fun t : ℝ => Real.exp (-(t ^ 2))
  simp only [neg_sq, neg_zero] at h
  rw [h, intervalIntegral.integral_symm]
  ring

theorem hr_sq : hr * hr = 1 / 2 := by
  unfold hr
  rw [← mul_inv, Real.mul_self_sqrt (by norm_num)]
  norm_num

theorem root_half : Ideal.sqrt ((1 / 2 : ℝ) : EReal) = ((hr : ℝ) : EReal) := by
  rw [Ideal.sqrt_coe, if_neg (by norm_num)]
  congr 1
  rw [hr, ← Real.sqrt_inv]
  norm_num

theorem n1024 : (1024 : ℝ) ≠ 0 := by norm_num

theorem ms : val_main_v7 (F := Ideal) (c2 X) = c2 fun t (_ : Fin 1) => msq (X t) := by
  funext i
  pointwise [val_main_v7, val_main_v6, val_main_cst_2, val_main_v5, val_main_v4, val_main_cst_1, val_main_v3, val_main_v2, val_main_cst_0, val_main_v1]
  simp only [c2_apply, lit_1024, lit_eps, mul_coe, sum_coe, add_coe, div_coe _ _ n1024]
  rfl

theorem root : val_main_v8 (F := Ideal) (c2 X) = c2 fun t (_ : Fin 1) => inv (X t) := by
  funext i
  pointwise [val_main_v8, ms]
  exact rsqrt_msq _

theorem cube : val_main_v11 (F := Ideal) (c2 X) = c2 fun t (_ : Fin 1) => -(1 / 2) * (inv (X t) / msq (X t)) := by
  funext i
  pointwise [val_main_v11, val_main_v10, val_main_cst_3, val_main_v9, root, ms]
  simp only [c2_apply, lit_neg_half, mul_coe, div_coe _ _ (msq_pos _).ne']

theorem xhat : val_main_v13 (F := Ideal) (c2 X) = c2 fun t k => X t k * inv (X t) := by
  funext i
  pointwise [val_main_v13, val_main_v12, root]
  simp only [c2_apply, mul_coe]
  rfl

theorem hid : val_main_v18 (F := Ideal) (c2 X) (c1 G) (c2 W) = c2 (P X G W) := by
  funext i
  pointwise [val_main_v18, val_main_v0, val_main_cst, val_main_v17, val_main_v16, val_main_v15, val_main_v14, xhat]
  simp only [c1_apply, c2_apply, mul_coe, sum_coe, add_coe]
  rfl

theorem rootc : val_main_v22 (F := Ideal) = fun _ => ((hr : ℝ) : EReal) := by
  funext i
  pointwise [val_main_v22, val_main_cst_5]
  simp only [lit_half]
  exact root_half

theorem arg : val_main_v24 (F := Ideal) (c2 X) (c1 G) (c2 W) = c2 fun t j => -P X G W t j * hr := by
  funext i
  pointwise [val_main_v24, val_main_v23, val_main_v21, hid, rootc]
  simp only [c2_apply, mul_coe, neg_coe]

theorem erfcs : val_main_v25 (F := Ideal) (c2 X) (c1 G) (c2 W) = c2 fun t j => 2 * phi (P X G W t j) := by
  funext i
  pointwise [val_main_v25, arg]
  simp only [c2_apply]
  change (1 : EReal) - Ideal.erf _ = _
  rw [Ideal.erf_coe, ← EReal.coe_one, ← EReal.coe_sub]
  congr 1
  change 1 - er (-P X G W (i 0) (i 1) * hr) = 2 * (1 / 2 * (1 + er (P X G W (i 0) (i 1) * hr)))
  rw [neg_mul, er_neg]
  ring

theorem gelu : val_main_v29 (F := Ideal) (c2 X) (c1 G) (c2 W) = c2 fun t j => P X G W t j * phi (P X G W t j) := by
  funext i
  pointwise [val_main_v29, val_main_v20, val_main_v19, val_main_cst_4, hid, erfcs]
  simp only [c2_apply, lit_half, mul_coe]
  congr 1
  ring

theorem bell : val_main_v28 (F := Ideal) (c2 X) (c1 G) (c2 W) = c2 fun t j => Real.exp (-(1 / 2) * P X G W t j * P X G W t j) := by
  funext i
  pointwise [val_main_v28, val_main_v27, val_main_v26, arg]
  simp only [c2_apply, mul_coe, neg_coe, Ideal.exp_coe]
  congr 2
  linear_combination -(P X G W (i 0) (i 1) * P X G W (i 0) (i 1)) * hr_sq

theorem us : val_main_v30 (F := Ideal) (c2 X) (c1 G) (c2 W) = c2 fun t k => u (P X G W t) k := by
  funext i
  pointwise [val_main_v30, gelu]
  rfl

theorem vs : val_main_v31 (F := Ideal) (c2 X) (c1 G) (c2 W) = c2 fun t k => v (P X G W t) k := by
  funext i
  pointwise [val_main_v31, gelu]
  rfl

theorem means : val_main_v35 (F := Ideal) (c2 X) (c1 G) (c2 W) = c2 fun t (_ : Fin 1) => (∑ j, v (P X G W t) j) / 1024 := by
  funext i
  pointwise [val_main_v35, val_main_v34, val_main_cst_7, val_main_v33, val_main_v32, val_main_cst_6, vs]
  simp only [c2_apply, lit_1024, sum_coe, div_coe _ _ n1024]
  rfl

theorem cent : val_main_v37 (F := Ideal) (c2 X) (c1 G) (c2 W) = c2 fun t k => vc (P X G W t) k := by
  funext i
  pointwise [val_main_v37, val_main_v36, means, vs]
  simp only [c2_apply, sub_coe]
  rfl

theorem cent' : val_main_v46 (F := Ideal) (c2 X) (c1 G) (c2 W) = c2 fun t k => vc (P X G W t) k := cent X G W

theorem var : val_main_v48 (F := Ideal) (c2 X) (c1 G) (c2 W) = c2 fun t (_ : Fin 1) => msq (vc (P X G W t)) := by
  funext i
  pointwise [val_main_v48, val_main_v47, val_main_cst_11, val_main_v44, val_main_v43, val_main_cst_10, val_main_v42, val_main_v41, val_main_cst_9, val_main_v38, cent]
  simp only [c2_apply, lit_1024, lit_eps, mul_coe, sum_coe, add_coe, div_coe _ _ n1024]
  rfl

theorem lroot : val_main_v49 (F := Ideal) (c2 X) (c1 G) (c2 W) = c2 fun t (_ : Fin 1) => rs (P X G W t) := by
  funext i
  pointwise [val_main_v49, var]
  exact rsqrt_msq _

theorem lcube : val_main_v52 (F := Ideal) (c2 X) (c1 G) (c2 W) = c2 fun t (_ : Fin 1) => -(1 / 2) * (rs (P X G W t) / msq (vc (P X G W t))) := by
  funext i
  pointwise [val_main_v52, val_main_v51, val_main_cst_12, val_main_v50, lroot, var]
  simp only [c2_apply, lit_neg_half, mul_coe, div_coe _ _ (msq_pos _).ne']

theorem hats : val_main_v54 (F := Ideal) (c2 X) (c1 G) (c2 W) = c2 fun t k => vhat (P X G W t) k := by
  funext i
  pointwise [val_main_v54, val_main_v53, lroot, cent']
  simp only [c2_apply, mul_coe]
  rfl

theorem vlns : val_main_v60 (F := Ideal) (c2 X) (c1 G) (c2 W) (c1 LG) (c1 LB) = c2 (VL (P X G W) LG LB) := by
  funext i
  pointwise [val_main_v60, val_main_v59, val_main_v58, val_main_v57, val_main_v56, val_main_v55, hats]
  simp only [c1_apply, c2_apply, mul_coe, add_coe]
  rfl

/-! ## The mixing -/

theorem hd_at (h : Fin 8) (c : Fin 128) : hd (at' h c) = h := by
  apply Fin.ext
  have := c.isLt
  show (128 * h.val + c.val) / 128 = h.val
  omega

theorem mix_at (M : Fin 8 → Fin 128 → Fin 128 → ℝ) (b : Fin 128 → Fin 8 → ℝ) (C : Fin 128 → Fin 1024 → ℝ) (s : Fin 128) (h : Fin 8) (c : Fin 128) :
    (∑ j, C j (at' h c) * M h s j) + b s h = mix M b C s (at' h c) := by
  rw [mix, hd_at]
  exact congrArg (· + b s h) (Finset.sum_congr rfl fun j _ => mul_comm _ _)

theorem mixT_at (M : Fin 8 → Fin 128 → Fin 128 → ℝ) (C : Fin 128 → Fin 1024 → ℝ) (s : Fin 128) (h : Fin 8) (c : Fin 128) :
    ∑ j, C j (at' h c) * M h j s = mixT M C s (at' h c) := by
  rw [mixT, hd_at]
  exact Finset.sum_congr rfl fun j _ => mul_comm _ _

/-- The rows of a matrix in their chunks, and its columns in their heads. -/
def split4 (F : Fin 64 → Fin 128 → Fin 1024 → ℝ) : Shape.Idx ⟨4, ![64, 128, 8, 128]⟩ → EReal := c4 fun q s h c => F q s (at' h c)

theorem split4_apply (F : Fin 64 → Fin 128 → Fin 1024 → ℝ) (i : Shape.Idx ⟨4, ![64, 128, 8, 128]⟩) :
    split4 F i = ((F (i 0) (i 1) (at' (i 2) (i 3)) : ℝ) : EReal) := rfl

theorem part_at (A : Fin 8192 → Fin 1024 → ℝ) (i : Shape.Idx ⟨4, ![64, 128, 8, 128]⟩) (h0 : (i 0).val * 128 + (i 1).val < 8192) (h1 : (i 2).val * 128 + (i 3).val < 1024) :
    c2 A (ValueIdx.ix2 ⟨(i 0).val * 128 + (i 1).val, h0⟩ ⟨(i 2).val * 128 + (i 3).val, h1⟩) = split4 (parts A) i :=
  congrArg Real.toEReal (congrArg₂ A (Fin.ext (by show (i 0).val * 128 + (i 1).val = 128 * (i 0).val + (i 1).val; omega))
    (Fin.ext (by show (i 2).val * 128 + (i 3).val = 128 * (i 2).val + (i 3).val; omega)))

theorem rows_at (F : Fin 64 → Fin 128 → Fin 1024 → ℝ) (i : Shape.Idx ⟨2, ![8192, 1024]⟩) (h0 : (i 0).val / 128 < 64) (h1 : (i 0).val % 128 < 128)
    (h2 : (i 1).val / 128 < 8) (h3 : (i 1).val % 128 < 128) :
    split4 F (ValueIdx.ix4 ⟨(i 0).val / 128, h0⟩ ⟨(i 0).val % 128, h1⟩ ⟨(i 1).val / 128, h2⟩ ⟨(i 1).val % 128, h3⟩) = c2 (rows F) i :=
  congrArg (fun k => ((F ⟨(i 0).val / 128, h0⟩ ⟨(i 0).val % 128, h1⟩ k : ℝ) : EReal))
    (Fin.ext (by show 128 * ((i 1).val / 128) + (i 1).val % 128 = (i 1).val; omega))

theorem vl4 : val_main_v61 (F := Ideal) (c2 X) (c1 G) (c2 W) (c1 LG) (c1 LB) = split4 (parts (VL (P X G W) LG LB)) := by
  funext i
  pointwise [val_main_v61, vlns]
  exact part_at _ i _ _

theorem cmp_ge (a b : ℕ) (ha : a < 128) (hb : b < 128) :
    Scalar.select (IntOp.cmpi .sge (IntOp.addi (BitVec.ofNat 32 a) 0#32) (BitVec.ofNat 32 b)) (1 : EReal) 0 = ((if b ≤ a then 1 else 0 : ℝ) : EReal) := by
  have e (n : ℕ) (h : n < 128) : (BitVec.ofNat 32 n).toInt = n := by
    rw [BitVec.toInt_eq_toNat_of_lt (by rw [BitVec.toNat_ofNat]; omega), BitVec.toNat_ofNat, Nat.mod_eq_of_lt (by omega)]
  have c : (BitVec.ofNat 32 b).sle (BitVec.ofNat 32 a + 0#32) = decide (b ≤ a) := by
    rw [BitVec.add_zero, BitVec.sle, e a ha, e b hb]
    exact decide_eq_decide.mpr Int.ofNat_le
  show Scalar.select (BitVec.ofBool ((BitVec.ofNat 32 b).sle (BitVec.ofNat 32 a + 0#32))) (1 : EReal) 0 = _
  rw [c]
  by_cases h : b ≤ a <;> simp [h, Scalar.select]

theorem tril : val_main_v63 (F := Ideal) = c2 msk := by
  funext i
  pointwise [val_main_v63, val_main_v62, val_main_cst_13, val_main_call0_v0, val_main_call0_c, val_main_call0_v1, val_main_call0_v2, val_main_call0_v3, val_main_call0_v4, val_main_call0_cst, val_main_call0_v5]
  exact cmp_ge _ _ (i 0).isLt (i 1).isLt

theorem masks : val_main_v66 (F := Ideal) (c3 S) = c3 fun h => masked (S h) := by
  funext i
  pointwise [val_main_v66, val_main_v65, val_main_v64, tril]
  simp only [c2_apply, c3_apply, mul_coe]
  rfl

theorem mix4 : val_main_v72 (F := Ideal) (c2 X) (c1 G) (c2 W) (c1 LG) (c1 LB) (c3 S) (c2 B)
    = split4 fun q => mix (fun h => masked (S h)) (fun s h => B h s) (parts (VL (P X G W) LG LB) q) := by
  funext i
  pointwise [val_main_v72, val_main_v71, val_main_v70, val_main_v69, val_main_v68, val_main_v67, masks, vl4]
  simp only [c2_apply, c3_apply, split4_apply, mul_coe, sum_coe, add_coe]
  exact congrArg Real.toEReal (mix_at (fun h => masked (S h)) (fun s h => B h s) (parts (VL (P X G W) LG LB) (i 0)) (i 1) (i 2) (i 3))

theorem vos : val_main_v73 (F := Ideal) (c2 X) (c1 G) (c2 W) (c1 LG) (c1 LB) (c3 S) (c2 B) = c2 (VO (P X G W) LG LB S B) := by
  funext i
  pointwise [val_main_v73, mix4]
  exact rows_at _ i _ _ _ _

theorem dos : val_main_v78 (F := Ideal) (c2 O) (c2 D) = c2 (DO O D) := by
  funext i
  pointwise [val_main_v78, val_main_v77]
  simp only [c2_apply, mul_coe, sum_coe]
  rfl

theorem dvs : val_main_v79 (F := Ideal) (c2 X) (c1 G) (c2 W) (c2 O) (c2 D) = c2 (DV (P X G W) O D) := by
  funext i
  pointwise [val_main_v79, dos, us]
  simp only [c2_apply, mul_coe]
  exact congrArg Real.toEReal (mul_comm _ _)

theorem dus : val_main_v80 (F := Ideal) (c2 X) (c1 G) (c2 W) (c1 LG) (c1 LB) (c3 S) (c2 B) (c2 O) (c2 D) = c2 (DU (P X G W) LG LB S B O D) := by
  funext i
  pointwise [val_main_v80, dos, vos]
  simp only [c2_apply, mul_coe]
  rfl

theorem dv4 : val_main_v81 (F := Ideal) (c2 X) (c1 G) (c2 W) (c2 O) (c2 D) = split4 (parts (DV (P X G W) O D)) := by
  funext i
  pointwise [val_main_v81, dvs]
  exact part_at _ i _ _

/-- The source index an index of the chunks' and columns' sum drops to. -/
theorem fiber {n m : ℕ} (h : (⟨4, ![n, 128, 8, m]⟩ : Shape).ReducesTo [0, 3] S128x8) (j : Shape.Idx S128x8) (i : Shape.Idx ⟨4, ![n, 128, 8, m]⟩) :
    h.drop i = j ↔ ∃ k : Fin n × Fin m, ValueIdx.ix4 k.1 (j 0) (j 1) k.2 = i := by
  constructor
  · rintro rfl
    refine ⟨(i 0, i 3), ?_⟩
    funext a
    fin_cases a <;> rfl
  · rintro ⟨k, rfl⟩
    funext b
    fin_cases b <;> rfl

/-- A sum over the first and the last of four axes. -/
theorem sum03 {n m : ℕ} (h : (⟨4, ![n, 128, 8, m]⟩ : Shape).ReducesTo [0, 3] S128x8) (v : Shape.Idx ⟨4, ![n, 128, 8, m]⟩ → EReal) (init : EReal) (j : Shape.Idx S128x8) :
    Ideal.hostReduceAdd h v init j = init + ∑ q : Fin n, ∑ c : Fin m, v (ValueIdx.ix4 q (j 0) (j 1) c) := by
  classical
  have inj : Function.Injective fun k : Fin n × Fin m => (ValueIdx.ix4 k.1 (j 0) (j 1) k.2 : Shape.Idx ⟨4, ![n, 128, 8, m]⟩) := fun a b e =>
    Prod.ext (congrFun e 0) (congrFun e 3)
  have key := (Finset.sum_filter_eq_sum_of_fiber (fun i => h.drop i = j) _ inj (fiber h j) v).trans (Fintype.sum_prod_type _)
  refine congrArg (init + ·) (Eq.trans ?_ key)
  exact Finset.sum_congr (by congr) fun _ _ => rfl

theorem shift8 : val_main_v82 (F := Ideal) (c2 X) (c1 G) (c2 W) (c2 O) (c2 D) = c2 (DB (P X G W) O D) := by
  funext i
  rw [val_main_v82, dv4]
  refine (sum03 _ _ _ i).trans ?_
  pointwise [val_main_cst_14]
  simp only [split4_apply, sum_coe]
  rfl

theorem dbs : val_main_v164 (F := Ideal) (c2 X) (c1 G) (c2 W) (c2 O) (c2 D) = c2 (DB (P X G W) O D) := by
  funext i
  pointwise [val_main_v164, val_main_v85]
  rw [val_main_v84]
  refine (sum03 _ _ _ i).trans ?_
  pointwise [val_main_cst_15, val_main_v83, shift8]
  simp only [Finset.univ_unique, Finset.sum_singleton]
  rfl

theorem dmats : val_main_v87 (F := Ideal) (c2 X) (c1 G) (c2 W) (c1 LG) (c1 LB) (c2 O) (c2 D)
    = c3 fun h s j => ∑ q, dmat (parts (DV (P X G W) O D) q) (parts (VL (P X G W) LG LB) q) h s j := by
  funext i
  pointwise [val_main_v87, val_main_v86, dv4, vl4]
  simp only [split4_apply, mul_coe, sum_coe]
  rfl

theorem dss : val_main_v91 (F := Ideal) (c2 X) (c1 G) (c2 W) (c1 LG) (c1 LB) (c2 O) (c2 D) = c3 (DS (P X G W) LG LB O D) := by
  funext i
  pointwise [val_main_v91, val_main_v90, val_main_v64, tril, dmats]
  simp only [c2_apply, c3_apply, mul_coe]
  rfl

theorem dl4 : val_main_v89 (F := Ideal) (c2 X) (c1 G) (c2 W) (c3 S) (c2 O) (c2 D) = split4 fun q => mixT (fun h => masked (S h)) (parts (DV (P X G W) O D) q) := by
  funext i
  pointwise [val_main_v89, val_main_v88, val_main_v86, dv4, masks]
  simp only [c3_apply, split4_apply, mul_coe, sum_coe]
  exact congrArg Real.toEReal (mixT_at (fun h => masked (S h)) (parts (DV (P X G W) O D) (i 0)) (i 1) (i 2) (i 3))

theorem dls : val_main_v92 (F := Ideal) (c2 X) (c1 G) (c2 W) (c3 S) (c2 O) (c2 D) = c2 (DL (P X G W) S O D) := by
  funext i
  pointwise [val_main_v92, dl4]
  exact rows_at _ i _ _ _ _

theorem dlbs : val_main_v163 (F := Ideal) (c2 X) (c1 G) (c2 W) (c3 S) (c2 O) (c2 D) = c2 fun (_ : Fin 1) k => ∑ t, DL (P X G W) S O D t k := by
  funext i
  pointwise [val_main_v163, val_main_v95, val_main_cst_17, val_main_v94, val_main_v93, val_main_cst_16, dls]
  simp only [c2_apply, sum_coe]
  simp only [Finset.univ_unique, Finset.sum_singleton]
  rfl

theorem dlgs : val_main_v162 (F := Ideal) (c2 X) (c1 G) (c2 W) (c3 S) (c2 O) (c2 D) = c2 fun (_ : Fin 1) k => ∑ t, DL (P X G W) S O D t k * vhat (P X G W t) k := by
  funext i
  pointwise [val_main_v162, val_main_v101, val_main_cst_19, val_main_v98, val_main_v97, val_main_cst_18, val_main_v96, hats, dls]
  simp only [c2_apply, mul_coe, sum_coe]
  simp only [Finset.univ_unique, Finset.sum_singleton]
  congr 1
  exact Finset.sum_congr rfl fun j _ => mul_comm _ _

/-- The mean of a row's distances to its mean is zero. -/
theorem vc_sum (p : Fin 2048 → ℝ) : ∑ k, vc p k = 0 := by
  simp only [vc, Finset.sum_sub_distrib, Finset.sum_const, Finset.card_univ, Fintype.card_fin, nsmul_eq_mul]
  push_cast
  ring

/-- The derivative of a row's layer normalisation as reverse differentiation writes it, and in closed form. -/
theorem ln_vjp (p : Fin 2048 → ℝ) (a : Fin 1024 → ℝ) (k : Fin 1024) :
    a k * rs p + (∑ j, vc p j * a j) * (-(1 / 2) * (rs p / msq (vc p))) / 1024 * (2 * vc p k)
        + ((∑ j, -(a j * rs p)) + ∑ j, -((∑ i, vc p i * a i) * (-(1 / 2) * (rs p / msq (vc p))) / 1024 * (2 * vc p j))) / 1024
      = lnBwd p a k := by
  have e : ∑ j, a j * vhat p j = (∑ j, vc p j * a j) * rs p := by
    rw [Finset.sum_mul]
    exact Finset.sum_congr rfl fun j _ => by rw [vhat]; ring
  have z : ∑ j, -((∑ i, vc p i * a i) * (-(1 / 2) * (rs p / msq (vc p))) / 1024 * (2 * vc p j)) = 0 := by
    rw [Finset.sum_neg_distrib, ← Finset.mul_sum, ← Finset.mul_sum, vc_sum]
    ring
  have n : ∑ j, -(a j * rs p) = -((∑ j, a j) * rs p) := by rw [Finset.sum_neg_distrib, Finset.sum_mul]
  have q : rs p / msq (vc p) = rs p * rs p * rs p := inv_div_msq _
  rw [lnBwd, e, z, n, q, vhat]
  ring

theorem dvrs : val_main_v125 (F := Ideal) (c2 X) (c1 G) (c2 W) (c1 LG) (c3 S) (c2 O) (c2 D)
    = c2 fun t => lnBwd (P X G W t) fun k => DL (P X G W) S O D t k * LG k := by
  funext i
  pointwise [val_main_v125, val_main_v124, val_main_v123, val_main_cst_26, val_main_v122, val_main_v121, val_main_cst_25, val_main_v120, val_main_v119, val_main_v118, val_main_v117, val_main_cst_24, val_main_v116,
    val_main_v115, val_main_v114, val_main_v113, val_main_cst_23, val_main_v112, val_main_v111, val_main_cst_22, val_main_v110, val_main_v109, val_main_cst_21, val_main_v108, val_main_v107, val_main_v106, val_main_v105,
    val_main_v104, val_main_v103, val_main_cst_20, val_main_v102, val_main_v100, val_main_v99, val_main_v55, val_main_v40, val_main_v39, val_main_cst_8, cent, cent', lroot, lcube, dls]
  simp only [c1_apply, c2_apply, lit_1024, lit_two, mul_coe, sum_coe, add_coe, neg_coe, div_coe _ _ n1024]
  simp only [Finset.univ_unique, Finset.sum_singleton]
  congr 1
  exact ln_vjp (P X G W (i 0)) (fun k => DL (P X G W) S O D (i 0) k * LG k) (i 1)

theorem both : val_main_v126 (F := Ideal) (c2 X) (c1 G) (c2 W) (c1 LG) (c1 LB) (c3 S) (c2 B) (c2 O) (c2 D)
    = c2 fun t j => if h : j.val < 1024 then DU (P X G W) LG LB S B O D t ⟨j.val, h⟩ else lnBwd (P X G W t) (fun k => DL (P X G W) S O D t k * LG k) ⟨j.val - 1024, by omega⟩ := by
  funext i
  pointwise [val_main_v126, dus, dvrs]
  simp only [c2_apply]
  split <;> rfl

theorem lit_slope : (Ideal.ofBits .f32 0xBF906EBB#32 : EReal) = ((-(9465531 / 8388608) : ℝ) : EReal) := by
  simp [Ideal.ofBits, Ideal.ieee, -EReal.coe_mul, -EReal.coe_neg]; norm_num

theorem dps : val_main_v137 (F := Ideal) (c2 X) (c1 G) (c2 W) (c1 LG) (c1 LB) (c3 S) (c2 B) (c2 O) (c2 D) = c2 (DP (P X G W) LG LB S B O D) := by
  funext i
  pointwise [val_main_v137, val_main_v136, val_main_v135, val_main_cst_28, val_main_v134, val_main_v133, val_main_v132, val_main_v131, val_main_v130, val_main_v129, val_main_cst_27, val_main_v128, val_main_v127,
    val_main_v20, val_main_v19, val_main_cst_4, hid, erfcs, bell, rootc, both]
  simp only [c2_apply, lit_half, lit_slope, mul_coe, add_coe, neg_coe]
  congr 1
  simp only [DP, dpre, Sgu.slope]
  ring

/-- The gradient of the normalised row. -/
abbrev GNs (t : Fin 8192) (k : Fin 1024) : ℝ := ∑ j, DP (P X G W) LG LB S B O D t j * W k j

theorem gns : val_main_v138 (F := Ideal) (c2 X) (c1 G) (c2 W) (c1 LG) (c1 LB) (c3 S) (c2 B) (c2 O) (c2 D) = c2 (GNs X G W LG LB S B O D) := by
  funext i
  pointwise [val_main_v138, dps]
  simp only [c2_apply, mul_coe, sum_coe]
  rfl

theorem dgs : val_main_v161 (F := Ideal) (c2 X) (c1 G) (c2 W) (c1 LG) (c1 LB) (c3 S) (c2 B) (c2 O) (c2 D)
    = c2 fun (_ : Fin 1) k => ∑ t, GNs X G W LG LB S B O D t k * (X t k * inv (X t)) := by
  funext i
  pointwise [val_main_v161, val_main_v144, val_main_cst_30, val_main_v141, val_main_v140, val_main_cst_29, val_main_v139, xhat, gns]
  simp only [c2_apply, mul_coe, sum_coe, add_coe]
  simp only [Finset.univ_unique, Finset.sum_singleton]
  congr 1
  exact Finset.sum_congr rfl fun t _ => mul_comm _ _

/-- The derivative of a row's normalisation as reverse differentiation writes it, and in closed form. -/
theorem rms_vjp (x g d y : Fin 1024 → ℝ) (k : Fin 1024) :
    y k + d k * g k * Step.inv x + x k * ((∑ j, x j * (d j * g j)) * (-(1 / 2) * (Step.inv x / msq x)) / 1024)
        + (∑ j, x j * (d j * g j)) * (-(1 / 2) * (Step.inv x / msq x)) / 1024 * x k
      = y k + Step.inv x * (d k * g k - x k * Step.inv x * ((∑ j, d j * g j * (x j * Step.inv x)) / 1024)) := by
  have e : ∑ j, d j * g j * (x j * Step.inv x) = (∑ j, x j * (d j * g j)) * Step.inv x := by
    rw [Finset.sum_mul]
    exact Finset.sum_congr rfl fun j _ => by ring
  rw [e, inv_div_msq]
  ring

theorem dxs : val_main_v159 (F := Ideal) (c2 X) (c1 G) (c2 W) (c1 LG) (c1 LB) (c3 S) (c2 B) (c2 O) (c2 D)
    = c2 fun t k => D t k + inv (X t) * (GNs X G W LG LB S B O D t k * G k - X t k * inv (X t) * ((∑ j, GNs X G W LG LB S B O D t j * G j * (X t j * inv (X t))) / 1024)) := by
  funext i
  pointwise [val_main_v159, val_main_v158, val_main_v157, val_main_v156, val_main_v155, val_main_v154, val_main_cst_33, val_main_v153, val_main_v152, val_main_cst_32, val_main_v151, val_main_v150, val_main_v149, val_main_v148,
    val_main_v147, val_main_v146, val_main_cst_31, val_main_v145, val_main_v143, val_main_v142, val_main_v14, root, cube, gns]
  simp only [c1_apply, c2_apply, lit_1024, mul_coe, sum_coe, add_coe, div_coe _ _ n1024]
  simp only [Finset.univ_unique, Finset.sum_singleton]
  congr 1
  exact rms_vjp (X (i 0)) G (GNs X G W LG LB S B O D (i 0)) (D (i 0)) (i 1)

/-- The rounded gradient of the inner product is that gradient. -/
theorem dps_out : val_main_v160 (F := Ideal) (c2 X) (c1 G) (c2 W) (c1 LG) (c1 LB) (c3 S) (c2 B) (c2 O) (c2 D) = c2 (DP (P X G W) LG LB S B O D) := by
  funext i
  pointwise [val_main_v160, dps]

end Cert.SguBwdRefIdeal.Stage
-- ==== Proof.SguPair.lean ====
/-
  The spatial gating unit's backward call and the derivative of that unit leave the same seven arrays.
-/
module

public import proofs.«01_k».proof.Defs
public import proofs.«01_k».proof.Proof.Finite
public import proofs.«01_k».proof.Proof.SguArr
public import proofs.«01_k».proof.Proof.SguRef
public import proofs.«01_k».proof.Proof.Gen.Pre_finite_sgu
public import Idealize.ShloMosaic.Lib.Claim

@[expose] public section

set_option maxRecDepth 16384

noncomputable section

namespace Cert.SguPair

open Idealize.ShloMosaic Idealize.ShloMosaic.TcCoe Idealize.SL.Sem Step Step.Sgu Cert.SguBwdIdeal.Entry

/-- Under the precondition the call's arguments are arrays of real numbers. -/
def real {m : (ℓ : Loc Cert.SguBwdIdeal.nD Cert.SguBwdIdeal.τ Cert.SguBwdIdeal.sig) → Buf (Elt Ideal) ℓ}
    (h : Cert.Pre_SguBwdIdeal_finite_sgu m) (c : Dev Cert.SguBwdIdeal.nD) : Real m c where
  X := _
  G := _
  W := _
  LG := _
  LB := _
  S := _
  B := _
  O := _
  D := _
  hX := c2_of _ fun i => congrFun (h c).1 i
  hG := c1_of _ fun i => congrFun (h c).2.1 i
  hW := c2_of _ fun i => congrFun (h c).2.2.1 i
  hLG := c1_of _ fun i => congrFun (h c).2.2.2.1 i
  hLB := c1_of _ fun i => congrFun (h c).2.2.2.2.1 i
  hS := c3_of _ fun i => congrFun (h c).2.2.2.2.2.1 i
  hB := c2_of _ fun i => congrFun (h c).2.2.2.2.2.2.1 i
  hO := c2_of _ fun i => congrFun (h c).2.2.2.2.2.2.2.1 i
  hD := c2_of _ fun i => congrFun (h c).2.2.2.2.2.2.2.2 i

/-- The reference runs, keeps its arguments and leaves its counters at zero: it has none. -/
theorem reference_frame : Cert.quiescent_SguBwdRefIdeal := fun m ρ _ =>
  (θ_run _ _ _).mono (fun r h => ⟨fun c => (h c).2.2.2.2.2.2.2, by
    funext x
    rcases x with ⟨c, s⟩
    cases s with
    | reg i => exact i.elim0
    | dma i => exact i.elim0⟩) (Cert.SguBwdRefIdeal.Value.run m ρ)

/-- The two named constants are the numbers the idealised program reads in their place. -/
theorem preserves : Cert.preserves_SguBwd_SguBwdIdeal := by
  exact ⟨IdealRules.named_const.statement Cert.SguBwdIdeal.κ "sqrt_half" .f32 0x3F3504F3#32 (((Real.sqrt 2)⁻¹ : ℝ) : EReal) rfl,
    IdealRules.named_const.statement Cert.SguBwdIdeal.κ "inv_sqrt_2pi" .f32 0x3ECC422A#32 (((9465531 / 16777216) * (Real.sqrt 2)⁻¹ : ℝ) : EReal) rfl⟩

theorem algebraic : Cert.algebraic_SguBwdIdeal_SguBwdRefIdeal_pre_finite_sgu := by
  intro m g m' g' hpre hagree
  have a : ∀ c, Real m c := real hpre
  refine ⟨fun c => c2 (GX (a c)), fun c => c2 (GP (a c)), fun c => c2 fun _ : Fin 1 => GG (a c), fun c => c2 fun _ : Fin 1 => GLG (a c), fun c => c2 fun _ : Fin 1 => GLB (a c), fun c => c3 (DS (P (a c)) (a c).LG (a c).LB (a c).O (a c).D), fun c => c2 (DB (P (a c)) (a c).O (a c).D),
    (θ_run _ _ _).mono (fun r h c => ?_) (Cert.SguBwdIdeal.Value.run_blocks m g),
    (θ_run _ _ _).mono (fun r h c => ?_) (Cert.SguBwdRefIdeal.Value.run m' g')⟩
  · obtain ⟨h0, h1, h2, h3, h4, h5, h6, hk⟩ := h c
    exact ⟨h0.trans (dx_arr (a c)), h1.trans (dpre_arr (a c)), h2.trans (dg_arr (a c)), h3.trans (dlg_arr (a c)), h4.trans (dlb_arr (a c)), h5.trans (dw_arr (a c)), h6.trans (dbt_arr (a c)), hk⟩
  · obtain ⟨h0, h1, h2, h3, h4, h5, h6, hk⟩ := h c
    obtain ⟨e0, e1, e2, e3, e4, e5, e6, e7, e8⟩ := hagree c
    have e0 : StableHlo.launchContents m' c (Proc.devRef .tc Cert.SguBwdRefIdeal.main_arg0) = _ := e0.trans (a c).hX
    have e1 : StableHlo.launchContents m' c (Proc.devRef .tc Cert.SguBwdRefIdeal.main_arg1) = _ := e1.trans (a c).hG
    have e2 : StableHlo.launchContents m' c (Proc.devRef .tc Cert.SguBwdRefIdeal.main_arg2) = _ := e2.trans (a c).hW
    have e3 : StableHlo.launchContents m' c (Proc.devRef .tc Cert.SguBwdRefIdeal.main_arg3) = _ := e3.trans (a c).hLG
    have e4 : StableHlo.launchContents m' c (Proc.devRef .tc Cert.SguBwdRefIdeal.main_arg4) = _ := e4.trans (a c).hLB
    have e5 : StableHlo.launchContents m' c (Proc.devRef .tc Cert.SguBwdRefIdeal.main_arg5) = _ := e5.trans (a c).hS
    have e6 : StableHlo.launchContents m' c (Proc.devRef .tc Cert.SguBwdRefIdeal.main_arg6) = _ := e6.trans (a c).hB
    have e7 : StableHlo.launchContents m' c (Proc.devRef .tc Cert.SguBwdRefIdeal.main_arg7) = _ := e7.trans (a c).hO
    have e8 : StableHlo.launchContents m' c (Proc.devRef .tc Cert.SguBwdRefIdeal.main_arg8) = _ := e8.trans (a c).hD
    refine ⟨h0.trans ?_, h1.trans ?_, h2.trans ?_, h3.trans ?_, h4.trans ?_, h5.trans ?_, h6.trans ?_, hk⟩
    all_goals clear h0 h1 h2 h3 h4 h5 h6 hk
    · rw [Cert.SguBwdRefIdeal.Read.val_main_v159_eq, e0, e1, e2, e3, e4, e5, e6, e7, e8]
      exact Cert.SguBwdRefIdeal.Stage.dxs _ _ _ _ _ _ _ _ _
    · rw [Cert.SguBwdRefIdeal.Read.val_main_v160_eq, e0, e1, e2, e3, e4, e5, e6, e7, e8]
      exact Cert.SguBwdRefIdeal.Stage.dps_out _ _ _ _ _ _ _ _ _
    · rw [Cert.SguBwdRefIdeal.Read.val_main_v161_eq, e0, e1, e2, e3, e4, e5, e6, e7, e8]
      exact Cert.SguBwdRefIdeal.Stage.dgs _ _ _ _ _ _ _ _ _
    · rw [Cert.SguBwdRefIdeal.Read.val_main_v162_eq, e0, e1, e2, e5, e7, e8]
      exact Cert.SguBwdRefIdeal.Stage.dlgs _ _ _ _ _ _
    · rw [Cert.SguBwdRefIdeal.Read.val_main_v163_eq, e0, e1, e2, e5, e7, e8]
      exact Cert.SguBwdRefIdeal.Stage.dlbs _ _ _ _ _ _
    · rw [Cert.SguBwdRefIdeal.Read.val_main_v91_eq, e0, e1, e2, e3, e4, e7, e8]
      exact Cert.SguBwdRefIdeal.Stage.dss _ _ _ _ _ _ _
    · rw [Cert.SguBwdRefIdeal.Read.val_main_v164_eq, e0, e1, e2, e7, e8]
      exact Cert.SguBwdRefIdeal.Stage.dbs _ _ _ _ _

end Cert.SguPair
-- ==== Proof.MixTap.lean ====
/-
  The transposed convolution of one block of rows and lanes, tap by tap, and the windows' sums by doubling: the two
  shifted-sum computations of the mixer's backward body, in real numbers with indices that are natural numbers.
-/
module

public import proofs.«01_k».proof.Proof.Gen.MixInBwdIdeal.Skeleton
public import proofs.«01_k».proof.Proof.Coe
public import Idealize.ShloMosaic.Lib.Pointwise
public import Idealize.ShloMosaic.Lib.Claim

@[expose] public section

noncomputable section

namespace Cert.MixInBwdIdeal.Tap

open Cert.MixInBwdIdeal Cert.MixInBwdIdeal.Gen Idealize.ShloMosaic Idealize.ShloMosaic.TcCoe Step

/-- The array of two axes whose entries are the values of a function of natural numbers. -/
def cN (a b : ℕ) (f : ℕ → ℕ → ℝ) : Shape.Idx ⟨2, ![a, b]⟩ → EReal := fun i => ((f (i 0).val (i 1).val : ℝ) : EReal)

theorem cN_apply (a b : ℕ) (f : ℕ → ℕ → ℝ) (i : Shape.Idx ⟨2, ![a, b]⟩) : cN a b f i = ((f (i 0).val (i 1).val : ℝ) : EReal) := rfl

theorem cN_congr {a b : ℕ} {f g : ℕ → ℕ → ℝ} (h : ∀ i < a, ∀ j < b, f i j = g i j) : cN a b f = cN a b g := by
  funext i
  exact congrArg Real.toEReal (h _ (i 0).isLt _ (i 1).isLt)

/-- The sum of the first `n` taps' products: tap `k` meets the row `30 − k` further down. -/
def taps (w t : ℕ → ℕ → ℝ) : ℕ → ℕ → ℕ → ℝ
  | 0, _, _ => 0
  | n + 1, i, j => taps w t n i j + t n j * w (i + (30 - n)) j

theorem taps_eq (w t : ℕ → ℕ → ℝ) (n i j : ℕ) : taps w t n i j = ∑ k ∈ Finset.range n, t k j * w (i + (30 - k)) j := by
  induction n with
  | zero => rfl
  | succ n ih => rw [Finset.sum_range_succ, ← ih]; rfl

/-- A function of rows and lanes read from row `o` and lane `p` on. -/
def shift (f : ℕ → ℕ → ℝ) (o p : ℕ) : ℕ → ℕ → ℝ := fun i j => f (o + i) (p + j)

theorem taps_shift (E T : ℕ → ℕ → ℝ) (o p n : ℕ) : taps (shift E o p) (shift T 0 p) n = shift (taps E T n) o p := by
  funext i j
  show _ = taps E T n (o + i) (p + j)
  rw [taps_eq, taps_eq]
  refine Finset.sum_congr rfl fun k _ => ?_
  show T (0 + k) (p + j) * E (o + (i + (30 - k))) (p + j) = T k (p + j) * E (o + i + (30 - k)) (p + j)
  rw [Nat.zero_add, Nat.add_assoc]

/-- A window of the extended block, and the taps of its lanes. -/
theorem window (E : ℕ → ℕ → ℝ) (o p : ℕ) (h) :
    extractStridedSlice S160x128 ![o, p] (cN 544 512 E) h = cN 160 128 (shift E o p) := by
  funext i; pointwise; simp only [cN_apply]; rfl

theorem lanes (T : ℕ → ℕ → ℝ) (p : ℕ) (h) :
    extractStridedSlice S31x128 ![0, p] (cN 31 512 T) h = cN 31 128 (shift T 0 p) := by
  funext i; pointwise; simp only [cN_apply, shift, Nat.zero_add]; rfl

/-- A window turned upwards, its first rows: the window further down. -/
theorem turned (w : ℕ → ℕ → ℝ) (k : ℕ) (r : BitVec 32) (hk : k < 30) (hr : r.toNat = 130 + k) (h h') :
    extractStridedSlice S128x128 ![0, 0] (dynamicRotate 0 r none (cN 160 128 w) h) h' = cN 128 128 fun i j => w (i + (30 - k)) j := by
  funext i
  have hi : (i 0).val < 128 := (i 0).isLt
  pointwise
  simp only [cN_apply]
  congr 2
  simp [hr]
  omega

theorem product (t v : ℕ → ℕ → ℝ) (k : ℕ) (h h') :
    mulf (F := Ideal) (φ := .f32) (broadcastTo S128x128 (extractStridedSlice S1x128 ![k, 0] (cN 31 128 t) h) h') (cN 128 128 v)
      = cN 128 128 fun i j => t k j * v i j := by
  funext i
  have h0 : (⟨0, by decide⟩ : Fin 1).val = 0 := rfl
  pointwise
  simp only [cN_apply, mul_coe]
  rfl

theorem sum_two (f g : ℕ → ℕ → ℝ) (a b : ℕ) :
    addf (F := Ideal) (φ := .f32) (cN a b f) (cN a b g) = cN a b fun i j => f i j + g i j := by
  funext i; pointwise; simp only [cN_apply, add_coe]

/-- The first tap on a block of zeros. -/
theorem first (w t : ℕ → ℕ → ℝ) (r : BitVec 32) (hr : r.toNat = 130) (h₁ h₂ h₃ h₄) :
    addf (F := Ideal) (φ := .f32) (broadcast S128x128 (Scalar.ofBits .f32 0x00000000#32))
      (mulf (broadcastTo S128x128 (extractStridedSlice S1x128 ![0, 0] (cN 31 128 t) h₁) h₂)
        (extractStridedSlice S128x128 ![0, 0] (dynamicRotate 0 r none (cN 160 128 w) h₃) h₄)) = cN 128 128 (taps w t 1) := by
  rw [turned w 0 r (by omega) hr, product]
  exact (congrArg (fun x => addf (F := Ideal) (φ := .f32) x _) (show _ = cN 128 128 fun _ _ => 0 from funext fun i => lit_zero)).trans (sum_two _ _ _ _)

/-- A further tap. -/
theorem further (w t : ℕ → ℕ → ℝ) (k : ℕ) (r : BitVec 32) (hk : k < 30) (hr : r.toNat = 130 + k) (h₁ h₂ h₃ h₄) :
    addf (F := Ideal) (φ := .f32) (cN 128 128 (taps w t k))
      (mulf (broadcastTo S128x128 (extractStridedSlice S1x128 ![k, 0] (cN 31 128 t) h₁) h₂)
        (extractStridedSlice S128x128 ![0, 0] (dynamicRotate 0 r none (cN 160 128 w) h₃) h₄)) = cN 128 128 (taps w t (k + 1)) := by
  rw [turned w k r hk hr, product, sum_two]
  rfl

/-- The last tap, which meets the window as it is. -/
theorem final (E T : ℕ → ℕ → ℝ) (o p : ℕ) (h₁ h₂ h₄) :
    addf (F := Ideal) (φ := .f32) (cN 128 128 (taps (shift E o p) (shift T 0 p) 30))
      (mulf (broadcastTo S128x128 (extractStridedSlice S1x128 ![30, 0] (cN 31 128 (shift T 0 p)) h₁) h₂)
        (extractStridedSlice S128x128 ![0, 0] (cN 160 128 (shift E o p)) h₄)) = cN 128 128 (shift (taps E T 31) o p) := by
  rw [← taps_shift, show extractStridedSlice S128x128 ![0, 0] (cN 160 128 (shift E o p)) h₄ = cN 128 128 (shift E o p) from by
    funext i; pointwise; simp only [cN_apply]; rfl, product, sum_two]
  rfl

/-! ## Blocks put together -/

/-- Four blocks of rows below one another. -/
def rows4 (a b c d : FVec Ideal S128x128 .f32) : FVec Ideal S512x128 .f32 :=
  concatenate S512x128 0 [⟨S128x128, a⟩, ⟨S128x128, b⟩, ⟨S128x128, c⟩, ⟨S128x128, d⟩] concatenates_S128x128_S128x128_S128x128_S128x128_S512x128_d0

theorem rows4_fold (a b c d : FVec Ideal S128x128 .f32) (h) :
    concatenate S512x128 0 [⟨S128x128, a⟩, ⟨S128x128, b⟩, ⟨S128x128, c⟩, ⟨S128x128, d⟩] h = rows4 a b c d := rfl

theorem rows4_eq (G : ℕ → ℕ → ℝ) (p : ℕ) :
    rows4 (cN 128 128 (shift G 0 p)) (cN 128 128 (shift G 128 p)) (cN 128 128 (shift G 256 p)) (cN 128 128 (shift G 384 p))
      = cN 512 128 (shift G 0 p) := by
  funext i
  have hi : (i 0).val < 512 := (i 0).isLt
  pointwise [rows4]
  simp only [cN_apply, shift]
  split_ifs <;> congr 2 <;> simp <;> omega

/-- Four blocks of lanes beside one another. -/
def lanes4 (a b c d : FVec Ideal S512x128 .f32) : FVec Ideal S512x512 .f32 :=
  concatenate S512x512 1 [⟨S512x128, a⟩, ⟨S512x128, b⟩, ⟨S512x128, c⟩, ⟨S512x128, d⟩] concatenates_S512x128_S512x128_S512x128_S512x128_S512x512_d1

theorem lanes4_fold (a b c d : FVec Ideal S512x128 .f32) (h) :
    concatenate S512x512 1 [⟨S512x128, a⟩, ⟨S512x128, b⟩, ⟨S512x128, c⟩, ⟨S512x128, d⟩] h = lanes4 a b c d := rfl

theorem lanes4_eq (G : ℕ → ℕ → ℝ) :
    lanes4 (cN 512 128 (shift G 0 0)) (cN 512 128 (shift G 0 128)) (cN 512 128 (shift G 0 256)) (cN 512 128 (shift G 0 384))
      = cN 512 512 G := by
  funext i
  have hi : (i 1).val < 512 := (i 1).isLt
  pointwise [lanes4]
  simp only [cN_apply, shift]
  split_ifs <;> congr 2 <;> simp <;> omega

/-! ## The windows' sums -/

/-- The sum of `n` rows from a row on. -/
def ahead (E : ℕ → ℕ → ℝ) (n i j : ℕ) : ℝ := ∑ k ∈ Finset.range n, E (i + k) j

/-- The windows' lengths by lane. -/
def length (j : ℕ) : ℕ := if j < 128 then 2 else if j < 256 then 4 else if j < 384 then 8 else 16

theorem rotated (E : ℕ → ℕ → ℝ) (s : ℕ) (r : BitVec 32) (hs : s < 544) (hr : r.toNat + s = 544) (h) :
    dynamicRotate 0 r none (cN 544 512 E) h = cN 544 512 fun i j => E ((i + s) % 544) j := by
  funext i
  have hi : (i 0).val < 544 := (i 0).isLt
  pointwise
  simp only [cN_apply]
  congr 2
  have hr' : r.toNat = 544 - s := by omega
  simp [hr']
  rcases Nat.eq_zero_or_pos s with rfl | h
  · simp
  · rw [Nat.mod_eq_of_lt (a := 544 - s) (by omega)]; congr 1; omega

/-- The sum of twice as many rows. -/
theorem ahead_two (E : ℕ → ℕ → ℝ) (n i j : ℕ) : ahead E n i j + ahead E n (i + n) j = ahead E (n + n) i j := by
  unfold ahead
  rw [Finset.sum_range_add]
  simp only [Nat.add_assoc]

/-- A function with the one `s` rows further down added to it. -/
def double (f : ℕ → ℕ → ℝ) (s : ℕ) : ℕ → ℕ → ℝ := fun i j => f i j + f ((i + s) % 544) j

theorem doubled (f : ℕ → ℕ → ℝ) (s : ℕ) (r : BitVec 32) (hs : s < 544) (hr : r.toNat + s = 544) (h) :
    addf (F := Ideal) (φ := .f32) (cN 544 512 f) (dynamicRotate 0 r none (cN 544 512 f) h) = cN 544 512 (double f s) := by
  rw [rotated f s r hs hr, sum_two]
  rfl

theorem double_ahead (E f : ℕ → ℕ → ℝ) (n : ℕ) (hf : ∀ i j, i + n ≤ 544 → f i j = ahead E n i j) (hn : 0 < n) (i j : ℕ) (hi : i + (n + n) ≤ 544) :
    double f n i j = ahead E (n + n) i j := by
  unfold double
  rw [Nat.mod_eq_of_lt (by omega), hf i j (by omega), hf (i + n) j (by omega), ahead_two]

theorem upper (f : ℕ → ℕ → ℝ) (h) : extractStridedSlice S512x512 ![0, 0] (cN 544 512 f) h = cN 512 512 f := by
  funext i; pointwise; simp only [cN_apply]; rfl

theorem strip (f : ℕ → ℕ → ℝ) (p : ℕ) (h) : extractStridedSlice S512x128 ![0, p] (cN 512 512 f) h = cN 512 128 (shift f 0 p) := by
  funext i; pointwise; simp only [cN_apply, shift, Nat.zero_add]; rfl

/-- A function of rows and lanes given group of lanes by group. -/
def byLane (a b c d : ℕ → ℕ → ℝ) (i j : ℕ) : ℝ := if j < 128 then a i j else if j < 256 then b i j else if j < 384 then c i j else d i j

theorem lanes4_by (a b c d : ℕ → ℕ → ℝ) :
    lanes4 (cN 512 128 (shift a 0 0)) (cN 512 128 (shift b 0 128)) (cN 512 128 (shift c 0 256)) (cN 512 128 (shift d 0 384))
      = cN 512 512 (byLane a b c d) := by
  rw [← lanes4_eq]
  refine congr (congr (congrArg₂ lanes4 ?_ ?_) ?_) ?_ <;> refine cN_congr fun i _ j hj => ?_ <;> unfold shift byLane
  · rw [if_pos (by omega)]
  · rw [if_neg (by omega), if_pos (by omega)]
  · rw [if_neg (by omega), if_neg (by omega), if_pos (by omega)]
  · rw [if_neg (by omega), if_neg (by omega), if_neg (by omega)]

theorem windows (E : ℕ → ℕ → ℝ) : k0_pay186 (F := Ideal) (cN 544 512 E) = cN 512 512 fun i j => ahead E (length j) i j := by
  simp (disch := decide) only [k0_pay186, doubled E 1, doubled _ 2, doubled _ 4, doubled _ 8, upper, strip, lanes4_fold, lanes4_by]
  have h₁ : ∀ i j, i + 1 ≤ 544 → E i j = ahead E 1 i j := fun i j _ => by simp [ahead]
  have h₂ := double_ahead E _ 1 h₁ (by omega)
  have h₄ := double_ahead E _ (1 + 1) h₂ (by omega)
  have h₈ := double_ahead E _ (1 + 1 + (1 + 1)) h₄ (by omega)
  have h₁₆ := double_ahead E _ _ h₈ (by omega)
  refine cN_congr fun i hi j _ => ?_
  unfold length byLane
  split_ifs
  · exact h₂ i j (by omega)
  · exact h₄ i j (by omega)
  · exact h₈ i j (by omega)
  · exact h₁₆ i j (by omega)

end Cert.MixInBwdIdeal.Tap
-- ==== Proof.MixSpec.lean ====
/-
  The gradients of the mixer's projection, convolution and pooling, row by row in real numbers.
-/
module

public import proofs.«01_k».proof.Proof.Coe

@[expose] public section

noncomputable section

namespace Step.Mix

open Step

/-- A function of rows and lanes, zero outside them. -/
def tot {a b : ℕ} (f : Fin a → Fin b → ℝ) (i j : ℕ) : ℝ := if h : i < a ∧ j < b then f ⟨i, h.1⟩ ⟨j, h.2⟩ else 0

theorem tot_in {a b : ℕ} (f : Fin a → Fin b → ℝ) (i : Fin a) (j : Fin b) : tot f i.val j.val = f i j := dif_pos ⟨i.isLt, j.isLt⟩

theorem tot_out {a b : ℕ} (f : Fin a → Fin b → ℝ) (i j : ℕ) (h : a ≤ i) : tot f i j = 0 := dif_neg fun q => absurd q.1 (by omega)

/-- The pooling window's length by lane. -/
def len (j : ℕ) : ℕ := if j < 128 then 2 else if j < 256 then 4 else if j < 384 then 8 else 16

/-- The number of tokens in a token's window. -/
def cnt (t j : ℕ) : ℝ := ((min (t + 1) (len j) : ℕ) : ℝ)

theorem len_pos (j : ℕ) : 0 < len j := by unfold len; split_ifs <;> omega

theorem cnt_ne (t j : ℕ) : cnt t j ≠ 0 := by
  have := len_pos j
  exact Nat.cast_ne_zero.mpr (by omega)

/-- The projected row. -/
def pre (x g : Fin 1024 → ℝ) (W : Fin 1024 → Fin 1536 → ℝ) (j : Fin 1536) : ℝ := ∑ k, x k * inv x * g k * W k j

/-- The pooled channels' cotangent over the windows' lengths. -/
def share (P : Fin 8192 → Fin 512 → ℝ) (t : Fin 8192) (j : Fin 512) : ℝ := P t j / cnt t.val j.val

/-- The pooled channels' gradient: the shares of the windows a token lies in, less its own cotangent. -/
def du (P : Fin 8192 → Fin 512 → ℝ) (t j : ℕ) : ℝ := (∑ k ∈ Finset.range (len j), tot (share P) (t + k) j) - tot P t j

/-- The gated channels' gradient: the convolution, transposed. -/
def dg (D : Fin 8192 → Fin 512 → ℝ) (T : Fin 31 → Fin 512 → ℝ) (t j : ℕ) : ℝ := ∑ k ∈ Finset.range 31, tot T k j * tot D (t + (30 - k)) j

/-- The projected row's gradient, from the row `h` and the gradients of its pooled and gated channels. -/
def dh (h : Fin 1536 → ℝ) (u g : ℕ → ℝ) (j : Fin 1536) : ℝ :=
  if j.val < 512 then u j.val
  else if h2 : j.val < 1024 then g (j.val - 512) * logi (h ⟨j.val - 512 + 1024, by omega⟩)
  else g (j.val - 1024) * h ⟨j.val - 1024 + 512, by omega⟩ * logi (h j) * (1 - logi (h j))

/-! ## Words that are small natural numbers -/

open Idealize.ShloMosaic

theorem toInt_ofNat (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  have c : (BitVec.ofNat 32 a).slt (BitVec.ofNat 32 b) = decide (a < b) := by
    rw [BitVec.slt, toInt_ofNat a ha, toInt_ofNat b hb]
    exact decide_eq_decide.mpr Int.ofNat_lt
  show Scalar.select (BitVec.ofBool ((BitVec.ofNat 32 a).slt (BitVec.ofNat 32 b))) x y = _
  rw [c]
  by_cases h : a < b <;> simp [h, Scalar.select]

theorem lit_four : Ideal.ofBits .f32 0x40800000#32 = ((4 : ℝ) : EReal) := by
  simp [Ideal.ofBits, Ideal.ieee, -EReal.coe_mul]; norm_num
theorem lit_eight : Ideal.ofBits .f32 0x41000000#32 = ((8 : ℝ) : EReal) := by
  simp [Ideal.ofBits, Ideal.ieee, -EReal.coe_mul]; norm_num
theorem lit_sixteen : Ideal.ofBits .f32 0x41800000#32 = ((16 : ℝ) : EReal) := by
  simp [Ideal.ofBits, Ideal.ieee, -EReal.coe_mul]; norm_num

/-- A window's length, chosen by comparing the lane. -/
theorem len_select (j : ℕ) (hj : j < 512) :
    Scalar.select (IntOp.cmpi .slt (BitVec.ofNat 32 j) 128#32) (Ideal.ofBits .f32 0x40000000#32)
      (Scalar.select (IntOp.cmpi .slt (BitVec.ofNat 32 j) 256#32) (Ideal.ofBits .f32 0x40800000#32)
        (Scalar.select (IntOp.cmpi .slt (BitVec.ofNat 32 j) 384#32) (Ideal.ofBits .f32 0x41000000#32) (Ideal.ofBits .f32 0x41800000#32)))
      = (((len j : ℕ) : ℝ) : EReal) := by
  rw [select_slt j 128 (by omega) (by omega), select_slt j 256 (by omega) (by omega), select_slt j 384 (by omega) (by omega),
    lit_two, lit_four, lit_eight, lit_sixteen]
  unfold len
  split_ifs <;> norm_num

/-- A token's place, as a word. -/
theorem place_word (t i : ℕ) (ht : t < 16) (hi : i < 512) :
    (IntOp.addi (IntOp.addi (Scalar.muli (BitVec.ofNat 32 t) 512#32) (BitVec.ofNat 32 i)) 1#32).toInt = ((t * 512 + i + 1 : ℕ) : ℤ) := by
  have e : IntOp.addi (IntOp.addi (Scalar.muli (BitVec.ofNat 32 t) 512#32) (BitVec.ofNat 32 i)) 1#32 = BitVec.ofNat 32 (t * 512 + i + 1) := by
    show BitVec.ofNat 32 t * BitVec.ofNat 32 512 + BitVec.ofNat 32 i + BitVec.ofNat 32 1 = _
    rw [← BitVec.ofNat_mul, ← BitVec.ofNat_add, ← BitVec.ofNat_add]
  rw [e, toInt_ofNat _ (by omega)]

theorem min_nat (a b : ℕ) : min (((a : ℕ) : ℝ) : EReal) (((b : ℕ) : ℝ) : EReal) = (((min a b : ℕ) : ℝ) : EReal) := by
  rcases le_total a b with h | h
  · rw [min_eq_left h, min_eq_left (EReal.coe_le_coe_iff.mpr (Nat.cast_le.mpr h))]
  · rw [min_eq_right h, min_eq_right (EReal.coe_le_coe_iff.mpr (Nat.cast_le.mpr h))]

/-- A window's count of tokens, as a word. -/
theorem count_word (n l : ℕ) (hn : n < 2 ^ 30) (hl : l < 2 ^ 30) :
    FloatOps.sitofp (F := Ideal) .f32 (IntOp.minsi (IntOp.addi (1#32) (BitVec.ofNat 32 n)) (BitVec.ofNat 32 l)) = (((min (n + 1) l : ℕ) : ℝ) : EReal) := by
  have e : IntOp.addi (1#32) (BitVec.ofNat 32 n) = BitVec.ofNat 32 (n + 1) := by
    show BitVec.ofNat 32 1 + BitVec.ofNat 32 n = _
    rw [← BitVec.ofNat_add, Nat.add_comm]
  rw [e]
  have q : IntOp.minsi (BitVec.ofNat 32 (n + 1)) (BitVec.ofNat 32 l) = BitVec.ofNat 32 (min (n + 1) l) := by
    unfold IntOp.minsi
    rw [BitVec.slt, toInt_ofNat _ (by omega), toInt_ofNat _ (by omega)]
    by_cases h : n + 1 < l
    · rw [min_eq_left h.le]; simp; omega
    · rw [min_eq_right (by omega)]; simp; omega
  rw [q]
  show (((BitVec.ofNat 32 (min (n + 1) l)).toInt : ℝ) : EReal) = _
  rw [toInt_ofNat _ (by omega)]
  simp

end Step.Mix
-- ==== Proof.MixBody.lean ====
/-
  The blocks of the mixer's backward body, in real numbers.
-/
module

public import proofs.«01_k».proof.Proof.MixTap
public import proofs.«01_k».proof.Proof.MixSpec

@[expose] public section

set_option maxRecDepth 16384

noncomputable section

namespace Cert.MixInBwdIdeal.Body

open Cert.MixInBwdIdeal Cert.MixInBwdIdeal.Gen Cert.MixInBwdIdeal.Tap Idealize.ShloMosaic Idealize.ShloMosaic.TcCoe Step Step.Mix

theorem count_block (t i j : ℕ) (ht : t < 16) (hi : i < 512) (hj : j < 512) :
    min (FloatOps.sitofp (F := Ideal) .f32 (IntOp.addi (IntOp.addi (Scalar.muli (BitVec.ofNat 32 t) 512#32) (BitVec.ofNat 32 i)) 1#32))
      (Scalar.select (IntOp.cmpi .slt (BitVec.ofNat 32 j) 128#32) (Ideal.ofBits .f32 0x40000000#32)
        (Scalar.select (IntOp.cmpi .slt (BitVec.ofNat 32 j) 256#32) (Ideal.ofBits .f32 0x40800000#32)
          (Scalar.select (IntOp.cmpi .slt (BitVec.ofNat 32 j) 384#32) (Ideal.ofBits .f32 0x41000000#32) (Ideal.ofBits .f32 0x41800000#32))))
      = ((cnt (t * 512 + i) j : ℝ) : EReal) := by
  rw [len_select j hj]
  show min ((((IntOp.addi (IntOp.addi (Scalar.muli (BitVec.ofNat 32 t) 512#32) (BitVec.ofNat 32 i)) 1#32).toInt : ℝ)) : EReal) _ = _
  rw [place_word t i ht hi, Int.cast_natCast, min_nat]
  rfl

theorem dh_block (t : ℕ) (ht : t < 16) (Q B P : ℕ → ℕ → ℝ) (H : Fin 512 → Fin 1536 → ℝ) :
    k0_pay192 (F := Ideal) (cN 512 512 Q) (cN 512 512 B) (cN 512 512 P) (k0_pay188 (F := Ideal) (BitVec.ofNat 32 t)) (iota .tc S512x512 32 [1] iota_S512x512_d1_w32)
      k0_pay189 k0_pay190 k0_pay191 (c2 H) = c2 fun r => dh (H r) (fun j => B r.val j - P r.val j * cnt (t * 512 + r.val) j) (Q r.val) := by
  funext i
  have h0 : (i 0).val < 512 := (i 0).isLt
  have h1 : (i 1).val < 1536 := (i 1).isLt
  pointwise [k0_pay192, k0_pay188, k0_pay189, k0_pay190, k0_pay191]
  simp only [c2_apply, cN_apply, lit_half, mul_coe, Ideal.tanh_coe, add_coe, one_coe, sub_coe, logi_tanh, dh]
  by_cases h : (i 1).val < 512
  · rw [dif_pos h, if_pos h]
    exact (congrArg (fun z => _ - _ * z) (count_block t _ _ ht h0 h)).trans (by rw [mul_coe, sub_coe]; rfl)
  rw [dif_neg h, if_neg h]
  by_cases h2 : (i 1).val < 1024
  · rw [dif_pos (by omega), dif_pos h2]
    refine congrArg Real.toEReal (congrArg (fun z => Q _ _ * logi (H _ z)) (Fin.ext ?_))
    show 1024 + ((i 1).val - 512) = (i 1).val - 512 + 1024
    omega
  · rw [dif_neg (by omega), dif_neg h2]
    have key (r : Fin 512) (n n' : ℕ) (p p' q q' : Fin 1536) (hn : n = n') (hp : p = p') (hq : q = q') :
        Q r.val n * H r p * logi (H r q) * (1 - logi (H r q)) = Q r.val n' * H r p' * logi (H r q') * (1 - logi (H r q')) := by
      rw [hn, hp, hq]
    refine congrArg Real.toEReal (key (i 0) _ _ _ _ _ _ ?_ (Fin.ext ?_) (Fin.ext ?_))
    · show (i 1).val - 512 - 512 = (i 1).val - 1024
      omega
    · show 512 + ((i 1).val - 512 - 512) = (i 1).val - 1024 + 512
      omega
    · show 1024 + ((i 1).val - 512 - 512) = (i 1).val
      omega

theorem ms_block (X : Fin 512 → Fin 1024 → ℝ) :
    k0_pay194 (F := Ideal) (c2 X) = c2 fun r (_ : Fin 1) => (∑ k, X r k * X r k) / 1024 := by
  funext i
  pointwise [k0_pay194]
  simp only [c2_apply, lit_1024, mul_coe, sum_coe, div_coe _ _ (show (1024 : ℝ) ≠ 0 by norm_num)]
  rfl

theorem inv_block (X : Fin 512 → Fin 1024 → ℝ) (e : Ideal .f32) (he : e = ((eps : ℝ) : EReal)) :
    k0_pay1 (F := Ideal) (c2 fun r (_ : Fin 1) => (∑ k, X r k * X r k) / 1024) e = c2 fun r (_ : Fin 1) => inv (X r) := by
  funext i
  pointwise [k0_pay1]
  simp only [c2_apply, he, add_coe]
  exact rsqrt_ms _

theorem xh_block (X : Fin 512 → Fin 1024 → ℝ) (e : Ideal .f32) (he : e = ((eps : ℝ) : EReal)) :
    k0_pay2 (F := Ideal) (c2 X) (c2 fun r (_ : Fin 1) => (∑ k, X r k * X r k) / 1024) e = c2 fun r k => X r k * inv (X r) := by
  funext i
  pointwise [k0_pay2, inv_block _ _ he]
  simp only [c2_apply, mul_coe]
  rfl

theorem gain_block (Z X : Fin 512 → Fin 1024 → ℝ) (y : Fin 1024 → ℝ) (e : Ideal .f32) (he : e = ((eps : ℝ) : EReal)) :
    k0_pay3 (F := Ideal) (c2 Z) (c2 X) (c2 fun r (_ : Fin 1) => (∑ k, X r k * X r k) / 1024) e (c2 fun _ : Fin 1 => y)
      = c2 fun (_ : Fin 1) k => y k + ∑ r, Z r k * (X r k * inv (X r)) := by
  funext i
  pointwise [k0_pay3, xh_block _ _ he]
  simp only [c2_apply, mul_coe, sum_coe, add_coe]
  rfl

theorem dx_block (Z X Y : Fin 512 → Fin 1024 → ℝ) (G : Fin 1024 → ℝ) (e : Ideal .f32) (he : e = ((eps : ℝ) : EReal)) :
    k0_pay4 (F := Ideal) (c2 Z) (c2 X) (c2 fun r (_ : Fin 1) => (∑ k, X r k * X r k) / 1024) e (c2 Y) (c2 fun _ : Fin 1 => G)
      = c2 fun r k => Y r k + rmsBwd (X r) G (Z r) k := by
  funext i
  pointwise [k0_pay4, xh_block _ _ he, inv_block _ _ he]
  simp only [c2_apply, lit_1024, mul_coe, sum_coe, sub_coe, add_coe, div_coe _ _ (show (1024 : ℝ) ≠ 0 by norm_num)]
  rfl

theorem back_block (W : Fin 1024 → Fin 1536 → ℝ) (t : ℕ) (ht : t < 16) (Q B P : ℕ → ℕ → ℝ) (H : Fin 512 → Fin 1536 → ℝ) :
    k0_pay193 (F := Ideal) (cN 512 512 Q) (cN 512 512 B) (cN 512 512 P) (k0_pay188 (F := Ideal) (BitVec.ofNat 32 t)) (iota .tc S512x512 32 [1] iota_S512x512_d1_w32)
      k0_pay189 k0_pay190 k0_pay191 (c2 H) (c2 W)
      = c2 fun r k => ∑ j, dh (H r) (fun j => B r.val j - P r.val j * cnt (t * 512 + r.val) j) (Q r.val) j * W k j := by
  funext i
  pointwise [k0_pay193, dh_block t ht]
  simp only [c2_apply, lit_zero, mul_coe, sum_coe, add_coe, zero_add]
  rfl

/-! ## A block with the rows after it -/

/-- The rows after a block are the next rows, zero after the last block. -/
theorem joined (F : ℕ → ℕ → ℝ) (o t : ℕ) (ht : t < 16) (B : S32x512.Idx → EReal)
    (hin : t < 15 → B = cN 32 512 (shift F (o + 512) 0)) (hout : ¬ t < 15 → ∀ i j, F (o + 512 + i) j = 0) (h) :
    concatenate S544x512 0 [⟨S512x512, (cN 512 512 (shift F o 0) : S512x512.Idx → EReal)⟩,
      ⟨S32x512, (Scalar.select (IntOp.cmpi .slt (BitVec.ofNat 32 t) 15#32) B (fun _ => Scalar.ofBits (F := Ideal) .f32 0x00000000#32) : S32x512.Idx → EReal)⟩] h
      = cN 544 512 (shift F o 0) := by
  rw [select_slt t 15 (by omega) (by omega)]
  have e : (if t < 15 then B else (fun _ => Scalar.ofBits (F := Ideal) .f32 0x00000000#32)) = cN 32 512 (shift F (o + 512) 0) := by
    by_cases c : t < 15
    · rw [if_pos c, hin c]
    · rw [if_neg c]
      funext i
      refine lit_zero.trans (congrArg Real.toEReal ?_)
      exact (hout c _ _).symm
  rw [e]
  funext i
  pointwise
  by_cases c : (i 0).val < 512
  · rw [dif_pos c]
    rfl
  · rw [dif_neg c]
    refine congrArg Real.toEReal ?_
    show F (o + 512 + ((i 0).val - 512)) (0 + (i 1).val) = F (o + (i 0).val) (0 + (i 1).val)
    congr 1
    omega

theorem d_rows (i : grid0.Coords) (t : ℕ) (ht : t < 16) (hi : (i 0).val = t) (F : ℕ → ℕ → ℝ) (o : ℕ) (B : S32x512.Idx → EReal)
    (hin : t < 15 → B = cN 32 512 (shift F (o + 512) 0)) (hout : ¬ t < 15 → ∀ i j, F (o + 512 + i) j = 0) :
    k0_pay6 (F := Ideal) i (cN 512 512 (shift F o 0)) B = cN 544 512 (shift F o 0) := by
  unfold k0_pay6
  rw [hi]
  exact joined F o t ht B hin hout _

theorem p_rows (i : grid0.Coords) (t : ℕ) (ht : t < 16) (hi : (i 0).val = t) (F : ℕ → ℕ → ℝ) (o : ℕ) (B : S32x512.Idx → EReal)
    (hin : t < 15 → B = cN 32 512 (shift F (o + 512) 0)) (hout : ¬ t < 15 → ∀ i j, F (o + 512 + i) j = 0) :
    k0_pay7 (F := Ideal) i (cN 512 512 (shift F o 0)) B = cN 544 512 (shift F o 0) := by
  unfold k0_pay7
  rw [hi]
  refine Eq.trans ?_ (joined F o t ht B hin hout concatenates_S512x512_S32x512_S544x512_d0)
  funext j
  pointwise
  rfl

end Cert.MixInBwdIdeal.Body
-- ==== Proof.MixEntry.lean ====
/-
  What the backward call of the mixer's projection, convolution and pooling finds when its region starts, over real arguments: the
  packed weights, the forward's inner product, the pooled cotangent over the windows' lengths, and the blocks the pipeline stages
  at a grid point.
-/
module

public import proofs.«01_k».proof.Proof.Gen.MixInBwdIdeal.Value
public import proofs.«01_k».proof.Proof.MixSpec
public import proofs.«01_k».proof.Proof.MixTap
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.MixInBwdIdeal.Entry

open Cert.MixInBwdIdeal Cert.MixInBwdIdeal.Gen Idealize.ShloMosaic Idealize.ShloMosaic.TcCoe Idealize.SL.Sem Step Step.Mix Tap

variable (m : (ℓ : Loc nD τ sig) → Buf (Elt Ideal) ℓ)

/-- The call's arguments on device `c` are arrays of real numbers. -/
structure Real (c : Dev nD) where
  X : Fin 8192 → Fin 1024 → ℝ
  G : Fin 1024 → ℝ
  W : Fin 1024 → Fin 1536 → ℝ
  T : Fin 31 → Fin 512 → ℝ
  P : Fin 8192 → Fin 512 → ℝ
  D : Fin 8192 → Fin 512 → ℝ
  Y : Fin 8192 → Fin 1024 → ℝ
  hX : m ((c : Thread nD τ).loc main_arg0) = c2 X
  hG : m ((c : Thread nD τ).loc main_arg1) = c1 G
  hW : m ((c : Thread nD τ).loc main_arg2) = c2 W
  hT : m ((c : Thread nD τ).loc main_arg3) = c2 T
  hP : m ((c : Thread nD τ).loc main_arg4) = c2 P
  hD : m ((c : Thread nD τ).loc main_arg5) = c2 D
  hY : m ((c : Thread nD τ).loc main_arg6) = c2 Y

variable {m} {c : Dev nD} (a : Real m c)

/-- The weights, packed by quarters of their columns. -/
theorem win_entry : (V m c main_v2 : S4x1024x384.Idx → EReal) = c3 fun q k j => a.W k ⟨q.val * 384 + j.val, by omega⟩ := by
  entry_read
  rw [a.hW]
  funext i
  pointwise
  simp only [c2_apply, c3_apply]
  rfl

/-- The forward's inner product. -/
theorem h_entry : (V m c main_v18 : S8192x1536.Idx → EReal) = c2 fun t j => pre (a.X t) a.G a.W j := by
  entry_read
  rw [a.hX, a.hG, a.hW]
  funext i
  pointwise
  simp only [c1_apply, c2_apply, lit_1024, lit_eps, mul_coe, sum_coe, add_coe, div_coe _ _ (show (1024 : ℝ) ≠ 0 by norm_num)]
  simp only [ix2_0, ix2_1, rsqrt_ms, mul_coe, sum_coe]
  rfl

/-- The windows' lengths by group of lanes. -/
theorem lit_len (j : Fin 512) (q : Fin 4) (hq : q.val = j.val / 128) : lit0 (S4.rowMajor (ix1 q)) = BitVec.ofNat 32 (len j.val) := by
  have e : len j.val = ![2, 4, 8, 16] q := by
    unfold len
    fin_cases q <;> (try simp at hq) <;> simp <;> (try split_ifs) <;> omega
  rw [e]
  fin_cases q <;> decide
/-- The pooled cotangent over the windows' lengths. -/
theorem share_entry : (V m c main_v30 : S8192x512.Idx → EReal) = c2 (share a.P) := by
  entry_read
  rw [a.hP]
  funext i
  pointwise
  simp only [c2_apply]
  rw [lit_len (i 1) _ rfl]
  erw [count_word (i 0).val (len (i 1).val) (by have : (i 0).val < 8192 := (i 0).isLt; omega) (by unfold len; split_ifs <;> omega)]
  exact div_coe _ _ (cnt_ne _ _)

/-- Row `r` of the block staged at grid point `t`. -/
def row (t : Fin cfg0.N) (r : Fin 512) : Fin 8192 := ⟨t.val * 512 + r.val, by have := t.isLt; have : cfg0.N = 16 := N_0; omega⟩

/-- Row `r` of the rows staged after the block of grid point `t`. -/
def after (t : Fin cfg0.N) (r : Fin 32) : Fin 8192 := ⟨min ((t.val + 1) * 16) 255 * 32 + r.val, by omega⟩

theorem x_block (t : Fin cfg0.N) : iblk m c 0 t = c2 fun r k => a.X (row t r) k := by
  have idx : ∀ t : Fin cfg0.N, win0_0.index t = ![t.val, 0] := (by decide +kernel : ∀ t : Fin grid0.N, _)
  funext i
  have e : iblk m c 0 t i = (c2 a.X : S8192x1024.Idx → EReal) (ix2 (row t (i 0)) (i 1)) := by
    rw [← a.hX]
    blk_ext [iblk, V, row, idx t]
  exact e

theorem y_block (t : Fin cfg0.N) : iblk m c 1 t = c2 fun r k => a.Y (row t r) k := by
  have idx : ∀ t : Fin cfg0.N, win0_1.index t = ![t.val, 0] := (by decide +kernel : ∀ t : Fin grid0.N, _)
  funext i
  have e : iblk m c 1 t i = (c2 a.Y : S8192x1024.Idx → EReal) (ix2 (row t (i 0)) (i 1)) := by
    rw [← a.hY]
    blk_ext [iblk, V, row, idx t]
  exact e

theorem h_block (t : Fin cfg0.N) : iblk m c 2 t = c2 fun r j => pre (a.X (row t r)) a.G a.W j := by
  have idx : ∀ t : Fin cfg0.N, win0_2.index t = ![t.val, 0] := (by decide +kernel : ∀ t : Fin grid0.N, _)
  funext i
  have e : iblk m c 2 t i = (V m c main_v18 : S8192x1536.Idx → EReal) (ix2 (row t (i 0)) (i 1)) := by
    blk_ext [iblk, row, idx t]
  rw [e, h_entry a]
  rfl

/-- Rows of a zero-extended array. -/
theorem rows_of (F : Fin 8192 → Fin 512 → ℝ) (o : ℕ) (n : Fin 8192) (r : ℕ) (j : Fin 512) (h : n.val = o + r) : F n j = shift (tot F) o 0 r j.val := by
  show F n j = tot F (o + r) (0 + j.val)
  rw [← h, Nat.zero_add, tot_in]

theorem d_block (t : Fin cfg0.N) : iblk m c 3 t = cN 512 512 (shift (tot a.D) (t.val * 512) 0) := by
  have idx : ∀ t : Fin cfg0.N, win0_3.index t = ![t.val, 0] := (by decide +kernel : ∀ t : Fin grid0.N, _)
  funext i
  have e : iblk m c 3 t i = (c2 a.D : S8192x512.Idx → EReal) (ix2 (row t (i 0)) (i 1)) := by
    rw [← a.hD]
    blk_ext [iblk, V, row, idx t]
  rw [e]
  exact congrArg Real.toEReal (rows_of a.D _ _ _ (i 1) rfl)

theorem d_after (t : Fin cfg0.N) (h : t.val < 15) : iblk m c 4 t = cN 32 512 (shift (tot a.D) (t.val * 512 + 512) 0) := by
  have idx : ∀ t : Fin cfg0.N, win0_4.index t = ![min ((t.val + 1) * 16) 255, 0] := (by decide +kernel : ∀ t : Fin grid0.N, _)
  funext i
  have e : iblk m c 4 t i = (c2 a.D : S8192x512.Idx → EReal) (ix2 (after t (i 0)) (i 1)) := by
    rw [← a.hD]
    blk_ext [iblk, V, after, idx t]
  rw [e]
  refine congrArg Real.toEReal (rows_of a.D _ _ _ (i 1) ?_)
  show min ((t.val + 1) * 16) 255 * 32 + (i 0).val = _
  omega

theorem p_block (t : Fin cfg0.N) : iblk m c 5 t = cN 512 512 (shift (tot (share a.P)) (t.val * 512) 0) := by
  have idx : ∀ t : Fin cfg0.N, win0_5.index t = ![t.val, 0] := (by decide +kernel : ∀ t : Fin grid0.N, _)
  funext i
  have e : iblk m c 5 t i = (V m c main_v30 : S8192x512.Idx → EReal) (ix2 (row t (i 0)) (i 1)) := by
    blk_ext [iblk, row, idx t]
  rw [e, share_entry a]
  exact congrArg Real.toEReal (rows_of (share a.P) _ _ _ (i 1) rfl)

theorem p_after (t : Fin cfg0.N) (h : t.val < 15) : iblk m c 6 t = cN 32 512 (shift (tot (share a.P)) (t.val * 512 + 512) 0) := by
  have idx : ∀ t : Fin cfg0.N, win0_6.index t = ![min ((t.val + 1) * 16) 255, 0] := (by decide +kernel : ∀ t : Fin grid0.N, _)
  funext i
  have e : iblk m c 6 t i = (V m c main_v30 : S8192x512.Idx → EReal) (ix2 (after t (i 0)) (i 1)) := by
    blk_ext [iblk, after, idx t]
  rw [e, share_entry a]
  refine congrArg Real.toEReal (rows_of (share a.P) _ _ _ (i 1) ?_)
  show min ((t.val + 1) * 16) 255 * 32 + (i 0).val = _
  omega

theorem g_block (t : Fin cfg0.N) : iblk m c 7 t = c2 fun (_ : Fin 1) k => a.G k := by
  have idx : ∀ t : Fin cfg0.N, win0_7.index t = ![0, 0] := (by decide +kernel : ∀ t : Fin grid0.N, _)
  funext i
  have e : iblk m c 7 t i = (V m c main_v3 : S1x1024.Idx → EReal) (ix2 (i 0) (i 1)) := by
    blk_ext [iblk, idx t]
  rw [e]
  entry_read
  rw [a.hG]
  pointwise
  rfl

theorem t_block (t : Fin cfg0.N) : iblk m c 8 t = cN 31 512 (tot a.T) := by
  have idx : ∀ t : Fin cfg0.N, win0_8.index t = ![0, 0] := (by decide +kernel : ∀ t : Fin grid0.N, _)
  funext i
  have e : iblk m c 8 t i = (c2 a.T : S31x512.Idx → EReal) (ix2 (i 0) (i 1)) := by
    rw [← a.hT]
    blk_ext [iblk, V, idx t]
  rw [e]
  exact congrArg Real.toEReal (tot_in a.T (i 0) (i 1)).symm

end Cert.MixInBwdIdeal.Entry
-- ==== Proof.MixHeld.lean ====
/-
  The weights the mixer's backward call copies into its scratch at the first grid point and keeps: what the scratch holds at
  every point.
-/
module

public import proofs.«01_k».proof.Proof.MixEntry
public import Idealize.ShloMosaic.Lib.Pipeline.ValueKit.Held

@[expose] public section

set_option maxRecDepth 16384

noncomputable section

namespace Cert.MixInBwdIdeal.Entry

open Cert.MixInBwdIdeal Cert.MixInBwdIdeal.Gen Idealize.ShloMosaic Idealize.ShloMosaic.TcCoe Idealize.SL.Sem Step

variable {m : (ℓ : Loc nD τ sig) → Buf (Elt Ideal) ℓ} {c : Dev nD} (a : Real m c)

/-- The weights' scratch. -/
def win : S1024x1536.Idx → EReal := c2 a.W

/-- A slab of 384 columns, its leading axis of size one dropped. -/
theorem slab (Y : FVec Ideal S1x1024x384 .bf16) (f : S1x1024x384.ShapeCasts S1024x384) (x : S1024x384.Idx) :
    shapeCast S1024x384 Y f x = Y (ix3 0 (x 0) (x 1)) := by
  pointwise

/-- The slab copied into a quarter of the weights' columns is that quarter. -/
theorem win_slice (q r : ℕ) (hq : q < 4) (hr : r = q * 384) (e : ∀ b, ![q, 0, 0] b + ![1, 1024, 384] b ≤ S4x1024x384.size b) (f : S1x1024x384.ShapeCasts S1024x384)
    (h : ∀ b, ![0, r] b + ![1024, 384] b ≤ S1024x1536.size b) (x : (Rect.unit (s := S1024x1536) ![0, r] ![1024, 384] h).shape.Idx) :
    ReadAs.same.apply (View.read (Elt Ideal) (((View.whole main_v2).slice (Rect.unit ![q, 0, 0] ![1, 1024, 384] e)).reshape S1024x384 f) (V m c main_v2)) x
      = win a ((Rect.unit ![0, r] ![1024, 384] h).emb x) := by
  refine (slab (View.ld (V m c main_v2 : S4x1024x384.Idx → EReal) (Rect.unit ![q, 0, 0] ![1, 1024, 384] e)) f x).trans ?_
  rw [win_entry a]
  unfold win
  show ((a.W _ _ : ℝ) : EReal) = ((a.W _ _ : ℝ) : EReal)
  congr 2
  · apply Fin.ext
    show (q + 1 * 0) * 384 + (0 + 1 * (x 1).val) = r + 1 * (x 1).val
    omega

/-- The slabs copied into the weights' scratch fill it. -/
theorem win_pieces (h3 h2 h1 h0 e3 e2 e1 e0 f3 f2 f1 f0) (i : S1024x1536.Idx) :
    View.canon (Val := Elt Ideal) (s := S1024x1536) (e := .bf16)
      [⟨Rect.unit ![0, 1152] ![1024, 384] h3, ReadAs.same.apply (View.read (Elt Ideal) (((View.whole main_v2).slice (Rect.unit ![3, 0, 0] ![1, 1024, 384] e3)).reshape S1024x384 f3) (V m c main_v2))⟩,
       ⟨Rect.unit ![0, 768] ![1024, 384] h2, ReadAs.same.apply (View.read (Elt Ideal) (((View.whole main_v2).slice (Rect.unit ![2, 0, 0] ![1, 1024, 384] e2)).reshape S1024x384 f2) (V m c main_v2))⟩,
       ⟨Rect.unit ![0, 384] ![1024, 384] h1, ReadAs.same.apply (View.read (Elt Ideal) (((View.whole main_v2).slice (Rect.unit ![1, 0, 0] ![1, 1024, 384] e1)).reshape S1024x384 f1) (V m c main_v2))⟩,
       ⟨Rect.unit ![0, 0] ![1024, 384] h0, ReadAs.same.apply (View.read (Elt Ideal) (((View.whole main_v2).slice (Rect.unit ![0, 0, 0] ![1, 1024, 384] e0)).reshape S1024x384 f0) (V m c main_v2))⟩] i
      = win a i := by
  rw [← List.append_nil (_ :: _)]
  refine (View.canon_append_of_piecesOf (win a) [] _ ?_ _ (View.cover_of_tiledL _ ![1024, 384] (by sl_kernel_rfl) _)).trans rfl
  refine ⟨fun x => ?_, fun x => ?_, fun x => ?_, fun x => ?_, trivial⟩
  · exact win_slice a 3 1152 (by decide) (by decide) e3 f3 h3 x
  · exact win_slice a 2 768 (by decide) (by decide) e2 f2 h2 x
  · exact win_slice a 1 384 (by decide) (by decide) e1 f1 h1 x
  · exact win_slice a 0 0 (by decide) (by decide) e0 f0 h0 x

/-- Read back, the weights' scratch so filled is the weights. -/
theorem win_fill (v : View sig .tc .vmem S1024x1536 .bf16) (h3 h2 h1 h0 e3 e2 e1 e0 f3 f2 f1 f0) (B : Rect S1024x1536) :
    v.readCov (Val := Elt Ideal)
      [⟨Rect.unit ![0, 1152] ![1024, 384] h3, ReadAs.same.apply (View.read (Elt Ideal) (((View.whole main_v2).slice (Rect.unit ![3, 0, 0] ![1, 1024, 384] e3)).reshape S1024x384 f3) (V m c main_v2))⟩,
       ⟨Rect.unit ![0, 768] ![1024, 384] h2, ReadAs.same.apply (View.read (Elt Ideal) (((View.whole main_v2).slice (Rect.unit ![2, 0, 0] ![1, 1024, 384] e2)).reshape S1024x384 f2) (V m c main_v2))⟩,
       ⟨Rect.unit ![0, 384] ![1024, 384] h1, ReadAs.same.apply (View.read (Elt Ideal) (((View.whole main_v2).slice (Rect.unit ![1, 0, 0] ![1, 1024, 384] e1)).reshape S1024x384 f1) (V m c main_v2))⟩,
       ⟨Rect.unit ![0, 0] ![1024, 384] h0, ReadAs.same.apply (View.read (Elt Ideal) (((View.whole main_v2).slice (Rect.unit ![0, 0, 0] ![1, 1024, 384] e0)).reshape S1024x384 f0) (V m c main_v2))⟩] B.toLoadRect
      = View.ld (win a) B := by
  rw [View.readCov_eq_canon']
  funext j
  exact win_pieces a h3 h2 h1 h0 e3 e2 e1 e0 f3 f2 f1 f0 _

/-- At every grid point the scratch holds the weights. -/
theorem win_held (t : Fin cfg0.N) : (outsAt0 m c t.val t.isLt).2.2.2 = win a := by
  funext i
  refine Pipeline.eq_of_write_hold_apply (fun n h => (outsAt0 m c n h).2.2.2) 16 (fun _ => win a) (fun t h i => ?_) (fun t h i => ?_) t i
  · rw [outsAt0_A m c t h h]
    frame_out
    exact win_pieces a _ _ _ _ _ _ _ _ _ _ _ _ i
  · rw [outsAt0_B m c t h h]
    rfl

theorem win_before (t : Fin cfg0.N) (h) : (outsAt0 m c (t.val - 1) h).2.2.2 = win a := win_held a ⟨t.val - 1, h⟩

/-- All of the weights' scratch. -/
theorem ld_win (h) : View.ld (Val := Elt Ideal) (e' := .bf16) (win a) (Rect.unit (s := S1024x1536) ![0, 0] ![1024, 1536] h) = c2 a.W := by
  funext i
  show ((a.W _ _ : ℝ) : EReal) = ((a.W _ _ : ℝ) : EReal)
  congr 2
  · apply Fin.ext
    show 0 + 1 * (i 0).val = (i 0).val
    omega
  · apply Fin.ext
    show 0 + 1 * (i 1).val = (i 1).val
    omega

end Cert.MixInBwdIdeal.Entry
-- ==== Proof.MixOuts.lean ====
/-
  What the mixer's backward body leaves at a grid point: the block of each result, in real numbers.
-/
module

public import proofs.«01_k».proof.Proof.MixBody
public import proofs.«01_k».proof.Proof.MixHeld
public import Idealize.ShloMosaic.Lib.Pipeline.ReadBack

@[expose] public section

set_option maxRecDepth 65536

noncomputable section

namespace Cert.MixInBwdIdeal.Entry

open Cert.MixInBwdIdeal Cert.MixInBwdIdeal.Gen Cert.MixInBwdIdeal.Tap Idealize.ShloMosaic Idealize.ShloMosaic.TcCoe Idealize.SL.Sem Step Step.Mix Body

variable {m : (ℓ : Loc nD τ sig) → Buf (Elt Ideal) ℓ} {c : Dev nD} (a : Real m c)

/-- The grid point's coordinate. -/
theorem place (t : Fin cfg0.N) : (grid0.coords t 0).val = t.val := (by decide +kernel : ∀ t : Fin grid0.N, (grid0.coords t 0).val = t.val) t

theorem small (t : Fin cfg0.N) : t.val < 16 := by have := t.isLt; have : cfg0.N = 16 := N_0; omega

theorem d_ext (t : Fin cfg0.N) : k0_pay6 (F := Ideal) (grid0.coords t) (iblk m c 3 t) (iblk m c 4 t) = cN 544 512 (shift (tot a.D) (t.val * 512) 0) := by
  rw [d_block a t]
  exact d_rows _ t.val (small t) (place t) _ _ _ (d_after a t) fun h i j => tot_out _ _ _ (by omega)

theorem p_ext (t : Fin cfg0.N) : k0_pay7 (F := Ideal) (grid0.coords t) (iblk m c 5 t) (iblk m c 6 t) = cN 544 512 (shift (tot (share a.P)) (t.val * 512) 0) := by
  rw [p_block a t]
  exact p_rows _ t.val (small t) (place t) _ _ _ (p_after a t) fun h i j => tot_out _ _ _ (by omega)

theorem p_stage (t : Fin cfg0.N) : k0_pay187 (F := Ideal) (iblk m c 5 t) = cN 512 512 (shift (tot (share a.P)) (t.val * 512) 0) := by
  rw [p_block a t]
  funext i
  pointwise [k0_pay187]

theorem gain_zero : k0_pay5 (F := Ideal) = c2 fun _ _ => 0 := by
  funext i
  exact lit_zero

/-! ## A row's gradients -/

theorem dh_congr (h : Fin 1536 → ℝ) (u u' g g' : ℕ → ℝ) (hu : ∀ j < 512, u j = u' j) (hg : ∀ j < 512, g j = g' j) : dh h u g = dh h u' g' := by
  funext j
  unfold dh
  by_cases h1 : j.val < 512
  · rw [if_pos h1, if_pos h1, hu _ h1]
  · rw [if_neg h1, if_neg h1]
    by_cases h2 : j.val < 1024
    · rw [dif_pos h2, dif_pos h2, hg _ (by omega)]
    · rw [dif_neg h2, dif_neg h2, hg _ (by omega)]

/-- The projected rows, and their gradient. -/
def GH (s : Fin 8192) : Fin 1536 → ℝ := dh (pre (a.X s) a.G a.W) (du a.P s.val) (dg a.D a.T s.val)
/-- The normalised rows' gradient. -/
def GN (s : Fin 8192) (k : Fin 1024) : ℝ := ∑ j, GH a s j * a.W k j
/-- The input's gradient. -/
def GX (s : Fin 8192) (k : Fin 1024) : ℝ := a.Y s k + rmsBwd (a.X s) a.G (GN a s) k
/-- A block's share of the gain's gradient, and the gain's gradient. -/
def gshare (t : Fin cfg0.N) (k : Fin 1024) : ℝ := ∑ r, GN a (row t r) k * (a.X (row t r) k * inv (a.X (row t r)))
def GG (k : Fin 1024) : ℝ := ∑ s, GN a s k * (a.X s k * inv (a.X s))

theorem dh_row (t : Fin cfg0.N) (r : Fin 512) :
    dh (pre (a.X (row t r)) a.G a.W)
      (fun j => ahead (shift (tot (share a.P)) (t.val * 512) 0) (length j) r.val j
        - shift (tot (share a.P)) (t.val * 512) 0 r.val j * cnt (t.val * 512 + r.val) j)
      (taps (shift (tot a.D) (t.val * 512) 0) (tot a.T) 31 r.val) = GH a (row t r) := by
  refine dh_congr _ _ _ _ _ (fun j hj => ?_) (fun j _ => ?_)
  · refine congrArg₂ (· - ·) ?_ ?_
    · refine Finset.sum_congr rfl fun k _ => ?_
      show tot (share a.P) (t.val * 512 + (r.val + k)) (0 + j) = tot (share a.P) (t.val * 512 + r.val + k) j
      rw [Nat.zero_add, Nat.add_assoc]
    · show tot (share a.P) (t.val * 512 + r.val) (0 + j) * cnt (t.val * 512 + r.val) j = tot a.P (row t r).val j
      rw [Nat.zero_add]
      have e := tot_in (share a.P) (row t r) ⟨j, hj⟩
      have e' := tot_in a.P (row t r) ⟨j, hj⟩
      refine (congrArg (· * cnt (t.val * 512 + r.val) j) e).trans (Eq.trans ?_ e'.symm)
      exact div_mul_cancel₀ _ (cnt_ne _ _)
  · rw [taps_eq]
    refine Finset.sum_congr rfl fun k _ => ?_
    show tot a.T k j * tot a.D (t.val * 512 + (r.val + (30 - k))) (0 + j) = tot a.T k j * tot a.D (t.val * 512 + r.val + (30 - k)) j
    rw [Nat.zero_add, Nat.add_assoc]

/-- What a grid point leaves: the input's and the projected rows' gradients of its block, and the gain's gradient, grown by the
    block's share over what it was. -/
theorem outs (t : Fin cfg0.N) :
    (outsAt0 m c t.val t.isLt).1 = (c2 fun r => GX a (row t r) : S512x1024.Idx → EReal) ∧ (outsAt0 m c t.val t.isLt).2.1 = (c2 fun r => GH a (row t r) : S512x1536.Idx → EReal)
      ∧ ∀ y : Fin 1024 → ℝ, (t.val % 16 = 0 → y = fun _ => 0) →
          (¬ t.val % 16 = 0 → (outsAt0 m c (t.val - 1) (Nat.lt_of_le_of_lt (Nat.sub_le _ _) t.isLt)).2.2.1 = (c2 fun _ : Fin 1 => y : S1x1024.Idx → EReal)) →
        (outsAt0 m c t.val t.isLt).2.2.1 = (c2 fun _ : Fin 1 => y + gshare a t : S1x1024.Idx → EReal) := by
  by_cases h : t.val % 16 = 0
  on_goal 1 => refine ⟨?_, ?_, fun y hy _ => ?_⟩ <;> rw [outsAt0_A m c t h h] <;> frame_out <;> (try simp only [win_fill a, ld_win a])
  on_goal 3 => rw [hy h]
  on_goal 4 => refine ⟨?_, ?_, fun y _ hy => ?_⟩ <;> rw [outsAt0_B m c t h h] <;> frame_out <;> (try simp only [read_unread_whole, win_before a, ld_win a])
  on_goal 6 => rw [hy h]
  all_goals
    simp only [p_stage a, x_block a, y_block a, h_block a, g_block a, place t, gain_zero, win]
    simp -index (disch := first | decide | rfl) only [window, lanes, first, further, final, Nat.reduceAdd,
      rows4_fold, rows4_eq, lanes4_fold, lanes4_eq, windows, d_ext a, p_ext a, t_block a,
      k0_pay8, k0_pay9, k0_pay10, k0_pay11, k0_pay12, k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34, k0_pay35, k0_pay36, k0_pay37, k0_pay38, k0_pay39,
      k0_pay40, k0_pay41, k0_pay42, k0_pay43, k0_pay44, k0_pay45, k0_pay46, k0_pay47, k0_pay48, k0_pay49, k0_pay50, k0_pay51, k0_pay52, k0_pay53, k0_pay54, k0_pay55,
      k0_pay56, k0_pay57, k0_pay58, k0_pay59, k0_pay60, k0_pay61, k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81, k0_pay82, k0_pay83, k0_pay84, k0_pay85, k0_pay86, k0_pay87,
      k0_pay88, k0_pay89, k0_pay90, k0_pay91, k0_pay92, k0_pay93, k0_pay94, k0_pay95, k0_pay96, k0_pay97, k0_pay98, k0_pay99, k0_pay100, k0_pay101, k0_pay102, k0_pay103,
      k0_pay104, k0_pay105, k0_pay106, k0_pay107, k0_pay108, k0_pay109, k0_pay110, k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128, k0_pay129, k0_pay130, k0_pay131, k0_pay132, k0_pay133, k0_pay134, k0_pay135,
      k0_pay136, k0_pay137, k0_pay138, k0_pay139, k0_pay140, k0_pay141, k0_pay142, k0_pay143, k0_pay144, k0_pay145, k0_pay146, k0_pay147, k0_pay148, k0_pay149, k0_pay150, k0_pay151,
      k0_pay152, k0_pay153, k0_pay154, k0_pay155, k0_pay156, k0_pay157, k0_pay158, k0_pay159, k0_pay160, k0_pay161, k0_pay162, k0_pay163, k0_pay164, k0_pay165, k0_pay166, k0_pay167,
      k0_pay168, k0_pay169, k0_pay170, k0_pay171, k0_pay172, k0_pay173, k0_pay174, k0_pay175, k0_pay176, k0_pay177, k0_pay178, k0_pay179, k0_pay180, k0_pay181, k0_pay182, k0_pay183,
      k0_pay184, k0_pay185]
    simp only [ms_block, dh_block _ (small t), back_block _ _ (small t), dh_row a]
  all_goals first
    | exact dx_block (fun r => GN a (row t r)) _ _ _ _ lit_eps
    | exact gain_block (fun r => GN a (row t r)) _ _ _ lit_eps

end Cert.MixInBwdIdeal.Entry
-- ==== Proof.MixArr.lean ====
/-
  The arrays the mixer's backward call leaves: the input's gradient, the projected rows' gradient and the gain's gradient.
-/
module

public import proofs.«01_k».proof.Proof.MixOuts

@[expose] public section

set_option maxRecDepth 16384

noncomputable section

namespace Cert.MixInBwdIdeal.Entry

open Cert.MixInBwdIdeal Cert.MixInBwdIdeal.Gen Idealize.ShloMosaic Idealize.ShloMosaic.TcCoe Idealize.SL.Sem Step Step.Mix

variable {m : (ℓ : Loc nD τ sig) → Buf (Elt Ideal) ℓ} {c : Dev nD} (a : Real m c)

theorem dx_arr : (dats m 0 c).arrAt 9 cfg0.N = (c2 (GX a) : S8192x1024.Idx → EReal) := by
  have idx : ∀ t : Fin cfg0.N, win0_9.index t = ![t.val, 0] := (by decide +kernel : ∀ t : Fin grid0.N, _)
  refine (dats m 0 c).arrAt_eq_of_covers 9 (c2 (GX a) : S8192x1024.Idx → EReal) (by decide +kernel) fun t hf y => ?_
  blk_simp
  rw [after0_9, (outs a t).1]
  have e : (win0_9.blk t).view.emb y = (ix2 (row t (y 0)) (y 1) : S8192x1024.Idx) := by blk_ext [row, idx t]
  rw [e]
  rfl

theorem dh_arr : (dats m 0 c).arrAt 10 cfg0.N = (c2 (GH a) : S8192x1536.Idx → EReal) := by
  have idx : ∀ t : Fin cfg0.N, win0_10.index t = ![t.val, 0] := (by decide +kernel : ∀ t : Fin grid0.N, _)
  refine (dats m 0 c).arrAt_eq_of_covers 10 (c2 (GH a) : S8192x1536.Idx → EReal) (by decide +kernel) fun t hf y => ?_
  blk_simp
  rw [after0_10, (outs a t).2.1]
  have e : (win0_10.blk t).view.emb y = (ix2 (row t (y 0)) (y 1) : S8192x1536.Idx) := by blk_ext [row, idx t]
  rw [e]
  rfl

/-- The last grid point. -/
def last : Fin cfg0.N := ⟨15, by have : cfg0.N = 16 := N_0; omega⟩

/-- After a point the gain's gradient is the sum of the blocks' shares so far. -/
theorem dg_upto : ∀ n (h : n < cfg0.N), (outsAt0 m c n h).2.2.1 = (c2 fun _ : Fin 1 => ∑ s : Fin (n + 1), gshare a ⟨s.val, by omega⟩ : S1x1024.Idx → EReal) := by
  intro n
  induction n with
  | zero =>
    intro h
    refine ((outs a ⟨0, h⟩).2.2 (fun _ => 0) (fun _ => rfl) (fun q => absurd rfl q)).trans ?_
    refine congrArg (fun y : Fin 1024 → ℝ => (c2 fun _ : Fin 1 => y : S1x1024.Idx → EReal)) ?_
    exact (zero_add _).trans (by simp)
  | succ n ih =>
    intro h
    rw [Fin.sum_univ_castSucc (n := n + 1)]
    have : cfg0.N = 16 := N_0
    exact (outs a ⟨n + 1, h⟩).2.2 _ (fun q => by change (n + 1) % 16 = 0 at q; omega) fun _ => ih (by omega)

theorem dg_arr : (dats m 0 c).arrAt 11 cfg0.N = (c2 fun _ : Fin 1 => GG a : S1x1024.Idx → EReal) := by
  refine (dats m 0 c).arrAt_eq_of_after_last 11 last (by decide +kernel) _ fun j => ?_
  blk_simp
  rw [after0_11, dg_upto a last.val last.isLt]
  refine congrArg (fun y : Fin 1024 → ℝ => (c2 fun _ : Fin 1 => y : S1x1024.Idx → EReal) _) ?_
  funext k
  rw [Finset.sum_apply]
  exact (sum_blocks 16 512 fun s => GN a s k * (a.X s k * inv (a.X s))).symm

end Cert.MixInBwdIdeal.Entry
-- ==== Proof.MixHost.lean ====
/-
  Slices, padding, sums and running sums of arrays given by a function of their row and lane, at any sizes.
-/
module

public import proofs.«01_k».proof.Proof.MixTap
public import proofs.«01_k».proof.Proof.MixSpec
public import Idealize.ShloMosaic.Lib.Pointwise
public import Idealize.ShloMosaic.Lib.Routing.OpsOne

@[expose] public section

set_option maxRecDepth 16384

noncomputable section

namespace Step.Mix.Host

open Idealize.ShloMosaic Cert.MixInBwdIdeal.Tap Step Step.Mix

theorem cut (A B a b o p : ℕ) (f : ℕ → ℕ → ℝ) (h : Shape.Slices ⟨2, ![A, B]⟩ ![o, p] ⟨2, ![a, b]⟩) :
    extractStridedSlice (α := EReal) ⟨2, ![a, b]⟩ ![o, p] (cN A B f) h = cN a b (shift f o p) := by
  funext i
  rfl

theorem padded (a b A B lo₀ lo₁ hi₀ hi₁ : ℕ) (f : ℕ → ℕ → ℝ) {u : Shape} (v : u.Idx → EReal) (hv : v = fun _ => 0)
    (h : Shape.Pads ⟨2, ![a, b]⟩ ![lo₀, lo₁] ![hi₀, hi₁] ![0, 0] ⟨2, ![A, B]⟩) (hu : 0 < u.numel) :
    pad ⟨2, ![A, B]⟩ ![lo₀, lo₁] ![hi₀, hi₁] ![0, 0] (cN a b f) v h hu
      = cN A B fun i j => if (lo₀ ≤ i ∧ i < lo₀ + a) ∧ lo₁ ≤ j ∧ j < lo₁ + b then f (i - lo₀) (j - lo₁) else 0 := by
  subst hv
  funext i
  rw [pad_apply]
  by_cases c : (lo₀ ≤ (i 0).val ∧ (i 0).val < lo₀ + a) ∧ lo₁ ≤ (i 1).val ∧ (i 1).val < lo₁ + b
  · rw [dif_pos]
    · rw [cN_apply, cN_apply, if_pos c]
      refine congrArg Real.toEReal (congrArg₂ f ?_ ?_)
      · exact Nat.div_one _
      · exact Nat.div_one _
    · intro q
      match q with
      | ⟨0, _⟩ => exact ⟨c.1.1, Nat.mod_one _, by show ((i 0).val - lo₀) / 1 < a; rw [Nat.div_one]; omega⟩
      | ⟨1, _⟩ => exact ⟨c.2.1, Nat.mod_one _, by show ((i 1).val - lo₁) / 1 < b; rw [Nat.div_one]; omega⟩
  · rw [dif_neg]
    · rw [cN_apply, if_neg c]
      rfl
    · intro q
      have q0 := q 0
      have q1 := q 1
      change lo₀ ≤ (i 0).val ∧ _ ∧ ((i 0).val - lo₀) / 1 < a at q0
      change lo₁ ≤ (i 1).val ∧ _ ∧ ((i 1).val - lo₁) / 1 < b at q1
      rw [Nat.div_one] at q0 q1
      omega

theorem negated (a b : ℕ) (f : ℕ → ℕ → ℝ) : Host.negf (F := Ideal) (φ := .f32) (cN a b f) = cN a b fun i j => - f i j := by
  funext i
  exact (EReal.coe_neg _).symm

theorem divided (a b : ℕ) (f g : ℕ → ℕ → ℝ) (hg : ∀ i j, g i j ≠ 0) :
    Host.divf (F := Ideal) (φ := .f32) (cN a b f) (cN a b g) = cN a b fun i j => f i j / g i j := by
  funext i
  exact div_coe _ _ (hg _ _)

theorem foldl_coe {N : ℕ} (g : Fin N → ℝ) (l : List (Fin N)) (v : ℝ) :
    l.foldl (fun r n => r + ((g n : ℝ) : EReal)) ((v : ℝ) : EReal) = ((v + (l.map g).sum : ℝ) : EReal) := by
  induction l generalizing v with
  | nil => simp
  | cons x l ih =>
    rw [List.foldl_cons, ← EReal.coe_add, ih, List.map_cons, List.sum_cons, add_assoc]

/-- The running sum from below: each row's entry is the sum of its column's entries from that row on. -/
theorem behind (R C Rm : ℕ) (hR : Rm + 1 = R) (f : ℕ → ℕ → ℝ) (hf : ∀ i j, R ≤ i → f i j = 0) {u : Shape} (v : u.Idx → EReal) (hv : v = fun _ => 0)
    (h : Shape.ReduceWindows ⟨2, ![R, C]⟩ ![R, 1] ![1, 1] ![0, 0] ![Rm, 0] ⟨2, ![R, C]⟩) (hu : 0 < u.numel) :
    Host.reduceWindowAdd (F := Ideal) (φ := .f32) ![R, 1] ![1, 1] ![0, 0] ![Rm, 0] (cN R C f) v h hu
      = cN R C fun i j => ∑ n ∈ Finset.range R, f (i + n) j := by
  subst hv
  funext j
  show (List.finRange (Shape.numel ⟨2, ![R, 1]⟩)).foldl _ (0 : EReal) = _
  refine (List.foldl_ext _ (fun r n => r + ((f ((j 0).val + n.val) (j 1).val : ℝ) : EReal)) _ fun r n _ => ?_).trans ?_
  · have hw0 : ((⟨2, ![R, 1]⟩ : Shape).rowMajor.symm n 0).val = n.val := by
      have := congrFun (Routing.symm_col (R := R) n) 0
      rw [this]; rfl
    have hw1 : ((⟨2, ![R, 1]⟩ : Shape).rowMajor.symm n 1).val = 0 := by
      have := congrFun (Routing.symm_col (R := R) n) 1
      rw [this]; rfl
    refine congrArg (fun z : EReal => r + z) ?_
    split
    · rw [cN_apply]
      refine congrArg Real.toEReal (congrArg₂ f ?_ ?_)
      · show (j 0).val * 1 + ((⟨2, ![R, 1]⟩ : Shape).rowMajor.symm n 0).val - 0 = _
        rw [hw0]; omega
      · show (j 1).val * 1 + ((⟨2, ![R, 1]⟩ : Shape).rowMajor.symm n 1).val - 0 = _
        rw [hw1]; omega
    · next hin =>
      rw [hf _ _ ?_]
      · rfl
      by_contra q
      apply hin
      intro a
      match a with
      | ⟨0, _⟩ =>
        show 0 ≤ (j 0).val * 1 + ((⟨2, ![R, 1]⟩ : Shape).rowMajor.symm n 0).val ∧ (j 0).val * 1 + ((⟨2, ![R, 1]⟩ : Shape).rowMajor.symm n 0).val - 0 < R
        rw [hw0]; omega
      | ⟨1, _⟩ =>
        show 0 ≤ (j 1).val * 1 + ((⟨2, ![R, 1]⟩ : Shape).rowMajor.symm n 1).val ∧ (j 1).val * 1 + ((⟨2, ![R, 1]⟩ : Shape).rowMajor.symm n 1).val - 0 < C
        rw [hw1]
        have : (j 1).val < C := (j 1).isLt
        omega
  refine (foldl_coe (fun n => f ((j 0).val + n.val) (j 1).val) _ 0).trans ?_
  refine congrArg Real.toEReal ?_
  rw [zero_add, ← Fin.sum_univ_def]
  show _ = ∑ n ∈ Finset.range R, f ((j 0).val + n) (j 1).val
  rw [Finset.sum_range]
  exact Fintype.sum_equiv (finCongr (Routing.numel_col R)) _ _ fun n => rfl

/-- A function that ends, less itself further down, summed from a place on, is its sum over the step. -/
theorem telescope (S : ℕ → ℝ) (N L i : ℕ) (hS : ∀ k, N ≤ k → S k = 0) :
    ∑ n ∈ Finset.range N, (S (i + n) - S (i + n + L)) = ∑ k ∈ Finset.range L, S (i + k) := by
  have e : ∑ k ∈ Finset.range L, S (i + k) + ∑ n ∈ Finset.range N, S (i + (L + n)) = ∑ n ∈ Finset.range N, S (i + n) + ∑ k ∈ Finset.range L, S (i + (N + k)) := by
    rw [← Finset.sum_range_add, ← Finset.sum_range_add, Nat.add_comm]
  have z : ∑ k ∈ Finset.range L, S (i + (N + k)) = 0 := Finset.sum_eq_zero fun k _ => hS _ (by omega)
  rw [Finset.sum_sub_distrib]
  have q : ∑ n ∈ Finset.range N, S (i + n + L) = ∑ n ∈ Finset.range N, S (i + (L + n)) := Finset.sum_congr rfl fun n _ => by congr 1; omega
  rw [q]
  linarith

end Step.Mix.Host
-- ==== Proof.MixRef.lean ====
/-
  What the mixer's input derivative, taken by reverse differentiation, computes on arrays of real numbers.
-/
module

public import proofs.«01_k».proof.Proof.MixHost
public import proofs.«01_k».proof.Proof.FfnRef
public import proofs.«01_k».proof.Proof.Gen.MixInBwdRefIdeal.Read

@[expose] public section

set_option maxRecDepth 16384

noncomputable section

namespace Cert.MixInBwdRefIdeal.Stage

open Cert.MixInBwdRefIdeal Cert.MixInBwdRefIdeal.Gen Cert.MixInBwdRefIdeal.Read Idealize.ShloMosaic Step Step.Mix Step.Mix.Host
open Cert.MixInBwdIdeal.Tap (cN cN_apply cN_congr shift sum_two)

theorem as_cN {a b : ℕ} (f : Fin a → Fin b → ℝ) : (c2 f : Shape.Idx ⟨2, ![a, b]⟩ → EReal) = cN a b (tot f) := by
  funext i
  exact congrArg Real.toEReal (tot_in f (i 0) (i 1)).symm

theorem zero_word : constant (F := Ideal) S_ .f32 0x00000000#32 = fun _ => (0 : EReal) := by
  funext i
  exact lit_zero

theorem same_rows (D : ℕ → ℕ → ℝ) (h) : shapeCast S8192x512 (cN 8192 512 D) h = cN 8192 512 D := by
  funext i
  pointwise

/-- One tap's products. -/
theorem tapped (D T : ℕ → ℕ → ℝ) (k : ℕ) (h₁ h₂ h₃ h₄) :
    mulf (F := Ideal) (φ := .f32) (cN 8192 512 D) (broadcastInDim S8192x512 ![0, 1] h₁ (broadcastInDim S1x512 ![1] h₂
      (shapeCast S512 (extractStridedSlice S1x512 ![k, 0] (cN 31 512 T) h₃) h₄))) = cN 8192 512 fun i j => D i j * T k j := by
  funext i
  pointwise
  simp only [cN_apply, mul_coe]
  rfl

/-- The taps from the last down, each one's products laid at its own row. -/
def laid (D T : ℕ → ℕ → ℝ) (n i j : ℕ) : ℝ := ∑ m ∈ Finset.range n, if 30 - m ≤ i then D (i - (30 - m)) j * T (30 - m) j else 0

theorem padded_tap (D T : ℕ → ℕ → ℝ) (hD : ∀ i j, 8192 ≤ i → D i j = 0) (k l : ℕ) {u : Shape} (v : u.Idx → EReal) (hv : v = fun _ => 0) (h) (hu : 0 < u.numel) :
    pad S8222x512 ![k, 0] ![l, 0] ![0, 0] (cN 8192 512 fun i j => D i j * T k j) v h hu
      = cN 8222 512 fun i j => if k ≤ i then D (i - k) j * T k j else 0 := by
  refine (padded 8192 512 8222 512 k 0 l 0 _ v hv h hu).trans (cN_congr fun i _ j hj => ?_)
  by_cases c : k ≤ i
  · by_cases c' : i < k + 8192
    · rw [if_pos ⟨⟨c, c'⟩, by omega⟩, if_pos c]; rfl
    · rw [if_neg (fun q => c' q.1.2), if_pos c, hD _ _ (by omega), zero_mul]
  · rw [if_neg (fun q => c q.1.1), if_neg c]

theorem laid_first (D T : ℕ → ℕ → ℝ) : (cN 8222 512 fun i j => if 30 ≤ i then D (i - 30) j * T 30 j else 0) = cN 8222 512 (laid D T 1) := by
  refine cN_congr fun i _ j _ => ?_
  rw [laid, Finset.sum_range_one]

theorem laid_next (D T : ℕ → ℕ → ℝ) (n k : ℕ) (hk : n + k = 30) :
    addf (F := Ideal) (φ := .f32) (cN 8222 512 (laid D T n)) (cN 8222 512 fun i j => if k ≤ i then D (i - k) j * T k j else 0) = cN 8222 512 (laid D T (n + 1)) := by
  rw [sum_two]
  refine cN_congr fun i _ j _ => ?_
  obtain rfl : k = 30 - n := by omega
  show laid D T n i j + _ = laid D T (n + 1) i j
  rw [laid, laid, Finset.sum_range_succ]

theorem laid_dg (D : Fin 8192 → Fin 512 → ℝ) (T : Fin 31 → Fin 512 → ℝ) (i j : ℕ) : laid (tot D) (tot T) 31 (30 + i) j = dg D T i j := by
  rw [laid, dg, ← Finset.sum_range_reflect]
  refine Finset.sum_congr rfl fun k hk => ?_
  have : k < 31 := Finset.mem_range.mp hk
  rw [if_pos (by omega), mul_comm]
  have e : 30 - (31 - 1 - k) = k := by omega
  rw [e]
  have q : 30 + i - k = i + (30 - k) := by omega
  rw [q]

theorem dglu (T : Fin 31 → Fin 512 → ℝ) (D : Fin 8192 → Fin 512 → ℝ) : val_main_v440 (F := Ideal) (c2 T) (c2 D) = cN 8192 512 (dg D T) := by
  have hD : ∀ i j, 8192 ≤ i → tot D i j = 0 := fun i j h => tot_out D i j h
  simp -index (disch := first | exact hD | rfl) only [val_main_v314, val_main_v315, val_main_v316, val_main_v317, val_main_v318, val_main_v319, val_main_v320, val_main_v321, val_main_v322, val_main_v323, val_main_v324, val_main_v325, val_main_v326,
    val_main_v327, val_main_v328, val_main_v329, val_main_v330, val_main_v331, val_main_v332, val_main_v333, val_main_v334, val_main_v335, val_main_v336, val_main_v337, val_main_v338, val_main_v339,
    val_main_v340, val_main_v341, val_main_v342, val_main_v343, val_main_v344, val_main_v345, val_main_v346, val_main_v347, val_main_v348, val_main_v349, val_main_v350, val_main_v351, val_main_v352,
    val_main_v353, val_main_v354, val_main_v355, val_main_v356, val_main_v357, val_main_v358, val_main_v359, val_main_v360, val_main_v361, val_main_v362, val_main_v363, val_main_v364, val_main_v365,
    val_main_v366, val_main_v367, val_main_v368, val_main_v369, val_main_v370, val_main_v371, val_main_v372, val_main_v373, val_main_v374, val_main_v375, val_main_v376, val_main_v377, val_main_v378,
    val_main_v379, val_main_v380, val_main_v381, val_main_v382, val_main_v383, val_main_v384, val_main_v385, val_main_v386, val_main_v387, val_main_v388, val_main_v389, val_main_v390, val_main_v391,
    val_main_v392, val_main_v393, val_main_v394, val_main_v395, val_main_v396, val_main_v397, val_main_v398, val_main_v399, val_main_v400, val_main_v401, val_main_v402, val_main_v403, val_main_v404,
    val_main_v405, val_main_v406, val_main_v407, val_main_v408, val_main_v409, val_main_v410, val_main_v411, val_main_v412, val_main_v413, val_main_v414, val_main_v415, val_main_v416, val_main_v417,
    val_main_v418, val_main_v419, val_main_v420, val_main_v421, val_main_v422, val_main_v423, val_main_v424, val_main_v425, val_main_v426, val_main_v427, val_main_v428, val_main_v429, val_main_v430,
    val_main_v431, val_main_v432, val_main_v433, val_main_v434, val_main_v435, val_main_v436, val_main_v437, val_main_v438, val_main_v440, val_main_v97, val_main_v98, val_main_v99, val_main_v105,
    val_main_v106, val_main_v107, val_main_v112, val_main_v113, val_main_v114, val_main_v119, val_main_v120, val_main_v121, val_main_v126, val_main_v127, val_main_v128, val_main_v133, val_main_v134,
    val_main_v135, val_main_v140, val_main_v141, val_main_v142, val_main_v147, val_main_v148, val_main_v149, val_main_v154, val_main_v155, val_main_v156, val_main_v161, val_main_v162, val_main_v163,
    val_main_v168, val_main_v169, val_main_v170, val_main_v175, val_main_v176, val_main_v177, val_main_v182, val_main_v183, val_main_v184, val_main_v189, val_main_v190, val_main_v191, val_main_v196,
    val_main_v197, val_main_v198, val_main_v203, val_main_v204, val_main_v205, val_main_v210, val_main_v211, val_main_v212, val_main_v217, val_main_v218, val_main_v219, val_main_v224, val_main_v225,
    val_main_v226, val_main_v231, val_main_v232, val_main_v233, val_main_v238, val_main_v239, val_main_v240, val_main_v245, val_main_v246, val_main_v247, val_main_v252, val_main_v253, val_main_v254,
    val_main_v259, val_main_v260, val_main_v261, val_main_v266, val_main_v267, val_main_v268, val_main_v273, val_main_v274, val_main_v275, val_main_v280, val_main_v281, val_main_v282, val_main_v287,
    val_main_v288, val_main_v289, val_main_v294, val_main_v295, val_main_v296, val_main_v301, val_main_v302, val_main_v303, val_main_v308, val_main_v309, val_main_v310, val_main_cst_25,
    val_main_cst_26, val_main_cst_27, val_main_cst_28, val_main_cst_29, val_main_cst_30, val_main_cst_31, val_main_cst_32, val_main_cst_33, val_main_cst_34, val_main_cst_35, val_main_cst_36,
    val_main_cst_37, val_main_cst_38, val_main_cst_39, val_main_cst_40, val_main_cst_41, val_main_cst_42, val_main_cst_43, val_main_cst_44, val_main_cst_45, val_main_cst_46, val_main_cst_47,
    val_main_cst_48, val_main_cst_49, val_main_cst_50, val_main_cst_51, val_main_cst_52, val_main_cst_53, val_main_cst_54, val_main_cst_55,
    as_cN, zero_word, same_rows, tapped, padded_tap, laid_first, laid_next]
  rw [cut]
  exact cN_congr fun i _ j _ => (laid_dg D T i (0 + j)).trans (by rw [Nat.zero_add])

end Cert.MixInBwdRefIdeal.Stage
-- ==== Proof.MixPool.lean ====
/-
  The pooled half of the mixer's input derivative, taken by reverse differentiation: the transposed running means, on
  arrays of real numbers.
-/
module

public import proofs.«01_k».proof.Proof.MixHost
public import proofs.«01_k».proof.Proof.MixRef
public import proofs.«01_k».proof.Proof.Gen.MixInBwdRefIdeal.Read

@[expose] public section

set_option maxRecDepth 16384

noncomputable section

namespace Cert.MixInBwdRefIdeal.Stage

open Cert.MixInBwdRefIdeal Cert.MixInBwdRefIdeal.Gen Cert.MixInBwdRefIdeal.Read Idealize.ShloMosaic Step Step.Mix Step.Mix.Host
open Cert.MixInBwdIdeal.Tap (cN cN_apply cN_congr shift sum_two)

theorem count_from (n l : ℕ) (hn : n < 2 ^ 30) (hl : l < 2 ^ 30) :
    FloatOps.sitofp (F := Ideal) .f32 (IntOp.minsi (IntOp.addi (BitVec.ofNat 32 n) (1#32)) (BitVec.ofNat 32 l)) = (((min (n + 1) l : ℕ) : ℝ) : EReal) := by
  have e : IntOp.addi (BitVec.ofNat 32 n) (1#32) = IntOp.addi (1#32) (BitVec.ofNat 32 n) := BitVec.add_comm _ _
  rw [e, count_word n l hn hl]

/-- The counts of a group of lanes whose windows are of `L` tokens. -/
def tally (L i : ℕ) (_ : ℕ) : ℝ := ((min (i + 1) L : ℕ) : ℝ)

theorem tally_16 : val_main_v452 (F := Ideal) = cN 8192 128 (tally 16) := by
  funext i
  have h : (i 0).val < 8192 := (i 0).isLt
  pointwise [val_main_v452, val_main_v74, val_main_v73, val_main_v72, val_main_v71, val_main_c_18, val_main_v70, val_main_v69, val_main_c_17, val_main_v21]
  exact count_from _ 16 (by omega) (by norm_num)

theorem tally_8 : val_main_v460 (F := Ideal) = cN 8192 128 (tally 8) := by
  funext i
  have h : (i 0).val < 8192 := (i 0).isLt
  pointwise [val_main_v460, val_main_v60, val_main_v59, val_main_v58, val_main_v57, val_main_c_14, val_main_v56, val_main_v55, val_main_c_13, val_main_v21]
  exact count_from _ 8 (by omega) (by norm_num)

theorem tally_4 : val_main_v469 (F := Ideal) = cN 8192 128 (tally 4) := by
  funext i
  have h : (i 0).val < 8192 := (i 0).isLt
  pointwise [val_main_v469, val_main_v46, val_main_v45, val_main_v44, val_main_v43, val_main_c_10, val_main_v42, val_main_v41, val_main_c_9, val_main_v21]
  exact count_from _ 4 (by omega) (by norm_num)

theorem tally_2 : val_main_v478 (F := Ideal) = cN 8192 128 (tally 2) := by
  funext i
  have h : (i 0).val < 8192 := (i 0).isLt
  pointwise [val_main_v478, val_main_v32, val_main_v31, val_main_v30, val_main_v29, val_main_c_6, val_main_v28, val_main_v27, val_main_c, val_main_v21]
  exact count_from _ 2 (by omega) (by norm_num)

/-- A group's quotients: the shared gradient of its lanes. -/
theorem quotient (P : Fin 8192 → Fin 512 → ℝ) (p L : ℕ) (hL : 0 < L) (hp : p + 128 ≤ 512) (hl : ∀ j, j < 128 → len (p + j) = L) (h) :
    Host.divf (F := Ideal) (φ := .f32) (extractStridedSlice S8192x128 ![0, p] (cN 8192 512 (tot P)) h) (cN 8192 128 (tally L))
      = cN 8192 128 fun i j => tot (share P) i (p + j) := by
  refine (congrArg (fun z => Host.divf (F := Ideal) (φ := .f32) z _) (cut 8192 512 8192 128 0 p _ h)).trans ?_
  refine (divided _ _ _ _ fun i j => Nat.cast_ne_zero.mpr (by omega)).trans (cN_congr fun i hi j hj => ?_)
  have hq : p + j < 512 := by omega
  have e := tot_in P ⟨i, hi⟩ ⟨p + j, hq⟩
  have e' := tot_in (share P) ⟨i, hi⟩ ⟨p + j, hq⟩
  change tot P i (p + j) = _ at e
  change tot (share P) i (p + j) = _ at e'
  show tot P (0 + i) (p + j) / tally L i j = _
  rw [Nat.zero_add, e, e', share, cnt, hl j hj, tally]

/-- A group's gradient: its quotients, less those of the rows a window further down, at the group's own lanes. -/
theorem group (S : ℕ → ℕ → ℝ) (hS : ∀ i j, 8192 ≤ i → S i j = 0) (p L a r : ℕ) (ha : a + L = 8192) {u : Shape} (v : u.Idx → EReal) (hv : v = fun _ => 0)
    (h₁ h₂ h₃) (hu : 0 < u.numel) :
    pad S8192x512 ![0, p] ![0, r] ![0, 0] (addf (F := Ideal) (φ := .f32) (cN 8192 128 fun i j => S i (p + j))
        (pad S8192x128 ![0, 0] ![L, 0] ![0, 0] (extractStridedSlice ⟨2, ![a, 128]⟩ ![L, 0] (Host.negf (F := Ideal) (φ := .f32) (cN 8192 128 fun i j => S i (p + j))) h₁) v h₂ hu)) v h₃ hu
      = cN 8192 512 fun i j => if p ≤ j ∧ j < p + 128 then S i j - S (i + L) j else 0 := by
  rw [negated, cut 8192 128 a 128 L 0, padded a 128 8192 128 0 0 L 0 _ v hv, sum_two, padded 8192 128 8192 512 0 p 0 r _ v hv]
  refine cN_congr fun i hi j hj => ?_
  by_cases c : p ≤ j ∧ j < p + 128
  · rw [if_pos ⟨by omega, c⟩, if_pos c]
    have e : p + (j - p) = j := by omega
    by_cases c' : i < a
    · rw [if_pos (by omega)]
      show S (i - 0) (p + (j - p)) + -S (L + (i - 0 - 0)) (p + (0 + (j - p - 0))) = _
      rw [Nat.sub_zero, Nat.sub_zero, Nat.sub_zero, Nat.zero_add, e, Nat.add_comm L i]
      ring
    · rw [if_neg (by omega), Nat.sub_zero, e, hS (i + L) j (by omega)]
      ring
  · rw [if_neg (fun q => c q.2), if_neg c]

theorem share_16 (P : Fin 8192 → Fin 512 → ℝ) : val_main_v453 (F := Ideal) (c2 P) = cN 8192 128 fun i j => tot (share P) i (384 + j) := by
  rw [val_main_v453, val_main_v451, val_main_v446, as_cN, same_rows, tally_16]
  exact quotient P 384 16 (by norm_num) (by norm_num) (fun j hj => by unfold len; split_ifs <;> omega) _

theorem share_8 (P : Fin 8192 → Fin 512 → ℝ) : val_main_v461 (F := Ideal) (c2 P) = cN 8192 128 fun i j => tot (share P) i (256 + j) := by
  rw [val_main_v461, val_main_v450, val_main_v446, as_cN, same_rows, tally_8]
  exact quotient P 256 8 (by norm_num) (by norm_num) (fun j hj => by unfold len; split_ifs <;> omega) _

theorem share_4 (P : Fin 8192 → Fin 512 → ℝ) : val_main_v470 (F := Ideal) (c2 P) = cN 8192 128 fun i j => tot (share P) i (128 + j) := by
  rw [val_main_v470, val_main_v449, val_main_v446, as_cN, same_rows, tally_4]
  exact quotient P 128 4 (by norm_num) (by norm_num) (fun j hj => by unfold len; split_ifs <;> omega) _

theorem share_2 (P : Fin 8192 → Fin 512 → ℝ) : val_main_v479 (F := Ideal) (c2 P) = cN 8192 128 fun i j => tot (share P) i (0 + j) := by
  rw [val_main_v479, val_main_v448, val_main_v446, as_cN, same_rows, tally_2]
  exact quotient P 0 2 (by norm_num) (by norm_num) (fun j hj => by unfold len; split_ifs <;> omega) _

/-- Before the running sum: each row's shared gradient, less that of the row a window further down. -/
def drop (P : Fin 8192 → Fin 512 → ℝ) (i j : ℕ) : ℝ := if j < 512 then tot (share P) i j - tot (share P) (i + len j) j else 0

theorem drops (P : Fin 8192 → Fin 512 → ℝ) : val_main_v486 (F := Ideal) (c2 P) = cN 8192 512 (drop P) := by
  have hS : ∀ i j, 8192 ≤ i → tot (share P) i j = 0 := fun i j h => tot_out _ i j h
  simp -index (disch := first | exact hS | rfl) only [val_main_v486, val_main_v485, val_main_v484, val_main_v483, val_main_v482, val_main_v480, val_main_v477, val_main_v476, val_main_v475, val_main_v474, val_main_v473, val_main_v471, val_main_v468, val_main_v467, val_main_v466, val_main_v465, val_main_v464, val_main_v462, val_main_v459, val_main_v458, val_main_v457, val_main_v456, val_main_v454, val_main_cst_57, val_main_cst_58, val_main_cst_59, val_main_cst_60, val_main_cst_61, val_main_cst_62, val_main_cst_63, val_main_cst_64,
    share_16, share_8, share_4, share_2, zero_word, group, sum_two]
  refine cN_congr fun i hi j hj => ?_
  rw [drop, if_pos hj, len]
  split_ifs <;> first | omega | ring

/-- The running sum from below undoes the difference: the sum over the window. -/
theorem dus (P : Fin 8192 → Fin 512 → ℝ) : val_main_v488 (F := Ideal) (c2 P) = cN 8192 512 (du P) := by
  have hS : ∀ i j, 8192 ≤ i → tot (share P) i j = 0 := fun i j h => tot_out _ i j h
  have hd : ∀ i j, 8192 ≤ i → drop P i j = 0 := by
    intro i j h
    unfold drop
    split
    · rw [hS _ _ h, hS _ _ (by omega), sub_zero]
    · rfl
  have z : val_main_call1_call0_v0 (F := Ideal) = fun _ => (0 : EReal) := by
    funext i
    pointwise [val_main_call1_call0_v0, val_main_call1_call0_cst]
  rw [val_main_v488, val_main_v447, val_main_v487, drops, as_cN P, behind 8192 512 8191 rfl (drop P) hd _ z, negated, sum_two]
  refine cN_congr fun i hi j hj => ?_
  have t := telescope (fun k => tot (share P) k j) 8192 (len j) i fun k h => hS k j h
  have e : ∑ n ∈ Finset.range 8192, drop P (i + n) j = ∑ k ∈ Finset.range (len j), tot (share P) (i + k) j := by
    rw [← t]
    exact Finset.sum_congr rfl fun n _ => by rw [drop, if_pos hj]
  show -tot P i j + ∑ n ∈ Finset.range 8192, drop P (i + n) j = du P i j
  rw [e, du]
  ring

end Cert.MixInBwdRefIdeal.Stage
-- ==== Proof.MixBack.lean ====
/-
  What the mixer's input derivative, taken by reverse differentiation, computes on arrays of real numbers: its stages up
  to its results.
-/
module

public import proofs.«01_k».proof.Proof.MixHost
public import proofs.«01_k».proof.Proof.FfnRef
public import proofs.«01_k».proof.Proof.MixPool
public import proofs.«01_k».proof.Proof.Gen.MixInBwdRefIdeal.Read

@[expose] public section

set_option maxRecDepth 16384

noncomputable section

namespace Cert.MixInBwdRefIdeal.Stage

open Cert.MixInBwdRefIdeal Cert.MixInBwdRefIdeal.Gen Cert.MixInBwdRefIdeal.Read Idealize.ShloMosaic Step Step.Mix Step.Mix.Host
open Cert.MixInBwdIdeal.Tap (cN cN_apply cN_congr shift sum_two)

variable (X : Fin 8192 → Fin 1024 → ℝ) (G : Fin 1024 → ℝ) (W : Fin 1024 → Fin 1536 → ℝ) (T : Fin 31 → Fin 512 → ℝ) (P D : Fin 8192 → Fin 512 → ℝ) (Y : Fin 8192 → Fin 1024 → ℝ)

/-- The projected rows. -/
abbrev hs (t : Fin 8192) : Fin 1536 → ℝ := pre (X t) G W

theorem dh_pool (h : Fin 1536 → ℝ) (u g : ℕ → ℝ) (j : ℕ) (hj : j < 512) : dh h u g ⟨j, by omega⟩ = u j := if_pos hj

theorem dh_value (h : Fin 1536 → ℝ) (u g : ℕ → ℝ) (j : ℕ) (hj : j < 512) : dh h u g ⟨j + 512, by omega⟩ = g j * logi (h ⟨j + 1024, by omega⟩) := by
  rw [dh, if_neg (by show ¬ j + 512 < 512; omega), dif_pos (by show j + 512 < 1024; omega)]
  have e : j + 512 - 512 = j := by omega
  simp only [e]

theorem dh_gate (h : Fin 1536 → ℝ) (u g : ℕ → ℝ) (j : ℕ) (hj : 512 ≤ j) (hj' : j < 1024) : dh h u g ⟨j + 512, by omega⟩
    = g (j - 512) * h ⟨j - 512 + 512, by omega⟩ * logi (h ⟨j - 512 + 1024, by omega⟩) * (1 - logi (h ⟨j - 512 + 1024, by omega⟩)) := by
  rw [dh, if_neg (by show ¬ j + 512 < 512; omega), dif_neg (by show ¬ j + 512 < 1024; omega)]
  have e : j + 512 - 1024 = j - 512 := by omega
  have q : j - 512 + 1024 = j + 512 := by omega
  simp only [e, q]

theorem ms : val_main_v7 (F := Ideal) (c2 X) = c2 fun t (_ : Fin 1) => msq (X t) := by
  funext i
  pointwise [val_main_v7, val_main_v6, val_main_cst_2, val_main_v5, val_main_v4, val_main_cst_1, val_main_v3, val_main_v2, val_main_cst_0, val_main_v1]
  simp only [c2_apply, lit_1024, lit_eps, mul_coe, sum_coe, add_coe, div_coe _ _ (show (1024 : ℝ) ≠ 0 by norm_num)]
  rfl

theorem root : val_main_v8 (F := Ideal) (c2 X) = c2 fun t (_ : Fin 1) => inv (X t) := by
  funext i
  pointwise [val_main_v8, ms]
  exact rsqrt_msq _

theorem cube : val_main_v11 (F := Ideal) (c2 X) = c2 fun t (_ : Fin 1) => -(1 / 2) * (inv (X t) / msq (X t)) := by
  funext i
  pointwise [val_main_v11, val_main_v10, val_main_cst_3, val_main_v9, root, ms]
  simp only [c2_apply, lit_neg_half, mul_coe, div_coe _ _ (msq_pos _).ne']

theorem xhat : val_main_v13 (F := Ideal) (c2 X) = c2 fun t k => X t k * inv (X t) := by
  funext i
  pointwise [val_main_v13, val_main_v12, root]
  simp only [c2_apply, mul_coe]
  rfl

theorem hid : val_main_v18 (F := Ideal) (c2 X) (c1 G) (c2 W) = c2 (hs X G W) := by
  funext i
  pointwise [val_main_v18, val_main_v0, val_main_cst, val_main_v17, val_main_v16, val_main_v15, val_main_v14, xhat]
  simp only [c1_apply, c2_apply, lit_zero, mul_coe, sum_coe, add_coe, add_zero]
  rfl

theorem value : val_main_v81 (F := Ideal) (c2 X) (c1 G) (c2 W) = c2 fun t (j : Fin 512) => hs X G W t ⟨j.val + 512, by omega⟩ := by
  funext i
  pointwise [val_main_v81, val_main_v80, hid]
  exact congrArg Real.toEReal (congrArg (hs X G W _) (Fin.ext (by show 512 + (i 1).val = _; exact Nat.add_comm _ _)))

theorem gate : val_main_v82 (F := Ideal) (c2 X) (c1 G) (c2 W) = c2 fun t (j : Fin 512) => hs X G W t ⟨j.val + 1024, by omega⟩ := by
  funext i
  pointwise [val_main_v82, val_main_v80, hid]
  exact congrArg Real.toEReal (congrArg (hs X G W _) (Fin.ext (by show 512 + (512 + (i 1).val) = (i 1).val + 1024; omega)))

theorem sig : val_main_v89 (F := Ideal) (c2 X) (c1 G) (c2 W) = c2 fun t (j : Fin 512) => logi (hs X G W t ⟨j.val + 1024, by omega⟩) := by
  funext i
  pointwise [val_main_v89, val_main_v88, val_main_cst_21, val_main_v87, val_main_v86, val_main_cst_20, val_main_v85, val_main_v84, gate]
  simp only [c2_apply, lit_one]
  exact logi_exp _

theorem slopes : val_main_v92 (F := Ideal) (c2 X) (c1 G) (c2 W)
    = c2 fun t (j : Fin 512) => logi (hs X G W t ⟨j.val + 1024, by omega⟩) * (1 - logi (hs X G W t ⟨j.val + 1024, by omega⟩)) := by
  funext i
  pointwise [val_main_v92, val_main_v91, val_main_v90, val_main_cst_22, sig]
  simp only [c2_apply, lit_one, one_coe, sub_coe, mul_coe]

theorem dvalue : val_main_v442 (F := Ideal) (c2 X) (c1 G) (c2 W) (c2 T) (c2 D)
    = c2 fun t (j : Fin 512) => dg D T t.val j.val * logi (hs X G W t ⟨j.val + 1024, by omega⟩) := by
  funext i
  pointwise [val_main_v442, dglu, sig]
  simp only [c2_apply, cN_apply, mul_coe]

theorem dgate : val_main_v443 (F := Ideal) (c2 X) (c1 G) (c2 W) (c2 T) (c2 D)
    = c2 fun t (j : Fin 512) => dg D T t.val j.val * hs X G W t ⟨j.val + 512, by omega⟩ * logi (hs X G W t ⟨j.val + 1024, by omega⟩) * (1 - logi (hs X G W t ⟨j.val + 1024, by omega⟩)) := by
  funext i
  pointwise [val_main_v443, val_main_v441, dglu, value, slopes]
  simp only [c2_apply, cN_apply, mul_coe]
  congr 1
  ring

/-- The projected row's gradient. -/
abbrev dhs (t : Fin 8192) : Fin 1536 → ℝ := dh (hs X G W t) (du P t.val) (dg D T t.val)

theorem dglus : val_main_v444 (F := Ideal) (c2 X) (c1 G) (c2 W) (c2 T) (c2 D)
    = c2 fun t (j : Fin 1024) => dhs X G W T P D t ⟨j.val + 512, by omega⟩ := by
  funext i
  have hi : (i 1).val < 1024 := (i 1).isLt
  pointwise [val_main_v444, dvalue, dgate]
  simp only [c2_apply]
  by_cases h : (i 1).val < 512
  · rw [dif_pos h]
    exact congrArg Real.toEReal (dh_value _ _ _ _ h).symm
  · rw [dif_neg h]
    exact congrArg Real.toEReal (dh_gate _ _ _ _ (by omega) hi).symm

theorem dhs_all : val_main_v490 (F := Ideal) (c2 X) (c1 G) (c2 W) (c2 T) (c2 P) (c2 D) = c2 (dhs X G W T P D) := by
  have z : val_main_cst_56 (F := Ideal) = fun _ => (0 : EReal) := funext fun i => lit_zero
  have z' : val_main_cst_65 (F := Ideal) = fun _ => (0 : EReal) := funext fun i => lit_zero
  rw [val_main_v490, val_main_v445, val_main_v489, dglus, dus, as_cN, padded 8192 1024 8192 1536 0 512 0 0 _ _ z,
    padded 8192 512 8192 1536 0 0 0 1024 _ _ z', sum_two, as_cN]
  refine cN_congr fun i hi j hj => ?_
  have e := tot_in (dhs X G W T P D) ⟨i, hi⟩ ⟨j, hj⟩
  change tot (dhs X G W T P D) i j = _ at e
  rw [e]
  by_cases h : j < 512
  · rw [if_neg (by omega), if_pos (by omega), zero_add, Nat.sub_zero, Nat.sub_zero]
    exact (dh_pool _ _ _ _ h).symm
  · rw [if_pos (by omega), if_neg (by omega), add_zero, Nat.sub_zero]
    have hk : j - 512 < 1024 := by omega
    refine (tot_in (fun t (j : Fin 1024) => dhs X G W T P D t ⟨j.val + 512, by omega⟩) ⟨i, hi⟩ ⟨j - 512, hk⟩).trans ?_
    exact congrArg (dhs X G W T P D ⟨i, hi⟩) (Fin.ext (by show j - 512 + 512 = j; omega))

/-- The gradient of the normalised row. -/
abbrev dxn (t : Fin 8192) (k : Fin 1024) : ℝ := ∑ j, dhs X G W T P D t j * W k j

theorem dxns : val_main_v491 (F := Ideal) (c2 X) (c1 G) (c2 W) (c2 T) (c2 P) (c2 D) = c2 (dxn X G W T P D) := by
  funext i
  pointwise [val_main_v491, dhs_all]
  simp only [c2_apply, mul_coe, sum_coe]
  rfl

theorem dgs : val_main_v514 (F := Ideal) (c2 X) (c1 G) (c2 W) (c2 T) (c2 P) (c2 D)
    = c2 fun (_ : Fin 1) k => ∑ t, dxn X G W T P D t k * (X t k * inv (X t)) := by
  funext i
  pointwise [val_main_v514, val_main_v497, val_main_cst_67, val_main_v494, val_main_v493, val_main_cst_66, val_main_v492, xhat, dxns]
  simp only [c2_apply, lit_zero, mul_coe, sum_coe, add_coe, zero_add, add_zero]
  simp only [Finset.univ_unique, Finset.sum_singleton]
  congr 1
  refine Finset.sum_congr rfl fun t _ => ?_
  exact mul_comm _ _

theorem dxs : val_main_v512 (F := Ideal) (c2 X) (c1 G) (c2 W) (c2 T) (c2 P) (c2 D) (c2 Y) = c2 fun t k => Y t k + rmsBwd (X t) G (dxn X G W T P D t) k := by
  funext i
  pointwise [val_main_v512, val_main_v511, val_main_v510, val_main_v509, val_main_v508, val_main_v507, val_main_cst_70, val_main_v506, val_main_v505, val_main_cst_69, val_main_v504, val_main_v503, val_main_v502,
    val_main_v501, val_main_v500, val_main_v499, val_main_cst_68, val_main_v498, val_main_v496, val_main_v495, val_main_v14, root, cube, dxns]
  simp only [c1_apply, c2_apply, lit_1024, lit_zero, mul_coe, sum_coe, add_coe, div_coe _ _ (show (1024 : ℝ) ≠ 0 by norm_num), zero_add]
  simp only [Finset.univ_unique, Finset.sum_singleton]
  congr 1
  exact Cert.FfnBwdRefIdeal.Stage.rms_vjp (X (i 0)) G (dxn X G W T P D (i 0)) (Y (i 0)) (i 1)

/-- The rounded gradient of the projected row is that gradient. -/
theorem dhs_out : val_main_v513 (F := Ideal) (c2 X) (c1 G) (c2 W) (c2 T) (c2 P) (c2 D) = c2 (dhs X G W T P D) := by
  funext i
  pointwise [val_main_v513, dhs_all]

end Cert.MixInBwdRefIdeal.Stage
-- ==== Proof.MixPair.lean ====
/-
  The mixer input's backward call and the derivative of the mixer's input side leave the same three arrays.
-/
module

public import proofs.«01_k».proof.Defs
public import proofs.«01_k».proof.Proof.Finite
public import proofs.«01_k».proof.Proof.MixArr
public import proofs.«01_k».proof.Proof.MixBack
public import proofs.«01_k».proof.Proof.Gen.Pre_finite_mix_in
public import Idealize.ShloMosaic.Lib.Claim

@[expose] public section

set_option maxRecDepth 16384

noncomputable section

namespace Cert.MixPair

open Idealize.ShloMosaic Idealize.ShloMosaic.TcCoe Idealize.SL.Sem Step Cert.MixInBwdIdeal.Entry

/-- Under the precondition the call's arguments are arrays of real numbers. -/
def real {m : (ℓ : Loc Cert.MixInBwdIdeal.nD Cert.MixInBwdIdeal.τ Cert.MixInBwdIdeal.sig) → Buf (Elt Ideal) ℓ}
    (h : Cert.Pre_MixInBwdIdeal_finite_mix_in m) (c : Dev Cert.MixInBwdIdeal.nD) : Real m c where
  X := _
  G := _
  W := _
  T := _
  P := _
  D := _
  Y := _
  hX := c2_of _ fun i => congrFun (h c).1 i
  hG := c1_of _ fun i => congrFun (h c).2.1 i
  hW := c2_of _ fun i => congrFun (h c).2.2.1 i
  hT := c2_of _ fun i => congrFun (h c).2.2.2.1 i
  hP := c2_of _ fun i => congrFun (h c).2.2.2.2.1 i
  hD := c2_of _ fun i => congrFun (h c).2.2.2.2.2.1 i
  hY := c2_of _ fun i => congrFun (h c).2.2.2.2.2.2 i

/-- The reference runs, keeps its arguments and leaves its counters at zero: it has none. -/
theorem reference_frame : Cert.quiescent_MixInBwdRefIdeal := fun m ρ _ =>
  (θ_run _ _ _).mono (fun r h => ⟨fun c => (h c).2.2.2, by
    funext x
    rcases x with ⟨c, s⟩
    cases s with
    | reg i => exact i.elim0
    | dma i => exact i.elim0⟩) (Cert.MixInBwdRefIdeal.Value.run m ρ)

theorem algebraic : Cert.algebraic_MixInBwdIdeal_MixInBwdRefIdeal_pre_finite_mix_in := by
  intro m g m' g' hpre hagree
  have a : ∀ c, Real m c := real hpre
  refine ⟨fun c => c2 (GX (a c)), fun c => c2 (GH (a c)), fun c => c2 fun _ => GG (a c),
    (θ_run _ _ _).mono (fun r h c => ?_) (Cert.MixInBwdIdeal.Value.run_blocks m g),
    (θ_run _ _ _).mono (fun r h c => ?_) (Cert.MixInBwdRefIdeal.Value.run m' g')⟩
  · obtain ⟨h0, h1, h2, hk⟩ := h c
    exact ⟨h0.trans (dx_arr (a c)), h1.trans (dh_arr (a c)), h2.trans (dg_arr (a c)), hk⟩
  · obtain ⟨h0, h1, h2, hk⟩ := h c
    obtain ⟨e0, e1, e2, e3, e4, e5, e6⟩ := hagree c
    have e0 : StableHlo.launchContents m' c (Proc.devRef .tc Cert.MixInBwdRefIdeal.main_arg0) = _ := e0.trans (a c).hX
    have e1 : StableHlo.launchContents m' c (Proc.devRef .tc Cert.MixInBwdRefIdeal.main_arg1) = _ := e1.trans (a c).hG
    have e2 : StableHlo.launchContents m' c (Proc.devRef .tc Cert.MixInBwdRefIdeal.main_arg2) = _ := e2.trans (a c).hW
    have e3 : StableHlo.launchContents m' c (Proc.devRef .tc Cert.MixInBwdRefIdeal.main_arg3) = _ := e3.trans (a c).hT
    have e4 : StableHlo.launchContents m' c (Proc.devRef .tc Cert.MixInBwdRefIdeal.main_arg4) = _ := e4.trans (a c).hP
    have e5 : StableHlo.launchContents m' c (Proc.devRef .tc Cert.MixInBwdRefIdeal.main_arg5) = _ := e5.trans (a c).hD
    have e6 : StableHlo.launchContents m' c (Proc.devRef .tc Cert.MixInBwdRefIdeal.main_arg6) = _ := e6.trans (a c).hY
    refine ⟨h0.trans ?_, h1.trans ?_, h2.trans ?_, hk⟩
    all_goals clear h0 h1 h2 hk
    · rw [Cert.MixInBwdRefIdeal.Read.val_main_v512_eq, e0, e1, e2, e3, e4, e5, e6]
      exact Cert.MixInBwdRefIdeal.Stage.dxs _ _ _ _ _ _ _
    · rw [Cert.MixInBwdRefIdeal.Read.val_main_v513_eq, e0, e1, e2, e3, e4, e5]
      exact Cert.MixInBwdRefIdeal.Stage.dhs_out _ _ _ _ _ _
    · rw [Cert.MixInBwdRefIdeal.Read.val_main_v514_eq, e0, e1, e2, e3, e4, e5]
      exact Cert.MixInBwdRefIdeal.Stage.dgs _ _ _ _ _ _

end Cert.MixPair
-- ==== Proof.MixOutSpec.lean ====
/-
  The second half of the mixer and its gradients, row by row in real numbers: running means with a channel mix, and a gated
  convolution with a layer norm and a sigmoid unit, both projected out.
-/
module

public import proofs.«01_k».proof.Proof.MixSpec

@[expose] public section

noncomputable section

namespace Step.MixOut

open Step Step.Mix

/-- The projected rows with 32 rows of zeros before them. -/
def ext (H : Fin 8192 → Fin 1536 → ℝ) (m j : ℕ) : ℝ := if m < 32 then 0 else tot H (m - 32) j

/-- The gated channels. -/
def glu (E : ℕ → ℕ → ℝ) (i j : ℕ) : ℝ := E i (512 + j) * logi (E i (1024 + j))

/-- The sum of `n` rows up to a row. -/
def back (E : ℕ → ℕ → ℝ) (n i j : ℕ) : ℝ := ∑ k ∈ Finset.range n, E (i - k) j

/-- The running means less the token's own value. -/
def pool (H : Fin 8192 → Fin 1536 → ℝ) (t j : ℕ) : ℝ := back (ext H) (len j) (32 + t) j / cnt t j - ext H (32 + t) j

/-- The convolution's row. -/
def conv (H : Fin 8192 → Fin 1536 → ℝ) (T : Fin 31 → Fin 512 → ℝ) (b : Fin 512 → ℝ) (t : ℕ) (j : Fin 512) : ℝ :=
  (∑ k ∈ Finset.range 31, glu (ext H) (t + 2 + k) j.val * tot T k j.val) + b j

/-! ## The layer norm of a row of 512 -/

def cen (y : Fin 512 → ℝ) (k : Fin 512) : ℝ := y k - (∑ j, y j) / 512
def var (y : Fin 512 → ℝ) : ℝ := (∑ j, cen y j * cen y j) / 512 + eps
def rs (y : Fin 512 → ℝ) : ℝ := (Real.sqrt (var y))⁻¹
def hat (y : Fin 512 → ℝ) (k : Fin 512) : ℝ := cen y k * rs y
def aff (y g b : Fin 512 → ℝ) (k : Fin 512) : ℝ := hat y k * g k + b k

theorem var_pos (y : Fin 512 → ℝ) : 0 < var y := by
  have : 0 ≤ ∑ j, cen y j * cen y j := Finset.sum_nonneg fun j _ => mul_self_nonneg _
  have := eps_pos
  unfold var
  positivity

/-- The layer norm's gradient, `a` the cotangent times the gain. -/
def lnb (y a : Fin 512 → ℝ) (k : Fin 512) : ℝ := rs y * (a k - (∑ j, a j) / 512 - hat y k * ((∑ j, a j * hat y j) / 512))

/-- The derivative of the sigmoid unit. -/
def slope (z : ℝ) : ℝ := logi z * (1 + z * (1 - logi z))

/-! ## The gradients of a row -/

/-- The cotangent of the two halves side by side. -/
def back' (W : Fin 1024 → Fin 1024 → ℝ) (d : Fin 1024 → ℝ) (j : Fin 1024) : ℝ := ∑ k, d k * W j k

def lo (j : Fin 512) : Fin 1024 := ⟨j.val, by omega⟩
def hi (j : Fin 512) : Fin 1024 := ⟨512 + j.val, by omega⟩

/-- The cotangent of the normalised row. -/
def dyn (y g b : Fin 512 → ℝ) (e : Fin 1024 → ℝ) (k : Fin 512) : ℝ := e (hi k) * slope (aff y g b k)

/-- The convolution's cotangent. -/
def dyc (y g b : Fin 512 → ℝ) (e : Fin 1024 → ℝ) (k : Fin 512) : ℝ := lnb y (fun k => dyn y g b e k * g k) k

/-- The group of a channel, and its place in it. -/
def grp (j : Fin 512) : Fin 4 := ⟨j.val / 128, by omega⟩
def plc (j : Fin 512) : Fin 128 := ⟨j.val % 128, by omega⟩
def chn (g : Fin 4) (q : Fin 128) : Fin 512 := ⟨128 * g.val + q.val, by omega⟩

/-- The channel mix of a row. -/
def mixed (M : Fin 4 → Fin 128 → Fin 128 → ℝ) (b : Fin 512 → ℝ) (p : ℕ → ℝ) (j : Fin 512) : ℝ :=
  (∑ q : Fin 128, p (chn (grp j) q).val * M (grp j) q (plc j)) + b j

/-- The channel mix's cotangent. -/
def dmix (s : Fin 512 → ℝ) (e : Fin 1024 → ℝ) (j : Fin 512) : ℝ := e (lo j) * s j

/-- The running means' cotangent over the windows' counts. -/
def dpc (M : Fin 4 → Fin 128 → Fin 128 → ℝ) (s : Fin 512 → ℝ) (e : Fin 1024 → ℝ) (t : ℕ) (j : Fin 512) : ℝ :=
  (∑ q : Fin 128, dmix s e (chn (grp j) q) * M (grp j) (plc j) q) / cnt t j.val

/-- A token's share of the small gradients: 31 taps, then a row of zeros, the convolution's shift, the norm's gain and shift, the
    pooled half's scale, the channel mix's shift, and three rows of zeros. -/
def small (G : ℕ → ℕ → ℝ) (M : Fin 4 → Fin 128 → Fin 128 → ℝ) (pb s y g b : Fin 512 → ℝ) (p : ℕ → ℝ) (e : Fin 1024 → ℝ) (t q : ℕ) (j : Fin 512) : ℝ :=
  if q < 31 then dyc y g b e j * G (t + 2 + q) j.val
  else if q = 32 then dyc y g b e j
  else if q = 33 then dyn y g b e j * hat y j
  else if q = 34 then dyn y g b e j
  else if q = 35 then e (lo j) * mixed M pb p j
  else if q = 36 then dmix s e j
  else 0

end Step.MixOut
-- ==== Proof.MixOutTap.lean ====
/-
  The shifted sums of the mixer's output backward body, in real numbers with indices that are natural numbers: the windows' sums by
  doubling, and the taps' gradients block of rows by block of rows.
-/
module

public import proofs.«01_k».proof.Proof.MixOutSpec
public import proofs.«01_k».proof.Proof.MixHost
public import Idealize.ShloMosaic.Lib.Pointwise

@[expose] public section

set_option maxRecDepth 16384

noncomputable section

namespace Step.MixOut.Tap

open Idealize.ShloMosaic Step Step.Mix Step.Mix.Host Step.MixOut
open Cert.MixInBwdIdeal.Tap (cN cN_apply cN_congr shift sum_two)

/-! ## Blocks' operations -/

theorem product_two (f g : ℕ → ℕ → ℝ) (a b : ℕ) :
    mulf (F := Ideal) (φ := .f32) (cN a b f) (cN a b g) = cN a b fun i j => f i j * g i j := by
  funext i
  exact mul_coe _ _

theorem less (f g : ℕ → ℕ → ℝ) (a b : ℕ) :
    subf (F := Ideal) (φ := .f32) (cN a b f) (cN a b g) = cN a b fun i j => f i j - g i j := by
  funext i
  exact sub_coe _ _

theorem ratio (f g : ℕ → ℕ → ℝ) (a b : ℕ) (hg : ∀ i j, g i j ≠ 0) :
    divf (F := Ideal) (φ := .f32) (cN a b f) (cN a b g) = cN a b fun i j => f i j / g i j := by
  funext i
  exact div_coe _ _ (hg _ _)

/-! ## The windows' sums -/

/-- A function with the one `s` rows further up added to it, the rows taken round. -/
def twice (f : ℕ → ℕ → ℝ) (s : ℕ) : ℕ → ℕ → ℝ := fun i j => f i j + f ((i + (544 - s)) % 544) j

theorem lowered (f : ℕ → ℕ → ℝ) (r : BitVec 32) (hr : r.toNat < 544) (h) :
    dynamicRotate 0 r none (cN 544 512 f) h = cN 544 512 fun i j => f ((i + (544 - r.toNat)) % 544) j := by
  funext i
  have hi : (i 0).val < 544 := (i 0).isLt
  pointwise
  simp only [cN_apply]
  congr 2
  simp
  rw [Nat.mod_eq_of_lt (a := r.toNat) hr]
  congr 1
  omega

theorem twiced (f : ℕ → ℕ → ℝ) (r : BitVec 32) (s : ℕ) (hr : r.toNat = s) (hs : s < 544) (h) :
    addf (F := Ideal) (φ := .f32) (cN 544 512 f) (dynamicRotate 0 r none (cN 544 512 f) h) = cN 544 512 (twice f s) := by
  subst hr
  rw [lowered f r hs, sum_two]
  rfl

theorem back_two (E : ℕ → ℕ → ℝ) (n i j : ℕ) : back E n i j + back E n (i - n) j = back E (n + n) i j := by
  unfold back
  rw [Finset.sum_range_add]
  simp only [Nat.sub_sub]

theorem twice_back (E f : ℕ → ℕ → ℝ) (n : ℕ) (hf : ∀ i j, i < 544 → n ≤ i + 1 → f i j = back E n i j) (hn : 0 < n) (i j : ℕ) (h : i < 544) (hi : n + n ≤ i + 1) :
    twice f n i j = back E (n + n) i j := by
  unfold twice
  have e : (i + (544 - n)) % 544 = i - n := by
    rw [show i + (544 - n) = (i - n) + 544 by omega, Nat.add_mod_right, Nat.mod_eq_of_lt (by omega)]
  rw [e, hf i j h (by omega), hf (i - n) j (by omega) (by omega), back_two]

/-! ## The taps' gradients -/

/-- The first `n` blocks of 128 rows of the products of a tap's gradient, the rows of `G` turned down by `r`. -/
def acc (D G : ℕ → ℕ → ℝ) (r : ℕ) : ℕ → ℕ → ℕ → ℕ → ℝ
  | 0, _, _, _ => 0
  | n + 1, p, i, j => acc D G r n p i j + ∑ q ∈ Finset.range 128, D (128 * n + q) (p + j) * G (128 * n + q + (32 - r)) (p + j)

theorem lowered_slice (w : ℕ → ℕ → ℝ) (r : BitVec 32) (hr : r.toNat ≤ 32) (h h') :
    extractStridedSlice ⟨2, ![128, 128]⟩ ![32, 0] (dynamicRotate 0 r none (cN 160 128 w) h) h' = cN 128 128 fun i j => w (i + (32 - r.toNat)) j := by
  funext i
  have hi : (i 0).val < 128 := (i 0).isLt
  pointwise
  simp only [cN_apply]
  congr 2
  simp
  rw [Nat.mod_eq_of_lt (a := r.toNat) (by omega)]
  omega

/-- A block's products summed over its rows. -/
theorem column (f : ℕ → ℕ → ℝ) (h₁ h₂ h₃ h₄) :
    shapeCast ⟨2, ![1, 128]⟩ (multiReduction (F := Ideal) (φ := .f32) .add [0] ⟨1, ![128]⟩ (cN 128 128 f) 0x00000000#32 h₁ h₂ h₃) h₄
      = cN 1 128 fun _ j => ∑ q ∈ Finset.range 128, f q j := by
  funext i
  pointwise
  simp only [cN_apply]
  rw [Finset.sum_range]
  exact sum_coe _ _

/-- A block of 160 rows and 128 lanes, and a block of 128 rows. -/
theorem window (f : ℕ → ℕ → ℝ) (o p : ℕ) (h) : extractStridedSlice (α := EReal) ⟨2, ![160, 128]⟩ ![o, p] (cN 544 512 f) h = cN 160 128 (shift f o p) := by
  funext i
  rfl
theorem panel (f : ℕ → ℕ → ℝ) (o p : ℕ) (h) : extractStridedSlice (α := EReal) ⟨2, ![128, 128]⟩ ![o, p] (cN 512 512 f) h = cN 128 128 (shift f o p) := by
  funext i
  rfl

theorem nothing : broadcast ⟨2, ![1, 128]⟩ (Scalar.ofBits (F := Ideal) .f32 0x00000000#32) = cN 1 128 fun _ _ => 0 := by
  funext i
  exact lit_zero

/-- The products of a block of rows. -/
theorem tapped (D G : ℕ → ℕ → ℝ) (o p : ℕ) (r : BitVec 32) (hr : r.toNat ≤ 32) (h₁ h₂) :
    mulf (F := Ideal) (φ := .f32) (cN 128 128 (shift D o p))
      (extractStridedSlice ⟨2, ![128, 128]⟩ ![32, 0] (dynamicRotate 0 r none (cN 160 128 (shift G o p)) h₁) h₂)
      = cN 128 128 fun i j => D (o + i) (p + j) * G (o + i + (32 - r.toNat)) (p + j) := by
  rw [lowered_slice _ r hr, product_two]
  refine cN_congr fun i _ j _ => ?_
  show _ * G (o + (i + _)) _ = _
  rw [Nat.add_assoc]
  rfl

/-- The last tap's, which meet the block as it is. -/
theorem tapped_last (D G : ℕ → ℕ → ℝ) (o p : ℕ) (h₂) :
    mulf (F := Ideal) (φ := .f32) (cN 128 128 (shift D o p)) (extractStridedSlice ⟨2, ![128, 128]⟩ ![32, 0] (cN 160 128 (shift G o p)) h₂)
      = cN 128 128 fun i j => D (o + i) (p + j) * G (o + i + (32 - (0#32).toNat)) (p + j) := by
  rw [cut, product_two]
  refine cN_congr fun i _ j _ => ?_
  show D _ _ * G (o + (32 + i)) (p + (0 + j)) = _ * G (o + i + 32) _
  rw [Nat.zero_add, Nat.add_comm 32 i, Nat.add_assoc]

theorem acc_first (D G : ℕ → ℕ → ℝ) (p r : ℕ) :
    addf (F := Ideal) (φ := .f32) (cN 1 128 fun _ _ => 0) (cN 1 128 fun _ j => ∑ q ∈ Finset.range 128, D (0 + q) (p + j) * G (0 + q + (32 - r)) (p + j))
      = cN 1 128 (acc D G r 1 p) := sum_two _ _ _ _

theorem acc_next (D G : ℕ → ℕ → ℝ) (p r n o : ℕ) (ho : o = 128 * n) :
    addf (F := Ideal) (φ := .f32) (cN 1 128 (acc D G r n p)) (cN 1 128 fun _ j => ∑ q ∈ Finset.range 128, D (o + q) (p + j) * G (o + q + (32 - r)) (p + j))
      = cN 1 128 (acc D G r (n + 1) p) := by
  subst ho
  exact sum_two _ _ _ _

/-- The lanes' groups beside one another. -/
def lanes1 (a b c d : FVec Ideal ⟨2, ![1, 128]⟩ .f32) (h : Shape.Concatenates [⟨2, ![1, 128]⟩, ⟨2, ![1, 128]⟩, ⟨2, ![1, 128]⟩, ⟨2, ![1, 128]⟩] ⟨2, ![1, 512]⟩ 1) : FVec Ideal ⟨2, ![1, 512]⟩ .f32 :=
  concatenate ⟨2, ![1, 512]⟩ 1 [⟨⟨2, ![1, 128]⟩, a⟩, ⟨⟨2, ![1, 128]⟩, b⟩, ⟨⟨2, ![1, 128]⟩, c⟩, ⟨⟨2, ![1, 128]⟩, d⟩] h

theorem lanes1_fold (a b c d : FVec Ideal ⟨2, ![1, 128]⟩ .f32) (h : Shape.Concatenates [⟨2, ![1, 128]⟩, ⟨2, ![1, 128]⟩, ⟨2, ![1, 128]⟩, ⟨2, ![1, 128]⟩] ⟨2, ![1, 512]⟩ 1) :
    concatenate ⟨2, ![1, 512]⟩ 1 [⟨⟨2, ![1, 128]⟩, a⟩, ⟨⟨2, ![1, 128]⟩, b⟩, ⟨⟨2, ![1, 128]⟩, c⟩, ⟨⟨2, ![1, 128]⟩, d⟩] h = lanes1 a b c d h := rfl

/-- A tap's gradient over a block of 512 rows. -/
def tap (D G : ℕ → ℕ → ℝ) (r : ℕ) (_ j : ℕ) : ℝ := ∑ q ∈ Finset.range 512, D q j * G (q + (32 - r)) j

theorem acc_four (D G : ℕ → ℕ → ℝ) (r p i j : ℕ) : acc D G r 4 p i j = tap D G r i (p + j) := by
  show 0 + _ + _ + _ + _ = _
  rw [tap, show (512 : ℕ) = 128 + 128 + 128 + 128 from rfl, Finset.sum_range_add, Finset.sum_range_add, Finset.sum_range_add]
  simp only [Nat.mul_zero, Nat.zero_add, zero_add, Nat.reduceMul, Nat.reduceAdd, Nat.mul_one, Nat.add_assoc]

theorem lanes1_acc (D G : ℕ → ℕ → ℝ) (r : ℕ) (h) :
    lanes1 (cN 1 128 (acc D G r 4 0)) (cN 1 128 (acc D G r 4 128)) (cN 1 128 (acc D G r 4 256)) (cN 1 128 (acc D G r 4 384)) h = cN 1 512 (tap D G r) := by
  have e (p : ℕ) : cN 1 128 (acc D G r 4 p) = cN 1 128 (shift (tap D G r) 0 p) := cN_congr fun i _ j _ => (acc_four D G r p i j).trans (by rw [shift, Nat.zero_add])
  rw [e, e, e, e]
  funext i
  have hi : (i 1).val < 512 := (i 1).isLt
  pointwise [lanes1]
  simp only [cN_apply, shift]
  split_ifs <;> congr 2 <;> simp <;> omega

end Step.MixOut.Tap
-- ==== Proof.MixOutBody.lean ====
/-
  The blocks of the mixer's output backward body, in real numbers.
-/
module

public import proofs.«01_k».proof.Proof.MixOutTap
public import proofs.«01_k».proof.Proof.MixBody
public import proofs.«01_k».proof.Proof.Gen.MixOutBwdIdeal.Skeleton
public import Idealize.ShloMosaic.Lib.Pipeline.ValueKit.Tiles

@[expose] public section

set_option maxRecDepth 16384

noncomputable section

namespace Cert.MixOutBwdIdeal.Body

open Cert.MixOutBwdIdeal Cert.MixOutBwdIdeal.Gen Idealize.ShloMosaic Idealize.ShloMosaic.TcCoe Step Step.Mix Step.Mix.Host Step.MixOut Step.MixOut.Tap
open Cert.MixInBwdIdeal.Tap (cN cN_apply cN_congr shift sum_two)

theorem n512 : (512 : ℝ) ≠ 0 := by norm_num

/-! ## A block with the rows before it -/

theorem h_block (f : ℕ → ℕ → ℝ) : k0_pay5 (F := Ideal) (cN 512 1536 f) = cN 512 1536 f := by
  funext i
  pointwise [k0_pay5]

theorem select_sgt {α : Type} (a : ℕ) (ha : a < 2 ^ 31) (x y : α) :
    Scalar.select (Scalar.cmpi .sgt (BitVec.ofNat 32 a) 0#32) x y = if 0 < a then x else y :=
  select_slt 0 a (by norm_num) ha x y

/-- The rows before a block are the previous rows, zero before the first block. -/
theorem joined (i : grid0.Coords) (t : ℕ) (ht : t < 16) (hi : (i 0).val = t) (F : ℕ → ℕ → ℝ) (o : ℕ) (B : S32x1536.Idx → EReal)
    (hin : 0 < t → B = cN 32 1536 (shift F o 0)) (hout : ¬ 0 < t → ∀ i j, i < 32 → F (o + i) j = 0) :
    k0_pay7 (F := Ideal) i (cN 512 1536 (shift F (o + 32) 0)) B = cN 544 1536 (shift F o 0) := by
  unfold k0_pay7
  rw [hi, h_block]
  dsimp only
  rw [select_sgt t (by omega)]
  have e : (if 0 < t then shapeCast S32x1536 B shapeCasts_S32x1536_S32x1536 else broadcast S32x1536 (Scalar.ofBits (F := Ideal) .f32 0x00000000#32)) = cN 32 1536 (shift F o 0) := by
    by_cases c : 0 < t
    · rw [if_pos c, hin c]
      funext i
      pointwise
    · rw [if_neg c]
      funext i
      exact lit_zero.trans (congrArg Real.toEReal (hout c _ _ (i 0).isLt).symm)
  rw [e]
  funext i
  pointwise
  by_cases c : (i 0).val < 32
  · rw [dif_pos c]
    rfl
  · rw [dif_neg c]
    refine congrArg Real.toEReal ?_
    show F (o + 32 + ((i 0).val - 32)) (0 + (i 1).val) = F (o + (i 0).val) (0 + (i 1).val)
    congr 1
    omega

theorem glu_block (i : grid0.Coords) (a b) (E : ℕ → ℕ → ℝ) (h : k0_pay7 (F := Ideal) i a b = cN 544 1536 E) :
    k0_pay8 (F := Ideal) i a b = cN 544 512 (glu E) := by
  funext j
  pointwise [k0_pay8, h]
  simp only [cN_apply, lit_half, mul_coe, Ideal.tanh_coe, add_coe, logi_tanh]
  rfl

/-! ## The running means -/

theorem once_block (i : grid0.Coords) (a b) (E : ℕ → ℕ → ℝ) (h : k0_pay7 (F := Ideal) i a b = cN 544 1536 E) :
    k0_pay9 (F := Ideal) i a b = cN 544 512 (twice E 1) := by
  have e : extractStridedSlice S544x512 ![0, 0] (cN 544 1536 E) slices_S544x1536_o0_0_S544x512 = cN 544 512 E := by
    funext i; pointwise; rfl
  rw [k0_pay9, h, e]
  exact twiced E 1#32 1 rfl (by norm_num) _

theorem two_block (i : grid0.Coords) (a b) (E : ℕ → ℕ → ℝ) (h : k0_pay7 (F := Ideal) i a b = cN 544 1536 E) :
    k0_pay10 (F := Ideal) i a b = cN 544 512 (twice (twice E 1) 2) := by
  rw [k0_pay10, once_block i a b E h]
  exact twiced _ 2#32 2 rfl (by norm_num) _

theorem count (t : ℕ) (ht : t < 16) : k0_pay11 (F := Ideal) (BitVec.ofNat 32 t) = cN 512 512 fun i j => cnt (t * 512 + i) j := by
  funext i
  have h0 : (i 0).val < 512 := (i 0).isLt
  have h1 : (i 1).val < 512 := (i 1).isLt
  pointwise [k0_pay11]
  exact Cert.MixInBwdIdeal.Body.count_block t _ _ ht h0 h1

theorem first_lanes (f : ℕ → ℕ → ℝ) (h) : extractStridedSlice (α := EReal) S512x512 ![0, 0] (cN 512 1536 (shift f 32 0)) h = cN 512 512 (shift f 32 0) := by
  rw [cut]
  exact cN_congr fun i _ j _ => by show f (32 + (0 + i)) (0 + (0 + j)) = f (32 + i) (0 + j); simp only [Nat.zero_add]

theorem strip' (f : ℕ → ℕ → ℝ) (p : ℕ) (h h') :
    extractStridedSlice S512x128 ![0, p] (extractStridedSlice (α := EReal) S512x512 ![32, 0] (cN 544 512 f) h) h' = cN 512 128 (shift (shift f 32 0) 0 p) := by
  rw [cut, cut]

theorem pool_block (t : ℕ) (ht : t < 16) (E : ℕ → ℕ → ℝ) :
    k0_pay12 (F := Ideal) (BitVec.ofNat 32 t) (cN 512 1536 (shift E 32 0)) (cN 544 512 (twice E 1)) (cN 544 512 (twice (twice E 1) 2)) 4#32
      = cN 512 512 fun i j => back E (len j) (32 + i) j / cnt (t * 512 + i) j - E (32 + i) j := by
  have hc : ∀ i j, cnt (t * 512 + i) j ≠ 0 := fun i j => cnt_ne _ _
  simp only [k0_pay12, twiced _ 4#32 4 rfl (by norm_num), twiced _ 8#32 8 rfl (by norm_num), strip', first_lanes, count t ht, Cert.MixInBwdIdeal.Tap.lanes4_fold,
    Cert.MixInBwdIdeal.Tap.lanes4_by, ratio _ _ _ _ hc, less]
  have h₁ : ∀ i j, i < 544 → 1 ≤ i + 1 → E i j = back E 1 i j := fun i j _ _ => by simp [back]
  have h₂ := twice_back E _ 1 h₁ (by omega)
  have h₄ := twice_back E _ (1 + 1) h₂ (by omega)
  have h₈ := twice_back E _ (1 + 1 + (1 + 1)) h₄ (by omega)
  have h₁₆ := twice_back E _ _ h₈ (by omega)
  refine cN_congr fun i hi j _ => ?_
  have e : Cert.MixInBwdIdeal.Tap.byLane (shift (twice E 1) 32 0) (shift (twice (twice E 1) 2) 32 0) (shift (twice (twice (twice E 1) 2) 4) 32 0)
      (shift (twice (twice (twice (twice E 1) 2) 4) 8) 32 0) i j = back E (len j) (32 + i) j := by
    unfold len Cert.MixInBwdIdeal.Tap.byLane shift
    rw [Nat.zero_add]
    split_ifs
    · exact h₂ _ j (by omega) (by omega)
    · exact h₄ _ j (by omega) (by omega)
    · exact h₈ _ j (by omega) (by omega)
    · exact h₁₆ _ j (by omega) (by omega)
  rw [e, shift, Nat.zero_add]

/-! ## The layer norm -/

section Norm

variable (Y : Fin 512 → Fin 512 → ℝ) (g b : Fin 512 → ℝ)

theorem y_block : k0_pay6 (F := Ideal) (c2 Y) = c2 Y := by
  funext i
  pointwise [k0_pay6]

theorem cen_block : k0_pay13 (F := Ideal) (c2 Y) = c2 fun r => cen (Y r) := by
  funext i
  pointwise [k0_pay13]
  simp only [c2_apply, lit_512, sum_coe, div_coe _ _ n512, sub_coe]
  rfl

theorem ss_block : k0_pay14 (F := Ideal) (c2 Y) = c2 fun r (_ : Fin 1) => ∑ k, cen (Y r) k * cen (Y r) k := by
  funext i
  pointwise [k0_pay14, cen_block]
  simp only [c2_apply, mul_coe, sum_coe]
  rfl

theorem rs_block : k0_pay15 (F := Ideal) (c2 fun r (_ : Fin 1) => ∑ k, cen (Y r) k * cen (Y r) k) = c2 fun r (_ : Fin 1) => rs (Y r) := by
  funext i
  pointwise [k0_pay15]
  simp only [c2_apply, lit_512, lit_eps, div_coe _ _ n512, add_coe]
  exact rsqrt_coe _ (var_pos _)

theorem hat_block : k0_pay16 (F := Ideal) (c2 fun r => cen (Y r)) (c2 fun r (_ : Fin 1) => ∑ k, cen (Y r) k * cen (Y r) k) = c2 fun r => hat (Y r) := by
  funext i
  pointwise [k0_pay16, rs_block]
  simp only [c2_apply, mul_coe]
  rfl

theorem lg_block : k0_pay17 (F := Ideal) (c2 fun _ : Fin 1 => g) = c2 fun _ : Fin 1 => g := by
  funext i
  pointwise [k0_pay17]

theorem pb_block : k0_pay19 (F := Ideal) (c2 fun _ : Fin 1 => g) = c2 fun _ : Fin 1 => g := by
  funext i
  pointwise [k0_pay19]

theorem aff_block : k0_pay18 (F := Ideal) (c2 fun r => cen (Y r)) (c2 fun r (_ : Fin 1) => ∑ k, cen (Y r) k * cen (Y r) k) (c2 fun _ : Fin 1 => g) (c2 fun _ : Fin 1 => b)
    = c2 fun r => aff (Y r) g b := by
  funext i
  pointwise [k0_pay18, hat_block, lg_block]
  simp only [c2_apply, mul_coe, add_coe]
  rfl

variable (W : Fin 1024 → Fin 1024 → ℝ) (d : Fin 512 → Fin 1024 → ℝ)

theorem cot_block : k0_pay25 (F := Ideal) (c2 d) (c2 W) = c2 fun r => back' W (d r) := by
  funext i
  pointwise [k0_pay25]
  simp only [c2_apply, lit_zero, mul_coe, sum_coe, zero_add]
  rfl

theorem dya_block : k0_pay26 (F := Ideal) (c2 d) (c2 W) = c2 fun r j => back' W (d r) (lo j) := by
  funext i
  pointwise [k0_pay26, cot_block]
  rfl

theorem dyn_block : k0_pay27 (F := Ideal) (c2 fun r => aff (Y r) g b) (c2 d) (c2 W) = c2 fun r => dyn (Y r) g b (back' W (d r)) := by
  funext i
  pointwise [k0_pay27, cot_block]
  simp only [c2_apply, lit_half, lit_one, mul_coe, Ideal.tanh_coe, add_coe, one_coe, sub_coe, logi_tanh]
  rfl

theorem dyc_block : k0_pay28 (F := Ideal) (c2 fun r (_ : Fin 1) => rs (Y r)) (c2 fun r => hat (Y r)) (c2 fun _ : Fin 1 => g) (c2 fun r => aff (Y r) g b) (c2 d) (c2 W)
    = c2 fun r => dyc (Y r) g b (back' W (d r)) := by
  funext i
  pointwise [k0_pay28, dyn_block]
  simp only [c2_apply, lit_512, mul_coe, sum_coe, div_coe _ _ n512, sub_coe]
  rfl

end Norm

/-! ## The channel mix -/

theorem chn_zero (q : Fin 128) : chn 0 q = ⟨q.val, by omega⟩ := Fin.ext (by show 128 * 0 + q.val = q.val; omega)

/-- Four blocks of 128 channels beside one another. -/
theorem beside (A : Fin 4 → Fin 512 → Fin 128 → ℝ) :
    Cert.MixInBwdIdeal.Tap.lanes4 (c2 (A 0)) (c2 (A 1)) (c2 (A 2)) (c2 (A 3)) = c2 fun t j => A (grp j) t (plc j) := by
  have key : ∀ (g : Fin 4) (t : Fin 512) (j : Fin 512) (r : Fin 128), 128 * g.val + r.val = j.val → (A g t r : EReal) = (A (grp j) t (plc j) : ℝ) := by
    intro g t j r h
    have e₁ : g = grp j := Fin.ext (by show g.val = j.val / 128; omega)
    have e₂ : r = plc j := Fin.ext (by show r.val = j.val % 128; omega)
    rw [e₁, e₂]
  funext i
  have h1 : (i 1).val < 512 := (i 1).isLt
  pointwise [Cert.MixInBwdIdeal.Tap.lanes4]
  by_cases h₁ : (i 1).val < 128
  · rw [dif_pos h₁]
    exact key 0 _ (i 1) _ (by simp)
  rw [dif_neg h₁]
  by_cases h₂ : (i 1).val - 128 < 128
  · rw [dif_pos h₂]
    exact key 1 _ (i 1) _ (by simp; omega)
  rw [dif_neg h₂]
  by_cases h₃ : (i 1).val - 128 - 128 < 128
  · rw [dif_pos h₃]
    exact key 2 _ (i 1) _ (by simp; omega)
  rw [dif_neg h₃]
  exact key 3 _ (i 1) _ (by simp; omega)

section Mixed

variable (P : ℕ → ℕ → ℝ) (M : Fin 4 → Fin 128 → Fin 128 → ℝ) (D : Fin 512 → Fin 512 → ℝ) (A Y : Fin 128 → Fin 128 → ℝ) (b : Fin 512 → ℝ)

theorem mix_0 : k0_pay20 (F := Ideal) (cN 512 512 P) (c3 fun _ : Fin 1 => A) = c2 fun t r => ∑ q : Fin 128, P t.val (chn 0 q).val * A q r := by
  funext i
  pointwise [k0_pay20]
  simp only [chn_zero, c3_apply, cN_apply, lit_zero, mul_coe, sum_coe, zero_add]
  rfl
theorem mix_1 : k0_pay21 (F := Ideal) (cN 512 512 P) (c3 fun _ : Fin 1 => A) = c2 fun t r => ∑ q : Fin 128, P t.val (chn 1 q).val * A q r := by
  funext i
  pointwise [k0_pay21]
  simp only [c3_apply, cN_apply, lit_zero, mul_coe, sum_coe, zero_add]
  rfl
theorem mix_2 : k0_pay22 (F := Ideal) (cN 512 512 P) (c3 fun _ : Fin 1 => A) = c2 fun t r => ∑ q : Fin 128, P t.val (chn 2 q).val * A q r := by
  funext i
  pointwise [k0_pay22]
  simp only [c3_apply, cN_apply, lit_zero, mul_coe, sum_coe, zero_add]
  rfl
theorem mix_3 : matmul (F := Ideal) dot_S512x128_S128x128_S512x128_1_0_0_1_n_n none (k0_pay23 (F := Ideal) (cN 512 512 P))
      (truncf (φ := .f32) .bf16 (shapeCast S128x128 (c3 fun _ : Fin 1 => A) shapeCasts_S1x128x128_S128x128)) (constant S512x128 .f32 0x00000000#32)
      = c2 fun t r => ∑ q : Fin 128, P t.val (chn 3 q).val * A q r := by
  funext i
  pointwise [k0_pay23]
  simp only [c3_apply, cN_apply, lit_zero, mul_coe, sum_coe, zero_add]
  rfl

theorem mixed_block : k0_pay24 (F := Ideal) (c2 fun _ : Fin 1 => b) (k0_pay20 (F := Ideal) (cN 512 512 P) (c3 fun _ : Fin 1 => M 0)) (k0_pay21 (F := Ideal) (cN 512 512 P) (c3 fun _ : Fin 1 => M 1))
      (k0_pay22 (F := Ideal) (cN 512 512 P) (c3 fun _ : Fin 1 => M 2)) (k0_pay23 (F := Ideal) (cN 512 512 P)) (c3 fun _ : Fin 1 => M 3)
      = c2 fun t => mixed M b (P t.val) := by
  simp only [k0_pay24, mix_0, mix_1, mix_2, mix_3, Cert.MixInBwdIdeal.Tap.lanes4_fold]
  rw [beside fun g t r => ∑ q : Fin 128, P t.val (chn g q).val * M g q r]
  funext i
  pointwise
  simp only [c2_apply, add_coe]
  rfl

theorem dmix_block : k0_pay608 (F := Ideal) (c2 D) (c2 fun _ : Fin 1 => b) = c2 fun t j => D t j * b j := by
  funext i
  pointwise [k0_pay608]
  simp only [c2_apply, mul_coe]
  rfl

theorem same_block : k0_pay642 (F := Ideal) (c2 D) = c2 D := rfl

theorem w_0 : k0_pay643 (F := Ideal) (cN 512 512 P) (c2 D) (c3 fun _ : Fin 1 => Y) = c3 fun (_ : Fin 1) u v => Y u v + ∑ t : Fin 512, P t.val (chn 0 u).val * D t (chn 0 v) := by
  funext i
  pointwise [k0_pay643, same_block]
  simp only [chn_zero, c3_apply, c2_apply, cN_apply, lit_zero, mul_coe, sum_coe, zero_add, add_coe]
  rfl
theorem w_1 : k0_pay647 (F := Ideal) (c2 D) (k0_pay645 (F := Ideal) (c3 fun _ : Fin 1 => Y)) (k0_pay646 (F := Ideal) (cN 512 512 P))
    = c3 fun (_ : Fin 1) u v => Y u v + ∑ t : Fin 512, P t.val (chn 1 u).val * D t (chn 1 v) := by
  funext i
  pointwise [k0_pay647, k0_pay645, k0_pay646]
  simp only [c3_apply, c2_apply, cN_apply, lit_zero, mul_coe, sum_coe, zero_add, add_coe]
  rfl
theorem w_2 : k0_pay649 (F := Ideal) (cN 512 512 P) (c2 D) (c3 fun _ : Fin 1 => Y) = c3 fun (_ : Fin 1) u v => Y u v + ∑ t : Fin 512, P t.val (chn 2 u).val * D t (chn 2 v) := by
  funext i
  pointwise [k0_pay649]
  simp only [c3_apply, c2_apply, cN_apply, lit_zero, mul_coe, sum_coe, zero_add, add_coe]
  rfl
theorem w_3 : k0_pay1 (F := Ideal) (k0_pay651 (F := Ideal) (cN 512 512 P) (c2 D) (c3 fun _ : Fin 1 => Y)) = c3 fun (_ : Fin 1) u v => Y u v + ∑ t : Fin 512, P t.val (chn 3 u).val * D t (chn 3 v) := by
  funext i
  pointwise [k0_pay1, k0_pay651]
  simp only [c3_apply, c2_apply, cN_apply, lit_zero, mul_coe, sum_coe, zero_add, add_coe]
  rfl

theorem p_0 : k0_pay644 (F := Ideal) (c2 D) (c3 fun _ : Fin 1 => A) = c2 fun t r => ∑ q : Fin 128, D t (chn 0 q) * A r q := by
  funext i
  pointwise [k0_pay644, same_block]
  simp only [chn_zero, c3_apply, c2_apply, lit_zero, mul_coe, sum_coe, zero_add]
  rfl
theorem p_1 : k0_pay648 (F := Ideal) (c2 D) (c3 fun _ : Fin 1 => A) = c2 fun t r => ∑ q : Fin 128, D t (chn 1 q) * A r q := by
  funext i
  pointwise [k0_pay648]
  simp only [c3_apply, c2_apply, lit_zero, mul_coe, sum_coe, zero_add]
  rfl
theorem p_2 : k0_pay650 (F := Ideal) (c2 D) (c3 fun _ : Fin 1 => A) = c2 fun t r => ∑ q : Fin 128, D t (chn 2 q) * A r q := by
  funext i
  pointwise [k0_pay650]
  simp only [c3_apply, c2_apply, lit_zero, mul_coe, sum_coe, zero_add]
  rfl

end Mixed

/-- The means' cotangent, over the windows' counts. -/
theorem dpc_block (t : ℕ) (ht : t < 16) (M : Fin 4 → Fin 128 → Fin 128 → ℝ) (D : Fin 512 → Fin 512 → ℝ) :
    k0_pay2 (F := Ideal) (k0_pay11 (F := Ideal) (BitVec.ofNat 32 t)) (k0_pay642 (F := Ideal) (c2 D)) (k0_pay644 (F := Ideal) (c2 D) (c3 fun _ : Fin 1 => M 0))
      (k0_pay648 (F := Ideal) (k0_pay642 (F := Ideal) (c2 D)) (c3 fun _ : Fin 1 => M 1)) (k0_pay650 (F := Ideal) (k0_pay642 (F := Ideal) (c2 D)) (c3 fun _ : Fin 1 => M 2)) (c3 fun _ : Fin 1 => M 3)
      = c2 fun r j => (∑ q : Fin 128, D r (chn (grp j) q) * M (grp j) (plc j) q) / cnt (t * 512 + r.val) j.val := by
  have p_3 : matmul (F := Ideal) (φ₁ := .bf16) dot_S512x128_S128x128_S512x128_1_1_0_0_n_n none (extractStridedSlice S512x128 ![0, 384] (c2 D) slices_S512x512_o0_384_S512x128)
      (truncf (φ := .f32) .bf16 (shapeCast S128x128 (c3 fun _ : Fin 1 => M 3) shapeCasts_S1x128x128_S128x128)) (constant S512x128 .f32 0x00000000#32)
      = c2 fun t r => ∑ q : Fin 128, D t (chn 3 q) * M 3 r q := by
    funext i
    pointwise
    simp only [c3_apply, c2_apply, lit_zero, mul_coe, sum_coe, zero_add]
    rfl
  simp only [k0_pay2, same_block, p_0, p_1, p_2, p_3, count t ht, Cert.MixInBwdIdeal.Tap.lanes4_fold]
  rw [beside fun g t r => ∑ q : Fin 128, D t (chn g q) * M g r q]
  funext i
  exact div_coe _ _ (cnt_ne _ _)

/-! ## The small gradients' rows -/

theorem forty : Shape.Concatenates (List.replicate 40 S1x512) S40x512 0 := by decide

/-- Forty rows over one another. -/
def stack (f : Fin 40 → FVec Ideal S1x512 .f32) : FVec Ideal S40x512 .f32 :=
  concatenate S40x512 0 (List.ofFn fun n : Fin 40 => (⟨S1x512, f n⟩ : (s : Shape) × (s.Idx → EReal))) forty

theorem stack_apply (f : Fin 40 → FVec Ideal S1x512 .f32) (i : S40x512.Idx) : stack f i = f (i 0) (ix2 0 (i 1)) := by
  unfold stack
  exact concatenate_ofFn_unit_apply 0 f forty rfl rfl i (i 0) rfl (ix2 0 (i 1)) fun b hb => by
    match b, hb with
    | ⟨0, _⟩, hb => exact absurd rfl hb
    | ⟨1, _⟩, _ => rfl

/-- A block's columns' sums. -/
def cols (f : FVec Ideal S512x512 .f32) : FVec Ideal S1x512 .f32 :=
  shapeCast S1x512 (multiReduction (F := Ideal) (φ := .f32) .add [0] S512 f 0x00000000#32 reduces_S512x512_S512_2 (.inl rfl) rfl) shapeCasts_S512_S1x512

theorem cols_eq (f : Fin 512 → Fin 512 → ℝ) : cols (c2 f) = cN 1 512 fun _ j => ∑ t : Fin 512, tot f t.val j := by
  funext i
  pointwise [cols]
  simp only [c2_apply, sum_coe]
  refine congrArg Real.toEReal (Finset.sum_congr rfl fun t _ => ?_)
  exact (tot_in f t (i 1)).symm

theorem times (f g : Fin 512 → Fin 512 → ℝ) : mulf (F := Ideal) (φ := .f32) (c2 f) (c2 g) = c2 fun t j => f t j * g t j := by
  funext i
  exact mul_coe _ _

/-- The forty rows that a block adds. -/
def rows (r : ℕ → ℕ → ℕ → ℝ) (yc yh yn am mx : Fin 512 → Fin 512 → ℝ) (q j : ℕ) : ℝ :=
  if q < 31 then r q 0 j
  else if q = 32 then ∑ t : Fin 512, tot yc t.val j
  else if q = 33 then ∑ t : Fin 512, tot yh t.val j
  else if q = 34 then ∑ t : Fin 512, tot yn t.val j
  else if q = 35 then ∑ t : Fin 512, tot am t.val j
  else if q = 36 then ∑ t : Fin 512, tot mx t.val j
  else 0

theorem empty_row : k0_pay640 (F := Ideal) = cN 1 512 fun _ _ => 0 := by
  funext i
  exact lit_zero

theorem small_block (r : ℕ → ℕ → ℕ → ℝ) (H X A N C D : Fin 512 → Fin 512 → ℝ) (Y : Fin 40 → Fin 512 → ℝ) :
    k0_pay641 (F := Ideal) (c2 H) (c2 X) (c2 A) (c2 N) (c2 C) (c2 D) (cN 1 512 (r 0)) (cN 1 512 (r 1)) (cN 1 512 (r 2)) (cN 1 512 (r 3)) (cN 1 512 (r 4)) (cN 1 512 (r 5)) (cN 1 512 (r 6)) (cN 1 512 (r 7)) (cN 1 512 (r 8)) (cN 1 512 (r 9)) (cN 1 512 (r 10)) (cN 1 512 (r 11)) (cN 1 512 (r 12)) (cN 1 512 (r 13)) (cN 1 512 (r 14)) (cN 1 512 (r 15)) (cN 1 512 (r 16)) (cN 1 512 (r 17)) (cN 1 512 (r 18)) (cN 1 512 (r 19)) (cN 1 512 (r 20)) (cN 1 512 (r 21)) (cN 1 512 (r 22)) (cN 1 512 (r 23)) (cN 1 512 (r 24)) (cN 1 512 (r 25)) (cN 1 512 (r 26)) (cN 1 512 (r 27)) (cN 1 512 (r 28)) (cN 1 512 (r 29)) (cN 1 512 (r 30)) (k0_pay640 (F := Ideal)) (c2 Y)
      = c2 fun q j => Y q j + rows r C (fun t j => N t j * H t j) N (fun t j => A t j * X t j) D q.val j.val := by
  have e : k0_pay641 (F := Ideal) (c2 H) (c2 X) (c2 A) (c2 N) (c2 C) (c2 D) (cN 1 512 (r 0)) (cN 1 512 (r 1)) (cN 1 512 (r 2)) (cN 1 512 (r 3)) (cN 1 512 (r 4)) (cN 1 512 (r 5)) (cN 1 512 (r 6)) (cN 1 512 (r 7)) (cN 1 512 (r 8)) (cN 1 512 (r 9)) (cN 1 512 (r 10)) (cN 1 512 (r 11)) (cN 1 512 (r 12)) (cN 1 512 (r 13)) (cN 1 512 (r 14)) (cN 1 512 (r 15)) (cN 1 512 (r 16)) (cN 1 512 (r 17)) (cN 1 512 (r 18)) (cN 1 512 (r 19)) (cN 1 512 (r 20)) (cN 1 512 (r 21)) (cN 1 512 (r 22)) (cN 1 512 (r 23)) (cN 1 512 (r 24)) (cN 1 512 (r 25)) (cN 1 512 (r 26)) (cN 1 512 (r 27)) (cN 1 512 (r 28)) (cN 1 512 (r 29)) (cN 1 512 (r 30)) (k0_pay640 (F := Ideal)) (c2 Y)
      = addf (F := Ideal) (φ := .f32) (shapeCast S40x512 (c2 Y) shapeCasts_S40x512_S40x512)
          (stack ![cN 1 512 (r 0), cN 1 512 (r 1), cN 1 512 (r 2), cN 1 512 (r 3), cN 1 512 (r 4), cN 1 512 (r 5), cN 1 512 (r 6), cN 1 512 (r 7), cN 1 512 (r 8), cN 1 512 (r 9), cN 1 512 (r 10), cN 1 512 (r 11), cN 1 512 (r 12), cN 1 512 (r 13), cN 1 512 (r 14), cN 1 512 (r 15), cN 1 512 (r 16), cN 1 512 (r 17), cN 1 512 (r 18), cN 1 512 (r 19), cN 1 512 (r 20), cN 1 512 (r 21), cN 1 512 (r 22), cN 1 512 (r 23), cN 1 512 (r 24), cN 1 512 (r 25), cN 1 512 (r 26), cN 1 512 (r 27), cN 1 512 (r 28), cN 1 512 (r 29), cN 1 512 (r 30), k0_pay640 (F := Ideal), cols (c2 C), cols (mulf (F := Ideal) (φ := .f32) (c2 N) (c2 H)), cols (c2 N),
            cols (mulf (F := Ideal) (φ := .f32) (c2 A) (c2 X)), cols (c2 D), k0_pay640 (F := Ideal), k0_pay640 (F := Ideal), k0_pay640 (F := Ideal)]) := rfl
  rw [e]
  simp only [times, cols_eq, empty_row]
  have l : (![cN 1 512 (r 0), cN 1 512 (r 1), cN 1 512 (r 2), cN 1 512 (r 3), cN 1 512 (r 4), cN 1 512 (r 5), cN 1 512 (r 6), cN 1 512 (r 7), cN 1 512 (r 8), cN 1 512 (r 9), cN 1 512 (r 10), cN 1 512 (r 11), cN 1 512 (r 12), cN 1 512 (r 13), cN 1 512 (r 14), cN 1 512 (r 15), cN 1 512 (r 16), cN 1 512 (r 17), cN 1 512 (r 18), cN 1 512 (r 19), cN 1 512 (r 20), cN 1 512 (r 21), cN 1 512 (r 22), cN 1 512 (r 23), cN 1 512 (r 24), cN 1 512 (r 25), cN 1 512 (r 26), cN 1 512 (r 27), cN 1 512 (r 28), cN 1 512 (r 29), cN 1 512 (r 30), (cN 1 512 fun _ _ => 0), (cN 1 512 fun _ j => ∑ t : Fin 512, tot C t.val j), (cN 1 512 fun _ j => ∑ t : Fin 512, tot (fun t j => N t j * H t j) t.val j),
        (cN 1 512 fun _ j => ∑ t : Fin 512, tot N t.val j), (cN 1 512 fun _ j => ∑ t : Fin 512, tot (fun t j => A t j * X t j) t.val j), (cN 1 512 fun _ j => ∑ t : Fin 512, tot D t.val j),
        (cN 1 512 fun _ _ => 0), (cN 1 512 fun _ _ => 0), (cN 1 512 fun _ _ => 0)] : Fin 40 → FVec Ideal S1x512 .f32)
      = fun n => cN 1 512 fun _ j => rows r C (fun t j => N t j * H t j) N (fun t j => A t j * X t j) D n.val j := by
    funext n
    fin_cases n <;> funext i <;> rw [show i = ix2 0 (i 1) from by funext b; match b with | ⟨0, _⟩ => exact Fin.ext (by have := (i 0).isLt; change (i 0).val < 1 at this; show (i 0).val = 0; omega) | ⟨1, _⟩ => rfl] <;> rfl
  funext i
  pointwise
  rw [stack_apply]
  simp only [l]
  exact add_coe _ _

end Cert.MixOutBwdIdeal.Body
-- ==== Proof.MixOutConv.lean ====
/-
  The convolution over tokens, by 31 shifted products of whole arrays: the forward's lines as the host writes them, in real numbers.
-/
module

public import proofs.«01_k».proof.Proof.MixOutSpec
public import proofs.«01_k».proof.Proof.MixHost
public import Idealize.ShloMosaic.Lib.Pointwise

@[expose] public section

set_option maxRecDepth 16384

noncomputable section

namespace Step.MixOut.Conv

open Idealize.ShloMosaic Step Step.Mix Step.Mix.Host Step.MixOut
open Cert.MixInBwdIdeal.Tap (cN cN_apply cN_congr shift sum_two)

theorem as_cN {a b : ℕ} (f : Fin a → Fin b → ℝ) : (c2 f : Shape.Idx ⟨2, ![a, b]⟩ → EReal) = cN a b (tot f) := by
  funext i
  exact congrArg Real.toEReal (tot_in f (i 0) (i 1)).symm

/-- One tap's products. -/
theorem fed_tap (C T : ℕ → ℕ → ℝ) (k : ℕ) (h₀ h₁ h₂ h₃ h₄) :
    mulf (F := Ideal) (φ := .f32) (extractStridedSlice ⟨2, ![8192, 512]⟩ ![k, 0] (cN 8222 512 C) h₀)
      (broadcastInDim ⟨2, ![8192, 512]⟩ ![0, 1] h₁ (broadcastInDim ⟨2, ![1, 512]⟩ ![1] h₂
        (shapeCast ⟨1, ![512]⟩ (extractStridedSlice ⟨2, ![1, 512]⟩ ![k, 0] (cN 31 512 T) h₃) h₄))) = cN 8192 512 fun i j => C (k + i) j * T k j := by
  funext i
  pointwise
  simp only [cN_apply, mul_coe]
  rfl

/-- The first `n` taps. -/
def fed (C T : ℕ → ℕ → ℝ) (n i j : ℕ) : ℝ := ∑ k ∈ Finset.range n, C (k + i) j * T k j

theorem fed_first (C T : ℕ → ℕ → ℝ) (h) :
    addf (F := Ideal) (φ := .f32) (broadcastInDim ⟨2, ![8192, 512]⟩ ![] h (constant (F := Ideal) ⟨0, ![]⟩ .f32 0x00000000#32)) (cN 8192 512 fun i j => C (0 + i) j * T 0 j)
      = cN 8192 512 (fed C T 1) := by
  funext i
  show Ideal.ofBits .f32 0x00000000#32 + _ = ((fed C T 1 _ _ : ℝ) : EReal)
  rw [fed, Finset.sum_range_one]
  exact (congrArg (· + _) lit_zero).trans (zero_add _)

theorem fed_next (C T : ℕ → ℕ → ℝ) (n : ℕ) :
    addf (F := Ideal) (φ := .f32) (cN 8192 512 (fed C T n)) (cN 8192 512 fun i j => C (n + i) j * T n j) = cN 8192 512 (fed C T (n + 1)) := by
  rw [sum_two]
  refine cN_congr fun i _ j _ => ?_
  rw [fed, fed, Finset.sum_range_succ]

/-- The gated channels with 30 rows of zeros before them. -/
def under (H : Fin 8192 → Fin 1536 → ℝ) (i j : ℕ) : ℝ := glu (ext H) (i + 2) j

/-- With the shift, all 31 are the convolution. -/
theorem fed_all (H : Fin 8192 → Fin 1536 → ℝ) (T : Fin 31 → Fin 512 → ℝ) (b : Fin 512 → ℝ) (t : Fin 8192) (j : Fin 512) :
    fed (under H) (tot T) 31 t.val j.val + b j = conv H T b t.val j := by
  unfold fed conv under
  refine congrArg (· + b j) (Finset.sum_congr rfl fun k _ => ?_)
  rw [show t.val + 2 + k = k + t.val + 2 by omega]

theorem under_apply (H : Fin 8192 → Fin 1536 → ℝ) (i : ℕ) (j : Fin 512) :
    under H i j.val = if h : 30 ≤ i ∧ i < 8222 then H ⟨i - 30, by omega⟩ ⟨512 + j.val, by omega⟩ * logi (H ⟨i - 30, by omega⟩ ⟨1024 + j.val, by omega⟩) else 0 := by
  have hz : ∀ p, ¬ (30 ≤ i ∧ i < 8222) → ext H (i + 2) p = 0 := by
    intro p h
    unfold ext
    by_cases c : i + 2 < 32
    · exact if_pos c
    · rw [if_neg c]
      exact tot_out H _ _ (by omega)
  have hs : ∀ p (hp : p < 1536) (h : 30 ≤ i ∧ i < 8222), ext H (i + 2) p = H ⟨i - 30, by omega⟩ ⟨p, hp⟩ := by
    intro p hp h
    unfold ext
    rw [if_neg (by omega), show i + 2 - 32 = i - 30 by omega]
    exact tot_in H ⟨i - 30, by omega⟩ ⟨p, hp⟩
  unfold under glu
  by_cases h : 30 ≤ i ∧ i < 8222
  · rw [dif_pos h, hs _ (by omega) h, hs _ (by omega) h]
  · rw [dif_neg h, hz _ h, zero_mul]

end Step.MixOut.Conv
-- ==== Proof.MixOutEntry.lean ====
/-
  What the mixer's output backward call finds when its region starts, over real arguments: the forward's inner product,
  the packed weights, and the blocks the pipeline stages at a grid point.
-/
module

public import proofs.«01_k».proof.Proof.Gen.MixOutBwdIdeal.Value
public import proofs.«01_k».proof.Proof.MixOutConv
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MixOutBwdIdeal.Entry

open Cert.MixOutBwdIdeal Cert.MixOutBwdIdeal.Gen Idealize.ShloMosaic Idealize.ShloMosaic.TcCoe Idealize.SL.Sem Step Step.Mix Step.Mix.Host Step.MixOut Step.MixOut.Conv
open Cert.MixInBwdIdeal.Tap (cN cN_apply cN_congr shift sum_two)

variable (m : (ℓ : Loc nD τ sig) → Buf (Elt Ideal) ℓ)

/-- The call's arguments on device `c` are arrays of real numbers. -/
structure Real (c : Dev nD) where
  X : Fin 8192 → Fin 1024 → ℝ
  G : Fin 1024 → ℝ
  W : Fin 1024 → Fin 1536 → ℝ
  M : Fin 4 → Fin 128 → Fin 128 → ℝ
  B : Fin 4 → Fin 128 → ℝ
  S : Fin 512 → ℝ
  T : Fin 31 → Fin 512 → ℝ
  C : Fin 512 → ℝ
  L : Fin 512 → ℝ
  Z : Fin 512 → ℝ
  O : Fin 1024 → Fin 1024 → ℝ
  Y : Fin 8192 → Fin 1024 → ℝ
  hX : m ((c : Thread nD τ).loc main_arg0) = c2 X
  hG : m ((c : Thread nD τ).loc main_arg1) = c1 G
  hW : m ((c : Thread nD τ).loc main_arg2) = c2 W
  hM : m ((c : Thread nD τ).loc main_arg3) = c3 M
  hB : m ((c : Thread nD τ).loc main_arg4) = c2 B
  hS : m ((c : Thread nD τ).loc main_arg5) = c1 S
  hT : m ((c : Thread nD τ).loc main_arg6) = c2 T
  hC : m ((c : Thread nD τ).loc main_arg7) = c1 C
  hL : m ((c : Thread nD τ).loc main_arg8) = c1 L
  hZ : m ((c : Thread nD τ).loc main_arg9) = c1 Z
  hO : m ((c : Thread nD τ).loc main_arg10) = c2 O
  hY : m ((c : Thread nD τ).loc main_arg11) = c2 Y

variable {m} {c : Dev nD} (a : Real m c)

/-- The forward's inner product. -/
def Real.H (t : Fin 8192) (j : Fin 1536) : ℝ := pre (a.X t) a.G a.W j
/-- The channel mix's shift, channel by channel. -/
def Real.b (j : Fin 512) : ℝ := a.B (grp j) (plc j)

theorem h_entry : (V m c main_v17 : S8192x1536.Idx → EReal) = c2 a.H := by
  entry_read
  rw [a.hX, a.hG, a.hW]
  funext i
  pointwise
  simp only [c1_apply, c2_apply, lit_1024, lit_eps, mul_coe, sum_coe, add_coe, div_coe _ _ (show (1024 : ℝ) ≠ 0 by norm_num)]
  simp only [ix2_0, ix2_1, rsqrt_ms, mul_coe, sum_coe]
  rfl

/-- The outer weights, packed by slabs of their rows. -/
theorem outer_entry : (V m c main_v1 : S4x256x1024.Idx → EReal) = c3 fun q i k => a.O ⟨q.val * 256 + i.val, by omega⟩ k := by
  entry_read
  rw [a.hO]
  funext i
  pointwise
  rfl

/-- Row `r` of the block staged at grid point `t`. -/
def row (t : Fin cfg0.N) (r : Fin 512) : Fin 8192 := ⟨t.val * 512 + r.val, by have := t.isLt; have : cfg0.N = 16 := N_0; omega⟩

/-- Row `r` of the rows staged before the block of grid point `t`. -/
def prev (t : Fin cfg0.N) (r : Fin 32) : Fin 8192 := ⟨(t.val * 16 - 1) * 32 + r.val, by have := t.isLt; have : cfg0.N = 16 := N_0; omega⟩

theorem d_block (t : Fin cfg0.N) : iblk m c 0 t = c2 fun r k => a.Y (row t r) k := by
  have idx : ∀ t : Fin cfg0.N, win0_0.index t = ![t.val, 0] := (by decide +kernel : ∀ t : Fin grid0.N, _)
  funext i
  have e : iblk m c 0 t i = (c2 a.Y : S8192x1024.Idx → EReal) (ix2 (row t (i 0)) (i 1)) := by
    rw [← a.hY]
    blk_ext [iblk, V, row, idx t]
  exact e

theorem h_block (t : Fin cfg0.N) : iblk m c 1 t = cN 512 1536 (shift (ext a.H) (t.val * 512 + 32) 0) := by
  have idx : ∀ t : Fin cfg0.N, win0_1.index t = ![t.val, 0] := (by decide +kernel : ∀ t : Fin grid0.N, _)
  funext i
  have e : iblk m c 1 t i = (V m c main_v17 : S8192x1536.Idx → EReal) (ix2 (row t (i 0)) (i 1)) := by
    blk_ext [iblk, row, idx t]
  rw [e, h_entry a]
  refine congrArg Real.toEReal ?_
  show a.H (row t (i 0)) (i 1) = ext a.H (t.val * 512 + 32 + (i 0).val) (0 + (i 1).val)
  rw [ext, if_neg (by omega), Nat.zero_add, show t.val * 512 + 32 + (i 0).val - 32 = (row t (i 0)).val by show _ = t.val * 512 + (i 0).val; omega]
  exact (tot_in a.H (row t (i 0)) (i 1)).symm

theorem h_before (t : Fin cfg0.N) (h : 0 < t.val) : iblk m c 2 t = cN 32 1536 (shift (ext a.H) (t.val * 512) 0) := by
  have idx : ∀ t : Fin cfg0.N, win0_2.index t = ![t.val * 16 - 1, 0] := (by decide +kernel : ∀ t : Fin grid0.N, _)
  funext i
  have e : iblk m c 2 t i = (V m c main_v17 : S8192x1536.Idx → EReal) (ix2 (prev t (i 0)) (i 1)) := by
    blk_ext [iblk, prev, idx t]
  rw [e, h_entry a]
  refine congrArg Real.toEReal ?_
  show a.H (prev t (i 0)) (i 1) = ext a.H (t.val * 512 + (i 0).val) (0 + (i 1).val)
  rw [ext, if_neg (by omega), Nat.zero_add, show t.val * 512 + (i 0).val - 32 = (prev t (i 0)).val by show _ = (t.val * 16 - 1) * 32 + (i 0).val; omega]
  exact (tot_in a.H (prev t (i 0)) (i 1)).symm

theorem m_block (t : Fin cfg0.N) : iblk m c 4 t = c3 a.M := by
  have idx : ∀ t : Fin cfg0.N, win0_4.index t = ![0, 0, 0] := (by decide +kernel : ∀ t : Fin grid0.N, _)
  funext i
  have e : iblk m c 4 t i = (c3 a.M : S4x128x128.Idx → EReal) (ix3 (i 0) (i 1) (i 2)) := by
    rw [← a.hM]
    blk_ext [iblk, V, idx t]
  exact e

theorem b_block (t : Fin cfg0.N) : iblk m c 5 t = c2 fun (_ : Fin 1) => a.b := by
  have idx : ∀ t : Fin cfg0.N, win0_5.index t = ![0, 0] := (by decide +kernel : ∀ t : Fin grid0.N, _)
  funext i
  have e : iblk m c 5 t i = (V m c main_v251 : S1x512.Idx → EReal) (ix2 (i 0) (i 1)) := by
    blk_ext [iblk, idx t]
  rw [e]
  entry_read
  rw [a.hB]
  pointwise
  rfl

theorem s_block (t : Fin cfg0.N) : iblk m c 6 t = c2 fun (_ : Fin 1) => a.S := by
  have idx : ∀ t : Fin cfg0.N, win0_6.index t = ![0, 0] := (by decide +kernel : ∀ t : Fin grid0.N, _)
  funext i
  have e : iblk m c 6 t i = (V m c main_v252 : S1x512.Idx → EReal) (ix2 (i 0) (i 1)) := by
    blk_ext [iblk, idx t]
  rw [e]
  entry_read
  rw [a.hS]
  pointwise
  rfl

theorem l_block (t : Fin cfg0.N) : iblk m c 9 t = c2 fun (_ : Fin 1) => a.L := by
  have idx : ∀ t : Fin cfg0.N, win0_9.index t = ![0, 0] := (by decide +kernel : ∀ t : Fin grid0.N, _)
  funext i
  have e : iblk m c 9 t i = (V m c main_v254 : S1x512.Idx → EReal) (ix2 (i 0) (i 1)) := by
    blk_ext [iblk, idx t]
  rw [e]
  entry_read
  rw [a.hL]
  pointwise
  rfl

theorem z_block (t : Fin cfg0.N) : iblk m c 10 t = c2 fun (_ : Fin 1) => a.Z := by
  have idx : ∀ t : Fin cfg0.N, win0_10.index t = ![0, 0] := (by decide +kernel : ∀ t : Fin grid0.N, _)
  funext i
  have e : iblk m c 10 t i = (V m c main_v255 : S1x512.Idx → EReal) (ix2 (i 0) (i 1)) := by
    blk_ext [iblk, idx t]
  rw [e]
  entry_read
  rw [a.hZ]
  pointwise
  rfl

end Cert.MixOutBwdIdeal.Entry
-- ==== Proof.MixOutFed.lean ====
/-
  The forward's convolution, as the mixer's output backward call finds it when its region starts.
-/
module

public import proofs.«01_k».proof.Proof.MixOutEntry

@[expose] public section

set_option maxRecDepth 16384

noncomputable section

namespace Cert.MixOutBwdIdeal.Entry

open Cert.MixOutBwdIdeal Cert.MixOutBwdIdeal.Gen Idealize.ShloMosaic Idealize.ShloMosaic.TcCoe Idealize.SL.Sem Step Step.Mix Step.Mix.Host Step.MixOut Step.MixOut.Conv
open Cert.MixInBwdIdeal.Tap (cN cN_apply cN_congr shift sum_two)

variable {m : (ℓ : Loc nD τ sig) → Buf (Elt Ideal) ℓ} {c : Dev nD} (a : Real m c)

/-- The inner product's lines over the rows. -/
theorem projected (X : Fin 8192 → Fin 1024 → ℝ) (G : Fin 1024 → ℝ) (W : Fin 1024 → Fin 1536 → ℝ) :
    (Host.dotGeneral (F := Ideal) dot_S8192x1024_S1024x1536_S8192x1536_1_0_0_1_n_n none
        (truncf (F := Ideal) (φ := .f32) FTy.bf16
          (mulf
            (mulf (c2 X)
              (broadcastInDim S8192x1024 ![0, 1] bcast_S8192x1_S8192x1024_0_1
                (Host.rsqrt
                  (addf
                    (Host.divf
                      (broadcastInDim S8192x1 ![0] bcast_S8192_S8192x1_0
                        (Host.reduceAdd (mulf (c2 X) (c2 X)) (constant S_ FTy.f32 0#32) reducesTo_S8192x1024_S8192_d1 h_S_))
                      (broadcastInDim S8192x1 ![] bcast_S_S8192x1 (constant S_ FTy.f32 1149239296#32)))
                    (broadcastInDim S8192x1 ![] bcast_S_S8192x1 (constant S_ FTy.f32 897988541#32))))))
            (broadcastInDim S8192x1024 ![0, 1] bcast_S1x1024_S8192x1024_0_1 fun i => shapeCast main_v12.ty.shape (c1 G : S1024.Idx → EReal) shapeCasts_S1024_S1x1024 i))
          bitsLt_bf16_f32)
        (truncf (F := Ideal) (φ := .f32) FTy.bf16 (c2 W) bitsLt_bf16_f32) : FVec Ideal S8192x1536 .f32)
      = (c2 fun t => pre (X t) G W) := by
  funext i
  pointwise
  simp only [c1_apply, c2_apply, lit_1024, lit_eps, mul_coe, sum_coe, add_coe, div_coe _ _ (show (1024 : ℝ) ≠ 0 by norm_num)]
  simp only [ix2_0, ix2_1, rsqrt_ms, mul_coe, sum_coe]
  rfl

/-- The gated channels with 30 rows of zeros before them. -/
theorem gated (H : Fin 8192 → Fin 1536 → ℝ) :
    concatenate S8222x512 0
        [⟨S30x512, (broadcastInDim S30x512 ![] bcast_S_S30x512 (constant (F := Ideal) S_ FTy.f32 0#32) : S30x512.Idx → EReal)⟩,
          ⟨S8192x512,
            (mulf (F := Ideal) (φ := .f32)
              (extractStridedSlice S8192x512 ![0, 0] (extractStridedSlice S8192x1024 ![0, 512] (c2 H) slices_S8192x1536_S8192x1024_0_512) slices_S8192x1024_S8192x512_0_0)
              (Host.divf (broadcastInDim S8192x512 ![] bcast_S_S8192x512 (constant S_ FTy.f32 1065353216#32))
                (addf (broadcastInDim S8192x512 ![] bcast_S_S8192x512 (constant S_ FTy.f32 1065353216#32))
                  (Host.exp
                    (Host.negf
                      (extractStridedSlice S8192x512 ![0, 512] (extractStridedSlice S8192x1024 ![0, 512] (c2 H) slices_S8192x1536_S8192x1024_0_512)
                        slices_S8192x1024_S8192x512_0_512))))) : S8192x512.Idx → EReal)⟩]
        concatenates_S30x512_S8192x512_S8222x512_d0
      = cN 8222 512 (under H) := by
  funext i
  have h0 : (i 0).val < 8222 := (i 0).isLt
  refine Eq.trans ?_ (congrArg Real.toEReal (under_apply H (i 0).val (i 1)).symm)
  pointwise
  simp only [c2_apply, lit_one, lit_zero, neg_coe, Ideal.exp_coe]
  by_cases c : (i 0).val < 30
  · rw [dif_pos c, dif_neg (by omega)]
    rfl
  · rw [dif_neg c, dif_pos (by omega)]
    have e : Ideal.div 1 (1 + ((Real.exp (-H ⟨(i 0).val - 30, by omega⟩ ⟨1024 + (i 1).val, by have : (i 1).val < 512 := (i 1).isLt; omega⟩) : ℝ) : EReal)) = _ := logi_exp _
    have q : ∀ (h : 512 + (512 + (i 1).val) < 1536) (h' : 1024 + (i 1).val < 1536), (⟨512 + (512 + (i 1).val), h⟩ : Fin 1536) = ⟨1024 + (i 1).val, h'⟩ :=
      fun _ _ => Fin.ext (by show 512 + (512 + (i 1).val) = 1024 + (i 1).val; omega)
    simp only [ix2_0, ix2_1]
    rw [q _ (by have : (i 1).val < 512 := (i 1).isLt; omega)]
    exact (congrArg (_ * ·) e).trans (mul_coe _ _)

set_option maxHeartbeats 4000000 in
/-- The convolution of the forward's gated channels. -/
theorem y_entry : (V m c main_v250 : S8192x512.Idx → EReal) = c2 fun t => conv a.H a.T a.C t.val := by
  entry_read
  rw [a.hX, a.hG, a.hW, a.hT, a.hC]
  rw [projected, gated, show (fun t => pre (a.X t) a.G a.W) = a.H from rfl]
  rw [as_cN a.T]
  funext i
  pointwise
  simp only [c1_apply, cN_apply, lit_zero, add_coe, add_zero]
  refine Eq.trans ?_ (congrArg Real.toEReal (fed_all a.H a.T a.C (i 0) (i 1)))
  unfold fed
  simp only [Finset.sum_range_succ, Finset.sum_range_zero, ix1_0, ix2_0, ix2_1, zero_add]
  rfl

theorem y_block (t : Fin cfg0.N) : iblk m c 3 t = c2 fun r => conv a.H a.T a.C (row t r).val := by
  have idx : ∀ t : Fin cfg0.N, win0_3.index t = ![t.val, 0] := (by decide +kernel : ∀ t : Fin grid0.N, _)
  funext i
  have e : iblk m c 3 t i = (V m c main_v250 : S8192x512.Idx → EReal) (ix2 (row t (i 0)) (i 1)) := by
    blk_ext [iblk, row, idx t]
  rw [e, y_entry a]
  rfl

end Cert.MixOutBwdIdeal.Entry
-- ==== Proof.MixOutHeld.lean ====
/-
  The weights the mixer's output backward call copies into its scratch at the first grid point and keeps: what the scratch holds at
  every point.
-/
module

public import proofs.«01_k».proof.Proof.MixOutEntry
public import Idealize.ShloMosaic.Lib.Pipeline.ValueKit.Held

@[expose] public section

set_option maxRecDepth 16384

noncomputable section

namespace Cert.MixOutBwdIdeal.Entry

open Cert.MixOutBwdIdeal Cert.MixOutBwdIdeal.Gen Idealize.ShloMosaic Idealize.ShloMosaic.TcCoe Idealize.SL.Sem Step

variable {m : (ℓ : Loc nD τ sig) → Buf (Elt Ideal) ℓ} {c : Dev nD} (a : Real m c)

/-- The weights' scratch. -/
def wout : S1024x1024.Idx → EReal := c2 a.O

/-- A slab of 256 rows, its leading axis of size one dropped. -/
theorem slab (Y : FVec Ideal S1x256x1024 .bf16) (f : S1x256x1024.ShapeCasts S256x1024) (x : S256x1024.Idx) :
    shapeCast S256x1024 Y f x = Y (ix3 0 (x 0) (x 1)) := by
  pointwise

/-- The slab copied into a quarter of the weights' rows is that quarter. -/
theorem wout_slice (q r : ℕ) (hq : q < 4) (hr : r = q * 256) (e : ∀ b, ![q, 0, 0] b + ![1, 256, 1024] b ≤ S4x256x1024.size b) (f : S1x256x1024.ShapeCasts S256x1024)
    (h : ∀ b, ![r, 0] b + ![256, 1024] b ≤ S1024x1024.size b) (x : (Rect.unit (s := S1024x1024) ![r, 0] ![256, 1024] h).shape.Idx) :
    ReadAs.same.apply (View.read (Elt Ideal) (((View.whole main_v1).slice (Rect.unit ![q, 0, 0] ![1, 256, 1024] e)).reshape S256x1024 f) (V m c main_v1)) x
      = wout a ((Rect.unit ![r, 0] ![256, 1024] h).emb x) := by
  refine (slab (View.ld (V m c main_v1 : S4x256x1024.Idx → EReal) (Rect.unit ![q, 0, 0] ![1, 256, 1024] e)) f x).trans ?_
  rw [outer_entry a]
  unfold wout
  show ((a.O _ _ : ℝ) : EReal) = ((a.O _ _ : ℝ) : EReal)
  congr 2
  · apply Fin.ext
    show (q + 1 * 0) * 256 + (0 + 1 * (x 0).val) = r + 1 * (x 0).val
    omega
set_option maxHeartbeats 2000000 in
/-- The slabs copied into the weights' scratch fill it. -/
theorem wout_pieces (h3 h2 h1 h0 e3 e2 e1 e0 f3 f2 f1 f0) (i : S1024x1024.Idx) :
    View.canon (Val := Elt Ideal) (s := S1024x1024) (e := .bf16)
      [⟨Rect.unit ![768, 0] ![256, 1024] h3, ReadAs.same.apply (View.read (Elt Ideal) (((View.whole main_v1).slice (Rect.unit ![3, 0, 0] ![1, 256, 1024] e3)).reshape S256x1024 f3) (V m c main_v1))⟩,
       ⟨Rect.unit ![512, 0] ![256, 1024] h2, ReadAs.same.apply (View.read (Elt Ideal) (((View.whole main_v1).slice (Rect.unit ![2, 0, 0] ![1, 256, 1024] e2)).reshape S256x1024 f2) (V m c main_v1))⟩,
       ⟨Rect.unit ![256, 0] ![256, 1024] h1, ReadAs.same.apply (View.read (Elt Ideal) (((View.whole main_v1).slice (Rect.unit ![1, 0, 0] ![1, 256, 1024] e1)).reshape S256x1024 f1) (V m c main_v1))⟩,
       ⟨Rect.unit ![0, 0] ![256, 1024] h0, ReadAs.same.apply (View.read (Elt Ideal) (((View.whole main_v1).slice (Rect.unit ![0, 0, 0] ![1, 256, 1024] e0)).reshape S256x1024 f0) (V m c main_v1))⟩] i
      = wout a i := by
  rw [← List.append_nil (_ :: _)]
  refine (View.canon_append_of_piecesOf (wout a) [] _ ?_ _ (View.cover_of_tiledL _ ![256, 1024] (by sl_kernel_rfl) _)).trans rfl
  refine ⟨fun x => ?_, fun x => ?_, fun x => ?_, fun x => ?_, trivial⟩
  · exact wout_slice a 3 768 (by decide) (by decide) e3 f3 h3 x
  · exact wout_slice a 2 512 (by decide) (by decide) e2 f2 h2 x
  · exact wout_slice a 1 256 (by decide) (by decide) e1 f1 h1 x
  · exact wout_slice a 0 0 (by decide) (by decide) e0 f0 h0 x

set_option maxHeartbeats 2000000 in
/-- Read back, the weights' scratch so filled is the weights. -/
theorem wout_fill (v : View sig .tc .vmem S1024x1024 .bf16) (h3 h2 h1 h0 e3 e2 e1 e0 f3 f2 f1 f0) (B : Rect S1024x1024) :
    v.readCov (Val := Elt Ideal)
      [⟨Rect.unit ![768, 0] ![256, 1024] h3, ReadAs.same.apply (View.read (Elt Ideal) (((View.whole main_v1).slice (Rect.unit ![3, 0, 0] ![1, 256, 1024] e3)).reshape S256x1024 f3) (V m c main_v1))⟩,
       ⟨Rect.unit ![512, 0] ![256, 1024] h2, ReadAs.same.apply (View.read (Elt Ideal) (((View.whole main_v1).slice (Rect.unit ![2, 0, 0] ![1, 256, 1024] e2)).reshape S256x1024 f2) (V m c main_v1))⟩,
       ⟨Rect.unit ![256, 0] ![256, 1024] h1, ReadAs.same.apply (View.read (Elt Ideal) (((View.whole main_v1).slice (Rect.unit ![1, 0, 0] ![1, 256, 1024] e1)).reshape S256x1024 f1) (V m c main_v1))⟩,
       ⟨Rect.unit ![0, 0] ![256, 1024] h0, ReadAs.same.apply (View.read (Elt Ideal) (((View.whole main_v1).slice (Rect.unit ![0, 0, 0] ![1, 256, 1024] e0)).reshape S256x1024 f0) (V m c main_v1))⟩] B.toLoadRect
      = View.ld (wout a) B := by
  rw [View.readCov_eq_canon']
  funext j
  exact wout_pieces a h3 h2 h1 h0 e3 e2 e1 e0 f3 f2 f1 f0 _

/-- At every grid point the scratch holds the weights. -/
theorem wout_held (t : Fin cfg0.N) : (outsAt0 m c t.val t.isLt).2.2.2.2 = wout a := by
  funext i
  refine Pipeline.eq_of_write_hold_apply (fun n h => (outsAt0 m c n h).2.2.2.2) 16 (fun _ => wout a) (fun t h i => ?_) (fun t h i => ?_) t i
  · rw [outsAt0_A m c t h h]
    frame_out
    exact wout_pieces a _ _ _ _ _ _ _ _ _ _ _ _ i
  · rw [outsAt0_B m c t h h]
    rfl

end Cert.MixOutBwdIdeal.Entry
-- ==== Proof.MixOutOuts.lean ====
/-
  What the body of the mixer's output backward call leaves at a grid point: the block of each result, in real numbers.
-/
module

public import proofs.«01_k».proof.Proof.MixOutBody
public import proofs.«01_k».proof.Proof.MixOutTap
public import proofs.«01_k».proof.Proof.MixOutFed
public import proofs.«01_k».proof.Proof.MixOutHeld
public import Idealize.ShloMosaic.Lib.Pipeline.ReadBack

@[expose] public section

set_option maxRecDepth 16384

noncomputable section

namespace Cert.MixOutBwdIdeal.Entry

open Cert.MixOutBwdIdeal Cert.MixOutBwdIdeal.Gen Idealize.ShloMosaic Idealize.ShloMosaic.TcCoe Idealize.SL.Sem Step Step.Mix Step.MixOut Body
open Step.MixOut.Tap
open Cert.MixInBwdIdeal.Tap (cN cN_apply cN_congr shift)
open Step.MixOut.Conv (as_cN)

variable {m : (ℓ : Loc nD τ sig) → Buf (Elt Ideal) ℓ} {c : Dev nD} (a : Real m c)

/-! ## Reading a slab -/

theorem ld_mix (M : Fin 4 → Fin 128 → Fin 128 → ℝ) (q : ℕ) (hq : q < 4) (h) :
    View.ld (Val := Elt Ideal) (e' := .f32) (c3 M : S4x128x128.Idx → EReal) (Rect.unit (s := S4x128x128) ![q, 0, 0] ![1, 128, 128] h)
      = c3 fun (_ : Fin 1) => M ⟨q, hq⟩ := by
  funext i
  have h0 : (i 0).val = 0 := Nat.lt_one_iff.mp (i 0).isLt
  show ((M _ _ _ : ℝ) : EReal) = ((M _ _ _ : ℝ) : EReal)
  congr 2
  · apply Fin.ext
    show q + 1 * (i 0).val = q
    omega
  · apply Fin.ext
    show 0 + 1 * (i 1).val = (i 1).val
    omega
  · apply Fin.ext
    show 0 + 1 * (i 2).val = (i 2).val
    omega

theorem ld_wout (h) : View.ld (Val := Elt Ideal) (e' := .bf16) (wout a) (Rect.unit (s := S1024x1024) ![0, 0] ![1024, 1024] h) = c2 a.O := by
  funext i
  refine congrArg Real.toEReal (congrArg₂ a.O (Fin.ext ?_) (Fin.ext ?_))
  · show 0 + 1 * (i 0).val = (i 0).val
    omega
  · show 0 + 1 * (i 1).val = (i 1).val
    omega

/-! ## The rows of a block -/

/-- The projected rows a block meets: 32 before it and its own 512. -/
def met (t : Fin cfg0.N) (i j : ℕ) : ℝ := ext a.H (t.val * 512 + i) j

/-- The convolution's row, and the output cotangent's, of the block's row `r`. -/
abbrev crow (t : Fin cfg0.N) (r : Fin 512) : Fin 512 → ℝ := conv a.H a.T a.C (row t r).val
abbrev erow (t : Fin cfg0.N) (r : Fin 512) : Fin 1024 → ℝ := back' a.O (a.Y (row t r))

/-- The running means of the block's rows. -/
def prow (t : Fin cfg0.N) (i j : ℕ) : ℝ := pool a.H (t.val * 512 + i) j

theorem bound (t : Fin cfg0.N) : t.val < 16 := lt_of_lt_of_eq t.isLt N_0

theorem point (t : Fin cfg0.N) : (grid0.coords t 0).val = t.val := (by decide +kernel : ∀ t : Fin grid0.N, (grid0.coords t 0).val = t.val) t

theorem own_block (t : Fin cfg0.N) : iblk m c 1 t = cN 512 1536 (shift (met a t) 32 0) := by
  rw [h_block a t]
  refine cN_congr fun i _ j _ => ?_
  show ext a.H (t.val * 512 + 32 + i) (0 + j) = ext a.H (t.val * 512 + (32 + i)) (0 + j)
  rw [Nat.add_assoc]

theorem met_block (t : Fin cfg0.N) : k0_pay7 (F := Ideal) (grid0.coords t) (cN 512 1536 (shift (met a t) 32 0)) (iblk m c 2 t) = cN 544 1536 (met a t) := by
  rw [← own_block a t, h_block a t, joined (grid0.coords t) t.val (bound t) (point t) (ext a.H) (t.val * 512) (iblk m c 2 t) (h_before a t)]
  · refine cN_congr fun i _ j _ => ?_
    show ext a.H (t.val * 512 + i) (0 + j) = ext a.H (t.val * 512 + i) j
    rw [Nat.zero_add]
  · intro h i j hi
    have : t.val * 512 + i < 32 := by omega
    exact if_pos this

theorem len_le (j : ℕ) : len j ≤ 32 := by
  unfold len
  split_ifs <;> omega

/-- The running means of a block. -/
theorem means (t : Fin cfg0.N) :
    k0_pay12 (F := Ideal) (BitVec.ofNat 32 (grid0.coords t 0).val) (k0_pay5 (F := Ideal) (iblk m c 1 t)) (k0_pay9 (F := Ideal) (grid0.coords t) (iblk m c 1 t) (iblk m c 2 t))
        (k0_pay10 (F := Ideal) (grid0.coords t) (iblk m c 1 t) (iblk m c 2 t)) 4#32
      = cN 512 512 (prow a t) := by
  rw [own_block a t, Body.h_block, once_block _ _ _ _ (met_block a t), two_block _ _ _ _ (met_block a t), point t, pool_block t.val (bound t)]
  refine cN_congr fun i _ j _ => ?_
  have e : back (met a t) (len j) (32 + i) j = back (ext a.H) (len j) (32 + (t.val * 512 + i)) j := by
    refine Finset.sum_congr rfl fun k hk => ?_
    have := len_le j
    have := Finset.mem_range.mp hk
    show ext a.H (t.val * 512 + (32 + i - k)) j = _
    congr 1
    omega
  rw [e]
  show _ - ext a.H (t.val * 512 + (32 + i)) j = _
  rw [show t.val * 512 + (32 + i) = 32 + (t.val * 512 + i) from by omega]
  rfl

/-- The gated channels of a block. -/
theorem gates (t : Fin cfg0.N) : k0_pay8 (F := Ideal) (grid0.coords t) (iblk m c 1 t) (iblk m c 2 t) = cN 544 512 (glu (met a t)) := by
  rw [own_block a t]
  exact glu_block _ _ _ _ (met_block a t)

/-! ## The body's results -/

theorem wout_before (t : Fin cfg0.N) (h) : (outsAt0 m c (t.val - 1) h).2.2.2.2 = wout a := wout_held a ⟨t.val - 1, h⟩

theorem whole_wout : wout a = c2 a.O := rfl

theorem dc_out (t : Fin cfg0.N) : (outsAt0 m c t.val t.isLt).1 = c2 fun r => dyc (crow a t r) a.L a.Z (erow a t r) := by
  by_cases h : t.val % 16 = 0
  on_goal 1 => rw [outsAt0_A m c t h h]; frame_out; simp only [wout_fill a, ld_wout a]
  on_goal 2 => rw [outsAt0_B m c t h h]; frame_out; simp only [read_unread_whole, wout_before a, whole_wout a]
  all_goals
    simp only [y_block a t, l_block a t, z_block a t, d_block a t, Body.y_block, cen_block, ss_block, rs_block, hat_block, lg_block, aff_block, dyc_block]

theorem dpc_out (t : Fin cfg0.N) : (outsAt0 m c t.val t.isLt).2.1 = c2 fun r j => dpc a.M a.S (erow a t r) (row t r).val j := by
  by_cases h : t.val % 16 = 0
  on_goal 1 => rw [outsAt0_A m c t h h]; frame_out; simp only [wout_fill a, ld_wout a]
  on_goal 2 => rw [outsAt0_B m c t h h]; frame_out; simp only [read_unread_whole, wout_before a, whole_wout a]
  all_goals
    simp only [m_block a t, s_block a t, d_block a t, point t, ld_mix a.M _ (by decide : 0 < 4), ld_mix a.M _ (by decide : 1 < 4), ld_mix a.M _ (by decide : 2 < 4),
      ld_mix a.M _ (by decide : 3 < 4), dya_block, dmix_block]
    exact dpc_block t.val (bound t) a.M _

/-- What a block adds to the channel mix's gradient. -/
def mshare (t : Fin cfg0.N) (g : Fin 4) (u v : Fin 128) : ℝ := ∑ r : Fin 512, prow a t r.val (chn g u).val * dmix a.S (erow a t r) (chn g v)

set_option maxHeartbeats 2000000 in
/-- Four slabs, whatever lies under them, are the gradient they are slabs of. -/
theorem slabs (G : Fin 4 → Fin 128 → Fin 128 → ℝ) (L) (h3 h2 h1 h0) :
    View.canon (Val := Elt Ideal) (s := S4x128x128) (e := .f32)
      (⟨Rect.unit ![3, 0, 0] ![1, 128, 128] h3, (c3 fun _ : Fin 1 => G 3 : S1x128x128.Idx → EReal)⟩ :: ⟨Rect.unit ![2, 0, 0] ![1, 128, 128] h2, (c3 fun _ : Fin 1 => G 2 : S1x128x128.Idx → EReal)⟩
        :: ⟨Rect.unit ![1, 0, 0] ![1, 128, 128] h1, (c3 fun _ : Fin 1 => G 1 : S1x128x128.Idx → EReal)⟩ :: ⟨Rect.unit ![0, 0, 0] ![1, 128, 128] h0, (c3 fun _ : Fin 1 => G 0 : S1x128x128.Idx → EReal)⟩ :: L)
      = (c3 G : S4x128x128.Idx → EReal) := by
  funext i
  refine (View.canon_append_of_piecesOf (c3 G : S4x128x128.Idx → EReal) L [_, _, _, _] ?_ _ (View.cover_of_tiledL _ ![1, 128, 128] (by sl_kernel_rfl) _)).trans rfl
  refine ⟨fun x => ?_, fun x => ?_, fun x => ?_, fun x => ?_, trivial⟩
  · exact (congrFun (ld_mix G 3 (by decide) h3) x).symm
  · exact (congrFun (ld_mix G 2 (by decide) h2) x).symm
  · exact (congrFun (ld_mix G 1 (by decide) h1) x).symm
  · exact (congrFun (ld_mix G 0 (by decide) h0) x).symm

theorem dpw_next (t : Fin cfg0.N) (h : ¬ t.val % 16 = 0) (Y : Fin 4 → Fin 128 → Fin 128 → ℝ)
    (hy : (outsAt0 m c (t.val - 1) (Nat.lt_of_le_of_lt (Nat.sub_le _ _) t.isLt)).2.2.1 = c3 Y) :
    (outsAt0 m c t.val t.isLt).2.2.1 = c3 fun g u v => Y g u v + mshare a t g u v := by
  rw [outsAt0_B m c t h h]; frame_out; simp only [read_unread_whole, wout_before a, whole_wout a]
  simp -index only [hy, s_block a t, d_block a t, means a t, ld_mix Y _ (by decide : 0 < 4), ld_mix Y _ (by decide : 1 < 4), ld_mix Y _ (by decide : 2 < 4),
      ld_mix Y _ (by decide : 3 < 4), dya_block, dmix_block, same_block, w_0, w_1, w_2, w_3]
  exact slabs (fun g u v => Y g u v + mshare a t g u v) [] _ _ _ _

/-- At row `q` of its first axis an array written so is zero. -/
def Clear (q : ℕ) (L : List (View.Piece (Elt Ideal) S4x128x128 .f32)) : Prop := ∀ x : S4x128x128.Idx, (x 0).val = q → View.canon L x = (0 : EReal)

theorem zeros : k0_pay3 (F := Ideal) = fun _ => (0 : EReal) := funext fun _ => lit_zero

theorem clear_whole (q : ℕ) (h) : Clear q [⟨Rect.unit ![0, 0, 0] ![4, 128, 128] h, k0_pay3 (F := Ideal)⟩] := fun x _ => by
  rw [zeros]
  have e := View.canon_cons_emb (Val := Elt Ideal) (e := .f32) (Rect.unit (s := S4x128x128) ![0, 0, 0] ![4, 128, 128] h) (fun _ => (0 : EReal)) [] x
  have k : (Rect.unit (s := S4x128x128) ![0, 0, 0] ![4, 128, 128] h).emb x = x := by
    funext b
    apply Fin.ext
    match b with
    | ⟨0, _⟩ => show 0 + 1 * (x 0).val = (x 0).val; omega
    | ⟨1, _⟩ => show 0 + 1 * (x 1).val = (x 1).val; omega
    | ⟨2, _⟩ => show 0 + 1 * (x 2).val = (x 2).val; omega
  rw [k] at e
  exact e

theorem clear_cons (q r : ℕ) (hr : r ≠ q) (h w L) (hL : Clear q L) : Clear q (⟨Rect.unit ![r, 0, 0] ![1, 128, 128] h, w⟩ :: L) := fun x hx => by
  rw [View.canon_cons_of_not_mem]
  · exact hL x hx
  · rw [Rect.mem_set_unit]
    intro hm
    have h0 : r ≤ (x 0).val ∧ (x 0).val < r + 1 := hm 0
    omega

theorem fresh (v : View sig .tc .vmem S4x128x128 .f32) (q : ℕ) (L) (hL : Clear q L) (h) :
    v.readCov (Val := Elt Ideal) L (Rect.unit ![q, 0, 0] ![1, 128, 128] h).toLoadRect = (c3 fun (_ : Fin 1) _ _ => 0 : S1x128x128.Idx → EReal) := by
  rw [View.readCov_eq_canon']
  funext j
  refine hL _ ?_
  have h0 : (j 0).val = 0 := Nat.lt_one_iff.mp (j 0).isLt
  show q + 1 * (j 0).val = q
  omega

section Fresh

variable (v : View sig .tc .vmem S4x128x128 .f32) (w0 w1 w2 : S1x128x128.Idx → EReal) (h h0 h1 h2 h3)

theorem fresh_0 : v.readCov (Val := Elt Ideal) [⟨Rect.unit ![0, 0, 0] ![4, 128, 128] h, k0_pay3 (F := Ideal)⟩] (Rect.unit ![0, 0, 0] ![1, 128, 128] h0).toLoadRect
    = (c3 fun (_ : Fin 1) _ _ => 0 : S1x128x128.Idx → EReal) := fresh v 0 _ (clear_whole 0 h) h0

theorem fresh_1 : v.readCov (Val := Elt Ideal) [⟨Rect.unit ![0, 0, 0] ![1, 128, 128] h0, w0⟩, ⟨Rect.unit ![0, 0, 0] ![4, 128, 128] h, k0_pay3 (F := Ideal)⟩]
    (Rect.unit ![1, 0, 0] ![1, 128, 128] h1).toLoadRect = (c3 fun (_ : Fin 1) _ _ => 0 : S1x128x128.Idx → EReal) :=
  fresh v 1 _ (clear_cons 1 0 (by decide) h0 w0 _ (clear_whole 1 h)) h1

theorem fresh_2 : v.readCov (Val := Elt Ideal) [⟨Rect.unit ![1, 0, 0] ![1, 128, 128] h1, w1⟩, ⟨Rect.unit ![0, 0, 0] ![1, 128, 128] h0, w0⟩, ⟨Rect.unit ![0, 0, 0] ![4, 128, 128] h, k0_pay3 (F := Ideal)⟩]
    (Rect.unit ![2, 0, 0] ![1, 128, 128] h2).toLoadRect = (c3 fun (_ : Fin 1) _ _ => 0 : S1x128x128.Idx → EReal) :=
  fresh v 2 _ (clear_cons 2 1 (by decide) h1 w1 _ (clear_cons 2 0 (by decide) h0 w0 _ (clear_whole 2 h))) h2

theorem fresh_3 : v.readCov (Val := Elt Ideal) [⟨Rect.unit ![2, 0, 0] ![1, 128, 128] h2, w2⟩, ⟨Rect.unit ![1, 0, 0] ![1, 128, 128] h1, w1⟩, ⟨Rect.unit ![0, 0, 0] ![1, 128, 128] h0, w0⟩,
    ⟨Rect.unit ![0, 0, 0] ![4, 128, 128] h, k0_pay3 (F := Ideal)⟩] (Rect.unit ![3, 0, 0] ![1, 128, 128] h3).toLoadRect = (c3 fun (_ : Fin 1) _ _ => 0 : S1x128x128.Idx → EReal) :=
  fresh v 3 _ (clear_cons 3 2 (by decide) h2 w2 _ (clear_cons 3 1 (by decide) h1 w1 _ (clear_cons 3 0 (by decide) h0 w0 _ (clear_whole 3 h)))) h3

end Fresh

theorem dpw_first (t : Fin cfg0.N) (h : t.val % 16 = 0) :
    (outsAt0 m c t.val t.isLt).2.2.1 = c3 fun g u v => 0 + mshare a t g u v := by
  rw [outsAt0_A m c t h h]; frame_out; simp only [wout_fill a, ld_wout a]
  simp -index only [s_block a t, d_block a t, means a t, dya_block, dmix_block, same_block, fresh_0, fresh_1, fresh_2, fresh_3, w_0, w_1, w_2, w_3]
  exact slabs (fun g u v => 0 + mshare a t g u v) _ _ _ _ _

/-! ## The small gradients -/

/-- The convolution's cotangent over a block. -/
def drow (t : Fin cfg0.N) (r j : Fin 512) : ℝ := dyc (crow a t r) a.L a.Z (erow a t r) j

theorem turned (t : Fin cfg0.N) :
    k0_pay28 (F := Ideal) (c2 fun r (_ : Fin 1) => rs (crow a t r)) (c2 fun r => hat (crow a t r)) (c2 fun _ : Fin 1 => a.L) (c2 fun r => aff (crow a t r) a.L a.Z)
        (c2 fun r k => a.Y (row t r) k) (c2 a.O) = cN 512 512 (tot (drow a t)) := by
  rw [dyc_block]
  exact as_cN (drow a t)

/-- What a block adds to the small gradients, row by row. -/
def parts (t : Fin cfg0.N) (q j : ℕ) : ℝ :=
  rows (fun q => tap (tot (drow a t)) (glu (met a t)) (30 - q)) (drow a t) (fun r j => dyn (crow a t r) a.L a.Z (erow a t r) j * hat (crow a t r) j)
    (fun r => dyn (crow a t r) a.L a.Z (erow a t r)) (fun r j => erow a t r (lo j) * mixed a.M a.b (prow a t r.val) j) (fun r => dmix a.S (erow a t r)) q j

/-- A block's products summed over its rows. -/
theorem summed (f : ℕ → ℕ → ℝ) (h₁ h₄) :
    shapeCast ⟨2, ![1, 128]⟩ (multiReduction (F := Ideal) (φ := .f32) .add [0] ⟨1, ![128]⟩ (cN 128 128 f) 0x00000000#32 h₁ (.inl rfl) rfl) h₄
      = cN 1 128 fun _ j => ∑ q ∈ Finset.range 128, f q j := column f h₁ _ _ h₄

/-- The channel mix of a block. -/
theorem mixes (t : Fin cfg0.N) :
    k0_pay24 (F := Ideal) (c2 fun _ : Fin 1 => a.b) (k0_pay20 (F := Ideal) (cN 512 512 (prow a t)) (c3 fun _ : Fin 1 => a.M ⟨0, by decide⟩))
      (k0_pay21 (F := Ideal) (cN 512 512 (prow a t)) (c3 fun _ : Fin 1 => a.M ⟨1, by decide⟩)) (k0_pay22 (F := Ideal) (cN 512 512 (prow a t)) (c3 fun _ : Fin 1 => a.M ⟨2, by decide⟩))
      (k0_pay23 (F := Ideal) (cN 512 512 (prow a t))) (c3 fun _ : Fin 1 => a.M ⟨3, by decide⟩)
      = c2 fun r => mixed a.M a.b (prow a t r.val) := mixed_block (prow a t) a.M a.b

theorem blank : k0_pay4 (F := Ideal) = c2 fun _ _ => 0 := funext fun _ => lit_zero

/-- The small gradients after a grid point: what they held, nothing at the first point, and the block's share. -/
theorem small_out (t : Fin cfg0.N) (Y : Fin 40 → Fin 512 → ℝ) (h0 : t.val % 16 = 0 → Y = fun _ _ => 0)
    (hy : ¬ t.val % 16 = 0 → (outsAt0 m c (t.val - 1) (Nat.lt_of_le_of_lt (Nat.sub_le _ _) t.isLt)).2.2.2.1 = c2 Y) :
    (outsAt0 m c t.val t.isLt).2.2.2.1 = c2 fun q j => Y q j + parts a t q.val j.val := by
  by_cases h : t.val % 16 = 0
  on_goal 1 => rw [outsAt0_A m c t h h]; frame_out; simp only [wout_fill a, ld_wout a, blank, ← h0 h]
  on_goal 2 => rw [outsAt0_B m c t h h]; frame_out; simp only [read_unread_whole, wout_before a, whole_wout a, hy h]
  all_goals
    simp -index only [m_block a t, b_block a t, s_block a t, d_block a t, means a t, y_block a t, l_block a t, z_block a t, gates a t, ld_mix a.M _ (by decide : 0 < 4), ld_mix a.M _ (by decide : 1 < 4), ld_mix a.M _ (by decide : 2 < 4),
        ld_mix a.M _ (by decide : 3 < 4), dya_block, dmix_block, Body.y_block, cen_block, ss_block, rs_block, hat_block, lg_block, aff_block, turned a t, dyn_block, pb_block, mixes a t]
    simp -index (disch := first | decide | rfl) only [window, panel, nothing, tapped, tapped_last, summed, acc_first, acc_next, lanes1_fold, lanes1_acc,
        k0_pay29, k0_pay30, k0_pay31, k0_pay32, k0_pay33, k0_pay34, k0_pay35, k0_pay36, k0_pay37, k0_pay38, k0_pay39, k0_pay40, k0_pay41, k0_pay42,
        k0_pay43, k0_pay44, k0_pay45, k0_pay46, k0_pay47, k0_pay48, k0_pay49, k0_pay50, k0_pay51, k0_pay52, k0_pay53, k0_pay54, k0_pay55, k0_pay56,
        k0_pay57, k0_pay58, k0_pay59, k0_pay60, k0_pay61, k0_pay62, k0_pay63, k0_pay64, k0_pay65, k0_pay66, k0_pay67, k0_pay68, k0_pay69, k0_pay70,
        k0_pay71, k0_pay72, k0_pay73, k0_pay74, k0_pay75, k0_pay76, k0_pay77, k0_pay78, k0_pay79, k0_pay80, k0_pay81, k0_pay82, k0_pay83, k0_pay84,
        k0_pay85, k0_pay86, k0_pay87, k0_pay88, k0_pay89, k0_pay90, k0_pay91, k0_pay92, k0_pay93, k0_pay94, k0_pay95, k0_pay96, k0_pay97, k0_pay98,
        k0_pay99, k0_pay100, k0_pay101, k0_pay102, k0_pay103, k0_pay104, k0_pay105, k0_pay106, k0_pay107, k0_pay108, k0_pay109, k0_pay110, k0_pay111,
        k0_pay112, k0_pay113, k0_pay114, k0_pay115, k0_pay116, k0_pay117, k0_pay118, k0_pay119, k0_pay120, k0_pay121, k0_pay122, k0_pay123, k0_pay124,
        k0_pay125, k0_pay126, k0_pay127, k0_pay128, k0_pay129, k0_pay130, k0_pay131, k0_pay132, k0_pay133, k0_pay134, k0_pay135, k0_pay136, k0_pay137,
        k0_pay138, k0_pay139, k0_pay140, k0_pay141, k0_pay142, k0_pay143, k0_pay144, k0_pay145, k0_pay146, k0_pay147, k0_pay148, k0_pay149, k0_pay150,
        k0_pay151, k0_pay152, k0_pay153, k0_pay154, k0_pay155, k0_pay156, k0_pay157, k0_pay158, k0_pay159, k0_pay160, k0_pay161, k0_pay162, k0_pay163,
        k0_pay164, k0_pay165, k0_pay166, k0_pay167, k0_pay168, k0_pay169, k0_pay170, k0_pay171, k0_pay172, k0_pay173, k0_pay174, k0_pay175, k0_pay176,
        k0_pay177, k0_pay178, k0_pay179, k0_pay180, k0_pay181, k0_pay182, k0_pay183, k0_pay184, k0_pay185, k0_pay186, k0_pay187, k0_pay188, k0_pay189,
        k0_pay190, k0_pay191, k0_pay192, k0_pay193, k0_pay194, k0_pay195, k0_pay196, k0_pay197, k0_pay198, k0_pay199, k0_pay200, k0_pay201, k0_pay202,
        k0_pay203, k0_pay204, k0_pay205, k0_pay206, k0_pay207, k0_pay208, k0_pay209, k0_pay210, k0_pay211, k0_pay212, k0_pay213, k0_pay214, k0_pay215,
        k0_pay216, k0_pay217, k0_pay218, k0_pay219, k0_pay220, k0_pay221, k0_pay222, k0_pay223, k0_pay224, k0_pay225, k0_pay226, k0_pay227, k0_pay228,
        k0_pay229, k0_pay230, k0_pay231, k0_pay232, k0_pay233, k0_pay234, k0_pay235, k0_pay236, k0_pay237, k0_pay238, k0_pay239, k0_pay240, k0_pay241,
        k0_pay242, k0_pay243, k0_pay244, k0_pay245, k0_pay246, k0_pay247, k0_pay248, k0_pay249, k0_pay250, k0_pay251, k0_pay252, k0_pay253, k0_pay254,
        k0_pay255, k0_pay256, k0_pay257, k0_pay258, k0_pay259, k0_pay260, k0_pay261, k0_pay262, k0_pay263, k0_pay264, k0_pay265, k0_pay266, k0_pay267,
        k0_pay268, k0_pay269, k0_pay270, k0_pay271, k0_pay272, k0_pay273, k0_pay274, k0_pay275, k0_pay276, k0_pay277, k0_pay278, k0_pay279, k0_pay280,
        k0_pay281, k0_pay282, k0_pay283, k0_pay284, k0_pay285, k0_pay286, k0_pay287, k0_pay288, k0_pay289, k0_pay290, k0_pay291, k0_pay292, k0_pay293,
        k0_pay294, k0_pay295, k0_pay296, k0_pay297, k0_pay298, k0_pay299, k0_pay300, k0_pay301, k0_pay302, k0_pay303, k0_pay304, k0_pay305, k0_pay306,
        k0_pay307, k0_pay308, k0_pay309, k0_pay310, k0_pay311, k0_pay312, k0_pay313, k0_pay314, k0_pay315, k0_pay316, k0_pay317, k0_pay318, k0_pay319,
        k0_pay320, k0_pay321, k0_pay322, k0_pay323, k0_pay324, k0_pay325, k0_pay326, k0_pay327, k0_pay328, k0_pay329, k0_pay330, k0_pay331, k0_pay332,
        k0_pay333, k0_pay334, k0_pay335, k0_pay336, k0_pay337, k0_pay338, k0_pay339, k0_pay340, k0_pay341, k0_pay342, k0_pay343, k0_pay344, k0_pay345,
        k0_pay346, k0_pay347, k0_pay348, k0_pay349, k0_pay350, k0_pay351, k0_pay352, k0_pay353, k0_pay354, k0_pay355, k0_pay356, k0_pay357, k0_pay358,
        k0_pay359, k0_pay360, k0_pay361, k0_pay362, k0_pay363, k0_pay364, k0_pay365, k0_pay366, k0_pay367, k0_pay368, k0_pay369, k0_pay370, k0_pay371,
        k0_pay372, k0_pay373, k0_pay374, k0_pay375, k0_pay376, k0_pay377, k0_pay378, k0_pay379, k0_pay380, k0_pay381, k0_pay382, k0_pay383, k0_pay384,
        k0_pay385, k0_pay386, k0_pay387, k0_pay388, k0_pay389, k0_pay390, k0_pay391, k0_pay392, k0_pay393, k0_pay394, k0_pay395, k0_pay396, k0_pay397,
        k0_pay398, k0_pay399, k0_pay400, k0_pay401, k0_pay402, k0_pay403, k0_pay404, k0_pay405, k0_pay406, k0_pay407, k0_pay408, k0_pay409, k0_pay410,
        k0_pay411, k0_pay412, k0_pay413, k0_pay414, k0_pay415, k0_pay416, k0_pay417, k0_pay418, k0_pay419, k0_pay420, k0_pay421, k0_pay422, k0_pay423,
        k0_pay424, k0_pay425, k0_pay426, k0_pay427, k0_pay428, k0_pay429, k0_pay430, k0_pay431, k0_pay432, k0_pay433, k0_pay434, k0_pay435, k0_pay436,
        k0_pay437, k0_pay438, k0_pay439, k0_pay440, k0_pay441, k0_pay442, k0_pay443, k0_pay444, k0_pay445, k0_pay446, k0_pay447, k0_pay448, k0_pay449,
        k0_pay450, k0_pay451, k0_pay452, k0_pay453, k0_pay454, k0_pay455, k0_pay456, k0_pay457, k0_pay458, k0_pay459, k0_pay460, k0_pay461, k0_pay462,
        k0_pay463, k0_pay464, k0_pay465, k0_pay466, k0_pay467, k0_pay468, k0_pay469, k0_pay470, k0_pay471, k0_pay472, k0_pay473, k0_pay474, k0_pay475,
        k0_pay476, k0_pay477, k0_pay478, k0_pay479, k0_pay480, k0_pay481, k0_pay482, k0_pay483, k0_pay484, k0_pay485, k0_pay486, k0_pay487, k0_pay488,
        k0_pay489, k0_pay490, k0_pay491, k0_pay492, k0_pay493, k0_pay494, k0_pay495, k0_pay496, k0_pay497, k0_pay498, k0_pay499, k0_pay500, k0_pay501,
        k0_pay502, k0_pay503, k0_pay504, k0_pay505, k0_pay506, k0_pay507, k0_pay508, k0_pay509, k0_pay510, k0_pay511, k0_pay512, k0_pay513, k0_pay514,
        k0_pay515, k0_pay516, k0_pay517, k0_pay518, k0_pay519, k0_pay520, k0_pay521, k0_pay522, k0_pay523, k0_pay524, k0_pay525, k0_pay526, k0_pay527,
        k0_pay528, k0_pay529, k0_pay530, k0_pay531, k0_pay532, k0_pay533, k0_pay534, k0_pay535, k0_pay536, k0_pay537, k0_pay538, k0_pay539, k0_pay540,
        k0_pay541, k0_pay542, k0_pay543, k0_pay544, k0_pay545, k0_pay546, k0_pay547, k0_pay548, k0_pay549, k0_pay550, k0_pay551, k0_pay552, k0_pay553,
        k0_pay554, k0_pay555, k0_pay556, k0_pay557, k0_pay558, k0_pay559, k0_pay560, k0_pay561, k0_pay562, k0_pay563, k0_pay564, k0_pay565, k0_pay566,
        k0_pay567, k0_pay568, k0_pay569, k0_pay570, k0_pay571, k0_pay572, k0_pay573, k0_pay574, k0_pay575, k0_pay576, k0_pay577, k0_pay578, k0_pay579,
        k0_pay580, k0_pay581, k0_pay582, k0_pay583, k0_pay584, k0_pay585, k0_pay586, k0_pay587, k0_pay588, k0_pay589, k0_pay590, k0_pay591, k0_pay592,
        k0_pay593, k0_pay594, k0_pay595, k0_pay596, k0_pay597, k0_pay598, k0_pay599, k0_pay600, k0_pay601, k0_pay602, k0_pay603, k0_pay604, k0_pay605,
        k0_pay606, k0_pay607, k0_pay609, k0_pay610, k0_pay611, k0_pay612, k0_pay613, k0_pay614, k0_pay615, k0_pay616, k0_pay617, k0_pay618, k0_pay619,
        k0_pay620, k0_pay621, k0_pay622, k0_pay623, k0_pay624, k0_pay625, k0_pay626, k0_pay627, k0_pay628, k0_pay629, k0_pay630, k0_pay631, k0_pay632,
        k0_pay633, k0_pay634, k0_pay635, k0_pay636, k0_pay637, k0_pay638, k0_pay639]
    simp only [BitVec.toNat_ofNat, Nat.reducePow, Nat.reduceMod]
    have e := small_block (fun q => tap (tot (drow a t)) (glu (met a t)) (30 - q)) (fun r => hat (crow a t r)) (fun r => mixed a.M a.b (prow a t r.val)) (fun r j => back' a.O (a.Y (row t r)) (lo j))
      (fun r => dyn (crow a t r) a.L a.Z (erow a t r)) (drow a t) (fun r j => back' a.O (a.Y (row t r)) (lo j) * a.S j) Y
    rw [as_cN (drow a t)] at e
    simp only [Nat.reduceSub, Nat.sub_zero, Nat.sub_self] at e
    exact e

/-- The block's share is its tokens' shares. -/
theorem parts_eq (t : Fin cfg0.N) (q : ℕ) (j : Fin 512) :
    parts a t q j.val = ∑ r : Fin 512, small (glu (ext a.H)) a.M a.b a.S (crow a t r) a.L a.Z (pool a.H (row t r).val) (erow a t r) (row t r).val q j := by
  unfold parts rows small
  by_cases h : q < 31
  · simp only [if_pos h]
    unfold tap
    rw [Finset.sum_range]
    refine Finset.sum_congr rfl fun r _ => ?_
    rw [tot_in (drow a t) r j]
    have e : t.val * 512 + (r.val + (32 - (30 - q))) = t.val * 512 + r.val + 2 + q := by omega
    show _ * (ext a.H (t.val * 512 + (r.val + (32 - (30 - q)))) _ * logi (ext a.H (t.val * 512 + (r.val + (32 - (30 - q)))) _)) = _
    rw [e]
    rfl
  simp only [if_neg h]
  by_cases h32 : q = 32
  · simp only [if_pos h32]
    exact Finset.sum_congr rfl fun r _ => tot_in _ r j
  simp only [if_neg h32]
  by_cases h33 : q = 33
  · simp only [if_pos h33]
    exact Finset.sum_congr rfl fun r _ => tot_in _ r j
  simp only [if_neg h33]
  by_cases h34 : q = 34
  · simp only [if_pos h34]
    exact Finset.sum_congr rfl fun r _ => tot_in _ r j
  simp only [if_neg h34]
  by_cases h35 : q = 35
  · simp only [if_pos h35]
    exact Finset.sum_congr rfl fun r _ => tot_in _ r j
  simp only [if_neg h35]
  by_cases h36 : q = 36
  · simp only [if_pos h36]
    exact Finset.sum_congr rfl fun r _ => tot_in _ r j
  simp only [if_neg h36, Finset.sum_const_zero]

end Cert.MixOutBwdIdeal.Entry
-- ==== Proof.MixOutArr.lean ====
/-
  What the result arrays of the mixer's output backward call hold when it has run.
-/
module

public import proofs.«01_k».proof.Proof.MixOutOuts

@[expose] public section

set_option maxRecDepth 16384

noncomputable section

namespace Cert.MixOutBwdIdeal.Entry

open Cert.MixOutBwdIdeal Cert.MixOutBwdIdeal.Gen Idealize.ShloMosaic Idealize.ShloMosaic.TcCoe Idealize.SL.Sem Step Step.MixOut Body

variable {m : (ℓ : Loc nD τ sig) → Buf (Elt Ideal) ℓ} {c : Dev nD} (a : Real m c)

/-- Every row: the convolution's, and the output cotangent's. -/
abbrev CONV (t : Fin 8192) : Fin 512 → ℝ := conv a.H a.T a.C t.val
abbrev COT (t : Fin 8192) : Fin 1024 → ℝ := back' a.O (a.Y t)

/-- The whole result arrays, in real numbers. -/
def DC (t : Fin 8192) (j : Fin 512) : ℝ := dyc (CONV a t) a.L a.Z (COT a t) j
def DP (t : Fin 8192) (j : Fin 512) : ℝ := dpc a.M a.S (COT a t) t.val j
def DW (g : Fin 4) (u v : Fin 128) : ℝ := ∑ t : Fin 8192, pool a.H t.val (chn g u).val * dmix a.S (COT a t) (chn g v)
def SM (q : Fin 40) (j : Fin 512) : ℝ := ∑ t : Fin 8192, small (glu (ext a.H)) a.M a.b a.S (CONV a t) a.L a.Z (pool a.H t.val) (COT a t) t.val q.val j

theorem dc_arr : (dats m 0 c).arrAt 11 cfg0.N = (c2 (DC a) : S8192x512.Idx → EReal) := by
  have idx : ∀ t : Fin cfg0.N, win0_11.index t = ![t.val, 0] := (by decide +kernel : ∀ t : Fin grid0.N, _)
  refine (dats m 0 c).arrAt_eq_of_covers 11 (c2 (DC a) : S8192x512.Idx → EReal) (by decide +kernel) fun t hf y => ?_
  blk_simp
  rw [after0_11, dc_out a t]
  have e : (win0_11.blk t).view.emb y = (ix2 (row t (y 0)) (y 1) : S8192x512.Idx) := by blk_ext [row, idx t]
  rw [e]
  rfl

theorem dp_arr : (dats m 0 c).arrAt 12 cfg0.N = (c2 (DP a) : S8192x512.Idx → EReal) := by
  have idx : ∀ t : Fin cfg0.N, win0_12.index t = ![t.val, 0] := (by decide +kernel : ∀ t : Fin grid0.N, _)
  refine (dats m 0 c).arrAt_eq_of_covers 12 (c2 (DP a) : S8192x512.Idx → EReal) (by decide +kernel) fun t hf y => ?_
  blk_simp
  rw [after0_12, dpc_out a t]
  have e : (win0_12.blk t).view.emb y = (ix2 (row t (y 0)) (y 1) : S8192x512.Idx) := by blk_ext [row, idx t]
  rw [e]
  rfl

/-- After a grid point the channel mix's gradient holds the shares of the blocks so far, … -/
theorem dpw_upto (n : ℕ) (h : n < cfg0.N) : (outsAt0 m c n h).2.2.1 = c3 fun g u v => ∑ s : Fin (n + 1), mshare a ⟨s.val, by omega⟩ g u v := by
  have hN : cfg0.N = 16 := N_0
  induction n with
  | zero =>
    refine (dpw_first a ⟨0, h⟩ rfl).trans ?_
    simp only [Nat.reduceAdd, zero_add, Finset.univ_unique, Finset.sum_singleton]
    rfl
  | succ n ih =>
    refine (dpw_next a ⟨n + 1, h⟩ (by show ¬ (n + 1) % 16 = 0; omega) _ (ih (by omega))).trans ?_
    simp only [Fin.sum_univ_castSucc (n := n + 1)]
    rfl

/-- … and so do the small gradients. -/
theorem small_upto (n : ℕ) (h : n < cfg0.N) : (outsAt0 m c n h).2.2.2.1 = c2 fun q j => ∑ s : Fin (n + 1), parts a ⟨s.val, by omega⟩ q.val j.val := by
  have hN : cfg0.N = 16 := N_0
  induction n with
  | zero =>
    refine (small_out a ⟨0, h⟩ (fun _ _ => 0) (fun _ => rfl) (fun k => absurd rfl k)).trans ?_
    simp only [Nat.reduceAdd, zero_add, Finset.univ_unique, Finset.sum_singleton]
    rfl
  | succ n ih =>
    refine (small_out a ⟨n + 1, h⟩ (fun q j => ∑ s : Fin (n + 1), parts a ⟨s.val, by omega⟩ q.val j.val) (fun k => by have k : (n + 1) % 16 = 0 := k; omega) (fun _ => ih (by omega))).trans ?_
    simp only [Fin.sum_univ_castSucc (n := n + 1)]
    rfl

/-- The blocks' shares are the whole gradients. -/
theorem mshares (g : Fin 4) (u v : Fin 128) : ∑ s : Fin (15 + 1), mshare a ⟨s.val, by have : cfg0.N = 16 := N_0; omega⟩ g u v = DW a g u v :=
  (sum_blocks 16 512 fun t : Fin 8192 => pool a.H t.val (chn g u).val * dmix a.S (COT a t) (chn g v)).symm

theorem sshares (q : Fin 40) (j : Fin 512) : ∑ s : Fin (15 + 1), parts a ⟨s.val, by have : cfg0.N = 16 := N_0; omega⟩ q.val j.val = SM a q j :=
  (Finset.sum_congr rfl fun s _ => parts_eq a _ q.val j).trans
    (sum_blocks 16 512 fun t : Fin 8192 => small (glu (ext a.H)) a.M a.b a.S (CONV a t) a.L a.Z (pool a.H t.val) (COT a t) t.val q.val j).symm

/-- The last grid point. -/
def last : Fin cfg0.N := ⟨15, by have : cfg0.N = 16 := N_0; omega⟩

theorem dpw_last : (dats m 0 c).after 13 last = (c3 (DW a) : S4x128x128.Idx → EReal) := by
  rw [after0_13]
  refine (dpw_upto a 15 last.isLt).trans ?_
  simp only [mshares a]

theorem dw_arr : (dats m 0 c).arrAt 13 cfg0.N = (c3 (DW a) : S4x128x128.Idx → EReal) := by
  refine (dats m 0 c).arrAt_eq_of_after_last 13 last (by decide +kernel) _ fun j => ?_
  blk_simp
  rw [dpw_last a]

theorem small_last : (dats m 0 c).after 14 last = (c2 (SM a) : S40x512.Idx → EReal) := by
  rw [after0_14]
  refine (small_upto a 15 last.isLt).trans ?_
  simp only [sshares a]

theorem sm_arr : (dats m 0 c).arrAt 14 cfg0.N = (c2 (SM a) : S40x512.Idx → EReal) := by
  refine (dats m 0 c).arrAt_eq_of_after_last 14 last (by decide +kernel) _ fun j => ?_
  blk_simp
  rw [small_last a]

end Cert.MixOutBwdIdeal.Entry
-- ==== Proof.MixOutFwd.lean ====
/-
  The forward's lines in the reference of the mixer's output backward call, on arrays of real numbers: the inner product, the running
  means over windows, the channel mix, and the convolution.
-/
module

public import proofs.«01_k».proof.Proof.MixOutConv
public import proofs.«01_k».proof.Proof.MixPool
public import proofs.«01_k».proof.Proof.Gen.MixOutBwdRefIdeal.Read
public import Idealize.ShloMosaic.Lib.Pointwise

@[expose] public section

set_option maxRecDepth 16384

noncomputable section

namespace Cert.MixOutBwdRefIdeal.Stage

open Cert.MixOutBwdRefIdeal Cert.MixOutBwdRefIdeal.Gen Cert.MixOutBwdRefIdeal.Read Idealize.ShloMosaic Step Step.Mix Step.Mix.Host Step.MixOut Step.MixOut.Conv
open Cert.MixInBwdIdeal.Tap (cN cN_apply cN_congr shift sum_two)
open Cert.MixInBwdRefIdeal.Stage (count_from tally)

variable (X : Fin 8192 → Fin 1024 → ℝ) (G : Fin 1024 → ℝ) (W : Fin 1024 → Fin 1536 → ℝ) (M : Fin 4 → Fin 128 → Fin 128 → ℝ) (B : Fin 4 → Fin 128 → ℝ)
  (T : Fin 31 → Fin 512 → ℝ) (C : Fin 512 → ℝ)

/-- The inner product. -/
def H (t : Fin 8192) (j : Fin 1536) : ℝ := pre (X t) G W j

theorem hs : val_main_v13 (F := Ideal) (c2 X) (c1 G) (c2 W) = c2 (H X G W) := by
  funext i
  pointwise [val_main_v13, val_main_v12, val_main_v9, val_main_v8, val_main_v7, val_main_v6, val_main_v4, val_main_v2, val_main_v1, val_main_v0, val_main_cst, val_main_v3, val_main_cst_0, val_main_v5,
    val_main_cst_1, val_main_v11, val_main_v10]
  simp only [c1_apply, c2_apply, lit_1024, lit_eps, mul_coe, sum_coe, add_coe, div_coe _ _ (show (1024 : ℝ) ≠ 0 by norm_num)]
  simp only [ix2_0, ix2_1, rsqrt_ms, mul_coe, sum_coe]
  rfl

/-! ## Running sums -/

/-- The sum of an array's rows up to a row. -/
def upto (f : ℕ → ℕ → ℝ) (i j : ℕ) : ℝ := ∑ k ∈ Finset.range (i + 1), f k j

theorem summed (R C Rm : ℕ) (hR : Rm + 1 = R) (f : ℕ → ℕ → ℝ) {u : Shape} (v : u.Idx → EReal) (hv : v = fun _ => 0)
    (h : Shape.ReduceWindows ⟨2, ![R, C]⟩ ![R, 1] ![1, 1] ![Rm, 0] ![0, 0] ⟨2, ![R, C]⟩) (hu : 0 < u.numel) :
    Host.reduceWindowAdd (F := Ideal) (φ := .f32) ![R, 1] ![1, 1] ![Rm, 0] ![0, 0] (cN R C f) v h hu = cN R C (upto f) := by
  subst hv
  funext j
  have hj : (j 0).val < R := (j 0).isLt
  show (List.finRange (Shape.numel ⟨2, ![R, 1]⟩)).foldl _ (0 : EReal) = _
  refine (List.foldl_ext _ (fun r n => r + ((if Rm ≤ (j 0).val + n.val then f ((j 0).val + n.val - Rm) (j 1).val else 0 : ℝ) : EReal)) _ fun r n _ => ?_).trans ?_
  · have hn : n.val < R := lt_of_lt_of_eq n.isLt (Routing.numel_col R)
    have hw0 : ((⟨2, ![R, 1]⟩ : Shape).rowMajor.symm n 0).val = n.val := by
      have := congrFun (Routing.symm_col (R := R) n) 0
      rw [this]; rfl
    have hw1 : ((⟨2, ![R, 1]⟩ : Shape).rowMajor.symm n 1).val = 0 := by
      have := congrFun (Routing.symm_col (R := R) n) 1
      rw [this]; rfl
    refine congrArg (fun z : EReal => r + z) ?_
    split
    · next hin =>
      have h0 : Rm ≤ (j 0).val * 1 + ((⟨2, ![R, 1]⟩ : Shape).rowMajor.symm n 0).val := (hin 0).1
      rw [hw0, mul_one] at h0
      rw [cN_apply, if_pos h0]
      refine congrArg Real.toEReal (congrArg₂ f ?_ ?_)
      · show (j 0).val * 1 + ((⟨2, ![R, 1]⟩ : Shape).rowMajor.symm n 0).val - Rm = _
        rw [hw0]; omega
      · show (j 1).val * 1 + ((⟨2, ![R, 1]⟩ : Shape).rowMajor.symm n 1).val - 0 = _
        rw [hw1]; omega
    · next hin =>
      rw [if_neg]
      · rfl
      intro q
      apply hin
      intro a
      match a with
      | ⟨0, _⟩ =>
        show Rm ≤ (j 0).val * 1 + ((⟨2, ![R, 1]⟩ : Shape).rowMajor.symm n 0).val ∧ (j 0).val * 1 + ((⟨2, ![R, 1]⟩ : Shape).rowMajor.symm n 0).val - Rm < R
        rw [hw0]; omega
      | ⟨1, _⟩ =>
        show 0 ≤ (j 1).val * 1 + ((⟨2, ![R, 1]⟩ : Shape).rowMajor.symm n 1).val ∧ (j 1).val * 1 + ((⟨2, ![R, 1]⟩ : Shape).rowMajor.symm n 1).val - 0 < C
        rw [hw1]
        have : (j 1).val < C := (j 1).isLt
        omega
  refine (foldl_coe (fun n => if Rm ≤ (j 0).val + n.val then f ((j 0).val + n.val - Rm) (j 1).val else 0) _ 0).trans ?_
  refine congrArg Real.toEReal ?_
  rw [zero_add, ← Fin.sum_univ_def]
  refine (Fintype.sum_equiv (finCongr (Routing.numel_col R)) _ (fun n : Fin R => if Rm ≤ (j 0).val + n.val then f ((j 0).val + n.val - Rm) (j 1).val else 0) fun n => rfl).trans ?_
  rw [← Finset.sum_range fun n => if Rm ≤ (j 0).val + n then f ((j 0).val + n - Rm) (j 1).val else 0]
  generalize (j 1).val = q
  generalize (j 0).val = p at hj ⊢
  obtain rfl : R = (Rm - p) + (p + 1) := by omega
  rw [Finset.sum_range_add, Finset.sum_eq_zero, zero_add]
  · refine Finset.sum_congr rfl fun k _ => ?_
    rw [if_pos (by omega)]
    congr 1
    omega
  · intro k hk
    have := Finset.mem_range.mp hk
    exact if_neg (by omega)

/-- A running sum less itself a window further up is the window's sum. -/
theorem upto_less (f : ℕ → ℕ → ℝ) (L i j : ℕ) :
    upto f i j - (if L ≤ i then upto f (i - L) j else 0) = ∑ k ∈ Finset.range L, if k ≤ i then f (i - k) j else 0 := by
  induction L with
  | zero => simp
  | succ L ih =>
    rw [Finset.sum_range_succ, ← ih]
    by_cases c : L + 1 ≤ i
    · rw [if_pos c, if_pos (by omega), if_pos (by omega)]
      have e : upto f (i - L) j = upto f (i - (L + 1)) j + f (i - L) j := by
        unfold upto
        rw [show i - L + 1 = i - (L + 1) + 1 + 1 by omega, Finset.sum_range_succ, show i - (L + 1) + 1 = i - L by omega]
      rw [e]
      ring
    · rw [if_neg c]
      by_cases d : L ≤ i
      · obtain rfl : L = i := by omega
        rw [if_pos d, if_pos d, Nat.sub_self]
        unfold upto
        simp
      · rw [if_neg d, if_neg d]
        ring

theorem back_ext (F : Fin 8192 → Fin 1536 → ℝ) (L i j : ℕ) : (∑ k ∈ Finset.range L, if k ≤ i then tot F (i - k) j else 0) = if L ≤ 32 then back (ext F) L (32 + i) j else ∑ k ∈ Finset.range L, if k ≤ i then tot F (i - k) j else 0 := by
  by_cases hL : L ≤ 32
  · rw [if_pos hL, back]
    refine Finset.sum_congr rfl fun k hk => ?_
    have := Finset.mem_range.mp hk
    unfold ext
    by_cases c : k ≤ i
    · rw [if_pos c, if_neg (by omega), show 32 + i - k - 32 = i - k by omega]
    · rw [if_neg c, if_pos (by omega)]
  · rw [if_neg hL]

theorem us : val_main_v15 (F := Ideal) (c2 X) (c1 G) (c2 W) = cN 8192 512 (tot (H X G W)) := by
  funext i
  pointwise [val_main_v15, hs]
  exact congrArg Real.toEReal (tot_in (H X G W) (i 0) ⟨(i 1).val, by have : (i 1).val < 512 := (i 1).isLt; omega⟩).symm

theorem sums : val_main_v16 (F := Ideal) (c2 X) (c1 G) (c2 W) = cN 8192 512 (upto (tot (H X G W))) := by
  rw [val_main_v16, us]
  exact summed 8192 512 8191 rfl _ _ (by funext i; exact lit_zero) _ _

/-- A window's sum over the sums' difference. -/
theorem span (F : Fin 8192 → Fin 1536 → ℝ) (L i j j' : ℕ) (hL : L ≤ 32) (hj : j = j') (y : i < L → EReal) (z : ¬ i < L → EReal) (hy : ∀ h, y h = 0)
    (hz : ∀ h, z h = ((upto (tot F) (i - L) j : ℝ) : EReal)) :
    ((upto (tot F) i j : ℝ) : EReal) - (if h : i < L then y h else z h) = ((back (ext F) L (32 + i) j' : ℝ) : EReal) := by
  subst hj
  have e := (upto_less (tot F) L i j).trans ((back_ext F L i j).trans (if_pos hL))
  rw [← e]
  by_cases c : i < L
  · rw [dif_pos c, hy, if_neg (by omega)]
    exact sub_coe _ 0
  · rw [dif_neg c, hz, if_pos (by omega)]
    exact sub_coe _ _

theorem span_2 : val_main_v30 (F := Ideal) (c2 X) (c1 G) (c2 W) = cN 8192 128 fun i j => back (ext (H X G W)) 2 (32 + i) (0 + j) := by
  funext i
  pointwise [val_main_v30, val_main_v28, val_main_v18, val_main_v21, val_main_v19, val_main_cst_3, val_main_v20, val_main_v29, val_main_v14, val_main_cst_2, sums]
  simp only [cN_apply, lit_zero]
  exact span _ 2 _ _ _ (by norm_num) (by simp; try omega) _ _ (fun _ => rfl) (fun _ => rfl)

theorem span_4 : val_main_v45 (F := Ideal) (c2 X) (c1 G) (c2 W) = cN 8192 128 fun i j => back (ext (H X G W)) 4 (32 + i) (128 + j) := by
  funext i
  pointwise [val_main_v45, val_main_v43, val_main_v33, val_main_v36, val_main_v34, val_main_cst_5, val_main_v35, val_main_v44, val_main_v14, val_main_cst_2, sums]
  simp only [cN_apply, lit_zero]
  exact span _ 4 _ _ _ (by norm_num) (by simp; try omega) _ _ (fun _ => rfl) (fun _ => rfl)

theorem span_8 : val_main_v60 (F := Ideal) (c2 X) (c1 G) (c2 W) = cN 8192 128 fun i j => back (ext (H X G W)) 8 (32 + i) (256 + j) := by
  funext i
  pointwise [val_main_v60, val_main_v58, val_main_v48, val_main_v51, val_main_v49, val_main_cst_8, val_main_v50, val_main_v59, val_main_v14, val_main_cst_2, sums]
  simp only [cN_apply, lit_zero]
  exact span _ 8 _ _ _ (by norm_num) (by simp; try omega) _ _ (fun _ => rfl) (fun _ => rfl)

theorem span_16 : val_main_v75 (F := Ideal) (c2 X) (c1 G) (c2 W) = cN 8192 128 fun i j => back (ext (H X G W)) 16 (32 + i) (384 + j) := by
  funext i
  pointwise [val_main_v75, val_main_v73, val_main_v63, val_main_v66, val_main_v64, val_main_cst_11, val_main_v65, val_main_v74, val_main_v14, val_main_cst_2, sums]
  simp only [cN_apply, lit_zero]
  exact span _ 16 _ _ _ (by norm_num) (by simp; try omega) _ _ (fun _ => rfl) (fun _ => rfl)

theorem tally_2 : val_main_v31 (F := Ideal) = cN 8192 128 (tally 2) := by
  funext i
  have h : (i 0).val < 8192 := (i 0).isLt
  pointwise [val_main_v31, val_main_v27, val_main_v26, val_main_v25, val_main_v23, val_main_v17, val_main_v22, val_main_c, val_main_v24, val_main_c_4]
  exact count_from _ 2 (by omega) (by norm_num)

theorem tally_4 : val_main_v46 (F := Ideal) = cN 8192 128 (tally 4) := by
  funext i
  have h : (i 0).val < 8192 := (i 0).isLt
  pointwise [val_main_v46, val_main_v42, val_main_v41, val_main_v40, val_main_v38, val_main_v17, val_main_v37, val_main_c_6, val_main_v39, val_main_c_7]
  exact count_from _ 4 (by omega) (by norm_num)

theorem tally_8 : val_main_v61 (F := Ideal) = cN 8192 128 (tally 8) := by
  funext i
  have h : (i 0).val < 8192 := (i 0).isLt
  pointwise [val_main_v61, val_main_v57, val_main_v56, val_main_v55, val_main_v53, val_main_v17, val_main_v52, val_main_c_9, val_main_v54, val_main_c_10]
  exact count_from _ 8 (by omega) (by norm_num)

theorem tally_16 : val_main_v76 (F := Ideal) = cN 8192 128 (tally 16) := by
  funext i
  have h : (i 0).val < 8192 := (i 0).isLt
  pointwise [val_main_v76, val_main_v72, val_main_v71, val_main_v70, val_main_v68, val_main_v17, val_main_v67, val_main_c_12, val_main_v69, val_main_c_13]
  exact count_from _ 16 (by omega) (by norm_num)

theorem mean (f : ℕ → ℕ → ℝ) (L : ℕ) (hL : 0 < L) :
    Host.divf (F := Ideal) (φ := .f32) (cN 8192 128 f) (cN 8192 128 (tally L)) = cN 8192 128 fun i j => f i j / tally L i j :=
  divided _ _ _ _ fun i j => Nat.cast_ne_zero.mpr (by omega)

open Cert.MixInBwdIdeal.Tap (lanes4)

/-- Four groups of 128 channels beside one another, each group's own function of its channels. -/
theorem four (f : ℕ → ℕ → ℕ → ℝ) (h) :
    concatenate S8192x512 1 [⟨S8192x128, (cN 8192 128 fun i j => f 2 i (0 + j) : S8192x128.Idx → EReal)⟩, ⟨S8192x128, (cN 8192 128 fun i j => f 4 i (128 + j) : S8192x128.Idx → EReal)⟩,
        ⟨S8192x128, (cN 8192 128 fun i j => f 8 i (256 + j) : S8192x128.Idx → EReal)⟩, ⟨S8192x128, (cN 8192 128 fun i j => f 16 i (384 + j) : S8192x128.Idx → EReal)⟩] h
      = cN 8192 512 fun i j => f (len j) i j := by
  have key : ∀ (L i j p : ℕ), len p = L → j = p → ((f L i j : ℝ) : EReal) = ((f (len p) i p : ℝ) : EReal) := by
    rintro L i j p rfl rfl
    rfl
  funext i
  have h1 : (i 1).val < 512 := (i 1).isLt
  pointwise
  by_cases h₁ : (i 1).val < 128
  · rw [dif_pos h₁]
    exact key 2 _ _ _ (by unfold len; rw [if_pos h₁]) (by simp)
  rw [dif_neg h₁]
  by_cases h₂ : (i 1).val - 128 < 128
  · rw [dif_pos h₂]
    exact key 4 _ _ _ (by unfold len; rw [if_neg h₁, if_pos (by omega)]) (by simp; omega)
  rw [dif_neg h₂]
  by_cases h₃ : (i 1).val - 128 - 128 < 128
  · rw [dif_pos h₃]
    exact key 8 _ _ _ (by unfold len; rw [if_neg h₁, if_neg (by omega), if_pos (by omega)]) (by simp; omega)
  rw [dif_neg h₃]
  exact key 16 _ _ _ (by unfold len; rw [if_neg h₁, if_neg (by omega), if_neg (by omega)]) (by simp; omega)

theorem means : val_main_v78 (F := Ideal) (c2 X) (c1 G) (c2 W) = cN 8192 512 fun i j => back (ext (H X G W)) (len j) (32 + i) j / cnt i j := by
  have e := four (fun L i j => back (ext (H X G W)) L (32 + i) j / tally L i j) concatenates_S8192x128_S8192x128_S8192x128_S8192x128_S8192x512_d1
  have q₂ : val_main_v32 (F := Ideal) (c2 X) (c1 G) (c2 W) = cN 8192 128 fun i j => back (ext (H X G W)) 2 (32 + i) (0 + j) / tally 2 i (0 + j) := by
    rw [val_main_v32, span_2, tally_2, mean _ 2 (by norm_num)]; rfl
  have q₄ : val_main_v47 (F := Ideal) (c2 X) (c1 G) (c2 W) = cN 8192 128 fun i j => back (ext (H X G W)) 4 (32 + i) (128 + j) / tally 4 i (128 + j) := by
    rw [val_main_v47, span_4, tally_4, mean _ 4 (by norm_num)]; rfl
  have q₈ : val_main_v62 (F := Ideal) (c2 X) (c1 G) (c2 W) = cN 8192 128 fun i j => back (ext (H X G W)) 8 (32 + i) (256 + j) / tally 8 i (256 + j) := by
    rw [val_main_v62, span_8, tally_8, mean _ 8 (by norm_num)]; rfl
  have q₁₆ : val_main_v77 (F := Ideal) (c2 X) (c1 G) (c2 W) = cN 8192 128 fun i j => back (ext (H X G W)) 16 (32 + i) (384 + j) / tally 16 i (384 + j) := by
    rw [val_main_v77, span_16, tally_16, mean _ 16 (by norm_num)]; rfl
  rw [val_main_v78, q₂, q₄, q₈, q₁₆]
  exact e

theorem pools : val_main_v79 (F := Ideal) (c2 X) (c1 G) (c2 W) = cN 8192 512 (MixOut.pool (H X G W)) := by
  rw [val_main_v79, means, us]
  funext i
  refine (sub_coe _ _).trans (congrArg Real.toEReal ?_)
  unfold MixOut.pool ext
  rw [if_neg (by omega), show 32 + (i 0).val - 32 = (i 0).val by omega]

/-- The channel mix. -/
theorem mixes : val_main_v86 (F := Ideal) (c2 X) (c1 G) (c2 W) (c3 M) (c2 B) = c2 fun t j => mixed M (fun j => B (grp j) (plc j)) (MixOut.pool (H X G W) t.val) j := by
  funext i
  pointwise [val_main_v86, val_main_v85, val_main_v82, val_main_v81, val_main_v80, val_main_v84, val_main_v83, pools]
  simp only [c2_apply, c3_apply, cN_apply, mul_coe, sum_coe, add_coe]
  refine congrArg Real.toEReal (congrArg₂ (· + ·) (Finset.sum_congr rfl fun q _ => ?_) rfl)
  have e : (i 1).val / 128 * 128 + q.val = (chn (grp (i 1)) q).val := by show _ = 128 * ((i 1).val / 128) + q.val; omega
  show M (grp (i 1)) q (plc (i 1)) * MixOut.pool (H X G W) (i 0).val ((i 1).val / 128 * 128 + q.val) = _
  rw [e, mul_comm]

/-! ## The convolution -/

theorem fed_in : val_main_v101 (F := Ideal) (c2 X) (c1 G) (c2 W) = cN 8222 512 (under (H X G W)) := by
  funext i
  have h0 : (i 0).val < 8222 := (i 0).isLt
  refine Eq.trans ?_ (congrArg Real.toEReal (under_apply (H X G W) (i 0).val (i 1)).symm)
  pointwise [val_main_v101, val_main_v93, val_main_cst_14, val_main_v100, val_main_v91, val_main_v90, val_main_v99, val_main_v98, val_main_cst_16, val_main_v97, val_main_v96, val_main_cst_15,
    val_main_v95, val_main_v94, val_main_v92, hs]
  simp only [c2_apply, lit_one, lit_zero, neg_coe, Ideal.exp_coe]
  by_cases c : (i 0).val < 30
  · rw [dif_pos c, dif_neg (by omega)]
    rfl
  · rw [dif_neg c, dif_pos (by omega)]
    have e : Ideal.div 1 (1 + ((Real.exp (-H X G W ⟨(i 0).val - 30, by omega⟩ ⟨1024 + (i 1).val, by have : (i 1).val < 512 := (i 1).isLt; omega⟩) : ℝ) : EReal)) = _ := logi_exp _
    have q : ∀ (h : 512 + (512 + (i 1).val) < 1536) (h' : 1024 + (i 1).val < 1536), (⟨512 + (512 + (i 1).val), h⟩ : Fin 1536) = ⟨1024 + (i 1).val, h'⟩ := fun _ _ => Fin.ext (by show 512 + (512 + (i 1).val) = 1024 + (i 1).val; omega)
    simp only [ix2_0, ix2_1]
    rw [q _ (by have : (i 1).val < 512 := (i 1).isLt; omega)]
    exact (congrArg (_ * ·) e).trans (mul_coe _ _)

/-- The 31 taps. -/
theorem feds : val_main_v319 (F := Ideal) (c2 X) (c1 G) (c2 W) (c2 T) = cN 8192 512 (fed (under (H X G W)) (tot T) 31) := by
  simp -index only [val_main_v319, val_main_v312, val_main_v305, val_main_v298, val_main_v291, val_main_v284, val_main_v277, val_main_v270, val_main_v263, val_main_v256, val_main_v249, val_main_v242,
    val_main_v235, val_main_v228, val_main_v221, val_main_v214, val_main_v207, val_main_v200, val_main_v193, val_main_v186, val_main_v179, val_main_v172, val_main_v165, val_main_v158, val_main_v151,
    val_main_v144, val_main_v137, val_main_v130, val_main_v123, val_main_v116, val_main_v109, val_main_v108, val_main_cst_17, val_main_v107, val_main_v102, val_main_v106, val_main_v105, val_main_v104,
    val_main_v103, val_main_v115, val_main_v110, val_main_v114, val_main_v113, val_main_v112, val_main_v111, val_main_v122, val_main_v117, val_main_v121, val_main_v120, val_main_v119, val_main_v118,
    val_main_v129, val_main_v124, val_main_v128, val_main_v127, val_main_v126, val_main_v125, val_main_v136, val_main_v131, val_main_v135, val_main_v134, val_main_v133, val_main_v132, val_main_v143,
    val_main_v138, val_main_v142, val_main_v141, val_main_v140, val_main_v139, val_main_v150, val_main_v145, val_main_v149, val_main_v148, val_main_v147, val_main_v146, val_main_v157, val_main_v152,
    val_main_v156, val_main_v155, val_main_v154, val_main_v153, val_main_v164, val_main_v159, val_main_v163, val_main_v162, val_main_v161, val_main_v160, val_main_v171, val_main_v166, val_main_v170,
    val_main_v169, val_main_v168, val_main_v167, val_main_v178, val_main_v173, val_main_v177, val_main_v176, val_main_v175, val_main_v174, val_main_v185, val_main_v180, val_main_v184, val_main_v183,
    val_main_v182, val_main_v181, val_main_v192, val_main_v187, val_main_v191, val_main_v190, val_main_v189, val_main_v188, val_main_v199, val_main_v194, val_main_v198, val_main_v197, val_main_v196,
    val_main_v195, val_main_v206, val_main_v201, val_main_v205, val_main_v204, val_main_v203, val_main_v202, val_main_v213, val_main_v208, val_main_v212, val_main_v211, val_main_v210, val_main_v209,
    val_main_v220, val_main_v215, val_main_v219, val_main_v218, val_main_v217, val_main_v216, val_main_v227, val_main_v222, val_main_v226, val_main_v225, val_main_v224, val_main_v223, val_main_v234,
    val_main_v229, val_main_v233, val_main_v232, val_main_v231, val_main_v230, val_main_v241, val_main_v236, val_main_v240, val_main_v239, val_main_v238, val_main_v237, val_main_v248, val_main_v243,
    val_main_v247, val_main_v246, val_main_v245, val_main_v244, val_main_v255, val_main_v250, val_main_v254, val_main_v253, val_main_v252, val_main_v251, val_main_v262, val_main_v257, val_main_v261,
    val_main_v260, val_main_v259, val_main_v258, val_main_v269, val_main_v264, val_main_v268, val_main_v267, val_main_v266, val_main_v265, val_main_v276, val_main_v271, val_main_v275, val_main_v274,
    val_main_v273, val_main_v272, val_main_v283, val_main_v278, val_main_v282, val_main_v281, val_main_v280, val_main_v279, val_main_v290, val_main_v285, val_main_v289, val_main_v288, val_main_v287,
    val_main_v286, val_main_v297, val_main_v292, val_main_v296, val_main_v295, val_main_v294, val_main_v293, val_main_v304, val_main_v299, val_main_v303, val_main_v302, val_main_v301, val_main_v300,
    val_main_v311, val_main_v306, val_main_v310, val_main_v309, val_main_v308, val_main_v307, val_main_v318, val_main_v313, val_main_v317, val_main_v316, val_main_v315, val_main_v314, fed_in, as_cN T,
    fed_tap, fed_first, fed_next, Nat.reduceAdd]

theorem convs : val_main_v323 (F := Ideal) (c2 X) (c1 G) (c2 W) (c2 T) (c1 C) = c2 fun t => conv (H X G W) T C t.val := by
  funext i
  pointwise [val_main_v323, val_main_v322, val_main_v321, val_main_v320, val_main_v14, val_main_cst_2, feds]
  simp only [c1_apply, cN_apply, lit_zero, add_coe, add_zero]
  exact congrArg Real.toEReal (fed_all (H X G W) T C (i 0) (i 1))

end Cert.MixOutBwdRefIdeal.Stage
-- ==== Proof.MixOutBack.lean ====
/-
  The gradients' lines in the reference of the mixer's output backward call, on arrays of real numbers.
-/
module

public import proofs.«01_k».proof.Proof.MixOutFwd

@[expose] public section

set_option maxRecDepth 16384

noncomputable section

namespace Step.MixOut

open Step

theorem inv_div_var (y : Fin 512 → ℝ) : rs y / var y = rs y * rs y * rs y := by
  have h : rs y * rs y = (var y)⁻¹ := by
    unfold rs
    rw [← mul_inv, Real.mul_self_sqrt (var_pos y).le]
  rw [mul_assoc, h, div_eq_mul_inv]

theorem cen_sum (y : Fin 512 → ℝ) : ∑ k, cen y k = 0 := by
  unfold cen
  rw [Finset.sum_sub_distrib, Finset.sum_const, Finset.card_univ, Fintype.card_fin, nsmul_eq_mul]
  push_cast
  ring

/-- The derivative of a row's layer normalisation as reverse differentiation writes it, and in closed form. -/
theorem norm_vjp (y a : Fin 512 → ℝ) (k : Fin 512) :
    a k * rs y + (∑ j, cen y j * a j) * (-(1 / 2) * (rs y / var y)) / 512 * (2 * cen y k)
        + ((∑ j, -(a j * rs y)) + ∑ j, -((∑ i, cen y i * a i) * (-(1 / 2) * (rs y / var y)) / 512 * (2 * cen y j))) / 512
      = lnb y a k := by
  have e : ∑ j, a j * hat y j = (∑ j, cen y j * a j) * rs y := by
    rw [Finset.sum_mul]
    exact Finset.sum_congr rfl fun j _ => by rw [hat]; ring
  have z : ∑ j, -((∑ i, cen y i * a i) * (-(1 / 2) * (rs y / var y)) / 512 * (2 * cen y j)) = 0 := by
    rw [Finset.sum_neg_distrib, ← Finset.mul_sum, ← Finset.mul_sum, cen_sum]
    ring
  have n : ∑ j, -(a j * rs y) = -((∑ j, a j) * rs y) := by rw [Finset.sum_neg_distrib, Finset.sum_mul]
  rw [lnb, e, z, n, inv_div_var, hat]
  ring

end Step.MixOut

namespace Cert.MixOutBwdRefIdeal.Stage

open Cert.MixOutBwdRefIdeal Cert.MixOutBwdRefIdeal.Gen Cert.MixOutBwdRefIdeal.Read Idealize.ShloMosaic Step Step.Mix Step.Mix.Host Step.MixOut Step.MixOut.Conv
open Cert.MixInBwdIdeal.Tap (cN cN_apply cN_congr shift sum_two)
open Cert.MixInBwdRefIdeal.Stage (count_from tally)

variable (X : Fin 8192 → Fin 1024 → ℝ) (G : Fin 1024 → ℝ) (W : Fin 1024 → Fin 1536 → ℝ) (M : Fin 4 → Fin 128 → Fin 128 → ℝ) (B : Fin 4 → Fin 128 → ℝ)
  (S : Fin 512 → ℝ) (T : Fin 31 → Fin 512 → ℝ) (C LG LB : Fin 512 → ℝ) (O : Fin 1024 → Fin 1024 → ℝ) (D : Fin 8192 → Fin 1024 → ℝ)

/-- The convolution's rows. -/
def Y (t : Fin 8192) : Fin 512 → ℝ := conv (H X G W) T C t.val
/-- The cotangent of the two halves. -/
def E (t : Fin 8192) : Fin 1024 → ℝ := MixOut.back' O (D t)

theorem n512' : (512 : ℝ) ≠ 0 := by norm_num

theorem ys : val_main_v323 (F := Ideal) (c2 X) (c1 G) (c2 W) (c2 T) (c1 C) = c2 (Y X G W T C) := convs X G W T C

theorem moms : val_main_v327 (F := Ideal) (c2 X) (c1 G) (c2 W) (c2 T) (c1 C) = c2 fun t (_ : Fin 1) => (∑ j, Y X G W T C t j) / 512 := by
  funext i
  pointwise [val_main_v327, val_main_v325, val_main_v324, val_main_cst_18, val_main_v326, val_main_cst_19, ys]
  simp only [c2_apply, lit_512, sum_coe, div_coe _ _ n512']
  rfl

theorem cens : val_main_v338 (F := Ideal) (c2 X) (c1 G) (c2 W) (c2 T) (c1 C) = c2 fun t => cen (Y X G W T C t) := by
  funext i
  pointwise [val_main_v338, val_main_v337, ys, moms]
  simp only [c2_apply, sub_coe]
  rfl

theorem vars : val_main_v340 (F := Ideal) (c2 X) (c1 G) (c2 W) (c2 T) (c1 C) = c2 fun t (_ : Fin 1) => var (Y X G W T C t) := by
  funext i
  pointwise [val_main_v340, val_main_v336, val_main_v334, val_main_v333, val_main_v330, val_main_v329, val_main_v328, val_main_cst_21, val_main_v335, val_main_cst_22, val_main_v339, val_main_cst_23, ys, moms]
  simp only [c2_apply, lit_512, lit_eps, sub_coe, mul_coe, sum_coe, add_coe, div_coe _ _ n512']
  rfl

theorem twos : val_main_v332 (F := Ideal) (c2 X) (c1 G) (c2 W) (c2 T) (c1 C) = c2 fun t k => 2 * cen (Y X G W T C t) k := by
  funext i
  pointwise [val_main_v332, val_main_v331, val_main_cst_20, val_main_v329, val_main_v328, ys, moms]
  simp only [c2_apply, lit_two, sub_coe, mul_coe]
  rfl

theorem roots : val_main_v341 (F := Ideal) (c2 X) (c1 G) (c2 W) (c2 T) (c1 C) = c2 fun t (_ : Fin 1) => MixOut.rs (Y X G W T C t) := by
  funext i
  pointwise [val_main_v341, vars]
  simp only [c2_apply]
  exact rsqrt_coe _ (var_pos _)

theorem cubes : val_main_v344 (F := Ideal) (c2 X) (c1 G) (c2 W) (c2 T) (c1 C)
    = c2 fun t (_ : Fin 1) => -(1 / 2) * (MixOut.rs (Y X G W T C t) / var (Y X G W T C t)) := by
  funext i
  pointwise [val_main_v344, val_main_v343, val_main_cst_24, val_main_v342, vars, roots]
  simp only [c2_apply, lit_neg_half]
  rw [div_coe _ _ (var_pos _).ne', mul_coe]

theorem hats : val_main_v346 (F := Ideal) (c2 X) (c1 G) (c2 W) (c2 T) (c1 C) = c2 fun t => MixOut.hat (Y X G W T C t) := by
  funext i
  pointwise [val_main_v346, val_main_v345, cens, roots]
  simp only [c2_apply, mul_coe]
  rfl

theorem affs : val_main_v352 (F := Ideal) (c2 X) (c1 G) (c2 W) (c2 T) (c1 C) (c1 LG) (c1 LB) = c2 fun t => aff (Y X G W T C t) LG LB := by
  funext i
  pointwise [val_main_v352, val_main_v349, val_main_v348, val_main_v347, val_main_v351, val_main_v350, hats]
  simp only [c1_apply, c2_apply, mul_coe, add_coe]
  rfl

theorem sigs : val_main_v353_2 (F := Ideal) (c2 X) (c1 G) (c2 W) (c2 T) (c1 C) (c1 LG) (c1 LB) = c2 fun t k => logi (aff (Y X G W T C t) LG LB k) := by
  funext i
  pointwise [val_main_v353_2, val_main_call1_v4, val_main_call1_cst_0, val_main_call1_v3, val_main_call1_v2, val_main_call1_cst, val_main_call1_v1, val_main_call1_v0, affs]
  simp only [c2_apply, lit_one, neg_coe, Ideal.exp_coe]
  exact logi_exp _

theorem cots : val_main_v356 (F := Ideal) (c2 O) (c2 D) = c2 (E O D) := by
  funext i
  pointwise [val_main_v356]
  simp only [c2_apply, mul_coe, sum_coe]
  rfl

theorem dyns : val_main_v359 (F := Ideal) (c2 X) (c1 G) (c2 W) (c2 T) (c1 C) (c1 LG) (c1 LB) (c2 O) (c2 D)
    = c2 fun t => MixOut.dyn (Y X G W T C t) LG LB (E O D t) := by
  funext i
  pointwise [val_main_v359, val_main_call2_v1, val_main_v358, val_main_call2_v2, val_main_call2_v0, val_main_v353_1, val_main_call1_v7, val_main_call1_v6, val_main_call1_cst_1, affs, sigs, cots]
  simp only [c2_apply, lit_one]
  rw [← EReal.coe_one]
  simp only [sub_coe, mul_coe, add_coe]
  refine congrArg Real.toEReal ?_
  unfold MixOut.dyn MixOut.slope
  show E O D (i 0) (hi (i 1)) * logi _ + _ * E O D (i 0) (hi (i 1)) * _ = _
  ring

theorem dycs : val_main_v392 (F := Ideal) (c2 X) (c1 G) (c2 W) (c2 T) (c1 C) (c1 LG) (c1 LB) (c2 O) (c2 D)
    = c2 fun t => MixOut.dyc (Y X G W T C t) LG LB (E O D t) := by
  funext i
  pointwise [val_main_v392, val_main_v386, val_main_v373, val_main_v367, val_main_v366, val_main_v347, val_main_v372, val_main_v382, val_main_v381, val_main_v380, val_main_v379, val_main_v374,
    val_main_v371, val_main_v370, val_main_v369, val_main_cst_29, val_main_v378, val_main_cst_31, val_main_cst_32, val_main_v391, val_main_v390, val_main_v389, val_main_v387, val_main_v377,
    val_main_v376, val_main_v375, val_main_cst_30, val_main_v385, val_main_v384, val_main_v383, val_main_cst_33, val_main_v388, val_main_cst_34, val_main_cst_35, cens, twos, roots, cubes, dyns]
  simp only [c1_apply, c2_apply, lit_512, mul_coe, sum_coe, add_coe, neg_coe, div_coe _ _ n512']
  simp only [Finset.univ_unique, Finset.sum_singleton]
  exact congrArg Real.toEReal (norm_vjp (Y X G W T C (i 0)) (fun k => MixOut.dyn (Y X G W T C (i 0)) LG LB (E O D (i 0)) k * LG k) (i 1))

/-! ## The taps' gradients -/

theorem zero_word : constant (F := Ideal) S_ .f32 0x00000000#32 = fun _ => (0 : EReal) := by
  funext i
  exact lit_zero

/-- A tap's gradient: the padded channels from its row on against the cotangent. -/
theorem taken (F K : ℕ → ℕ → ℝ) (k : ℕ) {u : Shape} (z z' : u.Idx → EReal) (hz : z = fun _ => 0) (hz' : z' = fun _ => 0) (h hu hu') :
    broadcastInDim S1x512 ![1] bcast_S512_S1x512_1
        (Host.reduceAdd (F := Ideal) (φ := .f32)
          (shapeCast S1x512 (Host.reduceAdd (F := Ideal) (φ := .f32) (mulf (F := Ideal) (φ := .f32) (extractStridedSlice (α := EReal) S8192x512 ![k, 0] (cN 8222 512 F) h) (cN 8192 512 K)) z
            reducesTo_S8192x512_S512_d0 hu) shapeCasts_S512_S1x512) z' reducesTo_S1x512_S512_d0 hu')
      = cN 1 512 fun _ j => ∑ t ∈ Finset.range 8192, F (k + t) j * K t j := by
  subst hz
  subst hz'
  funext i
  have q : extractStridedSlice (α := EReal) S8192x512 ![k, 0] (cN 8222 512 F) h = cN 8192 512 (shift F k 0) := rfl
  rw [q]
  pointwise
  simp only [cN_apply, mul_coe, sum_coe, add_zero, zero_add, Finset.univ_unique, Finset.sum_singleton]
  refine congrArg Real.toEReal ?_
  rw [Finset.sum_range]
  refine Finset.sum_congr rfl fun t _ => ?_
  show F (k + t.val) (0 + (i 1).val) * K t.val (i 1).val = _
  rw [Nat.zero_add]

/-- The taps' gradients found so far, from the last tap down. -/
def gained (F K : ℕ → ℕ → ℝ) (n i j : ℕ) : ℝ := if 31 ≤ i + n then ∑ t ∈ Finset.range 8192, F (i + t) j * K t j else 0

theorem at_row (F K : ℕ → ℕ → ℝ) (k l : ℕ) {u : Shape} (v : u.Idx → EReal) (hv : v = fun _ => 0) (h) (hu : 0 < u.numel) :
    pad S31x512 ![k, 0] ![l, 0] ![0, 0] (cN 1 512 fun _ j => ∑ t ∈ Finset.range 8192, F (k + t) j * K t j) v h hu
      = cN 31 512 fun i j => if i = k then ∑ t ∈ Finset.range 8192, F (i + t) j * K t j else 0 := by
  refine (padded 1 512 31 512 k 0 l 0 _ v hv h hu).trans (cN_congr fun i _ j hj => ?_)
  by_cases c : i = k
  · rw [if_pos c, if_pos ⟨by omega, by omega⟩, c]; rfl
  · rw [if_neg c, if_neg (fun q => c (by omega))]

theorem gained_first (F K : ℕ → ℕ → ℝ) :
    (cN 31 512 fun i j => if i = 30 then ∑ t ∈ Finset.range 8192, F (i + t) j * K t j else 0) = cN 31 512 (gained F K 1) := by
  refine cN_congr fun i hi j _ => ?_
  unfold gained
  by_cases c : i = 30
  · rw [if_pos c, if_pos (by omega)]
  · rw [if_neg c, if_neg (by omega)]

theorem gained_next (F K : ℕ → ℕ → ℝ) (n k : ℕ) (hk : n + k = 30) :
    addf (F := Ideal) (φ := .f32) (cN 31 512 (gained F K n)) (cN 31 512 fun i j => if i = k then ∑ t ∈ Finset.range 8192, F (i + t) j * K t j else 0)
      = cN 31 512 (gained F K (n + 1)) := by
  rw [sum_two]
  refine cN_congr fun i hi j _ => ?_
  show gained F K n i j + _ = gained F K (n + 1) i j
  unfold gained
  by_cases c : i = k
  · rw [if_pos c, if_neg (by omega), if_pos (by omega), zero_add]
  · rw [if_neg c, add_zero]
    by_cases d : 31 ≤ i + n
    · rw [if_pos d, if_pos (by omega)]
    · rw [if_neg d, if_neg (by omega)]

/-- The convolution's cotangent. -/
def K : ℕ → ℕ → ℝ := tot fun t => MixOut.dyc (Y X G W T C t) LG LB (E O D t)

theorem dycs' : val_main_v392 (F := Ideal) (c2 X) (c1 G) (c2 W) (c2 T) (c1 C) (c1 LG) (c1 LB) (c2 O) (c2 D) = cN 8192 512 (K X G W T C LG LB O D) :=
  (dycs ..).trans (as_cN _)

theorem gains : val_main_v611 (F := Ideal) (c2 X) (c1 G) (c2 W) (c2 T) (c1 C) (c1 LG) (c1 LB) (c2 O) (c2 D)
    = cN 31 512 (gained (under (H X G W)) (K X G W T C LG LB O D) 31) := by
  simp -index (disch := rfl) only [val_main_v611, val_main_v604, val_main_v597, val_main_v590, val_main_v583, val_main_v576, val_main_v569, val_main_v562, val_main_v555, val_main_v548, val_main_v541,
    val_main_v534, val_main_v527, val_main_v520, val_main_v513, val_main_v506, val_main_v499, val_main_v492, val_main_v485, val_main_v478, val_main_v471, val_main_v464, val_main_v457, val_main_v450,
    val_main_v443, val_main_v436, val_main_v429, val_main_v422, val_main_v415, val_main_v408, val_main_v401, val_main_v400, val_main_v399, val_main_v398, val_main_v397, val_main_v396, val_main_v313,
    val_main_cst_38, val_main_cst_39, val_main_cst_40, val_main_v407, val_main_v406, val_main_v405, val_main_v404, val_main_v403, val_main_v402, val_main_v306, val_main_cst_41, val_main_cst_42,
    val_main_cst_43, val_main_v414, val_main_v413, val_main_v412, val_main_v411, val_main_v410, val_main_v409, val_main_v299, val_main_cst_44, val_main_cst_45, val_main_cst_46, val_main_v421,
    val_main_v420, val_main_v419, val_main_v418, val_main_v417, val_main_v416, val_main_v292, val_main_cst_47, val_main_cst_48, val_main_cst_49, val_main_v428, val_main_v427, val_main_v426,
    val_main_v425, val_main_v424, val_main_v423, val_main_v285, val_main_cst_50, val_main_cst_51, val_main_cst_52, val_main_v435, val_main_v434, val_main_v433, val_main_v432, val_main_v431,
    val_main_v430, val_main_v278, val_main_cst_53, val_main_cst_54, val_main_cst_55, val_main_v442, val_main_v441, val_main_v440, val_main_v439, val_main_v438, val_main_v437, val_main_v271,
    val_main_cst_56, val_main_cst_57, val_main_cst_58, val_main_v449, val_main_v448, val_main_v447, val_main_v446, val_main_v445, val_main_v444, val_main_v264, val_main_cst_59, val_main_cst_60,
    val_main_cst_61, val_main_v456, val_main_v455, val_main_v454, val_main_v453, val_main_v452, val_main_v451, val_main_v257, val_main_cst_62, val_main_cst_63, val_main_cst_64, val_main_v463,
    val_main_v462, val_main_v461, val_main_v460, val_main_v459, val_main_v458, val_main_v250, val_main_cst_65, val_main_cst_66, val_main_cst_67, val_main_v470, val_main_v469, val_main_v468,
    val_main_v467, val_main_v466, val_main_v465, val_main_v243, val_main_cst_68, val_main_cst_69, val_main_cst_70, val_main_v477, val_main_v476, val_main_v475, val_main_v474, val_main_v473,
    val_main_v472, val_main_v236, val_main_cst_71, val_main_cst_72, val_main_cst_73, val_main_v484, val_main_v483, val_main_v482, val_main_v481, val_main_v480, val_main_v479, val_main_v229,
    val_main_cst_74, val_main_cst_75, val_main_cst_76, val_main_v491, val_main_v490, val_main_v489, val_main_v488, val_main_v487, val_main_v486, val_main_v222, val_main_cst_77, val_main_cst_78,
    val_main_cst_79, val_main_v498, val_main_v497, val_main_v496, val_main_v495, val_main_v494, val_main_v493, val_main_v215, val_main_cst_80, val_main_cst_81, val_main_cst_82, val_main_v505,
    val_main_v504, val_main_v503, val_main_v502, val_main_v501, val_main_v500, val_main_v208, val_main_cst_83, val_main_cst_84, val_main_cst_85, val_main_v512, val_main_v511, val_main_v510,
    val_main_v509, val_main_v508, val_main_v507, val_main_v201, val_main_cst_86, val_main_cst_87, val_main_cst_88, val_main_v519, val_main_v518, val_main_v517, val_main_v516, val_main_v515,
    val_main_v514, val_main_v194, val_main_cst_89, val_main_cst_90, val_main_cst_91, val_main_v526, val_main_v525, val_main_v524, val_main_v523, val_main_v522, val_main_v521, val_main_v187,
    val_main_cst_92, val_main_cst_93, val_main_cst_94, val_main_v533, val_main_v532, val_main_v531, val_main_v530, val_main_v529, val_main_v528, val_main_v180, val_main_cst_95, val_main_cst_96,
    val_main_cst_97, val_main_v540, val_main_v539, val_main_v538, val_main_v537, val_main_v536, val_main_v535, val_main_v173, val_main_cst_98, val_main_cst_99, val_main_cst_100, val_main_v547,
    val_main_v546, val_main_v545, val_main_v544, val_main_v543, val_main_v542, val_main_v166, val_main_cst_101, val_main_cst_102, val_main_cst_103, val_main_v554, val_main_v553, val_main_v552,
    val_main_v551, val_main_v550, val_main_v549, val_main_v159, val_main_cst_104, val_main_cst_105, val_main_cst_106, val_main_v561, val_main_v560, val_main_v559, val_main_v558, val_main_v557,
    val_main_v556, val_main_v152, val_main_cst_107, val_main_cst_108, val_main_cst_109, val_main_v568, val_main_v567, val_main_v566, val_main_v565, val_main_v564, val_main_v563, val_main_v145,
    val_main_cst_110, val_main_cst_111, val_main_cst_112, val_main_v575, val_main_v574, val_main_v573, val_main_v572, val_main_v571, val_main_v570, val_main_v138, val_main_cst_113, val_main_cst_114,
    val_main_cst_115, val_main_v582, val_main_v581, val_main_v580, val_main_v579, val_main_v578, val_main_v577, val_main_v131, val_main_cst_116, val_main_cst_117, val_main_cst_118, val_main_v589,
    val_main_v588, val_main_v587, val_main_v586, val_main_v585, val_main_v584, val_main_v124, val_main_cst_119, val_main_cst_120, val_main_cst_121, val_main_v596, val_main_v595, val_main_v594,
    val_main_v593, val_main_v592, val_main_v591, val_main_v117, val_main_cst_122, val_main_cst_123, val_main_cst_124, val_main_v603, val_main_v602, val_main_v601, val_main_v600, val_main_v599,
    val_main_v598, val_main_v110, val_main_cst_125, val_main_cst_126, val_main_cst_127, val_main_v610, val_main_v609, val_main_v608, val_main_v607, val_main_v606, val_main_v605, val_main_v102,
    val_main_cst_128, val_main_cst_129, val_main_cst_130, fed_in, dycs', zero_word, taken, at_row, gained_first, gained_next, Nat.reduceAdd]

/-! ## The pooled half's gradients -/

theorem dmixs : val_main_v616 (F := Ideal) (c1 S) (c2 O) (c2 D) = c2 fun t => MixOut.dmix S (E O D t) := by
  funext i
  pointwise [val_main_v616, val_main_v357, val_main_v615, val_main_v87, cots]
  simp only [c1_apply, c2_apply, mul_coe]
  rfl

theorem dpws : val_main_v626 (F := Ideal) (c2 X) (c1 G) (c2 W) (c1 S) (c2 O) (c2 D)
    = c3 fun g u v => ∑ t : Fin 8192, MixOut.pool (H X G W) t.val (chn g u).val * MixOut.dmix S (E O D t) (chn g v) := by
  funext i
  pointwise [val_main_v626, val_main_v625, val_main_v622, val_main_v618, val_main_v80, dmixs, pools]
  simp only [c2_apply, c3_apply, cN_apply, mul_coe, sum_coe]
  refine congrArg Real.toEReal (Finset.sum_congr rfl fun t _ => ?_)
  have q : ∀ (v : Fin 128) h, (⟨(i 0).val * 128 + v.val, h⟩ : Fin 512) = chn (i 0) v := fun v h => Fin.ext (by show (i 0).val * 128 + v.val = 128 * (i 0).val + v.val; omega)
  simp only [ix2_0, ix2_1]
  rw [q (i 2)]
  exact (congrArg (_ * ·) (congrArg (MixOut.pool (H X G W) t.val) (by show (i 0).val * 128 + (i 1).val = 128 * (i 0).val + (i 1).val; omega))).trans (mul_comm _ _)

/-- The channel mix's transpose on its cotangent. -/
def mm (t : Fin 8192) (j : Fin 512) : ℝ := ∑ q : Fin 128, MixOut.dmix S (E O D t) (chn (grp j) q) * M (grp j) (plc j) q

theorem mms : val_main_v627 (F := Ideal) (c3 M) (c1 S) (c2 O) (c2 D) = cN 8192 512 (tot (mm M S O D)) := by
  refine Eq.trans ?_ (as_cN (mm M S O D))
  funext i
  pointwise [val_main_v627, val_main_v624, val_main_v623, val_main_v622, val_main_v618, dmixs]
  simp only [c2_apply, c3_apply, mul_coe, sum_coe]
  refine congrArg Real.toEReal (Finset.sum_congr rfl fun q _ => ?_)
  have e : ∀ h, (⟨(i 1).val / 128 * 128 + q.val, h⟩ : Fin 512) = chn (grp (i 1)) q :=
    fun h => Fin.ext (by show (i 1).val / 128 * 128 + q.val = 128 * ((i 1).val / 128) + q.val; omega)
  exact congrArg₂ (fun a b => a * b) (congrArg (MixOut.dmix S (E O D (i 0))) (e _)) rfl

theorem dpcs : val_main_v646 (F := Ideal) (c3 M) (c1 S) (c2 O) (c2 D) = c2 fun t => MixOut.dpc M S (E O D t) t.val := by
  have q₂ : val_main_v643 (F := Ideal) = cN 8192 128 (tally 2) := tally_2
  have q₄ : val_main_v639 (F := Ideal) = cN 8192 128 (tally 4) := tally_4
  have q₈ : val_main_v635 (F := Ideal) = cN 8192 128 (tally 8) := tally_8
  have q₁₆ : val_main_v632 (F := Ideal) = cN 8192 128 (tally 16) := tally_16
  refine Eq.trans ?_ (as_cN fun t : Fin 8192 => MixOut.dpc M S (E O D t) t.val).symm
  simp -index (disch := first | exact zero_word | rfl | decide) only [val_main_v646, val_main_v642, val_main_v638, val_main_v634, val_main_v633, val_main_v631, val_main_cst_135, val_main_v637,
    val_main_v636, val_main_v630, val_main_cst_136, val_main_v641, val_main_v640, val_main_v629, val_main_cst_137, val_main_v645, val_main_v644, val_main_v628, val_main_cst_138, mms, q₂, q₄, q₈, q₁₆,
    cut, mean, padded, sum_two]
  refine cN_congr fun t ht j hj => ?_
  have e : tot (fun t : Fin 8192 => MixOut.dpc M S (E O D t) t.val) t j = tot (mm M S O D) t j / cnt t j :=
    (tot_in (fun t : Fin 8192 => MixOut.dpc M S (E O D t) t.val) ⟨t, ht⟩ ⟨j, hj⟩).trans
      (congrArg (· / cnt t j) (tot_in (mm M S O D) ⟨t, ht⟩ ⟨j, hj⟩).symm)
  have key : ∀ L o, len j = L → o ≤ j → shift (tot (mm M S O D)) 0 o (t - 0) (j - o) / tally L (t - 0) (j - o) = tot (mm M S O D) t j / cnt t j := by
    rintro L o rfl h
    show tot (mm M S O D) (0 + (t - 0)) (o + (j - o)) / ((min (t - 0 + 1) (len j) : ℕ) : ℝ) = _
    rw [Nat.sub_zero, Nat.zero_add, show o + (j - o) = j by omega]
    rfl
  rw [e]
  by_cases c₁ : j < 128
  · rw [if_neg (by omega), if_neg (by omega), if_neg (by omega), if_pos (by omega), key 2 0 (by unfold len; rw [if_pos c₁]) (by omega)]
    ring
  by_cases c₂ : j < 256
  · rw [if_neg (by omega), if_neg (by omega), if_pos (by omega), if_neg (by omega), key 4 128 (by unfold len; rw [if_neg c₁, if_pos c₂]) (by omega)]
    ring
  by_cases c₃ : j < 384
  · rw [if_neg (by omega), if_pos (by omega), if_neg (by omega), if_neg (by omega), key 8 256 (by unfold len; rw [if_neg c₁, if_neg c₂, if_pos c₃]) (by omega)]
    ring
  rw [if_pos (by omega), if_neg (by omega), if_neg (by omega), if_neg (by omega), key 16 384 (by unfold len; rw [if_neg c₁, if_neg c₂, if_neg c₃]) (by omega)]
  ring

/-! ## The small gradients -/

/-- A token's share of the small gradients. -/
abbrev sm (t : Fin 8192) (q : ℕ) (j : Fin 512) : ℝ :=
  small (glu (ext (H X G W))) M (fun j => B (grp j) (plc j)) S (Y X G W T C t) LG LB (MixOut.pool (H X G W) t.val) (E O D t) t.val q j

theorem row_32 : val_main_v648 (F := Ideal) (c2 X) (c1 G) (c2 W) (c2 T) (c1 C) (c1 LG) (c1 LB) (c2 O) (c2 D)
    = c2 fun (_ : Fin 1) j => ∑ t, sm X G W M B S T C LG LB O D t 32 j := by
  funext i
  pointwise [val_main_v648, val_main_v395, val_main_v394, val_main_v393, val_main_cst_36, val_main_cst_37, dycs]
  simp only [c2_apply, sum_coe]
  simp only [Finset.univ_unique, Finset.sum_singleton]
  rfl

theorem row_33 : val_main_v649 (F := Ideal) (c2 X) (c1 G) (c2 W) (c2 T) (c1 C) (c1 LG) (c1 LB) (c2 O) (c2 D)
    = c2 fun (_ : Fin 1) j => ∑ t, sm X G W M B S T C LG LB O D t 33 j := by
  funext i
  pointwise [val_main_v649, val_main_v368, val_main_v365, val_main_v364, val_main_v363, val_main_cst_27, val_main_cst_28, hats, dyns]
  simp only [c2_apply, mul_coe, sum_coe]
  simp only [Finset.univ_unique, Finset.sum_singleton]
  exact congrArg Real.toEReal (Finset.sum_congr rfl fun t _ => mul_comm _ _)

theorem row_34 : val_main_v650 (F := Ideal) (c2 X) (c1 G) (c2 W) (c2 T) (c1 C) (c1 LG) (c1 LB) (c2 O) (c2 D)
    = c2 fun (_ : Fin 1) j => ∑ t, sm X G W M B S T C LG LB O D t 34 j := by
  funext i
  pointwise [val_main_v650, val_main_v362, val_main_v361, val_main_v360, val_main_cst_25, val_main_cst_26, dyns]
  simp only [c2_apply, sum_coe]
  simp only [Finset.univ_unique, Finset.sum_singleton]
  rfl

theorem row_35 : val_main_v651 (F := Ideal) (c2 X) (c1 G) (c2 W) (c3 M) (c2 B) (c2 O) (c2 D)
    = c2 fun (_ : Fin 1) j => ∑ t, sm X G W M B S T C LG LB O D t 35 j := by
  funext i
  pointwise [val_main_v651, val_main_v617, val_main_v614, val_main_v613, val_main_v612, val_main_v357, val_main_cst_131, val_main_cst_132, mixes, cots]
  simp only [c2_apply, mul_coe, sum_coe]
  simp only [Finset.univ_unique, Finset.sum_singleton]
  exact congrArg Real.toEReal (Finset.sum_congr rfl fun t _ => mul_comm _ _)

theorem row_36 : val_main_v652 (F := Ideal) (c1 S) (c2 O) (c2 D)
    = c2 fun (_ : Fin 1) j => ∑ t, sm X G W M B S T C LG LB O D t 36 j := by
  funext i
  pointwise [val_main_v652, val_main_v621, val_main_v620, val_main_v619, val_main_v618, val_main_cst_133, val_main_cst_134, dmixs]
  simp only [c2_apply, sum_coe]
  simp only [Finset.univ_unique, Finset.sum_singleton]
  rfl

theorem smalls : val_main_v653 (F := Ideal) (c2 X) (c1 G) (c2 W) (c3 M) (c2 B) (c1 S) (c2 T) (c1 C) (c1 LG) (c1 LB) (c2 O) (c2 D)
    = c2 fun (q : Fin 40) j => ∑ t, sm X G W M B S T C LG LB O D t q.val j := by
  funext i
  have h0 : (i 0).val < 40 := (i 0).isLt
  pointwise [val_main_v653, gains, val_main_v647, val_main_cst_139, row_32 X G W M B S T C LG LB O D, row_33 X G W M B S T C LG LB O D, row_34 X G W M B S T C LG LB O D,
    row_35 X G W M B S T C LG LB O D, row_36 X G W M B S T C LG LB O D]
  simp only [c2_apply, cN_apply, lit_zero]
  have key : ∀ (k : ℕ) (z : ℝ), k = (i 0).val → z = ∑ t, sm X G W M B S T C LG LB O D t k (i 1) → ((z : ℝ) : EReal) = ((∑ t, sm X G W M B S T C LG LB O D t (i 0).val (i 1) : ℝ) : EReal) := by
    rintro k z rfl rfl
    rfl
  have none : ∀ k, (31 = k ∨ 37 ≤ k) →
      (0 : ℝ) = ∑ t, sm X G W M B S T C LG LB O D t k (i 1) := by
    intro k hk
    refine (Finset.sum_eq_zero fun t _ => ?_).symm
    unfold sm small
    rw [if_neg (by omega), if_neg (by omega), if_neg (by omega), if_neg (by omega), if_neg (by omega), if_neg (by omega)]
  by_cases c : (i 0).val < 31
  · rw [dif_pos c]
    refine key _ _ rfl ?_
    unfold gained
    rw [if_pos (by omega), Finset.sum_range]
    refine Finset.sum_congr rfl fun t _ => ?_
    unfold sm small
    rw [if_pos c, mul_comm]
    refine congrArg₂ (· * ·) (tot_in (fun t => MixOut.dyc (Y X G W T C t) LG LB (E O D t)) t (i 1)) ?_
    show glu (ext (H X G W)) ((i 0).val + t.val + 2) (i 1).val = _
    rw [show (i 0).val + t.val + 2 = t.val + 2 + (i 0).val by omega]
  rw [dif_neg c]
  by_cases c₁ : (i 0).val - 31 < 1
  · rw [dif_pos c₁]
    exact key _ 0 rfl (none _ (by omega))
  rw [dif_neg c₁]
  by_cases c₂ : (i 0).val - 31 - 1 < 1
  · rw [dif_pos c₂]
    exact key 32 _ (by omega) rfl
  rw [dif_neg c₂]
  by_cases c₃ : (i 0).val - 31 - 1 - 1 < 1
  · rw [dif_pos c₃]
    exact key 33 _ (by omega) rfl
  rw [dif_neg c₃]
  by_cases c₄ : (i 0).val - 31 - 1 - 1 - 1 < 1
  · rw [dif_pos c₄]
    exact key 34 _ (by omega) rfl
  rw [dif_neg c₄]
  by_cases c₅ : (i 0).val - 31 - 1 - 1 - 1 - 1 < 1
  · rw [dif_pos c₅]
    exact key 35 _ (by omega) rfl
  rw [dif_neg c₅]
  by_cases c₆ : (i 0).val - 31 - 1 - 1 - 1 - 1 - 1 < 1
  · rw [dif_pos c₆]
    exact key 36 _ (by omega) rfl
  rw [dif_neg c₆]
  have last : ∀ p q : Prop, ∀ [Decidable p] [Decidable q], (if _ : p then (0 : EReal) else if _ : q then 0 else 0) = 0 := by
    intro p q _ _
    split_ifs <;> rfl
  rw [last]
  exact key _ 0 rfl (none _ (by omega))

end Cert.MixOutBwdRefIdeal.Stage
-- ==== Proof.MixOutPair.lean ====
/-
  The mixer's output backward call and the derivative of the mixer's second half leave the same four arrays.
-/
module

public import proofs.«01_k».proof.Defs
public import proofs.«01_k».proof.Proof.Finite
public import proofs.«01_k».proof.Proof.MixOutArr
public import proofs.«01_k».proof.Proof.MixOutBack
public import proofs.«01_k».proof.Proof.Gen.Pre_finite_mix_out
public import Idealize.ShloMosaic.Lib.Claim

@[expose] public section

set_option maxRecDepth 16384

noncomputable section

namespace Cert.MixOutPair

open Idealize.ShloMosaic Idealize.ShloMosaic.TcCoe Idealize.SL.Sem Step Cert.MixOutBwdIdeal.Entry

/-- Under the precondition the call's arguments are arrays of real numbers. -/
def real {m : (ℓ : Loc Cert.MixOutBwdIdeal.nD Cert.MixOutBwdIdeal.τ Cert.MixOutBwdIdeal.sig) → Buf (Elt Ideal) ℓ}
    (h : Cert.Pre_MixOutBwdIdeal_finite_mix_out m) (c : Dev Cert.MixOutBwdIdeal.nD) : Real m c where
  X := _
  G := _
  W := _
  M := _
  B := _
  S := _
  T := _
  C := _
  L := _
  Z := _
  O := _
  Y := _
  hX := c2_of _ fun i => congrFun (h c).1 i
  hG := c1_of _ fun i => congrFun (h c).2.1 i
  hW := c2_of _ fun i => congrFun (h c).2.2.1 i
  hM := c3_of _ fun i => congrFun (h c).2.2.2.1 i
  hB := c2_of _ fun i => congrFun (h c).2.2.2.2.1 i
  hS := c1_of _ fun i => congrFun (h c).2.2.2.2.2.1 i
  hT := c2_of _ fun i => congrFun (h c).2.2.2.2.2.2.1 i
  hC := c1_of _ fun i => congrFun (h c).2.2.2.2.2.2.2.1 i
  hL := c1_of _ fun i => congrFun (h c).2.2.2.2.2.2.2.2.1 i
  hZ := c1_of _ fun i => congrFun (h c).2.2.2.2.2.2.2.2.2.1 i
  hO := c2_of _ fun i => congrFun (h c).2.2.2.2.2.2.2.2.2.2.1 i
  hY := c2_of _ fun i => congrFun (h c).2.2.2.2.2.2.2.2.2.2.2 i

/-- The reference runs, keeps its arguments and leaves its counters at zero: it has none. -/
theorem reference_frame : Cert.quiescent_MixOutBwdRefIdeal := fun m ρ _ =>
  (θ_run _ _ _).mono (fun r h => ⟨fun c => (h c).2.2.2.2, by
    funext x
    rcases x with ⟨c, s⟩
    cases s with
    | reg i => exact i.elim0
    | dma i => exact i.elim0⟩) (Cert.MixOutBwdRefIdeal.Value.run m ρ)

theorem algebraic : Cert.algebraic_MixOutBwdIdeal_MixOutBwdRefIdeal_pre_finite_mix_out := by
  intro m g m' g' hpre hagree
  have a : ∀ c, Real m c := real hpre
  refine ⟨fun c => c2 (DC (a c)), fun c => c2 (DP (a c)), fun c => c3 (DW (a c)), fun c => c2 (SM (a c)),
    (θ_run _ _ _).mono (fun r h c => ?_) (Cert.MixOutBwdIdeal.Value.run_blocks m g),
    (θ_run _ _ _).mono (fun r h c => ?_) (Cert.MixOutBwdRefIdeal.Value.run m' g')⟩
  · obtain ⟨h0, h1, h2, h3, hk⟩ := h c
    exact ⟨h0.trans (dc_arr (a c)), h1.trans (dp_arr (a c)), h2.trans (dw_arr (a c)), h3.trans (sm_arr (a c)), hk⟩
  · obtain ⟨h0, h1, h2, h3, hk⟩ := h c
    obtain ⟨e0, e1, e2, e3, e4, e5, e6, e7, e8, e9, e10, e11⟩ := hagree c
    have e0 : StableHlo.launchContents m' c (Proc.devRef .tc Cert.MixOutBwdRefIdeal.main_arg0) = _ := e0.trans (a c).hX
    have e1 : StableHlo.launchContents m' c (Proc.devRef .tc Cert.MixOutBwdRefIdeal.main_arg1) = _ := e1.trans (a c).hG
    have e2 : StableHlo.launchContents m' c (Proc.devRef .tc Cert.MixOutBwdRefIdeal.main_arg2) = _ := e2.trans (a c).hW
    have e3 : StableHlo.launchContents m' c (Proc.devRef .tc Cert.MixOutBwdRefIdeal.main_arg3) = _ := e3.trans (a c).hM
    have e4 : StableHlo.launchContents m' c (Proc.devRef .tc Cert.MixOutBwdRefIdeal.main_arg4) = _ := e4.trans (a c).hB
    have e5 : StableHlo.launchContents m' c (Proc.devRef .tc Cert.MixOutBwdRefIdeal.main_arg5) = _ := e5.trans (a c).hS
    have e6 : StableHlo.launchContents m' c (Proc.devRef .tc Cert.MixOutBwdRefIdeal.main_arg6) = _ := e6.trans (a c).hT
    have e7 : StableHlo.launchContents m' c (Proc.devRef .tc Cert.MixOutBwdRefIdeal.main_arg7) = _ := e7.trans (a c).hC
    have e8 : StableHlo.launchContents m' c (Proc.devRef .tc Cert.MixOutBwdRefIdeal.main_arg8) = _ := e8.trans (a c).hL
    have e9 : StableHlo.launchContents m' c (Proc.devRef .tc Cert.MixOutBwdRefIdeal.main_arg9) = _ := e9.trans (a c).hZ
    have e10 : StableHlo.launchContents m' c (Proc.devRef .tc Cert.MixOutBwdRefIdeal.main_arg10) = _ := e10.trans (a c).hO
    have e11 : StableHlo.launchContents m' c (Proc.devRef .tc Cert.MixOutBwdRefIdeal.main_arg11) = _ := e11.trans (a c).hY
    refine ⟨h0.trans ?_, h1.trans ?_, h2.trans ?_, h3.trans ?_, hk⟩
    · rw [Cert.MixOutBwdRefIdeal.Read.val_main_v392_eq, e0, e1, e2, e6, e7, e8, e9, e10, e11]
      exact Cert.MixOutBwdRefIdeal.Stage.dycs _ _ _ _ _ _ _ _ _
    · rw [Cert.MixOutBwdRefIdeal.Read.val_main_v646_eq, e3, e5, e10, e11]
      exact Cert.MixOutBwdRefIdeal.Stage.dpcs _ _ _ _
    · rw [Cert.MixOutBwdRefIdeal.Read.val_main_v626_eq, e0, e1, e2, e5, e10, e11]
      exact Cert.MixOutBwdRefIdeal.Stage.dpws _ _ _ _ _ _
    · rw [Cert.MixOutBwdRefIdeal.Read.val_main_v653_eq, e0, e1, e2, e3, e4, e5, e6, e7, e8, e9, e10, e11]
      exact Cert.MixOutBwdRefIdeal.Stage.smalls _ _ _ _ _ _ _ _ _ _ _ _

end Cert.MixOutPair
-- ==== Proof.LossSpec.lean ====
/-
  The last feed-forward layer with the loss behind it, over the real numbers, row by row: `x` is a row of the layer's input, `g` the
  gain of its norm, `W` and `O` its weights, `f` the gain of the final norm, `s` the target's row.
-/
module

public import proofs.«01_k».proof.Proof.FfnSpec

@[expose] public section

noncomputable section

namespace Step.Loss

/-- The row the layer leaves: the input plus half the layer's output. -/
def leaves (x g : Fin 1024 → ℝ) (W : Fin 1024 → Fin 5632 → ℝ) (O : Fin 2816 → Fin 1024 → ℝ) (k : Fin 1024) : ℝ :=
  x k + 1 / 2 * ∑ j, Ffn.act (Ffn.pre x g W) j * O j k

/-- The difference of a normalised row and the target's. -/
def miss (y f s : Fin 1024 → ℝ) (k : Fin 1024) : ℝ := y k * inv y * f k - s k

/-- Hidden unit `j` of the `p`-th half. -/
def half (p : ℕ) (hp : p < 2) (j : Fin 1408) : Fin 2816 := ⟨p * 1408 + j.val, by omega⟩

/-- A gated unit, from the columns its half is found in. -/
theorem act_half (h : Fin 5632 → ℝ) (p q r : ℕ) (hp : p < 2) (hq : q < 4) (hr : r < 4) (eq : q = p) (er : r = p + 2) (j : Fin 1408) :
    Ffn.act h (half p hp j) = h (Ffn.quarter q hq j) * logi (h (Ffn.quarter q hq j)) * h (Ffn.quarter r hr j) := by
  subst eq er
  have e : Ffn.hi (half q hp j) = Ffn.quarter (q + 2) hr j := Fin.ext (by
    show 2816 + (q * 1408 + j.val) = (q + 2) * 1408 + j.val
    omega)
  rw [Ffn.act, e]
  rfl

/-- The layer's sum over its hidden units, one half after the other. -/
theorem leaves_halves (x g : Fin 1024 → ℝ) (W : Fin 1024 → Fin 5632 → ℝ) (O : Fin 2816 → Fin 1024 → ℝ) (k : Fin 1024) :
    leaves x g W O k = x k + 1 / 2 * (0 + ∑ j, Ffn.act (Ffn.pre x g W) (half 0 (by decide) j) * O (half 0 (by decide) j) k
      + ∑ j, Ffn.act (Ffn.pre x g W) (half 1 (by decide) j) * O (half 1 (by decide) j) k) := by
  rw [zero_add, leaves, show ∑ j, Ffn.act (Ffn.pre x g W) j * O j k = _ from
    (sum_blocks 2 1408 fun j => Ffn.act (Ffn.pre x g W) j * O j k).trans (Fin.sum_univ_two _)]
  rfl

end Step.Loss
-- ==== Proof.LossBody.lean ====
/-
  The body of the last feed-forward layer with the loss on one block of 512 rows: each intermediate value of the body, on real
  inputs, as an array of real numbers.
-/
module

public import proofs.«01_k».proof.Proof.Gen.LossHeadIdeal.Skeleton
public import proofs.«01_k».proof.Proof.LossSpec
public import Idealize.ShloMosaic.Lib.Pointwise

@[expose] public section

set_option maxRecDepth 16384

noncomputable section

namespace Cert.LossHeadIdeal.Body

open Cert.LossHeadIdeal Cert.LossHeadIdeal.Gen Idealize.ShloMosaic Step

variable (X Z A T Y D : Fin 512 → Fin 1024 → ℝ) (G : Fin 1024 → ℝ) (V : Fin 1024 → Fin 1408 → ℝ) (g u : Fin 512 → Fin 1408 → ℝ) (B : Fin 1408 → Fin 1024 → ℝ)

/-- A block's product with a quarter of the inner weights, and a tile of gated units' with half of the outer ones. -/
def inner (t : Fin 512) (j : Fin 1408) : ℝ := ∑ k, A t k * V k j
def outer (t : Fin 512) (k : Fin 1024) : ℝ := ∑ j, g t j * logi (g t j) * u t j * B j k

/-- The rows the layer leaves, from what its first half of hidden units adds. -/
def left (t : Fin 512) (k : Fin 1024) : ℝ := X t k + 1 / 2 * (Z t k + outer g u B t k)

theorem xn_block : k0_pay5 (F := Ideal) (c2 X) (c2 fun _ : Fin 1 => G) = c2 fun t k => X t k * inv (X t) * G k := by
  funext i
  pointwise [k0_pay5]
  simp only [c2_apply, lit_1024, lit_eps, mul_coe, sum_coe, add_coe, div_coe _ _ (show (1024 : ℝ) ≠ 0 by norm_num)]
  simp only [rsqrt_ms, mul_coe]
  rfl

theorem zero_block : k0_pay6 (F := Ideal) = c2 fun _ _ => 0 := by
  funext i
  pointwise [k0_pay6]
  simp only [c2_apply, zero_coe]

theorem gate_block₀ : k0_pay7 (F := Ideal) (c2 X) (c2 fun _ : Fin 1 => G) (c3 fun _ : Fin 1 => V) = c2 (inner (fun t k => X t k * inv (X t) * G k) V) := by
  funext i
  pointwise [k0_pay7, xn_block]
  simp only [c2_apply, c3_apply, mul_coe, sum_coe]
  rfl

theorem load_block : k0_pay8 (F := Ideal) (c3 fun _ : Fin 1 => V) = c2 V := by
  funext i
  pointwise [k0_pay8]
  rfl

theorem up_block₀ : k0_pay9 (F := Ideal) (c2 A) (c2 V) = c2 (inner A V) := by
  funext i
  pointwise [k0_pay9]
  simp only [c2_apply, mul_coe, sum_coe]
  rfl

theorem gate_store₀ : k0_pay10 (F := Ideal) (c2 g) = c2 g := by
  funext i
  pointwise [k0_pay10]

theorem up_store₀ : k0_pay11 (F := Ideal) (c2 A) (c2 V) = c2 (inner A V) := by
  funext i
  pointwise [k0_pay11, up_block₀]

theorem acc_block : k0_pay12 (F := Ideal) (c2 A) (c2 Z) (c2 g) (c2 V) (c2 B) = c2 fun t k => Z t k + outer g (inner A V) B t k := by
  funext i
  pointwise [k0_pay12, up_block₀]
  simp only [c2_apply, lit_half, mul_coe, Ideal.tanh_coe, add_coe, logi_tanh, sum_coe]
  rfl

theorem gate_block₁ : k0_pay13 (F := Ideal) (c2 A) (c3 fun _ : Fin 1 => V) = c2 (inner A V) := by
  funext i
  pointwise [k0_pay13]
  simp only [c2_apply, c3_apply, mul_coe, sum_coe]
  rfl

theorem up_block₁ : k0_pay14 (F := Ideal) (c2 A) (c3 fun _ : Fin 1 => V) = c2 (inner A V) := by
  funext i
  pointwise [k0_pay14]
  simp only [c2_apply, c3_apply, mul_coe, sum_coe]
  rfl

theorem gate_store₁ : k0_pay15 (F := Ideal) (c2 A) (c3 fun _ : Fin 1 => V) = c2 (inner A V) := by
  funext i
  pointwise [k0_pay15, gate_block₁]

theorem up_store₁ : k0_pay16 (F := Ideal) (c2 A) (c3 fun _ : Fin 1 => V) = c2 (inner A V) := by
  funext i
  pointwise [k0_pay16, up_block₁]

theorem tanh_block : k0_pay17 (F := Ideal) (c2 A) (c3 fun _ : Fin 1 => V) = c2 fun t j => Real.tanh (1 / 2 * inner A V t j) := by
  funext i
  pointwise [k0_pay17, gate_block₁]
  simp only [c2_apply, lit_half, mul_coe, Ideal.tanh_coe]

/-- The literal one half, as the body writes it. -/
abbrev hf : Ideal .f32 := FloatOps.ofBits .f32 0x3F000000#32

theorem left_block : k0_pay18 (F := Ideal) (c2 X) (c2 Z) (c2 g) (c2 u) (c2 fun t j => Real.tanh (1 / 2 * g t j)) hf (c2 B) = c2 (left X Z g u B) := by
  funext i
  pointwise [k0_pay18, hf]
  simp only [c2_apply, lit_half, mul_coe, add_coe, logi_tanh, sum_coe]
  rfl

theorem inv_block : k0_pay22 (F := Ideal) (c2 X) (c2 Z) (c2 g) (c2 u) (c2 fun t j => Real.tanh (1 / 2 * g t j)) hf (c2 B) = c2 fun t _ => inv (left X Z g u B t) := by
  simp only [k0_pay22, left_block]
  funext i
  pointwise
  simp only [c2_apply, lit_1024, lit_eps, mul_coe, sum_coe, add_coe, div_coe _ _ (show (1024 : ℝ) ≠ 0 by norm_num)]
  exact rsqrt_msq _

theorem xh_block : k0_pay23 (F := Ideal) (c2 X) (c2 Z) (c2 g) (c2 u) (c2 fun t j => Real.tanh (1 / 2 * g t j)) hf (c2 B)
    = c2 fun t k => left X Z g u B t k * inv (left X Z g u B t) := by
  simp only [k0_pay23, left_block, inv_block]
  funext i
  pointwise
  simp only [c2_apply, mul_coe]
  rfl

theorem miss_block : k0_pay24 (F := Ideal) (c2 X) (c2 Z) (c2 g) (c2 u) (c2 fun t j => Real.tanh (1 / 2 * g t j)) hf (c2 B) (c2 T) (c2 fun _ : Fin 1 => G)
    = c2 fun t k => Loss.miss (left X Z g u B t) G (T t) k := by
  simp only [k0_pay24, xh_block, k0_pay21]
  funext i
  pointwise
  simp only [c2_apply, mul_coe, sub_coe]
  rfl

theorem squares_block : k0_pay26 (F := Ideal) (c2 X) (c2 Z) (c2 g) (c2 u) (c2 fun t j => Real.tanh (1 / 2 * g t j)) hf (c2 B) (c2 T) (c2 fun _ : Fin 1 => G)
    = c2 fun (_ _ : Fin 1) => ∑ t, ∑ k, Loss.miss (left X Z g u B t) G (T t) k * Loss.miss (left X Z g u B t) G (T t) k := by
  simp only [k0_pay26, miss_block]
  funext i
  pointwise
  simp only [c2_apply, mul_coe, sum_coe]
  rfl

theorem loss_block (y s : ℝ) : k0_pay1 (F := Ideal) (k0_pay25 (c2 fun (_ _ : Fin 1) => y)) (c2 fun (_ _ : Fin 1) => s) k0_pay27
    = c2 fun (_ _ : Fin 1) => y + 1 / 2 * s / 1024 := by
  funext i
  pointwise [k0_pay1, k0_pay25, k0_pay27]
  simp only [c2_apply, lit_half, lit_1024, mul_coe, add_coe, div_coe _ _ (show (1024 : ℝ) ≠ 0 by norm_num)]

theorem dg_block (y : Fin 1024 → ℝ) : k0_pay3 (F := Ideal) (c2 Y) (c2 D) (c2 fun _ : Fin 1 => y) = c2 fun _ k => y k + ∑ t, D t k / 1024 * Y t k := by
  funext i
  pointwise [k0_pay3, k0_pay2]
  simp only [c2_apply, lit_1024, mul_coe, sum_coe, add_coe, div_coe _ _ (show (1024 : ℝ) ≠ 0 by norm_num)]
  rfl

theorem dx_block : k0_pay4 (F := Ideal) (k0_pay21 (c2 fun _ : Fin 1 => G)) (c2 fun t (_ : Fin 1) => inv (Y t)) (c2 fun t k => Y t k * inv (Y t)) (c2 D)
    = c2 fun t k => rmsBwd (Y t) G (fun k => D t k / 1024) k := by
  funext i
  pointwise [k0_pay4, k0_pay2, k0_pay21]
  simp only [c2_apply, lit_1024, mul_coe, sum_coe, sub_coe, div_coe _ _ (show (1024 : ℝ) ≠ 0 by norm_num)]
  rfl

theorem loss_zero : k0_pay19 (F := Ideal) = c2 fun (_ _ : Fin 1) => 0 := by
  funext i
  pointwise [k0_pay19]
  simp only [c2_apply, zero_coe]

theorem dg_zero : k0_pay20 (F := Ideal) = c2 fun (_ : Fin 1) _ => 0 := by
  funext i
  pointwise [k0_pay20]
  simp only [c2_apply, zero_coe]

end Cert.LossHeadIdeal.Body
-- ==== Proof.LossEntry.lean ====
/-
  What the last feed-forward layer's call with the loss finds when its region starts, over real arguments: the packed weights, and
  the blocks the pipeline stages at a grid point.
-/
module

public import proofs.«01_k».proof.Proof.Gen.LossHeadIdeal.Value
public import proofs.«01_k».proof.Proof.LossSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.LossHeadIdeal.Entry

open Cert.LossHeadIdeal Cert.LossHeadIdeal.Gen Idealize.ShloMosaic Idealize.ShloMosaic.TcCoe Idealize.SL.Sem Step

variable (m : (ℓ : Loc nD τ sig) → Buf (Elt Ideal) ℓ)

/-- The call's arguments on device `c` are arrays of real numbers: the layer's, the target `T` and the final gain `E`. -/
structure Real (c : Dev nD) where
  X : Fin 8192 → Fin 1024 → ℝ
  G : Fin 1024 → ℝ
  W : Fin 1024 → Fin 5632 → ℝ
  O : Fin 2816 → Fin 1024 → ℝ
  T : Fin 8192 → Fin 1024 → ℝ
  E : Fin 1024 → ℝ
  hX : m ((c : Thread nD τ).loc main_arg0) = c2 X
  hG : m ((c : Thread nD τ).loc main_arg1) = c1 G
  hW : m ((c : Thread nD τ).loc main_arg2) = c2 W
  hO : m ((c : Thread nD τ).loc main_arg3) = c2 O
  hT : m ((c : Thread nD τ).loc main_arg4) = c2 T
  hE : m ((c : Thread nD τ).loc main_arg5) = c1 E

variable {m} {c : Dev nD} (a : Real m c)

/-- The inner weights by quarters of their columns, and the outer ones by quarters of their rows. -/
theorem inner_entry : (V m c main_v2 : S4x1024x1408.Idx → EReal) = c3 fun q k j => a.W k (Ffn.quarter q.val q.isLt j) := by
  entry_read
  rw [a.hW]
  funext i
  pointwise
  rfl

theorem outer_entry : (V m c main_v4 : S4x704x1024.Idx → EReal) = c3 fun q j k => a.O ⟨q.val * 704 + j.val, by omega⟩ k := by
  entry_read
  rw [a.hO]
  funext i
  pointwise
  rfl

/-- Row `r` of the block staged at grid point `t`. -/
def row (t : Fin cfg0.N) (r : Fin 512) : Fin 8192 := ⟨t.val * 512 + r.val, by have := t.isLt; have : cfg0.N = 16 := N_0; omega⟩

theorem x_block (t : Fin cfg0.N) : iblk m c 0 t = c2 fun r k => a.X (row t r) k := by
  have idx : ∀ t : Fin cfg0.N, win0_0.index t = ![t.val, 0] := (by decide +kernel : ∀ t : Fin grid0.N, _)
  funext i
  have e : iblk m c 0 t i = (c2 a.X : S8192x1024.Idx → EReal) (ix2 (row t (i 0)) (i 1)) := by
    rw [← a.hX]
    blk_ext [iblk, V, row, idx t]
  exact e

theorem t_block (t : Fin cfg0.N) : iblk m c 2 t = c2 fun r k => a.T (row t r) k := by
  have idx : ∀ t : Fin cfg0.N, win0_2.index t = ![t.val, 0] := (by decide +kernel : ∀ t : Fin grid0.N, _)
  funext i
  have e : iblk m c 2 t i = (c2 a.T : S8192x1024.Idx → EReal) (ix2 (row t (i 0)) (i 1)) := by
    rw [← a.hT]
    blk_ext [iblk, V, row, idx t]
  exact e

theorem g_block (t : Fin cfg0.N) : iblk m c 1 t = c2 fun (_ : Fin 1) k => a.G k := by
  have idx : ∀ t : Fin cfg0.N, win0_1.index t = ![0, 0] := (by decide +kernel : ∀ t : Fin grid0.N, _)
  funext i
  have e : iblk m c 1 t i = (V m c main_v5 : S1x1024.Idx → EReal) (ix2 (i 0) (i 1)) := by
    blk_ext [iblk, idx t]
  rw [e]
  entry_read
  rw [a.hG]
  pointwise
  rfl

theorem e_block (t : Fin cfg0.N) : iblk m c 3 t = c2 fun (_ : Fin 1) k => a.E k := by
  have idx : ∀ t : Fin cfg0.N, win0_3.index t = ![0, 0] := (by decide +kernel : ∀ t : Fin grid0.N, _)
  funext i
  have e : iblk m c 3 t i = (V m c main_v6 : S1x1024.Idx → EReal) (ix2 (i 0) (i 1)) := by
    blk_ext [iblk, idx t]
  rw [e]
  entry_read
  rw [a.hE]
  pointwise
  rfl

end Cert.LossHeadIdeal.Entry
-- ==== Proof.LossHeld.lean ====
/-
  The weights the last feed-forward layer copies into its scratch at the first grid point and keeps: what the scratch holds at
  every point.
-/
module

public import proofs.«01_k».proof.Proof.LossEntry
public import Idealize.ShloMosaic.Lib.Pipeline.ValueKit.Held

@[expose] public section

set_option maxRecDepth 16384

noncomputable section

namespace Cert.LossHeadIdeal.Entry

open Cert.LossHeadIdeal Cert.LossHeadIdeal.Gen Idealize.ShloMosaic Idealize.ShloMosaic.TcCoe Idealize.SL.Sem Step

variable {m : (ℓ : Loc nD τ sig) → Buf (Elt Ideal) ℓ} {c : Dev nD} (a : Real m c)

/-- The inner weights' scratch. -/
def win : S4x1024x1408.Idx → EReal := c3 fun q k j => a.W k (Ffn.quarter q.val q.isLt j)
/-- The outer weights' scratch. -/
def wout : S2816x1024.Idx → EReal := c2 a.O

/-- The slices copied into the inner weights' scratch fill it. -/
theorem win_pieces (h3 h2 h1 h0) (i : S4x1024x1408.Idx) :
    View.canon (Val := Elt Ideal) (s := S4x1024x1408) (e := .bf16)
      [⟨Rect.unit ![3, 0, 0] ![1, 1024, 1408] h3, ReadAs.same.apply (View.read (Elt Ideal) ((View.whole main_v2).slice (Rect.unit ![3, 0, 0] ![1, 1024, 1408] h3)) (V m c main_v2))⟩,
       ⟨Rect.unit ![2, 0, 0] ![1, 1024, 1408] h2, ReadAs.same.apply (View.read (Elt Ideal) ((View.whole main_v2).slice (Rect.unit ![2, 0, 0] ![1, 1024, 1408] h2)) (V m c main_v2))⟩,
       ⟨Rect.unit ![1, 0, 0] ![1, 1024, 1408] h1, ReadAs.same.apply (View.read (Elt Ideal) ((View.whole main_v2).slice (Rect.unit ![1, 0, 0] ![1, 1024, 1408] h1)) (V m c main_v2))⟩,
       ⟨Rect.unit ![0, 0, 0] ![1, 1024, 1408] h0, ReadAs.same.apply (View.read (Elt Ideal) ((View.whole main_v2).slice (Rect.unit ![0, 0, 0] ![1, 1024, 1408] h0)) (V m c main_v2))⟩] i
      = win a i := by
  rw [← List.append_nil (_ :: _)]
  refine (View.canon_append_of_piecesOf (win a) [] _ ?_ _ (View.cover_of_tiledL _ ![1, 1024, 1408] (by sl_kernel_rfl) _)).trans rfl
  rw [win, ← inner_entry a]
  exact ⟨fun x => rfl, fun x => rfl, fun x => rfl, fun x => rfl, trivial⟩

/-- Read back, the inner weights' scratch so filled is the inner weights. -/
theorem win_fill (v : View sig .tc .vmem S4x1024x1408 .bf16) (h3 h2 h1 h0) (B : Rect S4x1024x1408) :
    v.readCov (Val := Elt Ideal)
      [⟨Rect.unit ![3, 0, 0] ![1, 1024, 1408] h3, ReadAs.same.apply (View.read (Elt Ideal) ((View.whole main_v2).slice (Rect.unit ![3, 0, 0] ![1, 1024, 1408] h3)) (V m c main_v2))⟩,
       ⟨Rect.unit ![2, 0, 0] ![1, 1024, 1408] h2, ReadAs.same.apply (View.read (Elt Ideal) ((View.whole main_v2).slice (Rect.unit ![2, 0, 0] ![1, 1024, 1408] h2)) (V m c main_v2))⟩,
       ⟨Rect.unit ![1, 0, 0] ![1, 1024, 1408] h1, ReadAs.same.apply (View.read (Elt Ideal) ((View.whole main_v2).slice (Rect.unit ![1, 0, 0] ![1, 1024, 1408] h1)) (V m c main_v2))⟩,
       ⟨Rect.unit ![0, 0, 0] ![1, 1024, 1408] h0, ReadAs.same.apply (View.read (Elt Ideal) ((View.whole main_v2).slice (Rect.unit ![0, 0, 0] ![1, 1024, 1408] h0)) (V m c main_v2))⟩] B.toLoadRect
      = View.ld (win a) B := by
  rw [View.readCov_eq_canon']
  funext j
  exact win_pieces a h3 h2 h1 h0 _

/-- A slab of 704 rows, its leading axis of size one dropped. -/
theorem slab (Y : FVec Ideal S1x704x1024 .bf16) (f : S1x704x1024.ShapeCasts S704x1024) (x : S704x1024.Idx) :
    shapeCast S704x1024 Y f x = Y (ix3 0 (x 0) (x 1)) := by
  pointwise

/-- The slab copied into a quarter of the outer weights' rows is that quarter. -/
theorem wout_slice (q r : ℕ) (hq : q < 4) (hr : r = q * 704) (e : ∀ b, ![q, 0, 0] b + ![1, 704, 1024] b ≤ S4x704x1024.size b) (f : S1x704x1024.ShapeCasts S704x1024)
    (h : ∀ b, ![r, 0] b + ![704, 1024] b ≤ S2816x1024.size b) (x : (Rect.unit (s := S2816x1024) ![r, 0] ![704, 1024] h).shape.Idx) :
    ReadAs.same.apply (View.read (Elt Ideal) (((View.whole main_v4).slice (Rect.unit ![q, 0, 0] ![1, 704, 1024] e)).reshape S704x1024 f) (V m c main_v4)) x
      = wout a ((Rect.unit ![r, 0] ![704, 1024] h).emb x) := by
  refine (slab (View.ld (V m c main_v4 : S4x704x1024.Idx → EReal) (Rect.unit ![q, 0, 0] ![1, 704, 1024] e)) f x).trans ?_
  rw [outer_entry a]
  unfold wout
  show ((a.O _ _ : ℝ) : EReal) = ((a.O _ _ : ℝ) : EReal)
  congr 2
  · apply Fin.ext
    show (q + 1 * 0) * 704 + (0 + 1 * (x 0).val) = r + 1 * (x 0).val
    omega
/-- The slabs copied into the outer weights' scratch fill it. -/
theorem wout_pieces (h3 h2 h1 h0 e3 e2 e1 e0 f3 f2 f1 f0) (i : S2816x1024.Idx) :
    View.canon (Val := Elt Ideal) (s := S2816x1024) (e := .bf16)
      [⟨Rect.unit ![2112, 0] ![704, 1024] h3, ReadAs.same.apply (View.read (Elt Ideal) (((View.whole main_v4).slice (Rect.unit ![3, 0, 0] ![1, 704, 1024] e3)).reshape S704x1024 f3) (V m c main_v4))⟩,
       ⟨Rect.unit ![1408, 0] ![704, 1024] h2, ReadAs.same.apply (View.read (Elt Ideal) (((View.whole main_v4).slice (Rect.unit ![2, 0, 0] ![1, 704, 1024] e2)).reshape S704x1024 f2) (V m c main_v4))⟩,
       ⟨Rect.unit ![704, 0] ![704, 1024] h1, ReadAs.same.apply (View.read (Elt Ideal) (((View.whole main_v4).slice (Rect.unit ![1, 0, 0] ![1, 704, 1024] e1)).reshape S704x1024 f1) (V m c main_v4))⟩,
       ⟨Rect.unit ![0, 0] ![704, 1024] h0, ReadAs.same.apply (View.read (Elt Ideal) (((View.whole main_v4).slice (Rect.unit ![0, 0, 0] ![1, 704, 1024] e0)).reshape S704x1024 f0) (V m c main_v4))⟩] i
      = wout a i := by
  rw [← List.append_nil (_ :: _)]
  refine (View.canon_append_of_piecesOf (wout a) [] _ ?_ _ (View.cover_of_tiledL _ ![704, 1024] (by sl_kernel_rfl) _)).trans rfl
  refine ⟨fun x => ?_, fun x => ?_, fun x => ?_, fun x => ?_, trivial⟩
  · exact wout_slice a 3 2112 (by decide) (by decide) e3 f3 h3 x
  · exact wout_slice a 2 1408 (by decide) (by decide) e2 f2 h2 x
  · exact wout_slice a 1 704 (by decide) (by decide) e1 f1 h1 x
  · exact wout_slice a 0 0 (by decide) (by decide) e0 f0 h0 x

/-- Read back, the outer weights' scratch so filled is the outer weights. -/
theorem wout_fill (v : View sig .tc .vmem S2816x1024 .bf16) (h3 h2 h1 h0 e3 e2 e1 e0 f3 f2 f1 f0) (B : Rect S2816x1024) :
    v.readCov (Val := Elt Ideal)
      [⟨Rect.unit ![2112, 0] ![704, 1024] h3, ReadAs.same.apply (View.read (Elt Ideal) (((View.whole main_v4).slice (Rect.unit ![3, 0, 0] ![1, 704, 1024] e3)).reshape S704x1024 f3) (V m c main_v4))⟩,
       ⟨Rect.unit ![1408, 0] ![704, 1024] h2, ReadAs.same.apply (View.read (Elt Ideal) (((View.whole main_v4).slice (Rect.unit ![2, 0, 0] ![1, 704, 1024] e2)).reshape S704x1024 f2) (V m c main_v4))⟩,
       ⟨Rect.unit ![704, 0] ![704, 1024] h1, ReadAs.same.apply (View.read (Elt Ideal) (((View.whole main_v4).slice (Rect.unit ![1, 0, 0] ![1, 704, 1024] e1)).reshape S704x1024 f1) (V m c main_v4))⟩,
       ⟨Rect.unit ![0, 0] ![704, 1024] h0, ReadAs.same.apply (View.read (Elt Ideal) (((View.whole main_v4).slice (Rect.unit ![0, 0, 0] ![1, 704, 1024] e0)).reshape S704x1024 f0) (V m c main_v4))⟩] B.toLoadRect
      = View.ld (wout a) B := by
  rw [View.readCov_eq_canon']
  funext j
  exact wout_pieces a h3 h2 h1 h0 e3 e2 e1 e0 f3 f2 f1 f0 _

/-- At every grid point the scratch holds the inner weights … -/
theorem win_held (t : Fin cfg0.N) : (outsAt0 m c t.val t.isLt).2.2.2.2.2.1 = win a := by
  funext i
  refine Pipeline.eq_of_write_hold_apply (fun n h => (outsAt0 m c n h).2.2.2.2.2.1) 16 (fun _ => win a) (fun t h i => ?_) (fun t h i => ?_) t i
  · rw [outsAt0_A m c t h h]
    frame_out
    exact win_pieces a _ _ _ _ i
  · rw [outsAt0_B m c t h h]
    rfl

/-- … and the outer weights. -/
theorem wout_held (t : Fin cfg0.N) : (outsAt0 m c t.val t.isLt).2.2.2.2.2.2 = wout a := by
  funext i
  refine Pipeline.eq_of_write_hold_apply (fun n h => (outsAt0 m c n h).2.2.2.2.2.2) 16 (fun _ => wout a) (fun t h i => ?_) (fun t h i => ?_) t i
  · rw [outsAt0_A m c t h h]
    frame_out
    exact wout_pieces a _ _ _ _ _ _ _ _ _ _ _ _ i
  · rw [outsAt0_B m c t h h]
    rfl

end Cert.LossHeadIdeal.Entry
-- ==== Proof.LossOuts.lean ====
/-
  What the body of the last feed-forward layer's call with the loss leaves at a grid point: the block of each result, in real
  numbers.
-/
module

public import proofs.«01_k».proof.Proof.LossBody
public import proofs.«01_k».proof.Proof.LossHeld
public import Idealize.ShloMosaic.Lib.Pipeline.ReadBack

@[expose] public section

set_option maxRecDepth 16384

noncomputable section

namespace Cert.LossHeadIdeal.Entry

open Cert.LossHeadIdeal Cert.LossHeadIdeal.Gen Idealize.ShloMosaic Idealize.ShloMosaic.TcCoe Idealize.SL.Sem Step Body

variable {m : (ℓ : Loc nD τ sig) → Buf (Elt Ideal) ℓ} {c : Dev nD} (a : Real m c)

/-! ## Reading a tile -/

theorem ld_hidden (H : Fin 512 → Fin 5632 → ℝ) (q o : ℕ) (hq : q < 4) (ho : o = q * 1408) (h) :
    View.ld (Val := Elt Ideal) (e' := .bf16) (c2 H : S512x5632.Idx → EReal) (Rect.unit (s := S512x5632) ![0, o] ![512, 1408] h)
      = c2 fun t j => H t (Ffn.quarter q hq j) := by
  funext i
  refine congrArg Real.toEReal (congrArg₂ H (Fin.ext ?_) (Fin.ext ?_))
  · show 0 + 1 * (i 0).val = (i 0).val
    omega
  · show o + 1 * (i 1).val = q * 1408 + (i 1).val
    omega

theorem ld_outer (p o : ℕ) (hp : p < 2) (ho : o = p * 1408) (h) :
    View.ld (Val := Elt Ideal) (e' := .bf16) (wout a) (Rect.unit (s := S2816x1024) ![o, 0] ![1408, 1024] h) = c2 fun j k => a.O (Loss.half p hp j) k := by
  funext i
  refine congrArg Real.toEReal (congrArg₂ a.O (Fin.ext ?_) (Fin.ext ?_))
  · show o + 1 * (i 0).val = p * 1408 + (i 0).val
    omega
  · show 0 + 1 * (i 1).val = (i 1).val
    omega

theorem ld_inner (q : ℕ) (hq : q < 4) (h) :
    View.ld (Val := Elt Ideal) (e' := .bf16) (win a) (Rect.unit (s := S4x1024x1408) ![q, 0, 0] ![1, 1024, 1408] h)
      = c3 fun (_ : Fin 1) k j => a.W k (Ffn.quarter q hq j) := by
  funext i
  have h0 : (i 0).val = 0 := Nat.lt_one_iff.mp (i 0).isLt
  refine congrArg Real.toEReal (congrArg₂ a.W (Fin.ext ?_) (Fin.ext ?_))
  · show 0 + 1 * (i 1).val = (i 1).val
    omega
  · show (q + 1 * (i 0).val) * 1408 + (0 + 1 * (i 2).val) = q * 1408 + (i 2).val
    rw [h0]
    omega

/-! ## The rows of a block -/

/-- The inner product's row, and the row the layer leaves, of the block's row `r`. -/
abbrev hrow (t : Fin cfg0.N) (r : Fin 512) : Fin 5632 → ℝ := Ffn.pre (a.X (row t r)) a.G a.W
abbrev lrow (t : Fin cfg0.N) (r : Fin 512) : Fin 1024 → ℝ := Loss.leaves (a.X (row t r)) a.G a.W a.O
abbrev mrow (t : Fin cfg0.N) (r : Fin 512) : Fin 1024 → ℝ := Loss.miss (lrow a t r) a.E (a.T (row t r))

/-- A tile of the inner product. -/
theorem tile (t : Fin cfg0.N) (q : ℕ) (hq : q < 4) :
    inner (fun r k => a.X (row t r) k * inv (a.X (row t r)) * a.G k) (fun k j => a.W k (Ffn.quarter q hq j)) = fun r j => hrow a t r (Ffn.quarter q hq j) := rfl

/-- The tiles' products, one half after the other, are the layer's. -/
theorem lefts (t : Fin cfg0.N) (h0 : 0 < 4) (h1 : 1 < 4) (h2 : 2 < 4) (h3 : 3 < 4) (p0 : 0 < 2) (p1 : 1 < 2) :
    left (fun r k => a.X (row t r) k)
        (fun r k => 0 + outer (fun r j => hrow a t r (Ffn.quarter 0 h0 j)) (fun r j => hrow a t r (Ffn.quarter 2 h2 j)) (fun j k => a.O (Loss.half 0 p0 j) k) r k)
        (fun r j => hrow a t r (Ffn.quarter 1 h1 j)) (fun r j => hrow a t r (Ffn.quarter 3 h3 j)) (fun j k => a.O (Loss.half 1 p1 j) k)
      = lrow a t := by
  funext r k
  rw [lrow, Loss.leaves_halves]
  simp only [Loss.act_half _ 0 0 2 p0 h0 h2 rfl rfl, Loss.act_half _ 1 1 3 p1 h1 h3 rfl rfl]
  rfl

/-! ## The body's results -/

theorem win_before (t : Fin cfg0.N) (h) : (outsAt0 m c (t.val - 1) h).2.2.2.2.2.1 = win a := win_held a ⟨t.val - 1, h⟩
theorem wout_before (t : Fin cfg0.N) (h) : (outsAt0 m c (t.val - 1) h).2.2.2.2.2.2 = wout a := wout_held a ⟨t.val - 1, h⟩

theorem dx_out (t : Fin cfg0.N) : (outsAt0 m c t.val t.isLt).1 = c2 fun r k => rmsBwd (lrow a t r) a.E (fun k => mrow a t r k / 1024) k := by
  by_cases h : t.val % 16 = 0
  on_goal 1 => rw [outsAt0_A m c t h h]; frame_out; simp only [win_fill a, wout_fill a]
  on_goal 2 => rw [outsAt0_B m c t h h]; frame_out; simp only [read_unread_whole, win_before a, wout_before a]
  all_goals
    simp only [x_block a, t_block a, g_block a, e_block a, ld_inner a 0 (by decide), ld_inner a 1 (by decide), ld_inner a 2 (by decide), ld_inner a 3 (by decide), ld_outer a 0 0 (by decide) rfl, ld_outer a 1 1408 (by decide) rfl]
    simp only [xn_block, gate_block₀, load_block, zero_block, acc_block, gate_block₁, up_block₁, tanh_block, tile]
    simp only [inv_block, xh_block, miss_block, dx_block, lefts]

theorem h_out (t : Fin cfg0.N) : (outsAt0 m c t.val t.isLt).2.1 = c2 (hrow a t) := by
  by_cases h : t.val % 16 = 0
  on_goal 1 => rw [outsAt0_A m c t h h]; frame_out; simp only [win_fill a, wout_fill a]
  on_goal 2 => rw [outsAt0_B m c t h h]; frame_out; simp only [read_unread_whole, win_before a, wout_before a]
  all_goals
    simp only [x_block a, t_block a, g_block a, e_block a, ld_inner a 0 (by decide), ld_inner a 1 (by decide), ld_inner a 2 (by decide), ld_inner a 3 (by decide), ld_outer a 0 0 (by decide) rfl, ld_outer a 1 1408 (by decide) rfl]
    simp only [xn_block, gate_block₀, load_block, gate_store₀, up_store₀, gate_store₁, up_store₁, tile]
    funext i
    rw [← List.append_nil (_ :: _)]
    refine (View.canon_append_of_piecesOf (c2 (hrow a t) : S512x5632.Idx → EReal) [] _ ?_ _ (View.cover_of_tiledL _ ![512, 1408] (by sl_kernel_rfl) _)).trans rfl
    exact ⟨fun x => (congrFun (ld_hidden (hrow a t) 3 4224 (by decide) rfl inb_S512x5632_S512x1408_0_4224) x).symm, fun x => (congrFun (ld_hidden (hrow a t) 1 1408 (by decide) rfl inb_S512x5632_S512x1408_0_1408) x).symm,
      fun x => (congrFun (ld_hidden (hrow a t) 2 2816 (by decide) rfl inb_S512x5632_S512x1408_0_2816) x).symm, fun x => (congrFun (ld_hidden (hrow a t) 0 0 (by decide) rfl inb_S512x5632_S512x1408_0_0) x).symm, trivial⟩

theorem xn_out (t : Fin cfg0.N) : (outsAt0 m c t.val t.isLt).2.2.1 = c2 fun r k => a.X (row t r) k * inv (a.X (row t r)) * a.G k := by
  by_cases h : t.val % 16 = 0
  on_goal 1 => rw [outsAt0_A m c t h h]; frame_out
  on_goal 2 => rw [outsAt0_B m c t h h]; frame_out
  all_goals simp only [x_block a, g_block a, xn_block]

/-- A block's share of the loss and of the final gain's gradient. -/
def lshare (t : Fin cfg0.N) : ℝ := 1 / 2 * (∑ r, ∑ k, mrow a t r k * mrow a t r k) / 1024
def gshare (t : Fin cfg0.N) (k : Fin 1024) : ℝ := ∑ r, mrow a t r k / 1024 * (lrow a t r k * inv (lrow a t r))

theorem loss_first (t : Fin cfg0.N) (h : t.val % 16 = 0) : (outsAt0 m c t.val t.isLt).2.2.2.1 = c2 fun (_ _ : Fin 1) => 0 + lshare a t := by
  rw [outsAt0_A m c t h h]; frame_out; simp only [win_fill a, wout_fill a]
  simp only [x_block a, t_block a, g_block a, e_block a, ld_inner a 0 (by decide), ld_inner a 1 (by decide), ld_inner a 2 (by decide), ld_inner a 3 (by decide), ld_outer a 0 0 (by decide) rfl, ld_outer a 1 1408 (by decide) rfl]
  simp only [xn_block, gate_block₀, load_block, zero_block, acc_block, gate_block₁, up_block₁, tanh_block, tile]
  simp only [squares_block, loss_zero, loss_block, lefts]
  rfl

theorem loss_next (t : Fin cfg0.N) (h : ¬ t.val % 16 = 0) (y : ℝ) (hy : (outsAt0 m c (t.val - 1) (Nat.lt_of_le_of_lt (Nat.sub_le _ _) t.isLt)).2.2.2.1 = c2 fun (_ _ : Fin 1) => y) :
    (outsAt0 m c t.val t.isLt).2.2.2.1 = c2 fun (_ _ : Fin 1) => y + lshare a t := by
  rw [outsAt0_B m c t h h]; frame_out; simp only [read_unread_whole, win_before a, wout_before a]
  simp only [x_block a, t_block a, g_block a, e_block a, ld_inner a 0 (by decide), ld_inner a 1 (by decide), ld_inner a 2 (by decide), ld_inner a 3 (by decide), ld_outer a 0 0 (by decide) rfl, ld_outer a 1 1408 (by decide) rfl]
  simp only [xn_block, gate_block₀, load_block, zero_block, acc_block, gate_block₁, up_block₁, tanh_block, tile]
  simp only [squares_block, hy, loss_block, lefts]
  rfl

theorem dg_first (t : Fin cfg0.N) (h : t.val % 16 = 0) : (outsAt0 m c t.val t.isLt).2.2.2.2.1 = c2 fun (_ : Fin 1) k => 0 + gshare a t k := by
  rw [outsAt0_A m c t h h]; frame_out; simp only [win_fill a, wout_fill a]
  simp only [x_block a, t_block a, g_block a, e_block a, ld_inner a 0 (by decide), ld_inner a 1 (by decide), ld_inner a 2 (by decide), ld_inner a 3 (by decide), ld_outer a 0 0 (by decide) rfl, ld_outer a 1 1408 (by decide) rfl]
  simp only [xn_block, gate_block₀, load_block, zero_block, acc_block, gate_block₁, up_block₁, tanh_block, tile]
  simp only [xh_block, miss_block, dg_zero, dg_block, lefts]
  rfl

theorem dg_next (t : Fin cfg0.N) (h : ¬ t.val % 16 = 0) (y : Fin 1024 → ℝ) (hy : (outsAt0 m c (t.val - 1) (Nat.lt_of_le_of_lt (Nat.sub_le _ _) t.isLt)).2.2.2.2.1 = c2 fun (_ : Fin 1) => y) :
    (outsAt0 m c t.val t.isLt).2.2.2.2.1 = c2 fun (_ : Fin 1) k => y k + gshare a t k := by
  rw [outsAt0_B m c t h h]; frame_out; simp only [read_unread_whole, win_before a, wout_before a]
  simp only [x_block a, t_block a, g_block a, e_block a, ld_inner a 0 (by decide), ld_inner a 1 (by decide), ld_inner a 2 (by decide), ld_inner a 3 (by decide), ld_outer a 0 0 (by decide) rfl, ld_outer a 1 1408 (by decide) rfl]
  simp only [xn_block, gate_block₀, load_block, zero_block, acc_block, gate_block₁, up_block₁, tanh_block, tile]
  simp only [xh_block, miss_block, hy, dg_block, lefts]
  rfl

end Cert.LossHeadIdeal.Entry
-- ==== Proof.LossArr.lean ====
/-
  What the result arrays of the last feed-forward layer's call with the loss hold when it has run.
-/
module

public import proofs.«01_k».proof.Proof.LossOuts

@[expose] public section

set_option maxRecDepth 16384

noncomputable section

namespace Cert.LossHeadIdeal.Entry

open Cert.LossHeadIdeal Cert.LossHeadIdeal.Gen Idealize.ShloMosaic Idealize.ShloMosaic.TcCoe Idealize.SL.Sem Step Body

variable {m : (ℓ : Loc nD τ sig) → Buf (Elt Ideal) ℓ} {c : Dev nD} (a : Real m c)

/-- Every row: what the layer leaves, and how far its norm misses the target. -/
abbrev LEFT (t : Fin 8192) : Fin 1024 → ℝ := Loss.leaves (a.X t) a.G a.W a.O
abbrev MISS (t : Fin 8192) : Fin 1024 → ℝ := Loss.miss (LEFT a t) a.E (a.T t)

/-- The whole result arrays, in real numbers. -/
def DX (t : Fin 8192) (k : Fin 1024) : ℝ := rmsBwd (LEFT a t) a.E (fun k => MISS a t k / 1024) k
def HID (t : Fin 8192) : Fin 5632 → ℝ := Ffn.pre (a.X t) a.G a.W
def XN (t : Fin 8192) (k : Fin 1024) : ℝ := a.X t k * inv (a.X t) * a.G k
def LOSS : ℝ := 1 / 2 * ∑ t, (∑ k, MISS a t k * MISS a t k) / 1024
def DG (k : Fin 1024) : ℝ := ∑ t, MISS a t k / 1024 * (LEFT a t k * inv (LEFT a t))

theorem dx_arr : (dats m 0 c).arrAt 4 cfg0.N = (c2 (DX a) : S8192x1024.Idx → EReal) := by
  have idx : ∀ t : Fin cfg0.N, win0_4.index t = ![t.val, 0] := (by decide +kernel : ∀ t : Fin grid0.N, _)
  refine (dats m 0 c).arrAt_eq_of_covers 4 (c2 (DX a) : S8192x1024.Idx → EReal) (by decide +kernel) fun t hf y => ?_
  blk_simp
  rw [after0_4, dx_out a t]
  have e : (win0_4.blk t).view.emb y = (ix2 (row t (y 0)) (y 1) : S8192x1024.Idx) := by blk_ext [row, idx t]
  rw [e]
  rfl

theorem h_arr : (dats m 0 c).arrAt 5 cfg0.N = (c2 (HID a) : S8192x5632.Idx → EReal) := by
  have idx : ∀ t : Fin cfg0.N, win0_5.index t = ![t.val, 0] := (by decide +kernel : ∀ t : Fin grid0.N, _)
  refine (dats m 0 c).arrAt_eq_of_covers 5 (c2 (HID a) : S8192x5632.Idx → EReal) (by decide +kernel) fun t hf y => ?_
  blk_simp
  rw [after0_5, h_out a t]
  have e : (win0_5.blk t).view.emb y = (ix2 (row t (y 0)) (y 1) : S8192x5632.Idx) := by blk_ext [row, idx t]
  rw [e]
  rfl

theorem xn_arr : (dats m 0 c).arrAt 6 cfg0.N = (c2 (XN a) : S8192x1024.Idx → EReal) := by
  have idx : ∀ t : Fin cfg0.N, win0_6.index t = ![t.val, 0] := (by decide +kernel : ∀ t : Fin grid0.N, _)
  refine (dats m 0 c).arrAt_eq_of_covers 6 (c2 (XN a) : S8192x1024.Idx → EReal) (by decide +kernel) fun t hf y => ?_
  blk_simp
  rw [after0_6, xn_out a t]
  have e : (win0_6.blk t).view.emb y = (ix2 (row t (y 0)) (y 1) : S8192x1024.Idx) := by blk_ext [row, idx t]
  rw [e]
  rfl

/-- After a grid point the loss holds the shares of the blocks so far, … -/
theorem loss_upto (n : ℕ) (h : n < cfg0.N) : (outsAt0 m c n h).2.2.2.1 = c2 fun (_ _ : Fin 1) => ∑ s : Fin (n + 1), lshare a ⟨s.val, by omega⟩ := by
  have hN : cfg0.N = 16 := N_0
  induction n with
  | zero =>
    refine (loss_first a ⟨0, h⟩ rfl).trans ?_
    simp only [Nat.reduceAdd, zero_add, Finset.univ_unique, Finset.sum_singleton]
    rfl
  | succ n ih =>
    refine (loss_next a ⟨n + 1, h⟩ (by show ¬ (n + 1) % 16 = 0; omega) _ (ih (by omega))).trans ?_
    simp only [Fin.sum_univ_castSucc (n := n + 1)]
    rfl

/-- … and so does the final gain's gradient. -/
theorem dg_upto (n : ℕ) (h : n < cfg0.N) : (outsAt0 m c n h).2.2.2.2.1 = c2 fun (_ : Fin 1) k => ∑ s : Fin (n + 1), gshare a ⟨s.val, by omega⟩ k := by
  have hN : cfg0.N = 16 := N_0
  induction n with
  | zero =>
    refine (dg_first a ⟨0, h⟩ rfl).trans ?_
    simp only [Nat.reduceAdd, zero_add, Finset.univ_unique, Finset.sum_singleton]
    rfl
  | succ n ih =>
    refine (dg_next a ⟨n + 1, h⟩ (by show ¬ (n + 1) % 16 = 0; omega) _ (ih (by omega))).trans ?_
    simp only [Fin.sum_univ_castSucc (n := n + 1)]
    rfl

/-- The blocks' shares are the whole loss: halving and dividing go over the sums. -/
theorem lshares : ∑ s : Fin (15 + 1), lshare a ⟨s.val, by have : cfg0.N = 16 := N_0; omega⟩ = LOSS a := by
  have e : LOSS a = ∑ t, 1 / 2 * (∑ k, MISS a t k * MISS a t k) / 1024 := by
    rw [LOSS, Finset.mul_sum]
    exact Finset.sum_congr rfl fun t _ => by ring
  rw [e]
  refine (Finset.sum_congr rfl fun s _ => ?_).trans (sum_blocks 16 512 fun t : Fin 8192 => 1 / 2 * (∑ k, MISS a t k * MISS a t k) / 1024).symm
  rw [lshare, Finset.mul_sum, Finset.sum_div]
  rfl

theorem gshares (k : Fin 1024) : ∑ s : Fin (15 + 1), gshare a ⟨s.val, by have : cfg0.N = 16 := N_0; omega⟩ k = DG a k :=
  (sum_blocks 16 512 fun t : Fin 8192 => MISS a t k / 1024 * (LEFT a t k * inv (LEFT a t))).symm

/-- The last grid point. -/
def last : Fin cfg0.N := ⟨15, by have : cfg0.N = 16 := N_0; omega⟩

theorem loss_last : (dats m 0 c).after 7 last = (c2 fun (_ _ : Fin 1) => LOSS a : S1x1.Idx → EReal) := by
  rw [after0_7]
  refine (loss_upto a 15 last.isLt).trans ?_
  simp only [lshares a]

theorem loss_arr : (dats m 0 c).arrAt 7 cfg0.N = (c2 fun (_ _ : Fin 1) => LOSS a : S1x1.Idx → EReal) := by
  refine (dats m 0 c).arrAt_eq_of_after_last 7 last (by decide +kernel) _ fun j => ?_
  blk_simp
  rw [loss_last a]

theorem dg_last : (dats m 0 c).after 8 last = (c2 fun (_ : Fin 1) => DG a : S1x1024.Idx → EReal) := by
  rw [after0_8]
  refine (dg_upto a 15 last.isLt).trans ?_
  simp only [gshares a]

theorem dg_arr : (dats m 0 c).arrAt 8 cfg0.N = (c2 fun (_ : Fin 1) => DG a : S1x1024.Idx → EReal) := by
  refine (dats m 0 c).arrAt_eq_of_after_last 8 last (by decide +kernel) _ fun j => ?_
  blk_simp
  rw [dg_last a]

end Cert.LossHeadIdeal.Entry
-- ==== Proof.LossRef.lean ====
/-
  What the reference of the last feed-forward layer with the loss computes on arrays of real numbers.
-/
module

public import proofs.«01_k».proof.Proof.LossSpec
public import proofs.«01_k».proof.Proof.FfnRef
public import proofs.«01_k».proof.Proof.Gen.LossHeadRefIdeal.Read
public import Idealize.ShloMosaic.Lib.Pointwise

@[expose] public section

set_option maxRecDepth 16384

noncomputable section

namespace Cert.LossHeadRefIdeal.Stage

open Cert.LossHeadRefIdeal Cert.LossHeadRefIdeal.Gen Cert.LossHeadRefIdeal.Read Idealize.ShloMosaic Step

variable (X : Fin 8192 → Fin 1024 → ℝ) (G : Fin 1024 → ℝ) (W : Fin 1024 → Fin 5632 → ℝ) (O : Fin 2816 → Fin 1024 → ℝ) (T : Fin 8192 → Fin 1024 → ℝ) (E : Fin 1024 → ℝ)

abbrev pre (t : Fin 8192) : Fin 5632 → ℝ := Ffn.pre (X t) G W
abbrev left (t : Fin 8192) : Fin 1024 → ℝ := Loss.leaves (X t) G W O
abbrev miss (t : Fin 8192) : Fin 1024 → ℝ := Loss.miss (left X G W O t) E (T t)

theorem normed : val_main_v12 (F := Ideal) (c2 X) (c1 G) = c2 fun t k => X t k * inv (X t) * G k := by
  funext i
  pointwise [val_main_v12, val_main_v11, val_main_v10, val_main_v9, val_main_v8, val_main_v7, val_main_v6, val_main_v5, val_main_cst_1, val_main_v4, val_main_v3, val_main_cst_0, val_main_v2,
    val_main_v1, val_main_cst, val_main_v0]
  simp only [c1_apply, c2_apply, lit_1024, lit_eps, mul_coe, sum_coe, add_coe, div_coe _ _ (show (1024 : ℝ) ≠ 0 by norm_num)]
  simp only [rsqrt_ms, mul_coe]
  rfl

theorem hid : val_main_v13 (F := Ideal) (c2 X) (c1 G) (c2 W) = c2 (pre X G W) := by
  funext i
  pointwise [val_main_v13, normed]
  simp only [c2_apply, mul_coe, sum_coe]
  rfl

theorem acts : val_main_v17 (F := Ideal) (c2 X) (c1 G) (c2 W) = c2 fun t j => Ffn.act (pre X G W t) j := by
  have gate : val_main_v14 (F := Ideal) (c2 X) (c1 G) (c2 W) = c2 fun t j => pre X G W t (Ffn.lo j) := by
    funext i
    pointwise [val_main_v14, hid]
    rfl
  have up : val_main_v15 (F := Ideal) (c2 X) (c1 G) (c2 W) = c2 fun t j => pre X G W t (Ffn.hi j) := by
    funext i
    pointwise [val_main_v15, hid]
    rfl
  have sig : val_main_call0_v5 (F := Ideal) (c2 X) (c1 G) (c2 W) = c2 fun t j => logi (pre X G W t (Ffn.lo j)) := by
    funext i
    pointwise [val_main_call0_v5, val_main_call0_v4, val_main_call0_cst_0, val_main_call0_v3, val_main_call0_v2, val_main_call0_cst, val_main_call0_v1, val_main_call0_v0, gate]
    simp only [c2_apply]
    exact logi_exp _
  funext i
  pointwise [val_main_v17, val_main_v16, gate, up, sig]
  simp only [c2_apply, mul_coe]
  rfl

theorem lefts : val_main_v21 (F := Ideal) (c2 X) (c1 G) (c2 W) (c2 O) = c2 (left X G W O) := by
  funext i
  pointwise [val_main_v21, val_main_v20, val_main_v19, val_main_cst_2, val_main_v18, acts]
  simp only [c2_apply, lit_half, mul_coe, sum_coe, add_coe]
  rfl

theorem ms : val_main_v28 (F := Ideal) (c2 X) (c1 G) (c2 W) (c2 O) = c2 fun t (_ : Fin 1) => msq (left X G W O t) := by
  funext i
  pointwise [val_main_v28, val_main_v27, val_main_cst_5, val_main_v26, val_main_v25, val_main_cst_4, val_main_v24, val_main_v23, val_main_cst_3, val_main_v22, lefts]
  simp only [c2_apply, lit_1024, lit_eps, mul_coe, sum_coe, add_coe, div_coe _ _ (show (1024 : ℝ) ≠ 0 by norm_num)]
  rfl

theorem root : val_main_v29 (F := Ideal) (c2 X) (c1 G) (c2 W) (c2 O) = c2 fun t (_ : Fin 1) => inv (left X G W O t) := by
  funext i
  pointwise [val_main_v29, ms]
  exact rsqrt_msq _

theorem cube : val_main_v32 (F := Ideal) (c2 X) (c1 G) (c2 W) (c2 O) = c2 fun t (_ : Fin 1) => -(1 / 2) * (inv (left X G W O t) / msq (left X G W O t)) := by
  funext i
  pointwise [val_main_v32, val_main_v31, val_main_cst_6, val_main_v30, root, ms]
  simp only [c2_apply, lit_neg_half, mul_coe, div_coe _ _ (msq_pos _).ne']

theorem xhat : val_main_v34 (F := Ideal) (c2 X) (c1 G) (c2 W) (c2 O) = c2 fun t k => left X G W O t k * inv (left X G W O t) := by
  funext i
  pointwise [val_main_v34, val_main_v33, lefts, root]
  simp only [c2_apply, mul_coe]
  rfl

theorem misses : val_main_v38 (F := Ideal) (c2 X) (c1 G) (c2 W) (c2 O) (c2 T) (c1 E) = c2 (miss X G W O T E) := by
  funext i
  pointwise [val_main_v38, val_main_v37, val_main_v36, val_main_v35, xhat]
  simp only [c1_apply, c2_apply, mul_coe, sub_coe]
  rfl

/-- The mean squared difference, summed over the rows and halved. -/
theorem losses : val_main_v75 (F := Ideal) (c2 X) (c1 G) (c2 W) (c2 O) (c2 T) (c1 E)
    = c2 fun (_ _ : Fin 1) => 1 / 2 * ∑ t, (∑ k, miss X G W O T E t k * miss X G W O T E t k) / 1024 := by
  funext i
  pointwise [val_main_v75, val_main_v46, val_main_cst_11, val_main_v45, val_main_cst_10, val_main_v44, val_main_v43, val_main_cst_9, val_main_v42, val_main_cst_8, val_main_v39, misses]
  simp only [c2_apply, lit_half, lit_1024, mul_coe, sum_coe, div_coe _ _ (show (1024 : ℝ) ≠ 0 by norm_num)]
  rfl

/-- The loss's gradient in the normalised rows. -/
theorem douts : val_main_v52 (F := Ideal) (c2 X) (c1 G) (c2 W) (c2 O) (c2 T) (c1 E) = c2 fun t k => miss X G W O T E t k / 1024 := by
  funext i
  pointwise [val_main_v52, val_main_v51, val_main_v50, val_main_v49, val_main_cst_14, val_main_v48, val_main_v47, val_main_cst_13, val_main_cst_12, val_main_v41, val_main_v40, val_main_cst_7, misses]
  simp only [c2_apply, lit_half, lit_two, lit_one, lit_1024, mul_coe, div_coe _ _ (show (1024 : ℝ) ≠ 0 by norm_num)]
  congr 1
  ring

theorem dgs : val_main_v76 (F := Ideal) (c2 X) (c1 G) (c2 W) (c2 O) (c2 T) (c1 E)
    = c2 fun (_ : Fin 1) k => ∑ t, miss X G W O T E t k / 1024 * (left X G W O t k * inv (left X G W O t)) := by
  funext i
  pointwise [val_main_v76, val_main_v58, val_main_cst_16, val_main_v55, val_main_v54, val_main_cst_15, val_main_v53, xhat, douts]
  simp only [c2_apply, mul_coe, sum_coe]
  simp only [Finset.univ_unique, Finset.sum_singleton]
  congr 1
  exact Finset.sum_congr rfl fun t _ => mul_comm _ _

/-- The derivative of a row's normalisation as reverse differentiation writes it, nothing added to it. -/
theorem rms_alone (x g d : Fin 1024 → ℝ) (k : Fin 1024) :
    d k * g k * Step.inv x + x k * ((∑ j, x j * (d j * g j)) * (-(1 / 2) * (Step.inv x / msq x)) / 1024)
        + (∑ j, x j * (d j * g j)) * (-(1 / 2) * (Step.inv x / msq x)) / 1024 * x k = rmsBwd x g d k := by
  have h := Cert.FfnBwdRefIdeal.Stage.rms_vjp x g d (fun _ => 0) k
  simpa only [zero_add] using h

theorem dxs : val_main_v72 (F := Ideal) (c2 X) (c1 G) (c2 W) (c2 O) (c2 T) (c1 E)
    = c2 fun t k => rmsBwd (left X G W O t) E (fun k => miss X G W O T E t k / 1024) k := by
  funext i
  pointwise [val_main_v72, val_main_v71, val_main_v70, val_main_v69, val_main_v68, val_main_v67, val_main_cst_19, val_main_v66, val_main_v65, val_main_cst_18, val_main_v64, val_main_v63, val_main_v62,
    val_main_v61, val_main_v60, val_main_cst_17, val_main_v59, val_main_v57, val_main_v56, val_main_v35, lefts, root, cube, douts]
  simp only [c1_apply, c2_apply, lit_1024, mul_coe, sum_coe, add_coe, div_coe _ _ (show (1024 : ℝ) ≠ 0 by norm_num)]
  simp only [Finset.univ_unique, Finset.sum_singleton]
  congr 1
  exact rms_alone (left X G W O (i 0)) E (fun k => miss X G W O T E (i 0) k / 1024) (i 1)

theorem hid_out : val_main_v73 (F := Ideal) (c2 X) (c1 G) (c2 W) = c2 (pre X G W) := by
  funext i
  pointwise [val_main_v73, hid]

theorem normed_out : val_main_v74 (F := Ideal) (c2 X) (c1 G) = c2 fun t k => X t k * inv (X t) * G k := by
  funext i
  pointwise [val_main_v74, normed]

end Cert.LossHeadRefIdeal.Stage
-- ==== Proof.LossPair.lean ====
/-
  The last feed-forward layer's call with the loss, and that layer, the loss and the loss's derivative, leave the same five arrays.
-/
module

public import proofs.«01_k».proof.Defs
public import proofs.«01_k».proof.Proof.Finite
public import proofs.«01_k».proof.Proof.LossArr
public import proofs.«01_k».proof.Proof.LossRef
public import proofs.«01_k».proof.Proof.Gen.Pre_finite_loss
public import Idealize.ShloMosaic.Lib.Claim

@[expose] public section

set_option maxRecDepth 16384

noncomputable section

namespace Cert.LossPair

open Idealize.ShloMosaic Idealize.ShloMosaic.TcCoe Idealize.SL.Sem Step Cert.LossHeadIdeal.Entry

/-- Under the precondition the call's arguments are arrays of real numbers. -/
def real {m : (ℓ : Loc Cert.LossHeadIdeal.nD Cert.LossHeadIdeal.τ Cert.LossHeadIdeal.sig) → Buf (Elt Ideal) ℓ}
    (h : Cert.Pre_LossHeadIdeal_finite_loss m) (c : Dev Cert.LossHeadIdeal.nD) : Real m c where
  X := _
  G := _
  W := _
  O := _
  T := _
  E := _
  hX := c2_of _ fun i => congrFun (h c).1 i
  hG := c1_of _ fun i => congrFun (h c).2.1 i
  hW := c2_of _ fun i => congrFun (h c).2.2.1 i
  hO := c2_of _ fun i => congrFun (h c).2.2.2.1 i
  hT := c2_of _ fun i => congrFun (h c).2.2.2.2.1 i
  hE := c1_of _ fun i => congrFun (h c).2.2.2.2.2 i

/-- The reference runs, keeps its arguments and leaves its counters at zero: it has none. -/
theorem reference_frame : Cert.quiescent_LossHeadRefIdeal := fun m ρ _ =>
  (θ_run _ _ _).mono (fun r h => ⟨fun c => (h c).2.2.2.2.2, by
    funext x
    rcases x with ⟨c, s⟩
    cases s with
    | reg i => exact i.elim0
    | dma i => exact i.elim0⟩) (Cert.LossHeadRefIdeal.Value.run m ρ)

theorem algebraic : Cert.algebraic_LossHeadIdeal_LossHeadRefIdeal_pre_finite_loss := by
  intro m g m' g' hpre hagree
  have a : ∀ c, Real m c := real hpre
  refine ⟨fun c => c2 (DX (a c)), fun c => c2 (HID (a c)), fun c => c2 (XN (a c)), fun c => c2 fun _ _ => LOSS (a c), fun c => c2 fun _ => DG (a c),
    (θ_run _ _ _).mono (fun r h c => ?_) (Cert.LossHeadIdeal.Value.run_blocks m g),
    (θ_run _ _ _).mono (fun r h c => ?_) (Cert.LossHeadRefIdeal.Value.run m' g')⟩
  · obtain ⟨h0, h1, h2, h3, h4, hk⟩ := h c
    exact ⟨h0.trans (dx_arr (a c)), h1.trans (h_arr (a c)), h2.trans (xn_arr (a c)), h3.trans (loss_arr (a c)), h4.trans (dg_arr (a c)), hk⟩
  · obtain ⟨h0, h1, h2, h3, h4, hk⟩ := h c
    obtain ⟨e0, e1, e2, e3, e4, e5⟩ := hagree c
    have e0 := e0.trans (a c).hX
    have e1 := e1.trans (a c).hG
    have e2 := e2.trans (a c).hW
    have e3 := e3.trans (a c).hO
    have e4 := e4.trans (a c).hT
    have e5 := e5.trans (a c).hE
    refine ⟨h0.trans ?_, h1.trans ?_, h2.trans ?_, h3.trans ?_, h4.trans ?_, hk⟩
    · rw [Cert.LossHeadRefIdeal.Read.val_main_v72_eq, e0, e1, e2, e3, e4, e5]
      exact Cert.LossHeadRefIdeal.Stage.dxs _ _ _ _ _ _
    · rw [Cert.LossHeadRefIdeal.Read.val_main_v73_eq, e0, e1, e2]
      exact Cert.LossHeadRefIdeal.Stage.hid_out _ _ _
    · rw [Cert.LossHeadRefIdeal.Read.val_main_v74_eq, e0, e1]
      exact Cert.LossHeadRefIdeal.Stage.normed_out _ _
    · rw [Cert.LossHeadRefIdeal.Read.val_main_v75_eq, e0, e1, e2, e3, e4, e5]
      exact Cert.LossHeadRefIdeal.Stage.losses _ _ _ _ _ _
    · rw [Cert.LossHeadRefIdeal.Read.val_main_v76_eq, e0, e1, e2, e3, e4, e5]
      exact Cert.LossHeadRefIdeal.Stage.dgs _ _ _ _ _ _

end Cert.LossPair
-- ==== Proof.SguFwdEntry.lean ====
/-
  What the spatial gating unit's forward call finds when its region starts, over real arguments: the packed outer weights, the
  inner product, the blocks the pipeline stages at a grid point, and the scratch that keeps the outer weights.
-/
module

public import proofs.«01_k».proof.Proof.Gen.SguFwdIdeal.Value
public import proofs.«01_k».proof.Proof.SguOuts
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.SguFwdIdeal.Entry

open Cert.SguFwdIdeal Cert.SguFwdIdeal.Gen Idealize.ShloMosaic Idealize.ShloMosaic.TcCoe Idealize.SL.Sem Step

variable (m : (ℓ : Loc nD τ sig) → Buf (Elt Ideal) ℓ)

/-- The call's arguments on device `c` are arrays of real numbers. -/
structure Real (c : Dev nD) where
  X : Fin 8192 → Fin 1024 → ℝ
  G : Fin 1024 → ℝ
  W : Fin 1024 → Fin 2048 → ℝ
  LG : Fin 1024 → ℝ
  LB : Fin 1024 → ℝ
  S : Fin 8 → Fin 128 → Fin 128 → ℝ
  B : Fin 8 → Fin 128 → ℝ
  O : Fin 1024 → Fin 1024 → ℝ
  hX : m ((c : Thread nD τ).loc main_arg0) = c2 X
  hG : m ((c : Thread nD τ).loc main_arg1) = c1 G
  hW : m ((c : Thread nD τ).loc main_arg2) = c2 W
  hLG : m ((c : Thread nD τ).loc main_arg3) = c1 LG
  hLB : m ((c : Thread nD τ).loc main_arg4) = c1 LB
  hS : m ((c : Thread nD τ).loc main_arg5) = c3 S
  hB : m ((c : Thread nD τ).loc main_arg6) = c2 B
  hO : m ((c : Thread nD τ).loc main_arg7) = c2 O

variable {m} {c : Dev nD} (a : Real m c)

/-- The inner product. -/
def P (t : Fin 8192) : Fin 2048 → ℝ := Cert.SguBwdIdeal.Entry.pre (a.X t) a.G a.W

/-! ## The arrays in the host's memory -/

/-- The outer weights, packed by quarters of their rows. -/
theorem wout_entry : (V m c main_v1 : S4x256x1024.Idx → EReal) = c3 fun q j k => a.O ⟨q.val * 256 + j.val, by omega⟩ k := by
  entry_read
  rw [a.hO]
  funext i
  pointwise
  simp only [c2_apply, c3_apply]
  rfl

/-- The inner product. -/
theorem pre_entry : (V m c main_v17 : S8192x2048.Idx → EReal) = c2 (P a) := by
  entry_read
  rw [a.hX, a.hG, a.hW]
  funext i
  pointwise
  simp only [c1_apply, c2_apply, lit_1024, lit_eps, mul_coe, sum_coe, add_coe, div_coe _ _ (show (1024 : ℝ) ≠ 0 by norm_num)]
  simp only [ix2_0, ix2_1, rsqrt_ms, mul_coe, sum_coe]
  rfl

/-! ## The blocks staged at a grid point -/

/-- Row `r` of the block staged at grid point `t`. -/
def row (t : Fin cfg0.N) (r : Fin 512) : Fin 8192 := ⟨t.val * 512 + r.val, by have := t.isLt; have : cfg0.N = 16 := N_0; omega⟩

theorem x_block (t : Fin cfg0.N) : iblk m c 0 t = c2 fun r k => a.X (row t r) k := by
  have idx : ∀ t : Fin cfg0.N, win0_0.index t = ![t.val, 0] := (by decide +kernel : ∀ t : Fin grid0.N, _)
  funext i
  have e : iblk m c 0 t i = (c2 a.X : S8192x1024.Idx → EReal) (ix2 (row t (i 0)) (i 1)) := by
    rw [← a.hX]
    blk_ext [iblk, V, row, idx t]
  exact e

theorem p_block (t : Fin cfg0.N) : iblk m c 1 t = c2 fun r j => P a (row t r) j := by
  have idx : ∀ t : Fin cfg0.N, win0_1.index t = ![t.val, 0] := (by decide +kernel : ∀ t : Fin grid0.N, _)
  funext i
  have e : iblk m c 1 t i = (V m c main_v17 : S8192x2048.Idx → EReal) (ix2 (row t (i 0)) (i 1)) := by
    blk_ext [iblk, row, idx t]
  rw [e, pre_entry a]
  rfl

theorem lg_stage (t : Fin cfg0.N) : iblk m c 2 t = c2 fun (_ : Fin 1) k => a.LG k := by
  have idx : ∀ t : Fin cfg0.N, win0_2.index t = ![0, 0] := (by decide +kernel : ∀ t : Fin grid0.N, _)
  funext i
  have e : iblk m c 2 t i = (V m c main_v18 : S1x1024.Idx → EReal) (ix2 (i 0) (i 1)) := by
    blk_ext [iblk, idx t]
  rw [e]
  entry_read
  rw [a.hLG]
  pointwise
  rfl

theorem lb_stage (t : Fin cfg0.N) : iblk m c 3 t = c2 fun (_ : Fin 1) k => a.LB k := by
  have idx : ∀ t : Fin cfg0.N, win0_3.index t = ![0, 0] := (by decide +kernel : ∀ t : Fin grid0.N, _)
  funext i
  have e : iblk m c 3 t i = (V m c main_v19 : S1x1024.Idx → EReal) (ix2 (i 0) (i 1)) := by
    blk_ext [iblk, idx t]
  rw [e]
  entry_read
  rw [a.hLB]
  pointwise
  rfl

theorem s_block (t : Fin cfg0.N) : iblk m c 4 t = c3 a.S := by
  have idx : ∀ t : Fin cfg0.N, win0_4.index t = ![0, 0, 0] := (by decide +kernel : ∀ t : Fin grid0.N, _)
  funext i
  have e : iblk m c 4 t i = (c3 a.S : S8x128x128.Idx → EReal) (ix3 (i 0) (i 1) (i 2)) := by
    rw [← a.hS]
    blk_ext [iblk, V, idx t]
  exact e

theorem b_block (t : Fin cfg0.N) : iblk m c 5 t = c2 fun s h => a.B h s := by
  have idx : ∀ t : Fin cfg0.N, win0_5.index t = ![0, 0] := (by decide +kernel : ∀ t : Fin grid0.N, _)
  funext i
  have e : iblk m c 5 t i = (V m c main_v20 : S128x8.Idx → EReal) (ix2 (i 0) (i 1)) := by
    blk_ext [iblk, idx t]
  rw [e]
  entry_read
  rw [a.hB]
  pointwise
  rfl

/-! ## The scratch that keeps the outer weights -/

/-- The outer weights' scratch. -/
def wout : S1024x1024.Idx → EReal := c2 a.O

/-- The slab copied into a quarter of the outer weights' rows is that quarter. -/
theorem wout_slice (q r : ℕ) (hq : q < 4) (hr : r = q * 256) (e : ∀ b, ![q, 0, 0] b + ![1, 256, 1024] b ≤ S4x256x1024.size b) (f : S1x256x1024.ShapeCasts S256x1024)
    (h : ∀ b, ![r, 0] b + ![256, 1024] b ≤ S1024x1024.size b) (x : (Rect.unit (s := S1024x1024) ![r, 0] ![256, 1024] h).shape.Idx) :
    ReadAs.same.apply (View.read (Elt Ideal) (((View.whole main_v1).slice (Rect.unit ![q, 0, 0] ![1, 256, 1024] e)).reshape S256x1024 f) (V m c main_v1)) x
      = wout a ((Rect.unit ![r, 0] ![256, 1024] h).emb x) := by
  refine (Cert.SguBwdIdeal.Entry.slab (View.ld (V m c main_v1 : S4x256x1024.Idx → EReal) (Rect.unit ![q, 0, 0] ![1, 256, 1024] e)) f x).trans ?_
  rw [wout_entry a]
  unfold wout
  show ((a.O _ _ : ℝ) : EReal) = ((a.O _ _ : ℝ) : EReal)
  congr 2
  · apply Fin.ext
    show (q + 1 * 0) * 256 + (0 + 1 * (x 0).val) = r + 1 * (x 0).val
    omega

/-- The slabs copied into the outer weights' scratch fill it. -/
theorem wout_pieces (h3 h2 h1 h0 e3 e2 e1 e0 f3 f2 f1 f0) (i : S1024x1024.Idx) :
    View.canon (Val := Elt Ideal) (s := S1024x1024) (e := .bf16)
      [⟨Rect.unit ![768, 0] ![256, 1024] h3, ReadAs.same.apply (View.read (Elt Ideal) (((View.whole main_v1).slice (Rect.unit ![3, 0, 0] ![1, 256, 1024] e3)).reshape S256x1024 f3) (V m c main_v1))⟩,
       ⟨Rect.unit ![512, 0] ![256, 1024] h2, ReadAs.same.apply (View.read (Elt Ideal) (((View.whole main_v1).slice (Rect.unit ![2, 0, 0] ![1, 256, 1024] e2)).reshape S256x1024 f2) (V m c main_v1))⟩,
       ⟨Rect.unit ![256, 0] ![256, 1024] h1, ReadAs.same.apply (View.read (Elt Ideal) (((View.whole main_v1).slice (Rect.unit ![1, 0, 0] ![1, 256, 1024] e1)).reshape S256x1024 f1) (V m c main_v1))⟩,
       ⟨Rect.unit ![0, 0] ![256, 1024] h0, ReadAs.same.apply (View.read (Elt Ideal) (((View.whole main_v1).slice (Rect.unit ![0, 0, 0] ![1, 256, 1024] e0)).reshape S256x1024 f0) (V m c main_v1))⟩] i
      = wout a i := by
  rw [← List.append_nil (_ :: _)]
  refine (View.canon_append_of_piecesOf (wout a) [] _ ?_ _ (View.cover_of_tiledL _ ![256, 1024] (by sl_kernel_rfl) _)).trans rfl
  refine ⟨fun x => ?_, fun x => ?_, fun x => ?_, fun x => ?_, trivial⟩
  · exact wout_slice a 3 768 (by decide) (by decide) e3 f3 h3 x
  · exact wout_slice a 2 512 (by decide) (by decide) e2 f2 h2 x
  · exact wout_slice a 1 256 (by decide) (by decide) e1 f1 h1 x
  · exact wout_slice a 0 0 (by decide) (by decide) e0 f0 h0 x

/-- Read back, the outer weights' scratch so filled is the outer weights. -/
theorem wout_fill (v : View sig .tc .vmem S1024x1024 .bf16) (h3 h2 h1 h0 e3 e2 e1 e0 f3 f2 f1 f0) (B : Rect S1024x1024) :
    v.readCov (Val := Elt Ideal)
      [⟨Rect.unit ![768, 0] ![256, 1024] h3, ReadAs.same.apply (View.read (Elt Ideal) (((View.whole main_v1).slice (Rect.unit ![3, 0, 0] ![1, 256, 1024] e3)).reshape S256x1024 f3) (V m c main_v1))⟩,
       ⟨Rect.unit ![512, 0] ![256, 1024] h2, ReadAs.same.apply (View.read (Elt Ideal) (((View.whole main_v1).slice (Rect.unit ![2, 0, 0] ![1, 256, 1024] e2)).reshape S256x1024 f2) (V m c main_v1))⟩,
       ⟨Rect.unit ![256, 0] ![256, 1024] h1, ReadAs.same.apply (View.read (Elt Ideal) (((View.whole main_v1).slice (Rect.unit ![1, 0, 0] ![1, 256, 1024] e1)).reshape S256x1024 f1) (V m c main_v1))⟩,
       ⟨Rect.unit ![0, 0] ![256, 1024] h0, ReadAs.same.apply (View.read (Elt Ideal) (((View.whole main_v1).slice (Rect.unit ![0, 0, 0] ![1, 256, 1024] e0)).reshape S256x1024 f0) (V m c main_v1))⟩] B.toLoadRect
      = View.ld (wout a) B := by
  rw [View.readCov_eq_canon']
  funext j
  exact wout_pieces a h3 h2 h1 h0 e3 e2 e1 e0 f3 f2 f1 f0 _

/-- At every grid point the scratch holds the outer weights. -/
theorem wout_held (t : Fin cfg0.N) : (outsAt0 m c t.val t.isLt).2.2 = wout a := by
  funext i
  refine Pipeline.eq_of_write_hold_apply (fun n h => (outsAt0 m c n h).2.2) 16 (fun _ => wout a) (fun t h i => ?_) (fun t h i => ?_) t i
  · rw [outsAt0_A m c t h]
    frame_out
    exact wout_pieces a _ _ _ _ _ _ _ _ _ _ _ _ i
  · rw [outsAt0_B m c t h]
    rfl

end Cert.SguFwdIdeal.Entry
-- ==== Proof.SguFwdBody.lean ====
/-
  The body of the spatial gating unit's forward call on blocks of real numbers: the gate, the layer norm and the mixing along the rows.
  Where it computes what the backward body recomputes, the fact is that body's.
-/
module

public import proofs.«01_k».proof.Proof.SguMix
public import proofs.«01_k».proof.Proof.Gen.SguFwdIdeal.Value

@[expose] public section

set_option maxRecDepth 16384

noncomputable section

namespace Cert.SguFwdIdeal.Body

open Cert.SguFwdIdeal Cert.SguFwdIdeal.Gen Cert.SguBwdIdeal.Tile Idealize.ShloMosaic Step Step.Sgu

open Cert.SguBwdIdeal.Body (part msk masked beside_mix beside_known below_congr n1024)

theorem lg_block (G : Fin 1024 → ℝ) : k0_pay3 (F := Ideal) (c2 fun _ : Fin 1 => G) = c2 fun _ : Fin 1 => G := Cert.SguBwdIdeal.Body.lg_block G
theorem lb_block (G : Fin 1024 → ℝ) : k0_pay4 (F := Ideal) (c2 fun _ : Fin 1 => G) = c2 fun _ : Fin 1 => G := Cert.SguBwdIdeal.Body.lb_block G
theorem u_block (P : Fin 512 → Fin 2048 → ℝ) : k0_pay6 (F := Ideal) (c2 P) = c2 fun t k => u (P t) k := Cert.SguBwdIdeal.Body.u_block P
theorem vc_block (P : Fin 512 → Fin 2048 → ℝ) : k0_pay7 (F := Ideal) (c2 P) = c2 fun t k => vc (P t) k := Cert.SguBwdIdeal.Body.vc_block P

theorem rs_block (P : Fin 512 → Fin 2048 → ℝ) : k0_pay8 (F := Ideal) (c2 P) = c2 fun t _ => rs (P t) := by
  funext i
  pointwise [k0_pay8, vc_block]
  simp only [c2_apply, lit_1024, lit_eps, mul_coe, sum_coe, add_coe, div_coe _ _ n1024]
  exact rsqrt_msq _

theorem vln_block (P : Fin 512 → Fin 2048 → ℝ) (G B : Fin 1024 → ℝ) :
    k0_pay9 (F := Ideal) (c2 fun _ : Fin 1 => G) (c2 fun _ : Fin 1 => B) (c2 fun t k => vc (P t) k) (c2 fun t _ => rs (P t)) = c2 fun t k => vln (P t) G B k := by
  funext i
  pointwise [k0_pay9]
  simp only [c2_apply, mul_coe, add_coe]
  rfl

theorem shift_block (B : Fin 128 → Fin 8 → ℝ) : k0_pay10 (F := Ideal) (c2 B) = c2 B := Cert.SguBwdIdeal.Body.shift_block B
theorem mask_block : k0_pay11 (F := Ideal) = c2 msk := Cert.SguBwdIdeal.Body.mask_block

theorem w0_block (A : Fin 128 → Fin 128 → ℝ) : k0_pay12 (F := Ideal) (c3 fun _ : Fin 1 => A) = c2 (masked A) := Cert.SguBwdIdeal.Body.w0_block A
theorem w1_block (A : Fin 128 → Fin 128 → ℝ) : k0_pay13 (F := Ideal) (c3 fun _ : Fin 1 => A) = c2 (masked A) := w0_block A
theorem w2_block (A : Fin 128 → Fin 128 → ℝ) : k0_pay14 (F := Ideal) (c3 fun _ : Fin 1 => A) = c2 (masked A) := w0_block A
theorem w3_block (A : Fin 128 → Fin 128 → ℝ) : k0_pay15 (F := Ideal) (c3 fun _ : Fin 1 => A) = c2 (masked A) := w0_block A
theorem w4_block (A : Fin 128 → Fin 128 → ℝ) : k0_pay16 (F := Ideal) (c3 fun _ : Fin 1 => A) = c2 (masked A) := w0_block A
theorem w5_block (A : Fin 128 → Fin 128 → ℝ) : k0_pay17 (F := Ideal) (c3 fun _ : Fin 1 => A) = c2 (masked A) := w0_block A
theorem w6_block (A : Fin 128 → Fin 128 → ℝ) : k0_pay18 (F := Ideal) (c2 msk) (c3 fun _ : Fin 1 => A) = c2 (masked A) := Cert.SguBwdIdeal.Body.w5_block A
theorem w7_block (A : Fin 128 → Fin 128 → ℝ) : k0_pay19 (F := Ideal) (c2 msk) (c3 fun _ : Fin 1 => A) = c2 (masked A) := w6_block A

theorem vb_block (V : Fin 512 → Fin 1024 → ℝ) : k0_pay20 (F := Ideal) (c2 V) = c2 V := rfl

/-- The product of two square tiles. -/
theorem mul_c2' (A B : Fin 128 → Fin 128 → ℝ) :
    matmul (F := Ideal) (φ₁ := .bf16) (φ₂ := .bf16) dot_S128x128_S128x128_S128x128_1_0_0_1_n_n none (c2 A) (c2 B) (constant S128x128 .f32 0x00000000#32) = c2 (mul A B) :=
  mul_c2 A B

/-- The gated rows of a block: the factor times the mixed values, chunk by chunk. -/
theorem gated_block (A : Fin 8 → Fin 128 → Fin 128 → ℝ) (b : Fin 128 → Fin 8 → ℝ) (U V : Fin 512 → Fin 1024 → ℝ) :
    k0_pay1 (F := Ideal) (c2 U) (c2 b) (c2 (masked (A 4))) (c2 (masked (A 5))) (c2 (masked (A 6))) (c2 (masked (A 7))) (c2 V)
      (k0_pay21 (c2 V) (c2 b) (c2 msk) (c2 (masked (A 0))) (c2 (masked (A 1))) (c2 (masked (A 2))) (c2 (masked (A 3))) (c2 (masked (A 4)))
        (c2 (masked (A 5))) (c3 fun _ : Fin 1 => A 6) (c3 fun _ : Fin 1 => A 7))
      (k0_pay22 (c2 b) (c2 (masked (A 0))) (c2 (masked (A 1))) (c2 (masked (A 2))) (c2 (masked (A 3))) (c2 (masked (A 4))) (c2 (masked (A 5)))
        (c2 (masked (A 6))) (c2 (masked (A 7))) (c2 V))
      (k0_pay26 (c2 b) (c2 (masked (A 2))) (c2 (masked (A 3))) (c2 (masked (A 4))) (c2 (masked (A 5))) (c2 (masked (A 6))) (c2 (masked (A 7))) (c2 V)
        (k0_pay23 (c2 b) (c2 (masked (A 0))) (c2 V)) (k0_pay24 (c2 (masked (A 1))) (c2 V)) (k0_pay25 (c2 b)))
      (k0_pay27 (c2 b) (c2 (masked (A 0))) (c2 V)) (k0_pay28 (c2 b) (c2 (masked (A 1))) (c2 V)) (k0_pay29 (c2 b) (c2 (masked (A 2))) (c2 V))
      (k0_pay30 (c2 (masked (A 3))) (c2 V)) (k0_pay31 (c2 b))
    = c2 fun t k => U t k * below (fun q => mix (fun h => masked (A h)) b (part V q)) t k := by
  simp only [k0_pay1, k0_pay21, k0_pay22, k0_pay23, k0_pay24, k0_pay25, k0_pay26, k0_pay27, k0_pay28, k0_pay29, k0_pay30, k0_pay31,
    vb_block, w6_block, w7_block, tile_c2, mul_c2', col_c2, plus_c2, times_c2, trunc_c2, cat8_eq, cat4_eq, cat8_c2, cat4_c2]
  refine congrArg c2 (congrArg (times U) ?_)
  exact below_congr _ _ _ _ _ (by refine ⟨?_, ?_, ?_, ?_⟩ <;> exact beside_mix _ _ _ _ (beside_known _ _ _ _ _ _ _ _ _
    (by refine ⟨?_, ?_, ?_, ?_, ?_, ?_, ?_, ?_⟩ <;> exact funext fun s => funext fun c => by simp only [plus, col, tile, Nat.zero_add]; rfl)))

/-- The layer's rows: the gated rows through the outer weights, on top of the input's. -/
theorem out_block (Y : Fin 512 → Fin 1024 → ℝ) (X : Fin 512 → Fin 1024 → ℝ) (O : Fin 1024 → Fin 1024 → ℝ) :
    k0_pay2 (F := Ideal) (c2 Y) (c2 X) (c2 O) = c2 fun t k => X t k + ∑ j, Y t j * O j k := by
  funext i
  pointwise [k0_pay2]
  simp only [c2_apply, mul_coe, sum_coe, add_coe]
  rfl

end Cert.SguFwdIdeal.Body
-- ==== Proof.SguFwdArr.lean ====
/-
  What the spatial gating unit's forward body leaves at a grid point, and the two arrays its call leaves, in real numbers.
-/
module

public import proofs.«01_k».proof.Proof.SguArr
public import proofs.«01_k».proof.Proof.SguFwdEntry
public import proofs.«01_k».proof.Proof.SguFwdBody

@[expose] public section

set_option maxRecDepth 16384

noncomputable section

namespace Cert.SguFwdIdeal.Entry

open Cert.SguFwdIdeal Cert.SguFwdIdeal.Gen Cert.SguBwdIdeal.Tile Idealize.ShloMosaic Idealize.ShloMosaic.TcCoe Idealize.SL.Sem Step Step.Sgu Body

open Cert.SguBwdIdeal.Body (part masked)
open Cert.SguBwdIdeal.Entry (ld_s whole part_eq below_eq)

variable {m : (ℓ : Loc nD τ sig) → Buf (Elt Ideal) ℓ} {c : Dev nD} (a : Real m c)

theorem ld_o (h) : View.ld (Val := Elt Ideal) (e' := .bf16) (wout a) (Rect.unit (s := S1024x1024) ![0, 0] ![1024, 1024] h) = c2 a.O := by
  funext i
  show ((a.O _ _ : ℝ) : EReal) = ((a.O _ _ : ℝ) : EReal)
  congr 2
  · apply Fin.ext
    show 0 + 1 * (i 0).val = (i 0).val
    omega
  · apply Fin.ext
    show 0 + 1 * (i 1).val = (i 1).val
    omega

/-! ## A block -/

/-- The block's normalised values, and its gated rows. -/
def vln' (t : Fin cfg0.N) (r : Fin 512) (k : Fin 1024) : ℝ := vln (P a (row t r)) a.LG a.LB k
def gated' (t : Fin cfg0.N) (r : Fin 512) (k : Fin 1024) : ℝ :=
  u (P a (row t r)) k * below (fun q => mix (fun h => masked (a.S h)) (fun s h => a.B h s) (part (vln' a t) q)) r k

theorem wout_before (t : Fin cfg0.N) (h) : (outsAt0 m c (t.val - 1) h).2.2 = wout a := wout_held a ⟨t.val - 1, h⟩

theorem gated_out (t : Fin cfg0.N) : (outsAt0 m c t.val t.isLt).2.1 = c2 (gated' a t) := by
  by_cases h : t.val % 16 = 0
  on_goal 1 => rw [outsAt0_A m c t h]; frame_out
  on_goal 2 => rw [outsAt0_B m c t h]; frame_out
  all_goals
    simp only [p_block a, lg_stage a, lb_stage a, s_block a, b_block a,
      ld_s _ 0 0 rfl, ld_s _ 1 1 rfl, ld_s _ 2 2 rfl, ld_s _ 3 3 rfl, ld_s _ 4 4 rfl, ld_s _ 5 5 rfl, ld_s _ 6 6 rfl, ld_s _ 7 7 rfl]
    simp only [lg_block, lb_block, u_block, vc_block, rs_block, vln_block, shift_block, mask_block, w0_block, w1_block, w2_block, w3_block, w4_block, w5_block,
      w6_block, w7_block, vb_block]
    simp only [gated_block a.S]
    rfl

theorem x_out (t : Fin cfg0.N) : (outsAt0 m c t.val t.isLt).1 = c2 fun r k => a.X (row t r) k + ∑ j, gated' a t r j * a.O j k := by
  by_cases h : t.val % 16 = 0
  on_goal 1 => rw [outsAt0_A m c t h]; frame_out; simp only [wout_fill a]
  on_goal 2 => rw [outsAt0_B m c t h]; frame_out; simp only [read_unread_whole, wout_before a]
  all_goals
    simp only [x_block a, p_block a, lg_stage a, lb_stage a, s_block a, b_block a, ld_o a,
      ld_s _ 0 0 rfl, ld_s _ 1 1 rfl, ld_s _ 2 2 rfl, ld_s _ 3 3 rfl, ld_s _ 4 4 rfl, ld_s _ 5 5 rfl, ld_s _ 6 6 rfl, ld_s _ 7 7 rfl]
    simp only [lg_block, lb_block, u_block, vc_block, rs_block, vln_block, shift_block, mask_block, w0_block, w1_block, w2_block, w3_block, w4_block, w5_block,
      w6_block, w7_block, vb_block, wout]
    simp only [gated_block a.S, out_block]
    rfl

/-! ## The whole arrays -/

/-- The gated values, and the layer's output. -/
def GT (t : Fin 8192) (k : Fin 1024) : ℝ := u (P a t) k * VO (P a) a.LG a.LB a.S a.B t k
def XO (t : Fin 8192) (k : Fin 1024) : ℝ := a.X t k + ∑ j, GT a t j * a.O j k

theorem gated_eq (t : Fin cfg0.N) (r : Fin 512) (k : Fin 1024) : gated' a t r k = GT a (row t r) k := by
  have e : ∀ q, part (vln' a t) q = parts (VL (P a) a.LG a.LB) (whole t q) := part_eq (VL (P a) a.LG a.LB) t
  rw [gated']
  simp only [e]
  exact congrArg (u (P a (row t r)) k * ·)
    (below_eq (fun q => mix (fun h => masked (a.S h)) (fun s h => a.B h s) (parts (VL (P a) a.LG a.LB) q)) t r k)

theorem x_arr : (dats m 0 c).arrAt 6 cfg0.N = (c2 (XO a) : S8192x1024.Idx → EReal) := by
  have idx : ∀ t : Fin cfg0.N, win0_6.index t = ![t.val, 0] := (by decide +kernel : ∀ t : Fin grid0.N, _)
  refine (dats m 0 c).arrAt_eq_of_covers 6 (c2 (XO a) : S8192x1024.Idx → EReal) (by decide +kernel) fun t hf y => ?_
  blk_simp
  rw [after0_6, x_out a t]
  have e : (win0_6.blk t).view.emb y = (ix2 (row t (y 0)) (y 1) : S8192x1024.Idx) := by blk_ext [row, idx t]
  rw [e]
  simp only [gated_eq a]
  rfl

theorem gated_arr : (dats m 0 c).arrAt 7 cfg0.N = (c2 (GT a) : S8192x1024.Idx → EReal) := by
  have idx : ∀ t : Fin cfg0.N, win0_7.index t = ![t.val, 0] := (by decide +kernel : ∀ t : Fin grid0.N, _)
  refine (dats m 0 c).arrAt_eq_of_covers 7 (c2 (GT a) : S8192x1024.Idx → EReal) (by decide +kernel) fun t hf y => ?_
  blk_simp
  rw [after0_7, gated_out a t]
  have e : (win0_7.blk t).view.emb y = (ix2 (row t (y 0)) (y 1) : S8192x1024.Idx) := by blk_ext [row, idx t]
  rw [e]
  exact congrArg Real.toEReal (gated_eq a t (y 0) (y 1))

end Cert.SguFwdIdeal.Entry
-- ==== Proof.SguFwdRef.lean ====
/-
  What the spatial gating unit's own mathematics, written plainly, computes on arrays of real numbers.
-/
module

public import proofs.«01_k».proof.Proof.SguRef
public import proofs.«01_k».proof.Proof.Gen.SguFwdRefIdeal.Read
public import Idealize.ShloMosaic.Lib.Pointwise

@[expose] public section

set_option maxRecDepth 16384

noncomputable section

namespace Cert.SguFwdRefIdeal.Stage

open Cert.SguFwdRefIdeal Cert.SguFwdRefIdeal.Gen Cert.SguFwdRefIdeal.Read Idealize.ShloMosaic Step Step.Sgu Cert.SguBwdIdeal.Body

open Cert.SguBwdRefIdeal.Stage (P er_neg root_half mix_at split4 split4_apply part_at rows_at cmp_ge)

variable (X : Fin 8192 → Fin 1024 → ℝ) (G : Fin 1024 → ℝ) (W : Fin 1024 → Fin 2048 → ℝ) (LG LB : Fin 1024 → ℝ) (S : Fin 8 → Fin 128 → Fin 128 → ℝ)
  (B : Fin 8 → Fin 128 → ℝ) (O : Fin 1024 → Fin 1024 → ℝ)

/-! ## The gate -/

theorem xhat : val_main_v9 (F := Ideal) (c2 X) = c2 fun t k => X t k * inv (X t) := Cert.SguBwdRefIdeal.Stage.xhat X

theorem hid : val_main_v13 (F := Ideal) (c2 X) (c1 G) (c2 W) = c2 (P X G W) := by
  funext i
  pointwise [val_main_v13, val_main_v12, val_main_v11, val_main_v10, xhat]
  simp only [c1_apply, c2_apply, mul_coe, sum_coe]
  rfl

theorem rootc : val_main_v17 (F := Ideal) = fun _ => ((hr : ℝ) : EReal) := Cert.SguBwdRefIdeal.Stage.rootc

theorem arg : val_main_v19 (F := Ideal) (c2 X) (c1 G) (c2 W) = c2 fun t j => -P X G W t j * hr := by
  funext i
  pointwise [val_main_v19, val_main_v18, val_main_v16, hid, rootc]
  simp only [c2_apply, mul_coe, neg_coe]

theorem erfcs : val_main_v20 (F := Ideal) (c2 X) (c1 G) (c2 W) = c2 fun t j => 2 * phi (P X G W t j) := by
  funext i
  pointwise [val_main_v20, arg]
  simp only [c2_apply]
  change (1 : EReal) - Ideal.erf _ = _
  rw [Ideal.erf_coe, ← EReal.coe_one, ← EReal.coe_sub]
  congr 1
  change 1 - er (-P X G W (i 0) (i 1) * hr) = 2 * (1 / 2 * (1 + er (P X G W (i 0) (i 1) * hr)))
  rw [neg_mul, er_neg]
  ring

theorem gelu : val_main_v21 (F := Ideal) (c2 X) (c1 G) (c2 W) = c2 fun t j => P X G W t j * phi (P X G W t j) := by
  funext i
  pointwise [val_main_v21, val_main_v15, val_main_v14, val_main_cst_2, hid, erfcs]
  simp only [c2_apply, lit_half, mul_coe]
  congr 1
  ring

theorem us : val_main_v22 (F := Ideal) (c2 X) (c1 G) (c2 W) = c2 fun t k => u (P X G W t) k := by
  funext i
  pointwise [val_main_v22, gelu]
  rfl

theorem vs : val_main_v23 (F := Ideal) (c2 X) (c1 G) (c2 W) = c2 fun t k => v (P X G W t) k := by
  funext i
  pointwise [val_main_v23, gelu]
  rfl

theorem means : val_main_v27 (F := Ideal) (c2 X) (c1 G) (c2 W) = c2 fun t (_ : Fin 1) => (∑ j, v (P X G W t) j) / 1024 := by
  funext i
  pointwise [val_main_v27, val_main_v26, val_main_cst_5, val_main_v25, val_main_v24, val_main_cst_4, vs]
  simp only [c2_apply, lit_1024, sum_coe, div_coe _ _ n1024]
  rfl

theorem cent : val_main_v29 (F := Ideal) (c2 X) (c1 G) (c2 W) = c2 fun t k => vc (P X G W t) k := by
  funext i
  pointwise [val_main_v29, val_main_v28, means, vs]
  simp only [c2_apply, sub_coe]
  rfl

theorem cent' : val_main_v36 (F := Ideal) (c2 X) (c1 G) (c2 W) = c2 fun t k => vc (P X G W t) k := cent X G W

theorem var : val_main_v38 (F := Ideal) (c2 X) (c1 G) (c2 W) = c2 fun t (_ : Fin 1) => msq (vc (P X G W t)) := by
  funext i
  pointwise [val_main_v38, val_main_v37, val_main_cst_8, val_main_v34, val_main_v33, val_main_cst_7, val_main_v32, val_main_v31, val_main_cst_6, val_main_v30, cent]
  simp only [c2_apply, lit_1024, lit_eps, mul_coe, sum_coe, add_coe, div_coe _ _ n1024]
  rfl

theorem lroot : val_main_v39 (F := Ideal) (c2 X) (c1 G) (c2 W) = c2 fun t (_ : Fin 1) => rs (P X G W t) := by
  funext i
  pointwise [val_main_v39, var]
  exact rsqrt_msq _

theorem hats : val_main_v41 (F := Ideal) (c2 X) (c1 G) (c2 W) = c2 fun t k => vhat (P X G W t) k := by
  funext i
  pointwise [val_main_v41, val_main_v40, lroot, cent']
  simp only [c2_apply, mul_coe]
  rfl

theorem vlns : val_main_v47 (F := Ideal) (c2 X) (c1 G) (c2 W) (c1 LG) (c1 LB) = c2 (VL (P X G W) LG LB) := by
  funext i
  pointwise [val_main_v47, val_main_v46, val_main_v45, val_main_v44, val_main_v43, val_main_v42, hats]
  simp only [c1_apply, c2_apply, mul_coe, add_coe]
  rfl

/-! ## The mixing -/

theorem vl4 : val_main_v48 (F := Ideal) (c2 X) (c1 G) (c2 W) (c1 LG) (c1 LB) = split4 (parts (VL (P X G W) LG LB)) := by
  funext i
  pointwise [val_main_v48, vlns]
  exact part_at _ i _ _

theorem masks : val_main_v53 (F := Ideal) (c3 S) = c3 fun h => masked (S h) := Cert.SguBwdRefIdeal.Stage.masks S

theorem mix4 : val_main_v59 (F := Ideal) (c2 X) (c1 G) (c2 W) (c1 LG) (c1 LB) (c3 S) (c2 B)
    = split4 fun q => mix (fun h => masked (S h)) (fun s h => B h s) (parts (VL (P X G W) LG LB) q) := by
  funext i
  pointwise [val_main_v59, val_main_v58, val_main_v57, val_main_v56, val_main_v55, val_main_v54, masks, vl4]
  simp only [c2_apply, c3_apply, split4_apply, mul_coe, sum_coe, add_coe]
  exact congrArg Real.toEReal (mix_at (fun h => masked (S h)) (fun s h => B h s) (parts (VL (P X G W) LG LB) (i 0)) (i 1) (i 2) (i 3))

theorem vos : val_main_v60 (F := Ideal) (c2 X) (c1 G) (c2 W) (c1 LG) (c1 LB) (c3 S) (c2 B) = c2 (VO (P X G W) LG LB S B) := by
  funext i
  pointwise [val_main_v60, mix4]
  exact rows_at _ i _ _ _ _

/-! ## The results -/

theorem gated : val_main_v61 (F := Ideal) (c2 X) (c1 G) (c2 W) (c1 LG) (c1 LB) (c3 S) (c2 B) = c2 fun t k => u (P X G W t) k * VO (P X G W) LG LB S B t k := by
  funext i
  pointwise [val_main_v61, us, vos]
  simp only [c2_apply, mul_coe]

/-- The rounded gated values are those values. -/
theorem gated_out : val_main_v64 (F := Ideal) (c2 X) (c1 G) (c2 W) (c1 LG) (c1 LB) (c3 S) (c2 B) = c2 fun t k => u (P X G W t) k * VO (P X G W) LG LB S B t k := by
  funext i
  pointwise [val_main_v64, gated]

theorem out : val_main_v63 (F := Ideal) (c2 X) (c1 G) (c2 W) (c1 LG) (c1 LB) (c3 S) (c2 B) (c2 O)
    = c2 fun t k => X t k + ∑ j, u (P X G W t) j * VO (P X G W) LG LB S B t j * O j k := by
  funext i
  pointwise [val_main_v63, val_main_v62, gated]
  simp only [c2_apply, mul_coe, sum_coe, add_coe]
  rfl

end Cert.SguFwdRefIdeal.Stage
-- ==== Proof.SguFwdPair.lean ====
/-
  The spatial gating unit's forward call and that unit's own mathematics leave the same two arrays.
-/
module

public import proofs.«01_k».proof.Defs
public import proofs.«01_k».proof.Proof.Finite
public import proofs.«01_k».proof.Proof.SguFwdArr
public import proofs.«01_k».proof.Proof.SguFwdRef
public import proofs.«01_k».proof.Proof.Gen.Pre_finite_sgu_fwd
public import Idealize.ShloMosaic.Lib.Claim

@[expose] public section

set_option maxRecDepth 16384

noncomputable section

namespace Cert.SguFwdPair

open Idealize.ShloMosaic Idealize.ShloMosaic.TcCoe Idealize.SL.Sem Step Step.Sgu Cert.SguFwdIdeal.Entry

/-- Under the precondition the call's arguments are arrays of real numbers. -/
def real {m : (ℓ : Loc Cert.SguFwdIdeal.nD Cert.SguFwdIdeal.τ Cert.SguFwdIdeal.sig) → Buf (Elt Ideal) ℓ}
    (h : Cert.Pre_SguFwdIdeal_finite_sgu_fwd m) (c : Dev Cert.SguFwdIdeal.nD) : Real m c where
  X := _
  G := _
  W := _
  LG := _
  LB := _
  S := _
  B := _
  O := _
  hX := c2_of _ fun i => congrFun (h c).1 i
  hG := c1_of _ fun i => congrFun (h c).2.1 i
  hW := c2_of _ fun i => congrFun (h c).2.2.1 i
  hLG := c1_of _ fun i => congrFun (h c).2.2.2.1 i
  hLB := c1_of _ fun i => congrFun (h c).2.2.2.2.1 i
  hS := c3_of _ fun i => congrFun (h c).2.2.2.2.2.1 i
  hB := c2_of _ fun i => congrFun (h c).2.2.2.2.2.2.1 i
  hO := c2_of _ fun i => congrFun (h c).2.2.2.2.2.2.2 i

/-- The reference runs, keeps its arguments and leaves its counters at zero: it has none. -/
theorem reference_frame : Cert.quiescent_SguFwdRefIdeal := fun m ρ _ =>
  (θ_run _ _ _).mono (fun r h => ⟨fun c => (h c).2.2, by
    funext x
    rcases x with ⟨c, s⟩
    cases s with
    | reg i => exact i.elim0
    | dma i => exact i.elim0⟩) (Cert.SguFwdRefIdeal.Value.run m ρ)

/-- The named constant is the number the idealised program reads in its place. -/
theorem preserves : Cert.preserves_SguFwd_SguFwdIdeal :=
  IdealRules.named_const.statement Cert.SguFwdIdeal.κ "sqrt_half" .f32 0x3F3504F3#32 (((Real.sqrt 2)⁻¹ : ℝ) : EReal) rfl

theorem algebraic : Cert.algebraic_SguFwdIdeal_SguFwdRefIdeal_pre_finite_sgu_fwd := by
  intro m g m' g' hpre hagree
  have a : ∀ c, Real m c := real hpre
  refine ⟨fun c => c2 (XO (a c)), fun c => c2 (GT (a c)),
    (θ_run _ _ _).mono (fun r h c => ?_) (Cert.SguFwdIdeal.Value.run_blocks m g),
    (θ_run _ _ _).mono (fun r h c => ?_) (Cert.SguFwdRefIdeal.Value.run m' g')⟩
  · obtain ⟨h0, h1, hk⟩ := h c
    exact ⟨h0.trans (x_arr (a c)), h1.trans (gated_arr (a c)), hk⟩
  · obtain ⟨h0, h1, hk⟩ := h c
    obtain ⟨e0, e1, e2, e3, e4, e5, e6, e7⟩ := hagree c
    have e0 := e0.trans (a c).hX
    have e1 := e1.trans (a c).hG
    have e2 := e2.trans (a c).hW
    have e3 := e3.trans (a c).hLG
    have e4 := e4.trans (a c).hLB
    have e5 := e5.trans (a c).hS
    have e6 := e6.trans (a c).hB
    have e7 := e7.trans (a c).hO
    refine ⟨h0.trans ?_, h1.trans ?_, hk⟩
    all_goals clear h0 h1 hk
    · rw [Cert.SguFwdRefIdeal.Read.val_main_v63_eq, e0, e1, e2, e3, e4, e5, e6, e7]
      exact Cert.SguFwdRefIdeal.Stage.out _ _ _ _ _ _ _ _
    · rw [Cert.SguFwdRefIdeal.Read.val_main_v64_eq, e0, e1, e2, e3, e4, e5, e6]
      exact Cert.SguFwdRefIdeal.Stage.gated_out _ _ _ _ _ _ _

end Cert.SguFwdPair
-- ==== Proof.FfnFwdBody.lean ====
/-
  The body of a feed-forward layer's forward call on one block of 512 rows: what the call with the loss computes before its loss.
-/
module

public import proofs.«01_k».proof.Proof.LossBody
public import proofs.«01_k».proof.Proof.Gen.FfnFwdIdeal.Skeleton

@[expose] public section

set_option maxRecDepth 16384

noncomputable section

namespace Cert.FfnFwdIdeal.Body

open Cert.FfnFwdIdeal Cert.FfnFwdIdeal.Gen Idealize.ShloMosaic Step

open Cert.LossHeadIdeal.Body (inner outer left hf)

variable (X Z A : Fin 512 → Fin 1024 → ℝ) (G : Fin 1024 → ℝ) (V : Fin 1024 → Fin 1408 → ℝ) (g u : Fin 512 → Fin 1408 → ℝ) (B : Fin 1408 → Fin 1024 → ℝ)

theorem xn_block : k0_pay2 (F := Ideal) (c2 X) (c2 fun _ : Fin 1 => G) = c2 fun t k => X t k * inv (X t) * G k :=
  Cert.LossHeadIdeal.Body.xn_block X G

theorem zero_block : k0_pay3 (F := Ideal) = c2 fun _ _ => 0 :=
  Cert.LossHeadIdeal.Body.zero_block

theorem gate_block₀ : k0_pay4 (F := Ideal) (c2 X) (c2 fun _ : Fin 1 => G) (c3 fun _ : Fin 1 => V) = c2 (inner (fun t k => X t k * inv (X t) * G k) V) :=
  Cert.LossHeadIdeal.Body.gate_block₀ X G V

theorem load_block : k0_pay5 (F := Ideal) (c3 fun _ : Fin 1 => V) = c2 V :=
  Cert.LossHeadIdeal.Body.load_block V

theorem up_block₀ : k0_pay6 (F := Ideal) (c2 A) (c2 V) = c2 (inner A V) :=
  Cert.LossHeadIdeal.Body.up_block₀ A V

theorem gate_store₀ : k0_pay7 (F := Ideal) (c2 g) = c2 g :=
  Cert.LossHeadIdeal.Body.gate_store₀ g

theorem up_store₀ : k0_pay8 (F := Ideal) (c2 A) (c2 V) = c2 (inner A V) :=
  Cert.LossHeadIdeal.Body.up_store₀ A V

theorem acc_block : k0_pay9 (F := Ideal) (c2 A) (c2 Z) (c2 g) (c2 V) (c2 B) = c2 fun t k => Z t k + outer g (inner A V) B t k :=
  Cert.LossHeadIdeal.Body.acc_block Z A V g B

theorem gate_block₁ : k0_pay10 (F := Ideal) (c2 A) (c3 fun _ : Fin 1 => V) = c2 (inner A V) :=
  Cert.LossHeadIdeal.Body.gate_block₁ A V

theorem up_block₁ : k0_pay11 (F := Ideal) (c2 A) (c3 fun _ : Fin 1 => V) = c2 (inner A V) :=
  Cert.LossHeadIdeal.Body.up_block₁ A V

theorem gate_store₁ : k0_pay12 (F := Ideal) (c2 A) (c3 fun _ : Fin 1 => V) = c2 (inner A V) :=
  Cert.LossHeadIdeal.Body.gate_store₁ A V

theorem up_store₁ : k0_pay13 (F := Ideal) (c2 A) (c3 fun _ : Fin 1 => V) = c2 (inner A V) :=
  Cert.LossHeadIdeal.Body.up_store₁ A V

theorem tanh_block : k0_pay14 (F := Ideal) (c2 A) (c3 fun _ : Fin 1 => V) = c2 fun t j => Real.tanh (1 / 2 * inner A V t j) :=
  Cert.LossHeadIdeal.Body.tanh_block A V

theorem left_block : k0_pay1 (F := Ideal) (c2 X) (c2 Z) (c2 g) (c2 u) (c2 fun t j => Real.tanh (1 / 2 * g t j)) hf (c2 B) = c2 (left X Z g u B) :=
  Cert.LossHeadIdeal.Body.left_block X Z g u B

end Cert.FfnFwdIdeal.Body
-- ==== Proof.FfnFwdEntry.lean ====
/-
  What a feed-forward layer's forward call finds when its region starts, over real arguments: the packed weights, and
  the blocks the pipeline stages at a grid point.
-/
module

public import proofs.«01_k».proof.Proof.Gen.FfnFwdIdeal.Value
public import proofs.«01_k».proof.Proof.LossSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnFwdIdeal.Entry

open Cert.FfnFwdIdeal Cert.FfnFwdIdeal.Gen Idealize.ShloMosaic Idealize.ShloMosaic.TcCoe Idealize.SL.Sem Step

variable (m : (ℓ : Loc nD τ sig) → Buf (Elt Ideal) ℓ)

/-- The call's arguments on device `c` are arrays of real numbers. -/
structure Real (c : Dev nD) where
  X : Fin 8192 → Fin 1024 → ℝ
  G : Fin 1024 → ℝ
  W : Fin 1024 → Fin 5632 → ℝ
  O : Fin 2816 → Fin 1024 → ℝ
  hX : m ((c : Thread nD τ).loc main_arg0) = c2 X
  hG : m ((c : Thread nD τ).loc main_arg1) = c1 G
  hW : m ((c : Thread nD τ).loc main_arg2) = c2 W
  hO : m ((c : Thread nD τ).loc main_arg3) = c2 O

variable {m} {c : Dev nD} (a : Real m c)

/-- The inner weights by quarters of their columns, and the outer ones by quarters of their rows. -/
theorem inner_entry : (V m c main_v2 : S4x1024x1408.Idx → EReal) = c3 fun q k j => a.W k (Ffn.quarter q.val q.isLt j) := by
  entry_read
  rw [a.hW]
  funext i
  pointwise
  rfl

theorem outer_entry : (V m c main_v4 : S4x704x1024.Idx → EReal) = c3 fun q j k => a.O ⟨q.val * 704 + j.val, by omega⟩ k := by
  entry_read
  rw [a.hO]
  funext i
  pointwise
  rfl

/-- Row `r` of the block staged at grid point `t`. -/
def row (t : Fin cfg0.N) (r : Fin 512) : Fin 8192 := ⟨t.val * 512 + r.val, by have := t.isLt; have : cfg0.N = 16 := N_0; omega⟩

theorem x_block (t : Fin cfg0.N) : iblk m c 0 t = c2 fun r k => a.X (row t r) k := by
  have idx : ∀ t : Fin cfg0.N, win0_0.index t = ![t.val, 0] := (by decide +kernel : ∀ t : Fin grid0.N, _)
  funext i
  have e : iblk m c 0 t i = (c2 a.X : S8192x1024.Idx → EReal) (ix2 (row t (i 0)) (i 1)) := by
    rw [← a.hX]
    blk_ext [iblk, V, row, idx t]
  exact e

theorem g_block (t : Fin cfg0.N) : iblk m c 1 t = c2 fun (_ : Fin 1) k => a.G k := by
  have idx : ∀ t : Fin cfg0.N, win0_1.index t = ![0, 0] := (by decide +kernel : ∀ t : Fin grid0.N, _)
  funext i
  have e : iblk m c 1 t i = (V m c main_v5 : S1x1024.Idx → EReal) (ix2 (i 0) (i 1)) := by
    blk_ext [iblk, idx t]
  rw [e]
  entry_read
  rw [a.hG]
  pointwise
  rfl

end Cert.FfnFwdIdeal.Entry
-- ==== Proof.FfnFwdHeld.lean ====
/-
  The weights a feed-forward layer's forward call copies into its scratch at the first grid point and keeps: what the scratch holds at
  every point.
-/
module

public import proofs.«01_k».proof.Proof.FfnFwdEntry
public import Idealize.ShloMosaic.Lib.Pipeline.ValueKit.Held

@[expose] public section

set_option maxRecDepth 16384

noncomputable section

namespace Cert.FfnFwdIdeal.Entry

open Cert.FfnFwdIdeal Cert.FfnFwdIdeal.Gen Idealize.ShloMosaic Idealize.ShloMosaic.TcCoe Idealize.SL.Sem Step

variable {m : (ℓ : Loc nD τ sig) → Buf (Elt Ideal) ℓ} {c : Dev nD} (a : Real m c)

/-- The inner weights' scratch. -/
def win : S4x1024x1408.Idx → EReal := c3 fun q k j => a.W k (Ffn.quarter q.val q.isLt j)
/-- The outer weights' scratch. -/
def wout : S2816x1024.Idx → EReal := c2 a.O

/-- The slices copied into the inner weights' scratch fill it. -/
theorem win_pieces (h3 h2 h1 h0) (i : S4x1024x1408.Idx) :
    View.canon (Val := Elt Ideal) (s := S4x1024x1408) (e := .bf16)
      [⟨Rect.unit ![3, 0, 0] ![1, 1024, 1408] h3, ReadAs.same.apply (View.read (Elt Ideal) ((View.whole main_v2).slice (Rect.unit ![3, 0, 0] ![1, 1024, 1408] h3)) (V m c main_v2))⟩,
       ⟨Rect.unit ![2, 0, 0] ![1, 1024, 1408] h2, ReadAs.same.apply (View.read (Elt Ideal) ((View.whole main_v2).slice (Rect.unit ![2, 0, 0] ![1, 1024, 1408] h2)) (V m c main_v2))⟩,
       ⟨Rect.unit ![1, 0, 0] ![1, 1024, 1408] h1, ReadAs.same.apply (View.read (Elt Ideal) ((View.whole main_v2).slice (Rect.unit ![1, 0, 0] ![1, 1024, 1408] h1)) (V m c main_v2))⟩,
       ⟨Rect.unit ![0, 0, 0] ![1, 1024, 1408] h0, ReadAs.same.apply (View.read (Elt Ideal) ((View.whole main_v2).slice (Rect.unit ![0, 0, 0] ![1, 1024, 1408] h0)) (V m c main_v2))⟩] i
      = win a i := by
  rw [← List.append_nil (_ :: _)]
  refine (View.canon_append_of_piecesOf (win a) [] _ ?_ _ (View.cover_of_tiledL _ ![1, 1024, 1408] (by sl_kernel_rfl) _)).trans rfl
  rw [win, ← inner_entry a]
  exact ⟨fun x => rfl, fun x => rfl, fun x => rfl, fun x => rfl, trivial⟩

/-- Read back, the inner weights' scratch so filled is the inner weights. -/
theorem win_fill (v : View sig .tc .vmem S4x1024x1408 .bf16) (h3 h2 h1 h0) (B : Rect S4x1024x1408) :
    v.readCov (Val := Elt Ideal)
      [⟨Rect.unit ![3, 0, 0] ![1, 1024, 1408] h3, ReadAs.same.apply (View.read (Elt Ideal) ((View.whole main_v2).slice (Rect.unit ![3, 0, 0] ![1, 1024, 1408] h3)) (V m c main_v2))⟩,
       ⟨Rect.unit ![2, 0, 0] ![1, 1024, 1408] h2, ReadAs.same.apply (View.read (Elt Ideal) ((View.whole main_v2).slice (Rect.unit ![2, 0, 0] ![1, 1024, 1408] h2)) (V m c main_v2))⟩,
       ⟨Rect.unit ![1, 0, 0] ![1, 1024, 1408] h1, ReadAs.same.apply (View.read (Elt Ideal) ((View.whole main_v2).slice (Rect.unit ![1, 0, 0] ![1, 1024, 1408] h1)) (V m c main_v2))⟩,
       ⟨Rect.unit ![0, 0, 0] ![1, 1024, 1408] h0, ReadAs.same.apply (View.read (Elt Ideal) ((View.whole main_v2).slice (Rect.unit ![0, 0, 0] ![1, 1024, 1408] h0)) (V m c main_v2))⟩] B.toLoadRect
      = View.ld (win a) B := by
  rw [View.readCov_eq_canon']
  funext j
  exact win_pieces a h3 h2 h1 h0 _

/-- A slab of 704 rows, its leading axis of size one dropped. -/
theorem slab (Y : FVec Ideal S1x704x1024 .bf16) (f : S1x704x1024.ShapeCasts S704x1024) (x : S704x1024.Idx) :
    shapeCast S704x1024 Y f x = Y (ix3 0 (x 0) (x 1)) := by
  pointwise

/-- The slab copied into a quarter of the outer weights' rows is that quarter. -/
theorem wout_slice (q r : ℕ) (hq : q < 4) (hr : r = q * 704) (e : ∀ b, ![q, 0, 0] b + ![1, 704, 1024] b ≤ S4x704x1024.size b) (f : S1x704x1024.ShapeCasts S704x1024)
    (h : ∀ b, ![r, 0] b + ![704, 1024] b ≤ S2816x1024.size b) (x : (Rect.unit (s := S2816x1024) ![r, 0] ![704, 1024] h).shape.Idx) :
    ReadAs.same.apply (View.read (Elt Ideal) (((View.whole main_v4).slice (Rect.unit ![q, 0, 0] ![1, 704, 1024] e)).reshape S704x1024 f) (V m c main_v4)) x
      = wout a ((Rect.unit ![r, 0] ![704, 1024] h).emb x) := by
  refine (slab (View.ld (V m c main_v4 : S4x704x1024.Idx → EReal) (Rect.unit ![q, 0, 0] ![1, 704, 1024] e)) f x).trans ?_
  rw [outer_entry a]
  unfold wout
  show ((a.O _ _ : ℝ) : EReal) = ((a.O _ _ : ℝ) : EReal)
  congr 2
  · apply Fin.ext
    show (q + 1 * 0) * 704 + (0 + 1 * (x 0).val) = r + 1 * (x 0).val
    omega
/-- The slabs copied into the outer weights' scratch fill it. -/
theorem wout_pieces (h3 h2 h1 h0 e3 e2 e1 e0 f3 f2 f1 f0) (i : S2816x1024.Idx) :
    View.canon (Val := Elt Ideal) (s := S2816x1024) (e := .bf16)
      [⟨Rect.unit ![2112, 0] ![704, 1024] h3, ReadAs.same.apply (View.read (Elt Ideal) (((View.whole main_v4).slice (Rect.unit ![3, 0, 0] ![1, 704, 1024] e3)).reshape S704x1024 f3) (V m c main_v4))⟩,
       ⟨Rect.unit ![1408, 0] ![704, 1024] h2, ReadAs.same.apply (View.read (Elt Ideal) (((View.whole main_v4).slice (Rect.unit ![2, 0, 0] ![1, 704, 1024] e2)).reshape S704x1024 f2) (V m c main_v4))⟩,
       ⟨Rect.unit ![704, 0] ![704, 1024] h1, ReadAs.same.apply (View.read (Elt Ideal) (((View.whole main_v4).slice (Rect.unit ![1, 0, 0] ![1, 704, 1024] e1)).reshape S704x1024 f1) (V m c main_v4))⟩,
       ⟨Rect.unit ![0, 0] ![704, 1024] h0, ReadAs.same.apply (View.read (Elt Ideal) (((View.whole main_v4).slice (Rect.unit ![0, 0, 0] ![1, 704, 1024] e0)).reshape S704x1024 f0) (V m c main_v4))⟩] i
      = wout a i := by
  rw [← List.append_nil (_ :: _)]
  refine (View.canon_append_of_piecesOf (wout a) [] _ ?_ _ (View.cover_of_tiledL _ ![704, 1024] (by sl_kernel_rfl) _)).trans rfl
  refine ⟨fun x => ?_, fun x => ?_, fun x => ?_, fun x => ?_, trivial⟩
  · exact wout_slice a 3 2112 (by decide) (by decide) e3 f3 h3 x
  · exact wout_slice a 2 1408 (by decide) (by decide) e2 f2 h2 x
  · exact wout_slice a 1 704 (by decide) (by decide) e1 f1 h1 x
  · exact wout_slice a 0 0 (by decide) (by decide) e0 f0 h0 x

/-- Read back, the outer weights' scratch so filled is the outer weights. -/
theorem wout_fill (v : View sig .tc .vmem S2816x1024 .bf16) (h3 h2 h1 h0 e3 e2 e1 e0 f3 f2 f1 f0) (B : Rect S2816x1024) :
    v.readCov (Val := Elt Ideal)
      [⟨Rect.unit ![2112, 0] ![704, 1024] h3, ReadAs.same.apply (View.read (Elt Ideal) (((View.whole main_v4).slice (Rect.unit ![3, 0, 0] ![1, 704, 1024] e3)).reshape S704x1024 f3) (V m c main_v4))⟩,
       ⟨Rect.unit ![1408, 0] ![704, 1024] h2, ReadAs.same.apply (View.read (Elt Ideal) (((View.whole main_v4).slice (Rect.unit ![2, 0, 0] ![1, 704, 1024] e2)).reshape S704x1024 f2) (V m c main_v4))⟩,
       ⟨Rect.unit ![704, 0] ![704, 1024] h1, ReadAs.same.apply (View.read (Elt Ideal) (((View.whole main_v4).slice (Rect.unit ![1, 0, 0] ![1, 704, 1024] e1)).reshape S704x1024 f1) (V m c main_v4))⟩,
       ⟨Rect.unit ![0, 0] ![704, 1024] h0, ReadAs.same.apply (View.read (Elt Ideal) (((View.whole main_v4).slice (Rect.unit ![0, 0, 0] ![1, 704, 1024] e0)).reshape S704x1024 f0) (V m c main_v4))⟩] B.toLoadRect
      = View.ld (wout a) B := by
  rw [View.readCov_eq_canon']
  funext j
  exact wout_pieces a h3 h2 h1 h0 e3 e2 e1 e0 f3 f2 f1 f0 _

/-- At every grid point the scratch holds the inner weights … -/
theorem win_held (t : Fin cfg0.N) : (outsAt0 m c t.val t.isLt).2.2.2.1 = win a := by
  funext i
  refine Pipeline.eq_of_write_hold_apply (fun n h => (outsAt0 m c n h).2.2.2.1) 16 (fun _ => win a) (fun t h i => ?_) (fun t h i => ?_) t i
  · rw [outsAt0_A m c t h]
    frame_out
    exact win_pieces a _ _ _ _ i
  · rw [outsAt0_B m c t h]
    rfl

/-- … and the outer weights. -/
theorem wout_held (t : Fin cfg0.N) : (outsAt0 m c t.val t.isLt).2.2.2.2 = wout a := by
  funext i
  refine Pipeline.eq_of_write_hold_apply (fun n h => (outsAt0 m c n h).2.2.2.2) 16 (fun _ => wout a) (fun t h i => ?_) (fun t h i => ?_) t i
  · rw [outsAt0_A m c t h]
    frame_out
    exact wout_pieces a _ _ _ _ _ _ _ _ _ _ _ _ i
  · rw [outsAt0_B m c t h]
    rfl

end Cert.FfnFwdIdeal.Entry
-- ==== Proof.FfnFwdOuts.lean ====
/-
  What the body of a feed-forward layer's forward call leaves at a grid point: the block of each result, in real
  numbers.
-/
module

public import proofs.«01_k».proof.Proof.FfnFwdBody
public import proofs.«01_k».proof.Proof.FfnFwdHeld
public import Idealize.ShloMosaic.Lib.Pipeline.ReadBack

@[expose] public section

set_option maxRecDepth 16384

noncomputable section

namespace Cert.FfnFwdIdeal.Entry

open Cert.FfnFwdIdeal Cert.FfnFwdIdeal.Gen Idealize.ShloMosaic Idealize.ShloMosaic.TcCoe Idealize.SL.Sem Step Body

open Cert.LossHeadIdeal.Body (inner outer left)

variable {m : (ℓ : Loc nD τ sig) → Buf (Elt Ideal) ℓ} {c : Dev nD} (a : Real m c)

/-! ## Reading a tile -/

theorem ld_hidden (H : Fin 512 → Fin 5632 → ℝ) (q o : ℕ) (hq : q < 4) (ho : o = q * 1408) (h) :
    View.ld (Val := Elt Ideal) (e' := .bf16) (c2 H : S512x5632.Idx → EReal) (Rect.unit (s := S512x5632) ![0, o] ![512, 1408] h)
      = c2 fun t j => H t (Ffn.quarter q hq j) := by
  funext i
  refine congrArg Real.toEReal (congrArg₂ H (Fin.ext ?_) (Fin.ext ?_))
  · show 0 + 1 * (i 0).val = (i 0).val
    omega
  · show o + 1 * (i 1).val = q * 1408 + (i 1).val
    omega

theorem ld_outer (p o : ℕ) (hp : p < 2) (ho : o = p * 1408) (h) :
    View.ld (Val := Elt Ideal) (e' := .bf16) (wout a) (Rect.unit (s := S2816x1024) ![o, 0] ![1408, 1024] h) = c2 fun j k => a.O (Loss.half p hp j) k := by
  funext i
  refine congrArg Real.toEReal (congrArg₂ a.O (Fin.ext ?_) (Fin.ext ?_))
  · show o + 1 * (i 0).val = p * 1408 + (i 0).val
    omega
  · show 0 + 1 * (i 1).val = (i 1).val
    omega

theorem ld_inner (q : ℕ) (hq : q < 4) (h) :
    View.ld (Val := Elt Ideal) (e' := .bf16) (win a) (Rect.unit (s := S4x1024x1408) ![q, 0, 0] ![1, 1024, 1408] h)
      = c3 fun (_ : Fin 1) k j => a.W k (Ffn.quarter q hq j) := by
  funext i
  have h0 : (i 0).val = 0 := Nat.lt_one_iff.mp (i 0).isLt
  refine congrArg Real.toEReal (congrArg₂ a.W (Fin.ext ?_) (Fin.ext ?_))
  · show 0 + 1 * (i 1).val = (i 1).val
    omega
  · show (q + 1 * (i 0).val) * 1408 + (0 + 1 * (i 2).val) = q * 1408 + (i 2).val
    rw [h0]
    omega

/-! ## The rows of a block -/

/-- The inner product's row, and the row the layer leaves, of the block's row `r`. -/
abbrev hrow (t : Fin cfg0.N) (r : Fin 512) : Fin 5632 → ℝ := Ffn.pre (a.X (row t r)) a.G a.W
abbrev lrow (t : Fin cfg0.N) (r : Fin 512) : Fin 1024 → ℝ := Loss.leaves (a.X (row t r)) a.G a.W a.O

/-- A tile of the inner product. -/
theorem tile (t : Fin cfg0.N) (q : ℕ) (hq : q < 4) :
    inner (fun r k => a.X (row t r) k * inv (a.X (row t r)) * a.G k) (fun k j => a.W k (Ffn.quarter q hq j)) = fun r j => hrow a t r (Ffn.quarter q hq j) := rfl

/-- The tiles' products, one half after the other, are the layer's. -/
theorem lefts (t : Fin cfg0.N) (h0 : 0 < 4) (h1 : 1 < 4) (h2 : 2 < 4) (h3 : 3 < 4) (p0 : 0 < 2) (p1 : 1 < 2) :
    left (fun r k => a.X (row t r) k)
        (fun r k => 0 + outer (fun r j => hrow a t r (Ffn.quarter 0 h0 j)) (fun r j => hrow a t r (Ffn.quarter 2 h2 j)) (fun j k => a.O (Loss.half 0 p0 j) k) r k)
        (fun r j => hrow a t r (Ffn.quarter 1 h1 j)) (fun r j => hrow a t r (Ffn.quarter 3 h3 j)) (fun j k => a.O (Loss.half 1 p1 j) k)
      = lrow a t := by
  funext r k
  rw [lrow, Loss.leaves_halves]
  simp only [Loss.act_half _ 0 0 2 p0 h0 h2 rfl rfl, Loss.act_half _ 1 1 3 p1 h1 h3 rfl rfl]
  rfl

/-! ## The body's results -/

theorem win_before (t : Fin cfg0.N) (h) : (outsAt0 m c (t.val - 1) h).2.2.2.1 = win a := win_held a ⟨t.val - 1, h⟩
theorem wout_before (t : Fin cfg0.N) (h) : (outsAt0 m c (t.val - 1) h).2.2.2.2 = wout a := wout_held a ⟨t.val - 1, h⟩

theorem xo_out (t : Fin cfg0.N) : (outsAt0 m c t.val t.isLt).1 = c2 (lrow a t) := by
  by_cases h : t.val % 16 = 0
  on_goal 1 => rw [outsAt0_A m c t h]; frame_out; simp only [win_fill a, wout_fill a]
  on_goal 2 => rw [outsAt0_B m c t h]; frame_out; simp only [read_unread_whole, win_before a, wout_before a]
  all_goals
    simp only [x_block a, g_block a, ld_inner a 0 (by decide), ld_inner a 1 (by decide), ld_inner a 2 (by decide), ld_inner a 3 (by decide), ld_outer a 0 0 (by decide) rfl, ld_outer a 1 1408 (by decide) rfl]
    simp only [xn_block, gate_block₀, load_block, zero_block, acc_block, gate_block₁, up_block₁, tanh_block, tile]
    simp only [left_block, lefts]

theorem h_out (t : Fin cfg0.N) : (outsAt0 m c t.val t.isLt).2.1 = c2 (hrow a t) := by
  by_cases h : t.val % 16 = 0
  on_goal 1 => rw [outsAt0_A m c t h]; frame_out; simp only [win_fill a, wout_fill a]
  on_goal 2 => rw [outsAt0_B m c t h]; frame_out; simp only [read_unread_whole, win_before a, wout_before a]
  all_goals
    simp only [x_block a, g_block a, ld_inner a 0 (by decide), ld_inner a 1 (by decide), ld_inner a 2 (by decide), ld_inner a 3 (by decide), ld_outer a 0 0 (by decide) rfl, ld_outer a 1 1408 (by decide) rfl]
    simp only [xn_block, gate_block₀, load_block, gate_store₀, up_store₀, gate_store₁, up_store₁, tile]
    funext i
    rw [← List.append_nil (_ :: _)]
    refine (View.canon_append_of_piecesOf (c2 (hrow a t) : S512x5632.Idx → EReal) [] _ ?_ _ (View.cover_of_tiledL _ ![512, 1408] (by sl_kernel_rfl) _)).trans rfl
    exact ⟨fun x => (congrFun (ld_hidden (hrow a t) 3 4224 (by decide) rfl inb_S512x5632_S512x1408_0_4224) x).symm, fun x => (congrFun (ld_hidden (hrow a t) 1 1408 (by decide) rfl inb_S512x5632_S512x1408_0_1408) x).symm,
      fun x => (congrFun (ld_hidden (hrow a t) 2 2816 (by decide) rfl inb_S512x5632_S512x1408_0_2816) x).symm, fun x => (congrFun (ld_hidden (hrow a t) 0 0 (by decide) rfl inb_S512x5632_S512x1408_0_0) x).symm, trivial⟩

theorem xn_out (t : Fin cfg0.N) : (outsAt0 m c t.val t.isLt).2.2.1 = c2 fun r k => a.X (row t r) k * inv (a.X (row t r)) * a.G k := by
  by_cases h : t.val % 16 = 0
  on_goal 1 => rw [outsAt0_A m c t h]; frame_out
  on_goal 2 => rw [outsAt0_B m c t h]; frame_out
  all_goals simp only [x_block a, g_block a, xn_block]

end Cert.FfnFwdIdeal.Entry
-- ==== Proof.FfnFwdArr.lean ====
/-
  What the result arrays of a feed-forward layer's forward call hold when it has run.
-/
module

public import proofs.«01_k».proof.Proof.FfnFwdOuts

@[expose] public section

set_option maxRecDepth 16384

noncomputable section

namespace Cert.FfnFwdIdeal.Entry

open Cert.FfnFwdIdeal Cert.FfnFwdIdeal.Gen Idealize.ShloMosaic Idealize.ShloMosaic.TcCoe Idealize.SL.Sem Step Body

variable {m : (ℓ : Loc nD τ sig) → Buf (Elt Ideal) ℓ} {c : Dev nD} (a : Real m c)

/-- The whole result arrays, in real numbers. -/
def XO (t : Fin 8192) : Fin 1024 → ℝ := Loss.leaves (a.X t) a.G a.W a.O
def HID (t : Fin 8192) : Fin 5632 → ℝ := Ffn.pre (a.X t) a.G a.W
def XN (t : Fin 8192) (k : Fin 1024) : ℝ := a.X t k * inv (a.X t) * a.G k

theorem x_arr : (dats m 0 c).arrAt 2 cfg0.N = (c2 (XO a) : S8192x1024.Idx → EReal) := by
  have idx : ∀ t : Fin cfg0.N, win0_2.index t = ![t.val, 0] := (by decide +kernel : ∀ t : Fin grid0.N, _)
  refine (dats m 0 c).arrAt_eq_of_covers 2 (c2 (XO a) : S8192x1024.Idx → EReal) (by decide +kernel) fun t hf y => ?_
  blk_simp
  rw [after0_2, xo_out a t]
  have e : (win0_2.blk t).view.emb y = (ix2 (row t (y 0)) (y 1) : S8192x1024.Idx) := by blk_ext [row, idx t]
  rw [e]
  rfl

theorem h_arr : (dats m 0 c).arrAt 3 cfg0.N = (c2 (HID a) : S8192x5632.Idx → EReal) := by
  have idx : ∀ t : Fin cfg0.N, win0_3.index t = ![t.val, 0] := (by decide +kernel : ∀ t : Fin grid0.N, _)
  refine (dats m 0 c).arrAt_eq_of_covers 3 (c2 (HID a) : S8192x5632.Idx → EReal) (by decide +kernel) fun t hf y => ?_
  blk_simp
  rw [after0_3, h_out a t]
  have e : (win0_3.blk t).view.emb y = (ix2 (row t (y 0)) (y 1) : S8192x5632.Idx) := by blk_ext [row, idx t]
  rw [e]
  rfl

theorem xn_arr : (dats m 0 c).arrAt 4 cfg0.N = (c2 (XN a) : S8192x1024.Idx → EReal) := by
  have idx : ∀ t : Fin cfg0.N, win0_4.index t = ![t.val, 0] := (by decide +kernel : ∀ t : Fin grid0.N, _)
  refine (dats m 0 c).arrAt_eq_of_covers 4 (c2 (XN a) : S8192x1024.Idx → EReal) (by decide +kernel) fun t hf y => ?_
  blk_simp
  rw [after0_4, xn_out a t]
  have e : (win0_4.blk t).view.emb y = (ix2 (row t (y 0)) (y 1) : S8192x1024.Idx) := by blk_ext [row, idx t]
  rw [e]
  rfl

end Cert.FfnFwdIdeal.Entry
-- ==== Proof.FfnFwdRef.lean ====
/-
  What the reference of a feed-forward layer computes on arrays of real numbers: the lines before the loss of the reference with the loss.
-/
module

public import proofs.«01_k».proof.Proof.LossRef
public import proofs.«01_k».proof.Proof.Gen.FfnFwdRefIdeal.Read

@[expose] public section

set_option maxRecDepth 16384

noncomputable section

namespace Cert.FfnFwdRefIdeal.Stage

open Cert.FfnFwdRefIdeal Cert.FfnFwdRefIdeal.Gen Cert.FfnFwdRefIdeal.Read Idealize.ShloMosaic Step

open Cert.LossHeadRefIdeal.Stage (pre left)

variable (X : Fin 8192 → Fin 1024 → ℝ) (G : Fin 1024 → ℝ) (W : Fin 1024 → Fin 5632 → ℝ) (O : Fin 2816 → Fin 1024 → ℝ)

theorem lefts : val_main_v21 (F := Ideal) (c2 X) (c1 G) (c2 W) (c2 O) = c2 (left X G W O) :=
  Cert.LossHeadRefIdeal.Stage.lefts X G W O

theorem hid_out : val_main_v22 (F := Ideal) (c2 X) (c1 G) (c2 W) = c2 (pre X G W) :=
  Cert.LossHeadRefIdeal.Stage.hid_out X G W

theorem normed_out : val_main_v23 (F := Ideal) (c2 X) (c1 G) = c2 fun t k => X t k * inv (X t) * G k :=
  Cert.LossHeadRefIdeal.Stage.normed_out X G

end Cert.FfnFwdRefIdeal.Stage
-- ==== Proof.FfnFwdPair.lean ====
/-
  A feed-forward layer's forward call and that layer's own mathematics leave the same three arrays.
-/
module

public import proofs.«01_k».proof.Defs
public import proofs.«01_k».proof.Proof.Finite
public import proofs.«01_k».proof.Proof.FfnFwdArr
public import proofs.«01_k».proof.Proof.FfnFwdRef
public import proofs.«01_k».proof.Proof.Gen.Pre_finite_ffn_fwd
public import Idealize.ShloMosaic.Lib.Claim

@[expose] public section

set_option maxRecDepth 16384

noncomputable section

namespace Cert.FfnFwdPair

open Idealize.ShloMosaic Idealize.ShloMosaic.TcCoe Idealize.SL.Sem Step Cert.FfnFwdIdeal.Entry

/-- Under the precondition the call's arguments are arrays of real numbers. -/
def real {m : (ℓ : Loc Cert.FfnFwdIdeal.nD Cert.FfnFwdIdeal.τ Cert.FfnFwdIdeal.sig) → Buf (Elt Ideal) ℓ}
    (h : Cert.Pre_FfnFwdIdeal_finite_ffn_fwd m) (c : Dev Cert.FfnFwdIdeal.nD) : Real m c where
  X := _
  G := _
  W := _
  O := _
  hX := c2_of _ fun i => congrFun (h c).1 i
  hG := c1_of _ fun i => congrFun (h c).2.1 i
  hW := c2_of _ fun i => congrFun (h c).2.2.1 i
  hO := c2_of _ fun i => congrFun (h c).2.2.2 i

/-- The reference runs, keeps its arguments and leaves its counters at zero: it has none. -/
theorem reference_frame : Cert.quiescent_FfnFwdRefIdeal := fun m ρ _ =>
  (θ_run _ _ _).mono (fun r h => ⟨fun c => (h c).2.2.2, by
    funext x
    rcases x with ⟨c, s⟩
    cases s with
    | reg i => exact i.elim0
    | dma i => exact i.elim0⟩) (Cert.FfnFwdRefIdeal.Value.run m ρ)

theorem algebraic : Cert.algebraic_FfnFwdIdeal_FfnFwdRefIdeal_pre_finite_ffn_fwd := by
  intro m g m' g' hpre hagree
  have a : ∀ c, Real m c := real hpre
  refine ⟨fun c => c2 (XO (a c)), fun c => c2 (HID (a c)), fun c => c2 (XN (a c)),
    (θ_run _ _ _).mono (fun r h c => ?_) (Cert.FfnFwdIdeal.Value.run_blocks m g),
    (θ_run _ _ _).mono (fun r h c => ?_) (Cert.FfnFwdRefIdeal.Value.run m' g')⟩
  · obtain ⟨h0, h1, h2, hk⟩ := h c
    exact ⟨h0.trans (x_arr (a c)), h1.trans (h_arr (a c)), h2.trans (xn_arr (a c)), hk⟩
  · obtain ⟨h0, h1, h2, hk⟩ := h c
    obtain ⟨e0, e1, e2, e3⟩ := hagree c
    have e0 := e0.trans (a c).hX
    have e1 := e1.trans (a c).hG
    have e2 := e2.trans (a c).hW
    have e3 := e3.trans (a c).hO
    refine ⟨h0.trans ?_, h1.trans ?_, h2.trans ?_, hk⟩
    · rw [Cert.FfnFwdRefIdeal.Read.val_main_v21_eq, e0, e1, e2, e3]
      exact Cert.FfnFwdRefIdeal.Stage.lefts _ _ _ _
    · rw [Cert.FfnFwdRefIdeal.Read.val_main_v22_eq, e0, e1, e2]
      exact Cert.FfnFwdRefIdeal.Stage.hid_out _ _ _
    · rw [Cert.FfnFwdRefIdeal.Read.val_main_v23_eq, e0, e1]
      exact Cert.FfnFwdRefIdeal.Stage.normed_out _ _

end Cert.FfnFwdPair
-- ==== Proof.MixFwdTap.lean ====
/-
  The convolution of one block of rows and lanes, tap by tap, in real numbers with indices that are natural numbers: tap `k` meets the
  window turned down by `30 − k` rows.
-/
module

public import proofs.«01_k».proof.Proof.MixOutTap
public import proofs.«01_k».proof.Proof.MixTap

@[expose] public section

set_option maxRecDepth 16384

noncomputable section

namespace Step.MixFwd

open Step Step.MixOut

/-- The two halves of a row side by side: the channel mix scaled, and the sigmoid unit of the normalised convolution. -/
def ycat (M : Fin 4 → Fin 128 → Fin 128 → ℝ) (b s : Fin 512 → ℝ) (p : ℕ → ℝ) (y g z : Fin 512 → ℝ) (j : Fin 1024) : ℝ :=
  if h : j.val < 512 then mixed M b p ⟨j.val, h⟩ * s ⟨j.val, h⟩
  else aff y g z ⟨j.val - 512, by omega⟩ * logi (aff y g z ⟨j.val - 512, by omega⟩)

theorem ycat_low (M b s p y g z) (j : Fin 1024) (h : j.val < 512) : ycat M b s p y g z j = mixed M b p ⟨j.val, h⟩ * s ⟨j.val, h⟩ := dif_pos h

theorem ycat_high (M b s p y g z) (j : Fin 1024) (h : ¬ j.val < 512) :
    ycat M b s p y g z j = aff y g z ⟨j.val - 512, by omega⟩ * logi (aff y g z ⟨j.val - 512, by omega⟩) := dif_neg h

end Step.MixFwd

namespace Step.MixFwd.Tap

open Idealize.ShloMosaic Step Step.Mix Step.Mix.Host Step.MixOut
open Cert.MixInBwdIdeal.Tap (cN cN_apply cN_congr shift sum_two product)
open Step.MixOut.Tap (lowered_slice)

/-- The sum of the first `n` taps' products: tap `k` meets the row `2 + k` further down. -/
def fwd (w t : ℕ → ℕ → ℝ) : ℕ → ℕ → ℕ → ℝ
  | 0, _, _ => 0
  | n + 1, i, j => fwd w t n i j + t n j * w (i + (2 + n)) j

theorem fwd_eq (w t : ℕ → ℕ → ℝ) (n i j : ℕ) : fwd w t n i j = ∑ k ∈ Finset.range n, t k j * w (i + (2 + k)) j := by
  induction n with
  | zero => rfl
  | succ n ih => rw [Finset.sum_range_succ, ← ih]; rfl

theorem fwd_shift (E T : ℕ → ℕ → ℝ) (o p n : ℕ) : fwd (shift E o p) (shift T 0 p) n = shift (fwd E T n) o p := by
  funext i j
  show _ = fwd E T n (o + i) (p + j)
  rw [fwd_eq, fwd_eq]
  refine Finset.sum_congr rfl fun k _ => ?_
  show T (0 + k) (p + j) * E (o + (i + (2 + k))) (p + j) = T k (p + j) * E (o + i + (2 + k)) (p + j)
  rw [Nat.zero_add, Nat.add_assoc]

/-- The window turned down by `30 − k` rows, read from row 32 on. -/
theorem met (w : ℕ → ℕ → ℝ) (k : ℕ) (r : BitVec 32) (hk : k < 30) (hr : r.toNat = 30 - k) (h h') :
    extractStridedSlice ⟨2, ![128, 128]⟩ ![32, 0] (dynamicRotate 0 r none (cN 160 128 w) h) h' = cN 128 128 fun i j => w (i + (2 + k)) j := by
  rw [lowered_slice w r (by omega), hr, show 32 - (30 - k) = 2 + k by omega]

/-- The first tap on a block of zeros. -/
theorem first (w t : ℕ → ℕ → ℝ) (r : BitVec 32) (hr : r.toNat = 30 - 0) (h₁ h₂ h₃ h₄) :
    addf (F := Ideal) (φ := .f32) (broadcast ⟨2, ![128, 128]⟩ (Scalar.ofBits .f32 0x00000000#32))
      (mulf (broadcastTo ⟨2, ![128, 128]⟩ (extractStridedSlice ⟨2, ![1, 128]⟩ ![0, 0] (cN 31 128 t) h₁) h₂)
        (extractStridedSlice ⟨2, ![128, 128]⟩ ![32, 0] (dynamicRotate 0 r none (cN 160 128 w) h₃) h₄)) = cN 128 128 (fwd w t 1) := by
  rw [met w 0 r (by omega) hr, product]
  exact (congrArg (fun x => addf (F := Ideal) (φ := .f32) x _) (show _ = cN 128 128 fun _ _ => 0 from funext fun i => lit_zero)).trans (sum_two _ _ _ _)

/-- A further tap. -/
theorem further (w t : ℕ → ℕ → ℝ) (k : ℕ) (r : BitVec 32) (hk : k < 30) (hr : r.toNat = 30 - k) (h₁ h₂ h₃ h₄) :
    addf (F := Ideal) (φ := .f32) (cN 128 128 (fwd w t k))
      (mulf (broadcastTo ⟨2, ![128, 128]⟩ (extractStridedSlice ⟨2, ![1, 128]⟩ ![k, 0] (cN 31 128 t) h₁) h₂)
        (extractStridedSlice ⟨2, ![128, 128]⟩ ![32, 0] (dynamicRotate 0 r none (cN 160 128 w) h₃) h₄)) = cN 128 128 (fwd w t (k + 1)) := by
  rw [met w k r hk hr, product, sum_two]
  rfl

/-- The last tap, which meets the window as it is. -/
theorem final (E T : ℕ → ℕ → ℝ) (o p : ℕ) (h₁ h₂ h₄) :
    addf (F := Ideal) (φ := .f32) (cN 128 128 (fwd (shift E o p) (shift T 0 p) 30))
      (mulf (broadcastTo ⟨2, ![128, 128]⟩ (extractStridedSlice ⟨2, ![1, 128]⟩ ![30, 0] (cN 31 128 (shift T 0 p)) h₁) h₂)
        (extractStridedSlice ⟨2, ![128, 128]⟩ ![32, 0] (cN 160 128 (shift E o p)) h₄)) = cN 128 128 (shift (fwd E T 31) o p) := by
  rw [← fwd_shift, show extractStridedSlice ⟨2, ![128, 128]⟩ ![32, 0] (cN 160 128 (shift E o p)) h₄ = cN 128 128 fun i j => shift E o p (i + (2 + 30)) j from by
    funext i; pointwise; simp only [cN_apply]; congr 2 <;> simp <;> omega, product, sum_two]
  rfl

/-- With the shift, all 31 over the gated channels are the convolution. -/
theorem fwd_all (H : Fin 8192 → Fin 1536 → ℝ) (T : Fin 31 → Fin 512 → ℝ) (b : Fin 512 → ℝ) (t₀ i : ℕ) (j : Fin 512) :
    fwd (fun i j => glu (ext H) (t₀ + i) j) (tot T) 31 i j.val + b j = conv H T b (t₀ + i) j := by
  rw [fwd_eq]
  unfold conv
  refine congrArg (· + b j) (Finset.sum_congr rfl fun k _ => ?_)
  rw [mul_comm, show t₀ + (i + (2 + k)) = t₀ + i + 2 + k by omega]

end Step.MixFwd.Tap
-- ==== Proof.MixFwdBody.lean ====
/-
  The blocks of the mixer's forward body, in real numbers.
-/
module

public import proofs.«01_k».proof.Proof.MixOutBody
public import proofs.«01_k».proof.Proof.MixFwdTap
public import proofs.«01_k».proof.Proof.Gen.MixFwdIdeal.Skeleton

@[expose] public section

set_option maxRecDepth 16384

noncomputable section

namespace Cert.MixFwdIdeal.Body

open Cert.MixFwdIdeal Cert.MixFwdIdeal.Gen Idealize.ShloMosaic Idealize.ShloMosaic.TcCoe Step Step.Mix Step.Mix.Host Step.MixOut Step.MixOut.Tap Step.MixFwd
open Cert.MixInBwdIdeal.Tap (cN cN_apply cN_congr shift sum_two)

/-! ## A block with the rows before it -/

theorem h_block (f : ℕ → ℕ → ℝ) : k0_pay2 (F := Ideal) (cN 512 1536 f) = cN 512 1536 f := Cert.MixOutBwdIdeal.Body.h_block f

theorem cb_block (g : Fin 512 → ℝ) : k0_pay3 (F := Ideal) (c2 fun _ : Fin 1 => g) = c2 fun _ : Fin 1 => g := Cert.MixOutBwdIdeal.Body.lg_block g

/-- The rows before a block are the previous rows, zero before the first block. -/
theorem joined (i : grid0.Coords) (t : ℕ) (ht : t < 16) (hi : (i 0).val = t) (F : ℕ → ℕ → ℝ) (o : ℕ) (B : S32x1536.Idx → EReal)
    (hin : 0 < t → B = cN 32 1536 (shift F o 0)) (hout : ¬ 0 < t → ∀ i j, i < 32 → F (o + i) j = 0) :
    k0_pay4 (F := Ideal) i (cN 512 1536 (shift F (o + 32) 0)) B = cN 544 1536 (shift F o 0) :=
  Cert.MixOutBwdIdeal.Body.joined i t ht hi F o B hin hout

theorem glu_block (i : grid0.Coords) (a b) (E : ℕ → ℕ → ℝ) (h : k0_pay4 (F := Ideal) i a b = cN 544 1536 E) : k0_pay6 (F := Ideal) i a b = cN 544 512 (glu E) :=
  Cert.MixOutBwdIdeal.Body.glu_block i a b E h

theorem own_lanes (i : grid0.Coords) (a b) (E : ℕ → ℕ → ℝ) (h : k0_pay4 (F := Ideal) i a b = cN 544 1536 E) : k0_pay5 (F := Ideal) i a b = cN 544 512 E := by
  rw [k0_pay5, h]
  funext i
  pointwise
  rfl

/-! ## The running means -/

theorem pool_block (t : ℕ) (ht : t < 16) (E : ℕ → ℕ → ℝ) :
    k0_pay192 (F := Ideal) (cN 512 1536 (shift E 32 0)) (k0_pay187 (F := Ideal) (cN 544 512 E)) (k0_pay188 (F := Ideal) (BitVec.ofNat 32 t)) (iota .tc S512x512 32 [1] iota_S512x512_d1_w32)
        k0_pay189 k0_pay190 k0_pay191
      = cN 512 512 fun i j => back E (len j) (32 + i) j / cnt (t * 512 + i) j - E (32 + i) j := by
  rw [← Cert.MixOutBwdIdeal.Body.pool_block t ht E]
  simp only [k0_pay187, twiced _ 1#32 1 rfl (by norm_num), twiced _ 2#32 2 rfl (by norm_num)]
  rfl

/-! ## The layer norm -/

section Norm

variable (Y : Fin 512 → Fin 512 → ℝ) (g b : Fin 512 → ℝ)

theorem aff_block : k0_pay193 (F := Ideal) (c2 Y) (c2 fun _ : Fin 1 => g) (c2 fun _ : Fin 1 => b) = c2 fun r => aff (Y r) g b := by
  have e : k0_pay193 (F := Ideal) (c2 Y) (c2 fun _ : Fin 1 => g) (c2 fun _ : Fin 1 => b)
      = Cert.MixOutBwdIdeal.Gen.k0_pay18 (F := Ideal) (Cert.MixOutBwdIdeal.Gen.k0_pay13 (F := Ideal) (c2 Y)) (Cert.MixOutBwdIdeal.Gen.k0_pay14 (F := Ideal) (c2 Y)) (c2 fun _ : Fin 1 => g)
          (c2 fun _ : Fin 1 => b) := rfl
  rw [e, Cert.MixOutBwdIdeal.Body.cen_block, Cert.MixOutBwdIdeal.Body.ss_block, Cert.MixOutBwdIdeal.Body.aff_block]

theorem tanh_block : k0_pay194 (F := Ideal) (c2 Y) (c2 fun _ : Fin 1 => g) (c2 fun _ : Fin 1 => b) = c2 fun r k => 1 / 2 * Real.tanh (1 / 2 * aff (Y r) g b k) := by
  funext i
  pointwise [k0_pay194, aff_block]
  simp only [c2_apply, lit_half, mul_coe, Ideal.tanh_coe]

end Norm

/-! ## The two halves and the product -/

section Halves

variable (P : ℕ → ℕ → ℝ) (M : Fin 4 → Fin 128 → Fin 128 → ℝ) (b s : Fin 512 → ℝ) (Y : Fin 512 → Fin 512 → ℝ) (g z : Fin 512 → ℝ)

theorem ycat_block : k0_pay195 (F := Ideal) (cN 512 512 P) (c2 fun r => aff (Y r) g z) (c2 fun r k => 1 / 2 * Real.tanh (1 / 2 * aff (Y r) g z k)) (c2 fun _ : Fin 1 => b)
      (c3 fun _ : Fin 1 => M 0) (c3 fun _ : Fin 1 => M 1) (c3 fun _ : Fin 1 => M 2) (c3 fun _ : Fin 1 => M 3) (c2 fun _ : Fin 1 => s)
      = c2 fun r => ycat M b s (P r.val) (Y r) g z := by
  have e : k0_pay195 (F := Ideal) (cN 512 512 P) (c2 fun r => aff (Y r) g z) (c2 fun r k => 1 / 2 * Real.tanh (1 / 2 * aff (Y r) g z k)) (c2 fun _ : Fin 1 => b)
      (c3 fun _ : Fin 1 => M 0) (c3 fun _ : Fin 1 => M 1) (c3 fun _ : Fin 1 => M 2) (c3 fun _ : Fin 1 => M 3) (c2 fun _ : Fin 1 => s)
      = truncf (F := Ideal) .bf16 (concatenate S512x1024 1
          [⟨S512x512, (mulf (F := Ideal) (φ := .f32)
              (Cert.MixOutBwdIdeal.Gen.k0_pay24 (F := Ideal) (Cert.MixOutBwdIdeal.Gen.k0_pay19 (F := Ideal) (c2 fun _ : Fin 1 => b))
                (Cert.MixOutBwdIdeal.Gen.k0_pay20 (F := Ideal) (cN 512 512 P) (c3 fun _ : Fin 1 => M 0)) (Cert.MixOutBwdIdeal.Gen.k0_pay21 (F := Ideal) (cN 512 512 P) (c3 fun _ : Fin 1 => M 1))
                (Cert.MixOutBwdIdeal.Gen.k0_pay22 (F := Ideal) (cN 512 512 P) (c3 fun _ : Fin 1 => M 2)) (Cert.MixOutBwdIdeal.Gen.k0_pay23 (F := Ideal) (cN 512 512 P)) (c3 fun _ : Fin 1 => M 3))
              (broadcastTo S512x512 (shapeCast S1x512 (c2 fun _ : Fin 1 => s) shapeCasts_S1x512_S1x512) broadcasts_S1x512_S512x512) : S512x512.Idx → EReal)⟩,
            ⟨S512x512, (mulf (F := Ideal) (φ := .f32) (c2 fun r => aff (Y r) g z)
              (addf (F := Ideal) (φ := .f32) (c2 fun r k => 1 / 2 * Real.tanh (1 / 2 * aff (Y r) g z k)) (broadcast S512x512 (Scalar.ofBits .f32 0x3F000000#32))) : S512x512.Idx → EReal)⟩]
          concatenates_S512x512_S512x512_S512x1024_d1) bitsLt_bf16_f32 := rfl
  rw [e, Cert.MixOutBwdIdeal.Body.pb_block, Cert.MixOutBwdIdeal.Body.mixed_block]
  funext i
  pointwise
  simp only [c2_apply, lit_half, mul_coe, add_coe, logi_tanh]
  unfold ycat
  by_cases h : (i 1).val < 512
  · rw [dif_pos h]
    refine congrArg Real.toEReal ?_
    rw [dif_pos h]
    rfl
  · rw [dif_neg h]
    refine congrArg Real.toEReal ?_
    rw [dif_neg h]
    rfl

theorem out_block (A : Fin 512 → Fin 1024 → ℝ) (X : Fin 512 → Fin 1024 → ℝ) (O : Fin 1024 → Fin 1024 → ℝ) :
    k0_pay1 (F := Ideal) (c2 A) (c2 X) (c2 O) = c2 fun r k => X r k + ∑ j, A r j * O j k := by
  funext i
  pointwise [k0_pay1]
  simp only [c2_apply, lit_zero, mul_coe, sum_coe, zero_add, add_coe]
  rfl

end Halves

end Cert.MixFwdIdeal.Body
-- ==== Proof.MixFwdEntry.lean ====
/-
  What the mixer's forward call finds when its region starts, over real arguments: the forward's inner product,
  the packed weights, and the blocks the pipeline stages at a grid point.
-/
module

public import proofs.«01_k».proof.Proof.Gen.MixFwdIdeal.Value
public import proofs.«01_k».proof.Proof.MixOutConv
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MixFwdIdeal.Entry

open Cert.MixFwdIdeal Cert.MixFwdIdeal.Gen Idealize.ShloMosaic Idealize.ShloMosaic.TcCoe Idealize.SL.Sem Step Step.Mix Step.Mix.Host Step.MixOut Step.MixOut.Conv
open Cert.MixInBwdIdeal.Tap (cN cN_apply cN_congr shift sum_two)

variable (m : (ℓ : Loc nD τ sig) → Buf (Elt Ideal) ℓ)

/-- The call's arguments on device `c` are arrays of real numbers. -/
structure Real (c : Dev nD) where
  X : Fin 8192 → Fin 1024 → ℝ
  G : Fin 1024 → ℝ
  W : Fin 1024 → Fin 1536 → ℝ
  M : Fin 4 → Fin 128 → Fin 128 → ℝ
  B : Fin 4 → Fin 128 → ℝ
  S : Fin 512 → ℝ
  T : Fin 31 → Fin 512 → ℝ
  C : Fin 512 → ℝ
  L : Fin 512 → ℝ
  Z : Fin 512 → ℝ
  O : Fin 1024 → Fin 1024 → ℝ
  hX : m ((c : Thread nD τ).loc main_arg0) = c2 X
  hG : m ((c : Thread nD τ).loc main_arg1) = c1 G
  hW : m ((c : Thread nD τ).loc main_arg2) = c2 W
  hM : m ((c : Thread nD τ).loc main_arg3) = c3 M
  hB : m ((c : Thread nD τ).loc main_arg4) = c2 B
  hS : m ((c : Thread nD τ).loc main_arg5) = c1 S
  hT : m ((c : Thread nD τ).loc main_arg6) = c2 T
  hC : m ((c : Thread nD τ).loc main_arg7) = c1 C
  hL : m ((c : Thread nD τ).loc main_arg8) = c1 L
  hZ : m ((c : Thread nD τ).loc main_arg9) = c1 Z
  hO : m ((c : Thread nD τ).loc main_arg10) = c2 O

variable {m} {c : Dev nD} (a : Real m c)

/-- The forward's inner product. -/
def Real.H (t : Fin 8192) (j : Fin 1536) : ℝ := pre (a.X t) a.G a.W j
/-- The channel mix's shift, channel by channel. -/
def Real.b (j : Fin 512) : ℝ := a.B (grp j) (plc j)

theorem h_entry : (V m c main_v17 : S8192x1536.Idx → EReal) = c2 a.H := by
  entry_read
  rw [a.hX, a.hG, a.hW]
  funext i
  pointwise
  simp only [c1_apply, c2_apply, lit_1024, lit_eps, mul_coe, sum_coe, add_coe, div_coe _ _ (show (1024 : ℝ) ≠ 0 by norm_num)]
  simp only [ix2_0, ix2_1, rsqrt_ms, mul_coe, sum_coe]
  rfl

/-- The outer weights, packed by slabs of their rows. -/
theorem outer_entry : (V m c main_v1 : S4x256x1024.Idx → EReal) = c3 fun q i k => a.O ⟨q.val * 256 + i.val, by omega⟩ k := by
  entry_read
  rw [a.hO]
  funext i
  pointwise
  rfl

/-- Row `r` of the block staged at grid point `t`. -/
def row (t : Fin cfg0.N) (r : Fin 512) : Fin 8192 := ⟨t.val * 512 + r.val, by have := t.isLt; have : cfg0.N = 16 := N_0; omega⟩

/-- Row `r` of the rows staged before the block of grid point `t`. -/
def prev (t : Fin cfg0.N) (r : Fin 32) : Fin 8192 := ⟨(t.val * 16 - 1) * 32 + r.val, by have := t.isLt; have : cfg0.N = 16 := N_0; omega⟩

theorem x_block (t : Fin cfg0.N) : iblk m c 0 t = c2 fun r k => a.X (row t r) k := by
  have idx : ∀ t : Fin cfg0.N, win0_0.index t = ![t.val, 0] := (by decide +kernel : ∀ t : Fin grid0.N, _)
  funext i
  have e : iblk m c 0 t i = (c2 a.X : S8192x1024.Idx → EReal) (ix2 (row t (i 0)) (i 1)) := by
    rw [← a.hX]
    blk_ext [iblk, V, row, idx t]
  exact e

theorem h_block (t : Fin cfg0.N) : iblk m c 1 t = cN 512 1536 (shift (ext a.H) (t.val * 512 + 32) 0) := by
  have idx : ∀ t : Fin cfg0.N, win0_1.index t = ![t.val, 0] := (by decide +kernel : ∀ t : Fin grid0.N, _)
  funext i
  have e : iblk m c 1 t i = (V m c main_v17 : S8192x1536.Idx → EReal) (ix2 (row t (i 0)) (i 1)) := by
    blk_ext [iblk, row, idx t]
  rw [e, h_entry a]
  refine congrArg Real.toEReal ?_
  show a.H (row t (i 0)) (i 1) = ext a.H (t.val * 512 + 32 + (i 0).val) (0 + (i 1).val)
  rw [ext, if_neg (by omega), Nat.zero_add, show t.val * 512 + 32 + (i 0).val - 32 = (row t (i 0)).val by show _ = t.val * 512 + (i 0).val; omega]
  exact (tot_in a.H (row t (i 0)) (i 1)).symm

theorem h_before (t : Fin cfg0.N) (h : 0 < t.val) : iblk m c 2 t = cN 32 1536 (shift (ext a.H) (t.val * 512) 0) := by
  have idx : ∀ t : Fin cfg0.N, win0_2.index t = ![t.val * 16 - 1, 0] := (by decide +kernel : ∀ t : Fin grid0.N, _)
  funext i
  have e : iblk m c 2 t i = (V m c main_v17 : S8192x1536.Idx → EReal) (ix2 (prev t (i 0)) (i 1)) := by
    blk_ext [iblk, prev, idx t]
  rw [e, h_entry a]
  refine congrArg Real.toEReal ?_
  show a.H (prev t (i 0)) (i 1) = ext a.H (t.val * 512 + (i 0).val) (0 + (i 1).val)
  rw [ext, if_neg (by omega), Nat.zero_add, show t.val * 512 + (i 0).val - 32 = (prev t (i 0)).val by show _ = (t.val * 16 - 1) * 32 + (i 0).val; omega]
  exact (tot_in a.H (prev t (i 0)) (i 1)).symm

theorem m_block (t : Fin cfg0.N) : iblk m c 3 t = c3 a.M := by
  have idx : ∀ t : Fin cfg0.N, win0_3.index t = ![0, 0, 0] := (by decide +kernel : ∀ t : Fin grid0.N, _)
  funext i
  have e : iblk m c 3 t i = (c3 a.M : S4x128x128.Idx → EReal) (ix3 (i 0) (i 1) (i 2)) := by
    rw [← a.hM]
    blk_ext [iblk, V, idx t]
  exact e

theorem b_block (t : Fin cfg0.N) : iblk m c 4 t = c2 fun (_ : Fin 1) => a.b := by
  have idx : ∀ t : Fin cfg0.N, win0_4.index t = ![0, 0] := (by decide +kernel : ∀ t : Fin grid0.N, _)
  funext i
  have e : iblk m c 4 t i = (V m c main_v18 : S1x512.Idx → EReal) (ix2 (i 0) (i 1)) := by
    blk_ext [iblk, idx t]
  rw [e]
  entry_read
  rw [a.hB]
  pointwise
  rfl

theorem s_block (t : Fin cfg0.N) : iblk m c 5 t = c2 fun (_ : Fin 1) => a.S := by
  have idx : ∀ t : Fin cfg0.N, win0_5.index t = ![0, 0] := (by decide +kernel : ∀ t : Fin grid0.N, _)
  funext i
  have e : iblk m c 5 t i = (V m c main_v19 : S1x512.Idx → EReal) (ix2 (i 0) (i 1)) := by
    blk_ext [iblk, idx t]
  rw [e]
  entry_read
  rw [a.hS]
  pointwise
  rfl

theorem t_block (t : Fin cfg0.N) : iblk m c 6 t = cN 31 512 (tot a.T) := by
  have idx : ∀ t : Fin cfg0.N, win0_6.index t = ![0, 0] := (by decide +kernel : ∀ t : Fin grid0.N, _)
  rw [← as_cN a.T]
  funext i
  have e : iblk m c 6 t i = (c2 a.T : S31x512.Idx → EReal) (ix2 (i 0) (i 1)) := by
    rw [← a.hT]
    blk_ext [iblk, V, idx t]
  exact e

theorem c_block (t : Fin cfg0.N) : iblk m c 7 t = c2 fun (_ : Fin 1) => a.C := by
  have idx : ∀ t : Fin cfg0.N, win0_7.index t = ![0, 0] := (by decide +kernel : ∀ t : Fin grid0.N, _)
  funext i
  have e : iblk m c 7 t i = (V m c main_v20 : S1x512.Idx → EReal) (ix2 (i 0) (i 1)) := by
    blk_ext [iblk, idx t]
  rw [e]
  entry_read
  rw [a.hC]
  pointwise
  rfl

theorem l_block (t : Fin cfg0.N) : iblk m c 8 t = c2 fun (_ : Fin 1) => a.L := by
  have idx : ∀ t : Fin cfg0.N, win0_8.index t = ![0, 0] := (by decide +kernel : ∀ t : Fin grid0.N, _)
  funext i
  have e : iblk m c 8 t i = (V m c main_v21 : S1x512.Idx → EReal) (ix2 (i 0) (i 1)) := by
    blk_ext [iblk, idx t]
  rw [e]
  entry_read
  rw [a.hL]
  pointwise
  rfl

theorem z_block (t : Fin cfg0.N) : iblk m c 9 t = c2 fun (_ : Fin 1) => a.Z := by
  have idx : ∀ t : Fin cfg0.N, win0_9.index t = ![0, 0] := (by decide +kernel : ∀ t : Fin grid0.N, _)
  funext i
  have e : iblk m c 9 t i = (V m c main_v22 : S1x512.Idx → EReal) (ix2 (i 0) (i 1)) := by
    blk_ext [iblk, idx t]
  rw [e]
  entry_read
  rw [a.hZ]
  pointwise
  rfl

end Cert.MixFwdIdeal.Entry
-- ==== Proof.MixFwdHeld.lean ====
/-
  The weights the mixer's forward call copies into its scratch at the first grid point and keeps: what the scratch holds at
  every point.
-/
module

public import proofs.«01_k».proof.Proof.MixFwdEntry
public import Idealize.ShloMosaic.Lib.Pipeline.ValueKit.Held

@[expose] public section

set_option maxRecDepth 16384

noncomputable section

namespace Cert.MixFwdIdeal.Entry

open Cert.MixFwdIdeal Cert.MixFwdIdeal.Gen Idealize.ShloMosaic Idealize.ShloMosaic.TcCoe Idealize.SL.Sem Step

variable {m : (ℓ : Loc nD τ sig) → Buf (Elt Ideal) ℓ} {c : Dev nD} (a : Real m c)

/-- The weights' scratch. -/
def wout : S1024x1024.Idx → EReal := c2 a.O

/-- A slab of 256 rows, its leading axis of size one dropped. -/
theorem slab (Y : FVec Ideal S1x256x1024 .bf16) (f : S1x256x1024.ShapeCasts S256x1024) (x : S256x1024.Idx) :
    shapeCast S256x1024 Y f x = Y (ix3 0 (x 0) (x 1)) := by
  pointwise

/-- The slab copied into a quarter of the weights' rows is that quarter. -/
theorem wout_slice (q r : ℕ) (hq : q < 4) (hr : r = q * 256) (e : ∀ b, ![q, 0, 0] b + ![1, 256, 1024] b ≤ S4x256x1024.size b) (f : S1x256x1024.ShapeCasts S256x1024)
    (h : ∀ b, ![r, 0] b + ![256, 1024] b ≤ S1024x1024.size b) (x : (Rect.unit (s := S1024x1024) ![r, 0] ![256, 1024] h).shape.Idx) :
    ReadAs.same.apply (View.read (Elt Ideal) (((View.whole main_v1).slice (Rect.unit ![q, 0, 0] ![1, 256, 1024] e)).reshape S256x1024 f) (V m c main_v1)) x
      = wout a ((Rect.unit ![r, 0] ![256, 1024] h).emb x) := by
  refine (slab (View.ld (V m c main_v1 : S4x256x1024.Idx → EReal) (Rect.unit ![q, 0, 0] ![1, 256, 1024] e)) f x).trans ?_
  rw [outer_entry a]
  unfold wout
  show ((a.O _ _ : ℝ) : EReal) = ((a.O _ _ : ℝ) : EReal)
  congr 2
  · apply Fin.ext
    show (q + 1 * 0) * 256 + (0 + 1 * (x 0).val) = r + 1 * (x 0).val
    omega
set_option maxHeartbeats 2000000 in
/-- The slabs copied into the weights' scratch fill it. -/
theorem wout_pieces (h3 h2 h1 h0 e3 e2 e1 e0 f3 f2 f1 f0) (i : S1024x1024.Idx) :
    View.canon (Val := Elt Ideal) (s := S1024x1024) (e := .bf16)
      [⟨Rect.unit ![768, 0] ![256, 1024] h3, ReadAs.same.apply (View.read (Elt Ideal) (((View.whole main_v1).slice (Rect.unit ![3, 0, 0] ![1, 256, 1024] e3)).reshape S256x1024 f3) (V m c main_v1))⟩,
       ⟨Rect.unit ![512, 0] ![256, 1024] h2, ReadAs.same.apply (View.read (Elt Ideal) (((View.whole main_v1).slice (Rect.unit ![2, 0, 0] ![1, 256, 1024] e2)).reshape S256x1024 f2) (V m c main_v1))⟩,
       ⟨Rect.unit ![256, 0] ![256, 1024] h1, ReadAs.same.apply (View.read (Elt Ideal) (((View.whole main_v1).slice (Rect.unit ![1, 0, 0] ![1, 256, 1024] e1)).reshape S256x1024 f1) (V m c main_v1))⟩,
       ⟨Rect.unit ![0, 0] ![256, 1024] h0, ReadAs.same.apply (View.read (Elt Ideal) (((View.whole main_v1).slice (Rect.unit ![0, 0, 0] ![1, 256, 1024] e0)).reshape S256x1024 f0) (V m c main_v1))⟩] i
      = wout a i := by
  rw [← List.append_nil (_ :: _)]
  refine (View.canon_append_of_piecesOf (wout a) [] _ ?_ _ (View.cover_of_tiledL _ ![256, 1024] (by sl_kernel_rfl) _)).trans rfl
  refine ⟨fun x => ?_, fun x => ?_, fun x => ?_, fun x => ?_, trivial⟩
  · exact wout_slice a 3 768 (by decide) (by decide) e3 f3 h3 x
  · exact wout_slice a 2 512 (by decide) (by decide) e2 f2 h2 x
  · exact wout_slice a 1 256 (by decide) (by decide) e1 f1 h1 x
  · exact wout_slice a 0 0 (by decide) (by decide) e0 f0 h0 x

set_option maxHeartbeats 2000000 in
/-- Read back, the weights' scratch so filled is the weights. -/
theorem wout_fill (v : View sig .tc .vmem S1024x1024 .bf16) (h3 h2 h1 h0 e3 e2 e1 e0 f3 f2 f1 f0) (B : Rect S1024x1024) :
    v.readCov (Val := Elt Ideal)
      [⟨Rect.unit ![768, 0] ![256, 1024] h3, ReadAs.same.apply (View.read (Elt Ideal) (((View.whole main_v1).slice (Rect.unit ![3, 0, 0] ![1, 256, 1024] e3)).reshape S256x1024 f3) (V m c main_v1))⟩,
       ⟨Rect.unit ![512, 0] ![256, 1024] h2, ReadAs.same.apply (View.read (Elt Ideal) (((View.whole main_v1).slice (Rect.unit ![2, 0, 0] ![1, 256, 1024] e2)).reshape S256x1024 f2) (V m c main_v1))⟩,
       ⟨Rect.unit ![256, 0] ![256, 1024] h1, ReadAs.same.apply (View.read (Elt Ideal) (((View.whole main_v1).slice (Rect.unit ![1, 0, 0] ![1, 256, 1024] e1)).reshape S256x1024 f1) (V m c main_v1))⟩,
       ⟨Rect.unit ![0, 0] ![256, 1024] h0, ReadAs.same.apply (View.read (Elt Ideal) (((View.whole main_v1).slice (Rect.unit ![0, 0, 0] ![1, 256, 1024] e0)).reshape S256x1024 f0) (V m c main_v1))⟩] B.toLoadRect
      = View.ld (wout a) B := by
  rw [View.readCov_eq_canon']
  funext j
  exact wout_pieces a h3 h2 h1 h0 e3 e2 e1 e0 f3 f2 f1 f0 _

/-- At every grid point the scratch holds the weights. -/
theorem wout_held (t : Fin cfg0.N) : (outsAt0 m c t.val t.isLt).2.2.2 = wout a := by
  funext i
  refine Pipeline.eq_of_write_hold_apply (fun n h => (outsAt0 m c n h).2.2.2) 16 (fun _ => wout a) (fun t h i => ?_) (fun t h i => ?_) t i
  · rw [outsAt0_A m c t h]
    frame_out
    exact wout_pieces a _ _ _ _ _ _ _ _ _ _ _ _ i
  · rw [outsAt0_B m c t h]
    rfl

end Cert.MixFwdIdeal.Entry
-- ==== Proof.MixFwdOuts.lean ====
/-
  What the mixer's forward body leaves at a grid point: the block of each result, in real numbers.
-/
module

public import proofs.«01_k».proof.Proof.MixFwdBody
public import proofs.«01_k».proof.Proof.MixFwdHeld
public import proofs.«01_k».proof.Proof.MixOutOuts
public import Idealize.ShloMosaic.Lib.Pipeline.ReadBack

@[expose] public section

set_option maxRecDepth 65536

noncomputable section

namespace Cert.MixFwdIdeal.Entry

open Cert.MixFwdIdeal Cert.MixFwdIdeal.Gen Idealize.ShloMosaic Idealize.ShloMosaic.TcCoe Idealize.SL.Sem Step Step.Mix Step.MixOut Step.MixFwd Step.MixFwd.Tap Body
open Cert.MixInBwdIdeal.Tap (cN cN_apply cN_congr shift window lanes rows4_fold rows4_eq lanes4_fold lanes4_eq)
open Cert.MixOutBwdIdeal.Entry (ld_mix len_le)

variable {m : (ℓ : Loc nD τ sig) → Buf (Elt Ideal) ℓ} {c : Dev nD} (a : Real m c)

theorem ld_wout (h) : View.ld (Val := Elt Ideal) (e' := .bf16) (wout a) (Rect.unit (s := S1024x1024) ![0, 0] ![1024, 1024] h) = c2 a.O := by
  funext i
  refine congrArg Real.toEReal (congrArg₂ a.O (Fin.ext ?_) (Fin.ext ?_))
  · show 0 + 1 * (i 0).val = (i 0).val
    omega
  · show 0 + 1 * (i 1).val = (i 1).val
    omega

/-! ## The rows of a block -/

/-- The projected rows a block meets: 32 before it and its own 512. -/
def met (t : Fin cfg0.N) (i j : ℕ) : ℝ := ext a.H (t.val * 512 + i) j

/-- The convolution's row of the block's row `r`, and the two halves of the product's. -/
abbrev crow (t : Fin cfg0.N) (r : Fin 512) : Fin 512 → ℝ := conv a.H a.T a.C (row t r).val
abbrev yrow (t : Fin cfg0.N) (r : Fin 512) : Fin 1024 → ℝ := ycat a.M a.b a.S (pool a.H (row t r).val) (crow a t r) a.L a.Z

/-- The running means of the block's rows. -/
def prow (t : Fin cfg0.N) (i j : ℕ) : ℝ := pool a.H (t.val * 512 + i) j

theorem bound (t : Fin cfg0.N) : t.val < 16 := lt_of_lt_of_eq t.isLt N_0

theorem point (t : Fin cfg0.N) : (grid0.coords t 0).val = t.val := (by decide +kernel : ∀ t : Fin grid0.N, (grid0.coords t 0).val = t.val) t

theorem own_block (t : Fin cfg0.N) : iblk m c 1 t = cN 512 1536 (shift (met a t) 32 0) := by
  rw [h_block a t]
  refine cN_congr fun i _ j _ => ?_
  show ext a.H (t.val * 512 + 32 + i) (0 + j) = ext a.H (t.val * 512 + (32 + i)) (0 + j)
  rw [Nat.add_assoc]

theorem met_block (t : Fin cfg0.N) : k0_pay4 (F := Ideal) (grid0.coords t) (cN 512 1536 (shift (met a t) 32 0)) (iblk m c 2 t) = cN 544 1536 (met a t) := by
  rw [← own_block a t, h_block a t, joined (grid0.coords t) t.val (bound t) (point t) (ext a.H) (t.val * 512) (iblk m c 2 t) (h_before a t)]
  · refine cN_congr fun i _ j _ => ?_
    show ext a.H (t.val * 512 + i) (0 + j) = ext a.H (t.val * 512 + i) j
    rw [Nat.zero_add]
  · intro h i j hi
    have : t.val * 512 + i < 32 := by omega
    exact if_pos this

/-- The running means of a block. -/
theorem means (t : Fin cfg0.N) :
    k0_pay192 (F := Ideal) (k0_pay2 (F := Ideal) (iblk m c 1 t)) (k0_pay187 (F := Ideal) (k0_pay5 (F := Ideal) (grid0.coords t) (iblk m c 1 t) (iblk m c 2 t)))
        (k0_pay188 (F := Ideal) (BitVec.ofNat 32 (grid0.coords t 0).val)) (iota .tc S512x512 32 [1] iota_S512x512_d1_w32) k0_pay189 k0_pay190 k0_pay191
      = cN 512 512 (prow a t) := by
  rw [own_block a t, Body.h_block, own_lanes _ _ _ _ (met_block a t), point t, pool_block t.val (bound t)]
  refine cN_congr fun i _ j _ => ?_
  have e : back (met a t) (len j) (32 + i) j = back (ext a.H) (len j) (32 + (t.val * 512 + i)) j := by
    refine Finset.sum_congr rfl fun k hk => ?_
    have := len_le j
    have := Finset.mem_range.mp hk
    show ext a.H (t.val * 512 + (32 + i - k)) j = _
    congr 1
    omega
  rw [e]
  show _ - ext a.H (t.val * 512 + (32 + i)) j = _
  rw [show t.val * 512 + (32 + i) = 32 + (t.val * 512 + i) from by omega]
  rfl

/-- The gated channels of a block. -/
theorem gates (t : Fin cfg0.N) : k0_pay6 (F := Ideal) (grid0.coords t) (iblk m c 1 t) (iblk m c 2 t) = cN 544 512 (glu (met a t)) := by
  rw [own_block a t]
  exact glu_block _ _ _ _ (met_block a t)

/-- All 31 taps, and the shift. -/
theorem conv_block (t : Fin cfg0.N) (h) :
    addf (F := Ideal) (φ := .f32) (cN 512 512 (fwd (glu (met a t)) (tot a.T) 31)) (broadcastTo S512x512 (c2 fun _ : Fin 1 => a.C) h) = c2 (crow a t) := by
  funext i
  pointwise
  simp only [cN_apply, c2_apply, add_coe]
  exact congrArg Real.toEReal (fwd_all a.H a.T a.C (t.val * 512) (i 0).val (i 1))

/-! ## The body's results -/

theorem whole_wout : c2 a.O = (wout a : S1024x1024.Idx → EReal) := rfl

theorem wout_before (t : Fin cfg0.N) (h) : (outsAt0 m c (t.val - 1) h).2.2.2 = wout a := wout_held a ⟨t.val - 1, h⟩

/-- The two halves of a block, and its product. -/
theorem yrows (t : Fin cfg0.N) :
    k0_pay195 (F := Ideal) (cN 512 512 (prow a t)) (c2 fun r => aff (crow a t r) a.L a.Z) (c2 fun r k => 1 / 2 * Real.tanh (1 / 2 * aff (crow a t r) a.L a.Z k))
      (c2 fun _ : Fin 1 => a.b) (c3 fun _ : Fin 1 => a.M ⟨0, by decide⟩) (c3 fun _ : Fin 1 => a.M ⟨1, by decide⟩) (c3 fun _ : Fin 1 => a.M ⟨2, by decide⟩)
      (c3 fun _ : Fin 1 => a.M ⟨3, by decide⟩) (c2 fun _ : Fin 1 => a.S) = c2 (yrow a t) :=
  ycat_block (prow a t) a.M a.b a.S (crow a t) a.L a.Z

theorem orows (t : Fin cfg0.N) :
    k0_pay1 (F := Ideal) (k0_pay195 (F := Ideal) (cN 512 512 (prow a t)) (c2 fun r => aff (crow a t r) a.L a.Z) (c2 fun r k => 1 / 2 * Real.tanh (1 / 2 * aff (crow a t r) a.L a.Z k))
      (c2 fun _ : Fin 1 => a.b) (c3 fun _ : Fin 1 => a.M ⟨0, by decide⟩) (c3 fun _ : Fin 1 => a.M ⟨1, by decide⟩) (c3 fun _ : Fin 1 => a.M ⟨2, by decide⟩)
      (c3 fun _ : Fin 1 => a.M ⟨3, by decide⟩) (c2 fun _ : Fin 1 => a.S)) (c2 fun r k => a.X (row t r) k) (wout a)
      = c2 fun r k => a.X (row t r) k + ∑ j, yrow a t r j * a.O j k := by
  rw [yrows a t]
  exact out_block (yrow a t) (fun r => a.X (row t r)) a.O

set_option maxHeartbeats 2000000 in
/-- What a grid point leaves: the output's rows, the two halves' and the convolution's. -/
theorem outs (t : Fin cfg0.N) :
    (outsAt0 m c t.val t.isLt).2.2.1 = (c2 (crow a t) : S512x512.Idx → EReal) ∧ (outsAt0 m c t.val t.isLt).2.1 = (c2 (yrow a t) : S512x1024.Idx → EReal)
      ∧ (outsAt0 m c t.val t.isLt).1 = (c2 fun r k => a.X (row t r) k + ∑ j, yrow a t r j * a.O j k : S512x1024.Idx → EReal) := by
  by_cases h : t.val % 16 = 0
  on_goal 1 => refine ⟨?_, ?_, ?_⟩ <;> rw [outsAt0_A m c t h] <;> frame_out <;> (try simp only [wout_fill a, ld_wout a])
  on_goal 4 => refine ⟨?_, ?_, ?_⟩ <;> rw [outsAt0_B m c t h] <;> frame_out <;> (try simp only [read_unread_whole, wout_before a, ld_wout a])
  all_goals
    simp -index (disch := first | decide | rfl) only [window, lanes, first, further, final, Nat.reduceAdd,
      rows4_fold, rows4_eq, lanes4_fold, lanes4_eq, gates a, t_block a, c_block a, cb_block, conv_block a,
      k0_pay7, k0_pay8, k0_pay9, k0_pay10, k0_pay11, k0_pay12, k0_pay13, k0_pay14, k0_pay15, k0_pay16, k0_pay17, k0_pay18, k0_pay19, k0_pay20, k0_pay21, k0_pay22,
      k0_pay23, k0_pay24, k0_pay25, k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48, k0_pay49, k0_pay50, k0_pay51, k0_pay52,
      k0_pay53, k0_pay54, k0_pay55, k0_pay56, k0_pay57, k0_pay58, k0_pay59, k0_pay60, k0_pay61, k0_pay62, k0_pay63, k0_pay64, k0_pay65, k0_pay66, k0_pay67,
      k0_pay68, k0_pay69, k0_pay70, k0_pay71, k0_pay72, k0_pay73, k0_pay74, k0_pay75, k0_pay76, k0_pay77, k0_pay78, k0_pay79, k0_pay80, k0_pay81, k0_pay82,
      k0_pay83, k0_pay84, k0_pay85, k0_pay86, k0_pay87, k0_pay88, k0_pay89, k0_pay90, k0_pay91, k0_pay92, k0_pay93, k0_pay94, k0_pay95, k0_pay96, k0_pay97,
      k0_pay98, k0_pay99, k0_pay100, k0_pay101, k0_pay102, k0_pay103, k0_pay104, k0_pay105, k0_pay106, k0_pay107, k0_pay108, k0_pay109, k0_pay110, k0_pay111,
      k0_pay112, k0_pay113, k0_pay114, k0_pay115, k0_pay116, k0_pay117, k0_pay118, k0_pay119, k0_pay120, k0_pay121, k0_pay122, k0_pay123, k0_pay124, k0_pay125,
      k0_pay126, k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152, k0_pay153,
      k0_pay154, k0_pay155, k0_pay156, k0_pay157, k0_pay158, k0_pay159, k0_pay160, k0_pay161, k0_pay162, k0_pay163, k0_pay164, k0_pay165, k0_pay166, k0_pay167,
      k0_pay168, k0_pay169, k0_pay170, k0_pay171, k0_pay172, k0_pay173, k0_pay174, k0_pay175, k0_pay176, k0_pay177, k0_pay178, k0_pay179, k0_pay180, k0_pay181,
      k0_pay182, k0_pay183, k0_pay184, k0_pay185, k0_pay186]
  all_goals first
    | done
    | simp only [means a, x_block a, m_block a, b_block a, s_block a, l_block a, z_block a, ld_mix a.M _ (by decide : 0 < 4), ld_mix a.M _ (by decide : 1 < 4),
        ld_mix a.M _ (by decide : 2 < 4), ld_mix a.M _ (by decide : 3 < 4), aff_block, tanh_block, whole_wout a]
  · exact yrows a t
  · exact orows a t
  · exact yrows a t
  · exact orows a t

end Cert.MixFwdIdeal.Entry
-- ==== Proof.MixFwdArr.lean ====
/-
  The three arrays the mixer's forward call leaves, in real numbers.
-/
module

public import proofs.«01_k».proof.Proof.MixFwdOuts

@[expose] public section

set_option maxRecDepth 16384

noncomputable section

namespace Cert.MixFwdIdeal.Entry

open Cert.MixFwdIdeal Cert.MixFwdIdeal.Gen Idealize.ShloMosaic Idealize.ShloMosaic.TcCoe Idealize.SL.Sem Step Step.Mix Step.MixOut Step.MixFwd

variable {m : (ℓ : Loc nD τ sig) → Buf (Elt Ideal) ℓ} {c : Dev nD} (a : Real m c)

/-- The convolution, the two halves side by side, and the layer's output. -/
def CV (t : Fin 8192) : Fin 512 → ℝ := conv a.H a.T a.C t.val
def YC (t : Fin 8192) : Fin 1024 → ℝ := ycat a.M a.b a.S (pool a.H t.val) (CV a t) a.L a.Z
def XO (t : Fin 8192) (k : Fin 1024) : ℝ := a.X t k + ∑ j, YC a t j * a.O j k

theorem x_arr : (dats m 0 c).arrAt 10 cfg0.N = (c2 (XO a) : S8192x1024.Idx → EReal) := by
  have idx : ∀ t : Fin cfg0.N, win0_10.index t = ![t.val, 0] := (by decide +kernel : ∀ t : Fin grid0.N, _)
  refine (dats m 0 c).arrAt_eq_of_covers 10 (c2 (XO a) : S8192x1024.Idx → EReal) (by decide +kernel) fun t hf y => ?_
  blk_simp
  rw [after0_10, (outs a t).2.2]
  have e : (win0_10.blk t).view.emb y = (ix2 (row t (y 0)) (y 1) : S8192x1024.Idx) := by blk_ext [row, idx t]
  rw [e]
  rfl

theorem ycat_arr : (dats m 0 c).arrAt 11 cfg0.N = (c2 (YC a) : S8192x1024.Idx → EReal) := by
  have idx : ∀ t : Fin cfg0.N, win0_11.index t = ![t.val, 0] := (by decide +kernel : ∀ t : Fin grid0.N, _)
  refine (dats m 0 c).arrAt_eq_of_covers 11 (c2 (YC a) : S8192x1024.Idx → EReal) (by decide +kernel) fun t hf y => ?_
  blk_simp
  rw [after0_11, (outs a t).2.1]
  have e : (win0_11.blk t).view.emb y = (ix2 (row t (y 0)) (y 1) : S8192x1024.Idx) := by blk_ext [row, idx t]
  rw [e]
  rfl

theorem y_arr : (dats m 0 c).arrAt 12 cfg0.N = (c2 (CV a) : S8192x512.Idx → EReal) := by
  have idx : ∀ t : Fin cfg0.N, win0_12.index t = ![t.val, 0] := (by decide +kernel : ∀ t : Fin grid0.N, _)
  refine (dats m 0 c).arrAt_eq_of_covers 12 (c2 (CV a) : S8192x512.Idx → EReal) (by decide +kernel) fun t hf y => ?_
  blk_simp
  rw [after0_12, (outs a t).1]
  have e : (win0_12.blk t).view.emb y = (ix2 (row t (y 0)) (y 1) : S8192x512.Idx) := by blk_ext [row, idx t]
  rw [e]
  rfl

end Cert.MixFwdIdeal.Entry
-- ==== Proof.MixFwdRef.lean ====
/-
  The reference of the mixer's forward call, on arrays of real numbers. Its lines are the forward's, as the reference of the mixer's
  output backward call has them, then the gated halves side by side and the outer product.
-/
module

public import proofs.«01_k».proof.Proof.MixFwdTap
public import proofs.«01_k».proof.Proof.MixOutFwd
public import proofs.«01_k».proof.Proof.Gen.MixFwdRefIdeal.Read

@[expose] public section

set_option maxRecDepth 16384

noncomputable section

namespace Cert.MixFwdRefIdeal.Stage

open Cert.MixFwdRefIdeal Cert.MixFwdRefIdeal.Gen Cert.MixFwdRefIdeal.Read Idealize.ShloMosaic Step Step.Mix Step.Mix.Host Step.MixOut Step.MixOut.Conv Step.MixFwd
open Cert.MixInBwdIdeal.Tap (cN cN_apply cN_congr shift sum_two)
open Cert.MixInBwdRefIdeal.Stage (count_from tally)
open Cert.MixOutBwdRefIdeal.Stage (H upto span mean four)

variable (X : Fin 8192 → Fin 1024 → ℝ) (G : Fin 1024 → ℝ) (W : Fin 1024 → Fin 1536 → ℝ) (M : Fin 4 → Fin 128 → Fin 128 → ℝ) (B : Fin 4 → Fin 128 → ℝ)
  (S : Fin 512 → ℝ) (T : Fin 31 → Fin 512 → ℝ) (C LG LB : Fin 512 → ℝ) (O : Fin 1024 → Fin 1024 → ℝ)

/-! ## Running means -/

theorem us : val_main_v14 (F := Ideal) (c2 X) (c1 G) (c2 W) = cN 8192 512 (tot (H X G W)) := Cert.MixOutBwdRefIdeal.Stage.us X G W

theorem sums : val_main_v15 (F := Ideal) (c2 X) (c1 G) (c2 W) = cN 8192 512 (upto (tot (H X G W))) := Cert.MixOutBwdRefIdeal.Stage.sums X G W

theorem span_2 : val_main_v27 (F := Ideal) (c2 X) (c1 G) (c2 W) = cN 8192 128 fun i j => back (ext (H X G W)) 2 (32 + i) (0 + j) := by
  funext i
  pointwise [val_main_v27, val_main_v17, val_main_v20, val_main_v18, val_main_cst_2, val_main_v19, sums]
  simp only [cN_apply, lit_zero]
  exact span _ 2 _ _ _ (by norm_num) (by simp; try omega) _ _ (fun _ => rfl) (fun _ => rfl)

theorem span_4 : val_main_v40 (F := Ideal) (c2 X) (c1 G) (c2 W) = cN 8192 128 fun i j => back (ext (H X G W)) 4 (32 + i) (128 + j) := by
  funext i
  pointwise [val_main_v40, val_main_v30, val_main_v33, val_main_v31, val_main_cst_4, val_main_v32, sums]
  simp only [cN_apply, lit_zero]
  exact span _ 4 _ _ _ (by norm_num) (by simp; try omega) _ _ (fun _ => rfl) (fun _ => rfl)

theorem span_8 : val_main_v53 (F := Ideal) (c2 X) (c1 G) (c2 W) = cN 8192 128 fun i j => back (ext (H X G W)) 8 (32 + i) (256 + j) := by
  funext i
  pointwise [val_main_v53, val_main_v43, val_main_v46, val_main_v44, val_main_cst_7, val_main_v45, sums]
  simp only [cN_apply, lit_zero]
  exact span _ 8 _ _ _ (by norm_num) (by simp; try omega) _ _ (fun _ => rfl) (fun _ => rfl)

theorem span_16 : val_main_v66 (F := Ideal) (c2 X) (c1 G) (c2 W) = cN 8192 128 fun i j => back (ext (H X G W)) 16 (32 + i) (384 + j) := by
  funext i
  pointwise [val_main_v66, val_main_v56, val_main_v59, val_main_v57, val_main_cst_10, val_main_v58, sums]
  simp only [cN_apply, lit_zero]
  exact span _ 16 _ _ _ (by norm_num) (by simp; try omega) _ _ (fun _ => rfl) (fun _ => rfl)

theorem tally_2 : val_main_v28 (F := Ideal) = cN 8192 128 (tally 2) := Cert.MixOutBwdRefIdeal.Stage.tally_2
theorem tally_4 : val_main_v41 (F := Ideal) = cN 8192 128 (tally 4) := Cert.MixOutBwdRefIdeal.Stage.tally_4
theorem tally_8 : val_main_v54 (F := Ideal) = cN 8192 128 (tally 8) := Cert.MixOutBwdRefIdeal.Stage.tally_8
theorem tally_16 : val_main_v67 (F := Ideal) = cN 8192 128 (tally 16) := Cert.MixOutBwdRefIdeal.Stage.tally_16

theorem means : val_main_v69 (F := Ideal) (c2 X) (c1 G) (c2 W) = cN 8192 512 fun i j => back (ext (H X G W)) (len j) (32 + i) j / cnt i j := by
  have e := four (fun L i j => back (ext (H X G W)) L (32 + i) j / tally L i j) concatenates_S8192x128_S8192x128_S8192x128_S8192x128_S8192x512_d1
  have q₂ : val_main_v29 (F := Ideal) (c2 X) (c1 G) (c2 W) = cN 8192 128 fun i j => back (ext (H X G W)) 2 (32 + i) (0 + j) / tally 2 i (0 + j) := by
    rw [val_main_v29, span_2, tally_2]
    exact mean _ 2 (by norm_num)
  have q₄ : val_main_v42 (F := Ideal) (c2 X) (c1 G) (c2 W) = cN 8192 128 fun i j => back (ext (H X G W)) 4 (32 + i) (128 + j) / tally 4 i (128 + j) := by
    rw [val_main_v42, span_4, tally_4]
    exact mean _ 4 (by norm_num)
  have q₈ : val_main_v55 (F := Ideal) (c2 X) (c1 G) (c2 W) = cN 8192 128 fun i j => back (ext (H X G W)) 8 (32 + i) (256 + j) / tally 8 i (256 + j) := by
    rw [val_main_v55, span_8, tally_8]
    exact mean _ 8 (by norm_num)
  have q₁₆ : val_main_v68 (F := Ideal) (c2 X) (c1 G) (c2 W) = cN 8192 128 fun i j => back (ext (H X G W)) 16 (32 + i) (384 + j) / tally 16 i (384 + j) := by
    rw [val_main_v68, span_16, tally_16]
    exact mean _ 16 (by norm_num)
  rw [val_main_v69, q₂, q₄, q₈, q₁₆]
  exact e

theorem pools : val_main_v70 (F := Ideal) (c2 X) (c1 G) (c2 W) = cN 8192 512 (MixOut.pool (H X G W)) := by
  rw [val_main_v70, means, us]
  funext i
  refine (sub_coe _ _).trans (congrArg Real.toEReal ?_)
  unfold MixOut.pool ext
  rw [if_neg (by omega), show 32 + (i 0).val - 32 = (i 0).val by omega]

/-- The channel mix. -/
theorem mixes : val_main_v77 (F := Ideal) (c2 X) (c1 G) (c2 W) (c3 M) (c2 B) = c2 fun t j => mixed M (fun j => B (grp j) (plc j)) (MixOut.pool (H X G W) t.val) j := by
  funext i
  pointwise [val_main_v77, val_main_v76, val_main_v73, val_main_v72, val_main_v71, val_main_v75, val_main_v74, pools]
  simp only [c2_apply, c3_apply, cN_apply, mul_coe, sum_coe, add_coe]
  refine congrArg Real.toEReal (congrArg₂ (· + ·) (Finset.sum_congr rfl fun q _ => ?_) rfl)
  have e : (i 1).val / 128 * 128 + q.val = (chn (grp (i 1)) q).val := by show _ = 128 * ((i 1).val / 128) + q.val; omega
  show M (grp (i 1)) q (plc (i 1)) * MixOut.pool (H X G W) (i 0).val ((i 1).val / 128 * 128 + q.val) = _
  rw [e, mul_comm]

theorem scaled : val_main_v80 (F := Ideal) (c2 X) (c1 G) (c2 W) (c3 M) (c2 B) (c1 S)
    = c2 fun t j => mixed M (fun j => B (grp j) (plc j)) (MixOut.pool (H X G W) t.val) j * S j := by
  funext i
  pointwise [val_main_v80, val_main_v79, val_main_v78, mixes]
  simp only [c1_apply, c2_apply, mul_coe]
  rfl

/-! ## The convolution and its layer norm -/

theorem feds : val_main_v310 (F := Ideal) (c2 X) (c1 G) (c2 W) (c2 T) = cN 8192 512 (fed (under (H X G W)) (tot T) 31) :=
  Cert.MixOutBwdRefIdeal.Stage.feds X G W T

/-- The convolution's rows. -/
def Y (t : Fin 8192) : Fin 512 → ℝ := conv (H X G W) T C t.val

theorem n512' : (512 : ℝ) ≠ 0 := by norm_num

theorem ys : val_main_v313 (F := Ideal) (c2 X) (c1 G) (c2 W) (c2 T) (c1 C) = c2 (Y X G W T C) := by
  funext i
  pointwise [val_main_v313, val_main_v312, val_main_v311, feds]
  simp only [c1_apply, cN_apply, add_coe]
  exact congrArg Real.toEReal (fed_all (H X G W) T C (i 0) (i 1))

theorem moms : val_main_v317 (F := Ideal) (c2 X) (c1 G) (c2 W) (c2 T) (c1 C) = c2 fun t (_ : Fin 1) => (∑ j, Y X G W T C t j) / 512 := by
  funext i
  pointwise [val_main_v317, val_main_v315, val_main_v314, val_main_cst_17, val_main_v316, val_main_cst_18, ys]
  simp only [c2_apply, lit_512, sum_coe, div_coe _ _ n512']
  rfl

theorem cens : val_main_v326 (F := Ideal) (c2 X) (c1 G) (c2 W) (c2 T) (c1 C) = c2 fun t => cen (Y X G W T C t) := by
  funext i
  pointwise [val_main_v326, val_main_v325, ys, moms]
  simp only [c2_apply, sub_coe]
  rfl

theorem vars : val_main_v328 (F := Ideal) (c2 X) (c1 G) (c2 W) (c2 T) (c1 C) = c2 fun t (_ : Fin 1) => var (Y X G W T C t) := by
  funext i
  pointwise [val_main_v328, val_main_v324, val_main_v322, val_main_v321, val_main_v320, val_main_v319, val_main_v318, val_main_cst_19, val_main_v323, val_main_cst_20, val_main_v327, val_main_cst_21, ys, moms]
  simp only [c2_apply, lit_512, lit_eps, sub_coe, mul_coe, sum_coe, add_coe, div_coe _ _ n512']
  rfl

theorem roots : val_main_v329 (F := Ideal) (c2 X) (c1 G) (c2 W) (c2 T) (c1 C) = c2 fun t (_ : Fin 1) => MixOut.rs (Y X G W T C t) := by
  funext i
  pointwise [val_main_v329, vars]
  simp only [c2_apply]
  exact rsqrt_coe _ (var_pos _)

theorem affs : val_main_v337 (F := Ideal) (c2 X) (c1 G) (c2 W) (c2 T) (c1 C) (c1 LG) (c1 LB) = c2 fun t => aff (Y X G W T C t) LG LB := by
  funext i
  pointwise [val_main_v337, val_main_v334, val_main_v331, val_main_v330, val_main_v333, val_main_v332, val_main_v336, val_main_v335, cens, roots]
  simp only [c1_apply, c2_apply, mul_coe, add_coe]
  rfl

theorem units : val_main_v338 (F := Ideal) (c2 X) (c1 G) (c2 W) (c2 T) (c1 C) (c1 LG) (c1 LB)
    = c2 fun t k => aff (Y X G W T C t) LG LB k * logi (aff (Y X G W T C t) LG LB k) := by
  funext i
  pointwise [val_main_v338, val_main_call1_v5, val_main_call1_v4, val_main_call1_cst_0, val_main_call1_v3, val_main_call1_v2, val_main_call1_cst, val_main_call1_v1, val_main_call1_v0, affs]
  simp only [c2_apply, lit_one, neg_coe, Ideal.exp_coe]
  exact (congrArg (_ * ·) (logi_exp _)).trans (mul_coe _ _)

/-! ## The results -/

/-- The two halves side by side. -/
def YC (t : Fin 8192) : Fin 1024 → ℝ := ycat M (fun j => B (grp j) (plc j)) S (MixOut.pool (H X G W) t.val) (Y X G W T C t) LG LB
/-- The layer's output. -/
def XO (t : Fin 8192) (k : Fin 1024) : ℝ := X t k + ∑ j, YC X G W M B S T C LG LB t j * O j k

theorem halves : val_main_v339 (F := Ideal) (c2 X) (c1 G) (c2 W) (c3 M) (c2 B) (c1 S) (c2 T) (c1 C) (c1 LG) (c1 LB) = c2 (YC X G W M B S T C LG LB) := by
  rw [val_main_v339, scaled, units]
  funext i
  pointwise
  by_cases h : (i 1).val < 512
  · rw [dif_pos h]
    exact congrArg Real.toEReal (ycat_low M _ S _ (Y X G W T C (i 0)) LG LB (i 1) h).symm
  · rw [dif_neg h]
    exact congrArg Real.toEReal (ycat_high M _ S _ (Y X G W T C (i 0)) LG LB (i 1) h).symm

theorem kept : val_main_v342 (F := Ideal) (c2 X) (c1 G) (c2 W) (c3 M) (c2 B) (c1 S) (c2 T) (c1 C) (c1 LG) (c1 LB) = c2 (YC X G W M B S T C LG LB) := by
  funext i
  pointwise [val_main_v342, halves]

theorem outputs : val_main_v341 (F := Ideal) (c2 X) (c1 G) (c2 W) (c3 M) (c2 B) (c1 S) (c2 T) (c1 C) (c1 LG) (c1 LB) (c2 O) = c2 (XO X G W M B S T C LG LB O) := by
  funext i
  pointwise [val_main_v341, val_main_v340, halves]
  simp only [c2_apply, mul_coe, sum_coe, add_coe]
  rfl

end Cert.MixFwdRefIdeal.Stage
-- ==== Proof.MixFwdPair.lean ====
/-
  The mixer's forward call and the mixer's plain layer leave the same three arrays.
-/
module

public import proofs.«01_k».proof.Defs
public import proofs.«01_k».proof.Proof.Finite
public import proofs.«01_k».proof.Proof.MixFwdArr
public import proofs.«01_k».proof.Proof.MixFwdRef
public import proofs.«01_k».proof.Proof.Gen.Pre_finite_mix_fwd
public import Idealize.ShloMosaic.Lib.Claim

@[expose] public section

set_option maxRecDepth 16384

noncomputable section

namespace Cert.MixFwdPair

open Idealize.ShloMosaic Idealize.ShloMosaic.TcCoe Idealize.SL.Sem Step Cert.MixFwdIdeal.Entry

/-- Under the precondition the call's arguments are arrays of real numbers. -/
def real {m : (ℓ : Loc Cert.MixFwdIdeal.nD Cert.MixFwdIdeal.τ Cert.MixFwdIdeal.sig) → Buf (Elt Ideal) ℓ}
    (h : Cert.Pre_MixFwdIdeal_finite_mix_fwd m) (c : Dev Cert.MixFwdIdeal.nD) : Real m c where
  X := _
  G := _
  W := _
  M := _
  B := _
  S := _
  T := _
  C := _
  L := _
  Z := _
  O := _
  hX := c2_of _ fun i => congrFun (h c).1 i
  hG := c1_of _ fun i => congrFun (h c).2.1 i
  hW := c2_of _ fun i => congrFun (h c).2.2.1 i
  hM := c3_of _ fun i => congrFun (h c).2.2.2.1 i
  hB := c2_of _ fun i => congrFun (h c).2.2.2.2.1 i
  hS := c1_of _ fun i => congrFun (h c).2.2.2.2.2.1 i
  hT := c2_of _ fun i => congrFun (h c).2.2.2.2.2.2.1 i
  hC := c1_of _ fun i => congrFun (h c).2.2.2.2.2.2.2.1 i
  hL := c1_of _ fun i => congrFun (h c).2.2.2.2.2.2.2.2.1 i
  hZ := c1_of _ fun i => congrFun (h c).2.2.2.2.2.2.2.2.2.1 i
  hO := c2_of _ fun i => congrFun (h c).2.2.2.2.2.2.2.2.2.2 i

/-- The reference runs, keeps its arguments and leaves its counters at zero: it has none. -/
theorem reference_frame : Cert.quiescent_MixFwdRefIdeal := fun m ρ _ =>
  (θ_run _ _ _).mono (fun r h => ⟨fun c => (h c).2.2.2, by
    funext x
    rcases x with ⟨c, s⟩
    cases s with
    | reg i => exact i.elim0
    | dma i => exact i.elim0⟩) (Cert.MixFwdRefIdeal.Value.run m ρ)

theorem algebraic : Cert.algebraic_MixFwdIdeal_MixFwdRefIdeal_pre_finite_mix_fwd := by
  intro m g m' g' hpre hagree
  have a : ∀ c, Real m c := real hpre
  refine ⟨fun c => c2 (XO (a c)), fun c => c2 (YC (a c)), fun c => c2 (CV (a c)),
    (θ_run _ _ _).mono (fun r h c => ?_) (Cert.MixFwdIdeal.Value.run_blocks m g),
    (θ_run _ _ _).mono (fun r h c => ?_) (Cert.MixFwdRefIdeal.Value.run m' g')⟩
  · obtain ⟨h0, h1, h2, hk⟩ := h c
    exact ⟨h0.trans (x_arr (a c)), h1.trans (ycat_arr (a c)), h2.trans (y_arr (a c)), hk⟩
  · obtain ⟨h0, h1, h2, hk⟩ := h c
    obtain ⟨e0, e1, e2, e3, e4, e5, e6, e7, e8, e9, e10⟩ := hagree c
    have e0 : StableHlo.launchContents m' c (Proc.devRef .tc Cert.MixFwdRefIdeal.main_arg0) = _ := e0.trans (a c).hX
    have e1 : StableHlo.launchContents m' c (Proc.devRef .tc Cert.MixFwdRefIdeal.main_arg1) = _ := e1.trans (a c).hG
    have e2 : StableHlo.launchContents m' c (Proc.devRef .tc Cert.MixFwdRefIdeal.main_arg2) = _ := e2.trans (a c).hW
    have e3 : StableHlo.launchContents m' c (Proc.devRef .tc Cert.MixFwdRefIdeal.main_arg3) = _ := e3.trans (a c).hM
    have e4 : StableHlo.launchContents m' c (Proc.devRef .tc Cert.MixFwdRefIdeal.main_arg4) = _ := e4.trans (a c).hB
    have e5 : StableHlo.launchContents m' c (Proc.devRef .tc Cert.MixFwdRefIdeal.main_arg5) = _ := e5.trans (a c).hS
    have e6 : StableHlo.launchContents m' c (Proc.devRef .tc Cert.MixFwdRefIdeal.main_arg6) = _ := e6.trans (a c).hT
    have e7 : StableHlo.launchContents m' c (Proc.devRef .tc Cert.MixFwdRefIdeal.main_arg7) = _ := e7.trans (a c).hC
    have e8 : StableHlo.launchContents m' c (Proc.devRef .tc Cert.MixFwdRefIdeal.main_arg8) = _ := e8.trans (a c).hL
    have e9 : StableHlo.launchContents m' c (Proc.devRef .tc Cert.MixFwdRefIdeal.main_arg9) = _ := e9.trans (a c).hZ
    have e10 : StableHlo.launchContents m' c (Proc.devRef .tc Cert.MixFwdRefIdeal.main_arg10) = _ := e10.trans (a c).hO
    refine ⟨h0.trans ?_, h1.trans ?_, h2.trans ?_, hk⟩
    · rw [Cert.MixFwdRefIdeal.Read.val_main_v341_eq, e0, e1, e2, e3, e4, e5, e6, e7, e8, e9, e10]
      exact Cert.MixFwdRefIdeal.Stage.outputs _ _ _ _ _ _ _ _ _ _ _
    · rw [Cert.MixFwdRefIdeal.Read.val_main_v342_eq, e0, e1, e2, e3, e4, e5, e6, e7, e8, e9]
      exact Cert.MixFwdRefIdeal.Stage.kept _ _ _ _ _ _ _ _ _ _
    · rw [Cert.MixFwdRefIdeal.Read.val_main_v313_eq, e0, e1, e2, e6, e7]
      exact Cert.MixFwdRefIdeal.Stage.ys _ _ _ _ _

end Cert.MixFwdPair
-- ==== Proof.lean ====
module

public import proofs.«01_k».proof.Defs
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdRefIdeal
public import proofs.«01_k».proof.Proof.Gen.Pre_finite_ffn
public import proofs.«01_k».proof.Proof.Gen.FfnBwdIdeal.Value
public import proofs.«01_k».proof.Proof.Gen.FfnBwdRefIdeal.Run
public import proofs.«01_k».proof.Proof.Gen.FfnBwdRefIdeal.Read
public import proofs.«01_k».proof.Proof.Gen.SguBwd
public import proofs.«01_k».proof.Proof.Gen.SguBwd.Skeleton
public import proofs.«01_k».proof.Proof.Gen.SguBwd.Launch
public import proofs.«01_k».proof.Proof.Gen.SguBwd.Points
public import proofs.«01_k».proof.Proof.Gen.SguBwd.Frame
public import proofs.«01_k».proof.Proof.Gen.SguBwdIdeal
public import proofs.«01_k».proof.Proof.Gen.SguBwdIdeal.Skeleton
public import proofs.«01_k».proof.Proof.Gen.SguBwdIdeal.Launch
public import proofs.«01_k».proof.Proof.Gen.SguBwdIdeal.Points
public import proofs.«01_k».proof.Proof.Gen.SguBwdIdeal.Frame
public import proofs.«01_k».proof.Proof.Gen.SguBwdRefIdeal
public import proofs.«01_k».proof.Proof.Gen.Pre_finite_sgu
public import proofs.«01_k».proof.Proof.Gen.SguBwdIdeal.Value
public import proofs.«01_k».proof.Proof.Gen.SguBwdRefIdeal.Run
public import proofs.«01_k».proof.Proof.Gen.SguBwdRefIdeal.Read
public import proofs.«01_k».proof.Proof.Gen.MixInBwd
public import proofs.«01_k».proof.Proof.Gen.MixInBwd.Skeleton
public import proofs.«01_k».proof.Proof.Gen.MixInBwd.Launch
public import proofs.«01_k».proof.Proof.Gen.MixInBwd.Points
public import proofs.«01_k».proof.Proof.Gen.MixInBwd.Frame
public import proofs.«01_k».proof.Proof.Gen.MixInBwdIdeal
public import proofs.«01_k».proof.Proof.Gen.MixInBwdIdeal.Skeleton
public import proofs.«01_k».proof.Proof.Gen.MixInBwdIdeal.Launch
public import proofs.«01_k».proof.Proof.Gen.MixInBwdIdeal.Points
public import proofs.«01_k».proof.Proof.Gen.MixInBwdIdeal.Frame
public import proofs.«01_k».proof.Proof.Gen.MixInBwdRefIdeal
public import proofs.«01_k».proof.Proof.Gen.Pre_finite_mix_in
public import proofs.«01_k».proof.Proof.Gen.MixInBwdIdeal.Value
public import proofs.«01_k».proof.Proof.Gen.MixInBwdRefIdeal.Run
public import proofs.«01_k».proof.Proof.Gen.MixInBwdRefIdeal.Read
public import proofs.«01_k».proof.Proof.Gen.MixOutBwd
public import proofs.«01_k».proof.Proof.Gen.MixOutBwd.Skeleton
public import proofs.«01_k».proof.Proof.Gen.MixOutBwd.Launch
public import proofs.«01_k».proof.Proof.Gen.MixOutBwd.Points
public import proofs.«01_k».proof.Proof.Gen.MixOutBwd.Frame
public import proofs.«01_k».proof.Proof.Gen.MixOutBwdIdeal
public import proofs.«01_k».proof.Proof.Gen.MixOutBwdIdeal.Skeleton
public import proofs.«01_k».proof.Proof.Gen.MixOutBwdIdeal.Launch
public import proofs.«01_k».proof.Proof.Gen.MixOutBwdIdeal.Points
public import proofs.«01_k».proof.Proof.Gen.MixOutBwdIdeal.Frame
public import proofs.«01_k».proof.Proof.Gen.MixOutBwdRefIdeal
public import proofs.«01_k».proof.Proof.Gen.Pre_finite_mix_out
public import proofs.«01_k».proof.Proof.Gen.MixOutBwdIdeal.Value
public import proofs.«01_k».proof.Proof.Gen.MixOutBwdRefIdeal.Run
public import proofs.«01_k».proof.Proof.Gen.MixOutBwdRefIdeal.Read
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.Pre_finite_loss
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.SguFwd
public import proofs.«01_k».proof.Proof.Gen.SguFwd.Skeleton
public import proofs.«01_k».proof.Proof.Gen.SguFwd.Launch
public import proofs.«01_k».proof.Proof.Gen.SguFwd.Points
public import proofs.«01_k».proof.Proof.Gen.SguFwd.Frame
public import proofs.«01_k».proof.Proof.Gen.SguFwdIdeal
public import proofs.«01_k».proof.Proof.Gen.SguFwdIdeal.Skeleton
public import proofs.«01_k».proof.Proof.Gen.SguFwdIdeal.Launch
public import proofs.«01_k».proof.Proof.Gen.SguFwdIdeal.Points
public import proofs.«01_k».proof.Proof.Gen.SguFwdIdeal.Frame
public import proofs.«01_k».proof.Proof.Gen.SguFwdRefIdeal
public import proofs.«01_k».proof.Proof.Gen.Pre_finite_sgu_fwd
public import proofs.«01_k».proof.Proof.Gen.SguFwdIdeal.Value
public import proofs.«01_k».proof.Proof.Gen.SguFwdRefIdeal.Run
public import proofs.«01_k».proof.Proof.Gen.SguFwdRefIdeal.Read
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.Pre_finite_ffn_fwd
public import proofs.«01_k».proof.Proof.Gen.FfnFwdIdeal.Value
public import proofs.«01_k».proof.Proof.Gen.FfnFwdRefIdeal.Run
public import proofs.«01_k».proof.Proof.Gen.FfnFwdRefIdeal.Read
public import proofs.«01_k».proof.Proof.Gen.MixFwd
public import proofs.«01_k».proof.Proof.Gen.MixFwd.Skeleton
public import proofs.«01_k».proof.Proof.Gen.MixFwd.Launch
public import proofs.«01_k».proof.Proof.Gen.MixFwd.Points
public import proofs.«01_k».proof.Proof.Gen.MixFwd.Frame
public import proofs.«01_k».proof.Proof.Gen.MixFwdIdeal
public import proofs.«01_k».proof.Proof.Gen.MixFwdIdeal.Skeleton
public import proofs.«01_k».proof.Proof.Gen.MixFwdIdeal.Launch
public import proofs.«01_k».proof.Proof.Gen.MixFwdIdeal.Points
public import proofs.«01_k».proof.Proof.Gen.MixFwdIdeal.Frame
public import proofs.«01_k».proof.Proof.Gen.MixFwdRefIdeal
public import proofs.«01_k».proof.Proof.Gen.Pre_finite_mix_fwd
public import proofs.«01_k».proof.Proof.Gen.MixFwdIdeal.Value
public import proofs.«01_k».proof.Proof.Gen.MixFwdRefIdeal.Run
public import proofs.«01_k».proof.Proof.Gen.MixFwdRefIdeal.Read
public import proofs.«01_k».proof.Proof.FfnPair
public import proofs.«01_k».proof.Proof.SguPair
public import proofs.«01_k».proof.Proof.MixPair
public import proofs.«01_k».proof.Proof.MixOutPair
public import proofs.«01_k».proof.Proof.LossPair
public import proofs.«01_k».proof.Proof.SguFwdPair
public import proofs.«01_k».proof.Proof.FfnFwdPair
public import proofs.«01_k».proof.Proof.MixFwdPair
public import Idealize.ShloMosaic.Adequacy
public import Idealize.ShloMosaic.Init

@[expose] public section

noncomputable section

namespace Cert.Proof

open Idealize.ShloMosaic Idealize.SL.Sem Cert.FfnBwd

theorem claim : Cert.Claim := ⟨Cert.FfnBwd.Gen.facts, Cert.FfnBwdIdeal.Gen.facts, Cert.FfnBwdRefIdeal.Gen.facts,
  Cert.SguBwd.Gen.facts, Cert.SguBwdIdeal.Gen.facts, Cert.SguBwdRefIdeal.Gen.facts,
  Cert.MixInBwd.Gen.facts, Cert.MixInBwdIdeal.Gen.facts, Cert.MixInBwdRefIdeal.Gen.facts,
  Cert.MixOutBwd.Gen.facts, Cert.MixOutBwdIdeal.Gen.facts, Cert.MixOutBwdRefIdeal.Gen.facts,
  Cert.LossHead.Gen.facts, Cert.LossHeadIdeal.Gen.facts, Cert.LossHeadRefIdeal.Gen.facts,
  Cert.SguFwd.Gen.facts, Cert.SguFwdIdeal.Gen.facts, Cert.SguFwdRefIdeal.Gen.facts,
  Cert.FfnFwd.Gen.facts, Cert.FfnFwdIdeal.Gen.facts, Cert.FfnFwdRefIdeal.Gen.facts,
  Cert.MixFwd.Gen.facts, Cert.MixFwdIdeal.Gen.facts, Cert.MixFwdRefIdeal.Gen.facts,
  Cert.Pre_finite_ffn.Gen.facts, Cert.Pre_finite_sgu.Gen.facts, Cert.Pre_finite_mix_in.Gen.facts, Cert.Pre_finite_mix_out.Gen.facts, Cert.Pre_finite_loss.Gen.facts, Cert.Pre_finite_sgu_fwd.Gen.facts, Cert.Pre_finite_ffn_fwd.Gen.facts, Cert.Pre_finite_mix_fwd.Gen.facts, by
  exact ⟨fun m ρ _ => Cert.FfnBwd.Gen.frame m ρ, fun m ρ _ => Cert.FfnBwdIdeal.Gen.frame m ρ, fun m ρ _ => Cert.FfnBwdIdeal.Gen.frame m ρ,
    Cert.FfnPair.reference_frame, fun m ρ _ => Cert.FfnPair.reference_frame m ρ trivial,
    fun m ρ _ => Cert.SguBwd.Gen.frame m ρ, fun m ρ _ => Cert.SguBwdIdeal.Gen.frame m ρ, fun m ρ _ => Cert.SguBwdIdeal.Gen.frame m ρ,
    Cert.SguPair.reference_frame, fun m ρ _ => Cert.SguPair.reference_frame m ρ trivial,
    fun m ρ _ => Cert.MixInBwd.Gen.frame m ρ, fun m ρ _ => Cert.MixInBwdIdeal.Gen.frame m ρ, fun m ρ _ => Cert.MixInBwdIdeal.Gen.frame m ρ,
    Cert.MixPair.reference_frame, fun m ρ _ => Cert.MixPair.reference_frame m ρ trivial,
    fun m ρ _ => Cert.MixOutBwd.Gen.frame m ρ, fun m ρ _ => Cert.MixOutBwdIdeal.Gen.frame m ρ, fun m ρ _ => Cert.MixOutBwdIdeal.Gen.frame m ρ,
    Cert.MixOutPair.reference_frame, fun m ρ _ => Cert.MixOutPair.reference_frame m ρ trivial,
    fun m ρ _ => Cert.LossHead.Gen.frame m ρ, fun m ρ _ => Cert.LossHeadIdeal.Gen.frame m ρ, fun m ρ _ => Cert.LossHeadIdeal.Gen.frame m ρ,
    Cert.LossPair.reference_frame, fun m ρ _ => Cert.LossPair.reference_frame m ρ trivial,
    fun m ρ _ => Cert.SguFwd.Gen.frame m ρ, fun m ρ _ => Cert.SguFwdIdeal.Gen.frame m ρ, fun m ρ _ => Cert.SguFwdIdeal.Gen.frame m ρ,
    Cert.SguFwdPair.reference_frame, fun m ρ _ => Cert.SguFwdPair.reference_frame m ρ trivial,
    fun m ρ _ => Cert.FfnFwd.Gen.frame m ρ, fun m ρ _ => Cert.FfnFwdIdeal.Gen.frame m ρ, fun m ρ _ => Cert.FfnFwdIdeal.Gen.frame m ρ,
    Cert.FfnFwdPair.reference_frame, fun m ρ _ => Cert.FfnFwdPair.reference_frame m ρ trivial,
    fun m ρ _ => Cert.MixFwd.Gen.frame m ρ, fun m ρ _ => Cert.MixFwdIdeal.Gen.frame m ρ, fun m ρ _ => Cert.MixFwdIdeal.Gen.frame m ρ,
    Cert.MixFwdPair.reference_frame, fun m ρ _ => Cert.MixFwdPair.reference_frame m ρ trivial,
    trivial, Cert.FfnPair.algebraic, Cert.SguPair.preserves, Cert.SguPair.algebraic, trivial, Cert.MixPair.algebraic, trivial, Cert.MixOutPair.algebraic,
    trivial, Cert.LossPair.algebraic, Cert.SguFwdPair.preserves, Cert.SguFwdPair.algebraic,
    trivial, Cert.FfnFwdPair.algebraic,
    trivial, Cert.MixFwdPair.algebraic⟩⟩

end Cert.Proof

end
